-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_v295) = v1 c
          ∧ r.2.mem ((c.tc : Thread Cert.ReferenceIdeal.nD Cert.ReferenceIdeal.τ).loc Cert.ReferenceIdeal.main_v294) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v12)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v12) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_v17) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "inv_left1" .f32 0x3FC48605#32 (((5463681 / 8388608)⁻¹ : ℝ) : EReal)
  ∧ IdealRules.named_const.Statement Cert.Kernel18Ideal.κ "inv_left2" .f32 0x42C8E6D3#32 (((2672307 / 268435456)⁻¹ : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v8_0)) (v1 : (c : Dev Cert.Kernel18Ideal.nD) → Buf (Elt Ideal) ((c.tc : Thread Cert.Kernel18Ideal.nD Cert.Kernel18Ideal.τ).loc Cert.Kernel18Ideal.main_v8_1)) (v2 : (c : Dev Cert.Kernel18Ideal.nD) → Buf (Elt Ideal) ((c.tc : Thread Cert.Kernel18Ideal.nD Cert.Kernel18Ideal.τ).loc Cert.Kernel18Ideal.main_v8_2)) (v3 : (c : Dev Cert.Kernel18Ideal.nD) → Buf (Elt Ideal) ((c.tc : Thread Cert.Kernel18Ideal.nD Cert.Kernel18Ideal.τ).loc Cert.Kernel18Ideal.main_v8_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8_0) = v0 c
          ∧ r.2.mem ((c.tc : Thread Cert.Kernel18Ideal.nD Cert.Kernel18Ideal.τ).loc Cert.Kernel18Ideal.main_v8_1) = v1 c
          ∧ r.2.mem ((c.tc : Thread Cert.Kernel18Ideal.nD Cert.Kernel18Ideal.τ).loc Cert.Kernel18Ideal.main_v8_2) = v2 c
          ∧ r.2.mem ((c.tc : Thread Cert.Kernel18Ideal.nD Cert.Kernel18Ideal.τ).loc Cert.Kernel18Ideal.main_v8_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_v27) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "inv_left1" .f32 0x3FC48605#32 (((5463681 / 8388608)⁻¹ : ℝ) : EReal)
  ∧ IdealRules.named_const.Statement Cert.Kernel19Ideal.κ "inv_left2" .f32 0x42C8E6D3#32 (((2672307 / 268435456)⁻¹ : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v8_0)) (v1 : (c : Dev Cert.Kernel19Ideal.nD) → Buf (Elt Ideal) ((c.tc : Thread Cert.Kernel19Ideal.nD Cert.Kernel19Ideal.τ).loc Cert.Kernel19Ideal.main_v8_1)) (v2 : (c : Dev Cert.Kernel19Ideal.nD) → Buf (Elt Ideal) ((c.tc : Thread Cert.Kernel19Ideal.nD Cert.Kernel19Ideal.τ).loc Cert.Kernel19Ideal.main_v8_2)) (v3 : (c : Dev Cert.Kernel19Ideal.nD) → Buf (Elt Ideal) ((c.tc : Thread Cert.Kernel19Ideal.nD Cert.Kernel19Ideal.τ).loc Cert.Kernel19Ideal.main_v8_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v8_0) = v0 c
          ∧ r.2.mem ((c.tc : Thread Cert.Kernel19Ideal.nD Cert.Kernel19Ideal.τ).loc Cert.Kernel19Ideal.main_v8_1) = v1 c
          ∧ r.2.mem ((c.tc : Thread Cert.Kernel19Ideal.nD Cert.Kernel19Ideal.τ).loc Cert.Kernel19Ideal.main_v8_2) = v2 c
          ∧ r.2.mem ((c.tc : Thread Cert.Kernel19Ideal.nD Cert.Kernel19Ideal.τ).loc Cert.Kernel19Ideal.main_v8_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_v27) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "inv_left1" .f32 0x3FC48605#32 (((5463681 / 8388608)⁻¹ : ℝ) : EReal)
  ∧ IdealRules.named_const.Statement Cert.Kernel20Ideal.κ "inv_left2" .f32 0x42C8E6D3#32 (((2672307 / 268435456)⁻¹ : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v8_0)) (v1 : (c : Dev Cert.Kernel20Ideal.nD) → Buf (Elt Ideal) ((c.tc : Thread Cert.Kernel20Ideal.nD Cert.Kernel20Ideal.τ).loc Cert.Kernel20Ideal.main_v8_1)) (v2 : (c : Dev Cert.Kernel20Ideal.nD) → Buf (Elt Ideal) ((c.tc : Thread Cert.Kernel20Ideal.nD Cert.Kernel20Ideal.τ).loc Cert.Kernel20Ideal.main_v8_2)) (v3 : (c : Dev Cert.Kernel20Ideal.nD) → Buf (Elt Ideal) ((c.tc : Thread Cert.Kernel20Ideal.nD Cert.Kernel20Ideal.τ).loc Cert.Kernel20Ideal.main_v8_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v8_0) = v0 c
          ∧ r.2.mem ((c.tc : Thread Cert.Kernel20Ideal.nD Cert.Kernel20Ideal.τ).loc Cert.Kernel20Ideal.main_v8_1) = v1 c
          ∧ r.2.mem ((c.tc : Thread Cert.Kernel20Ideal.nD Cert.Kernel20Ideal.τ).loc Cert.Kernel20Ideal.main_v8_2) = v2 c
          ∧ r.2.mem ((c.tc : Thread Cert.Kernel20Ideal.nD Cert.Kernel20Ideal.τ).loc Cert.Kernel20Ideal.main_v8_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_v27) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v50) = v0 c
          ∧ r.2.mem ((c.tc : Thread Cert.Reference22Ideal.nD Cert.Reference22Ideal.τ).loc Cert.Reference22Ideal.main_v71) = v1 c
          ∧ r.2.mem ((c.tc : Thread Cert.Reference22Ideal.nD Cert.Reference22Ideal.τ).loc Cert.Reference22Ideal.main_v54) = v2 c
          ∧ r.2.mem ((c.tc : Thread Cert.Reference22Ideal.nD Cert.Reference22Ideal.τ).loc Cert.Reference22Ideal.main_v33) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v15) = v0 c
          ∧ r.2.mem ((c.tc : Thread Cert.Reference23Ideal.nD Cert.Reference23Ideal.τ).loc Cert.Reference23Ideal.main_v16) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_v5) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v53) = v0 c
          ∧ r.2.mem ((c.tc : Thread Cert.Reference25Ideal.nD Cert.Reference25Ideal.τ).loc Cert.Reference25Ideal.main_v29) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v47) = v0 c
          ∧ r.2.mem ((c.tc : Thread Cert.Reference26Ideal.nD Cert.Reference26Ideal.τ).loc Cert.Reference26Ideal.main_v48) = v1 c
          ∧ r.2.mem ((c.tc : Thread Cert.Reference26Ideal.nD Cert.Reference26Ideal.τ).loc Cert.Reference26Ideal.main_v32) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  IdealRules.named_const.Statement Cert.Kernel28Ideal.κ "inv_left1" .f32 0x3FC48605#32 (((5463681 / 8388608)⁻¹ : ℝ) : EReal)
  ∧ IdealRules.named_const.Statement Cert.Kernel28Ideal.κ "inv_left2" .f32 0x42C8E6D3#32 (((2672307 / 268435456)⁻¹ : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v12_0)) (v1 : (c : Dev Cert.Kernel28Ideal.nD) → Buf (Elt Ideal) ((c.tc : Thread Cert.Kernel28Ideal.nD Cert.Kernel28Ideal.τ).loc Cert.Kernel28Ideal.main_v12_1)) (v2 : (c : Dev Cert.Kernel28Ideal.nD) → Buf (Elt Ideal) ((c.tc : Thread Cert.Kernel28Ideal.nD Cert.Kernel28Ideal.τ).loc Cert.Kernel28Ideal.main_v12_2)) (v3 : (c : Dev Cert.Kernel28Ideal.nD) → Buf (Elt Ideal) ((c.tc : Thread Cert.Kernel28Ideal.nD Cert.Kernel28Ideal.τ).loc Cert.Kernel28Ideal.main_v12_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v12_0) = v0 c
          ∧ r.2.mem ((c.tc : Thread Cert.Kernel28Ideal.nD Cert.Kernel28Ideal.τ).loc Cert.Kernel28Ideal.main_v12_1) = v1 c
          ∧ r.2.mem ((c.tc : Thread Cert.Kernel28Ideal.nD Cert.Kernel28Ideal.τ).loc Cert.Kernel28Ideal.main_v12_2) = v2 c
          ∧ r.2.mem ((c.tc : Thread Cert.Kernel28Ideal.nD Cert.Kernel28Ideal.τ).loc Cert.Kernel28Ideal.main_v12_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v11) = v0 c
          ∧ r.2.mem ((c.tc : Thread Cert.Reference28Ideal.nD Cert.Reference28Ideal.τ).loc Cert.Reference28Ideal.main_v35) = v1 c
          ∧ r.2.mem ((c.tc : Thread Cert.Reference28Ideal.nD Cert.Reference28Ideal.τ).loc Cert.Reference28Ideal.main_v16) = v2 c
          ∧ r.2.mem ((c.tc : Thread Cert.Reference28Ideal.nD Cert.Reference28Ideal.τ).loc Cert.Reference28Ideal.main_v22) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  IdealRules.named_const.Statement Cert.Kernel29Ideal.κ "inv_left1" .f32 0x3FC48605#32 (((5463681 / 8388608)⁻¹ : ℝ) : EReal)
  ∧ IdealRules.named_const.Statement Cert.Kernel29Ideal.κ "inv_left2" .f32 0x42C8E6D3#32 (((2672307 / 268435456)⁻¹ : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v12_0)) (v1 : (c : Dev Cert.Kernel29Ideal.nD) → Buf (Elt Ideal) ((c.tc : Thread Cert.Kernel29Ideal.nD Cert.Kernel29Ideal.τ).loc Cert.Kernel29Ideal.main_v12_1)) (v2 : (c : Dev Cert.Kernel29Ideal.nD) → Buf (Elt Ideal) ((c.tc : Thread Cert.Kernel29Ideal.nD Cert.Kernel29Ideal.τ).loc Cert.Kernel29Ideal.main_v12_2)) (v3 : (c : Dev Cert.Kernel29Ideal.nD) → Buf (Elt Ideal) ((c.tc : Thread Cert.Kernel29Ideal.nD Cert.Kernel29Ideal.τ).loc Cert.Kernel29Ideal.main_v12_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v12_0) = v0 c
          ∧ r.2.mem ((c.tc : Thread Cert.Kernel29Ideal.nD Cert.Kernel29Ideal.τ).loc Cert.Kernel29Ideal.main_v12_1) = v1 c
          ∧ r.2.mem ((c.tc : Thread Cert.Kernel29Ideal.nD Cert.Kernel29Ideal.τ).loc Cert.Kernel29Ideal.main_v12_2) = v2 c
          ∧ r.2.mem ((c.tc : Thread Cert.Kernel29Ideal.nD Cert.Kernel29Ideal.τ).loc Cert.Kernel29Ideal.main_v12_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v11) = v0 c
          ∧ r.2.mem ((c.tc : Thread Cert.Reference29Ideal.nD Cert.Reference29Ideal.τ).loc Cert.Reference29Ideal.main_v35) = v1 c
          ∧ r.2.mem ((c.tc : Thread Cert.Reference29Ideal.nD Cert.Reference29Ideal.τ).loc Cert.Reference29Ideal.main_v16) = v2 c
          ∧ r.2.mem ((c.tc : Thread Cert.Reference29Ideal.nD Cert.Reference29Ideal.τ).loc Cert.Reference29Ideal.main_v22) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  IdealRules.named_const.Statement Cert.Kernel30Ideal.κ "inv_left1" .f32 0x3FC48605#32 (((5463681 / 8388608)⁻¹ : ℝ) : EReal)
  ∧ IdealRules.named_const.Statement Cert.Kernel30Ideal.κ "inv_left2" .f32 0x42C8E6D3#32 (((2672307 / 268435456)⁻¹ : ℝ) : EReal)

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v12_0)) (v1 : (c : Dev Cert.Kernel30Ideal.nD) → Buf (Elt Ideal) ((c.tc : Thread Cert.Kernel30Ideal.nD Cert.Kernel30Ideal.τ).loc Cert.Kernel30Ideal.main_v12_1)) (v2 : (c : Dev Cert.Kernel30Ideal.nD) → Buf (Elt Ideal) ((c.tc : Thread Cert.Kernel30Ideal.nD Cert.Kernel30Ideal.τ).loc Cert.Kernel30Ideal.main_v12_2)) (v3 : (c : Dev Cert.Kernel30Ideal.nD) → Buf (Elt Ideal) ((c.tc : Thread Cert.Kernel30Ideal.nD Cert.Kernel30Ideal.τ).loc Cert.Kernel30Ideal.main_v12_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v12_0) = v0 c
          ∧ r.2.mem ((c.tc : Thread Cert.Kernel30Ideal.nD Cert.Kernel30Ideal.τ).loc Cert.Kernel30Ideal.main_v12_1) = v1 c
          ∧ r.2.mem ((c.tc : Thread Cert.Kernel30Ideal.nD Cert.Kernel30Ideal.τ).loc Cert.Kernel30Ideal.main_v12_2) = v2 c
          ∧ r.2.mem ((c.tc : Thread Cert.Kernel30Ideal.nD Cert.Kernel30Ideal.τ).loc Cert.Kernel30Ideal.main_v12_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v11) = v0 c
          ∧ r.2.mem ((c.tc : Thread Cert.Reference30Ideal.nD Cert.Reference30Ideal.τ).loc Cert.Reference30Ideal.main_v35) = v1 c
          ∧ r.2.mem ((c.tc : Thread Cert.Reference30Ideal.nD Cert.Reference30Ideal.τ).loc Cert.Reference30Ideal.main_v16) = v2 c
          ∧ r.2.mem ((c.tc : Thread Cert.Reference30Ideal.nD Cert.Reference30Ideal.τ).loc Cert.Reference30Ideal.main_v22) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  IdealRules.named_const.Statement Cert.Kernel31Ideal.κ "inv_left1" .f32 0x3FC48605#32 (((5463681 / 8388608)⁻¹ : ℝ) : EReal)
  ∧ IdealRules.named_const.Statement Cert.Kernel31Ideal.κ "inv_left2" .f32 0x42C8E6D3#32 (((2672307 / 268435456)⁻¹ : ℝ) : EReal)

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v12_0)) (v1 : (c : Dev Cert.Kernel31Ideal.nD) → Buf (Elt Ideal) ((c.tc : Thread Cert.Kernel31Ideal.nD Cert.Kernel31Ideal.τ).loc Cert.Kernel31Ideal.main_v12_1)) (v2 : (c : Dev Cert.Kernel31Ideal.nD) → Buf (Elt Ideal) ((c.tc : Thread Cert.Kernel31Ideal.nD Cert.Kernel31Ideal.τ).loc Cert.Kernel31Ideal.main_v12_2)) (v3 : (c : Dev Cert.Kernel31Ideal.nD) → Buf (Elt Ideal) ((c.tc : Thread Cert.Kernel31Ideal.nD Cert.Kernel31Ideal.τ).loc Cert.Kernel31Ideal.main_v12_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v12_0) = v0 c
          ∧ r.2.mem ((c.tc : Thread Cert.Kernel31Ideal.nD Cert.Kernel31Ideal.τ).loc Cert.Kernel31Ideal.main_v12_1) = v1 c
          ∧ r.2.mem ((c.tc : Thread Cert.Kernel31Ideal.nD Cert.Kernel31Ideal.τ).loc Cert.Kernel31Ideal.main_v12_2) = v2 c
          ∧ r.2.mem ((c.tc : Thread Cert.Kernel31Ideal.nD Cert.Kernel31Ideal.τ).loc Cert.Kernel31Ideal.main_v12_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v11) = v0 c
          ∧ r.2.mem ((c.tc : Thread Cert.Reference31Ideal.nD Cert.Reference31Ideal.τ).loc Cert.Reference31Ideal.main_v35) = v1 c
          ∧ r.2.mem ((c.tc : Thread Cert.Reference31Ideal.nD Cert.Reference31Ideal.τ).loc Cert.Reference31Ideal.main_v16) = v2 c
          ∧ r.2.mem ((c.tc : Thread Cert.Reference31Ideal.nD Cert.Reference31Ideal.τ).loc Cert.Reference31Ideal.main_v22) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  IdealRules.named_const.Statement Cert.Kernel32Ideal.κ "inv_left1" .f32 0x3FC48605#32 (((5463681 / 8388608)⁻¹ : ℝ) : EReal)
  ∧ IdealRules.named_const.Statement Cert.Kernel32Ideal.κ "inv_left2" .f32 0x42C8E6D3#32 (((2672307 / 268435456)⁻¹ : ℝ) : EReal)

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v12_0)) (v1 : (c : Dev Cert.Kernel32Ideal.nD) → Buf (Elt Ideal) ((c.tc : Thread Cert.Kernel32Ideal.nD Cert.Kernel32Ideal.τ).loc Cert.Kernel32Ideal.main_v12_1)) (v2 : (c : Dev Cert.Kernel32Ideal.nD) → Buf (Elt Ideal) ((c.tc : Thread Cert.Kernel32Ideal.nD Cert.Kernel32Ideal.τ).loc Cert.Kernel32Ideal.main_v12_2)) (v3 : (c : Dev Cert.Kernel32Ideal.nD) → Buf (Elt Ideal) ((c.tc : Thread Cert.Kernel32Ideal.nD Cert.Kernel32Ideal.τ).loc Cert.Kernel32Ideal.main_v12_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v12_0) = v0 c
          ∧ r.2.mem ((c.tc : Thread Cert.Kernel32Ideal.nD Cert.Kernel32Ideal.τ).loc Cert.Kernel32Ideal.main_v12_1) = v1 c
          ∧ r.2.mem ((c.tc : Thread Cert.Kernel32Ideal.nD Cert.Kernel32Ideal.τ).loc Cert.Kernel32Ideal.main_v12_2) = v2 c
          ∧ r.2.mem ((c.tc : Thread Cert.Kernel32Ideal.nD Cert.Kernel32Ideal.τ).loc Cert.Kernel32Ideal.main_v12_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v11) = v0 c
          ∧ r.2.mem ((c.tc : Thread Cert.Reference32Ideal.nD Cert.Reference32Ideal.τ).loc Cert.Reference32Ideal.main_v35) = v1 c
          ∧ r.2.mem ((c.tc : Thread Cert.Reference32Ideal.nD Cert.Reference32Ideal.τ).loc Cert.Reference32Ideal.main_v16) = v2 c
          ∧ r.2.mem ((c.tc : Thread Cert.Reference32Ideal.nD Cert.Reference32Ideal.τ).loc Cert.Reference32Ideal.main_v22) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  IdealRules.named_const.Statement Cert.Kernel33Ideal.κ "inv_left1" .f32 0x3FC48605#32 (((5463681 / 8388608)⁻¹ : ℝ) : EReal)
  ∧ IdealRules.named_const.Statement Cert.Kernel33Ideal.κ "inv_left2" .f32 0x42C8E6D3#32 (((2672307 / 268435456)⁻¹ : ℝ) : EReal)

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v12_0)) (v1 : (c : Dev Cert.Kernel33Ideal.nD) → Buf (Elt Ideal) ((c.tc : Thread Cert.Kernel33Ideal.nD Cert.Kernel33Ideal.τ).loc Cert.Kernel33Ideal.main_v12_1)) (v2 : (c : Dev Cert.Kernel33Ideal.nD) → Buf (Elt Ideal) ((c.tc : Thread Cert.Kernel33Ideal.nD Cert.Kernel33Ideal.τ).loc Cert.Kernel33Ideal.main_v12_2)) (v3 : (c : Dev Cert.Kernel33Ideal.nD) → Buf (Elt Ideal) ((c.tc : Thread Cert.Kernel33Ideal.nD Cert.Kernel33Ideal.τ).loc Cert.Kernel33Ideal.main_v12_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v12_0) = v0 c
          ∧ r.2.mem ((c.tc : Thread Cert.Kernel33Ideal.nD Cert.Kernel33Ideal.τ).loc Cert.Kernel33Ideal.main_v12_1) = v1 c
          ∧ r.2.mem ((c.tc : Thread Cert.Kernel33Ideal.nD Cert.Kernel33Ideal.τ).loc Cert.Kernel33Ideal.main_v12_2) = v2 c
          ∧ r.2.mem ((c.tc : Thread Cert.Kernel33Ideal.nD Cert.Kernel33Ideal.τ).loc Cert.Kernel33Ideal.main_v12_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v11) = v0 c
          ∧ r.2.mem ((c.tc : Thread Cert.Reference33Ideal.nD Cert.Reference33Ideal.τ).loc Cert.Reference33Ideal.main_v35) = v1 c
          ∧ r.2.mem ((c.tc : Thread Cert.Reference33Ideal.nD Cert.Reference33Ideal.τ).loc Cert.Reference33Ideal.main_v16) = v2 c
          ∧ r.2.mem ((c.tc : Thread Cert.Reference33Ideal.nD Cert.Reference33Ideal.τ).loc Cert.Reference33Ideal.main_v22) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  IdealRules.named_const.Statement Cert.Kernel34Ideal.κ "inv_left1" .f32 0x3FC48605#32 (((5463681 / 8388608)⁻¹ : ℝ) : EReal)
  ∧ IdealRules.named_const.Statement Cert.Kernel34Ideal.κ "inv_left2" .f32 0x42C8E6D3#32 (((2672307 / 268435456)⁻¹ : ℝ) : EReal)

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v12_0)) (v1 : (c : Dev Cert.Kernel34Ideal.nD) → Buf (Elt Ideal) ((c.tc : Thread Cert.Kernel34Ideal.nD Cert.Kernel34Ideal.τ).loc Cert.Kernel34Ideal.main_v12_1)) (v2 : (c : Dev Cert.Kernel34Ideal.nD) → Buf (Elt Ideal) ((c.tc : Thread Cert.Kernel34Ideal.nD Cert.Kernel34Ideal.τ).loc Cert.Kernel34Ideal.main_v12_2)) (v3 : (c : Dev Cert.Kernel34Ideal.nD) → Buf (Elt Ideal) ((c.tc : Thread Cert.Kernel34Ideal.nD Cert.Kernel34Ideal.τ).loc Cert.Kernel34Ideal.main_v12_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v12_0) = v0 c
          ∧ r.2.mem ((c.tc : Thread Cert.Kernel34Ideal.nD Cert.Kernel34Ideal.τ).loc Cert.Kernel34Ideal.main_v12_1) = v1 c
          ∧ r.2.mem ((c.tc : Thread Cert.Kernel34Ideal.nD Cert.Kernel34Ideal.τ).loc Cert.Kernel34Ideal.main_v12_2) = v2 c
          ∧ r.2.mem ((c.tc : Thread Cert.Kernel34Ideal.nD Cert.Kernel34Ideal.τ).loc Cert.Kernel34Ideal.main_v12_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v11) = v0 c
          ∧ r.2.mem ((c.tc : Thread Cert.Reference34Ideal.nD Cert.Reference34Ideal.τ).loc Cert.Reference34Ideal.main_v35) = v1 c
          ∧ r.2.mem ((c.tc : Thread Cert.Reference34Ideal.nD Cert.Reference34Ideal.τ).loc Cert.Reference34Ideal.main_v16) = v2 c
          ∧ r.2.mem ((c.tc : Thread Cert.Reference34Ideal.nD Cert.Reference34Ideal.τ).loc Cert.Reference34Ideal.main_v22) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  IdealRules.named_const.Statement Cert.Kernel35Ideal.κ "inv_left1" .f32 0x3FC48605#32 (((5463681 / 8388608)⁻¹ : ℝ) : EReal)
  ∧ IdealRules.named_const.Statement Cert.Kernel35Ideal.κ "inv_left2" .f32 0x42C8E6D3#32 (((2672307 / 268435456)⁻¹ : ℝ) : EReal)

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v12_0)) (v1 : (c : Dev Cert.Kernel35Ideal.nD) → Buf (Elt Ideal) ((c.tc : Thread Cert.Kernel35Ideal.nD Cert.Kernel35Ideal.τ).loc Cert.Kernel35Ideal.main_v12_1)) (v2 : (c : Dev Cert.Kernel35Ideal.nD) → Buf (Elt Ideal) ((c.tc : Thread Cert.Kernel35Ideal.nD Cert.Kernel35Ideal.τ).loc Cert.Kernel35Ideal.main_v12_2)) (v3 : (c : Dev Cert.Kernel35Ideal.nD) → Buf (Elt Ideal) ((c.tc : Thread Cert.Kernel35Ideal.nD Cert.Kernel35Ideal.τ).loc Cert.Kernel35Ideal.main_v12_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v12_0) = v0 c
          ∧ r.2.mem ((c.tc : Thread Cert.Kernel35Ideal.nD Cert.Kernel35Ideal.τ).loc Cert.Kernel35Ideal.main_v12_1) = v1 c
          ∧ r.2.mem ((c.tc : Thread Cert.Kernel35Ideal.nD Cert.Kernel35Ideal.τ).loc Cert.Kernel35Ideal.main_v12_2) = v2 c
          ∧ r.2.mem ((c.tc : Thread Cert.Kernel35Ideal.nD Cert.Kernel35Ideal.τ).loc Cert.Kernel35Ideal.main_v12_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v11) = v0 c
          ∧ r.2.mem ((c.tc : Thread Cert.Reference35Ideal.nD Cert.Reference35Ideal.τ).loc Cert.Reference35Ideal.main_v35) = v1 c
          ∧ r.2.mem ((c.tc : Thread Cert.Reference35Ideal.nD Cert.Reference35Ideal.τ).loc Cert.Reference35Ideal.main_v16) = v2 c
          ∧ r.2.mem ((c.tc : Thread Cert.Reference35Ideal.nD Cert.Reference35Ideal.τ).loc Cert.Reference35Ideal.main_v22) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  IdealRules.named_const.Statement Cert.Kernel36Ideal.κ "inv_left1" .f32 0x3FC48605#32 (((5463681 / 8388608)⁻¹ : ℝ) : EReal)
  ∧ IdealRules.named_const.Statement Cert.Kernel36Ideal.κ "inv_left2" .f32 0x42C8E6D3#32 (((2672307 / 268435456)⁻¹ : ℝ) : EReal)

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v12_0)) (v1 : (c : Dev Cert.Kernel36Ideal.nD) → Buf (Elt Ideal) ((c.tc : Thread Cert.Kernel36Ideal.nD Cert.Kernel36Ideal.τ).loc Cert.Kernel36Ideal.main_v12_1)) (v2 : (c : Dev Cert.Kernel36Ideal.nD) → Buf (Elt Ideal) ((c.tc : Thread Cert.Kernel36Ideal.nD Cert.Kernel36Ideal.τ).loc Cert.Kernel36Ideal.main_v12_2)) (v3 : (c : Dev Cert.Kernel36Ideal.nD) → Buf (Elt Ideal) ((c.tc : Thread Cert.Kernel36Ideal.nD Cert.Kernel36Ideal.τ).loc Cert.Kernel36Ideal.main_v12_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v12_0) = v0 c
          ∧ r.2.mem ((c.tc : Thread Cert.Kernel36Ideal.nD Cert.Kernel36Ideal.τ).loc Cert.Kernel36Ideal.main_v12_1) = v1 c
          ∧ r.2.mem ((c.tc : Thread Cert.Kernel36Ideal.nD Cert.Kernel36Ideal.τ).loc Cert.Kernel36Ideal.main_v12_2) = v2 c
          ∧ r.2.mem ((c.tc : Thread Cert.Kernel36Ideal.nD Cert.Kernel36Ideal.τ).loc Cert.Kernel36Ideal.main_v12_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v11) = v0 c
          ∧ r.2.mem ((c.tc : Thread Cert.Reference36Ideal.nD Cert.Reference36Ideal.τ).loc Cert.Reference36Ideal.main_v35) = v1 c
          ∧ r.2.mem ((c.tc : Thread Cert.Reference36Ideal.nD Cert.Reference36Ideal.τ).loc Cert.Reference36Ideal.main_v16) = v2 c
          ∧ r.2.mem ((c.tc : Thread Cert.Reference36Ideal.nD Cert.Reference36Ideal.τ).loc Cert.Reference36Ideal.main_v22) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v14) = v0 c
          ∧ r.2.mem ((c.tc : Thread Cert.Reference37Ideal.nD Cert.Reference37Ideal.τ).loc Cert.Reference37Ideal.main_v15) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v1) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v8) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v2) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v12) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v12) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v12) = v0 c
          ∧ r.2.mem ((c.tc : Thread Cert.Reference43Ideal.nD Cert.Reference43Ideal.τ).loc Cert.Reference43Ideal.main_v25) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v19) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v21) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v11) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v28) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)) →
    ∃ (v0 : (c : Dev Cert.Kernel48Ideal.nD) → Buf (Elt Ideal) ((c.tc : Thread Cert.Kernel48Ideal.nD Cert.Kernel48Ideal.τ).loc Cert.Kernel48Ideal.main_v4)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v4) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v18) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)) →
    ∃ (v0 : (c : Dev Cert.Kernel49Ideal.nD) → Buf (Elt Ideal) ((c.tc : Thread Cert.Kernel49Ideal.nD Cert.Kernel49Ideal.τ).loc Cert.Kernel49Ideal.main_v15)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v15) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v3) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)) →
    ∃ (v0 : (c : Dev Cert.Kernel50Ideal.nD) → Buf (Elt Ideal) ((c.tc : Thread Cert.Kernel50Ideal.nD Cert.Kernel50Ideal.τ).loc Cert.Kernel50Ideal.main_v15)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v15) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v8) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)) →
    ∃ (v0 : (c : Dev Cert.Kernel51Ideal.nD) → Buf (Elt Ideal) ((c.tc : Thread Cert.Kernel51Ideal.nD Cert.Kernel51Ideal.τ).loc Cert.Kernel51Ideal.main_v2)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v2) = v0 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v3) = v0 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
-- ==== Pre_finite.lean ====
abbrev S8192x2048 : Shape := ⟨2, ![8192, 2048]⟩
abbrev S8192x1024 : Shape := ⟨2, ![8192, 1024]⟩
abbrev S8192x128 : Shape := ⟨2, ![8192, 128]⟩
abbrev S128x8x128x128 : Shape := ⟨4, ![128, 8, 128, 128]⟩
abbrev S128x8x64x64 : Shape := ⟨4, ![128, 8, 64, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x128 : S_.BroadcastsInDim S8192x128 (![] : Fin 0 → Fin S8192x128.rank)
  reducesTo_S8192x128_S_d0_1 : S8192x128.ReducesTo [0, 1] S_
  bcast_S_S128x8x128x128 : S_.BroadcastsInDim S128x8x128x128 (![] : Fin 0 → Fin S128x8x128x128.rank)
  reducesTo_S128x8x128x128_S_d0_1_2_3 : S128x8x128x128.ReducesTo [0, 1, 2, 3] S_
  bcast_S_S128x8x64x64 : S_.BroadcastsInDim S128x8x64x64 (![] : Fin 0 → Fin S128x8x64x64.rank)
  reducesTo_S128x8x64x64_S_d0_1_2_3 : S128x8x64x64.ReducesTo [0, 1, 2, 3] S_

variable [Facts]

def fn_part1 {F : FTy → Type} [FloatOps F] (main_arg4 : FVec F S128x8x64x64 .f32) (main_arg5 : FVec F S8192x1024 .f32) (main_v14 : IVec S_ 1) (main_v15 : FVec F S128x8x128x128 .f32) (main_cst_5 : FVec F S_ .f32) : IVec S_ 1 :=
  let main_v16 : FVec F S128x8x128x128 .f32 := broadcastInDim S128x8x128x128 ![] bcast_S_S128x8x128x128 main_cst_5
  let main_v17 : IVec S128x8x128x128 1 := cmpf .olt main_v15 main_v16
  let main_c_6 : IVec S_ 1 := constantI S_ 1 1#1
  let main_v18 : IVec S_ 1 := (fun x v => Host.reduce IntOp.andi x v reducesTo_S128x8x128x128_S_d0_1_2_3 h_S_) main_v17 main_c_6
  let main_v19 : IVec S_ 1 := andi main_v14 main_v18
  let main_v20 : FVec F S128x8x64x64 .f32 := Host.absf main_arg4
  let main_cst_7 : FVec F S_ .f32 := constant S_ .f32 0x7F800000#32
  let main_v21 : FVec F S128x8x64x64 .f32 := broadcastInDim S128x8x64x64 ![] bcast_S_S128x8x64x64 main_cst_7
  let main_v22 : IVec S128x8x64x64 1 := cmpf .olt main_v20 main_v21
  let main_c_8 : IVec S_ 1 := constantI S_ 1 1#1
  let main_v23 : IVec S_ 1 := (fun x v => Host.reduce IntOp.andi x v reducesTo_S128x8x64x64_S_d0_1_2_3 h_S_) main_v22 main_c_8
  let main_v24 : IVec S_ 1 := andi main_v19 main_v23
  let main_v25 : FVec F S8192x1024 .f32 := Host.absf main_arg5
  let main_cst_9 : FVec F S_ .f32 := constant S_ .f32 0x7F800000#32
  let main_v26 : FVec F S8192x1024 .f32 := broadcastInDim S8192x1024 ![] bcast_S_S8192x1024 main_cst_9
  let main_v27 : IVec S8192x1024 1 := cmpf .olt main_v25 main_v26
  let main_c_10 : IVec S_ 1 := constantI S_ 1 1#1
  let main_v28 : IVec S_ 1 := (fun x v => Host.reduce IntOp.andi x v reducesTo_S8192x1024_S_d0_1 h_S_) main_v27 main_c_10
  let main_v29 : IVec S_ 1 := andi main_v24 main_v28
  main_v29

def fn {F : FTy → Type} [FloatOps F] (main_arg0 : FVec F S8192x2048 .f32) (main_arg1 : FVec F S8192x1024 .f32) (main_arg2 : FVec F S8192x128 .f32) (main_arg3 : FVec F S128x8x128x128 .f32) (main_arg4 : FVec F S128x8x64x64 .f32) (main_arg5 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S8192x128 .f32 := Host.absf main_arg2
  let main_cst_3 : FVec F S_ .f32 := constant S_ .f32 0x7F800000#32
  let main_v11 : FVec F S8192x128 .f32 := broadcastInDim S8192x128 ![] bcast_S_S8192x128 main_cst_3
  let main_v12 : IVec S8192x128 1 := cmpf .olt main_v10 main_v11
  let main_c_4 : IVec S_ 1 := constantI S_ 1 1#1
  let main_v13 : IVec S_ 1 := (fun x v => Host.reduce IntOp.andi x v reducesTo_S8192x128_S_d0_1 h_S_) main_v12 main_c_4
  let main_v14 : IVec S_ 1 := andi main_v9 main_v13
  let main_v15 : FVec F S128x8x128x128 .f32 := Host.absf main_arg3
  let main_cst_5 : FVec F S_ .f32 := constant S_ .f32 0x7F800000#32
  fn_part1 (F := F) main_arg4 main_arg5 main_v14 main_v15 main_cst_5
-- ==== Kernel.lean ====
abbrev S8192x2048 : Shape := ⟨2, ![8192, 2048]⟩
abbrev S8192x1024 : Shape := ⟨2, ![8192, 1024]⟩
abbrev S8192x128 : Shape := ⟨2, ![8192, 128]⟩
abbrev S128x8x128x128 : Shape := ⟨4, ![128, 8, 128, 128]⟩
abbrev S128x8x64x64 : Shape := ⟨4, ![128, 8, 64, 64]⟩
abbrev S8192x8 : Shape := ⟨2, ![8192, 8]⟩
abbrev S128x64x8 : Shape := ⟨3, ![128, 64, 8]⟩
abbrev S128x8x64 : Shape := ⟨3, ![128, 8, 64]⟩
abbrev S64x2048 : Shape := ⟨2, ![64, 2048]⟩
abbrev S64x1024 : Shape := ⟨2, ![64, 1024]⟩
abbrev S64x128 : Shape := ⟨2, ![64, 128]⟩
abbrev S1x8x64 : Shape := ⟨3, ![1, 8, 64]⟩
abbrev S1x8x128x128 : Shape := ⟨4, ![1, 8, 128, 128]⟩
abbrev S1x8x64x64 : Shape := ⟨4, ![1, 8, 64, 64]⟩
abbrev S8x128x128 : Shape := ⟨3, ![8, 128, 128]⟩
abbrev S64x64 : Shape := ⟨2, ![64, 64]⟩
abbrev S64x1 : Shape := ⟨2, ![64, 1]⟩
abbrev S8x64 : Shape := ⟨2, ![8, 64]⟩
abbrev S64 : Shape := ⟨1, ![64]⟩
abbrev S1x64 : Shape := ⟨2, ![1, 64]⟩
abbrev S1 : Shape := ⟨1, ![1]⟩
abbrev S1x1 : Shape := ⟨2, ![1, 1]⟩
abbrev S1x1x64x64 : Shape := ⟨4, ![1, 1, 64, 64]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 12
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x128, .f32⟩
  | .hbm, ⟨3, _⟩ => ⟨S128x8x128x128, .f32⟩
  | .hbm, ⟨4, _⟩ => ⟨S128x8x64x64, .f32⟩
  | .hbm, ⟨5, _⟩ => ⟨S8192x1024, .f32⟩
  | .hbm, ⟨6, _⟩ => ⟨S8192x8, .f32⟩
  | .hbm, ⟨7, _⟩ => ⟨S128x64x8, .f32⟩
  | .hbm, ⟨8, _⟩ => ⟨S128x8x64, .f32⟩
  | .hbm, ⟨9, _⟩ => ⟨S8192x2048, .f32⟩
  | .hbm, ⟨10, _⟩ => ⟨S8192x1024, .f32⟩
  | .hbm, ⟨11, _⟩ => ⟨S8192x128, .f32⟩
  | .local _ .vmem, ⟨0, _⟩ => ⟨S64x2048, .f32⟩
  | .local _ .vmem, ⟨1, _⟩ => ⟨S64x2048, .f32⟩
  | .local _ .vmem, ⟨2, _⟩ => ⟨S64x1024, .f32⟩
  | .local _ .vmem, ⟨3, _⟩ => ⟨S64x1024, .f32⟩
  | .local _ .vmem, ⟨4, _⟩ => ⟨S64x128, .f32⟩
  | .local _ .vmem, ⟨5, _⟩ => ⟨S64x128, .f32⟩
  | .local _ .vmem, ⟨6, _⟩ => ⟨S1x8x64, .f32⟩
  | .local _ .vmem, ⟨7, _⟩ => ⟨S1x8x64, .f32⟩
  | .local _ .vmem, ⟨8, _⟩ => ⟨S1x8x128x128, .f32⟩
  | .local _ .vmem, ⟨9, _⟩ => ⟨S1x8x128x128, .f32⟩
  | .local _ .vmem, ⟨10, _⟩ => ⟨S1x8x64x64, .f32⟩
  | .local _ .vmem, ⟨11, _⟩ => ⟨S1x8x64x64, .f32⟩
  | .local _ .vmem, ⟨12, _⟩ => ⟨S64x1024, .f32⟩
  | .local _ .vmem, ⟨13, _⟩ => ⟨S64x1024, .f32⟩
  | .local _ .vmem, ⟨14, _⟩ => ⟨S64x2048, .f32⟩
  | .local _ .vmem, ⟨15, _⟩ => ⟨S64x2048, .f32⟩
  | .local _ .vmem, ⟨16, _⟩ => ⟨S64x1024, .f32⟩
  | .local _ .vmem, ⟨17, _⟩ => ⟨S64x1024, .f32⟩
  | .local _ .vmem, ⟨18, _⟩ => ⟨S64x128, .f32⟩
  | .local _ .vmem, ⟨19, _⟩ => ⟨S64x128, .f32⟩
  | .local _ .vmem, ⟨20, _⟩ => ⟨S8x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x2048 : Shape := ⟨2, ![8192, 2048]⟩
abbrev S8192x1024 : Shape := ⟨2, ![8192, 1024]⟩
abbrev S8192x128 : Shape := ⟨2, ![8192, 128]⟩
abbrev S128x8x128x128 : Shape := ⟨4, ![128, 8, 128, 128]⟩
abbrev S128x8x64x64 : Shape := ⟨4, ![128, 8, 64, 64]⟩
abbrev S128x64x8x128 : Shape := ⟨4, ![128, 64, 8, 128]⟩
abbrev S128x8x64x128 : Shape := ⟨4, ![128, 8, 64, 128]⟩
abbrev S_ : Shape := ⟨0, ![]⟩
abbrev S8x128x128 : Shape := ⟨3, ![8, 128, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8192x8x128 : Shape := ⟨3, ![8192, 8, 128]⟩
abbrev S8192x8 : Shape := ⟨2, ![8192, 8]⟩
abbrev S8x128x64x128 : Shape := ⟨4, ![8, 128, 64, 128]⟩
abbrev S128x64x8 : Shape := ⟨3, ![128, 64, 8]⟩
abbrev S8x128x64 : Shape := ⟨3, ![8, 128, 64]⟩
abbrev S8x128x64x1 : Shape := ⟨4, ![8, 128, 64, 1]⟩
abbrev S8x128x1x64 : Shape := ⟨4, ![8, 128, 1, 64]⟩
abbrev S8x128x64x64 : Shape := ⟨4, ![8, 128, 64, 64]⟩
abbrev S1x1x64x64 : Shape := ⟨4, ![1, 1, 64, 64]⟩
abbrev S8x128x1 : Shape := ⟨3, ![8, 128, 1]⟩
abbrev S8x128 : Shape := ⟨2, ![8, 128]⟩
abbrev S128x8 : Shape := ⟨2, ![128, 8]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S1x8x128x128 : Shape := ⟨4, ![1, 8, 128, 128]⟩
abbrev S8x1x1 : Shape := ⟨3, ![8, 1, 1]⟩
abbrev S8x128x128x64 : Shape := ⟨4, ![8, 128, 128, 64]⟩

abbrev nBuf : Space → Nat
  | .hbm => 507
  | .vmem => 0
  | .smem => 0
  | _ => 0

abbrev hbmTy0_0 (i : Nat) : BufTy := match i % 128 with
  | 0 => ⟨S8192x2048, .f32⟩
  | 1 => ⟨S8192x1024, .f32⟩
  | 2 => ⟨S8192x128, .f32⟩
  | 3 => ⟨S128x8x128x128, .f32⟩
  | 4 => ⟨S128x8x64x64, .f32⟩
  | 5 => ⟨S8192x1024, .f32⟩
  | 6 => ⟨S128x64x8x128, .f32⟩
  | 7 => ⟨S128x8x64x128, .f32⟩
  | 8 => ⟨S_, .f32⟩
  | 9 => ⟨S8x128x128, .f32⟩
  | 10 => ⟨S64, .i32⟩
  | 11 => ⟨S64x1, .i32⟩
  | 12 => ⟨S1x64, .i32⟩
  | 13 => ⟨S64x64, .i32⟩
  | 14 => ⟨S64x64, .i32⟩
  | 15 => ⟨S64x64, .i1⟩
  | 16 => ⟨S64x1, .i32⟩
  | 17 => ⟨S1x64, .i32⟩
  | 18 => ⟨S64x64, .i32⟩
  | 19 => ⟨S64x64, .i32⟩
  | 20 => ⟨S64x64, .i1⟩
  | 21 => ⟨S64x64, .i32⟩
  | 22 => ⟨S64x64, .i32⟩
  | 23 => ⟨S_, .i32⟩
  | 24 => ⟨S64x64, .i32⟩
  | 25 => ⟨S64x64, .i32⟩
  | 26 => ⟨S64x64, .i1⟩
  | 27 => ⟨S64x64, .f32⟩
  | 28 => ⟨S8192x1024, .f32⟩
  | 29 => ⟨S8192x1024, .f32⟩
  | 30 => ⟨S8192x8x128, .f32⟩
  | 31 => ⟨S8192x8x128, .f32⟩
  | 32 => ⟨S8192x8x128, .f32⟩
  | 33 => ⟨S8192x8, .f32⟩
  | 34 => ⟨S8192x8, .f32⟩
  | 35 => ⟨S_, .f32⟩
  | 36 => ⟨S8192x8x128, .f32⟩
  | 37 => ⟨S8192x8x128, .f32⟩
  | 38 => ⟨S128x64x8x128, .f32⟩
  | 39 => ⟨S8x128x64x128, .f32⟩
  | 40 => ⟨S128x64x8x128, .f32⟩
  | 41 => ⟨S8x128x64x128, .f32⟩
  | 42 => ⟨S128x64x8x128, .f32⟩
  | 43 => ⟨S8x128x64x128, .f32⟩
  | 44 => ⟨S128x64x8, .f32⟩
  | 45 => ⟨S8x128x64, .f32⟩
  | 46 => ⟨S128x64x8, .f32⟩
  | 47 => ⟨S8x128x64, .f32⟩
  | 48 => ⟨S_, .f32⟩
  | 49 => ⟨S_, .f32⟩
  | 50 => ⟨S8x128x64, .f32⟩
  | 51 => ⟨S8x128x64x1, .f32⟩
  | 52 => ⟨S8x128x1x64, .f32⟩
  | 53 => ⟨S8x128x64x64, .f32⟩
  | 54 => ⟨S8x128x64x64, .f32⟩
  | 55 => ⟨S8x128x64x64, .f32⟩
  | 56 => ⟨S_, .f32⟩
  | 57 => ⟨S_, .f32⟩
  | 58 => ⟨S8x128x64x64, .i1⟩
  | 59 => ⟨S8x128x64x64, .f32⟩
  | 60 => ⟨S8x128x64x64, .f32⟩
  | 61 => ⟨S8x128x64x64, .f32⟩
  | 62 => ⟨S8x128x64x1, .f32⟩
  | 63 => ⟨S8x128x64x128, .f32⟩
  | 64 => ⟨S8x128x64x128, .f32⟩
  | 65 => ⟨S8x128x64x64, .f32⟩
  | 66 => ⟨S8x128x64x64, .f32⟩
  | 67 => ⟨S_, .f32⟩
  | 68 => ⟨S_, .f32⟩
  | 69 => ⟨S8x128x64x64, .i1⟩
  | 70 => ⟨S8x128x64x64, .f32⟩
  | 71 => ⟨S8x128x64x64, .f32⟩
  | 72 => ⟨S8x128x64x64, .f32⟩
  | 73 => ⟨S1x1x64x64, .f32⟩
  | 74 => ⟨S8x128x64x64, .f32⟩
  | 75 => ⟨S8x128x64x64, .f32⟩
  | 76 => ⟨S8x128x64x64, .f32⟩
  | 77 => ⟨S8x128x64x64, .f32⟩
  | 78 => ⟨S8x128x64x1, .f32⟩
  | 79 => ⟨S8x128x64x128, .f32⟩
  | 80 => ⟨S8x128x64x128, .f32⟩
  | 81 => ⟨S8x128x64x128, .f32⟩
  | 82 => ⟨S8x128x64, .f32⟩
  | 83 => ⟨S8x128x64x1, .f32⟩
  | 84 => ⟨S8x128x64x128, .f32⟩
  | 85 => ⟨S8x128x64x128, .f32⟩
  | 86 => ⟨S8x128x64x128, .f32⟩
  | 87 => ⟨S8x128x64x64, .f32⟩
  | 88 => ⟨S8x128x64x64, .f32⟩
  | 89 => ⟨S_, .f32⟩
  | 90 => ⟨S_, .f32⟩
  | 91 => ⟨S8x128x64x64, .i1⟩
  | 92 => ⟨S8x128x64x64, .f32⟩
  | 93 => ⟨S8x128x64x64, .f32⟩
  | 94 => ⟨S8x128x64, .f32⟩
  | 95 => ⟨S8x128x64x1, .f32⟩
  | 96 => ⟨S8x128x64x128, .f32⟩
  | 97 => ⟨S8x128x64x128, .f32⟩
  | 98 => ⟨S8x128x1, .f32⟩
  | 99 => ⟨S8x128, .f32⟩
  | 100 => ⟨S8x128x1, .f32⟩
  | 101 => ⟨S8x128x64, .f32⟩
  | 102 => ⟨S8x128x64, .f32⟩
  | 103 => ⟨S8x128x64, .f32⟩
  | 104 => ⟨S8x128x64x1, .f32⟩
  | 105 => ⟨S8x128x64x128, .f32⟩
  | 106 => ⟨S8x128x64x128, .f32⟩
  | 107 => ⟨S8x128, .f32⟩
  | 108 => ⟨S128x8x64x128, .f32⟩
  | 109 => ⟨S128x8x64x128, .f32⟩
  | 110 => ⟨S128x8x64x64, .f32⟩
  | 111 => ⟨S128x8x64x128, .f32⟩
  | 112 => ⟨S128x8x64x128, .f32⟩
  | 113 => ⟨S128x8, .f32⟩
  | 114 => ⟨S_, .f32⟩
  | 115 => ⟨S128x8x64x128, .f32⟩
  | 116 => ⟨S_, .f32⟩
  | 117 => ⟨S128x8x64x128, .f32⟩
  | 118 => ⟨S_, .f32⟩
  | 119 => ⟨S128x8x64x64, .f32⟩
  | 120 => ⟨S_, .f32⟩
  | 121 => ⟨S128x8x64x128, .f32⟩
  | 122 => ⟨S_, .f32⟩
  | 123 => ⟨S128x8x64x128, .f32⟩
  | 124 => ⟨S_, .f32⟩
  | 125 => ⟨S128x8, .f32⟩
  | 126 => ⟨S_, .i32⟩
  | 127 => ⟨S128x8x64x128, .f32⟩
  | _ => ⟨S8192x2048, .f32⟩

abbrev hbmTy0_1 (i : Nat) : BufTy := match i % 128 with
  | 0 => ⟨S128x8x64x128, .f32⟩
  | 1 => ⟨S128x8x64x64, .f32⟩
  | 2 => ⟨S128x8x64x128, .f32⟩
  | 3 => ⟨S128x8x64x128, .f32⟩
  | 4 => ⟨S128x8, .f32⟩
  | 5 => ⟨S128x8x128x128, .f32⟩
  | 6 => ⟨S128x8x64x128, .f32⟩
  | 7 => ⟨S_, .i32⟩
  | 8 => ⟨S8x128x128, .f32⟩
  | 9 => ⟨S128x8x64x128, .f32⟩
  | 10 => ⟨S128x8x64x128, .f32⟩
  | 11 => ⟨S128x8x64x64, .f32⟩
  | 12 => ⟨S128x8x64x128, .f32⟩
  | 13 => ⟨S128x8x64x128, .f32⟩
  | 14 => ⟨S128x8, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S1x8x64x128, .f32⟩
  | 25 => ⟨S8x64x128, .f32⟩
  | 26 => ⟨S_, .i32⟩
  | 27 => ⟨S_, .i32⟩
  | 28 => ⟨S_, .i32⟩
  | 29 => ⟨S1x8x64x128, .f32⟩
  | 30 => ⟨S8x64x128, .f32⟩
  | 31 => ⟨S_, .i32⟩
  | 32 => ⟨S_, .i32⟩
  | 33 => ⟨S_, .i32⟩
  | 34 => ⟨S1x8x64x64, .f32⟩
  | 35 => ⟨S8x64x64, .f32⟩
  | 36 => ⟨S_, .i32⟩
  | 37 => ⟨S_, .i32⟩
  | 38 => ⟨S_, .i32⟩
  | 39 => ⟨S1x8x64x128, .f32⟩
  | 40 => ⟨S8x64x128, .f32⟩
  | 41 => ⟨S_, .i32⟩
  | 42 => ⟨S_, .i32⟩
  | 43 => ⟨S_, .i32⟩
  | 44 => ⟨S1x8x64x128, .f32⟩
  | 45 => ⟨S8x64x128, .f32⟩
  | 46 => ⟨S_, .i32⟩
  | 47 => ⟨S1x8, .f32⟩
  | 48 => ⟨S8, .f32⟩
  | 49 => ⟨S_, .i32⟩
  | 50 => ⟨S_, .i32⟩
  | 51 => ⟨S_, .i32⟩
  | 52 => ⟨S1x8x128x128, .f32⟩
  | 53 => ⟨S8x128x128, .f32⟩
  | 54 => ⟨S_, .i32⟩
  | 55 => ⟨S_, .i32⟩
  | 56 => ⟨S_, .i32⟩
  | 57 => ⟨S1x8x64x128, .f32⟩
  | 58 => ⟨S8x64x128, .f32⟩
  | 59 => ⟨S8x64x128, .f32⟩
  | 60 => ⟨S8x64x128, .f32⟩
  | 61 => ⟨S8x64x128, .f32⟩
  | 62 => ⟨S8x64x128, .f32⟩
  | 63 => ⟨S8x64x128, .f32⟩
  | 64 => ⟨S8x1x1, .f32⟩
  | 65 => ⟨S8x128x128, .f32⟩
  | 66 => ⟨S8x128x128, .f32⟩
  | 67 => ⟨S8x128x128, .f32⟩
  | 68 => ⟨S8x128x128, .f32⟩
  | 69 => ⟨S8x128x64, .f32⟩
  | 70 => ⟨S8x64x128, .f32⟩
  | 71 => ⟨S8x128x64, .f32⟩
  | 72 => ⟨S8x64x128, .f32⟩
  | 73 => ⟨S8x128x128, .f32⟩
  | 74 => ⟨S_, .f32⟩
  | 75 => ⟨S8, .f32⟩
  | 76 => ⟨S8x1x1, .f32⟩
  | 77 => ⟨S8x128x128, .f32⟩
  | 78 => ⟨S8x128x128, .f32⟩
  | 79 => ⟨S_, .f32⟩
  | 80 => ⟨S8, .f32⟩
  | 81 => ⟨S8x128x64, .f32⟩
  | 82 => ⟨S8x64x128, .f32⟩
  | 83 => ⟨S8x64x128, .f32⟩
  | 84 => ⟨S8x64x64, .f32⟩
  | 85 => ⟨S8x128x128, .f32⟩
  | 86 => ⟨S8x128x128, .f32⟩
  | 87 => ⟨S8x128x128, .f32⟩
  | 88 => ⟨S8x64x128, .f32⟩
  | 89 => ⟨S8x64x128, .f32⟩
  | 90 => ⟨S8x128x128, .f32⟩
  | 91 => ⟨S8x128x128, .f32⟩
  | 92 => ⟨S8x128x128, .f32⟩
  | 93 => ⟨S8x64x128, .f32⟩
  | 94 => ⟨S1x8x64x128, .f32⟩
  | 95 => ⟨S_, .i32⟩
  | 96 => ⟨S_, .i32⟩
  | 97 => ⟨S_, .i32⟩
  | 98 => ⟨S128x8x64x128, .f32⟩
  | 99 => ⟨S1x8x64x128, .f32⟩
  | 100 => ⟨S_, .i32⟩
  | 101 => ⟨S_, .i32⟩
  | 102 => ⟨S_, .i32⟩
  | 103 => ⟨S128x8x64x128, .f32⟩
  | 104 => ⟨S1x8x64x64, .f32⟩
  | 105 => ⟨S_, .i32⟩
  | 106 => ⟨S_, .i32⟩
  | 107 => ⟨S_, .i32⟩
  | 108 => ⟨S128x8x64x64, .f32⟩
  | 109 => ⟨S1x8x64x128, .f32⟩
  | 110 => ⟨S_, .i32⟩
  | 111 => ⟨S_, .i32⟩
  | 112 => ⟨S_, .i32⟩
  | 113 => ⟨S128x8x64x128, .f32⟩
  | 114 => ⟨S1x8x64x128, .f32⟩
  | 115 => ⟨S_, .i32⟩
  | 116 => ⟨S_, .i32⟩
  | 117 => ⟨S_, .i32⟩
  | 118 => ⟨S128x8x64x128, .f32⟩
  | 119 => ⟨S1x8, .f32⟩
  | 120 => ⟨S_, .i32⟩
  | 121 => ⟨S128x8, .f32⟩
  | 122 => ⟨S_, .i32⟩
  | 123 => ⟨S_, .i32⟩
  | 124 => ⟨S64, .i32⟩
  | 125 => ⟨S64x1, .i32⟩
  | 126 => ⟨S1x64, .i32⟩
  | 127 => ⟨S64x64, .i32⟩
  | _ => ⟨S8192x2048, .f32⟩

abbrev hbmTy0_2 (i : Nat) : BufTy := match i % 128 with
  | 0 => ⟨S64x64, .i32⟩
  | 1 => ⟨S64x64, .i1⟩
  | 2 => ⟨S64x1, .i32⟩
  | 3 => ⟨S1x64, .i32⟩
  | 4 => ⟨S64x64, .i32⟩
  | 5 => ⟨S64x64, .i32⟩
  | 6 => ⟨S64x64, .i1⟩
  | 7 => ⟨S64x64, .i32⟩
  | 8 => ⟨S64x64, .i32⟩
  | 9 => ⟨S_, .i32⟩
  | 10 => ⟨S64x64, .i32⟩
  | 11 => ⟨S64x64, .i32⟩
  | 12 => ⟨S64x64, .i1⟩
  | 13 => ⟨S64x64, .f32⟩
  | 14 => ⟨S8192x1024, .f32⟩
  | 15 => ⟨S8192x1024, .f32⟩
  | 16 => ⟨S8192x8x128, .f32⟩
  | 17 => ⟨S8192x8x128, .f32⟩
  | 18 => ⟨S8192x8x128, .f32⟩
  | 19 => ⟨S8192x8, .f32⟩
  | 20 => ⟨S8192x8, .f32⟩
  | 21 => ⟨S_, .f32⟩
  | 22 => ⟨S8192x8x128, .f32⟩
  | 23 => ⟨S8192x8x128, .f32⟩
  | 24 => ⟨S128x64x8x128, .f32⟩
  | 25 => ⟨S8x128x64x128, .f32⟩
  | 26 => ⟨S128x64x8x128, .f32⟩
  | 27 => ⟨S8x128x64x128, .f32⟩
  | 28 => ⟨S128x64x8x128, .f32⟩
  | 29 => ⟨S8x128x64x128, .f32⟩
  | 30 => ⟨S128x64x8, .f32⟩
  | 31 => ⟨S8x128x64, .f32⟩
  | 32 => ⟨S128x64x8, .f32⟩
  | 33 => ⟨S8x128x64, .f32⟩
  | 34 => ⟨S_, .f32⟩
  | 35 => ⟨S_, .f32⟩
  | 36 => ⟨S8x128x64, .f32⟩
  | 37 => ⟨S8x128x64x1, .f32⟩
  | 38 => ⟨S8x128x1x64, .f32⟩
  | 39 => ⟨S8x128x64x64, .f32⟩
  | 40 => ⟨S8x128x64x64, .f32⟩
  | 41 => ⟨S8x128x64x64, .f32⟩
  | 42 => ⟨S_, .f32⟩
  | 43 => ⟨S_, .f32⟩
  | 44 => ⟨S8x128x64x64, .i1⟩
  | 45 => ⟨S8x128x64x64, .f32⟩
  | 46 => ⟨S8x128x64x64, .f32⟩
  | 47 => ⟨S_, .f32⟩
  | 48 => ⟨S8x128x64x64, .f32⟩
  | 49 => ⟨S8x128x64x64, .f32⟩
  | 50 => ⟨S8x128x64x1, .f32⟩
  | 51 => ⟨S8x128x64x128, .f32⟩
  | 52 => ⟨S8x128x64x128, .f32⟩
  | 53 => ⟨S8x128x64x64, .f32⟩
  | 54 => ⟨S8x128x64x64, .f32⟩
  | 55 => ⟨S_, .f32⟩
  | 56 => ⟨S_, .f32⟩
  | 57 => ⟨S8x128x64x64, .i1⟩
  | 58 => ⟨S8x128x64x64, .f32⟩
  | 59 => ⟨S8x128x64x64, .f32⟩
  | 60 => ⟨S_, .f32⟩
  | 61 => ⟨S8x128x64x64, .f32⟩
  | 62 => ⟨S8x128x64x64, .f32⟩
  | 63 => ⟨S1x1x64x64, .f32⟩
  | 64 => ⟨S8x128x64x64, .f32⟩
  | 65 => ⟨S8x128x64x64, .f32⟩
  | 66 => ⟨S8x128x64x64, .f32⟩
  | 67 => ⟨S8x128x64x64, .f32⟩
  | 68 => ⟨S1x1x64x64, .f32⟩
  | 69 => ⟨S8x128x64x64, .f32⟩
  | 70 => ⟨S8x128x64x64, .f32⟩
  | 71 => ⟨S8x128x64x64, .f32⟩
  | 72 => ⟨S8x128x64x1, .f32⟩
  | 73 => ⟨S8x128x64x128, .f32⟩
  | 74 => ⟨S8x128x64x128, .f32⟩
  | 75 => ⟨S8x128x64x128, .f32⟩
  | 76 => ⟨S8x128x64, .f32⟩
  | 77 => ⟨S8x128x64x1, .f32⟩
  | 78 => ⟨S8x128x64x128, .f32⟩
  | 79 => ⟨S8x128x64x128, .f32⟩
  | 80 => ⟨S8x128x64x128, .f32⟩
  | 81 => ⟨S8x128x64x64, .f32⟩
  | 82 => ⟨S8x128x64x64, .f32⟩
  | 83 => ⟨S_, .f32⟩
  | 84 => ⟨S_, .f32⟩
  | 85 => ⟨S8x128x64x64, .i1⟩
  | 86 => ⟨S8x128x64x64, .f32⟩
  | 87 => ⟨S8x128x64x64, .f32⟩
  | 88 => ⟨S_, .f32⟩
  | 89 => ⟨S8x128x64x64, .f32⟩
  | 90 => ⟨S8x128x64, .f32⟩
  | 91 => ⟨S8x128x64x1, .f32⟩
  | 92 => ⟨S8x128x64x128, .f32⟩
  | 93 => ⟨S8x128x64x128, .f32⟩
  | 94 => ⟨S8x128x1, .f32⟩
  | 95 => ⟨S8x128, .f32⟩
  | 96 => ⟨S8x128x1, .f32⟩
  | 97 => ⟨S8x128x64, .f32⟩
  | 98 => ⟨S8x128x64, .f32⟩
  | 99 => ⟨S8x128x64, .f32⟩
  | 100 => ⟨S8x128x64x1, .f32⟩
  | 101 => ⟨S8x128x64x128, .f32⟩
  | 102 => ⟨S8x128x64x128, .f32⟩
  | 103 => ⟨S8x128, .f32⟩
  | 104 => ⟨S128x8x64x128, .f32⟩
  | 105 => ⟨S128x8x64x128, .f32⟩
  | 106 => ⟨S128x8x64x64, .f32⟩
  | 107 => ⟨S128x8x64x128, .f32⟩
  | 108 => ⟨S128x8x64x128, .f32⟩
  | 109 => ⟨S128x8, .f32⟩
  | 110 => ⟨S8x128, .f32⟩
  | 111 => ⟨S8x128x64x128, .f32⟩
  | 112 => ⟨S8x128x64x128, .f32⟩
  | 113 => ⟨S8x128x64x64, .f32⟩
  | 114 => ⟨S8x128x64x128, .f32⟩
  | 115 => ⟨S8x128x64x128, .f32⟩
  | 116 => ⟨S8x128, .f32⟩
  | 117 => ⟨S8x128x64x128, .f32⟩
  | 118 => ⟨S_, .f32⟩
  | 119 => ⟨S8x128x64, .f32⟩
  | 120 => ⟨S8x128x64x1, .f32⟩
  | 121 => ⟨S8x128x64x128, .f32⟩
  | 122 => ⟨S8x128x64x128, .f32⟩
  | 123 => ⟨S_, .f32⟩
  | 124 => ⟨S8x128x64, .f32⟩
  | 125 => ⟨S8x128x64, .f32⟩
  | 126 => ⟨S_, .f32⟩
  | 127 => ⟨S8x128, .f32⟩
  | _ => ⟨S8192x2048, .f32⟩

abbrev hbmTy0_3 (i : Nat) : BufTy := match i % 128 with
  | 0 => ⟨S8x128x1, .f32⟩
  | 1 => ⟨S8x128x64, .f32⟩
  | 2 => ⟨S_, .f32⟩
  | 3 => ⟨S8x128, .f32⟩
  | 4 => ⟨S8x128, .f32⟩
  | 5 => ⟨S8x128x1, .f32⟩
  | 6 => ⟨S_, .f32⟩
  | 7 => ⟨S8x128x64, .f32⟩
  | 8 => ⟨S8x128x64, .f32⟩
  | 9 => ⟨S8x128x64x128, .f32⟩
  | 10 => ⟨S_, .f32⟩
  | 11 => ⟨S8x128x64, .f32⟩
  | 12 => ⟨S8x128x64x1, .f32⟩
  | 13 => ⟨S8x128x64x128, .f32⟩
  | 14 => ⟨S8x128x64x128, .f32⟩
  | 15 => ⟨S_, .f32⟩
  | 16 => ⟨S8x128x64, .f32⟩
  | 17 => ⟨S8x128x64, .f32⟩
  | 18 => ⟨S8x128x64, .f32⟩
  | 19 => ⟨S_, .f32⟩
  | 20 => ⟨S8x128x64x64, .f32⟩
  | 21 => ⟨S8x128x64x64, .f32⟩
  | 22 => ⟨S8x128x64x64, .f32⟩
  | 23 => ⟨S8x128x64x64, .f32⟩
  | 24 => ⟨S8x128x64x128, .f32⟩
  | 25 => ⟨S8x128x64x128, .f32⟩
  | 26 => ⟨S8x128x64x128, .f32⟩
  | 27 => ⟨S8x128x64x128, .f32⟩
  | 28 => ⟨S8x128x128x64, .f32⟩
  | 29 => ⟨S8x128x64x128, .f32⟩
  | 30 => ⟨S8x128x64x64, .f32⟩
  | 31 => ⟨S8x128x64x128, .f32⟩
  | 32 => ⟨S_, .f32⟩
  | 33 => ⟨S8x128x64, .f32⟩
  | 34 => ⟨S8x128x64x1, .f32⟩
  | 35 => ⟨S8x128x64x128, .f32⟩
  | 36 => ⟨S8x128x64x128, .f32⟩
  | 37 => ⟨S_, .f32⟩
  | 38 => ⟨S8x128x64, .f32⟩
  | 39 => ⟨S8x128x64, .f32⟩
  | 40 => ⟨S8x128x64, .f32⟩
  | 41 => ⟨S8x128x128x64, .f32⟩
  | 42 => ⟨S8x128x64x128, .f32⟩
  | 43 => ⟨S8x128x64x64, .f32⟩
  | 44 => ⟨S8x128x64x64, .f32⟩
  | 45 => ⟨S8x128x64x128, .f32⟩
  | 46 => ⟨S_, .f32⟩
  | 47 => ⟨S8x128x64, .f32⟩
  | 48 => ⟨S8x128x64x1, .f32⟩
  | 49 => ⟨S8x128x64x128, .f32⟩
  | 50 => ⟨S8x128x64x128, .f32⟩
  | 51 => ⟨S_, .f32⟩
  | 52 => ⟨S8x128x64, .f32⟩
  | 53 => ⟨S8x128x64x64, .f32⟩
  | 54 => ⟨S8x128x64x64, .f32⟩
  | 55 => ⟨S8x128x64x64, .f32⟩
  | 56 => ⟨S8x128x64x64, .f32⟩
  | 57 => ⟨S_, .f32⟩
  | 58 => ⟨S8x128x64x64, .f32⟩
  | 59 => ⟨S8x128x64x64, .f32⟩
  | 60 => ⟨S8x128x64x64, .f32⟩
  | 61 => ⟨S8x128x64x64, .f32⟩
  | 62 => ⟨S8x128x64x64, .f32⟩
  | 63 => ⟨S8x128x64x128, .f32⟩
  | 64 => ⟨S8x128x64x128, .f32⟩
  | 65 => ⟨S8x128x64x128, .f32⟩
  | 66 => ⟨S8x128x64x128, .f32⟩
  | 67 => ⟨S8x128x64x128, .f32⟩
  | 68 => ⟨S_, .f32⟩
  | 69 => ⟨S8x128x64, .f32⟩
  | 70 => ⟨S8x128x64x1, .f32⟩
  | 71 => ⟨S8x128x64x128, .f32⟩
  | 72 => ⟨S8x128x64x128, .f32⟩
  | 73 => ⟨S8x128x64x128, .f32⟩
  | 74 => ⟨S_, .f32⟩
  | 75 => ⟨S8x128x64, .f32⟩
  | 76 => ⟨S8x128x64, .f32⟩
  | 77 => ⟨S8x128x64x64, .f32⟩
  | 78 => ⟨S_, .f32⟩
  | 79 => ⟨S8x128x64x64, .f32⟩
  | 80 => ⟨S8x128x64x64, .f32⟩
  | 81 => ⟨S_, .f32⟩
  | 82 => ⟨S8x128x64, .f32⟩
  | 83 => ⟨S8x128x64x1, .f32⟩
  | 84 => ⟨S8x128x64x64, .f32⟩
  | 85 => ⟨S_, .f32⟩
  | 86 => ⟨S8x128x64, .f32⟩
  | 87 => ⟨S8x128x1x64, .f32⟩
  | 88 => ⟨S_, .f32⟩
  | 89 => ⟨S8x128x64, .f32⟩
  | 90 => ⟨S8x128x64, .f32⟩
  | 91 => ⟨S_, .f32⟩
  | 92 => ⟨S8x128x64, .f32⟩
  | 93 => ⟨S8x128x64, .f32⟩
  | 94 => ⟨S_, .f32⟩
  | 95 => ⟨S_, .f32⟩
  | 96 => ⟨S8x128x64, .f32⟩
  | 97 => ⟨S128x64x8, .f32⟩
  | 98 => ⟨S8192x8, .f32⟩
  | 99 => ⟨S128x64x8, .f32⟩
  | 100 => ⟨S8192x8, .f32⟩
  | 101 => ⟨S128x64x8x128, .f32⟩
  | 102 => ⟨S8192x8x128, .f32⟩
  | 103 => ⟨S128x64x8x128, .f32⟩
  | 104 => ⟨S8192x8x128, .f32⟩
  | 105 => ⟨S128x64x8x128, .f32⟩
  | 106 => ⟨S8192x8x128, .f32⟩
  | 107 => ⟨S_, .f32⟩
  | 108 => ⟨S8192x8x128, .f32⟩
  | 109 => ⟨S8192x8x128, .f32⟩
  | 110 => ⟨S_, .f32⟩
  | 111 => ⟨S8192x128, .f32⟩
  | 112 => ⟨S_, .f32⟩
  | 113 => ⟨S8192x128, .f32⟩
  | 114 => ⟨S8192x128, .f32⟩
  | 115 => ⟨S8192x1024, .f32⟩
  | 116 => ⟨S8192x1024, .f32⟩
  | 117 => ⟨S8192x1024, .f32⟩
  | 118 => ⟨S_, .f32⟩
  | 119 => ⟨S8192x2048, .f32⟩
  | 120 => ⟨S_, .f32⟩
  | 121 => ⟨S8192x2048, .f32⟩
  | 122 => ⟨S8192x2048, .f32⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_call0_cst : Ref sig .tc := ⟨.hbm, 48, rfl⟩
abbrev main_call0_call0_v0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_1 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_3 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_4 : Ref sig .tc := ⟨.hbm, 114, rfl⟩
abbrev main_v91 : Ref sig .tc := ⟨.hbm, 115, rfl⟩
abbrev main_cst_5 : Ref sig .tc := ⟨.hbm, 116, rfl⟩
abbrev main_v92 : Ref sig .tc := ⟨.hbm, 117, rfl⟩
abbrev main_cst_6 : Ref sig .tc := ⟨.hbm, 118, rfl⟩
abbrev main_v93 : Ref sig .tc := ⟨.hbm, 119, rfl⟩
abbrev main_cst_7 : Ref sig .tc := ⟨.hbm, 120, rfl⟩
abbrev main_v94 : Ref sig .tc := ⟨.hbm, 121, rfl⟩
abbrev main_cst_8 : Ref sig .tc := ⟨.hbm, 122, rfl⟩
abbrev main_v95 : Ref sig .tc := ⟨.hbm, 123, rfl⟩
abbrev main_cst_9 : Ref sig .tc := ⟨.hbm, 124, rfl⟩
abbrev main_v96 : Ref sig .tc := ⟨.hbm, 125, rfl⟩
abbrev main_c_10 : Ref sig .tc := ⟨.hbm, 126, rfl⟩
abbrev main_v97_0 : Ref sig .tc := ⟨.hbm, 127, rfl⟩
abbrev main_v97_1 : Ref sig .tc := ⟨.hbm, 128, rfl⟩
abbrev main_v97_2 : Ref sig .tc := ⟨.hbm, 129, rfl⟩
abbrev main_v97_3 : Ref sig .tc := ⟨.hbm, 130, rfl⟩
abbrev main_v97_4 : Ref sig .tc := ⟨.hbm, 131, rfl⟩
abbrev main_v97_5 : Ref sig .tc := ⟨.hbm, 132, rfl⟩
abbrev main_v97_6 : Ref sig .tc := ⟨.hbm, 133, rfl⟩
abbrev main_v97_7 : Ref sig .tc := ⟨.hbm, 134, rfl⟩
abbrev main_v97_8 : Ref sig .tc := ⟨.hbm, 135, rfl⟩
abbrev main_v97_9 : Ref sig .tc := ⟨.hbm, 136, rfl⟩
abbrev main_v97_10 : Ref sig .tc := ⟨.hbm, 137, rfl⟩
abbrev main_v97_11 : Ref sig .tc := ⟨.hbm, 138, rfl⟩
abbrev main_v97_12 : Ref sig .tc := ⟨.hbm, 139, rfl⟩
abbrev main_v97_13 : Ref sig .tc := ⟨.hbm, 140, rfl⟩
abbrev main_v97_14 : Ref sig .tc := ⟨.hbm, 141, rfl⟩
abbrev main_v97_15 : Ref sig .tc := ⟨.hbm, 142, rfl⟩
abbrev main_while0c_c_53 : Ref sig .tc := ⟨.hbm, 143, rfl⟩
abbrev main_while0c_v301 : Ref sig .tc := ⟨.hbm, 144, rfl⟩
abbrev main_while0b_c_53 : Ref sig .tc := ⟨.hbm, 145, rfl⟩
abbrev main_while0b_v301 : Ref sig .tc := ⟨.hbm, 146, rfl⟩
abbrev main_while0b_c_54 : Ref sig .tc := ⟨.hbm, 147, rfl⟩
abbrev main_while0b_v302 : Ref sig .tc := ⟨.hbm, 148, rfl⟩
abbrev main_while0b_call4_c : Ref sig .tc := ⟨.hbm, 149, rfl⟩
abbrev main_while0b_call4_c_0 : Ref sig .tc := ⟨.hbm, 150, rfl⟩
abbrev main_while0b_call4_c_1 : Ref sig .tc := ⟨.hbm, 151, rfl⟩
abbrev main_while0b_call4_v0 : Ref sig .tc := ⟨.hbm, 152, rfl⟩
abbrev main_while0b_v303 : Ref sig .tc := ⟨.hbm, 153, rfl⟩
abbrev main_while0b_call5_c : Ref sig .tc := ⟨.hbm, 154, rfl⟩
abbrev main_while0b_call5_c_0 : Ref sig .tc := ⟨.hbm, 155, rfl⟩
abbrev main_while0b_call5_c_1 : Ref sig .tc := ⟨.hbm, 156, rfl⟩
abbrev main_while0b_call5_v0 : Ref sig .tc := ⟨.hbm, 157, rfl⟩
abbrev main_while0b_v304 : Ref sig .tc := ⟨.hbm, 158, rfl⟩
abbrev main_while0b_call6_c : Ref sig .tc := ⟨.hbm, 159, rfl⟩
abbrev main_while0b_call6_c_0 : Ref sig .tc := ⟨.hbm, 160, rfl⟩
abbrev main_while0b_call6_c_1 : Ref sig .tc := ⟨.hbm, 161, rfl⟩
abbrev main_while0b_call6_v0 : Ref sig .tc := ⟨.hbm, 162, rfl⟩
abbrev main_while0b_v305 : Ref sig .tc := ⟨.hbm, 163, rfl⟩
abbrev main_while0b_call7_c : Ref sig .tc := ⟨.hbm, 164, rfl⟩
abbrev main_while0b_call7_c_0 : Ref sig .tc := ⟨.hbm, 165, rfl⟩
abbrev main_while0b_call7_c_1 : Ref sig .tc := ⟨.hbm, 166, rfl⟩
abbrev main_while0b_call7_v0 : Ref sig .tc := ⟨.hbm, 167, rfl⟩
abbrev main_while0b_v306 : Ref sig .tc := ⟨.hbm, 168, rfl⟩
abbrev main_while0b_call8_c : Ref sig .tc := ⟨.hbm, 169, rfl⟩
abbrev main_while0b_call8_c_0 : Ref sig .tc := ⟨.hbm, 170, rfl⟩
abbrev main_while0b_call8_c_1 : Ref sig .tc := ⟨.hbm, 171, rfl⟩
abbrev main_while0b_call8_v0 : Ref sig .tc := ⟨.hbm, 172, rfl⟩
abbrev main_while0b_v307 : Ref sig .tc := ⟨.hbm, 173, rfl⟩
abbrev main_while0b_call9_c : Ref sig .tc := ⟨.hbm, 174, rfl⟩
abbrev main_while0b_call9_v0 : Ref sig .tc := ⟨.hbm, 175, rfl⟩
abbrev main_while0b_v308 : Ref sig .tc := ⟨.hbm, 176, rfl⟩
abbrev main_while0b_call10_c : Ref sig .tc := ⟨.hbm, 177, rfl⟩
abbrev main_while0b_call10_c_0 : Ref sig .tc := ⟨.hbm, 178, rfl⟩
abbrev main_while0b_call10_c_1 : Ref sig .tc := ⟨.hbm, 179, rfl⟩
abbrev main_while0b_call10_v0 : Ref sig .tc := ⟨.hbm, 180, rfl⟩
abbrev main_while0b_v309 : Ref sig .tc := ⟨.hbm, 181, rfl⟩
abbrev main_while0b_call11_c : Ref sig .tc := ⟨.hbm, 182, rfl⟩
abbrev main_while0b_call11_c_0 : Ref sig .tc := ⟨.hbm, 183, rfl⟩
abbrev main_while0b_call11_c_1 : Ref sig .tc := ⟨.hbm, 184, rfl⟩
abbrev main_while0b_call11_v0 : Ref sig .tc := ⟨.hbm, 185, rfl⟩
abbrev main_while0b_v310 : Ref sig .tc := ⟨.hbm, 186, rfl⟩
abbrev main_while0b_v311 : Ref sig .tc := ⟨.hbm, 187, rfl⟩
abbrev main_while0b_v312 : Ref sig .tc := ⟨.hbm, 188, rfl⟩
abbrev main_while0b_v313 : Ref sig .tc := ⟨.hbm, 189, rfl⟩
abbrev main_while0b_v314 : Ref sig .tc := ⟨.hbm, 190, rfl⟩
abbrev main_while0b_v315 : Ref sig .tc := ⟨.hbm, 191, rfl⟩
abbrev main_while0b_v316 : Ref sig .tc := ⟨.hbm, 192, rfl⟩
abbrev main_while0b_v317 : Ref sig .tc := ⟨.hbm, 193, rfl⟩
abbrev main_while0b_v318 : Ref sig .tc := ⟨.hbm, 194, rfl⟩
abbrev main_while0b_v319 : Ref sig .tc := ⟨.hbm, 195, rfl⟩
abbrev main_while0b_v320 : Ref sig .tc := ⟨.hbm, 196, rfl⟩
abbrev main_while0b_v321 : Ref sig .tc := ⟨.hbm, 197, rfl⟩
abbrev main_while0b_v322 : Ref sig .tc := ⟨.hbm, 198, rfl⟩
abbrev main_while0b_v323 : Ref sig .tc := ⟨.hbm, 199, rfl⟩
abbrev main_while0b_v324 : Ref sig .tc := ⟨.hbm, 200, rfl⟩
abbrev main_while0b_v325 : Ref sig .tc := ⟨.hbm, 201, rfl⟩
abbrev main_while0b_cst_55 : Ref sig .tc := ⟨.hbm, 202, rfl⟩
abbrev main_while0b_v326 : Ref sig .tc := ⟨.hbm, 203, rfl⟩
abbrev main_while0b_v327 : Ref sig .tc := ⟨.hbm, 204, rfl⟩
abbrev main_while0b_v328 : Ref sig .tc := ⟨.hbm, 205, rfl⟩
abbrev main_while0b_v329 : Ref sig .tc := ⟨.hbm, 206, rfl⟩
abbrev main_while0b_cst_56 : Ref sig .tc := ⟨.hbm, 207, rfl⟩
abbrev main_while0b_v330 : Ref sig .tc := ⟨.hbm, 208, rfl⟩
abbrev main_while0b_v331 : Ref sig .tc := ⟨.hbm, 209, rfl⟩
abbrev main_while0b_v332 : Ref sig .tc := ⟨.hbm, 210, rfl⟩
abbrev main_while0b_v333 : Ref sig .tc := ⟨.hbm, 211, rfl⟩
abbrev main_while0b_v334 : Ref sig .tc := ⟨.hbm, 212, rfl⟩
abbrev main_while0b_v335 : Ref sig .tc := ⟨.hbm, 213, rfl⟩
abbrev main_while0b_v336 : Ref sig .tc := ⟨.hbm, 214, rfl⟩
abbrev main_while0b_v337 : Ref sig .tc := ⟨.hbm, 215, rfl⟩
abbrev main_while0b_v338 : Ref sig .tc := ⟨.hbm, 216, rfl⟩
abbrev main_while0b_v339 : Ref sig .tc := ⟨.hbm, 217, rfl⟩
abbrev main_while0b_v340 : Ref sig .tc := ⟨.hbm, 218, rfl⟩
abbrev main_while0b_v341 : Ref sig .tc := ⟨.hbm, 219, rfl⟩
abbrev main_while0b_v342 : Ref sig .tc := ⟨.hbm, 220, rfl⟩
abbrev main_while0b_v343 : Ref sig .tc := ⟨.hbm, 221, rfl⟩
abbrev main_while0b_call12_v0 : Ref sig .tc := ⟨.hbm, 222, rfl⟩
abbrev main_while0b_call12_c : Ref sig .tc := ⟨.hbm, 223, rfl⟩
abbrev main_while0b_call12_c_0 : Ref sig .tc := ⟨.hbm, 224, rfl⟩
abbrev main_while0b_call12_c_1 : Ref sig .tc := ⟨.hbm, 225, rfl⟩
abbrev main_while0b_v344 : Ref sig .tc := ⟨.hbm, 226, rfl⟩
abbrev main_while0b_call13_v0 : Ref sig .tc := ⟨.hbm, 227, rfl⟩
abbrev main_while0b_call13_c : Ref sig .tc := ⟨.hbm, 228, rfl⟩
abbrev main_while0b_call13_c_0 : Ref sig .tc := ⟨.hbm, 229, rfl⟩
abbrev main_while0b_call13_c_1 : Ref sig .tc := ⟨.hbm, 230, rfl⟩
abbrev main_while0b_v345 : Ref sig .tc := ⟨.hbm, 231, rfl⟩
abbrev main_while0b_call14_v0 : Ref sig .tc := ⟨.hbm, 232, rfl⟩
abbrev main_while0b_call14_c : Ref sig .tc := ⟨.hbm, 233, rfl⟩
abbrev main_while0b_call14_c_0 : Ref sig .tc := ⟨.hbm, 234, rfl⟩
abbrev main_while0b_call14_c_1 : Ref sig .tc := ⟨.hbm, 235, rfl⟩
abbrev main_while0b_v346 : Ref sig .tc := ⟨.hbm, 236, rfl⟩
abbrev main_while0b_call15_v0 : Ref sig .tc := ⟨.hbm, 237, rfl⟩
abbrev main_while0b_call15_c : Ref sig .tc := ⟨.hbm, 238, rfl⟩
abbrev main_while0b_call15_c_0 : Ref sig .tc := ⟨.hbm, 239, rfl⟩
abbrev main_while0b_call15_c_1 : Ref sig .tc := ⟨.hbm, 240, rfl⟩
abbrev main_while0b_v347 : Ref sig .tc := ⟨.hbm, 241, rfl⟩
abbrev main_while0b_call16_v0 : Ref sig .tc := ⟨.hbm, 242, rfl⟩
abbrev main_while0b_call16_c : Ref sig .tc := ⟨.hbm, 243, rfl⟩
abbrev main_while0b_call16_c_0 : Ref sig .tc := ⟨.hbm, 244, rfl⟩
abbrev main_while0b_call16_c_1 : Ref sig .tc := ⟨.hbm, 245, rfl⟩
abbrev main_while0b_v348 : Ref sig .tc := ⟨.hbm, 246, rfl⟩
abbrev main_while0b_call17_v0 : Ref sig .tc := ⟨.hbm, 247, rfl⟩
abbrev main_while0b_call17_c : Ref sig .tc := ⟨.hbm, 248, rfl⟩
abbrev main_while0b_v349 : Ref sig .tc := ⟨.hbm, 249, rfl⟩
abbrev main_while0b_c_57 : Ref sig .tc := ⟨.hbm, 250, rfl⟩
abbrev main_while0b_v350 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩
abbrev main_v103 : Ref sig .tc := ⟨.hbm, 257, rfl⟩
abbrev main_v104 : Ref sig .tc := ⟨.hbm, 258, rfl⟩
abbrev main_v105 : Ref sig .tc := ⟨.hbm, 259, rfl⟩
abbrev main_v106 : Ref sig .tc := ⟨.hbm, 260, rfl⟩
abbrev main_v107 : Ref sig .tc := ⟨.hbm, 261, rfl⟩
abbrev main_v108 : Ref sig .tc := ⟨.hbm, 262, rfl⟩
abbrev main_v109 : Ref sig .tc := ⟨.hbm, 263, rfl⟩
abbrev main_v110 : Ref sig .tc := ⟨.hbm, 264, rfl⟩
abbrev main_c_11 : Ref sig .tc := ⟨.hbm, 265, rfl⟩
abbrev main_v111 : Ref sig .tc := ⟨.hbm, 266, rfl⟩
abbrev main_v112 : Ref sig .tc := ⟨.hbm, 267, rfl⟩
abbrev main_v113 : Ref sig .tc := ⟨.hbm, 268, rfl⟩
abbrev main_v114 : Ref sig .tc := ⟨.hbm, 269, rfl⟩
abbrev main_v115 : Ref sig .tc := ⟨.hbm, 270, rfl⟩
abbrev main_v116 : Ref sig .tc := ⟨.hbm, 271, rfl⟩
abbrev main_v117 : Ref sig .tc := ⟨.hbm, 272, rfl⟩
abbrev main_v118 : Ref sig .tc := ⟨.hbm, 273, rfl⟩
abbrev main_v119 : Ref sig .tc := ⟨.hbm, 274, rfl⟩
abbrev main_v120 : Ref sig .tc := ⟨.hbm, 275, rfl⟩
abbrev main_v121 : Ref sig .tc := ⟨.hbm, 276, rfl⟩
abbrev main_cst_12 : Ref sig .tc := ⟨.hbm, 277, rfl⟩
abbrev main_v122 : Ref sig .tc := ⟨.hbm, 278, rfl⟩
abbrev main_v123 : Ref sig .tc := ⟨.hbm, 279, rfl⟩
abbrev main_v124 : Ref sig .tc := ⟨.hbm, 280, rfl⟩
abbrev main_v125 : Ref sig .tc := ⟨.hbm, 281, rfl⟩
abbrev main_v126 : Ref sig .tc := ⟨.hbm, 282, rfl⟩
abbrev main_v127 : Ref sig .tc := ⟨.hbm, 283, rfl⟩
abbrev main_v128 : Ref sig .tc := ⟨.hbm, 284, rfl⟩
abbrev main_v129 : Ref sig .tc := ⟨.hbm, 285, rfl⟩
abbrev main_v130 : Ref sig .tc := ⟨.hbm, 286, rfl⟩
abbrev main_v131 : Ref sig .tc := ⟨.hbm, 287, rfl⟩
abbrev main_v132 : Ref sig .tc := ⟨.hbm, 288, rfl⟩
abbrev main_v133 : Ref sig .tc := ⟨.hbm, 289, rfl⟩
abbrev main_call18_call0_cst : Ref sig .tc := ⟨.hbm, 290, rfl⟩
abbrev main_call18_call0_v0 : Ref sig .tc := ⟨.hbm, 291, rfl⟩
abbrev main_v134 : Ref sig .tc := ⟨.hbm, 292, rfl⟩
abbrev main_v135 : Ref sig .tc := ⟨.hbm, 293, rfl⟩
abbrev main_v136 : Ref sig .tc := ⟨.hbm, 294, rfl⟩
abbrev main_v137 : Ref sig .tc := ⟨.hbm, 295, rfl⟩
abbrev main_v138 : Ref sig .tc := ⟨.hbm, 296, rfl⟩
abbrev main_v139 : Ref sig .tc := ⟨.hbm, 297, rfl⟩
abbrev main_cst_13 : Ref sig .tc := ⟨.hbm, 298, rfl⟩
abbrev main_call19_v0 : Ref sig .tc := ⟨.hbm, 299, rfl⟩
abbrev main_v140_1 : Ref sig .tc := ⟨.hbm, 300, rfl⟩
abbrev main_call19_v2 : Ref sig .tc := ⟨.hbm, 301, rfl⟩
abbrev main_v140_0 : Ref sig .tc := ⟨.hbm, 302, rfl⟩
abbrev main_call19_cst : Ref sig .tc := ⟨.hbm, 303, rfl⟩
abbrev main_v140_2 : Ref sig .tc := ⟨.hbm, 304, rfl⟩
abbrev main_v141 : Ref sig .tc := ⟨.hbm, 305, rfl⟩
abbrev main_v142 : Ref sig .tc := ⟨.hbm, 306, rfl⟩
abbrev main_v143 : Ref sig .tc := ⟨.hbm, 307, rfl⟩
abbrev main_v144 : Ref sig .tc := ⟨.hbm, 308, rfl⟩
abbrev main_v145 : Ref sig .tc := ⟨.hbm, 309, rfl⟩
abbrev main_v146 : Ref sig .tc := ⟨.hbm, 310, rfl⟩
abbrev main_cst_14 : Ref sig .tc := ⟨.hbm, 311, rfl⟩
abbrev main_call20_v0 : Ref sig .tc := ⟨.hbm, 312, rfl⟩
abbrev main_v147_1 : Ref sig .tc := ⟨.hbm, 313, rfl⟩
abbrev main_call20_v2 : Ref sig .tc := ⟨.hbm, 314, rfl⟩
abbrev main_v147_0 : Ref sig .tc := ⟨.hbm, 315, rfl⟩
abbrev main_call20_cst : Ref sig .tc := ⟨.hbm, 316, rfl⟩
abbrev main_v147_2 : Ref sig .tc := ⟨.hbm, 317, rfl⟩
abbrev main_v148 : Ref sig .tc := ⟨.hbm, 318, rfl⟩
abbrev main_v149 : Ref sig .tc := ⟨.hbm, 319, rfl⟩
abbrev main_v150 : Ref sig .tc := ⟨.hbm, 320, rfl⟩
abbrev main_v151 : Ref sig .tc := ⟨.hbm, 321, rfl⟩
abbrev main_v152 : Ref sig .tc := ⟨.hbm, 322, rfl⟩
abbrev main_v153 : Ref sig .tc := ⟨.hbm, 323, rfl⟩
abbrev main_v154 : Ref sig .tc := ⟨.hbm, 324, rfl⟩
abbrev main_v155 : Ref sig .tc := ⟨.hbm, 325, rfl⟩
abbrev main_v156 : Ref sig .tc := ⟨.hbm, 326, rfl⟩
abbrev main_v157 : Ref sig .tc := ⟨.hbm, 327, rfl⟩
abbrev main_v158 : Ref sig .tc := ⟨.hbm, 328, rfl⟩
abbrev main_v159 : Ref sig .tc := ⟨.hbm, 329, rfl⟩
abbrev main_v160 : Ref sig .tc := ⟨.hbm, 330, rfl⟩
abbrev main_v161 : Ref sig .tc := ⟨.hbm, 331, rfl⟩
abbrev main_v162 : Ref sig .tc := ⟨.hbm, 332, rfl⟩
abbrev main_v163 : Ref sig .tc := ⟨.hbm, 333, rfl⟩
abbrev main_v164 : Ref sig .tc := ⟨.hbm, 334, rfl⟩
abbrev main_v165 : Ref sig .tc := ⟨.hbm, 335, rfl⟩
abbrev main_v166 : Ref sig .tc := ⟨.hbm, 336, rfl⟩
abbrev main_v167 : Ref sig .tc := ⟨.hbm, 337, rfl⟩
abbrev main_v168 : Ref sig .tc := ⟨.hbm, 338, rfl⟩
abbrev main_cst_15 : Ref sig .tc := ⟨.hbm, 339, rfl⟩
abbrev main_call21_v0 : Ref sig .tc := ⟨.hbm, 340, rfl⟩
abbrev main_v169_1 : Ref sig .tc := ⟨.hbm, 341, rfl⟩
abbrev main_call21_v2 : Ref sig .tc := ⟨.hbm, 342, rfl⟩
abbrev main_v169_0 : Ref sig .tc := ⟨.hbm, 343, rfl⟩
abbrev main_call21_cst : Ref sig .tc := ⟨.hbm, 344, rfl⟩
abbrev main_v169_2 : Ref sig .tc := ⟨.hbm, 345, rfl⟩
abbrev main_v170 : Ref sig .tc := ⟨.hbm, 346, rfl⟩
abbrev main_v171 : Ref sig .tc := ⟨.hbm, 347, rfl⟩
abbrev main_v172 : Ref sig .tc := ⟨.hbm, 348, rfl⟩
abbrev main_v173 : Ref sig .tc := ⟨.hbm, 349, rfl⟩
abbrev main_v174 : Ref sig .tc := ⟨.hbm, 350, rfl⟩
abbrev main_v175 : Ref sig .tc := ⟨.hbm, 351, rfl⟩
abbrev main_v176 : Ref sig .tc := ⟨.hbm, 352, rfl⟩
abbrev main_v177 : Ref sig .tc := ⟨.hbm, 353, rfl⟩
abbrev main_v178 : Ref sig .tc := ⟨.hbm, 354, rfl⟩
abbrev main_v179 : Ref sig .tc := ⟨.hbm, 355, rfl⟩
abbrev main_v180 : Ref sig .tc := ⟨.hbm, 356, rfl⟩
abbrev main_v181 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_v185 : Ref sig .tc := ⟨.hbm, 361, rfl⟩
abbrev main_v186 : Ref sig .tc := ⟨.hbm, 362, rfl⟩
abbrev main_v187 : Ref sig .tc := ⟨.hbm, 363, rfl⟩
abbrev main_v188 : Ref sig .tc := ⟨.hbm, 364, rfl⟩
abbrev main_v189 : Ref sig .tc := ⟨.hbm, 365, rfl⟩
abbrev main_v190 : Ref sig .tc := ⟨.hbm, 366, rfl⟩
abbrev main_v191 : Ref sig .tc := ⟨.hbm, 367, rfl⟩
abbrev main_v192 : Ref sig .tc := ⟨.hbm, 368, rfl⟩
abbrev main_v193 : Ref sig .tc := ⟨.hbm, 369, rfl⟩
abbrev main_v194 : Ref sig .tc := ⟨.hbm, 370, rfl⟩
abbrev main_v195 : Ref sig .tc := ⟨.hbm, 371, rfl⟩
abbrev main_v196 : Ref sig .tc := ⟨.hbm, 372, rfl⟩
abbrev main_v197 : Ref sig .tc := ⟨.hbm, 373, rfl⟩
abbrev main_cst_16 : Ref sig .tc := ⟨.hbm, 374, rfl⟩
abbrev main_v198 : Ref sig .tc := ⟨.hbm, 375, rfl⟩
abbrev main_v199 : Ref sig .tc := ⟨.hbm, 376, rfl⟩
abbrev main_v200 : Ref sig .tc := ⟨.hbm, 377, rfl⟩
abbrev main_v201 : Ref sig .tc := ⟨.hbm, 378, rfl⟩
abbrev main_cst_17 : Ref sig .tc := ⟨.hbm, 379, rfl⟩
abbrev main_v202 : Ref sig .tc := ⟨.hbm, 380, rfl⟩
abbrev main_v203 : Ref sig .tc := ⟨.hbm, 381, rfl⟩
abbrev main_cst_18 : Ref sig .tc := ⟨.hbm, 382, rfl⟩
abbrev main_v204 : Ref sig .tc := ⟨.hbm, 383, rfl⟩
abbrev main_v205 : Ref sig .tc := ⟨.hbm, 384, rfl⟩
abbrev main_v206 : Ref sig .tc := ⟨.hbm, 385, rfl⟩
abbrev main_cst_19 : Ref sig .tc := ⟨.hbm, 386, rfl⟩
abbrev main_v207 : Ref sig .tc := ⟨.hbm, 387, rfl⟩
abbrev main_v208 : Ref sig .tc := ⟨.hbm, 388, rfl⟩
abbrev main_v209 : Ref sig .tc := ⟨.hbm, 389, rfl⟩
abbrev main_cst_20 : Ref sig .tc := ⟨.hbm, 390, rfl⟩
abbrev main_v210 : Ref sig .tc := ⟨.hbm, 391, rfl⟩
abbrev main_v211 : Ref sig .tc := ⟨.hbm, 392, rfl⟩
abbrev main_v212 : Ref sig .tc := ⟨.hbm, 393, rfl⟩
abbrev main_cst_21 : Ref sig .tc := ⟨.hbm, 394, rfl⟩
abbrev main_v213 : Ref sig .tc := ⟨.hbm, 395, rfl⟩
abbrev main_v214 : Ref sig .tc := ⟨.hbm, 396, rfl⟩
abbrev main_v215 : Ref sig .tc := ⟨.hbm, 397, rfl⟩
abbrev main_v216 : Ref sig .tc := ⟨.hbm, 398, rfl⟩
abbrev main_cst_22 : Ref sig .tc := ⟨.hbm, 399, rfl⟩
abbrev main_v217 : Ref sig .tc := ⟨.hbm, 400, rfl⟩
abbrev main_v218 : Ref sig .tc := ⟨.hbm, 401, rfl⟩
abbrev main_v219 : Ref sig .tc := ⟨.hbm, 402, rfl⟩
abbrev main_call22_cst : Ref sig .tc := ⟨.hbm, 403, rfl⟩
abbrev main_call22_v0 : Ref sig .tc := ⟨.hbm, 404, rfl⟩
abbrev main_v220 : Ref sig .tc := ⟨.hbm, 405, rfl⟩
abbrev main_v221 : Ref sig .tc := ⟨.hbm, 406, rfl⟩
abbrev main_v222 : Ref sig .tc := ⟨.hbm, 407, rfl⟩
abbrev main_v223 : Ref sig .tc := ⟨.hbm, 408, rfl⟩
abbrev main_v224 : Ref sig .tc := ⟨.hbm, 409, rfl⟩
abbrev main_v225 : Ref sig .tc := ⟨.hbm, 410, rfl⟩
abbrev main_v226 : Ref sig .tc := ⟨.hbm, 411, rfl⟩
abbrev main_v227 : Ref sig .tc := ⟨.hbm, 412, rfl⟩
abbrev main_v228 : Ref sig .tc := ⟨.hbm, 413, rfl⟩
abbrev main_v229 : Ref sig .tc := ⟨.hbm, 414, rfl⟩
abbrev main_v230 : Ref sig .tc := ⟨.hbm, 415, rfl⟩
abbrev main_cst_23 : Ref sig .tc := ⟨.hbm, 416, rfl⟩
abbrev main_v231 : Ref sig .tc := ⟨.hbm, 417, rfl⟩
abbrev main_v232 : Ref sig .tc := ⟨.hbm, 418, rfl⟩
abbrev main_v233 : Ref sig .tc := ⟨.hbm, 419, rfl⟩
abbrev main_v234 : Ref sig .tc := ⟨.hbm, 420, rfl⟩
abbrev main_cst_24 : Ref sig .tc := ⟨.hbm, 421, rfl⟩
abbrev main_v235 : Ref sig .tc := ⟨.hbm, 422, rfl⟩
abbrev main_v236 : Ref sig .tc := ⟨.hbm, 423, rfl⟩
abbrev main_v237 : Ref sig .tc := ⟨.hbm, 424, rfl⟩
abbrev main_v238 : Ref sig .tc := ⟨.hbm, 425, rfl⟩
abbrev main_v239 : Ref sig .tc := ⟨.hbm, 426, rfl⟩
abbrev main_v240 : Ref sig .tc := ⟨.hbm, 427, rfl⟩
abbrev main_v241 : Ref sig .tc := ⟨.hbm, 428, rfl⟩
abbrev main_v242 : Ref sig .tc := ⟨.hbm, 429, rfl⟩
abbrev main_cst_25 : Ref sig .tc := ⟨.hbm, 430, rfl⟩
abbrev main_v243 : Ref sig .tc := ⟨.hbm, 431, rfl⟩
abbrev main_v244 : Ref sig .tc := ⟨.hbm, 432, rfl⟩
abbrev main_v245 : Ref sig .tc := ⟨.hbm, 433, rfl⟩
abbrev main_v246 : Ref sig .tc := ⟨.hbm, 434, rfl⟩
abbrev main_cst_26 : Ref sig .tc := ⟨.hbm, 435, rfl⟩
abbrev main_v247 : Ref sig .tc := ⟨.hbm, 436, rfl⟩
abbrev main_v248 : Ref sig .tc := ⟨.hbm, 437, rfl⟩
abbrev main_v249 : Ref sig .tc := ⟨.hbm, 438, rfl⟩
abbrev main_v250 : Ref sig .tc := ⟨.hbm, 439, rfl⟩
abbrev main_v251 : Ref sig .tc := ⟨.hbm, 440, rfl⟩
abbrev main_call23_cst : Ref sig .tc := ⟨.hbm, 441, rfl⟩
abbrev main_call23_v0 : Ref sig .tc := ⟨.hbm, 442, rfl⟩
abbrev main_v252 : Ref sig .tc := ⟨.hbm, 443, rfl⟩
abbrev main_v253 : Ref sig .tc := ⟨.hbm, 444, rfl⟩
abbrev main_v254 : Ref sig .tc := ⟨.hbm, 445, rfl⟩
abbrev main_v255 : Ref sig .tc := ⟨.hbm, 446, rfl⟩
abbrev main_v256 : Ref sig .tc := ⟨.hbm, 447, rfl⟩
abbrev main_v257 : Ref sig .tc := ⟨.hbm, 448, rfl⟩
abbrev main_v258 : Ref sig .tc := ⟨.hbm, 449, rfl⟩
abbrev main_v259 : Ref sig .tc := ⟨.hbm, 450, rfl⟩
abbrev main_v260 : Ref sig .tc := ⟨.hbm, 451, rfl⟩
abbrev main_cst_27 : Ref sig .tc := ⟨.hbm, 452, rfl⟩
abbrev main_v261 : Ref sig .tc := ⟨.hbm, 453, rfl⟩
abbrev main_v262 : Ref sig .tc := ⟨.hbm, 454, rfl⟩
abbrev main_v263 : Ref sig .tc := ⟨.hbm, 455, rfl⟩
abbrev main_v264 : Ref sig .tc := ⟨.hbm, 456, rfl⟩
abbrev main_v265 : Ref sig .tc := ⟨.hbm, 457, rfl⟩
abbrev main_cst_28 : Ref sig .tc := ⟨.hbm, 458, rfl⟩
abbrev main_v266 : Ref sig .tc := ⟨.hbm, 459, rfl⟩
abbrev main_v267 : Ref sig .tc := ⟨.hbm, 460, rfl⟩
abbrev main_v268 : Ref sig .tc := ⟨.hbm, 461, rfl⟩
abbrev main_call24_cst : Ref sig .tc := ⟨.hbm, 462, rfl⟩
abbrev main_call24_v0 : Ref sig .tc := ⟨.hbm, 463, rfl⟩
abbrev main_v269 : Ref sig .tc := ⟨.hbm, 464, rfl⟩
abbrev main_cst_29 : Ref sig .tc := ⟨.hbm, 465, rfl⟩
abbrev main_v270 : Ref sig .tc := ⟨.hbm, 466, rfl⟩
abbrev main_v271 : Ref sig .tc := ⟨.hbm, 467, rfl⟩
abbrev main_v272 : Ref sig .tc := ⟨.hbm, 468, rfl⟩
abbrev main_cst_30 : Ref sig .tc := ⟨.hbm, 469, rfl⟩
abbrev main_v273 : Ref sig .tc := ⟨.hbm, 470, rfl⟩
abbrev main_v274 : Ref sig .tc := ⟨.hbm, 471, rfl⟩
abbrev main_cst_31 : Ref sig .tc := ⟨.hbm, 472, rfl⟩
abbrev main_v275 : Ref sig .tc := ⟨.hbm, 473, rfl⟩
abbrev main_v276 : Ref sig .tc := ⟨.hbm, 474, rfl⟩
abbrev main_cst_32 : Ref sig .tc := ⟨.hbm, 475, rfl⟩
abbrev main_v277 : Ref sig .tc := ⟨.hbm, 476, rfl⟩
abbrev main_v278 : Ref sig .tc := ⟨.hbm, 477, rfl⟩
abbrev main_call25_call0_cst : Ref sig .tc := ⟨.hbm, 478, rfl⟩
abbrev main_call25_call0_v0 : Ref sig .tc := ⟨.hbm, 479, rfl⟩
abbrev main_v279 : Ref sig .tc := ⟨.hbm, 480, rfl⟩
abbrev main_v280 : Ref sig .tc := ⟨.hbm, 481, rfl⟩
abbrev main_v281 : Ref sig .tc := ⟨.hbm, 482, rfl⟩
abbrev main_v282 : Ref sig .tc := ⟨.hbm, 483, rfl⟩
abbrev main_v283 : Ref sig .tc := ⟨.hbm, 484, rfl⟩
abbrev main_v284 : Ref sig .tc := ⟨.hbm, 485, rfl⟩
abbrev main_v285 : Ref sig .tc := ⟨.hbm, 486, rfl⟩
abbrev main_v286 : Ref sig .tc := ⟨.hbm, 487, rfl⟩
abbrev main_v287 : Ref sig .tc := ⟨.hbm, 488, rfl⟩
abbrev main_v288 : Ref sig .tc := ⟨.hbm, 489, rfl⟩
abbrev main_v289 : Ref sig .tc := ⟨.hbm, 490, rfl⟩
abbrev main_cst_33 : Ref sig .tc := ⟨.hbm, 491, rfl⟩
abbrev main_v290 : Ref sig .tc := ⟨.hbm, 492, rfl⟩
abbrev main_v291 : Ref sig .tc := ⟨.hbm, 493, rfl⟩
abbrev main_cst_34 : Ref sig .tc := ⟨.hbm, 494, rfl⟩
abbrev main_v292 : Ref sig .tc := ⟨.hbm, 495, rfl⟩
abbrev main_cst_35 : Ref sig .tc := ⟨.hbm, 496, rfl⟩
abbrev main_v293 : Ref sig .tc := ⟨.hbm, 497, rfl⟩
abbrev main_v294 : Ref sig .tc := ⟨.hbm, 498, rfl⟩
abbrev main_v295 : Ref sig .tc := ⟨.hbm, 499, rfl⟩
abbrev main_v296 : Ref sig .tc := ⟨.hbm, 500, rfl⟩
abbrev main_v297 : Ref sig .tc := ⟨.hbm, 501, rfl⟩
abbrev main_cst_36 : Ref sig .tc := ⟨.hbm, 502, rfl⟩
abbrev main_v298 : Ref sig .tc := ⟨.hbm, 503, rfl⟩
abbrev main_cst_37 : Ref sig .tc := ⟨.hbm, 504, rfl⟩
abbrev main_v299 : Ref sig .tc := ⟨.hbm, 505, rfl⟩
abbrev main_v300 : Ref sig .tc := ⟨.hbm, 506, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .bf16⟩
  | .hbm, ⟨10, _⟩ => ⟨S8192x2048, .bf16⟩
  | .hbm, ⟨11, _⟩ => ⟨S8192x8192, .bf16⟩
  | .hbm, ⟨12, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel3.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S4096x1024 : Shape := ⟨2, ![4096, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8192x2048, .bf16⟩
  | .hbm, ⟨11, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel4.lean ====
abbrev S8192x2048 : Shape := ⟨2, ![8192, 2048]⟩
abbrev S2048x8192 : Shape := ⟨2, ![2048, 8192]⟩
abbrev S8192x8192 : Shape := ⟨2, ![8192, 8192]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .bf16⟩
  | .hbm, ⟨4, _⟩ => ⟨S2048x8192, .bf16⟩
  | .hbm, ⟨5, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S8192x8192 : Shape := ⟨2, ![8192, 8192]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x2048, .bf16⟩
  | .hbm, ⟨4, _⟩ => ⟨S8192x8192, .bf16⟩
  | .hbm, ⟨5, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | .hbm, ⟨5, _⟩ => ⟨S2048x8192, .f32⟩
  | .hbm, ⟨6, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8192, .bf16⟩
  | .hbm, ⟨4, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S8192x2048, .bf16⟩
  | .hbm, ⟨10, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8192x2048 : Shape := ⟨2, ![8192, 2048]⟩
abbrev S2048x4096 : Shape := ⟨2, ![2048, 4096]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .bf16⟩
  | .hbm, ⟨4, _⟩ => ⟨S2048x4096, .bf16⟩
  | .hbm, ⟨5, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S8192x2048 : Shape := ⟨2, ![8192, 2048]⟩
abbrev S2048x4096 : Shape := ⟨2, ![2048, 4096]⟩
abbrev S8192x4096 : Shape := ⟨2, ![8192, 4096]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x2048, .bf16⟩
  | .hbm, ⟨4, _⟩ => ⟨S8192x4096, .bf16⟩
  | .hbm, ⟨5, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x4096 : Shape := ⟨2, ![2048, 4096]⟩
abbrev S8192x4096 : Shape := ⟨2, ![8192, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .f32⟩
  | .hbm, ⟨4, _⟩ => ⟨S4096x2048, .f32⟩
  | .hbm, ⟨5, _⟩ => ⟨S2048x4096, .f32⟩
  | .hbm, ⟨6, _⟩ => ⟨S2048x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S8192x2048 : Shape := ⟨2, ![8192, 2048]⟩
abbrev S2048x5136 : Shape := ⟨2, ![2048, 5136]⟩
abbrev S8192x5136 : Shape := ⟨2, ![8192, 5136]⟩
abbrev S8192x4096 : Shape := ⟨2, ![8192, 4096]⟩
abbrev S8192x1024 : Shape := ⟨2, ![8192, 1024]⟩
abbrev S8192x16 : Shape := ⟨2, ![8192, 16]⟩
abbrev S_ : Shape := ⟨0, ![]⟩
abbrev S8192x240 : Shape := ⟨2, ![8192, 240]⟩
abbrev S8192x5376 : Shape := ⟨2, ![8192, 5376]⟩
abbrev S2048x4096 : Shape := ⟨2, ![2048, 4096]⟩
abbrev S2048x1024 : Shape := ⟨2, ![2048, 1024]⟩
abbrev S2048x16 : Shape := ⟨2, ![2048, 16]⟩
abbrev S2048x240 : Shape := ⟨2, ![2048, 240]⟩
abbrev S2048x5376 : Shape := ⟨2, ![2048, 5376]⟩
abbrev S1024x2688 : Shape := ⟨2, ![1024, 2688]⟩
abbrev S1024x1024 : Shape := ⟨2, ![1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5136, .f32⟩
  | .hbm, ⟨2, _⟩ => ⟨S8192x5136, .f32⟩
  | .hbm, ⟨3, _⟩ => ⟨S8192x5136, .bf16⟩
  | .hbm, ⟨4, _⟩ => ⟨S8192x4096, .bf16⟩
  | .hbm, ⟨5, _⟩ => ⟨S8192x1024, .bf16⟩
  | .hbm, ⟨6, _⟩ => ⟨S8192x16, .bf16⟩
  | .hbm, ⟨7, _⟩ => ⟨S_, .bf16⟩
  | .hbm, ⟨8, _⟩ => ⟨S8192x240, .bf16⟩
  | .hbm, ⟨9, _⟩ => ⟨S8192x5376, .bf16⟩
  | .hbm, ⟨10, _⟩ => ⟨S2048x5136, .bf16⟩
  | .hbm, ⟨11, _⟩ => ⟨S2048x4096, .bf16⟩
  | .hbm, ⟨12, _⟩ => ⟨S2048x1024, .bf16⟩
  | .hbm, ⟨13, _⟩ => ⟨S2048x16, .bf16⟩
  | .hbm, ⟨14, _⟩ => ⟨S_, .bf16⟩
  | .hbm, ⟨15, _⟩ => ⟨S2048x240, .bf16⟩
  | .hbm, ⟨16, _⟩ => ⟨S2048x5376, .bf16⟩
  | .hbm, ⟨17, _⟩ => ⟨S8192x2048, .f32⟩
  | .local _ .vmem, ⟨0, _⟩ => ⟨S1024x2688, .bf16⟩
  | .local _ .vmem, ⟨1, _⟩ => ⟨S1024x2688, .bf16⟩
  | .local _ .vmem, ⟨2, _⟩ => ⟨S1024x2688, .bf16⟩
  | .local _ .vmem, ⟨3, _⟩ => ⟨S1024x2688, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x5136 : Shape := ⟨2, ![2048, 5136]⟩
abbrev S8192x5136 : Shape := ⟨2, ![8192, 5136]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5136, .f32⟩
  | .hbm, ⟨2, _⟩ => ⟨S8192x5136, .f32⟩
  | .hbm, ⟨3, _⟩ => ⟨S8192x5136, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S8192x2048 : Shape := ⟨2, ![8192, 2048]⟩
abbrev S2048x5136 : Shape := ⟨2, ![2048, 5136]⟩
abbrev S8192x5136 : Shape := ⟨2, ![8192, 5136]⟩
abbrev S8192x4096 : Shape := ⟨2, ![8192, 4096]⟩
abbrev S8192x1024 : Shape := ⟨2, ![8192, 1024]⟩
abbrev S8192x16 : Shape := ⟨2, ![8192, 16]⟩
abbrev S_ : Shape := ⟨0, ![]⟩
abbrev S8192x240 : Shape := ⟨2, ![8192, 240]⟩
abbrev S8192x5376 : Shape := ⟨2, ![8192, 5376]⟩
abbrev S2048x5376 : Shape := ⟨2, ![2048, 5376]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5136, .f32⟩
  | .hbm, ⟨2, _⟩ => ⟨S8192x5136, .f32⟩
  | .hbm, ⟨3, _⟩ => ⟨S8192x5136, .bf16⟩
  | .hbm, ⟨4, _⟩ => ⟨S8192x4096, .bf16⟩
  | .hbm, ⟨5, _⟩ => ⟨S8192x1024, .bf16⟩
  | .hbm, ⟨6, _⟩ => ⟨S8192x16, .bf16⟩
  | .hbm, ⟨7, _⟩ => ⟨S_, .bf16⟩
  | .hbm, ⟨8, _⟩ => ⟨S8192x240, .bf16⟩
  | .hbm, ⟨9, _⟩ => ⟨S8192x5376, .bf16⟩
  | .hbm, ⟨10, _⟩ => ⟨S8192x2048, .bf16⟩
  | .hbm, ⟨11, _⟩ => ⟨S2048x5376, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x5136 : Shape := ⟨2, ![2048, 5136]⟩
abbrev S8192x5136 : Shape := ⟨2, ![8192, 5136]⟩
abbrev S5136x2048 : Shape := ⟨2, ![5136, 2048]⟩
abbrev S2048x4096 : Shape := ⟨2, ![2048, 4096]⟩
abbrev S2048x16 : Shape := ⟨2, ![2048, 16]⟩
abbrev S2048x1024 : Shape := ⟨2, ![2048, 1024]⟩
abbrev S_ : Shape := ⟨0, ![]⟩
abbrev S2048x240 : Shape := ⟨2, ![2048, 240]⟩
abbrev S2048x5376 : Shape := ⟨2, ![2048, 5376]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5136, .f32⟩
  | .hbm, ⟨2, _⟩ => ⟨S8192x5136, .f32⟩
  | .hbm, ⟨3, _⟩ => ⟨S8192x5136, .f32⟩
  | .hbm, ⟨4, _⟩ => ⟨S5136x2048, .f32⟩
  | .hbm, ⟨5, _⟩ => ⟨S2048x5136, .f32⟩
  | .hbm, ⟨6, _⟩ => ⟨S2048x4096, .f32⟩
  | .hbm, ⟨7, _⟩ => ⟨S2048x16, .f32⟩
  | .hbm, ⟨8, _⟩ => ⟨S2048x1024, .f32⟩
  | .hbm, ⟨9, _⟩ => ⟨S_, .f32⟩
  | .hbm, ⟨10, _⟩ => ⟨S2048x240, .f32⟩
  | .hbm, ⟨11, _⟩ => ⟨S2048x5376, .f32⟩
  | .hbm, ⟨12, _⟩ => ⟨S2048x5376, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel16.lean ====
abbrev S8192x2048 : Shape := ⟨2, ![8192, 2048]⟩
abbrev S2048x5136 : Shape := ⟨2, ![2048, 5136]⟩
abbrev S2048x4096 : Shape := ⟨2, ![2048, 4096]⟩
abbrev S2048x1024 : Shape := ⟨2, ![2048, 1024]⟩
abbrev S2048x16 : Shape := ⟨2, ![2048, 16]⟩
abbrev S_ : Shape := ⟨0, ![]⟩
abbrev S2048x240 : Shape := ⟨2, ![2048, 240]⟩
abbrev S2048x5376 : Shape := ⟨2, ![2048, 5376]⟩
abbrev S8192x5376 : Shape := ⟨2, ![8192, 5376]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 11
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5136, .f32⟩
  | .hbm, ⟨2, _⟩ => ⟨S8192x2048, .bf16⟩
  | .hbm, ⟨3, _⟩ => ⟨S2048x5136, .bf16⟩
  | .hbm, ⟨4, _⟩ => ⟨S2048x4096, .bf16⟩
  | .hbm, ⟨5, _⟩ => ⟨S2048x1024, .bf16⟩
  | .hbm, ⟨6, _⟩ => ⟨S2048x16, .bf16⟩
  | .hbm, ⟨7, _⟩ => ⟨S_, .bf16⟩
  | .hbm, ⟨8, _⟩ => ⟨S2048x240, .bf16⟩
  | .hbm, ⟨9, _⟩ => ⟨S2048x5376, .bf16⟩
  | .hbm, ⟨10, _⟩ => ⟨S8192x5376, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x5136 : Shape := ⟨2, ![2048, 5136]⟩
abbrev S8192x5136 : Shape := ⟨2, ![8192, 5136]⟩
abbrev S8192x4096 : Shape := ⟨2, ![8192, 4096]⟩
abbrev S8192x16 : Shape := ⟨2, ![8192, 16]⟩
abbrev S8192x1024 : Shape := ⟨2, ![8192, 1024]⟩
abbrev S_ : Shape := ⟨0, ![]⟩
abbrev S8192x240 : Shape := ⟨2, ![8192, 240]⟩
abbrev S8192x5376 : Shape := ⟨2, ![8192, 5376]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5136, .f32⟩
  | .hbm, ⟨2, _⟩ => ⟨S8192x5136, .f32⟩
  | .hbm, ⟨3, _⟩ => ⟨S8192x4096, .f32⟩
  | .hbm, ⟨4, _⟩ => ⟨S8192x16, .f32⟩
  | .hbm, ⟨5, _⟩ => ⟨S8192x1024, .f32⟩
  | .hbm, ⟨6, _⟩ => ⟨S_, .f32⟩
  | .hbm, ⟨7, _⟩ => ⟨S8192x240, .f32⟩
  | .hbm, ⟨8, _⟩ => ⟨S8192x5376, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference17Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel18.lean ====
abbrev S2x512x2048 : Shape := ⟨3, ![2, 512, 2048]⟩
abbrev S2097152 : Shape := ⟨1, ![2097152]⟩
abbrev S1024x2048 : Shape := ⟨2, ![1024, 2048]⟩
abbrev S128x2048 : Shape := ⟨2, ![128, 2048]⟩

abbrev nBuf : Space → Nat
  | .hbm => 16
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2097152, .f32⟩
  | .hbm, ⟨5, _⟩ => ⟨S1024x2048, .f32⟩
  | .hbm, ⟨6, _⟩ => ⟨S2097152, .f32⟩
  | .hbm, ⟨7, _⟩ => ⟨S1024x2048, .f32⟩
  | .hbm, ⟨8, _⟩ => ⟨S2097152, .f32⟩
  | .hbm, ⟨9, _⟩ => ⟨S1024x2048, .f32⟩
  | .hbm, ⟨10, _⟩ => ⟨S2097152, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference18Ideal.lean ====
abbrev S2x512x2048 : Shape := ⟨3, ![2, 512, 2048]⟩
abbrev S_ : Shape := ⟨0, ![]⟩
abbrev S1024x2048 : Shape := ⟨2, ![1024, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel19.lean ====
abbrev S2x2048x1024 : Shape := ⟨3, ![2, 2048, 1024]⟩
abbrev S4194304 : Shape := ⟨1, ![4194304]⟩
abbrev S2048x2048 : Shape := ⟨2, ![2048, 2048]⟩
abbrev S128x2048 : Shape := ⟨2, ![128, 2048]⟩

abbrev nBuf : Space → Nat
  | .hbm => 16
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S4194304, .f32⟩
  | .hbm, ⟨5, _⟩ => ⟨S2048x2048, .f32⟩
  | .hbm, ⟨6, _⟩ => ⟨S4194304, .f32⟩
  | .hbm, ⟨7, _⟩ => ⟨S2048x2048, .f32⟩
  | .hbm, ⟨8, _⟩ => ⟨S4194304, .f32⟩
  | .hbm, ⟨9, _⟩ => ⟨S2048x2048, .f32⟩
  | .hbm, ⟨10, _⟩ => ⟨S4194304, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference19Ideal.lean ====
abbrev S2x2048x1024 : Shape := ⟨3, ![2, 2048, 1024]⟩
abbrev S_ : Shape := ⟨0, ![]⟩
abbrev S2048x2048 : Shape := ⟨2, ![2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048x1024, .f32⟩
  | .hbm, ⟨36, _⟩ => ⟨S2x2048x1024, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel20.lean ====
abbrev S4x2048x2048 : Shape := ⟨3, ![4, 2048, 2048]⟩
abbrev S16777216 : Shape := ⟨1, ![16777216]⟩
abbrev S8192x2048 : Shape := ⟨2, ![8192, 2048]⟩
abbrev S128x2048 : Shape := ⟨2, ![128, 2048]⟩

abbrev nBuf : Space → Nat
  | .hbm => 16
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S16777216, .f32⟩
  | .hbm, ⟨5, _⟩ => ⟨S8192x2048, .f32⟩
  | .hbm, ⟨6, _⟩ => ⟨S16777216, .f32⟩
  | .hbm, ⟨7, _⟩ => ⟨S8192x2048, .f32⟩
  | .hbm, ⟨8, _⟩ => ⟨S16777216, .f32⟩
  | .hbm, ⟨9, _⟩ => ⟨S8192x2048, .f32⟩
  | .hbm, ⟨10, _⟩ => ⟨S16777216, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel20Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference20Ideal.lean ====
abbrev S4x2048x2048 : Shape := ⟨3, ![4, 2048, 2048]⟩
abbrev S_ : Shape := ⟨0, ![]⟩
abbrev S8192x2048 : Shape := ⟨2, ![8192, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S_, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel21.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .bf16⟩
  | .local _ .vmem, ⟨6, _⟩ => ⟨S128x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference21Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel22.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S1x2048, .f32⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference22Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x2048, .f32⟩
  | .hbm, ⟨81, _⟩ => ⟨S8192x2048, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel23.lean ====
abbrev S8192x4096 : Shape := ⟨2, ![8192, 4096]⟩
abbrev S8192x2048 : Shape := ⟨2, ![8192, 2048]⟩
abbrev S128x1024 : Shape := ⟨2, ![128, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .bf16⟩
  | .hbm, ⟨3, _⟩ => ⟨S8192x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference23Ideal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel24.lean ====
abbrev S8192x1024 : Shape := ⟨2, ![8192, 1024]⟩
abbrev S1x1024 : Shape := ⟨2, ![1, 1024]⟩
abbrev S8192x2048 : Shape := ⟨2, ![8192, 2048]⟩
abbrev S128x1024 : Shape := ⟨2, ![128, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .f32⟩
  | .hbm, ⟨3, _⟩ => ⟨S8192x1024, .bf16⟩
  | .hbm, ⟨4, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .bf16⟩
  | .local _ .vmem, ⟨6, _⟩ => ⟨S128x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference24Ideal.lean ====
abbrev S8192x1024 : Shape := ⟨2, ![8192, 1024]⟩
abbrev S1x1024 : Shape := ⟨2, ![1, 1024]⟩
abbrev S8192x2048 : Shape := ⟨2, ![8192, 2048]⟩
abbrev S_ : Shape := ⟨0, ![]⟩
abbrev S1024 : Shape := ⟨1, ![1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference25Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 87
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x2048, .f32⟩
  | .hbm, ⟨86, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]
-- ==== Kernel26.lean ====
abbrev S8192x1024 : Shape := ⟨2, ![8192, 1024]⟩
abbrev S8192x5376 : Shape := ⟨2, ![8192, 5376]⟩
abbrev S1x128 : Shape := ⟨2, ![1, 128]⟩
abbrev S8192x2048 : Shape := ⟨2, ![8192, 2048]⟩
abbrev S1024x128 : Shape := ⟨2, ![1024, 128]⟩
abbrev S1024 : Shape := ⟨1, ![1024]⟩
abbrev S1024x1 : Shape := ⟨2, ![1024, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x128, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference26Ideal.lean ====
abbrev S8192x1024 : Shape := ⟨2, ![8192, 1024]⟩
abbrev S8192x5376 : Shape := ⟨2, ![8192, 5376]⟩
abbrev S1x128 : Shape := ⟨2, ![1, 128]⟩
abbrev S8192x2048 : Shape := ⟨2, ![8192, 2048]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S128 : Shape := ⟨1, ![128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x128, .f32⟩
  | .hbm, ⟨3, _⟩ => ⟨S8192x2048, .f32⟩
  | .hbm, ⟨4, _⟩ => ⟨S8192x8x128, .f32⟩
  | .hbm, ⟨5, _⟩ => ⟨S8192x1024, .f32⟩
  | .hbm, ⟨6, _⟩ => ⟨S8192x8x128, .f32⟩
  | .hbm, ⟨7, _⟩ => ⟨S8192x8x128, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x128, .f32⟩
  | .hbm, ⟨23, _⟩ => ⟨S8192x8x128, .f32⟩
  | .hbm, ⟨24, _⟩ => ⟨S1x1x128, .f32⟩
  | .hbm, ⟨25, _⟩ => ⟨S8192x8x128, .f32⟩
  | .hbm, ⟨26, _⟩ => ⟨S8192x8x128, .f32⟩
  | .hbm, ⟨27, _⟩ => ⟨S8192x8x128, .f32⟩
  | .hbm, ⟨28, _⟩ => ⟨S8192x8x128, .f32⟩
  | .hbm, ⟨29, _⟩ => ⟨S_, .f32⟩
  | .hbm, ⟨30, _⟩ => ⟨S8192x8x128, .f32⟩
  | .hbm, ⟨31, _⟩ => ⟨S8192x8x128, .f32⟩
  | .hbm, ⟨32, _⟩ => ⟨S_, .f32⟩
  | .hbm, ⟨33, _⟩ => ⟨S8192x8x128, .f32⟩
  | .hbm, ⟨34, _⟩ => ⟨S8192x8x128, .f32⟩
  | .hbm, ⟨35, _⟩ => ⟨S_, .f32⟩
  | .hbm, ⟨36, _⟩ => ⟨S8192x8x128, .f32⟩
  | .hbm, ⟨37, _⟩ => ⟨S8192x8x128, .f32⟩
  | .hbm, ⟨38, _⟩ => ⟨S8192x8x128, .f32⟩
  | .hbm, ⟨39, _⟩ => ⟨S8192x8x128, .f32⟩
  | .hbm, ⟨40, _⟩ => ⟨S8192x8x128, .f32⟩
  | .hbm, ⟨41, _⟩ => ⟨S8192x1024, .f32⟩
  | .hbm, ⟨42, _⟩ => ⟨S8192x8x128, .f32⟩
  | .hbm, ⟨43, _⟩ => ⟨S8192x8x128, .f32⟩
  | .hbm, ⟨44, _⟩ => ⟨S8192x8x128, .f32⟩
  | .hbm, ⟨45, _⟩ => ⟨S8192x8x128, .f32⟩
  | .hbm, ⟨46, _⟩ => ⟨S8192x8x128, .f32⟩
  | .hbm, ⟨47, _⟩ => ⟨S8192x8x128, .f32⟩
  | .hbm, ⟨48, _⟩ => ⟨S8192x8x128, .f32⟩
  | .hbm, ⟨49, _⟩ => ⟨S8192x8x128, .f32⟩
  | .hbm, ⟨50, _⟩ => ⟨S_, .f32⟩
  | .hbm, ⟨51, _⟩ => ⟨S128, .f32⟩
  | .hbm, ⟨52, _⟩ => ⟨S1x1x128, .f32⟩
  | .hbm, ⟨53, _⟩ => ⟨S8192x8x128, .f32⟩
  | .hbm, ⟨54, _⟩ => ⟨S8192x8x128, .f32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S8192x8x128, .f32⟩
  | .hbm, ⟨59, _⟩ => ⟨S_, .f32⟩
  | .hbm, ⟨60, _⟩ => ⟨S8192x8, .f32⟩
  | .hbm, ⟨61, _⟩ => ⟨S8192x8x1, .f32⟩
  | .hbm, ⟨62, _⟩ => ⟨S8192x8x128, .f32⟩
  | .hbm, ⟨63, _⟩ => ⟨S8192x8x128, .f32⟩
  | .hbm, ⟨64, _⟩ => ⟨S8192x8x1, .f32⟩
  | .hbm, ⟨65, _⟩ => ⟨S_, .f32⟩
  | .hbm, ⟨66, _⟩ => ⟨S8192x8x1, .f32⟩
  | .hbm, ⟨67, _⟩ => ⟨S8192x8x1, .f32⟩
  | .hbm, ⟨68, _⟩ => ⟨S_, .f32⟩
  | .hbm, ⟨69, _⟩ => ⟨S8192x8, .f32⟩
  | .hbm, ⟨70, _⟩ => ⟨S8192x8x128, .f32⟩
  | .hbm, ⟨71, _⟩ => ⟨S8192x8x128, .f32⟩
  | .hbm, ⟨72, _⟩ => ⟨S8192x8x128, .f32⟩
  | .hbm, ⟨73, _⟩ => ⟨S8192x8x128, .f32⟩
  | .hbm, ⟨74, _⟩ => ⟨S8192x8x128, .f32⟩
  | .hbm, ⟨75, _⟩ => ⟨S8192x1024, .f32⟩
  | .hbm, ⟨76, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Kernel27.lean ====
abbrev S8192x3072 : Shape := ⟨2, ![8192, 3072]⟩
abbrev S8192x1024 : Shape := ⟨2, ![8192, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S8192x3072 : Shape := ⟨2, ![8192, 3072]⟩
abbrev S8192x1024 : Shape := ⟨2, ![8192, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v1_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v1_1 : Ref sig .tc := ⟨.hbm, 14, rfl⟩
abbrev main_v1_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v2 : Ref sig .tc := ⟨.hbm, 19, rfl⟩

abbrev nD : Nat := 1
abbrev τ : Topo := Topo.v7x

variable {F : FTy → Type} [FloatOps F]
-- ==== Kernel28.lean ====
abbrev S4x2048 : Shape := ⟨2, ![4, 2048]⟩
abbrev S8192 : Shape := ⟨1, ![8192]⟩
abbrev S_ : Shape := ⟨0, ![]⟩
abbrev S262144 : Shape := ⟨1, ![262144]⟩
abbrev S128x2048 : Shape := ⟨2, ![128, 2048]⟩

abbrev nBuf : Space → Nat
  | .hbm => 28
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel28Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference28Ideal.lean ====
abbrev S4x2048 : Shape := ⟨2, ![4, 2048]⟩
abbrev S8192 : Shape := ⟨1, ![8192]⟩
abbrev S_ : Shape := ⟨0, ![]⟩
abbrev S262144 : Shape := ⟨1, ![262144]⟩
abbrev S128x2048 : Shape := ⟨2, ![128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S_, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S_, .f32⟩
  | .hbm, ⟨55, _⟩ => ⟨S128x2048, .f32⟩
  | .hbm, ⟨56, _⟩ => ⟨S128x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel29.lean ====
abbrev S2x4x768 : Shape := ⟨3, ![2, 4, 768]⟩
abbrev S6144 : Shape := ⟨1, ![6144]⟩
abbrev S_ : Shape := ⟨0, ![]⟩
abbrev S262144 : Shape := ⟨1, ![262144]⟩
abbrev S128x2048 : Shape := ⟨2, ![128, 2048]⟩

abbrev nBuf : Space → Nat
  | .hbm => 28
  | .vmem => 8
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S6144, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S6144, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S6144, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S6144, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel29Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference29Ideal.lean ====
abbrev S2x4x768 : Shape := ⟨3, ![2, 4, 768]⟩
abbrev S6144 : Shape := ⟨1, ![6144]⟩
abbrev S_ : Shape := ⟨0, ![]⟩
abbrev S262144 : Shape := ⟨1, ![262144]⟩
abbrev S128x2048 : Shape := ⟨2, ![128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S6144, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S6144, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S6144, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S6144, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S_, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S_, .f32⟩
  | .hbm, ⟨55, _⟩ => ⟨S128x2048, .f32⟩
  | .hbm, ⟨56, _⟩ => ⟨S128x2048, .f32⟩
  | _, _ => ⟨S2x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel30.lean ====
abbrev S2x8 : Shape := ⟨2, ![2, 8]⟩
abbrev S16 : Shape := ⟨1, ![16]⟩
abbrev S_ : Shape := ⟨0, ![]⟩
abbrev S262144 : Shape := ⟨1, ![262144]⟩
abbrev S128x2048 : Shape := ⟨2, ![128, 2048]⟩

abbrev nBuf : Space → Nat
  | .hbm => 28
  | .vmem => 8
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel30Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference30Ideal.lean ====
abbrev S2x8 : Shape := ⟨2, ![2, 8]⟩
abbrev S16 : Shape := ⟨1, ![16]⟩
abbrev S_ : Shape := ⟨0, ![]⟩
abbrev S262144 : Shape := ⟨1, ![262144]⟩
abbrev S128x2048 : Shape := ⟨2, ![128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S_, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S_, .f32⟩
  | .hbm, ⟨55, _⟩ => ⟨S128x2048, .f32⟩
  | .hbm, ⟨56, _⟩ => ⟨S128x2048, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel31.lean ====
abbrev S2x128 : Shape := ⟨2, ![2, 128]⟩
abbrev S256 : Shape := ⟨1, ![256]⟩
abbrev S_ : Shape := ⟨0, ![]⟩
abbrev S262144 : Shape := ⟨1, ![262144]⟩
abbrev S128x2048 : Shape := ⟨2, ![128, 2048]⟩

abbrev nBuf : Space → Nat
  | .hbm => 28
  | .vmem => 8
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S256, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S256, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel31Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference31Ideal.lean ====
abbrev S2x128 : Shape := ⟨2, ![2, 128]⟩
abbrev S256 : Shape := ⟨1, ![256]⟩
abbrev S_ : Shape := ⟨0, ![]⟩
abbrev S262144 : Shape := ⟨1, ![262144]⟩
abbrev S128x2048 : Shape := ⟨2, ![128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S256, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S256, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S_, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S_, .f32⟩
  | .hbm, ⟨55, _⟩ => ⟨S128x2048, .f32⟩
  | .hbm, ⟨56, _⟩ => ⟨S128x2048, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel32.lean ====
abbrev S2x4x64x256 : Shape := ⟨4, ![2, 4, 64, 256]⟩
abbrev S131072 : Shape := ⟨1, ![131072]⟩
abbrev S_ : Shape := ⟨0, ![]⟩
abbrev S262144 : Shape := ⟨1, ![262144]⟩
abbrev S128x2048 : Shape := ⟨2, ![128, 2048]⟩

abbrev nBuf : Space → Nat
  | .hbm => 28
  | .vmem => 8
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S131072, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S131072, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S131072, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S131072, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | _, _ => ⟨S2x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel32Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference32Ideal.lean ====
abbrev S2x4x64x256 : Shape := ⟨4, ![2, 4, 64, 256]⟩
abbrev S131072 : Shape := ⟨1, ![131072]⟩
abbrev S_ : Shape := ⟨0, ![]⟩
abbrev S262144 : Shape := ⟨1, ![262144]⟩
abbrev S128x2048 : Shape := ⟨2, ![128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S131072, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S131072, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S131072, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S131072, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S_, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S_, .f32⟩
  | .hbm, ⟨55, _⟩ => ⟨S128x2048, .f32⟩
  | .hbm, ⟨56, _⟩ => ⟨S128x2048, .f32⟩
  | _, _ => ⟨S2x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel33.lean ====
abbrev S2x1024 : Shape := ⟨2, ![2, 1024]⟩
abbrev S2048 : Shape := ⟨1, ![2048]⟩
abbrev S_ : Shape := ⟨0, ![]⟩
abbrev S262144 : Shape := ⟨1, ![262144]⟩
abbrev S128x2048 : Shape := ⟨2, ![128, 2048]⟩

abbrev nBuf : Space → Nat
  | .hbm => 28
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S2048, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S2048, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel33Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference33Ideal.lean ====
abbrev S2x1024 : Shape := ⟨2, ![2, 1024]⟩
abbrev S2048 : Shape := ⟨1, ![2048]⟩
abbrev S_ : Shape := ⟨0, ![]⟩
abbrev S262144 : Shape := ⟨1, ![262144]⟩
abbrev S128x2048 : Shape := ⟨2, ![128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S2048, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S2048, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S2048, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S_, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S_, .f32⟩
  | .hbm, ⟨55, _⟩ => ⟨S128x2048, .f32⟩
  | .hbm, ⟨56, _⟩ => ⟨S128x2048, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel34.lean ====
abbrev S2x31x512 : Shape := ⟨3, ![2, 31, 512]⟩
abbrev S31744 : Shape := ⟨1, ![31744]⟩
abbrev S_ : Shape := ⟨0, ![]⟩
abbrev S262144 : Shape := ⟨1, ![262144]⟩
abbrev S128x2048 : Shape := ⟨2, ![128, 2048]⟩

abbrev nBuf : Space → Nat
  | .hbm => 28
  | .vmem => 8
  | .smem => 0
  | _ => 0

abbrev bufTy : (tb : Table) → Fin (tcTables nBuf tb) → BufTy
  | .hbm, ⟨0, _⟩ => ⟨S2x31x512, .f32⟩
  | .hbm, ⟨1, _⟩ => ⟨S2x31x512, .f32⟩
  | .hbm, ⟨2, _⟩ => ⟨S2x31x512, .f32⟩
  | .hbm, ⟨3, _⟩ => ⟨S2x31x512, .f32⟩
  | .hbm, ⟨4, _⟩ => ⟨S31744, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S31744, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S31744, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S31744, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | _, _ => ⟨S2x31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel34Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference34Ideal.lean ====
abbrev S2x31x512 : Shape := ⟨3, ![2, 31, 512]⟩
abbrev S31744 : Shape := ⟨1, ![31744]⟩
abbrev S_ : Shape := ⟨0, ![]⟩
abbrev S262144 : Shape := ⟨1, ![262144]⟩
abbrev S128x2048 : Shape := ⟨2, ![128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x31x512, .f32⟩
  | .hbm, ⟨1, _⟩ => ⟨S2x31x512, .f32⟩
  | .hbm, ⟨2, _⟩ => ⟨S2x31x512, .f32⟩
  | .hbm, ⟨3, _⟩ => ⟨S2x31x512, .f32⟩
  | .hbm, ⟨4, _⟩ => ⟨S31744, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S31744, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S31744, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S31744, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S_, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S_, .f32⟩
  | .hbm, ⟨55, _⟩ => ⟨S128x2048, .f32⟩
  | .hbm, ⟨56, _⟩ => ⟨S128x2048, .f32⟩
  | _, _ => ⟨S2x31x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel35.lean ====
abbrev S2x512 : Shape := ⟨2, ![2, 512]⟩
abbrev S1024 : Shape := ⟨1, ![1024]⟩
abbrev S_ : Shape := ⟨0, ![]⟩
abbrev S262144 : Shape := ⟨1, ![262144]⟩
abbrev S128x2048 : Shape := ⟨2, ![128, 2048]⟩

abbrev nBuf : Space → Nat
  | .hbm => 28
  | .vmem => 8
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S1024, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S1024, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel35Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference35Ideal.lean ====
abbrev S2x512 : Shape := ⟨2, ![2, 512]⟩
abbrev S1024 : Shape := ⟨1, ![1024]⟩
abbrev S_ : Shape := ⟨0, ![]⟩
abbrev S262144 : Shape := ⟨1, ![262144]⟩
abbrev S128x2048 : Shape := ⟨2, ![128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S262144, .f32⟩
  | .hbm, ⟨8, _⟩ => ⟨S128x2048, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S262144, .f32⟩
  | .hbm, ⟨13, _⟩ => ⟨S128x2048, .f32⟩
  | .hbm, ⟨14, _⟩ => ⟨S1024, .f32⟩
  | .hbm, ⟨15, _⟩ => ⟨S_, .f32⟩
  | .hbm, ⟨16, _⟩ => ⟨S_, .f32⟩
  | .hbm, ⟨17, _⟩ => ⟨S262144, .f32⟩
  | .hbm, ⟨18, _⟩ => ⟨S128x2048, .f32⟩
  | .hbm, ⟨19, _⟩ => ⟨S1024, .f32⟩
  | .hbm, ⟨20, _⟩ => ⟨S_, .f32⟩
  | .hbm, ⟨21, _⟩ => ⟨S_, .f32⟩
  | .hbm, ⟨22, _⟩ => ⟨S262144, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S_, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .f32⟩
  | .hbm, ⟨42, _⟩ => ⟨S_, .f32⟩
  | .hbm, ⟨43, _⟩ => ⟨S128x2048, .f32⟩
  | .hbm, ⟨44, _⟩ => ⟨S128x2048, .f32⟩
  | .hbm, ⟨45, _⟩ => ⟨S128x2048, .f32⟩
  | .hbm, ⟨46, _⟩ => ⟨S_, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S_, .f32⟩
  | .hbm, ⟨51, _⟩ => ⟨S128x2048, .f32⟩
  | .hbm, ⟨52, _⟩ => ⟨S128x2048, .f32⟩
  | .hbm, ⟨53, _⟩ => ⟨S128x2048, .f32⟩
  | .hbm, ⟨54, _⟩ => ⟨S_, .f32⟩
  | .hbm, ⟨55, _⟩ => ⟨S128x2048, .f32⟩
  | .hbm, ⟨56, _⟩ => ⟨S128x2048, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel36.lean ====
abbrev S2x2048x1284 : Shape := ⟨3, ![2, 2048, 1284]⟩
abbrev S5259264 : Shape := ⟨1, ![5259264]⟩
abbrev S_ : Shape := ⟨0, ![]⟩
abbrev S5505024 : Shape := ⟨1, ![5505024]⟩
abbrev S2688x2048 : Shape := ⟨2, ![2688, 2048]⟩
abbrev S128x2048 : Shape := ⟨2, ![128, 2048]⟩

abbrev nBuf : Space → Nat
  | .hbm => 28
  | .vmem => 16
  | .smem => 0
  | _ => 0

abbrev bufTy : (tb : Table) → Fin (tcTables nBuf tb) → BufTy
  | .hbm, ⟨0, _⟩ => ⟨S2x2048x1284, .f32⟩
  | .hbm, ⟨1, _⟩ => ⟨S2x2048x1284, .f32⟩
  | .hbm, ⟨2, _⟩ => ⟨S2x2048x1284, .f32⟩
  | .hbm, ⟨3, _⟩ => ⟨S2x2048x1284, .f32⟩
  | .hbm, ⟨4, _⟩ => ⟨S5259264, .f32⟩
  | .hbm, ⟨5, _⟩ => ⟨S_, .f32⟩
  | .hbm, ⟨6, _⟩ => ⟨S_, .f32⟩
  | .hbm, ⟨7, _⟩ => ⟨S5505024, .f32⟩
  | .hbm, ⟨8, _⟩ => ⟨S2688x2048, .f32⟩
  | .hbm, ⟨9, _⟩ => ⟨S5259264, .f32⟩
  | .hbm, ⟨10, _⟩ => ⟨S_, .f32⟩
  | .hbm, ⟨11, _⟩ => ⟨S_, .f32⟩
  | .hbm, ⟨12, _⟩ => ⟨S5505024, .f32⟩
  | .hbm, ⟨13, _⟩ => ⟨S2688x2048, .f32⟩
  | .hbm, ⟨14, _⟩ => ⟨S5259264, .f32⟩
  | .hbm, ⟨15, _⟩ => ⟨S_, .f32⟩
  | .hbm, ⟨16, _⟩ => ⟨S_, .f32⟩
  | .hbm, ⟨17, _⟩ => ⟨S5505024, .f32⟩
  | .hbm, ⟨18, _⟩ => ⟨S2688x2048, .f32⟩
  | .hbm, ⟨19, _⟩ => ⟨S5259264, .f32⟩
  | .hbm, ⟨20, _⟩ => ⟨S_, .f32⟩
  | .hbm, ⟨21, _⟩ => ⟨S_, .f32⟩
  | .hbm, ⟨22, _⟩ => ⟨S5505024, .f32⟩
  | .hbm, ⟨23, _⟩ => ⟨S2688x2048, .f32⟩
  | .hbm, ⟨24, _⟩ => ⟨S2688x2048, .f32⟩
  | .hbm, ⟨25, _⟩ => ⟨S2688x2048, .f32⟩
  | .hbm, ⟨26, _⟩ => ⟨S2688x2048, .f32⟩
  | .hbm, ⟨27, _⟩ => ⟨S2688x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S2x2048x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel36Ideal.lean ====
variable {F : FTy → Type} [FloatOps F] [Named F]
def κ : String → Option EReal := fun
  | "inv_left1" => some (((5463681 / 8388608)⁻¹ : ℝ) : EReal)
  | "inv_left2" => some (((2672307 / 268435456)⁻¹ : ℝ) : EReal)
  | _ => none
-- ==== Reference36Ideal.lean ====
abbrev S2x2048x1284 : Shape := ⟨3, ![2, 2048, 1284]⟩
abbrev S5259264 : Shape := ⟨1, ![5259264]⟩
abbrev S_ : Shape := ⟨0, ![]⟩
abbrev S5505024 : Shape := ⟨1, ![5505024]⟩
abbrev S2688x2048 : Shape := ⟨2, ![2688, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1284, .f32⟩
  | .hbm, ⟨1, _⟩ => ⟨S2x2048x1284, .f32⟩
  | .hbm, ⟨2, _⟩ => ⟨S2x2048x1284, .f32⟩
  | .hbm, ⟨3, _⟩ => ⟨S2x2048x1284, .f32⟩
  | .hbm, ⟨4, _⟩ => ⟨S5259264, .f32⟩
  | .hbm, ⟨5, _⟩ => ⟨S_, .f32⟩
  | .hbm, ⟨6, _⟩ => ⟨S_, .f32⟩
  | .hbm, ⟨7, _⟩ => ⟨S5505024, .f32⟩
  | .hbm, ⟨8, _⟩ => ⟨S2688x2048, .f32⟩
  | .hbm, ⟨9, _⟩ => ⟨S5259264, .f32⟩
  | .hbm, ⟨10, _⟩ => ⟨S_, .f32⟩
  | .hbm, ⟨11, _⟩ => ⟨S_, .f32⟩
  | .hbm, ⟨12, _⟩ => ⟨S5505024, .f32⟩
  | .hbm, ⟨13, _⟩ => ⟨S2688x2048, .f32⟩
  | .hbm, ⟨14, _⟩ => ⟨S5259264, .f32⟩
  | .hbm, ⟨15, _⟩ => ⟨S_, .f32⟩
  | .hbm, ⟨16, _⟩ => ⟨S_, .f32⟩
  | .hbm, ⟨17, _⟩ => ⟨S5505024, .f32⟩
  | .hbm, ⟨18, _⟩ => ⟨S2688x2048, .f32⟩
  | .hbm, ⟨19, _⟩ => ⟨S5259264, .f32⟩
  | .hbm, ⟨20, _⟩ => ⟨S_, .f32⟩
  | .hbm, ⟨21, _⟩ => ⟨S_, .f32⟩
  | .hbm, ⟨22, _⟩ => ⟨S5505024, .f32⟩
  | .hbm, ⟨23, _⟩ => ⟨S2688x2048, .f32⟩
  | .hbm, ⟨24, _⟩ => ⟨S_, .f32⟩
  | .hbm, ⟨25, _⟩ => ⟨S2688x2048, .f32⟩
  | .hbm, ⟨26, _⟩ => ⟨S2688x2048, .f32⟩
  | .hbm, ⟨27, _⟩ => ⟨S_, .f32⟩
  | .hbm, ⟨28, _⟩ => ⟨S2688x2048, .f32⟩
  | .hbm, ⟨29, _⟩ => ⟨S2688x2048, .f32⟩
  | .hbm, ⟨30, _⟩ => ⟨S2688x2048, .f32⟩
  | .hbm, ⟨31, _⟩ => ⟨S_, .f32⟩
  | .hbm, ⟨32, _⟩ => ⟨S2688x2048, .f32⟩
  | .hbm, ⟨33, _⟩ => ⟨S2688x2048, .f32⟩
  | .hbm, ⟨34, _⟩ => ⟨S2688x2048, .f32⟩
  | .hbm, ⟨35, _⟩ => ⟨S_, .f32⟩
  | .hbm, ⟨36, _⟩ => ⟨S2688x2048, .f32⟩
  | .hbm, ⟨37, _⟩ => ⟨S2688x2048, .f32⟩
  | .hbm, ⟨38, _⟩ => ⟨S2688x2048, .f32⟩
  | .hbm, ⟨39, _⟩ => ⟨S_, .f32⟩
  | .hbm, ⟨40, _⟩ => ⟨S2688x2048, .f32⟩
  | .hbm, ⟨41, _⟩ => ⟨S2688x2048, .f32⟩
  | .hbm, ⟨42, _⟩ => ⟨S_, .f32⟩
  | .hbm, ⟨43, _⟩ => ⟨S2688x2048, .f32⟩
  | .hbm, ⟨44, _⟩ => ⟨S2688x2048, .f32⟩
  | .hbm, ⟨45, _⟩ => ⟨S2688x2048, .f32⟩
  | .hbm, ⟨46, _⟩ => ⟨S_, .f32⟩
  | .hbm, ⟨47, _⟩ => ⟨S2688x2048, .f32⟩
  | .hbm, ⟨48, _⟩ => ⟨S2688x2048, .f32⟩
  | .hbm, ⟨49, _⟩ => ⟨S2688x2048, .f32⟩
  | .hbm, ⟨50, _⟩ => ⟨S_, .f32⟩
  | .hbm, ⟨51, _⟩ => ⟨S2688x2048, .f32⟩
  | .hbm, ⟨52, _⟩ => ⟨S2688x2048, .f32⟩
  | .hbm, ⟨53, _⟩ => ⟨S2688x2048, .f32⟩
  | .hbm, ⟨54, _⟩ => ⟨S_, .f32⟩
  | .hbm, ⟨55, _⟩ => ⟨S2688x2048, .f32⟩
  | .hbm, ⟨56, _⟩ => ⟨S2688x2048, .f32⟩
  | _, _ => ⟨S2x2048x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel37.lean ====
abbrev S8192x2048 : Shape := ⟨2, ![8192, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference37Ideal.lean ====
abbrev S8192x2048 : Shape := ⟨2, ![8192, 2048]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel38.lean ====
abbrev S8192x3072 : Shape := ⟨2, ![8192, 3072]⟩
abbrev S8192x1024 : Shape := ⟨2, ![8192, 1024]⟩
abbrev S1024x128 : Shape := ⟨2, ![1024, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference38Ideal.lean ====
abbrev S8192x3072 : Shape := ⟨2, ![8192, 3072]⟩
abbrev S8192x1024 : Shape := ⟨2, ![8192, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v1 : Ref sig .tc := ⟨.hbm, 10, rfl⟩

abbrev nD : Nat := 1
abbrev τ : Topo := Topo.v7x

variable {F : FTy → Type} [FloatOps F]
-- ==== Kernel39.lean ====
abbrev S8192x4096 : Shape := ⟨2, ![8192, 4096]⟩
abbrev S8192x2048 : Shape := ⟨2, ![8192, 2048]⟩
abbrev S256x1024 : Shape := ⟨2, ![256, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference39Ideal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel40.lean ====
abbrev S8192x1024 : Shape := ⟨2, ![8192, 1024]⟩
abbrev S1x1024 : Shape := ⟨2, ![1, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference40Ideal.lean ====
abbrev S8192x1024 : Shape := ⟨2, ![8192, 1024]⟩
abbrev S1x1024 : Shape := ⟨2, ![1, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel41.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference41Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel42.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference42Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel43.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference43Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel44.lean ====
abbrev S8192x1024 : Shape := ⟨2, ![8192, 1024]⟩
abbrev S8192x5376 : Shape := ⟨2, ![8192, 5376]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x128, .f32⟩
  | .hbm, ⟨3, _⟩ => ⟨S8192x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference44Ideal.lean ====
abbrev S8192x1024 : Shape := ⟨2, ![8192, 1024]⟩
abbrev S8192x5376 : Shape := ⟨2, ![8192, 5376]⟩
abbrev S1x128 : Shape := ⟨2, ![1, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x128, .f32⟩
  | .hbm, ⟨3, _⟩ => ⟨S8192x8x128, .f32⟩
  | .hbm, ⟨4, _⟩ => ⟨S8192x8x128, .f32⟩
  | .hbm, ⟨5, _⟩ => ⟨S_, .f32⟩
  | .hbm, ⟨6, _⟩ => ⟨S8192x8, .f32⟩
  | .hbm, ⟨7, _⟩ => ⟨S8192x8x1, .f32⟩
  | .hbm, ⟨8, _⟩ => ⟨S_, .f32⟩
  | .hbm, ⟨9, _⟩ => ⟨S8192x8x1, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S8192x8x1, .f32⟩
  | .hbm, ⟨15, _⟩ => ⟨S8192x8x128, .f32⟩
  | .hbm, ⟨16, _⟩ => ⟨S8192x8x128, .f32⟩
  | .hbm, ⟨17, _⟩ => ⟨S1x1x128, .f32⟩
  | .hbm, ⟨18, _⟩ => ⟨S8192x8x128, .f32⟩
  | .hbm, ⟨19, _⟩ => ⟨S8192x8x128, .f32⟩
  | .hbm, ⟨20, _⟩ => ⟨S8192x1024, .f32⟩
  | .hbm, ⟨21, _⟩ => ⟨S8192x8x128, .f32⟩
  | .hbm, ⟨22, _⟩ => ⟨S8192x8x128, .f32⟩
  | .hbm, ⟨23, _⟩ => ⟨S8192x8x128, .f32⟩
  | .hbm, ⟨24, _⟩ => ⟨S_, .f32⟩
  | .hbm, ⟨25, _⟩ => ⟨S8192x8x128, .f32⟩
  | .hbm, ⟨26, _⟩ => ⟨S8192x8x128, .f32⟩
  | .hbm, ⟨27, _⟩ => ⟨S_, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel45.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .bf16⟩
  | .local _ .vmem, ⟨5, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference45Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel46.lean ====
abbrev S8192x3072 : Shape := ⟨2, ![8192, 3072]⟩
abbrev S8192x2048 : Shape := ⟨2, ![8192, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x3072, .f32⟩
  | .hbm, ⟨1, _⟩ => ⟨S8192x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference46Ideal.lean ====
abbrev S8192x3072 : Shape := ⟨2, ![8192, 3072]⟩
abbrev S8192x2048 : Shape := ⟨2, ![8192, 2048]⟩
abbrev S_ : Shape := ⟨0, ![]⟩
abbrev S8192x16x128 : Shape := ⟨3, ![8192, 16, 128]⟩
abbrev S8192x16 : Shape := ⟨2, ![8192, 16]⟩
abbrev S8192x16x1 : Shape := ⟨3, ![8192, 16, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x16x128, .f32⟩
  | .hbm, ⟨12, _⟩ => ⟨S8192x16x128, .f32⟩
  | .hbm, ⟨13, _⟩ => ⟨S_, .f32⟩
  | .hbm, ⟨14, _⟩ => ⟨S8192x16, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S8192x16x1, .f32⟩
  | .hbm, ⟨20, _⟩ => ⟨S8192x16x128, .f32⟩
  | .hbm, ⟨21, _⟩ => ⟨S8192x16x128, .f32⟩
  | .hbm, ⟨22, _⟩ => ⟨S8192x2048, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel47.lean ====
abbrev S8192x3072 : Shape := ⟨2, ![8192, 3072]⟩
abbrev S8192x2048 : Shape := ⟨2, ![8192, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x2048, .f32⟩
  | .hbm, ⟨2, _⟩ => ⟨S8192x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference47Ideal.lean ====
abbrev S8192x3072 : Shape := ⟨2, ![8192, 3072]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x2048, .f32⟩
  | .hbm, ⟨2, _⟩ => ⟨S8192x2048, .f32⟩
  | .hbm, ⟨3, _⟩ => ⟨S8192x16x128, .f32⟩
  | .hbm, ⟨4, _⟩ => ⟨S8192x16x128, .f32⟩
  | .hbm, ⟨5, _⟩ => ⟨S8192x16x128, .f32⟩
  | .hbm, ⟨6, _⟩ => ⟨S_, .f32⟩
  | .hbm, ⟨7, _⟩ => ⟨S8192x16x128, .f32⟩
  | .hbm, ⟨8, _⟩ => ⟨S8192x16x128, .f32⟩
  | .hbm, ⟨9, _⟩ => ⟨S_, .f32⟩
  | .hbm, ⟨10, _⟩ => ⟨S8192x16x128, .f32⟩
  | .hbm, ⟨11, _⟩ => ⟨S8192x16x128, .f32⟩
  | .hbm, ⟨12, _⟩ => ⟨S_, .f32⟩
  | .hbm, ⟨13, _⟩ => ⟨S8192x16x128, .f32⟩
  | .hbm, ⟨14, _⟩ => ⟨S8192x16x128, .f32⟩
  | .hbm, ⟨15, _⟩ => ⟨S8192x16x128, .f32⟩
  | .hbm, ⟨16, _⟩ => ⟨S8192x16x128, .f32⟩
  | .hbm, ⟨17, _⟩ => ⟨S8192x16x128, .f32⟩
  | .hbm, ⟨18, _⟩ => ⟨S_, .f32⟩
  | .hbm, ⟨19, _⟩ => ⟨S8192x16, .f32⟩
  | .hbm, ⟨20, _⟩ => ⟨S8192x16x1, .f32⟩
  | .hbm, ⟨21, _⟩ => ⟨S_, .f32⟩
  | .hbm, ⟨22, _⟩ => ⟨S8192x16x1, .f32⟩
  | .hbm, ⟨23, _⟩ => ⟨S8192x16x1, .f32⟩
  | .hbm, ⟨24, _⟩ => ⟨S8192x16x1, .f32⟩
  | .hbm, ⟨25, _⟩ => ⟨S8192x16x1, .f32⟩
  | .hbm, ⟨26, _⟩ => ⟨S_, .f32⟩
  | .hbm, ⟨27, _⟩ => ⟨S8192x16x1, .f32⟩
  | .hbm, ⟨28, _⟩ => ⟨S8192x16x1, .f32⟩
  | .hbm, ⟨29, _⟩ => ⟨S8192x16x128, .f32⟩
  | .hbm, ⟨30, _⟩ => ⟨S8192x16x128, .f32⟩
  | .hbm, ⟨31, _⟩ => ⟨S8192x16x128, .f32⟩
  | .hbm, ⟨32, _⟩ => ⟨S8192x16x128, .f32⟩
  | .hbm, ⟨33, _⟩ => ⟨S_, .f32⟩
  | .hbm, ⟨34, _⟩ => ⟨S8192x16, .f32⟩
  | .hbm, ⟨35, _⟩ => ⟨S8192x16x1, .f32⟩
  | .hbm, ⟨36, _⟩ => ⟨S8192x16x128, .f32⟩
  | .hbm, ⟨37, _⟩ => ⟨S8192x16x128, .f32⟩
  | .hbm, ⟨38, _⟩ => ⟨S8192x16x1, .f32⟩
  | .hbm, ⟨39, _⟩ => ⟨S_, .f32⟩
  | .hbm, ⟨40, _⟩ => ⟨S8192x16, .f32⟩
  | .hbm, ⟨41, _⟩ => ⟨S8192x16x128, .f32⟩
  | .hbm, ⟨42, _⟩ => ⟨S8192x16x128, .f32⟩
  | .hbm, ⟨43, _⟩ => ⟨S8192x16x128, .f32⟩
  | .hbm, ⟨44, _⟩ => ⟨S8192x16x128, .f32⟩
  | .hbm, ⟨45, _⟩ => ⟨S8192x16x128, .f32⟩
  | .hbm, ⟨46, _⟩ => ⟨S8192x16x128, .f32⟩
  | .hbm, ⟨47, _⟩ => ⟨S8192x16x128, .f32⟩
  | .hbm, ⟨48, _⟩ => ⟨S8192x16x128, .f32⟩
  | .hbm, ⟨49, _⟩ => ⟨S8192x16x128, .f32⟩
  | .hbm, ⟨50, _⟩ => ⟨S8192x2048, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Kernel48.lean ====
abbrev S8192x5376 : Shape := ⟨2, ![8192, 5376]⟩
abbrev S8 : Shape := ⟨1, ![8]⟩
abbrev S1x8 : Shape := ⟨2, ![1, 8]⟩
abbrev S_ : Shape := ⟨0, ![]⟩
abbrev S1x128 : Shape := ⟨2, ![1, 128]⟩
abbrev S8192x128 : Shape := ⟨2, ![8192, 128]⟩
abbrev S1024x128 : Shape := ⟨2, ![1024, 128]⟩

abbrev nBuf : Space → Nat
  | .hbm => 12
  | .vmem => 6
  | .smem => 0
  | _ => 0

abbrev bufTy : (tb : Table) → Fin (tcTables nBuf tb) → BufTy
  | .hbm, ⟨0, _⟩ => ⟨S8192x5376, .f32⟩
  | .hbm, ⟨1, _⟩ => ⟨S8, .f32⟩
  | .hbm, ⟨2, _⟩ => ⟨S8, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S1x8, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference48Ideal.lean ====
abbrev S8192x5376 : Shape := ⟨2, ![8192, 5376]⟩
abbrev S8 : Shape := ⟨1, ![8]⟩
abbrev S8192x8 : Shape := ⟨2, ![8192, 8]⟩
abbrev S_ : Shape := ⟨0, ![]⟩
abbrev S1x8 : Shape := ⟨2, ![1, 8]⟩
abbrev S8192x112 : Shape := ⟨2, ![8192, 112]⟩
abbrev S8192x128 : Shape := ⟨2, ![8192, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x5376, .f32⟩
  | .hbm, ⟨1, _⟩ => ⟨S8, .f32⟩
  | .hbm, ⟨2, _⟩ => ⟨S8, .f32⟩
  | .hbm, ⟨3, _⟩ => ⟨S8192x8, .f32⟩
  | .hbm, ⟨4, _⟩ => ⟨S8192x8, .f32⟩
  | .hbm, ⟨5, _⟩ => ⟨S8192x8, .f32⟩
  | .hbm, ⟨6, _⟩ => ⟨S_, .f32⟩
  | .hbm, ⟨7, _⟩ => ⟨S8192x8, .f32⟩
  | .hbm, ⟨8, _⟩ => ⟨S8192x8, .f32⟩
  | .hbm, ⟨9, _⟩ => ⟨S_, .f32⟩
  | .hbm, ⟨10, _⟩ => ⟨S8192x8, .f32⟩
  | .hbm, ⟨11, _⟩ => ⟨S8192x8, .f32⟩
  | .hbm, ⟨12, _⟩ => ⟨S8, .f32⟩
  | .hbm, ⟨13, _⟩ => ⟨S8, .f32⟩
  | .hbm, ⟨14, _⟩ => ⟨S8192x8, .f32⟩
  | .hbm, ⟨15, _⟩ => ⟨S1x8, .f32⟩
  | .hbm, ⟨16, _⟩ => ⟨S8192x8, .f32⟩
  | .hbm, ⟨17, _⟩ => ⟨S8192x8, .f32⟩
  | .hbm, ⟨18, _⟩ => ⟨S_, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .i1⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S1x8, .f32⟩
  | .hbm, ⟨33, _⟩ => ⟨S8192x8, .f32⟩
  | .hbm, ⟨34, _⟩ => ⟨S8192x8, .f32⟩
  | .hbm, ⟨35, _⟩ => ⟨S_, .f32⟩
  | .hbm, ⟨36, _⟩ => ⟨S8192x112, .f32⟩
  | .hbm, ⟨37, _⟩ => ⟨S8192x128, .f32⟩
  | _, _ => ⟨S8192x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Kernel49.lean ====
abbrev S8192x1024 : Shape := ⟨2, ![8192, 1024]⟩
abbrev S4x256x256 : Shape := ⟨3, ![4, 256, 256]⟩
abbrev S1x256x256 : Shape := ⟨3, ![1, 256, 256]⟩
abbrev S256x256 : Shape := ⟨2, ![256, 256]⟩
abbrev S_ : Shape := ⟨0, ![]⟩
abbrev S256x1024 : Shape := ⟨2, ![256, 1024]⟩
abbrev S1024x1024 : Shape := ⟨2, ![1024, 1024]⟩

abbrev nBuf : Space → Nat
  | .hbm => 26
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S8192x1024, .bf16⟩
  | .hbm, ⟨3, _⟩ => ⟨S4x256x256, .bf16⟩
  | .hbm, ⟨4, _⟩ => ⟨S1x256x256, .bf16⟩
  | .hbm, ⟨5, _⟩ => ⟨S256x256, .bf16⟩
  | .hbm, ⟨6, _⟩ => ⟨S_, .i32⟩
  | .hbm, ⟨7, _⟩ => ⟨S_, .bf16⟩
  | .hbm, ⟨8, _⟩ => ⟨S256x1024, .bf16⟩
  | .hbm, ⟨9, _⟩ => ⟨S1x256x256, .bf16⟩
  | .hbm, ⟨10, _⟩ => ⟨S256x256, .bf16⟩
  | .hbm, ⟨11, _⟩ => ⟨S_, .i32⟩
  | .hbm, ⟨12, _⟩ => ⟨S_, .bf16⟩
  | .hbm, ⟨13, _⟩ => ⟨S256x1024, .bf16⟩
  | .hbm, ⟨14, _⟩ => ⟨S1x256x256, .bf16⟩
  | .hbm, ⟨15, _⟩ => ⟨S256x256, .bf16⟩
  | .hbm, ⟨16, _⟩ => ⟨S_, .i32⟩
  | .hbm, ⟨17, _⟩ => ⟨S_, .bf16⟩
  | .hbm, ⟨18, _⟩ => ⟨S256x1024, .bf16⟩
  | .hbm, ⟨19, _⟩ => ⟨S1x256x256, .bf16⟩
  | .hbm, ⟨20, _⟩ => ⟨S256x256, .bf16⟩
  | .hbm, ⟨21, _⟩ => ⟨S_, .i32⟩
  | .hbm, ⟨22, _⟩ => ⟨S_, .bf16⟩
  | .hbm, ⟨23, _⟩ => ⟨S256x1024, .bf16⟩
  | .hbm, ⟨24, _⟩ => ⟨S1024x1024, .bf16⟩
  | .hbm, ⟨25, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_call3_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference49Ideal.lean ====
abbrev S8192x1024 : Shape := ⟨2, ![8192, 1024]⟩
abbrev S4x256x256 : Shape := ⟨3, ![4, 256, 256]⟩
abbrev S8192x4x256 : Shape := ⟨3, ![8192, 4, 256]⟩
abbrev S4x256x8192 : Shape := ⟨3, ![4, 256, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S8192x4x256, .f32⟩
  | .hbm, ⟨3, _⟩ => ⟨S4x256x8192, .f32⟩
  | .hbm, ⟨4, _⟩ => ⟨S8192x4x256, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel50.lean ====
abbrev S8192x1024 : Shape := ⟨2, ![8192, 1024]⟩
abbrev S4x256x256 : Shape := ⟨3, ![4, 256, 256]⟩
abbrev S1x256x256 : Shape := ⟨3, ![1, 256, 256]⟩
abbrev S256x256 : Shape := ⟨2, ![256, 256]⟩
abbrev S_ : Shape := ⟨0, ![]⟩
abbrev S256x1024 : Shape := ⟨2, ![256, 1024]⟩
abbrev S1024x1024 : Shape := ⟨2, ![1024, 1024]⟩

abbrev nBuf : Space → Nat
  | .hbm => 27
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S8192x1024, .f32⟩
  | .hbm, ⟨3, _⟩ => ⟨S8192x1024, .bf16⟩
  | .hbm, ⟨4, _⟩ => ⟨S4x256x256, .bf16⟩
  | .hbm, ⟨5, _⟩ => ⟨S1x256x256, .bf16⟩
  | .hbm, ⟨6, _⟩ => ⟨S256x256, .bf16⟩
  | .hbm, ⟨7, _⟩ => ⟨S_, .i32⟩
  | .hbm, ⟨8, _⟩ => ⟨S_, .bf16⟩
  | .hbm, ⟨9, _⟩ => ⟨S256x1024, .bf16⟩
  | .hbm, ⟨10, _⟩ => ⟨S1x256x256, .bf16⟩
  | .hbm, ⟨11, _⟩ => ⟨S256x256, .bf16⟩
  | .hbm, ⟨12, _⟩ => ⟨S_, .i32⟩
  | .hbm, ⟨13, _⟩ => ⟨S_, .bf16⟩
  | .hbm, ⟨14, _⟩ => ⟨S256x1024, .bf16⟩
  | .hbm, ⟨15, _⟩ => ⟨S1x256x256, .bf16⟩
  | .hbm, ⟨16, _⟩ => ⟨S256x256, .bf16⟩
  | .hbm, ⟨17, _⟩ => ⟨S_, .i32⟩
  | .hbm, ⟨18, _⟩ => ⟨S_, .bf16⟩
  | .hbm, ⟨19, _⟩ => ⟨S256x1024, .bf16⟩
  | .hbm, ⟨20, _⟩ => ⟨S1x256x256, .bf16⟩
  | .hbm, ⟨21, _⟩ => ⟨S256x256, .bf16⟩
  | .hbm, ⟨22, _⟩ => ⟨S_, .i32⟩
  | .hbm, ⟨23, _⟩ => ⟨S_, .bf16⟩
  | .hbm, ⟨24, _⟩ => ⟨S256x1024, .bf16⟩
  | .hbm, ⟨25, _⟩ => ⟨S1024x1024, .bf16⟩
  | .hbm, ⟨26, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call3_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference50Ideal.lean ====
abbrev S8192x1024 : Shape := ⟨2, ![8192, 1024]⟩
abbrev S4x256x256 : Shape := ⟨3, ![4, 256, 256]⟩
abbrev S8192x4x256 : Shape := ⟨3, ![8192, 4, 256]⟩
abbrev S4x256x8192 : Shape := ⟨3, ![4, 256, 8192]⟩
abbrev S4x8192x256 : Shape := ⟨3, ![4, 8192, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S8192x1024, .f32⟩
  | .hbm, ⟨3, _⟩ => ⟨S8192x4x256, .f32⟩
  | .hbm, ⟨4, _⟩ => ⟨S4x256x8192, .f32⟩
  | .hbm, ⟨5, _⟩ => ⟨S8192x4x256, .f32⟩
  | .hbm, ⟨6, _⟩ => ⟨S8192x1024, .f32⟩
  | .hbm, ⟨7, _⟩ => ⟨S8192x4x256, .f32⟩
  | .hbm, ⟨8, _⟩ => ⟨S4x256x8192, .f32⟩
  | .hbm, ⟨9, _⟩ => ⟨S4x8192x256, .f32⟩
  | .hbm, ⟨10, _⟩ => ⟨S8192x4x256, .f32⟩
  | .hbm, ⟨11, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel51.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference51Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.RefRun.lean ====
/- The run of the reference, stated over the step of Gen/ReferenceIdeal/Step.lean: at a valuation that holds a state, every
   value of one trip of the loop is that module's, so a trip keeps holding with `step` applied; what precedes the loop
   holds `init`; and the results are read off the fields of `step` iterated from `init`. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

set_option maxRecDepth 8192

variable {F : FTy → Type} [FloatOps F]

variable (V0 : Valuation τ sig (Elt F)) (s : State F) (j : ℕ)

/-- What a buffer of the program holds. -/
abbrev C (F : FTy → Type) (r : Ref sig .tc) := (Proc.devRef .tc r : DevRef τ sig).ty.Contents (Elt F)

/-- The valuation holds the state, the set-up values and the trip's number. -/
structure Holds : Prop where
  f_9 : V0 (Proc.devRef .tc main_v97_9) = s.main_v97_9
  f_10 : V0 (Proc.devRef .tc main_v97_10) = s.main_v97_10
  f_11 : V0 (Proc.devRef .tc main_v97_11) = s.main_v97_11
  f_12 : V0 (Proc.devRef .tc main_v97_12) = s.main_v97_12
  f_13 : V0 (Proc.devRef .tc main_v97_13) = s.main_v97_13
  f_14 : V0 (Proc.devRef .tc main_v97_14) = s.main_v97_14
  f_15 : V0 (Proc.devRef .tc main_v97_15) = s.main_v97_15
  f_0 : V0 (Proc.devRef .tc main_v97_0) = s.main_v97_0
  f_1 : V0 (Proc.devRef .tc main_v97_1) = s.main_v97_1
  f_2 : V0 (Proc.devRef .tc main_v97_2) = s.main_v97_2
  f_3 : V0 (Proc.devRef .tc main_v97_3) = s.main_v97_3
  f_4 : V0 (Proc.devRef .tc main_v97_4) = s.main_v97_4
  f_5 : V0 (Proc.devRef .tc main_v97_5) = s.main_v97_5
  f_6 : V0 (Proc.devRef .tc main_v97_6) = s.main_v97_6
  f_7 : V0 (Proc.devRef .tc main_v97_7) = s.main_v97_7
  n_8 : V0 (Proc.devRef .tc main_v97_8) = constantI S_ 32 (BitVec.ofNat 32 j)

variable {V0 s j}

variable (h : Holds V0 s j)
include h

theorem al_0 : (constantI S_ 32 128#32 : C F main_while0b_c_53) = Step.b0 j s := by
  unfold Step.b0
  rfl
theorem al_1 : (subi (constantI S_ 32 128#32) (V0 (Proc.devRef .tc main_v97_8)) : C F main_while0b_v301) = Step.b1 j s := by
  unfold Step.b1
  rw [← al_0 h, h.n_8]
  try rfl
theorem al_2 : (constantI S_ 32 1#32 : C F main_while0b_c_54) = Step.b2 j s := by
  unfold Step.b2
  rfl
theorem al_3 : (res_main_while0b_v302 V0 : C F main_while0b_v302) = Step.b3 j s := by
  unfold res_main_while0b_v302 Step.b3
  rw [← al_1 h, ← al_2 h]
  try rfl
theorem al_4 : (constantI S_ 32 0#32 : C F main_while0b_call4_c) = Step.b4 j s := by
  unfold Step.b4
  rfl
theorem al_5 : (constantI S_ 32 0#32 : C F main_while0b_call4_c_0) = Step.b5 j s := by
  unfold Step.b5
  rfl
theorem al_6 : (constantI S_ 32 0#32 : C F main_while0b_call4_c_1) = Step.b6 j s := by
  unfold Step.b6
  rfl
theorem al_7 : (Host.dynamicSlice S1x8x64x128 (V0 (Proc.devRef .tc main_v97_0)) (fun k => (((![res_main_while0b_v302 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : C F main_while0b_call4_v0) = Step.b7 j s := by
  unfold Step.b7
  rw [← al_3 h, ← al_4 h, ← al_5 h, ← al_6 h, h.f_0]
  try rfl
theorem al_8 : (shapeCast S8x64x128 (Host.dynamicSlice S1x8x64x128 (V0 (Proc.devRef .tc main_v97_0)) (fun k => (((![res_main_while0b_v302 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128) shapeCasts_S1x8x64x128_S8x64x128 : C F main_while0b_v303) = Step.b8 j s := by
  unfold Step.b8
  rw [← al_7 h]
  try rfl
theorem al_9 : (constantI S_ 32 0#32 : C F main_while0b_call5_c) = Step.b9 j s := by
  unfold Step.b9
  rfl
theorem al_10 : (constantI S_ 32 0#32 : C F main_while0b_call5_c_0) = Step.b10 j s := by
  unfold Step.b10
  rfl
theorem al_11 : (constantI S_ 32 0#32 : C F main_while0b_call5_c_1) = Step.b11 j s := by
  unfold Step.b11
  rfl
theorem al_12 : (Host.dynamicSlice S1x8x64x128 (V0 (Proc.devRef .tc main_v97_1)) (fun k => (((![res_main_while0b_v302 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : C F main_while0b_call5_v0) = Step.b12 j s := by
  unfold Step.b12
  rw [← al_3 h, ← al_9 h, ← al_10 h, ← al_11 h, h.f_1]
  try rfl
theorem al_13 : (res_main_while0b_v304 V0 : C F main_while0b_v304) = Step.b13 j s := by
  unfold res_main_while0b_v304 Step.b13
  rw [← al_12 h]
  try rfl
theorem al_14 : (constantI S_ 32 0#32 : C F main_while0b_call6_c) = Step.b14 j s := by
  unfold Step.b14
  rfl
theorem al_15 : (constantI S_ 32 0#32 : C F main_while0b_call6_c_0) = Step.b15 j s := by
  unfold Step.b15
  rfl
theorem al_16 : (constantI S_ 32 0#32 : C F main_while0b_call6_c_1) = Step.b16 j s := by
  unfold Step.b16
  rfl
theorem al_17 : (Host.dynamicSlice S1x8x64x64 (V0 (Proc.devRef .tc main_v97_2)) (fun k => (((![res_main_while0b_v302 V0, constantI S_ 32 0#32, constantI S_ 32 0#32, constantI S_ 32 0#32] : Fin 4 → (⟨S_, .i32⟩ : BufTy).Contents (Elt F))) k (Shape.Idx.first h_S_)).toInt) sliceFits_S128x8x64x64_S1x8x64x64 : C F main_while0b_call6_v0) = Step.b17 j s := by
  unfold Step.b17
  rw [← al_3 h, ← al_14 h, ← al_15 h, ← al_16 h, h.f_2]
  try rfl
theorem al_18 : (res_main_while0b_v305 V0 : C F main_while0b_v305) = Step.b18 j s := by
  unfold res_main_while0b_v305 Step.b18
  rw [← al_17 h]
  try rfl
theorem al_19 : (constantI S_ 32 0#32 : C F main_while0b_call7_c) = Step.b19 j s := by
  unfold Step.b19
  rfl
theorem al_20 : (constantI S_ 32 0#32 : C F main_while0b_call7_c_0) = Step.b20 j s := by
  unfold Step.b20
  rfl
theorem al_21 : (constantI S_ 32 0#32 : C F main_while0b_call7_c_1) = Step.b21 j s := by
  unfold Step.b21
  rfl
theorem al_22 : (Host.dynamicSlice S1x8x64x128 (V0 (Proc.devRef .tc main_v97_3)) (fun k => (((![res_main_while0b_v302 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : C F main_while0b_call7_v0) = Step.b22 j s := by
  unfold Step.b22
  rw [← al_3 h, ← al_19 h, ← al_20 h, ← al_21 h, h.f_3]
  try rfl
theorem al_23 : (res_main_while0b_v306 V0 : C F main_while0b_v306) = Step.b23 j s := by
  unfold res_main_while0b_v306 Step.b23
  rw [← al_22 h]
  try rfl
theorem al_24 : (constantI S_ 32 0#32 : C F main_while0b_call8_c) = Step.b24 j s := by
  unfold Step.b24
  rfl
theorem al_25 : (constantI S_ 32 0#32 : C F main_while0b_call8_c_0) = Step.b25 j s := by
  unfold Step.b25
  rfl
theorem al_26 : (constantI S_ 32 0#32 : C F main_while0b_call8_c_1) = Step.b26 j s := by
  unfold Step.b26
  rfl
theorem al_27 : (Host.dynamicSlice S1x8x64x128 (V0 (Proc.devRef .tc main_v97_4)) (fun k => (((![res_main_while0b_v302 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : C F main_while0b_call8_v0) = Step.b27 j s := by
  unfold Step.b27
  rw [← al_3 h, ← al_24 h, ← al_25 h, ← al_26 h, h.f_4]
  try rfl
theorem al_28 : (res_main_while0b_v307 V0 : C F main_while0b_v307) = Step.b28 j s := by
  unfold res_main_while0b_v307 Step.b28
  rw [← al_27 h]
  try rfl
theorem al_29 : (constantI S_ 32 0#32 : C F main_while0b_call9_c) = Step.b29 j s := by
  unfold Step.b29
  rfl
theorem al_30 : (Host.dynamicSlice S1x8 (V0 (Proc.devRef .tc main_v97_5)) (fun k => (((![res_main_while0b_v302 V0, constantI S_ 32 0#32] : Fin 2 → (⟨S_, .i32⟩ : BufTy).Contents (Elt F))) k (Shape.Idx.first h_S_)).toInt) sliceFits_S128x8_S1x8 : C F main_while0b_call9_v0) = Step.b30 j s := by
  unfold Step.b30
  rw [← al_3 h, ← al_29 h, h.f_5]
  try rfl
theorem al_31 : (shapeCast S8 (Host.dynamicSlice S1x8 (V0 (Proc.devRef .tc main_v97_5)) (fun k => (((![res_main_while0b_v302 V0, constantI S_ 32 0#32] : Fin 2 → (⟨S_, .i32⟩ : BufTy).Contents (Elt F))) k (Shape.Idx.first h_S_)).toInt) sliceFits_S128x8_S1x8) shapeCasts_S1x8_S8 : C F main_while0b_v308) = Step.b31 j s := by
  unfold Step.b31
  rw [← al_30 h]
  try rfl
theorem al_32 : (constantI S_ 32 0#32 : C F main_while0b_call10_c) = Step.b32 j s := by
  unfold Step.b32
  rfl
theorem al_33 : (constantI S_ 32 0#32 : C F main_while0b_call10_c_0) = Step.b33 j s := by
  unfold Step.b33
  rfl
theorem al_34 : (constantI S_ 32 0#32 : C F main_while0b_call10_c_1) = Step.b34 j s := by
  unfold Step.b34
  rfl
theorem al_35 : (Host.dynamicSlice S1x8x128x128 (V0 (Proc.devRef .tc main_v97_6)) (fun k => (((![res_main_while0b_v302 V0, constantI S_ 32 0#32, constantI S_ 32 0#32, constantI S_ 32 0#32] : Fin 4 → (⟨S_, .i32⟩ : BufTy).Contents (Elt F))) k (Shape.Idx.first h_S_)).toInt) sliceFits_S128x8x128x128_S1x8x128x128 : C F main_while0b_call10_v0) = Step.b35 j s := by
  unfold Step.b35
  rw [← al_3 h, ← al_32 h, ← al_33 h, ← al_34 h, h.f_6]
  try rfl
theorem al_36 : (res_main_while0b_v309 V0 : C F main_while0b_v309) = Step.b36 j s := by
  unfold res_main_while0b_v309 Step.b36
  rw [← al_35 h]
  try rfl
theorem al_37 : (constantI S_ 32 0#32 : C F main_while0b_call11_c) = Step.b37 j s := by
  unfold Step.b37
  rfl
theorem al_38 : (constantI S_ 32 0#32 : C F main_while0b_call11_c_0) = Step.b38 j s := by
  unfold Step.b38
  rfl
theorem al_39 : (constantI S_ 32 0#32 : C F main_while0b_call11_c_1) = Step.b39 j s := by
  unfold Step.b39
  rfl
theorem al_40 : (Host.dynamicSlice S1x8x64x128 (V0 (Proc.devRef .tc main_v97_7)) (fun k => (((![res_main_while0b_v302 V0, constantI S_ 32 0#32, constantI S_ 32 0#32, constantI S_ 32 0#32] : Fin 4 → (⟨S_, .i32⟩ : BufTy).Contents (Elt F))) k (Shape.Idx.first h_S_)).toInt) sliceFits_S128x8x64x128_S1x8x64x128 : C F main_while0b_call11_v0) = Step.b40 j s := by
  unfold Step.b40
  rw [← al_3 h, ← al_37 h, ← al_38 h, ← al_39 h, h.f_7]
  try rfl
theorem al_41 : (res_main_while0b_v310 V0 : C F main_while0b_v310) = Step.b41 j s := by
  unfold res_main_while0b_v310 Step.b41
  rw [← al_40 h]
  try rfl
theorem al_42 : (Host.dotGeneral dot_S8x64x128_S8x128x128_S8x64x128_2_1_1_2_0_0 none (res_main_while0b_v304 V0) (res_main_while0b_v309 V0) : C F main_while0b_v311) = Step.b42 j s := by
  unfold Step.b42
  rw [← al_13 h, ← al_36 h]
  try rfl
theorem al_43 : (res_main_while0b_v312 V0 : C F main_while0b_v312) = Step.b43 j s := by
  unfold res_main_while0b_v312 Step.b43
  rw [← al_8 h, ← al_42 h]
  try rfl
theorem al_44 : (Host.dotGeneral dot_S8x64x128_S8x128x128_S8x64x128_2_1_1_2_0_0 none (res_main_while0b_v306 V0) (res_main_while0b_v309 V0) : C F main_while0b_v313) = Step.b44 j s := by
  unfold Step.b44
  rw [← al_23 h, ← al_36 h]
  try rfl
theorem al_45 : (Host.dotGeneral dot_S8x64x64_S8x64x128_S8x64x128_2_1_1_2_0_0 none (res_main_while0b_v305 V0) (res_main_while0b_v312 V0) : C F main_while0b_v314) = Step.b45 j s := by
  unfold Step.b45
  rw [← al_18 h, ← al_43 h]
  try rfl
theorem al_46 : (addf (Host.dotGeneral dot_S8x64x128_S8x128x128_S8x64x128_2_1_1_2_0_0 none (res_main_while0b_v306 V0) (res_main_while0b_v309 V0)) (Host.dotGeneral dot_S8x64x64_S8x64x128_S8x64x128_2_1_1_2_0_0 none (res_main_while0b_v305 V0) (res_main_while0b_v312 V0)) : C F main_while0b_v315) = Step.b46 j s := by
  unfold Step.b46
  rw [← al_44 h, ← al_45 h]
  try rfl
theorem al_47 : (res_main_while0b_v316 V0 : C F main_while0b_v316) = Step.b47 j s := by
  unfold res_main_while0b_v316 Step.b47
  rw [← al_31 h]
  try rfl
theorem al_48 : (broadcastInDim S8x128x128 ![0, 1, 2] bcast_S8x1x1_S8x128x128_0_1_2 (res_main_while0b_v316 V0) : C F main_while0b_v317) = Step.b48 j s := by
  unfold Step.b48
  rw [← al_47 h]
  try rfl
theorem al_49 : (mulf (res_main_while0b_v309 V0) (broadcastInDim S8x128x128 ![0, 1, 2] bcast_S8x1x1_S8x128x128_0_1_2 (res_main_while0b_v316 V0)) : C F main_while0b_v318) = Step.b49 j s := by
  unfold Step.b49
  rw [← al_36 h, ← al_48 h]
  try rfl
theorem al_50 : (Host.dotGeneral dot_S8x64x128_S8x64x128_S8x128x128_1_1_2_2_0_0 none (res_main_while0b_v307 V0) (res_main_while0b_v312 V0) : C F main_while0b_v319) = Step.b50 j s := by
  unfold Step.b50
  rw [← al_28 h, ← al_43 h]
  try rfl
theorem al_51 : (addf (mulf (res_main_while0b_v309 V0) (broadcastInDim S8x128x128 ![0, 1, 2] bcast_S8x1x1_S8x128x128_0_1_2 (res_main_while0b_v316 V0))) (Host.dotGeneral dot_S8x64x128_S8x64x128_S8x128x128_1_1_2_2_0_0 none (res_main_while0b_v307 V0) (res_main_while0b_v312 V0)) : C F main_while0b_v320) = Step.b51 j s := by
  unfold Step.b51
  rw [← al_49 h, ← al_50 h]
  try rfl
theorem al_52 : (Host.dotGeneral dot_S8x128x128_S8x64x128_S8x128x64_1_2_2_1_0_0 none (V0 (Proc.devRef .tc main_v97_9)) (res_main_while0b_v307 V0) : C F main_while0b_v321) = Step.b52 j s := by
  unfold Step.b52
  rw [← al_28 h, h.f_9]
  try rfl
theorem al_53 : (transpose S8x64x128 [0, 2, 1] (Host.dotGeneral dot_S8x128x128_S8x64x128_S8x128x64_1_2_2_1_0_0 none (V0 (Proc.devRef .tc main_v97_9)) (res_main_while0b_v307 V0)) transposes_S8x128x64_S8x64x128_0_2_1 : C F main_while0b_v322) = Step.b53 j s := by
  unfold Step.b53
  rw [← al_52 h]
  try rfl
theorem al_54 : (Host.dotGeneral dot_S8x128x128_S8x64x128_S8x128x64_2_2_1_1_0_0 none (V0 (Proc.devRef .tc main_v97_9)) (res_main_while0b_v312 V0) : C F main_while0b_v323) = Step.b54 j s := by
  unfold Step.b54
  rw [← al_43 h, h.f_9]
  try rfl
theorem al_55 : (transpose S8x64x128 [0, 2, 1] (Host.dotGeneral dot_S8x128x128_S8x64x128_S8x128x64_2_2_1_1_0_0 none (V0 (Proc.devRef .tc main_v97_9)) (res_main_while0b_v312 V0)) transposes_S8x128x64_S8x64x128_0_2_1 : C F main_while0b_v324) = Step.b55 j s := by
  unfold Step.b55
  rw [← al_54 h]
  try rfl
theorem al_56 : (mulf (res_main_while0b_v309 V0) (V0 (Proc.devRef .tc main_v97_9)) : C F main_while0b_v325) = Step.b56 j s := by
  unfold Step.b56
  rw [← al_36 h, h.f_9]
  try rfl
theorem al_57 : (constant S_ .f32 0x00000000#32 : C F main_while0b_cst_55) = Step.b57 j s := by
  unfold Step.b57
  rfl
theorem al_58 : (Host.reduceAdd (mulf (res_main_while0b_v309 V0) (V0 (Proc.devRef .tc main_v97_9))) (constant S_ .f32 0x00000000#32) reducesTo_S8x128x128_S8_d1_2 h_S_ : C F main_while0b_v326) = Step.b58 j s := by
  unfold Step.b58
  rw [← al_56 h, ← al_57 h]
  try rfl
theorem al_59 : (shapeCast S8x1x1 (Host.reduceAdd (mulf (res_main_while0b_v309 V0) (V0 (Proc.devRef .tc main_v97_9))) (constant S_ .f32 0x00000000#32) reducesTo_S8x128x128_S8_d1_2 h_S_) shapeCasts_S8_S8x1x1 : C F main_while0b_v327) = Step.b59 j s := by
  unfold Step.b59
  rw [← al_58 h]
  try rfl
theorem al_60 : (broadcastInDim S8x128x128 ![0, 1, 2] bcast_S8x1x1_S8x128x128_0_1_2 (res_main_while0b_v316 V0) : C F main_while0b_v328) = Step.b60 j s := by
  unfold Step.b60
  rw [← al_47 h]
  try rfl
theorem al_61 : (mulf (V0 (Proc.devRef .tc main_v97_9)) (broadcastInDim S8x128x128 ![0, 1, 2] bcast_S8x1x1_S8x128x128_0_1_2 (res_main_while0b_v316 V0)) : C F main_while0b_v329) = Step.b61 j s := by
  unfold Step.b61
  rw [← al_60 h, h.f_9]
  try rfl
theorem al_62 : (constant S_ .f32 0x00000000#32 : C F main_while0b_cst_56) = Step.b62 j s := by
  unfold Step.b62
  rfl
theorem al_63 : (Host.reduceAdd (shapeCast S8x1x1 (Host.reduceAdd (mulf (res_main_while0b_v309 V0) (V0 (Proc.devRef .tc main_v97_9))) (constant S_ .f32 0x00000000#32) reducesTo_S8x128x128_S8_d1_2 h_S_) shapeCasts_S8_S8x1x1) (constant S_ .f32 0x00000000#32) reducesTo_S8x1x1_S8_d1_2 h_S_ : C F main_while0b_v330) = Step.b63 j s := by
  unfold Step.b63
  rw [← al_59 h, ← al_62 h]
  try rfl
theorem al_64 : (Host.dotGeneral dot_S8x64x128_S8x64x64_S8x128x64_1_1_2_2_0_0 none (res_main_while0b_v310 V0) (res_main_while0b_v305 V0) : C F main_while0b_v331) = Step.b64 j s := by
  unfold Step.b64
  rw [← al_41 h, ← al_18 h]
  try rfl
theorem al_65 : (transpose S8x64x128 [0, 2, 1] (Host.dotGeneral dot_S8x64x128_S8x64x64_S8x128x64_1_1_2_2_0_0 none (res_main_while0b_v310 V0) (res_main_while0b_v305 V0)) transposes_S8x128x64_S8x64x128_0_2_1 : C F main_while0b_v332) = Step.b65 j s := by
  unfold Step.b65
  rw [← al_64 h]
  try rfl
theorem al_66 : (res_main_while0b_v333 V0 : C F main_while0b_v333) = Step.b66 j s := by
  unfold res_main_while0b_v333 Step.b66
  rw [← al_53 h, ← al_65 h]
  try rfl
theorem al_67 : (Host.dotGeneral dot_S8x64x128_S8x64x128_S8x64x64_2_2_1_1_0_0 none (res_main_while0b_v310 V0) (res_main_while0b_v312 V0) : C F main_while0b_v334) = Step.b67 j s := by
  unfold Step.b67
  rw [← al_41 h, ← al_43 h]
  try rfl
theorem al_68 : (Host.dotGeneral dot_S8x64x128_S8x64x128_S8x128x128_1_1_2_2_0_0 none (res_main_while0b_v310 V0) (res_main_while0b_v306 V0) : C F main_while0b_v335) = Step.b68 j s := by
  unfold Step.b68
  rw [← al_41 h, ← al_23 h]
  try rfl
theorem al_69 : (transpose S8x128x128 [0, 2, 1] (Host.dotGeneral dot_S8x64x128_S8x64x128_S8x128x128_1_1_2_2_0_0 none (res_main_while0b_v310 V0) (res_main_while0b_v306 V0)) transposes_S8x128x128_S8x128x128_0_2_1 : C F main_while0b_v336) = Step.b69 j s := by
  unfold Step.b69
  rw [← al_68 h]
  try rfl
theorem al_70 : (addf (mulf (V0 (Proc.devRef .tc main_v97_9)) (broadcastInDim S8x128x128 ![0, 1, 2] bcast_S8x1x1_S8x128x128_0_1_2 (res_main_while0b_v316 V0))) (transpose S8x128x128 [0, 2, 1] (Host.dotGeneral dot_S8x64x128_S8x64x128_S8x128x128_1_1_2_2_0_0 none (res_main_while0b_v310 V0) (res_main_while0b_v306 V0)) transposes_S8x128x128_S8x128x128_0_2_1) : C F main_while0b_v337) = Step.b70 j s := by
  unfold Step.b70
  rw [← al_61 h, ← al_69 h]
  try rfl
theorem al_71 : (Host.dotGeneral dot_S8x64x128_S8x128x128_S8x64x128_2_2_1_1_0_0 none (res_main_while0b_v310 V0) (res_main_while0b_v309 V0) : C F main_while0b_v338) = Step.b71 j s := by
  unfold Step.b71
  rw [← al_41 h, ← al_36 h]
  try rfl
theorem al_72 : (res_main_while0b_v339 V0 : C F main_while0b_v339) = Step.b72 j s := by
  unfold res_main_while0b_v339 Step.b72
  rw [← al_66 h]
  try rfl
theorem al_73 : (Host.dotGeneral dot_S8x64x128_S8x64x128_S8x128x128_1_1_2_2_0_0 none (res_main_while0b_v339 V0) (res_main_while0b_v304 V0) : C F main_while0b_v340) = Step.b73 j s := by
  unfold Step.b73
  rw [← al_72 h, ← al_13 h]
  try rfl
theorem al_74 : (transpose S8x128x128 [0, 2, 1] (Host.dotGeneral dot_S8x64x128_S8x64x128_S8x128x128_1_1_2_2_0_0 none (res_main_while0b_v339 V0) (res_main_while0b_v304 V0)) transposes_S8x128x128_S8x128x128_0_2_1 : C F main_while0b_v341) = Step.b74 j s := by
  unfold Step.b74
  rw [← al_73 h]
  try rfl
theorem al_75 : (addf (addf (mulf (V0 (Proc.devRef .tc main_v97_9)) (broadcastInDim S8x128x128 ![0, 1, 2] bcast_S8x1x1_S8x128x128_0_1_2 (res_main_while0b_v316 V0))) (transpose S8x128x128 [0, 2, 1] (Host.dotGeneral dot_S8x64x128_S8x64x128_S8x128x128_1_1_2_2_0_0 none (res_main_while0b_v310 V0) (res_main_while0b_v306 V0)) transposes_S8x128x128_S8x128x128_0_2_1)) (transpose S8x128x128 [0, 2, 1] (Host.dotGeneral dot_S8x64x128_S8x64x128_S8x128x128_1_1_2_2_0_0 none (res_main_while0b_v339 V0) (res_main_while0b_v304 V0)) transposes_S8x128x128_S8x128x128_0_2_1) : C F main_while0b_v342) = Step.b75 j s := by
  unfold Step.b75
  rw [← al_70 h, ← al_74 h]
  try rfl
theorem al_76 : (Host.dotGeneral dot_S8x64x128_S8x128x128_S8x64x128_2_2_1_1_0_0 none (res_main_while0b_v339 V0) (res_main_while0b_v309 V0) : C F main_while0b_v343) = Step.b76 j s := by
  unfold Step.b76
  rw [← al_72 h, ← al_36 h]
  try rfl
theorem al_77 : (broadcastInDim S1x8x64x128 ![1, 2, 3] bcast_S8x64x128_S1x8x64x128_1_2_3 (res_main_while0b_v333 V0) : C F main_while0b_call12_v0) = Step.b77 j s := by
  unfold Step.b77
  rw [← al_66 h]
  try rfl
theorem al_78 : (constantI S_ 32 0#32 : C F main_while0b_call12_c) = Step.b78 j s := by
  unfold Step.b78
  rfl
theorem al_79 : (constantI S_ 32 0#32 : C F main_while0b_call12_c_0) = Step.b79 j s := by
  unfold Step.b79
  rfl
theorem al_80 : (constantI S_ 32 0#32 : C F main_while0b_call12_c_1) = Step.b80 j s := by
  unfold Step.b80
  rfl
theorem al_81 : (Host.dynamicUpdateSlice (V0 (Proc.devRef .tc main_v97_10)) (broadcastInDim S1x8x64x128 ![1, 2, 3] bcast_S8x64x128_S1x8x64x128_1_2_3 (res_main_while0b_v333 V0)) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x128_S1x8x64x128 : C F main_while0b_v344) = Step.b81 j s := by
  unfold Step.b81
  rw [← al_77 h, ← al_3 h, ← al_78 h, ← al_79 h, ← al_80 h, h.f_10]
  try rfl
theorem al_82 : (broadcastInDim S1x8x64x128 ![1, 2, 3] bcast_S8x64x128_S1x8x64x128_1_2_3 (Host.dotGeneral dot_S8x64x128_S8x128x128_S8x64x128_2_2_1_1_0_0 none (res_main_while0b_v339 V0) (res_main_while0b_v309 V0)) : C F main_while0b_call13_v0) = Step.b82 j s := by
  unfold Step.b82
  rw [← al_76 h]
  try rfl
theorem al_83 : (constantI S_ 32 0#32 : C F main_while0b_call13_c) = Step.b83 j s := by
  unfold Step.b83
  rfl
theorem al_84 : (constantI S_ 32 0#32 : C F main_while0b_call13_c_0) = Step.b84 j s := by
  unfold Step.b84
  rfl
theorem al_85 : (constantI S_ 32 0#32 : C F main_while0b_call13_c_1) = Step.b85 j s := by
  unfold Step.b85
  rfl
theorem al_86 : (Host.dynamicUpdateSlice (V0 (Proc.devRef .tc main_v97_11)) (broadcastInDim S1x8x64x128 ![1, 2, 3] bcast_S8x64x128_S1x8x64x128_1_2_3 (Host.dotGeneral dot_S8x64x128_S8x128x128_S8x64x128_2_2_1_1_0_0 none (res_main_while0b_v339 V0) (res_main_while0b_v309 V0))) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x128_S1x8x64x128 : C F main_while0b_v345) = Step.b86 j s := by
  unfold Step.b86
  rw [← al_82 h, ← al_3 h, ← al_83 h, ← al_84 h, ← al_85 h, h.f_11]
  try rfl
theorem al_87 : (broadcastInDim S1x8x64x64 ![1, 2, 3] bcast_S8x64x64_S1x8x64x64_1_2_3 (Host.dotGeneral dot_S8x64x128_S8x64x128_S8x64x64_2_2_1_1_0_0 none (res_main_while0b_v310 V0) (res_main_while0b_v312 V0)) : C F main_while0b_call14_v0) = Step.b87 j s := by
  unfold Step.b87
  rw [← al_67 h]
  try rfl
theorem al_88 : (constantI S_ 32 0#32 : C F main_while0b_call14_c) = Step.b88 j s := by
  unfold Step.b88
  rfl
theorem al_89 : (constantI S_ 32 0#32 : C F main_while0b_call14_c_0) = Step.b89 j s := by
  unfold Step.b89
  rfl
theorem al_90 : (constantI S_ 32 0#32 : C F main_while0b_call14_c_1) = Step.b90 j s := by
  unfold Step.b90
  rfl
theorem al_91 : (Host.dynamicUpdateSlice (V0 (Proc.devRef .tc main_v97_12)) (broadcastInDim S1x8x64x64 ![1, 2, 3] bcast_S8x64x64_S1x8x64x64_1_2_3 (Host.dotGeneral dot_S8x64x128_S8x64x128_S8x64x64_2_2_1_1_0_0 none (res_main_while0b_v310 V0) (res_main_while0b_v312 V0))) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x64_S1x8x64x64 : C F main_while0b_v346) = Step.b91 j s := by
  unfold Step.b91
  rw [← al_87 h, ← al_3 h, ← al_88 h, ← al_89 h, ← al_90 h, h.f_12]
  try rfl
theorem al_92 : (broadcastInDim S1x8x64x128 ![1, 2, 3] bcast_S8x64x128_S1x8x64x128_1_2_3 (Host.dotGeneral dot_S8x64x128_S8x128x128_S8x64x128_2_2_1_1_0_0 none (res_main_while0b_v310 V0) (res_main_while0b_v309 V0)) : C F main_while0b_call15_v0) = Step.b92 j s := by
  unfold Step.b92
  rw [← al_71 h]
  try rfl
theorem al_93 : (constantI S_ 32 0#32 : C F main_while0b_call15_c) = Step.b93 j s := by
  unfold Step.b93
  rfl
theorem al_94 : (constantI S_ 32 0#32 : C F main_while0b_call15_c_0) = Step.b94 j s := by
  unfold Step.b94
  rfl
theorem al_95 : (constantI S_ 32 0#32 : C F main_while0b_call15_c_1) = Step.b95 j s := by
  unfold Step.b95
  rfl
theorem al_96 : (Host.dynamicUpdateSlice (V0 (Proc.devRef .tc main_v97_13)) (broadcastInDim S1x8x64x128 ![1, 2, 3] bcast_S8x64x128_S1x8x64x128_1_2_3 (Host.dotGeneral dot_S8x64x128_S8x128x128_S8x64x128_2_2_1_1_0_0 none (res_main_while0b_v310 V0) (res_main_while0b_v309 V0))) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x128_S1x8x64x128 : C F main_while0b_v347) = Step.b96 j s := by
  unfold Step.b96
  rw [← al_92 h, ← al_3 h, ← al_93 h, ← al_94 h, ← al_95 h, h.f_13]
  try rfl
theorem al_97 : (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v97_9)) (res_main_while0b_v312 V0)) transposes_S8x128x64_S8x64x128_0_2_1) : C F main_while0b_call16_v0) = Step.b97 j s := by
  unfold Step.b97
  rw [← al_55 h]
  try rfl
theorem al_98 : (constantI S_ 32 0#32 : C F main_while0b_call16_c) = Step.b98 j s := by
  unfold Step.b98
  rfl
theorem al_99 : (constantI S_ 32 0#32 : C F main_while0b_call16_c_0) = Step.b99 j s := by
  unfold Step.b99
  rfl
theorem al_100 : (constantI S_ 32 0#32 : C F main_while0b_call16_c_1) = Step.b100 j s := by
  unfold Step.b100
  rfl
theorem al_101 : (Host.dynamicUpdateSlice (V0 (Proc.devRef .tc main_v97_14)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v97_9)) (res_main_while0b_v312 V0)) transposes_S8x128x64_S8x64x128_0_2_1)) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x128_S1x8x64x128 : C F main_while0b_v348) = Step.b101 j s := by
  unfold Step.b101
  rw [← al_97 h, ← al_3 h, ← al_98 h, ← al_99 h, ← al_100 h, h.f_14]
  try rfl
theorem al_102 : (broadcastInDim S1x8 ![1] bcast_S8_S1x8_1 (Host.reduceAdd (shapeCast S8x1x1 (Host.reduceAdd (mulf (res_main_while0b_v309 V0) (V0 (Proc.devRef .tc main_v97_9))) (constant S_ .f32 0x00000000#32) reducesTo_S8x128x128_S8_d1_2 h_S_) shapeCasts_S8_S8x1x1) (constant S_ .f32 0x00000000#32) reducesTo_S8x1x1_S8_d1_2 h_S_) : C F main_while0b_call17_v0) = Step.b102 j s := by
  unfold Step.b102
  rw [← al_63 h]
  try rfl
theorem al_103 : (constantI S_ 32 0#32 : C F main_while0b_call17_c) = Step.b103 j s := by
  unfold Step.b103
  rfl
theorem al_104 : (Host.dynamicUpdateSlice (V0 (Proc.devRef .tc main_v97_15)) (broadcastInDim S1x8 ![1] bcast_S8_S1x8_1 (Host.reduceAdd (shapeCast S8x1x1 (Host.reduceAdd (mulf (res_main_while0b_v309 V0) (V0 (Proc.devRef .tc main_v97_9))) (constant S_ .f32 0x00000000#32) reducesTo_S8x128x128_S8_d1_2 h_S_) shapeCasts_S8_S8x1x1) (constant S_ .f32 0x00000000#32) reducesTo_S8x1x1_S8_d1_2 h_S_)) (fun k => (((![res_main_while0b_v302 V0, constantI S_ 32 0#32] : Fin 2 → (⟨S_, .i32⟩ : BufTy).Contents (Elt F))) k (Shape.Idx.first h_S_)).toInt) updateFits_S128x8_S1x8 : C F main_while0b_v349) = Step.b104 j s := by
  unfold Step.b104
  rw [← al_102 h, ← al_3 h, ← al_103 h, h.f_15]
  try rfl

/-! One trip's step of the carried values is `step`, field by field; a counter steps to the next number. -/

theorem step_9 : step_main_v97_9 V0 = (step j s).main_v97_9 := by
  unfold step_main_v97_9 Step.step
  show id (addf (addf (mulf (V0 (Proc.devRef .tc main_v97_9)) (broadcastInDim S8x128x128 ![0, 1, 2] bcast_S8x1x1_S8x128x128_0_1_2 (res_main_while0b_v316 V0))) (transpose S8x128x128 [0, 2, 1] (Host.dotGeneral dot_S8x64x128_S8x64x128_S8x128x128_1_1_2_2_0_0 none (res_main_while0b_v310 V0) (res_main_while0b_v306 V0)) transposes_S8x128x128_S8x128x128_0_2_1)) (transpose S8x128x128 [0, 2, 1] (Host.dotGeneral dot_S8x64x128_S8x64x128_S8x128x128_1_1_2_2_0_0 none (res_main_while0b_v339 V0) (res_main_while0b_v304 V0)) transposes_S8x128x128_S8x128x128_0_2_1)) = _
  exact al_75 h
theorem step_10 : step_main_v97_10 V0 = (step j s).main_v97_10 := by
  unfold step_main_v97_10 Step.step
  show id (Host.dynamicUpdateSlice (V0 (Proc.devRef .tc main_v97_10)) (broadcastInDim S1x8x64x128 ![1, 2, 3] bcast_S8x64x128_S1x8x64x128_1_2_3 (res_main_while0b_v333 V0)) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x128_S1x8x64x128) = _
  exact al_81 h
theorem step_11 : step_main_v97_11 V0 = (step j s).main_v97_11 := by
  unfold step_main_v97_11 Step.step
  show id (Host.dynamicUpdateSlice (V0 (Proc.devRef .tc main_v97_11)) (broadcastInDim S1x8x64x128 ![1, 2, 3] bcast_S8x64x128_S1x8x64x128_1_2_3 (Host.dotGeneral dot_S8x64x128_S8x128x128_S8x64x128_2_2_1_1_0_0 none (res_main_while0b_v339 V0) (res_main_while0b_v309 V0))) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x128_S1x8x64x128) = _
  exact al_86 h
theorem step_12 : step_main_v97_12 V0 = (step j s).main_v97_12 := by
  unfold step_main_v97_12 Step.step
  show id (Host.dynamicUpdateSlice (V0 (Proc.devRef .tc main_v97_12)) (broadcastInDim S1x8x64x64 ![1, 2, 3] bcast_S8x64x64_S1x8x64x64_1_2_3 (Host.dotGeneral dot_S8x64x128_S8x64x128_S8x64x64_2_2_1_1_0_0 none (res_main_while0b_v310 V0) (res_main_while0b_v312 V0))) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x64_S1x8x64x64) = _
  exact al_91 h
theorem step_13 : step_main_v97_13 V0 = (step j s).main_v97_13 := by
  unfold step_main_v97_13 Step.step
  show id (Host.dynamicUpdateSlice (V0 (Proc.devRef .tc main_v97_13)) (broadcastInDim S1x8x64x128 ![1, 2, 3] bcast_S8x64x128_S1x8x64x128_1_2_3 (Host.dotGeneral dot_S8x64x128_S8x128x128_S8x64x128_2_2_1_1_0_0 none (res_main_while0b_v310 V0) (res_main_while0b_v309 V0))) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x128_S1x8x64x128) = _
  exact al_96 h
theorem step_14 : step_main_v97_14 V0 = (step j s).main_v97_14 := by
  unfold step_main_v97_14 Step.step
  show id (Host.dynamicUpdateSlice (V0 (Proc.devRef .tc main_v97_14)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v97_9)) (res_main_while0b_v312 V0)) transposes_S8x128x64_S8x64x128_0_2_1)) (fun k => (((![res_main_while0b_v302 V0, constantI S_ 32 0#32, constantI S_ 32 0#32, constantI S_ 32 0#32] : Fin 4 → (⟨S_, .i32⟩ : BufTy).Contents (Elt F))) k (Shape.Idx.first h_S_)).toInt) updateFits_S128x8x64x128_S1x8x64x128) = _
  exact al_101 h
theorem step_15 : step_main_v97_15 V0 = (step j s).main_v97_15 := by
  unfold step_main_v97_15 Step.step
  show id (Host.dynamicUpdateSlice (V0 (Proc.devRef .tc main_v97_15)) (broadcastInDim S1x8 ![1] bcast_S8_S1x8_1 (Host.reduceAdd (shapeCast S8x1x1 (Host.reduceAdd (mulf (res_main_while0b_v309 V0) (V0 (Proc.devRef .tc main_v97_9))) (constant S_ .f32 0x00000000#32) reducesTo_S8x128x128_S8_d1_2 h_S_) shapeCasts_S8_S8x1x1) (constant S_ .f32 0x00000000#32) reducesTo_S8x1x1_S8_d1_2 h_S_)) (fun k => (((![res_main_while0b_v302 V0, constantI S_ 32 0#32] : Fin 2 → (⟨S_, .i32⟩ : BufTy).Contents (Elt F))) k (Shape.Idx.first h_S_)).toInt) updateFits_S128x8_S1x8) = _
  exact al_104 h
theorem step_8 : step_main_v97_8 V0 = constantI S_ 32 (BitVec.ofNat 32 (j + 1)) := by
  unfold step_main_v97_8
  rw [h.n_8]
  funext i
  show BitVec.ofNat 32 j + 1#32 = BitVec.ofNat 32 (j + 1)
  simp only [BitVec.ofNat_add]

omit h

theorem out_main_v300_holds (h : Holds V0 s j) {x_main_arg0 : (⟨S8192x2048, .f32⟩ : BufTy).Contents (Elt F)} (h_main_arg0 : V0 (Proc.devRef .tc main_arg0) = x_main_arg0) {x_main_arg1 : (⟨S8192x1024, .f32⟩ : BufTy).Contents (Elt F)} (h_main_arg1 : V0 (Proc.devRef .tc main_arg1) = x_main_arg1) {x_main_arg2 : (⟨S8192x128, .f32⟩ : BufTy).Contents (Elt F)} (h_main_arg2 : V0 (Proc.devRef .tc main_arg2) = x_main_arg2) {x_main_arg4 : (⟨S128x8x64x64, .f32⟩ : BufTy).Contents (Elt F)} (h_main_arg4 : V0 (Proc.devRef .tc main_arg4) = x_main_arg4) : out_main_v300 V0 = Step.R_main_v300 s x_main_arg0 x_main_arg1 x_main_arg2 x_main_arg4 := by
  unfold out_main_v300 Step.R_main_v300
  rw [h.f_14, h.f_12, h.f_11, h.f_10, h.f_13, h_main_arg0, h_main_arg1, h_main_arg2, h_main_arg4]
  try rfl

theorem out_main_v295_holds (h : Holds V0 s j) {x_main_arg2 : (⟨S8192x128, .f32⟩ : BufTy).Contents (Elt F)} (h_main_arg2 : V0 (Proc.devRef .tc main_arg2) = x_main_arg2) {x_main_arg4 : (⟨S128x8x64x64, .f32⟩ : BufTy).Contents (Elt F)} (h_main_arg4 : V0 (Proc.devRef .tc main_arg4) = x_main_arg4) : out_main_v295 V0 = Step.R_main_v295 s x_main_arg2 x_main_arg4 := by
  unfold out_main_v295 Step.R_main_v295
  rw [h.f_10, h_main_arg2, h_main_arg4]
  try rfl

theorem out_main_v294_holds (h : Holds V0 s j) {x_main_arg0 : (⟨S8192x2048, .f32⟩ : BufTy).Contents (Elt F)} (h_main_arg0 : V0 (Proc.devRef .tc main_arg0) = x_main_arg0) {x_main_arg1 : (⟨S8192x1024, .f32⟩ : BufTy).Contents (Elt F)} (h_main_arg1 : V0 (Proc.devRef .tc main_arg1) = x_main_arg1) {x_main_arg2 : (⟨S8192x128, .f32⟩ : BufTy).Contents (Elt F)} (h_main_arg2 : V0 (Proc.devRef .tc main_arg2) = x_main_arg2) {x_main_arg4 : (⟨S128x8x64x64, .f32⟩ : BufTy).Contents (Elt F)} (h_main_arg4 : V0 (Proc.devRef .tc main_arg4) = x_main_arg4) : out_main_v294 V0 = Step.R_main_v294 s x_main_arg0 x_main_arg1 x_main_arg2 x_main_arg4 := by
  unfold out_main_v294 Step.R_main_v294
  rw [h.f_14, h.f_15, h.f_13, h.f_11, h.f_12, h.f_10, h_main_arg0, h_main_arg1, h_main_arg2, h_main_arg4]
  try rfl

/-- One trip keeps the valuation holding: `step` of the state, the same set-up values, the next number. -/
theorem holds_step (h : Holds V0 s j) : Holds (STEP V0) (step j s) (j + 1) where
  f_9 := (STEP_main_v97_9 V0).trans (step_9 h)
  f_10 := (STEP_main_v97_10 V0).trans (step_10 h)
  f_11 := (STEP_main_v97_11 V0).trans (step_11 h)
  f_12 := (STEP_main_v97_12 V0).trans (step_12 h)
  f_13 := (STEP_main_v97_13 V0).trans (step_13 h)
  f_14 := (STEP_main_v97_14 V0).trans (step_14 h)
  f_15 := (STEP_main_v97_15 V0).trans (step_15 h)
  n_8 := (STEP_main_v97_8 V0).trans (step_8 h)
  f_0 := (STEP_main_v97_0 V0).trans h.f_0
  f_1 := (STEP_main_v97_1 V0).trans h.f_1
  f_2 := (STEP_main_v97_2 V0).trans h.f_2
  f_3 := (STEP_main_v97_3 V0).trans h.f_3
  f_4 := (STEP_main_v97_4 V0).trans h.f_4
  f_5 := (STEP_main_v97_5 V0).trans h.f_5
  f_6 := (STEP_main_v97_6 V0).trans h.f_6
  f_7 := (STEP_main_v97_7 V0).trans h.f_7

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 1000000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v300) = Step.R_main_v300 (it c 128) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v295) = Step.R_main_v295 (it c 128) (m ((c.tc : Thread nD τ).loc main_arg2)) (m ((c.tc : Thread nD τ).loc main_arg4))
      ∧ r.2.mem ((c.tc : Thread nD τ).loc main_v294) = Step.R_main_v294 (it c 128) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 128
    ⟨(h c).1.trans (out_main_v300_holds hk (iter_main_arg0 m c 128) (iter_main_arg1 m c 128) (iter_main_arg2 m c 128) (iter_main_arg4 m c 128)), (h c).2.1.trans (out_main_v295_holds hk (iter_main_arg2 m c 128) (iter_main_arg4 m c 128)), (h c).2.2.1.trans (out_main_v294_holds hk (iter_main_arg0 m c 128) (iter_main_arg1 m c 128) (iter_main_arg2 m c 128) (iter_main_arg4 m c 128)), (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.StepRun

end
-- ==== Proof.Real.lean ====
/- The gradient of the gated delta rule on one chunk of one head, over the reals: what the kernel and the reference both
   compute. `RIn` holds the data of one chunk and head; every other definition is one step of the gradient. -/
module

public import Idealize.ShloMosaic.Lib.Pointwise

@[expose] public section

noncomputable section

namespace Cert.Delta

/-- The product of two matrices. -/
def nn {m n p : ℕ} (a : Fin m → Fin n → ℝ) (b : Fin n → Fin p → ℝ) (i : Fin m) (j : Fin p) : ℝ := ∑ k, a i k * b k j
/-- The product with the second matrix transposed. -/
def nt {m n p : ℕ} (a : Fin m → Fin n → ℝ) (b : Fin p → Fin n → ℝ) (i : Fin m) (j : Fin p) : ℝ := ∑ k, a i k * b j k
/-- The product with the first matrix transposed. -/
def tn {m n p : ℕ} (a : Fin n → Fin m → ℝ) (b : Fin n → Fin p → ℝ) (i : Fin m) (j : Fin p) : ℝ := ∑ k, a k i * b k j

/-- The data of one chunk of 64 positions of one head: q, k, v, the gates `be` and the running sums `gc` of the log decays,
    the scale `sg` of q, the saved inverse `T`, the state `s0` the chunk starts from, and the gradients `dO` of its output and
    `dS` of the state it ends in. -/
@[ext] structure RIn where
  q : Fin 64 → Fin 128 → ℝ
  k : Fin 64 → Fin 128 → ℝ
  v : Fin 64 → Fin 128 → ℝ
  dO : Fin 64 → Fin 128 → ℝ
  be : Fin 64 → ℝ
  gc : Fin 64 → ℝ
  sg : ℝ
  T : Fin 64 → Fin 64 → ℝ
  s0 : Fin 128 → Fin 128 → ℝ
  dS : Fin 128 → Fin 128 → ℝ

namespace RIn
variable (x : RIn)

/-- The decay from position `j` to a later position `i`. -/
def gam (i j : Fin 64) : ℝ := if j ≤ i then Real.exp (x.gc i - x.gc j) else 0
def eg (i : Fin 64) : ℝ := Real.exp (x.gc i)
def gl : ℝ := x.gc 63
def ek (i : Fin 64) : ℝ := Real.exp (x.gl - x.gc i)
def dec : ℝ := Real.exp x.gl
def qs (i : Fin 64) (d : Fin 128) : ℝ := x.q i d * x.sg
def kb (i : Fin 64) (d : Fin 128) : ℝ := x.k i d * x.be i
def A (i j : Fin 64) : ℝ := if j < i then nt x.kb x.k i j * x.gam i j else 0
def attn (i j : Fin 64) : ℝ := if j ≤ i then nt x.qs x.k i j * x.gam i j else 0
def vb (i : Fin 64) (d : Fin 128) : ℝ := x.v i d * x.be i
def kbg (i : Fin 64) (d : Fin 128) : ℝ := x.kb i d * x.eg i
def qg (i : Fin 64) (d : Fin 128) : ℝ := x.qs i d * x.eg i
def kd (i : Fin 64) (d : Fin 128) : ℝ := x.k i d * x.ek i
def u : Fin 64 → Fin 128 → ℝ := nn x.T x.vb
def w : Fin 64 → Fin 128 → ℝ := nn x.T x.kbg
def vn (i : Fin 64) (d : Fin 128) : ℝ := x.u i d - nn x.w x.s0 i d
/-- The gradient of `vn`. -/
def dvn (i : Fin 64) (d : Fin 128) : ℝ := tn x.attn x.dO i d + nn x.kd x.dS i d
/-- The gradient of `attn`. -/
def dattn (i j : Fin 64) : ℝ := if j ≤ i then nt x.dO x.vn i j else 0
def dqg : Fin 64 → Fin 128 → ℝ := nt x.dO x.s0
def dkd : Fin 64 → Fin 128 → ℝ := nt x.vn x.dS
def ddec : ℝ := ∑ a, ∑ b, x.s0 a b * x.dS a b
/-- The gradient of the state the chunk starts from. -/
def dSn (a b : Fin 128) : ℝ := tn x.qg x.dO a b + x.dec * x.dS a b - tn x.w x.dvn a b
def dw (i : Fin 64) (d : Fin 128) : ℝ := 0 - nt x.dvn x.s0 i d
def dT (i j : Fin 64) : ℝ := nt x.dvn x.vb i j + nt x.dw x.kbg i j
def dvb : Fin 64 → Fin 128 → ℝ := tn x.T x.dvn
def dkbg : Fin 64 → Fin 128 → ℝ := tn x.T x.dw
def x1 : Fin 64 → Fin 64 → ℝ := tn x.T x.dT
def dA (i j : Fin 64) : ℝ := if j < i then 0 - nt x.x1 x.T i j else 0
def dkk (i j : Fin 64) : ℝ := x.dA i j * x.gam i j
def dqm (i j : Fin 64) : ℝ := x.dattn i j * x.gam i j
def M (i j : Fin 64) : ℝ := x.dA i j * x.A i j + x.dattn i j * x.attn i j
def msum (i : Fin 64) : ℝ := ∑ j, x.M i j
def mcol (j : Fin 64) : ℝ := ∑ i, x.M i j
def dkb (i : Fin 64) (d : Fin 128) : ℝ := nn x.dkk x.k i d + x.dkbg i d * x.eg i
def dk (i : Fin 64) (d : Fin 128) : ℝ :=
  tn x.dkk x.kb i d + tn x.dqm x.qs i d + x.dkd i d * x.ek i + x.dkb i d * x.be i
def dqs (i : Fin 64) (d : Fin 128) : ℝ := nn x.dqm x.k i d + x.dqg i d * x.eg i
def rkd (i : Fin 64) : ℝ := ∑ d, x.dkd i d * x.kd i d
def dgl : ℝ := ∑ i, x.rkd i + x.ddec * x.dec
/-- The gradient of the running sums of the log decays. -/
def dgc (i : Fin 64) : ℝ :=
  x.msum i - x.mcol i + ∑ d, x.dqg i d * x.qg i d - x.rkd i + ∑ d, x.dkbg i d * x.kbg i d
    + (if i = 63 then x.dgl else 0)
/-- The gradient of the gates. -/
def dbe (i : Fin 64) : ℝ := ∑ d, x.dkb i d * x.k i d + ∑ d, x.dvb i d * x.v i d
/-- The gradient of q, of v and of the log decays. -/
def dq (i : Fin 64) (d : Fin 128) : ℝ := x.dqs i d * x.sg
def dv (i : Fin 64) (d : Fin 128) : ℝ := x.dvb i d * x.be i
def dg (j : Fin 64) : ℝ := ∑ i, (if j ≤ i then x.dgc i else 0)

end RIn

end Cert.Delta

end
-- ==== Proof.Rep.lean ====
/- Vectors of extended reals that hold real numbers, and what the operations of a program make of them. -/
module

public import Idealize.ShloMosaic.Lib.Pointwise
public import proofs.«01_k».proof.Proof.Real

@[expose] public section

noncomputable section

namespace Cert.Delta

open Idealize.ShloMosaic

/-- The vector `v` holds the real numbers `f`. -/
def Rep1 {a : ℕ} (v : (⟨1, ![a]⟩ : Shape).Idx → EReal) (f : Fin a → ℝ) : Prop :=
  ∀ i, v (ix1 i) = ((f i : ℝ) : EReal)
/-- The matrix `v` holds the real numbers `f`. -/
def Rep2 {a b : ℕ} (v : (⟨2, ![a, b]⟩ : Shape).Idx → EReal) (f : Fin a → Fin b → ℝ) : Prop :=
  ∀ i j, v (ix2 i j) = ((f i j : ℝ) : EReal)
/-- The rank-3 array `v` holds the real numbers `f`. -/
def Rep3 {a b c : ℕ} (v : (⟨3, ![a, b, c]⟩ : Shape).Idx → EReal) (f : Fin a → Fin b → Fin c → ℝ) : Prop :=
  ∀ i j k, v (ix3 i j k) = ((f i j k : ℝ) : EReal)
/-- The rank-4 array `v` holds the real numbers `f`. -/
def Rep4 {a b c d : ℕ} (v : (⟨4, ![a, b, c, d]⟩ : Shape).Idx → EReal) (f : Fin a → Fin b → Fin c → Fin d → ℝ) : Prop :=
  ∀ i j k l, v (ix4 i j k l) = ((f i j k l : ℝ) : EReal)

/-- A sum of real numbers, in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of real numbers, in the extended reals. -/
theorem coe_sum_mul {ι : Type*} (s : Finset ι) (f g : ι → ℝ) :
    (∑ i ∈ s, ((f i : ℝ) : EReal) * ((g i : ℝ) : EReal)) = ((∑ i ∈ s, f i * g i : ℝ) : EReal) := by
  rw [← coe_sum]; exact Finset.sum_congr rfl fun i _ => (EReal.coe_mul _ _).symm

/-- A choice between two real numbers, in the extended reals. -/
theorem coe_ite (p : Prop) [Decidable p] (a b : ℝ) : (if p then (a : EReal) else (b : EReal)) = ((if p then a else b : ℝ) : EReal) := by
  split <;> rfl

/-- The literal of the scale `1/√128`, read as a real number. -/
def sg : ℝ := (Ideal.ofBits .f32 0x3DB504F3#32).toReal

theorem sg_coe : Ideal.ofBits .f32 0x3DB504F3#32 = ((sg : ℝ) : EReal) := by
  refine (EReal.coe_toReal ?_ ?_).symm <;> simp [Ideal.ofBits, Ideal.ieee, -EReal.coe_mul, EReal.coe_ne_top, EReal.coe_ne_bot]

end Cert.Delta

end
-- ==== Proof.Ops.lean ====
/- The operations that one head of the kernel is made of, each with what it makes of vectors that hold real numbers. -/
module

public import proofs.«01_k».proof.Proof.Rep
public import proofs.«01_k».proof.KernelIdeal

@[expose] public section

noncomputable section

namespace Cert.Delta

open Idealize.ShloMosaic Cert.KernelIdeal
variable [Cert.KernelIdeal.Facts]
open Cert.KernelIdeal.Facts₀

abbrev V64x128 := FVec Ideal S64x128 .f32
abbrev V64x64 := FVec Ideal S64x64 .f32
abbrev V128x128 := FVec Ideal S128x128 .f32
abbrev V64x1 := FVec Ideal S64x1 .f32
abbrev V1x1 := FVec Ideal S1x1 .f32

/-- The vector of one f32 literal. -/
def lit (s : Shape) (b : BitVec 32) : FVec Ideal s .f32 := broadcast s (Scalar.ofBits .f32 b : Ideal .f32)

def b16 {s : Shape} (x : FVec Ideal s .f32) : FVec Ideal s .bf16 := truncf .bf16 x bitsLt_bf16_f32

def dTX (a : FVec Ideal S64x64 .bf16) (b : FVec Ideal S64x128 .bf16) : V64x128 :=
  matmul dot_S64x64_S64x128_S64x128_1_0_0_1_n_n none a b (constant S64x128 .f32 0x00000000#32)
def dTtX (a : FVec Ideal S64x64 .bf16) (b : FVec Ideal S64x128 .bf16) : V64x128 :=
  matmul dot_S64x64_S64x128_S64x128_0_0_1_1_n_n none a b (constant S64x128 .f32 0x00000000#32)
def dXXt (a b : FVec Ideal S64x128 .bf16) : V64x64 :=
  matmul dot_S64x128_S64x128_S64x64_1_1_0_0_n_n none a b (constant S64x64 .f32 0x00000000#32)
def dXtX (a b : FVec Ideal S64x128 .bf16) : V128x128 :=
  matmul dot_S64x128_S64x128_S128x128_0_0_1_1_n_n none a b (constant S128x128 .f32 0x00000000#32)
def dXS (a : FVec Ideal S64x128 .bf16) (b : FVec Ideal S128x128 .bf16) : V64x128 :=
  matmul dot_S64x128_S128x128_S64x128_1_0_0_1_n_n none a b (constant S64x128 .f32 0x00000000#32)
def dXSt (a : FVec Ideal S64x128 .bf16) (b : FVec Ideal S128x128 .bf16) : V64x128 :=
  matmul dot_S64x128_S128x128_S64x128_1_1_0_0_n_n none a b (constant S64x128 .f32 0x00000000#32)
def dTtT (a b : FVec Ideal S64x64 .bf16) : V64x64 :=
  matmul dot_S64x64_S64x64_S64x64_0_0_1_1_n_n none a b (constant S64x64 .f32 0x00000000#32)
def dTTt (a b : FVec Ideal S64x64 .bf16) : V64x64 :=
  matmul dot_S64x64_S64x64_S64x64_1_1_0_0_n_n none a b (constant S64x64 .f32 0x00000000#32)

theorem b16_rep {a b : ℕ} {v : FVec Ideal ⟨2, ![a, b]⟩ .f32} {f : Fin a → Fin b → ℝ} (h : Rep2 v f) : Rep2 (b16 v) f := by
  intro i j; pointwise [b16]; exact h i j

theorem dTX_rep {a b f g} (ha : Rep2 a f) (hb : Rep2 b g) : Rep2 (dTX a b) (nn f g) := by
  intro i j; pointwise [dTX]; simp only [ha _ _, hb _ _, coe_sum_mul]; rfl
theorem dTtX_rep {a b f g} (ha : Rep2 a f) (hb : Rep2 b g) : Rep2 (dTtX a b) (tn f g) := by
  intro i j; pointwise [dTtX]; simp only [ha _ _, hb _ _, coe_sum_mul]; rfl
theorem dXXt_rep {a b f g} (ha : Rep2 a f) (hb : Rep2 b g) : Rep2 (dXXt a b) (nt f g) := by
  intro i j; pointwise [dXXt]; simp only [ha _ _, hb _ _, coe_sum_mul]; rfl
theorem dXtX_rep {a b f g} (ha : Rep2 a f) (hb : Rep2 b g) : Rep2 (dXtX a b) (tn f g) := by
  intro i j; pointwise [dXtX]; simp only [ha _ _, hb _ _, coe_sum_mul]; rfl
theorem dXS_rep {a b f g} (ha : Rep2 a f) (hb : Rep2 b g) : Rep2 (dXS a b) (nn f g) := by
  intro i j; pointwise [dXS]; simp only [ha _ _, hb _ _, coe_sum_mul]; rfl
theorem dXSt_rep {a b f g} (ha : Rep2 a f) (hb : Rep2 b g) : Rep2 (dXSt a b) (nt f g) := by
  intro i j; pointwise [dXSt]; simp only [ha _ _, hb _ _, coe_sum_mul]; rfl
theorem dTtT_rep {a b f g} (ha : Rep2 a f) (hb : Rep2 b g) : Rep2 (dTtT a b) (tn f g) := by
  intro i j; pointwise [dTtT]; simp only [ha _ _, hb _ _, coe_sum_mul]; rfl
theorem dTTt_rep {a b f g} (ha : Rep2 a f) (hb : Rep2 b g) : Rep2 (dTTt a b) (nt f g) := by
  intro i j; pointwise [dTTt]; simp only [ha _ _, hb _ _, coe_sum_mul]; rfl

section
variable {a b : ℕ} {v w : FVec Ideal ⟨2, ![a, b]⟩ .f32} {f g : Fin a → Fin b → ℝ}

theorem addf_rep (hv : Rep2 v f) (hw : Rep2 w g) : Rep2 (addf v w) (fun i j => f i j + g i j) := by
  intro i j; pointwise; simp only [hv _ _, hw _ _, EReal.coe_add]
theorem subf_rep (hv : Rep2 v f) (hw : Rep2 w g) : Rep2 (subf v w) (fun i j => f i j - g i j) := by
  intro i j; pointwise; simp only [hv _ _, hw _ _, EReal.coe_sub]
theorem mulf_rep (hv : Rep2 v f) (hw : Rep2 w g) : Rep2 (mulf v w) (fun i j => f i j * g i j) := by
  intro i j; pointwise; simp only [hv _ _, hw _ _, EReal.coe_mul]
theorem exp_rep (hv : Rep2 v f) : Rep2 (exp v) (fun i j => Real.exp (f i j)) := by
  intro i j; pointwise; simp only [hv _ _]; rfl
theorem lit_zero_rep : Rep2 (lit ⟨2, ![a, b]⟩ 0x00000000#32) (fun _ _ => 0) := by
  intro i j; pointwise [lit]; rfl
theorem lit_sg_rep : Rep2 (lit ⟨2, ![a, b]⟩ 0x3DB504F3#32) (fun _ _ => sg) := by
  intro i j; pointwise [lit]; exact sg_coe
end

def rowI : IVec S64x64 32 := iota .tc S64x64 32 [0] iota_S64x64_d0_w32
def colI : IVec S64x64 32 := iota .tc S64x64 32 [1] iota_S64x64_d1_w32
/-- Position `i` sees position `j`: `j ≤ i`. -/
def causal : IVec S64x64 1 := cmpi .sge rowI colI
/-- … and `j < i`. -/
def strict : IVec S64x64 1 := cmpi .sgt rowI colI

theorem causal_apply (i j : Fin 64) : causal (ix2 i j) = if j ≤ i then 1#1 else 0#1 := by
  revert i j; pointwise [causal, rowI, colI]; decide +kernel
theorem strict_apply (i j : Fin 64) : strict (ix2 i j) = if j < i then 1#1 else 0#1 := by
  revert i j; pointwise [strict, rowI, colI]; decide +kernel

theorem causal_rep {v w : V64x64} {f g : Fin 64 → Fin 64 → ℝ} (hv : ∀ i j : Fin 64, j ≤ i → v (ix2 i j) = ((f i j : ℝ) : EReal)) (hw : Rep2 w g) :
    Rep2 (select causal v w) (fun i j => if j ≤ i then f i j else g i j) := by
  intro i j
  show Scalar.select (causal (ix2 i j)) (v (ix2 i j)) (w (ix2 i j)) = _
  rw [causal_apply]
  by_cases h : j ≤ i
  · simp only [h, if_true]; exact hv i j h
  · simp only [h, if_false]; exact hw i j
theorem strict_rep {v w : V64x64} {f g} (hv : Rep2 v f) (hw : Rep2 w g) :
    Rep2 (select strict v w) (fun i j => if j < i then f i j else g i j) := by
  intro i j
  show Scalar.select (strict (ix2 i j)) (v (ix2 i j)) (w (ix2 i j)) = _
  rw [strict_apply]
  by_cases h : j < i
  · simp only [h, if_true]; exact hv i j
  · simp only [h, if_false]; exact hw i j

def toX (c : V64x1) : V64x128 := broadcastTo S64x128 c broadcasts_S64x1_S64x128
theorem toX_rep {c : V64x1} {f : Fin 64 → ℝ} (h : Rep2 c fun i _ => f i) : Rep2 (toX c) (fun i _ => f i) := by
  intro i j; pointwise [toX]; exact h i 0

/-- The sum of each row, as a column. -/
def rsX (x : V64x128) : V64x1 :=
  shapeCast S64x1 (multiReduction .add [1] S64 x 0x00000000#32 reduces_S64x128_S64 (.inl rfl) rfl) shapeCasts_S64_S64x1
def rsT (x : V64x64) : V64x1 :=
  shapeCast S64x1 (multiReduction .add [1] S64 x 0x00000000#32 reduces_S64x64_S64 (.inl rfl) rfl) shapeCasts_S64_S64x1
def rsS (x : V128x128) : FVec Ideal S128x1 .f32 :=
  shapeCast S128x1 (multiReduction .add [1] S128 x 0x00000000#32 reduces_S128x128_S128 (.inl rfl) rfl) shapeCasts_S128_S128x1
def csC (x : V64x1) : V1x1 :=
  shapeCast S1x1 (multiReduction .add [0] S1 x 0x00000000#32 reduces_S64x1_S1 (.inl rfl) rfl) shapeCasts_S1_S1x1
def csS (x : FVec Ideal S128x1 .f32) : V1x1 :=
  shapeCast S1x1 (multiReduction .add [0] S1 x 0x00000000#32 reduces_S128x1_S1 (.inl rfl) rfl) shapeCasts_S1_S1x1

theorem rsX_rep {x f} (h : Rep2 x f) : Rep2 (rsX x) (fun i _ => ∑ d, f i d) := by
  intro i j; pointwise [rsX]; simp only [h _ _, coe_sum]
theorem rsT_rep {x f} (h : Rep2 x f) : Rep2 (rsT x) (fun i _ => ∑ d, f i d) := by
  intro i j; pointwise [rsT]; simp only [h _ _, coe_sum]
theorem rsS_rep {x f} (h : Rep2 x f) : Rep2 (rsS x) (fun i _ => ∑ d, f i d) := by
  intro i j; pointwise [rsS]; simp only [h _ _, coe_sum]
theorem csC_rep {x : V64x1} {f : Fin 64 → ℝ} (h : Rep2 x fun i _ => f i) : Rep2 (csC x) (fun _ _ => ∑ d, f d) := by
  intro i j; pointwise [csC]; simp only [h _ _, coe_sum]
theorem csS_rep {x : FVec Ideal S128x1 .f32} {f : Fin 128 → ℝ} (h : Rep2 x fun i _ => f i) :
    Rep2 (csS x) (fun _ _ => ∑ d, f d) := by
  intro i j; pointwise [csS]; simp only [h _ _, coe_sum]

/-- Row 63 of a column, as the sum over its rows of the column masked. -/
def row63 (c : V64x1) : V1x1 :=
  csC (select (cmpi .eq (iota .tc S64x1 32 [0] iota_S64x1_d0_w32) (broadcast S64x1 63#32)) c (lit S64x1 0x00000000#32))

theorem is63 (i : Fin 64) :
    (cmpi .eq (iota .tc S64x1 32 [0] iota_S64x1_d0_w32) (broadcast S64x1 63#32)) (ix2 i (0 : Fin 1)) = if i = 63 then 1#1 else 0#1 := by
  revert i; pointwise; decide +kernel

theorem sel63_rep {v w : V64x1} {f g : Fin 64 → ℝ} (hv : Rep2 v fun i _ => f i) (hw : Rep2 w fun i _ => g i) :
    Rep2 (select (cmpi .eq (iota .tc S64x1 32 [0] iota_S64x1_d0_w32) (broadcast S64x1 63#32)) v w)
      (fun i _ => if i = 63 then f i else g i) := by
  intro i j
  obtain rfl : j = 0 := Subsingleton.elim _ _
  show Scalar.select ((cmpi .eq (iota .tc S64x1 32 [0] iota_S64x1_d0_w32) (broadcast S64x1 63#32)) (ix2 i (0 : Fin 1))) (v (ix2 i 0)) (w (ix2 i 0)) = _
  rw [is63]
  by_cases h : i = 63
  · simp only [h, if_true]; exact hv _ _
  · simp only [h, if_false]; exact hw _ _

theorem row63_rep {c : V64x1} {f : Fin 64 → ℝ} (h : Rep2 c fun i _ => f i) : Rep2 (row63 c) (fun _ _ => f 63) := by
  have := csC_rep (sel63_rep h (g := fun _ => 0) lit_zero_rep)
  simp only [Finset.sum_ite_eq', Finset.mem_univ, if_true] at this
  exact this

/-- Column `b` of a matrix of 128 lanes, as the sum of each row of the matrix masked. -/
def col (m : V64x128) (b : BitVec 32) : V64x1 :=
  rsX (select (cmpi .eq (iota .tc S64x128 32 [1] iota_S64x128_d1_w32) (broadcast S64x128 b)) m (lit S64x128 0x00000000#32))
/-- Row `b` of a matrix of 8 rows. -/
def row (m : FVec Ideal S8x64 .f32) (b : BitVec 32) : FVec Ideal S1x64 .f32 :=
  shapeCast S1x64 (multiReduction .add [0] S64
    (select (cmpi .eq (iota .tc S8x64 32 [0] iota_S8x64_d0_w32) (broadcast S8x64 b)) m (lit S8x64 0x00000000#32))
    0x00000000#32 reduces_S8x64_S64 (.inl rfl) rfl) shapeCasts_S64_S1x64

theorem isLane (i : Fin 64) (l b : Fin 128) :
    (cmpi .eq (iota .tc S64x128 32 [1] iota_S64x128_d1_w32) (broadcast S64x128 (BitVec.ofNat 32 b.val))) (ix2 i l)
      = if l = b then 1#1 else 0#1 := by
  pointwise; clear i; revert l b; decide +kernel
theorem isRow (i : Fin 64) (l b : Fin 8) :
    (cmpi .eq (iota .tc S8x64 32 [0] iota_S8x64_d0_w32) (broadcast S8x64 (BitVec.ofNat 32 b.val))) (ix2 l i)
      = if l = b then 1#1 else 0#1 := by
  pointwise; clear i; revert l b; decide +kernel

theorem selLane_rep (b : Fin 128) {v w : V64x128} {f g} (hv : Rep2 v f) (hw : Rep2 w g) :
    Rep2 (select (cmpi .eq (iota .tc S64x128 32 [1] iota_S64x128_d1_w32) (broadcast S64x128 (BitVec.ofNat 32 b.val))) v w)
      (fun i l => if l = b then f i l else g i l) := by
  intro i l
  show Scalar.select ((cmpi .eq (iota .tc S64x128 32 [1] iota_S64x128_d1_w32) (broadcast S64x128 (BitVec.ofNat 32 b.val))) (ix2 i l))
    (v (ix2 i l)) (w (ix2 i l)) = _
  rw [isLane]
  by_cases h : l = b
  · simp only [h, if_true]; exact hv _ _
  · simp only [h, if_false]; exact hw _ _

theorem col_rep (b : Fin 128) {m f} (h : Rep2 m f) : Rep2 (col m (BitVec.ofNat 32 b.val)) (fun i _ => f i b) := by
  have := rsX_rep (selLane_rep b h (g := fun _ _ => 0) lit_zero_rep)
  simp only [Finset.sum_ite_eq', Finset.mem_univ, if_true] at this
  exact this

theorem row_rep (b : Fin 8) {m : FVec Ideal S8x64 .f32} {f : Fin 8 → Fin 64 → ℝ} (h : Rep2 m f) :
    Rep2 (row m (BitVec.ofNat 32 b.val)) (fun _ i => f b i) := by
  intro z i
  have h0 (l : Fin 8) : select (cmpi .eq (iota .tc S8x64 32 [0] iota_S8x64_d0_w32) (broadcast S8x64 (BitVec.ofNat 32 b.val))) m
      (lit S8x64 0x00000000#32) (ix2 l i) = ((if l = b then f l i else 0 : ℝ) : EReal) := by
    show Scalar.select ((cmpi .eq (iota .tc S8x64 32 [0] iota_S8x64_d0_w32) (broadcast S8x64 (BitVec.ofNat 32 b.val))) (ix2 l i))
      (m (ix2 l i)) (lit S8x64 0x00000000#32 (ix2 l i)) = _
    rw [isRow]
    by_cases h' : l = b
    · simp only [h', if_true]; exact h _ _
    · simp only [h', if_false]; exact lit_zero_rep (a := 8) (b := 64) l i
  have h1 : row m (BitVec.ofNat 32 b.val) (ix2 z i) = ∑ l : Fin 8,
      select (cmpi .eq (iota .tc S8x64 32 [0] iota_S8x64_d0_w32) (broadcast S8x64 (BitVec.ofNat 32 b.val))) m
        (lit S8x64 0x00000000#32) (ix2 l i) := by
    unfold row
    generalize select (cmpi .eq (iota .tc S8x64 32 [0] iota_S8x64_d0_w32) (broadcast S8x64 (BitVec.ofNat 32 b.val))) m
        (lit S8x64 0x00000000#32) = y
    pointwise
  rw [h1]; simp only [h0, coe_sum]; simp [Finset.sum_ite_eq']

end Cert.Delta

end
-- ==== Proof.Head.lean ====
/- One head of one chunk, as the kernel computes it: each value as a definition over the data of the head, in the kernel's
   operations. -/
module

public import proofs.«01_k».proof.Proof.Ops

@[expose] public section

noncomputable section

namespace Cert.Delta

open Idealize.ShloMosaic Cert.KernelIdeal
variable [Cert.KernelIdeal.Facts]
open Cert.KernelIdeal.Facts₀

/-- The low part that rounding to bf16 leaves, rounded in its turn. -/
def lo {s : Shape} (x : FVec Ideal s .f32) : FVec Ideal s .bf16 := b16 (subf x (extf .f32 (b16 x) bitsLt_bf16_f32))
/-- The product of two matrices each split in a high and a low part, the first transposed. -/
def dTtT3 (a b : V64x64) : V64x64 := addf (dTtT (b16 a) (b16 b)) (addf (dTtT (b16 a) (lo b)) (dTtT (lo a) (b16 b)))
/-- … the second transposed. -/
def dTTt3 (a b : V64x64) : V64x64 := addf (dTTt (b16 a) (b16 b)) (addf (dTTt (b16 a) (lo b)) (dTTt (lo a) (b16 b)))
/-- The greatest value of each row. -/
def mxX (x : V64x128) : V64x1 :=
  shapeCast S64x1 (multiReduction .maximumf [1] S64 x 0xFF800000#32 reduces_S64x128_S64 (.inl rfl) rfl) shapeCasts_S64_S64x1

/-- What one head of one chunk is computed from. -/
structure HIn where
  q : V64x128
  k : V64x128
  v : V64x128
  dO : V64x128
  be : V64x1
  gc : V64x1
  gr : FVec Ideal S1x64 .f32
  T : V64x64
  s0 : V128x128
  dS : V128x128

namespace HIn
variable (X : HIn)

/-- The decays between positions. -/
def gam : V64x64 :=
  select causal (exp (select causal (subf (broadcastTo S64x64 X.gc broadcasts_S64x1_S64x64)
    (broadcastTo S64x64 X.gr broadcasts_S1x64_S64x64)) (lit S64x64 0x00000000#32))) (lit S64x64 0x00000000#32)
def eg : V64x1 := exp X.gc
/-- The last running sum. -/
def glast : V1x1 := row63 X.gc
def ek : V64x1 := exp (subf (broadcastTo S64x1 X.glast broadcasts_S1x1_S64x1) X.gc)
def dec : V1x1 := exp X.glast
/-- The scaled q. -/
def qs : V64x128 := mulf X.q (lit S64x128 0x3DB504F3#32)
def kb : V64x128 := mulf X.k (toX X.be)
def A : V64x64 := select strict (mulf (dXXt (b16 X.kb) (b16 X.k)) X.gam) (lit S64x64 0x00000000#32)
def attn : V64x64 := select causal (mulf (dXXt (b16 X.qs) (b16 X.k)) X.gam) (lit S64x64 0x00000000#32)
def vb : V64x128 := mulf X.v (toX X.be)
def kbg : V64x128 := mulf X.kb (toX X.eg)
def qg : V64x128 := mulf X.qs (toX X.eg)
def kd : V64x128 := mulf X.k (toX X.ek)
def u : V64x128 := dTX (b16 X.T) (b16 X.vb)
def w : V64x128 := dTX (b16 X.T) (b16 X.kbg)
def vn : V64x128 := subf X.u (dXS (b16 X.w) (b16 X.s0))
def dvn : V64x128 := addf (dTtX (b16 X.attn) (b16 X.dO)) (dXS (b16 X.kd) (b16 X.dS))
def dattn : V64x64 := select causal (dXXt (b16 X.dO) (b16 X.vn)) (lit S64x64 0x00000000#32)
def dqg : V64x128 := dXSt (b16 X.dO) (b16 X.s0)
def dkd : V64x128 := dXSt (b16 X.vn) (b16 X.dS)
def ddec : V1x1 := csS (rsS (mulf X.s0 X.dS))
/-- The state gradient this head hands to the chunk before. -/
def dSn : V128x128 := subf (addf (dXtX (b16 X.qg) (b16 X.dO)) (mulf (broadcastTo S128x128 X.dec broadcasts_S1x1_S128x128) X.dS)) (dXtX (b16 X.w) (b16 X.dvn))
def dw : V64x128 := subf (lit S64x128 0x00000000#32) (dXSt (b16 X.dvn) (b16 X.s0))
def dT : V64x64 := addf (dXXt (b16 X.dvn) (b16 X.vb)) (dXXt (b16 X.dw) (b16 X.kbg))
def dvb : V64x128 := dTtX (b16 X.T) (b16 X.dvn)
def dkbg : V64x128 := dTtX (b16 X.T) (b16 X.dw)
def x1 : V64x64 := dTtT3 X.T X.dT
def dA : V64x64 := select strict (subf (lit S64x64 0x00000000#32) (dTTt3 X.x1 X.T)) (lit S64x64 0x00000000#32)
def dkk : V64x64 := mulf X.dA X.gam
def dqm : V64x64 := mulf X.dattn X.gam
def M : V64x64 := addf (mulf X.dA X.A) (mulf X.dattn X.attn)
def msum : V64x1 := rsT X.M
/-- The column sums, by products with a matrix of ones. -/
def mcol : V64x1 := mxX (addf (dTtX (b16 X.M) (b16 (lit S64x128 0x3F800000#32))) (dTtX (lo X.M) (b16 (lit S64x128 0x3F800000#32))))
def dkb : V64x128 := addf (dTX (b16 X.dkk) (b16 X.k)) (mulf X.dkbg (toX X.eg))
/-- The gradient of k. -/
def dk : V64x128 := addf (addf (addf (dTtX (b16 X.dkk) (b16 X.kb)) (dTtX (b16 X.dqm) (b16 X.qs))) (mulf X.dkd (toX X.ek))) (mulf X.dkb (toX X.be))
def dqs : V64x128 := addf (dTX (b16 X.dqm) (b16 X.k)) (mulf X.dqg (toX X.eg))
def rkd : V64x1 := rsX (mulf X.dkd X.kd)
def dgl : V1x1 := addf (csC X.rkd) (mulf X.ddec X.dec)
/-- The gradient of the running sums. -/
def dgc : V64x1 := addf (addf (subf (addf (subf X.msum X.mcol) (rsX (mulf X.dqg X.qg))) X.rkd) (rsX (mulf X.dkbg X.kbg))) (select (cmpi .eq (iota .tc S64x1 32 [0] iota_S64x1_d0_w32) (broadcast S64x1 63#32)) (broadcastTo S64x1 (shapeCast S1x1 X.dgl shapeCasts_S1x1_S1x1) broadcasts_S1x1_S64x1) (lit S64x1 0x00000000#32))
/-- The gradient of the gates. -/
def dbe : V64x1 := addf (rsX (mulf X.dkb X.k)) (rsX (mulf X.dvb X.v))
/-- The gradient of q. -/
def dq : V64x128 := mulf X.dqs (lit S64x128 0x3DB504F3#32)
/-- The gradient of v. -/
def dv : V64x128 := mulf X.dvb (toX X.be)

end HIn

end Cert.Delta

end
-- ==== Proof.HeadRep.lean ====
/- The head of Head.lean over real numbers: where its data hold real numbers, each of its values holds Real.lean's. -/
module

public import proofs.«01_k».proof.Proof.Head

@[expose] public section

noncomputable section

namespace Cert.Delta

open Idealize.ShloMosaic Cert.KernelIdeal
variable [Cert.KernelIdeal.Facts]
open Cert.KernelIdeal.Facts₀

/-- The data `X` of a head hold the real numbers `x`. -/
structure RepIn (X : HIn) (x : RIn) : Prop where
  q : Rep2 X.q x.q
  k : Rep2 X.k x.k
  v : Rep2 X.v x.v
  dO : Rep2 X.dO x.dO
  be : Rep2 X.be fun i _ => x.be i
  gc : Rep2 X.gc fun i _ => x.gc i
  gr : Rep2 X.gr fun _ i => x.gc i
  T : Rep2 X.T x.T
  s0 : Rep2 X.s0 x.s0
  dS : Rep2 X.dS x.dS
  sg : sg = x.sg

theorem bcC_rep {c : V1x1} {f : ℝ} (h : Rep2 c fun _ _ => f) : Rep2 (broadcastTo S64x1 c broadcasts_S1x1_S64x1) (fun _ _ => f) := by
  intro i j; pointwise; exact h 0 0
theorem bcS_rep {c : V1x1} {f : ℝ} (h : Rep2 c fun _ _ => f) : Rep2 (broadcastTo S128x128 c broadcasts_S1x1_S128x128) (fun _ _ => f) := by
  intro i j; pointwise; exact h 0 0
theorem scC_rep {c : V1x1} {f : ℝ} (h : Rep2 c fun _ _ => f) : Rep2 (shapeCast S1x1 c shapeCasts_S1x1_S1x1) (fun _ _ => f) := by
  intro i j; pointwise; exact h i j

/-- The low part of a real matrix is zero: rounding is exact over the extended reals. -/
theorem lo_rep {a b : ℕ} {v : FVec Ideal ⟨2, ![a, b]⟩ .f32} {f : Fin a → Fin b → ℝ} (h : Rep2 v f) : Rep2 (lo v) (fun _ _ => 0) := by
  intro i j; pointwise [lo, b16]; rw [h i j, ← EReal.coe_sub, sub_self]

theorem dTtT3_rep {a b f g} (ha : Rep2 a f) (hb : Rep2 b g) : Rep2 (dTtT3 a b) (tn f g) := by
  intro i j
  refine (addf_rep (dTtT_rep (b16_rep ha) (b16_rep hb)) (addf_rep (dTtT_rep (b16_rep ha) (lo_rep hb)) (dTtT_rep (lo_rep ha) (b16_rep hb))) i j).trans ?_
  simp [tn]
theorem dTTt3_rep {a b f g} (ha : Rep2 a f) (hb : Rep2 b g) : Rep2 (dTTt3 a b) (nt f g) := by
  intro i j
  refine (addf_rep (dTTt_rep (b16_rep ha) (b16_rep hb)) (addf_rep (dTTt_rep (b16_rep ha) (lo_rep hb)) (dTTt_rep (lo_rep ha) (b16_rep hb))) i j).trans ?_
  simp [nt]

theorem fold_max_const {n : ℕ} (a : ℝ) : (Finset.univ : Finset (Fin (n + 1))).fold max (⊥ : EReal) (fun _ => (a : EReal)) = (a : EReal) := by
  exact Finset.sup_const Finset.univ_nonempty (a : EReal)

/-- Where all entries of a row are equal, their greatest is any of them. -/
theorem mxX_rep {x : V64x128} {f : Fin 64 → ℝ} (h : Rep2 x fun i _ => f i) : Rep2 (mxX x) (fun i _ => f i) := by
  intro i j; pointwise [mxX]; simp only [h _ _]
  exact fold_max_const _

theorem one_rep {a b : ℕ} : Rep2 (lit ⟨2, ![a, b]⟩ 0x3F800000#32) (fun _ _ => 1) := by
  intro i j; pointwise [lit]; rfl

theorem mcol_rep' {m f} (h : Rep2 m f) :
    Rep2 (mxX (addf (dTtX (b16 m) (b16 (lit S64x128 0x3F800000#32))) (dTtX (lo m) (b16 (lit S64x128 0x3F800000#32)))))
      (fun i _ => ∑ k, f k i) := by
  refine mxX_rep ?_
  intro i j
  refine (addf_rep (dTtX_rep (b16_rep h) (b16_rep one_rep)) (dTtX_rep (lo_rep h) (b16_rep one_rep)) i j).trans ?_
  simp [tn]

namespace HIn
variable {X : HIn} {x : RIn}

theorem gam_rep (h : RepIn X x) : Rep2 X.gam x.gam := by
  refine causal_rep (fun i j hij => ?_) lit_zero_rep
  have h1 : Rep2 (subf (broadcastTo S64x64 X.gc broadcasts_S64x1_S64x64) (broadcastTo S64x64 X.gr broadcasts_S1x64_S64x64))
      (fun i j => x.gc i - x.gc j) := by
    refine subf_rep ?_ ?_
    · intro i j; pointwise; exact h.gc i 0
    · intro i j; pointwise; exact h.gr 0 j
  refine (exp_rep (causal_rep (fun i j _ => h1 i j) lit_zero_rep) i j).trans ?_
  simp only [hij, if_true]
theorem eg_rep (h : RepIn X x) : Rep2 X.eg (fun i _ => x.eg i) := exp_rep h.gc
theorem glast_rep (h : RepIn X x) : Rep2 X.glast (fun _ _ => x.gl) := row63_rep h.gc
theorem ek_rep (h : RepIn X x) : Rep2 X.ek (fun i _ => x.ek i) := exp_rep (subf_rep (bcC_rep (glast_rep h)) h.gc)
theorem dec_rep (h : RepIn X x) : Rep2 X.dec (fun _ _ => x.dec) := exp_rep (glast_rep h)
theorem qs_rep (h : RepIn X x) : Rep2 X.qs (x.qs) := mulf_rep h.q (h.sg ▸ lit_sg_rep)
theorem kb_rep (h : RepIn X x) : Rep2 X.kb (x.kb) := mulf_rep h.k (toX_rep h.be)
theorem A_rep (h : RepIn X x) : Rep2 X.A (x.A) := strict_rep (mulf_rep (dXXt_rep (b16_rep (kb_rep h)) (b16_rep h.k)) (gam_rep h)) lit_zero_rep
theorem attn_rep (h : RepIn X x) : Rep2 X.attn (x.attn) := causal_rep (fun i j _ => mulf_rep (dXXt_rep (b16_rep (qs_rep h)) (b16_rep h.k)) (gam_rep h) i j) lit_zero_rep
theorem vb_rep (h : RepIn X x) : Rep2 X.vb (x.vb) := mulf_rep h.v (toX_rep h.be)
theorem kbg_rep (h : RepIn X x) : Rep2 X.kbg (x.kbg) := mulf_rep (kb_rep h) (toX_rep (eg_rep h))
theorem qg_rep (h : RepIn X x) : Rep2 X.qg (x.qg) := mulf_rep (qs_rep h) (toX_rep (eg_rep h))
theorem kd_rep (h : RepIn X x) : Rep2 X.kd (x.kd) := mulf_rep h.k (toX_rep (ek_rep h))
theorem u_rep (h : RepIn X x) : Rep2 X.u (x.u) := dTX_rep (b16_rep h.T) (b16_rep (vb_rep h))
theorem w_rep (h : RepIn X x) : Rep2 X.w (x.w) := dTX_rep (b16_rep h.T) (b16_rep (kbg_rep h))
theorem vn_rep (h : RepIn X x) : Rep2 X.vn (x.vn) := subf_rep (u_rep h) (dXS_rep (b16_rep (w_rep h)) (b16_rep h.s0))
theorem dvn_rep (h : RepIn X x) : Rep2 X.dvn (x.dvn) := addf_rep (dTtX_rep (b16_rep (attn_rep h)) (b16_rep h.dO)) (dXS_rep (b16_rep (kd_rep h)) (b16_rep h.dS))
theorem dattn_rep (h : RepIn X x) : Rep2 X.dattn (x.dattn) := causal_rep (fun i j _ => dXXt_rep (b16_rep h.dO) (b16_rep (vn_rep h)) i j) lit_zero_rep
theorem dqg_rep (h : RepIn X x) : Rep2 X.dqg (x.dqg) := dXSt_rep (b16_rep h.dO) (b16_rep h.s0)
theorem dkd_rep (h : RepIn X x) : Rep2 X.dkd (x.dkd) := dXSt_rep (b16_rep (vn_rep h)) (b16_rep h.dS)
theorem ddec_rep (h : RepIn X x) : Rep2 X.ddec (fun _ _ => x.ddec) := csS_rep (rsS_rep (mulf_rep h.s0 h.dS))
theorem dSn_rep (h : RepIn X x) : Rep2 X.dSn (x.dSn) := subf_rep (addf_rep (dXtX_rep (b16_rep (qg_rep h)) (b16_rep h.dO)) (mulf_rep (bcS_rep (dec_rep h)) h.dS)) (dXtX_rep (b16_rep (w_rep h)) (b16_rep (dvn_rep h)))
theorem dw_rep (h : RepIn X x) : Rep2 X.dw (x.dw) := subf_rep lit_zero_rep (dXSt_rep (b16_rep (dvn_rep h)) (b16_rep h.s0))
theorem dT_rep (h : RepIn X x) : Rep2 X.dT (x.dT) := addf_rep (dXXt_rep (b16_rep (dvn_rep h)) (b16_rep (vb_rep h))) (dXXt_rep (b16_rep (dw_rep h)) (b16_rep (kbg_rep h)))
theorem dvb_rep (h : RepIn X x) : Rep2 X.dvb (x.dvb) := dTtX_rep (b16_rep h.T) (b16_rep (dvn_rep h))
theorem dkbg_rep (h : RepIn X x) : Rep2 X.dkbg (x.dkbg) := dTtX_rep (b16_rep h.T) (b16_rep (dw_rep h))
theorem x1_rep (h : RepIn X x) : Rep2 X.x1 (x.x1) := dTtT3_rep h.T (dT_rep h)
theorem dA_rep (h : RepIn X x) : Rep2 X.dA (x.dA) := strict_rep (subf_rep lit_zero_rep (dTTt3_rep (x1_rep h) h.T)) lit_zero_rep
theorem dkk_rep (h : RepIn X x) : Rep2 X.dkk (x.dkk) := mulf_rep (dA_rep h) (gam_rep h)
theorem dqm_rep (h : RepIn X x) : Rep2 X.dqm (x.dqm) := mulf_rep (dattn_rep h) (gam_rep h)
theorem M_rep (h : RepIn X x) : Rep2 X.M (x.M) := addf_rep (mulf_rep (dA_rep h) (A_rep h)) (mulf_rep (dattn_rep h) (attn_rep h))
theorem msum_rep (h : RepIn X x) : Rep2 X.msum (fun i _ => x.msum i) := rsT_rep (M_rep h)
theorem mcol_rep (h : RepIn X x) : Rep2 X.mcol (fun i _ => x.mcol i) := mcol_rep' (M_rep h)
theorem dkb_rep (h : RepIn X x) : Rep2 X.dkb (x.dkb) := addf_rep (dTX_rep (b16_rep (dkk_rep h)) (b16_rep h.k)) (mulf_rep (dkbg_rep h) (toX_rep (eg_rep h)))
theorem dk_rep (h : RepIn X x) : Rep2 X.dk (x.dk) := addf_rep (addf_rep (addf_rep (dTtX_rep (b16_rep (dkk_rep h)) (b16_rep (kb_rep h))) (dTtX_rep (b16_rep (dqm_rep h)) (b16_rep (qs_rep h)))) (mulf_rep (dkd_rep h) (toX_rep (ek_rep h)))) (mulf_rep (dkb_rep h) (toX_rep h.be))
theorem dqs_rep (h : RepIn X x) : Rep2 X.dqs (x.dqs) := addf_rep (dTX_rep (b16_rep (dqm_rep h)) (b16_rep h.k)) (mulf_rep (dqg_rep h) (toX_rep (eg_rep h)))
theorem rkd_rep (h : RepIn X x) : Rep2 X.rkd (fun i _ => x.rkd i) := rsX_rep (mulf_rep (dkd_rep h) (kd_rep h))
theorem dgl_rep (h : RepIn X x) : Rep2 X.dgl (fun _ _ => x.dgl) := addf_rep (csC_rep (rkd_rep h)) (mulf_rep (ddec_rep h) (dec_rep h))
theorem dgc_rep (h : RepIn X x) : Rep2 X.dgc (fun i _ => x.dgc i) := addf_rep (addf_rep (subf_rep (addf_rep (subf_rep (msum_rep h) (mcol_rep h)) (rsX_rep (mulf_rep (dqg_rep h) (qg_rep h)))) (rkd_rep h)) (rsX_rep (mulf_rep (dkbg_rep h) (kbg_rep h)))) (sel63_rep (bcC_rep (scC_rep (dgl_rep h))) lit_zero_rep)
theorem dbe_rep (h : RepIn X x) : Rep2 X.dbe (fun i _ => x.dbe i) := addf_rep (rsX_rep (mulf_rep (dkb_rep h) h.k)) (rsX_rep (mulf_rep (dvb_rep h) h.v))
theorem dq_rep (h : RepIn X x) : Rep2 X.dq (x.dq) := mulf_rep (dqs_rep h) (h.sg ▸ lit_sg_rep)
theorem dv_rep (h : RepIn X x) : Rep2 X.dv (x.dv) := mulf_rep (dvb_rep h) (toX_rep h.be)

end HIn

end Cert.Delta

end
-- ==== Proof.Block.lean ====
/- One block of the kernel's arguments: the data of each of its eight heads, and the blocks the body makes of the heads' values. -/
module

public import proofs.«01_k».proof.Proof.HeadRep

@[expose] public section

noncomputable section

namespace Cert.Delta

open Idealize.ShloMosaic Cert.KernelIdeal

/-- The real numbers of one chunk, all eight heads. -/
structure Blk where
  qk : Fin 64 → Fin 2048 → ℝ
  v : Fin 64 → Fin 1024 → ℝ
  gb : Fin 64 → Fin 128 → ℝ
  sp : Fin 8 → Fin 128 → Fin 128 → ℝ
  T : Fin 8 → Fin 64 → Fin 64 → ℝ
  dO : Fin 64 → Fin 1024 → ℝ

/-- The lane of position `d` of head `h`. -/
def laneV (h : Fin 8) (d : Fin 128) : Fin 1024 := ⟨128 * h.val + d.val, by omega⟩
def laneQ (h : Fin 8) (d : Fin 128) : Fin 2048 := ⟨128 * h.val + d.val, by omega⟩
def laneK (h : Fin 8) (d : Fin 128) : Fin 2048 := ⟨1024 + 128 * h.val + d.val, by omega⟩
/-- The lane of a head's gate, and of its log decay. -/
def laneB (h : Fin 8) : Fin 128 := ⟨h.val, by omega⟩
def laneG (h : Fin 8) : Fin 128 := ⟨8 + h.val, by omega⟩

/-- The data of head `h` of a block, with the gradient `S` of the state the chunk ends in. -/
def Blk.head (b : Blk) (h : Fin 8) (S : Fin 128 → Fin 128 → ℝ) : RIn where
  q i d := b.qk i (laneQ h d)
  k i d := b.qk i (laneK h d)
  v i d := b.v i (laneV h d)
  dO i d := b.dO i (laneV h d)
  be i := b.gb i (laneB h)
  gc i := ∑ j, if j ≤ i then b.gb j (laneG h) else 0
  sg := sg
  T := b.T h
  s0 := b.sp h
  dS := S

/-- The seven blocks hold the real numbers `b`. -/
structure RepBlk (b : Blk) (x0 : FVec Ideal S64x2048 .f32) (x1 : FVec Ideal S64x1024 .f32) (x2 : FVec Ideal S64x128 .f32)
    (x3 : FVec Ideal S1x8x64 .f32) (x4 : FVec Ideal S1x8x128x128 .f32) (x5 : FVec Ideal S1x8x64x64 .f32)
    (x6 : FVec Ideal S64x1024 .f32) : Prop where
  qk : Rep2 x0 b.qk
  v : Rep2 x1 b.v
  gb : Rep2 x2 b.gb
  gT : Rep3 x3 fun _ h i => b.gb i (laneG h)
  sp : Rep4 x4 fun _ => b.sp
  T : Rep4 x5 fun _ => b.T
  dO : Rep2 x6 b.dO

variable [Cert.KernelIdeal.Facts]
open Cert.KernelIdeal.Facts₀

/-- The mask of the pairs `j ≤ i`, as numbers. -/
def Lt : V64x64 := sitofp .f32 (extui 32 causal natLt_1_32)
theorem Lt_rep : Rep2 Lt fun i j => if j ≤ i then 1 else 0 := by
  intro i j
  show ((((causal (ix2 i j)).setWidth 32).toInt : ℝ) : EReal) = _
  rw [causal_apply]
  by_cases h : j ≤ i
  · simp only [h, if_true]
    show ((((1#1).setWidth 32).toInt : ℝ) : EReal) = ((1 : ℝ) : EReal)
    have : ((1#1).setWidth 32).toInt = 1 := by decide
    rw [this]; norm_cast
  · simp only [h, if_false]
    show ((((0#1).setWidth 32).toInt : ℝ) : EReal) = ((0 : ℝ) : EReal)
    have : ((0#1).setWidth 32).toInt = 0 := by decide
    rw [this]; norm_cast

/-- The running sums of the gates, down the rows. -/
def gcum (gb : V64x128) : V64x128 :=
  matmul dot_S64x64_S64x128_S64x128_1_0_0_1_n_n (some .fp32) Lt gb (constant S64x128 .f32 0x00000000#32)
theorem gcum_rep {gb : V64x128} {f} (h : Rep2 gb f) : Rep2 (gcum gb) fun i l => ∑ j, if j ≤ i then f j l else 0 := by
  intro i l; pointwise [gcum]
  simp only [Lt_rep _ _, h _ _, coe_sum_mul, ite_mul, one_mul, zero_mul]
/-- … along the lanes of the transposed block. -/
def gcumT (gT : FVec Ideal S1x8x64 .f32) : FVec Ideal S8x64 .f32 :=
  matmul dot_S8x64_S64x64_S8x64_1_1_0_0_n_n (some .fp32) (shapeCast S8x64 gT shapeCasts_S1x8x64_S8x64) Lt (constant S8x64 .f32 0x00000000#32)
theorem gcumT_rep {gT : FVec Ideal S1x8x64 .f32} {f : Fin 8 → Fin 64 → ℝ} (h : Rep3 gT fun _ => f) :
    Rep2 (gcumT gT) fun l i => ∑ j, if j ≤ i then f l j else 0 := by
  intro l i; pointwise [gcumT]
  simp only [Lt_rep _ _, h _ _ _, coe_sum_mul, mul_ite, mul_one, mul_zero]

/-- The data of a head from the loaded vectors. -/
def headIn (b b8 : BitVec 32) (q k v dO gb : V64x128) (gT : FVec Ideal S1x8x64 .f32) (T : FVec Ideal S1x1x64x64 .f32)
    (s0 : FVec Ideal S1x1x128x128 .f32) (dS : FVec Ideal S1x128x128 .f32) : HIn where
  q := q
  k := k
  v := v
  dO := dO
  be := col gb b
  gc := col (gcum gb) b8
  gr := row (gcumT gT) b
  T := shapeCast S64x64 T shapeCasts_S1x1x64x64_S64x64
  s0 := shapeCast S128x128 s0 shapeCasts_S1x1x128x128_S128x128
  dS := shapeCast S128x128 dS shapeCasts_S1x128x128_S128x128

/-- The loaded vectors of head `h` hold its data. -/
theorem headIn_rep (b : Blk) (h : Fin 8) (S : Fin 128 → Fin 128 → ℝ) {q k v dO gb : V64x128} {gT : FVec Ideal S1x8x64 .f32}
    {T : FVec Ideal S1x1x64x64 .f32} {s0 : FVec Ideal S1x1x128x128 .f32} {dS : FVec Ideal S1x128x128 .f32}
    (hq : Rep2 q fun i d => b.qk i (laneQ h d)) (hk : Rep2 k fun i d => b.qk i (laneK h d)) (hv : Rep2 v fun i d => b.v i (laneV h d))
    (hd : Rep2 dO fun i d => b.dO i (laneV h d)) (hg : Rep2 gb b.gb) (hT : Rep3 gT fun _ h i => b.gb i (laneG h))
    (h5 : Rep4 T fun _ _ => b.T h) (h4 : Rep4 s0 fun _ _ => b.sp h) (hs : Rep3 dS fun _ => S) :
    RepIn (headIn (BitVec.ofNat 32 (laneB h).val) (BitVec.ofNat 32 (laneG h).val) q k v dO gb gT T s0 dS) (b.head h S) where
  q := hq
  k := hk
  v := hv
  dO := hd
  be := col_rep (laneB h) hg
  gc := col_rep (laneG h) (gcum_rep hg)
  gr := row_rep h (gcumT_rep hT)
  T := by intro i j; pointwise [headIn]; exact h5 _ _ i j
  s0 := by intro i j; pointwise [headIn]; exact h4 _ _ i j
  dS := by intro i j; pointwise [headIn]; exact hs _ i j
  sg := rfl

/-- A column added into one lane. -/
def addLane (b : BitVec 32) (x : V64x1) (acc : V64x128) : V64x128 :=
  addf acc (select (cmpi .eq (iota .tc S64x128 32 [1] iota_S64x128_d1_w32) (broadcast S64x128 b))
    (broadcastTo S64x128 (shapeCast S64x1 x shapeCasts_S64x1_S64x1) broadcasts_S64x1_S64x128) (lit S64x128 0x00000000#32))
theorem addLane_rep (b : Fin 128) {x : V64x1} {acc : V64x128} {f : Fin 64 → Fin 128 → ℝ} {g : Fin 64 → ℝ} (hx : Rep2 x fun i _ => g i) (ha : Rep2 acc f) :
    Rep2 (addLane (BitVec.ofNat 32 b.val) x acc) fun i l => f i l + if l = b then g i else 0 :=
  addf_rep ha (selLane_rep b (f := fun i _ => g i) (by intro i l; pointwise; exact hx i 0) lit_zero_rep)

/-- The gradient of the gates' block from those of the running sums and of the gates. -/
def gatesOut (dgc dbe : V64x128) : V64x128 :=
  addf (matmul dot_S64x64_S64x128_S64x128_0_0_1_1_n_n (some .fp32) Lt dgc (constant S64x128 .f32 0x00000000#32)) dbe
theorem gatesOut_rep {x y : V64x128} {f g} (hx : Rep2 x f) (hy : Rep2 y g) :
    Rep2 (gatesOut x y) fun i l => (∑ j, if i ≤ j then f j l else 0) + g i l := by
  refine addf_rep ?_ hy
  intro i l; pointwise
  simp only [Lt_rep _ _, hx _ _, coe_sum_mul, ite_mul, one_mul, zero_mul]

/-- The gradient of the gates' block, over the reals: lanes 0–7 the gates', lanes 8–15 the log decays'. -/
def gatesR (X : Fin 8 → RIn) (i : Fin 64) (l : Fin 128) : ℝ :=
  if h : l.val < 8 then (X ⟨l.val, h⟩).dbe i else if h : l.val < 16 then (X ⟨l.val - 8, by omega⟩).dg i else 0

/-- The columns of the eight heads added one after another into the lanes from `o` on. -/
theorem lanes_rep (o : Fin 8 → Fin 128) {c : Fin 8 → V64x1} {g : Fin 8 → Fin 64 → ℝ} (hc : ∀ h, Rep2 (c h) fun i _ => g h i) :
    Rep2 (addLane (BitVec.ofNat 32 (o 7).val) (c 7) (addLane (BitVec.ofNat 32 (o 6).val) (c 6) (addLane (BitVec.ofNat 32 (o 5).val) (c 5)
      (addLane (BitVec.ofNat 32 (o 4).val) (c 4) (addLane (BitVec.ofNat 32 (o 3).val) (c 3) (addLane (BitVec.ofNat 32 (o 2).val) (c 2)
      (addLane (BitVec.ofNat 32 (o 1).val) (c 1) (addLane (BitVec.ofNat 32 (o 0).val) (c 0) (lit S64x128 0x00000000#32)))))))))
      fun i l => ∑ h, if l = o h then g h i else 0 := by
  have := addLane_rep (o 7) (hc 7) (addLane_rep (o 6) (hc 6) (addLane_rep (o 5) (hc 5) (addLane_rep (o 4) (hc 4)
    (addLane_rep (o 3) (hc 3) (addLane_rep (o 2) (hc 2) (addLane_rep (o 1) (hc 1) (addLane_rep (o 0) (hc 0) lit_zero_rep)))))))
  intro i l
  rw [this i l]; congr 1
  show _ = ∑ h, if l = o h then g h i else 0
  rw [Fin.sum_univ_eight, ← zero_add (if l = o 0 then g 0 i else 0)]

theorem gatesR_eq (X : Fin 8 → RIn) (i : Fin 64) (l : Fin 128) :
    (∑ j, if i ≤ j then (∑ h, if l = laneG h then (X h).dgc j else 0) else 0) + (∑ h, if l = laneB h then (X h).dbe i else 0)
      = gatesR X i l := by
  unfold gatesR
  split
  · next h =>
    have hG (h' : Fin 8) : ¬ l = laneG h' := fun e => by have := congrArg Fin.val e; simp only [laneG] at this; omega
    have hB (h' : Fin 8) : l = laneB h' ↔ h' = ⟨l.val, h⟩ := by
      constructor
      · intro e; apply Fin.ext; exact (congrArg Fin.val e).symm
      · rintro rfl; rfl
    simp [hG, hB]
  · next h =>
    have hB (h' : Fin 8) : ¬ l = laneB h' := fun e => by have := congrArg Fin.val e; simp only [laneB] at this; omega
    split
    · next h2 =>
      have hG (h' : Fin 8) : l = laneG h' ↔ h' = ⟨l.val - 8, by omega⟩ := by
        constructor
        · intro e; apply Fin.ext; have := congrArg Fin.val e; simp only [laneG] at this; show h'.val = l.val - 8; omega
        · rintro rfl; apply Fin.ext; show l.val = 8 + (l.val - 8); omega
      simp [hG, hB, RIn.dg]
    · next h2 =>
      have hG (h' : Fin 8) : ¬ l = laneG h' := fun e => by have := congrArg Fin.val e; simp only [laneG] at this; omega
      simp [hG, hB]

end Cert.Delta

end
-- ==== Proof.Args.lean ====
/- The real numbers of the whole arguments, the blocks they are cut into, and the gradient of the state carried backward through the chunks. -/
module

public import proofs.«01_k».proof.Proof.Block

@[expose] public section

noncomputable section

namespace Cert.Delta

open Idealize.ShloMosaic

/-- The real numbers of the arguments: 128 chunks of 64 rows. -/
structure Args where
  qk : Fin 8192 → Fin 2048 → ℝ
  v : Fin 8192 → Fin 1024 → ℝ
  gb : Fin 8192 → Fin 128 → ℝ
  sp : Fin 128 → Fin 8 → Fin 128 → Fin 128 → ℝ
  T : Fin 128 → Fin 8 → Fin 64 → Fin 64 → ℝ
  dO : Fin 8192 → Fin 1024 → ℝ

/-- Row `p` of chunk `n`. -/
def rowAt (n : Fin 128) (p : Fin 64) : Fin 8192 := ⟨n.val * 64 + p.val, by omega⟩

/-- The numbers of chunk `n`. -/
def Args.blk (a : Args) (n : Fin 128) : Blk where
  qk i l := a.qk (rowAt n i) l
  v i l := a.v (rowAt n i) l
  gb i l := a.gb (rowAt n i) l
  sp := a.sp n
  T := a.T n
  dO i l := a.dO (rowAt n i) l

/-- The chunk that step `k` of the backward walk handles. -/
def chunk (k : ℕ) : Fin 128 := ⟨127 - k, by omega⟩

/-- The gradient of the states that step `k` of the backward walk starts from. -/
def Args.S (a : Args) : ℕ → Fin 8 → Fin 128 → Fin 128 → ℝ
  | 0 => fun _ _ _ => 0
  | k + 1 => fun h => ((a.blk (chunk k)).head h (a.S k h)).dSn

/-- Head `h` of chunk `n`, at the gradient of the state it ends in. -/
def Args.X (a : Args) (n : Fin 128) (h : Fin 8) : RIn := (a.blk n).head h (a.S (127 - n.val) h)

theorem Args.X_chunk (a : Args) (k : ℕ) (hk : k < 128) (h : Fin 8) :
    a.X (chunk k) h = (a.blk (chunk k)).head h (a.S k h) := by
  have e : 127 - (chunk k).val = k := by show 127 - (127 - k) = k; omega
  unfold Args.X; rw [e]

theorem Args.S_succ (a : Args) (k : ℕ) (hk : k < 128) : a.S (k + 1) = fun h => (a.X (chunk k) h).dSn := by
  funext h; rw [a.X_chunk k hk]; rfl

/-- The six argument arrays hold the numbers `a`. -/
structure RepArgs (a : Args) (x0 : FVec Ideal Cert.KernelIdeal.S8192x2048 .f32) (x1 : FVec Ideal Cert.KernelIdeal.S8192x1024 .f32)
    (x2 : FVec Ideal Cert.KernelIdeal.S8192x128 .f32) (x3 : FVec Ideal Cert.KernelIdeal.S128x8x128x128 .f32)
    (x4 : FVec Ideal Cert.KernelIdeal.S128x8x64x64 .f32) (x5 : FVec Ideal Cert.KernelIdeal.S8192x1024 .f32) : Prop where
  qk : Rep2 x0 a.qk
  v : Rep2 x1 a.v
  gb : Rep2 x2 a.gb
  sp : Rep4 x3 a.sp
  T : Rep4 x4 a.T
  dO : Rep2 x5 a.dO

end Cert.Delta
-- ==== Proof.Body.lean ====
/- What the run of the body leaves in its outputs and in its scratch: the pieces the run stores, in the terms of Block.lean, and the
   real numbers they hold where the blocks it reads hold real numbers. -/
module

public import proofs.«01_k».proof.Proof.Block
public import proofs.«01_k».proof.Proof.Gen.KernelIdeal.Value
public import Idealize.ShloMosaic.Lib.Pipeline.ValueKit

@[expose] public section

noncomputable section

namespace Cert.Delta

open Idealize.ShloMosaic Idealize.ShloMosaic.TcCoe Idealize.SL.Sem Cert.KernelIdeal Cert.KernelIdeal.Gen

/-- A load of a rectangle of a matrix that holds real numbers. -/
theorem load2 {a b n m : ℕ} {M : Memref sig .tc .vmem ⟨2, ![a, b]⟩ .f32} (hM : M.IsWhole) {x : FVec Ideal ⟨2, ![a, b]⟩ .f32}
    {f : Fin a → Fin b → ℝ} (hx : Rep2 x f) (off : Fin 2 → ℕ) (inb) {g : Fin n → Fin m → ℝ}
    (hg : ∀ i d i' d', i'.val = off 0 + i.val → d'.val = off 1 + d.val → f i' d' = g i d) :
    Rep2 (View.readAt (Elt Ideal) M.view (Rect.unit (s := ⟨2, ![a, b]⟩) off ![n, m] inb).toLoadRect (hM.unread x)) g := by
  intro i d
  rw [View.readAt_eq_ld, hM.read_unread]
  have h0 : off 0 + i.val < a := lt_of_lt_of_le (Nat.add_lt_add_left i.isLt _) (inb 0)
  have h1 : off 1 + d.val < b := lt_of_lt_of_le (Nat.add_lt_add_left d.isLt _) (inb 1)
  exact (View.ld_unit_apply_of (Val := Elt Ideal) (e := .f32) x off ![n, m] inb (ix2 i d) (ix2 ⟨_, h0⟩ ⟨_, h1⟩)
    (by intro k; fin_cases k <;> rfl)).trans ((hx _ _).trans (congrArg (fun z : ℝ => (z : EReal)) (hg i d ⟨_, h0⟩ ⟨_, h1⟩ rfl rfl)))
/-- … of an array of rank 3. -/
theorem load3 {a b c n m l : ℕ} {M : Memref sig .tc .vmem ⟨3, ![a, b, c]⟩ .f32} (hM : M.IsWhole) {x : FVec Ideal ⟨3, ![a, b, c]⟩ .f32}
    {f : Fin a → Fin b → Fin c → ℝ} (hx : Rep3 x f) (off : Fin 3 → ℕ) (inb) {g : Fin n → Fin m → Fin l → ℝ}
    (hg : ∀ i j k i' j' k', i'.val = off 0 + i.val → j'.val = off 1 + j.val → k'.val = off 2 + k.val → f i' j' k' = g i j k) :
    Rep3 (View.readAt (Elt Ideal) M.view (Rect.unit (s := ⟨3, ![a, b, c]⟩) off ![n, m, l] inb).toLoadRect (hM.unread x)) g := by
  intro i j k
  rw [View.readAt_eq_ld, hM.read_unread]
  have h0 : off 0 + i.val < a := lt_of_lt_of_le (Nat.add_lt_add_left i.isLt _) (inb 0)
  have h1 : off 1 + j.val < b := lt_of_lt_of_le (Nat.add_lt_add_left j.isLt _) (inb 1)
  have h2 : off 2 + k.val < c := lt_of_lt_of_le (Nat.add_lt_add_left k.isLt _) (inb 2)
  exact (View.ld_unit_apply_of (Val := Elt Ideal) (e := .f32) x off ![n, m, l] inb (ix3 i j k) (ix3 ⟨_, h0⟩ ⟨_, h1⟩ ⟨_, h2⟩)
    (by intro k; fin_cases k <;> rfl)).trans ((hx _ _ _).trans (congrArg (fun z : ℝ => (z : EReal)) (hg i j k ⟨_, h0⟩ ⟨_, h1⟩ ⟨_, h2⟩ rfl rfl rfl)))
/-- … of an array of rank 4. -/
theorem load4 {a b c e n m l r : ℕ} {M : Memref sig .tc .vmem ⟨4, ![a, b, c, e]⟩ .f32} (hM : M.IsWhole) {x : FVec Ideal ⟨4, ![a, b, c, e]⟩ .f32}
    {f : Fin a → Fin b → Fin c → Fin e → ℝ} (hx : Rep4 x f) (off : Fin 4 → ℕ) (inb) {g : Fin n → Fin m → Fin l → Fin r → ℝ}
    (hg : ∀ i j k q i' j' k' q', i'.val = off 0 + i.val → j'.val = off 1 + j.val → k'.val = off 2 + k.val → q'.val = off 3 + q.val →
      f i' j' k' q' = g i j k q) :
    Rep4 (View.readAt (Elt Ideal) M.view (Rect.unit (s := ⟨4, ![a, b, c, e]⟩) off ![n, m, l, r] inb).toLoadRect (hM.unread x)) g := by
  intro i j k q
  rw [View.readAt_eq_ld, hM.read_unread]
  have h0 : off 0 + i.val < a := lt_of_lt_of_le (Nat.add_lt_add_left i.isLt _) (inb 0)
  have h1 : off 1 + j.val < b := lt_of_lt_of_le (Nat.add_lt_add_left j.isLt _) (inb 1)
  have h2 : off 2 + k.val < c := lt_of_lt_of_le (Nat.add_lt_add_left k.isLt _) (inb 2)
  have h3 : off 3 + q.val < e := lt_of_lt_of_le (Nat.add_lt_add_left q.isLt _) (inb 3)
  exact (View.ld_unit_apply_of (Val := Elt Ideal) (e := .f32) x off ![n, m, l, r] inb (ix4 i j k q) (ix4 ⟨_, h0⟩ ⟨_, h1⟩ ⟨_, h2⟩ ⟨_, h3⟩)
    (by intro k; fin_cases k <;> rfl)).trans ((hx _ _ _ _).trans (congrArg (fun z : ℝ => (z : EReal)) (hg i j k q ⟨_, h0⟩ ⟨_, h1⟩ ⟨_, h2⟩ ⟨_, h3⟩ rfl rfl rfl rfl)))
section
variable {b : Blk} (h : Fin 8) {off2 : Fin 2 → ℕ} {off3 : Fin 3 → ℕ} {off4 : Fin 4 → ℕ}
theorem loadQ {M : Memref sig .tc .vmem S64x2048 .f32} (hM : M.IsWhole) {x : FVec Ideal S64x2048 .f32} {f} (hx : Rep2 x f)
    (ho : off2 = ![0, 128 * h.val]) {inb} :
    Rep2 (View.readAt (Elt Ideal) M.view (Rect.unit (s := S64x2048) off2 S64x128.size inb).toLoadRect (hM.unread x)) fun i d => f i (laneQ h d) := by
  subst ho
  exact load2 hM hx _ inb fun i d i' d' e0 e1 => congrArg₂ f (Fin.ext (e0.trans (Nat.zero_add _))) (Fin.ext e1)
theorem loadK {M : Memref sig .tc .vmem S64x2048 .f32} (hM : M.IsWhole) {x : FVec Ideal S64x2048 .f32} {f} (hx : Rep2 x f)
    (ho : off2 = ![0, 1024 + 128 * h.val]) {inb} :
    Rep2 (View.readAt (Elt Ideal) M.view (Rect.unit (s := S64x2048) off2 S64x128.size inb).toLoadRect (hM.unread x)) fun i d => f i (laneK h d) := by
  subst ho
  exact load2 hM hx _ inb fun i d i' d' e0 e1 => congrArg₂ f (Fin.ext (e0.trans (Nat.zero_add _))) (Fin.ext e1)
theorem loadV {M : Memref sig .tc .vmem S64x1024 .f32} (hM : M.IsWhole) {x : FVec Ideal S64x1024 .f32} {f} (hx : Rep2 x f)
    (ho : off2 = ![0, 128 * h.val]) {inb} :
    Rep2 (View.readAt (Elt Ideal) M.view (Rect.unit (s := S64x1024) off2 S64x128.size inb).toLoadRect (hM.unread x)) fun i d => f i (laneV h d) := by
  subst ho
  exact load2 hM hx _ inb fun i d i' d' e0 e1 => congrArg₂ f (Fin.ext (e0.trans (Nat.zero_add _))) (Fin.ext e1)
theorem loadB {M : Memref sig .tc .vmem S64x128 .f32} (hM : M.IsWhole) {x : FVec Ideal S64x128 .f32} {f} (hx : Rep2 x f)
    (ho : off2 = ![0, 0]) {inb} :
    Rep2 (View.readAt (Elt Ideal) M.view (Rect.unit (s := S64x128) off2 S64x128.size inb).toLoadRect (hM.unread x)) f := by
  subst ho
  exact load2 hM hx _ inb fun i d i' d' e0 e1 => congrArg₂ f (Fin.ext (e0.trans (Nat.zero_add _))) (Fin.ext (e1.trans (Nat.zero_add _)))
theorem loadG {M : Memref sig .tc .vmem S1x8x64 .f32} (hM : M.IsWhole) {x : FVec Ideal S1x8x64 .f32} {f} (hx : Rep3 x fun _ => f)
    (ho : off3 = ![0, 0, 0]) {inb} :
    Rep3 (View.readAt (Elt Ideal) M.view (Rect.unit (s := S1x8x64) off3 S1x8x64.size inb).toLoadRect (hM.unread x)) fun _ => f := by
  subst ho
  exact load3 hM hx _ inb fun i d k i' d' k' e0 e1 e2 => congrArg₂ f (Fin.ext (e1.trans (Nat.zero_add _))) (Fin.ext (e2.trans (Nat.zero_add _)))
theorem loadT {M : Memref sig .tc .vmem S1x8x64x64 .f32} (hM : M.IsWhole) {x : FVec Ideal S1x8x64x64 .f32} {f} (hx : Rep4 x fun _ => f)
    (ho : off4 = ![0, h.val, 0, 0]) {inb} :
    Rep4 (View.readAt (Elt Ideal) M.view (Rect.unit (s := S1x8x64x64) off4 S1x1x64x64.size inb).toLoadRect (hM.unread x)) fun _ _ => f h := by
  subst ho
  refine load4 hM hx _ inb fun i j k q i' j' k' q' e0 e1 e2 e3 => ?_
  rw [Fin.ext (show j'.val = h.val by have e1 : j'.val = h.val + j.val := e1; omega), Fin.ext (e2.trans (Nat.zero_add _)), Fin.ext (e3.trans (Nat.zero_add _))]
theorem loadS {M : Memref sig .tc .vmem S1x8x128x128 .f32} (hM : M.IsWhole) {x : FVec Ideal S1x8x128x128 .f32} {f} (hx : Rep4 x fun _ => f)
    (ho : off4 = ![0, h.val, 0, 0]) {inb} :
    Rep4 (View.readAt (Elt Ideal) M.view (Rect.unit (s := S1x8x128x128) off4 S1x1x128x128.size inb).toLoadRect (hM.unread x)) fun _ _ => f h := by
  subst ho
  refine load4 hM hx _ inb fun i j k q i' j' k' q' e0 e1 e2 e3 => ?_
  rw [Fin.ext (show j'.val = h.val by have e1 : j'.val = h.val + j.val := e1; omega), Fin.ext (e2.trans (Nat.zero_add _)), Fin.ext (e3.trans (Nat.zero_add _))]
theorem loadD {M : Memref sig .tc .vmem S8x128x128 .f32} (hM : M.IsWhole) {x : FVec Ideal S8x128x128 .f32} {f} (hx : Rep3 x f)
    (ho : off3 = ![h.val, 0, 0]) {inb} :
    Rep3 (View.readAt (Elt Ideal) M.view (Rect.unit (s := S8x128x128) off3 S1x128x128.size inb).toLoadRect (hM.unread x)) fun _ => f h := by
  subst ho
  refine load3 hM hx _ inb fun j k q j' k' q' e1 e2 e3 => ?_
  rw [Fin.ext (show j'.val = h.val by have e1 : j'.val = h.val + j.val := e1; omega), Fin.ext (e2.trans (Nat.zero_add _)), Fin.ext (e3.trans (Nat.zero_add _))]
end
/-- A load, of the zero matrices stored just before, of one of them. -/
theorem loadZ (M : Memref sig .tc .vmem S8x128x128 .f32) (inb) (off : Fin 3 → ℕ) (inb') :
    Rep3 (View.readCov (Val := Elt Ideal) M.view [⟨Rect.unit (s := S8x128x128) ![0, 0, 0] S8x128x128.size inb, lit S8x128x128 0x00000000#32⟩]
      (Rect.unit (s := S8x128x128) off S1x128x128.size inb').toLoadRect) (fun _ _ _ => 0) := by
  intro i j k
  rw [View.readCov_eq_canon', View.canon_unit_zero (by funext a; fin_cases a <;> rfl)]
  exact lit_zero_rep (a := 1) (b := 1) 0 0

/-- Where the later pieces cover an index, the earlier ones do not matter. -/
theorem canon_left {s : Shape} {e : EltTy} (L' : List (View.Piece (Elt Ideal) s e)) {y : s.Idx} :
    ∀ L : List (View.Piece (Elt Ideal) s e), (∃ p ∈ L, y ∈ p.1.set) → View.canon (L ++ L') y = View.canon L y
  | [], h => by obtain ⟨p, hp, _⟩ := h; exact absurd hp List.not_mem_nil
  | p :: L, h => by
    by_cases hm : y ∈ p.1.set
    · obtain ⟨r, w⟩ := p
      obtain ⟨x, rfl⟩ : ∃ x, r.emb x = y := r.exists_idx_of_mem hm
      rw [List.cons_append, View.canon_cons_emb, View.canon_cons_emb]
    · rw [List.cons_append, View.canon_cons_of_not_mem _ _ hm, View.canon_cons_of_not_mem _ _ hm]
      refine canon_left L' L ?_
      obtain ⟨q, hq, hy⟩ := h
      rcases List.mem_cons.mp hq with rfl | hq'
      · exact absurd hy hm
      · exact ⟨q, hq', hy⟩

/-- A tile of head `h'` read where it covers position `(p, d)` of head `h`. -/
theorem tile2 (h' : Fin 8) {w : S64x128.Idx → EReal} {f : Fin 8 → Fin 64 → Fin 128 → ℝ} (hw : Rep2 w (f h')) {h : Fin 8} {p : Fin 64}
    {d : Fin 128} (x : S64x128.Idx) {n : ℕ} (hn : n = 128 * h'.val) (e0 : p.val = (x 0).val) (e1 : 128 * h.val + d.val = n + (x 1).val) :
    w x = ((f h p d : ℝ) : EReal) := by
  have hx : (x 1).val < 128 := (x 1).isLt
  obtain rfl : h = h' := Fin.ext (by omega)
  obtain rfl : x = ix2 p d := by
    funext a; fin_cases a
    · exact Fin.ext (by show (x 0).val = p.val; omega)
    · exact Fin.ext (by show (x 1).val = d.val; omega)
  exact hw p d
/-- … of the state's gradients. -/
theorem tile3 (h' : Fin 8) {w : V128x128} {f : Fin 8 → Fin 128 → Fin 128 → ℝ} (hw : Rep2 w (f h')) {h : Fin 8} {p d : Fin 128}
    (x : S1x128x128.Idx) {n : ℕ} (hn : n = h'.val) (e0 : h.val = n + (x 0).val) (e1 : p.val = (x 1).val) (e2 : d.val = (x 2).val) :
    shapeCast S1x128x128 w shapeCasts_S128x128_S1x128x128 x = ((f h p d : ℝ) : EReal) := by
  have hx : (x 0).val < 1 := (x 0).isLt
  obtain rfl : h = h' := Fin.ext (by omega)
  obtain rfl : x = ix3 0 p d := by
    funext a; fin_cases a
    · exact Fin.ext (by show (x 0).val = 0; omega)
    · exact Fin.ext (by show (x 1).val = p.val; omega)
    · exact Fin.ext (by show (x 2).val = d.val; omega)
  pointwise
  exact hw p d

section
variable (c : Dev nD) (i : grid0.Coords) (arg1 : Memref sig .tc .vmem S64x2048 .f32) (harg1 : arg1.IsWhole) (arg2 : Memref sig .tc .vmem S64x1024 .f32) (harg2 : arg2.IsWhole) (arg3 : Memref sig .tc .vmem S64x128 .f32) (harg3 : arg3.IsWhole) (arg4 : Memref sig .tc .vmem S1x8x64 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S64x1024 .f32) (harg7 : arg7.IsWhole) (arg8 : Memref sig .tc .vmem S64x2048 .f32) (harg8 : arg8.IsWhole) (arg9 : Memref sig .tc .vmem S64x1024 .f32) (harg9 : arg9.IsWhole) (arg10 : Memref sig .tc .vmem S64x128 .f32) (harg10 : arg10.IsWhole) (arg11 : Memref sig .tc .vmem S8x128x128 .f32) (harg11 : arg11.IsWhole) (hc0 : cond0_0 i) (hn0 : ¬cond0_0 i) (x0 : Vec Ideal S64x2048 .f32) (x1 : Vec Ideal S64x1024 .f32) (x2 : Vec Ideal S64x128 .f32) (x3 : Vec Ideal S1x8x64 .f32) (x4 : Vec Ideal S1x8x128x128 .f32) (x5 : Vec Ideal S1x8x64x64 .f32) (x6 : Vec Ideal S64x1024 .f32)

/-- Head 0's data. -/
def headB0 (xs0 : Vec Ideal S8x128x128 .f32) : HIn :=
  headIn 0#32 8#32 (View.readAt (Elt Ideal) arg1.view (Rect.unit (s := S64x2048) ![0, 0] S64x128.size inb_S64x2048_S64x128_0_0).toLoadRect (harg1.unread x0))
    (View.readAt (Elt Ideal) arg1.view (Rect.unit (s := S64x2048) ![0, 1024] S64x128.size inb_S64x2048_S64x128_0_1024).toLoadRect (harg1.unread x0))
    (View.readAt (Elt Ideal) arg2.view (Rect.unit (s := S64x1024) ![0, 0] S64x128.size inb_S64x1024_S64x128_0_0).toLoadRect (harg2.unread x1))
    (View.readAt (Elt Ideal) arg7.view (Rect.unit (s := S64x1024) ![0, 0] S64x128.size inb_S64x1024_S64x128_0_0).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 0, 0, 0] S1x1x64x64.size inb_S1x8x64x64_S1x1x64x64_0_0_0_0).toLoadRect (harg6.unread x5))
    (View.readAt (Elt Ideal) arg5.view (Rect.unit (s := S1x8x128x128) ![0, 0, 0, 0] S1x1x128x128.size inb_S1x8x128x128_S1x1x128x128_0_0_0_0).toLoadRect (harg5.unread x4))
    (View.readAt (Elt Ideal) arg11.view (Rect.unit (s := S8x128x128) ![0, 0, 0] S1x128x128.size inb_S8x128x128_S1x128x128_0_0_0).toLoadRect (harg11.unread xs0))
theorem headB0_rep (xs0 : Vec Ideal S8x128x128 .f32) {b : Blk} {S : Fin 8 → Fin 128 → Fin 128 → ℝ} (hb : RepBlk b x0 x1 x2 x3 x4 x5 x6) (hS : Rep3 xs0 S) :
    RepIn (headB0 arg1 harg1 arg2 harg2 arg3 harg3 arg4 harg4 arg5 harg5 arg6 harg6 arg7 harg7 arg11 harg11 x0 x1 x2 x3 x4 x5 x6 xs0) (b.head 0 (S 0)) := by
  exact headIn_rep b 0 (S 0) (loadQ 0 harg1 hb.qk rfl) (loadK 0 harg1 hb.qk rfl) (loadV 0 harg2 hb.v rfl) (loadV 0 harg7 hb.dO rfl)
    (loadB harg3 hb.gb rfl) (loadG harg4 hb.gT rfl) (loadT 0 harg6 hb.T rfl) (loadS 0 harg5 hb.sp rfl) (loadD 0 harg11 hS rfl)
/-- Head 1's data. -/
def headB1 (xs0 : Vec Ideal S8x128x128 .f32) : HIn :=
  headIn 1#32 9#32 (View.readAt (Elt Ideal) arg1.view (Rect.unit (s := S64x2048) ![0, 128] S64x128.size inb_S64x2048_S64x128_0_128).toLoadRect (harg1.unread x0))
    (View.readAt (Elt Ideal) arg1.view (Rect.unit (s := S64x2048) ![0, 1152] S64x128.size inb_S64x2048_S64x128_0_1152).toLoadRect (harg1.unread x0))
    (View.readAt (Elt Ideal) arg2.view (Rect.unit (s := S64x1024) ![0, 128] S64x128.size inb_S64x1024_S64x128_0_128).toLoadRect (harg2.unread x1))
    (View.readAt (Elt Ideal) arg7.view (Rect.unit (s := S64x1024) ![0, 128] S64x128.size inb_S64x1024_S64x128_0_128).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 1, 0, 0] S1x1x64x64.size inb_S1x8x64x64_S1x1x64x64_0_1_0_0).toLoadRect (harg6.unread x5))
    (View.readAt (Elt Ideal) arg5.view (Rect.unit (s := S1x8x128x128) ![0, 1, 0, 0] S1x1x128x128.size inb_S1x8x128x128_S1x1x128x128_0_1_0_0).toLoadRect (harg5.unread x4))
    (View.readAt (Elt Ideal) arg11.view (Rect.unit (s := S8x128x128) ![1, 0, 0] S1x128x128.size inb_S8x128x128_S1x128x128_1_0_0).toLoadRect (harg11.unread xs0))
theorem headB1_rep (xs0 : Vec Ideal S8x128x128 .f32) {b : Blk} {S : Fin 8 → Fin 128 → Fin 128 → ℝ} (hb : RepBlk b x0 x1 x2 x3 x4 x5 x6) (hS : Rep3 xs0 S) :
    RepIn (headB1 arg1 harg1 arg2 harg2 arg3 harg3 arg4 harg4 arg5 harg5 arg6 harg6 arg7 harg7 arg11 harg11 x0 x1 x2 x3 x4 x5 x6 xs0) (b.head 1 (S 1)) := by
  exact headIn_rep b 1 (S 1) (loadQ 1 harg1 hb.qk rfl) (loadK 1 harg1 hb.qk rfl) (loadV 1 harg2 hb.v rfl) (loadV 1 harg7 hb.dO rfl)
    (loadB harg3 hb.gb rfl) (loadG harg4 hb.gT rfl) (loadT 1 harg6 hb.T rfl) (loadS 1 harg5 hb.sp rfl) (loadD 1 harg11 hS rfl)
/-- Head 2's data. -/
def headB2 (xs0 : Vec Ideal S8x128x128 .f32) : HIn :=
  headIn 2#32 10#32 (View.readAt (Elt Ideal) arg1.view (Rect.unit (s := S64x2048) ![0, 256] S64x128.size inb_S64x2048_S64x128_0_256).toLoadRect (harg1.unread x0))
    (View.readAt (Elt Ideal) arg1.view (Rect.unit (s := S64x2048) ![0, 1280] S64x128.size inb_S64x2048_S64x128_0_1280).toLoadRect (harg1.unread x0))
    (View.readAt (Elt Ideal) arg2.view (Rect.unit (s := S64x1024) ![0, 256] S64x128.size inb_S64x1024_S64x128_0_256).toLoadRect (harg2.unread x1))
    (View.readAt (Elt Ideal) arg7.view (Rect.unit (s := S64x1024) ![0, 256] S64x128.size inb_S64x1024_S64x128_0_256).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 2, 0, 0] S1x1x64x64.size inb_S1x8x64x64_S1x1x64x64_0_2_0_0).toLoadRect (harg6.unread x5))
    (View.readAt (Elt Ideal) arg5.view (Rect.unit (s := S1x8x128x128) ![0, 2, 0, 0] S1x1x128x128.size inb_S1x8x128x128_S1x1x128x128_0_2_0_0).toLoadRect (harg5.unread x4))
    (View.readAt (Elt Ideal) arg11.view (Rect.unit (s := S8x128x128) ![2, 0, 0] S1x128x128.size inb_S8x128x128_S1x128x128_2_0_0).toLoadRect (harg11.unread xs0))
theorem headB2_rep (xs0 : Vec Ideal S8x128x128 .f32) {b : Blk} {S : Fin 8 → Fin 128 → Fin 128 → ℝ} (hb : RepBlk b x0 x1 x2 x3 x4 x5 x6) (hS : Rep3 xs0 S) :
    RepIn (headB2 arg1 harg1 arg2 harg2 arg3 harg3 arg4 harg4 arg5 harg5 arg6 harg6 arg7 harg7 arg11 harg11 x0 x1 x2 x3 x4 x5 x6 xs0) (b.head 2 (S 2)) := by
  exact headIn_rep b 2 (S 2) (loadQ 2 harg1 hb.qk rfl) (loadK 2 harg1 hb.qk rfl) (loadV 2 harg2 hb.v rfl) (loadV 2 harg7 hb.dO rfl)
    (loadB harg3 hb.gb rfl) (loadG harg4 hb.gT rfl) (loadT 2 harg6 hb.T rfl) (loadS 2 harg5 hb.sp rfl) (loadD 2 harg11 hS rfl)
/-- Head 3's data. -/
def headB3 (xs0 : Vec Ideal S8x128x128 .f32) : HIn :=
  headIn 3#32 11#32 (View.readAt (Elt Ideal) arg1.view (Rect.unit (s := S64x2048) ![0, 384] S64x128.size inb_S64x2048_S64x128_0_384).toLoadRect (harg1.unread x0))
    (View.readAt (Elt Ideal) arg1.view (Rect.unit (s := S64x2048) ![0, 1408] S64x128.size inb_S64x2048_S64x128_0_1408).toLoadRect (harg1.unread x0))
    (View.readAt (Elt Ideal) arg2.view (Rect.unit (s := S64x1024) ![0, 384] S64x128.size inb_S64x1024_S64x128_0_384).toLoadRect (harg2.unread x1))
    (View.readAt (Elt Ideal) arg7.view (Rect.unit (s := S64x1024) ![0, 384] S64x128.size inb_S64x1024_S64x128_0_384).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 3, 0, 0] S1x1x64x64.size inb_S1x8x64x64_S1x1x64x64_0_3_0_0).toLoadRect (harg6.unread x5))
    (View.readAt (Elt Ideal) arg5.view (Rect.unit (s := S1x8x128x128) ![0, 3, 0, 0] S1x1x128x128.size inb_S1x8x128x128_S1x1x128x128_0_3_0_0).toLoadRect (harg5.unread x4))
    (View.readAt (Elt Ideal) arg11.view (Rect.unit (s := S8x128x128) ![3, 0, 0] S1x128x128.size inb_S8x128x128_S1x128x128_3_0_0).toLoadRect (harg11.unread xs0))
theorem headB3_rep (xs0 : Vec Ideal S8x128x128 .f32) {b : Blk} {S : Fin 8 → Fin 128 → Fin 128 → ℝ} (hb : RepBlk b x0 x1 x2 x3 x4 x5 x6) (hS : Rep3 xs0 S) :
    RepIn (headB3 arg1 harg1 arg2 harg2 arg3 harg3 arg4 harg4 arg5 harg5 arg6 harg6 arg7 harg7 arg11 harg11 x0 x1 x2 x3 x4 x5 x6 xs0) (b.head 3 (S 3)) := by
  exact headIn_rep b 3 (S 3) (loadQ 3 harg1 hb.qk rfl) (loadK 3 harg1 hb.qk rfl) (loadV 3 harg2 hb.v rfl) (loadV 3 harg7 hb.dO rfl)
    (loadB harg3 hb.gb rfl) (loadG harg4 hb.gT rfl) (loadT 3 harg6 hb.T rfl) (loadS 3 harg5 hb.sp rfl) (loadD 3 harg11 hS rfl)
/-- Head 4's data. -/
def headB4 (xs0 : Vec Ideal S8x128x128 .f32) : HIn :=
  headIn 4#32 12#32 (View.readAt (Elt Ideal) arg1.view (Rect.unit (s := S64x2048) ![0, 512] S64x128.size inb_S64x2048_S64x128_0_512).toLoadRect (harg1.unread x0))
    (View.readAt (Elt Ideal) arg1.view (Rect.unit (s := S64x2048) ![0, 1536] S64x128.size inb_S64x2048_S64x128_0_1536).toLoadRect (harg1.unread x0))
    (View.readAt (Elt Ideal) arg2.view (Rect.unit (s := S64x1024) ![0, 512] S64x128.size inb_S64x1024_S64x128_0_512).toLoadRect (harg2.unread x1))
    (View.readAt (Elt Ideal) arg7.view (Rect.unit (s := S64x1024) ![0, 512] S64x128.size inb_S64x1024_S64x128_0_512).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 4, 0, 0] S1x1x64x64.size inb_S1x8x64x64_S1x1x64x64_0_4_0_0).toLoadRect (harg6.unread x5))
    (View.readAt (Elt Ideal) arg5.view (Rect.unit (s := S1x8x128x128) ![0, 4, 0, 0] S1x1x128x128.size inb_S1x8x128x128_S1x1x128x128_0_4_0_0).toLoadRect (harg5.unread x4))
    (View.readAt (Elt Ideal) arg11.view (Rect.unit (s := S8x128x128) ![4, 0, 0] S1x128x128.size inb_S8x128x128_S1x128x128_4_0_0).toLoadRect (harg11.unread xs0))
theorem headB4_rep (xs0 : Vec Ideal S8x128x128 .f32) {b : Blk} {S : Fin 8 → Fin 128 → Fin 128 → ℝ} (hb : RepBlk b x0 x1 x2 x3 x4 x5 x6) (hS : Rep3 xs0 S) :
    RepIn (headB4 arg1 harg1 arg2 harg2 arg3 harg3 arg4 harg4 arg5 harg5 arg6 harg6 arg7 harg7 arg11 harg11 x0 x1 x2 x3 x4 x5 x6 xs0) (b.head 4 (S 4)) := by
  exact headIn_rep b 4 (S 4) (loadQ 4 harg1 hb.qk rfl) (loadK 4 harg1 hb.qk rfl) (loadV 4 harg2 hb.v rfl) (loadV 4 harg7 hb.dO rfl)
    (loadB harg3 hb.gb rfl) (loadG harg4 hb.gT rfl) (loadT 4 harg6 hb.T rfl) (loadS 4 harg5 hb.sp rfl) (loadD 4 harg11 hS rfl)
/-- Head 5's data. -/
def headB5 (xs0 : Vec Ideal S8x128x128 .f32) : HIn :=
  headIn 5#32 13#32 (View.readAt (Elt Ideal) arg1.view (Rect.unit (s := S64x2048) ![0, 640] S64x128.size inb_S64x2048_S64x128_0_640).toLoadRect (harg1.unread x0))
    (View.readAt (Elt Ideal) arg1.view (Rect.unit (s := S64x2048) ![0, 1664] S64x128.size inb_S64x2048_S64x128_0_1664).toLoadRect (harg1.unread x0))
    (View.readAt (Elt Ideal) arg2.view (Rect.unit (s := S64x1024) ![0, 640] S64x128.size inb_S64x1024_S64x128_0_640).toLoadRect (harg2.unread x1))
    (View.readAt (Elt Ideal) arg7.view (Rect.unit (s := S64x1024) ![0, 640] S64x128.size inb_S64x1024_S64x128_0_640).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 5, 0, 0] S1x1x64x64.size inb_S1x8x64x64_S1x1x64x64_0_5_0_0).toLoadRect (harg6.unread x5))
    (View.readAt (Elt Ideal) arg5.view (Rect.unit (s := S1x8x128x128) ![0, 5, 0, 0] S1x1x128x128.size inb_S1x8x128x128_S1x1x128x128_0_5_0_0).toLoadRect (harg5.unread x4))
    (View.readAt (Elt Ideal) arg11.view (Rect.unit (s := S8x128x128) ![5, 0, 0] S1x128x128.size inb_S8x128x128_S1x128x128_5_0_0).toLoadRect (harg11.unread xs0))
theorem headB5_rep (xs0 : Vec Ideal S8x128x128 .f32) {b : Blk} {S : Fin 8 → Fin 128 → Fin 128 → ℝ} (hb : RepBlk b x0 x1 x2 x3 x4 x5 x6) (hS : Rep3 xs0 S) :
    RepIn (headB5 arg1 harg1 arg2 harg2 arg3 harg3 arg4 harg4 arg5 harg5 arg6 harg6 arg7 harg7 arg11 harg11 x0 x1 x2 x3 x4 x5 x6 xs0) (b.head 5 (S 5)) := by
  exact headIn_rep b 5 (S 5) (loadQ 5 harg1 hb.qk rfl) (loadK 5 harg1 hb.qk rfl) (loadV 5 harg2 hb.v rfl) (loadV 5 harg7 hb.dO rfl)
    (loadB harg3 hb.gb rfl) (loadG harg4 hb.gT rfl) (loadT 5 harg6 hb.T rfl) (loadS 5 harg5 hb.sp rfl) (loadD 5 harg11 hS rfl)
/-- Head 6's data. -/
def headB6 (xs0 : Vec Ideal S8x128x128 .f32) : HIn :=
  headIn 6#32 14#32 (View.readAt (Elt Ideal) arg1.view (Rect.unit (s := S64x2048) ![0, 768] S64x128.size inb_S64x2048_S64x128_0_768).toLoadRect (harg1.unread x0))
    (View.readAt (Elt Ideal) arg1.view (Rect.unit (s := S64x2048) ![0, 1792] S64x128.size inb_S64x2048_S64x128_0_1792).toLoadRect (harg1.unread x0))
    (View.readAt (Elt Ideal) arg2.view (Rect.unit (s := S64x1024) ![0, 768] S64x128.size inb_S64x1024_S64x128_0_768).toLoadRect (harg2.unread x1))
    (View.readAt (Elt Ideal) arg7.view (Rect.unit (s := S64x1024) ![0, 768] S64x128.size inb_S64x1024_S64x128_0_768).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 6, 0, 0] S1x1x64x64.size inb_S1x8x64x64_S1x1x64x64_0_6_0_0).toLoadRect (harg6.unread x5))
    (View.readAt (Elt Ideal) arg5.view (Rect.unit (s := S1x8x128x128) ![0, 6, 0, 0] S1x1x128x128.size inb_S1x8x128x128_S1x1x128x128_0_6_0_0).toLoadRect (harg5.unread x4))
    (View.readAt (Elt Ideal) arg11.view (Rect.unit (s := S8x128x128) ![6, 0, 0] S1x128x128.size inb_S8x128x128_S1x128x128_6_0_0).toLoadRect (harg11.unread xs0))
theorem headB6_rep (xs0 : Vec Ideal S8x128x128 .f32) {b : Blk} {S : Fin 8 → Fin 128 → Fin 128 → ℝ} (hb : RepBlk b x0 x1 x2 x3 x4 x5 x6) (hS : Rep3 xs0 S) :
    RepIn (headB6 arg1 harg1 arg2 harg2 arg3 harg3 arg4 harg4 arg5 harg5 arg6 harg6 arg7 harg7 arg11 harg11 x0 x1 x2 x3 x4 x5 x6 xs0) (b.head 6 (S 6)) := by
  exact headIn_rep b 6 (S 6) (loadQ 6 harg1 hb.qk rfl) (loadK 6 harg1 hb.qk rfl) (loadV 6 harg2 hb.v rfl) (loadV 6 harg7 hb.dO rfl)
    (loadB harg3 hb.gb rfl) (loadG harg4 hb.gT rfl) (loadT 6 harg6 hb.T rfl) (loadS 6 harg5 hb.sp rfl) (loadD 6 harg11 hS rfl)
/-- Head 7's data. -/
def headB7 (xs0 : Vec Ideal S8x128x128 .f32) : HIn :=
  headIn 7#32 15#32 (View.readAt (Elt Ideal) arg1.view (Rect.unit (s := S64x2048) ![0, 896] S64x128.size inb_S64x2048_S64x128_0_896).toLoadRect (harg1.unread x0))
    (View.readAt (Elt Ideal) arg1.view (Rect.unit (s := S64x2048) ![0, 1920] S64x128.size inb_S64x2048_S64x128_0_1920).toLoadRect (harg1.unread x0))
    (View.readAt (Elt Ideal) arg2.view (Rect.unit (s := S64x1024) ![0, 896] S64x128.size inb_S64x1024_S64x128_0_896).toLoadRect (harg2.unread x1))
    (View.readAt (Elt Ideal) arg7.view (Rect.unit (s := S64x1024) ![0, 896] S64x128.size inb_S64x1024_S64x128_0_896).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 7, 0, 0] S1x1x64x64.size inb_S1x8x64x64_S1x1x64x64_0_7_0_0).toLoadRect (harg6.unread x5))
    (View.readAt (Elt Ideal) arg5.view (Rect.unit (s := S1x8x128x128) ![0, 7, 0, 0] S1x1x128x128.size inb_S1x8x128x128_S1x1x128x128_0_7_0_0).toLoadRect (harg5.unread x4))
    (View.readAt (Elt Ideal) arg11.view (Rect.unit (s := S8x128x128) ![7, 0, 0] S1x128x128.size inb_S8x128x128_S1x128x128_7_0_0).toLoadRect (harg11.unread xs0))
theorem headB7_rep (xs0 : Vec Ideal S8x128x128 .f32) {b : Blk} {S : Fin 8 → Fin 128 → Fin 128 → ℝ} (hb : RepBlk b x0 x1 x2 x3 x4 x5 x6) (hS : Rep3 xs0 S) :
    RepIn (headB7 arg1 harg1 arg2 harg2 arg3 harg3 arg4 harg4 arg5 harg5 arg6 harg6 arg7 harg7 arg11 harg11 x0 x1 x2 x3 x4 x5 x6 xs0) (b.head 7 (S 7)) := by
  exact headIn_rep b 7 (S 7) (loadQ 7 harg1 hb.qk rfl) (loadK 7 harg1 hb.qk rfl) (loadV 7 harg2 hb.v rfl) (loadV 7 harg7 hb.dO rfl)
    (loadB harg3 hb.gb rfl) (loadG harg4 hb.gT rfl) (loadT 7 harg6 hb.T rfl) (loadS 7 harg5 hb.sp rfl) (loadD 7 harg11 hS rfl)

/-- Head 0's data, after the state gradient is set to zero. -/
def headA0 : HIn :=
  headIn 0#32 8#32 (View.readAt (Elt Ideal) arg1.view (Rect.unit (s := S64x2048) ![0, 0] S64x128.size inb_S64x2048_S64x128_0_0).toLoadRect (harg1.unread x0))
    (View.readAt (Elt Ideal) arg1.view (Rect.unit (s := S64x2048) ![0, 1024] S64x128.size inb_S64x2048_S64x128_0_1024).toLoadRect (harg1.unread x0))
    (View.readAt (Elt Ideal) arg2.view (Rect.unit (s := S64x1024) ![0, 0] S64x128.size inb_S64x1024_S64x128_0_0).toLoadRect (harg2.unread x1))
    (View.readAt (Elt Ideal) arg7.view (Rect.unit (s := S64x1024) ![0, 0] S64x128.size inb_S64x1024_S64x128_0_0).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 0, 0, 0] S1x1x64x64.size inb_S1x8x64x64_S1x1x64x64_0_0_0_0).toLoadRect (harg6.unread x5))
    (View.readAt (Elt Ideal) arg5.view (Rect.unit (s := S1x8x128x128) ![0, 0, 0, 0] S1x1x128x128.size inb_S1x8x128x128_S1x1x128x128_0_0_0_0).toLoadRect (harg5.unread x4))
    (View.readCov (Val := Elt Ideal) arg11.view [⟨Rect.unit (s := S8x128x128) ![0, 0, 0] S8x128x128.size inb_S8x128x128_S8x128x128_0_0_0, lit S8x128x128 0x00000000#32⟩] (Rect.unit (s := S8x128x128) ![0, 0, 0] S1x128x128.size inb_S8x128x128_S1x128x128_0_0_0).toLoadRect)
theorem headA0_rep {b : Blk} (hb : RepBlk b x0 x1 x2 x3 x4 x5 x6) :
    RepIn (headA0 arg1 harg1 arg2 harg2 arg3 harg3 arg4 harg4 arg5 harg5 arg6 harg6 arg7 harg7 arg11 x0 x1 x2 x3 x4 x5 x6) (b.head 0 (fun _ _ => 0)) := by
  exact headIn_rep b 0 (fun _ _ => 0) (loadQ 0 harg1 hb.qk rfl) (loadK 0 harg1 hb.qk rfl) (loadV 0 harg2 hb.v rfl) (loadV 0 harg7 hb.dO rfl)
    (loadB harg3 hb.gb rfl) (loadG harg4 hb.gT rfl) (loadT 0 harg6 hb.T rfl) (loadS 0 harg5 hb.sp rfl) (loadZ arg11 _ _ _)
/-- Head 1's data, after the state gradient is set to zero. -/
def headA1 : HIn :=
  headIn 1#32 9#32 (View.readAt (Elt Ideal) arg1.view (Rect.unit (s := S64x2048) ![0, 128] S64x128.size inb_S64x2048_S64x128_0_128).toLoadRect (harg1.unread x0))
    (View.readAt (Elt Ideal) arg1.view (Rect.unit (s := S64x2048) ![0, 1152] S64x128.size inb_S64x2048_S64x128_0_1152).toLoadRect (harg1.unread x0))
    (View.readAt (Elt Ideal) arg2.view (Rect.unit (s := S64x1024) ![0, 128] S64x128.size inb_S64x1024_S64x128_0_128).toLoadRect (harg2.unread x1))
    (View.readAt (Elt Ideal) arg7.view (Rect.unit (s := S64x1024) ![0, 128] S64x128.size inb_S64x1024_S64x128_0_128).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 1, 0, 0] S1x1x64x64.size inb_S1x8x64x64_S1x1x64x64_0_1_0_0).toLoadRect (harg6.unread x5))
    (View.readAt (Elt Ideal) arg5.view (Rect.unit (s := S1x8x128x128) ![0, 1, 0, 0] S1x1x128x128.size inb_S1x8x128x128_S1x1x128x128_0_1_0_0).toLoadRect (harg5.unread x4))
    (View.readCov (Val := Elt Ideal) arg11.view [⟨Rect.unit (s := S8x128x128) ![0, 0, 0] S8x128x128.size inb_S8x128x128_S8x128x128_0_0_0, lit S8x128x128 0x00000000#32⟩] (Rect.unit (s := S8x128x128) ![1, 0, 0] S1x128x128.size inb_S8x128x128_S1x128x128_1_0_0).toLoadRect)
theorem headA1_rep {b : Blk} (hb : RepBlk b x0 x1 x2 x3 x4 x5 x6) :
    RepIn (headA1 arg1 harg1 arg2 harg2 arg3 harg3 arg4 harg4 arg5 harg5 arg6 harg6 arg7 harg7 arg11 x0 x1 x2 x3 x4 x5 x6) (b.head 1 (fun _ _ => 0)) := by
  exact headIn_rep b 1 (fun _ _ => 0) (loadQ 1 harg1 hb.qk rfl) (loadK 1 harg1 hb.qk rfl) (loadV 1 harg2 hb.v rfl) (loadV 1 harg7 hb.dO rfl)
    (loadB harg3 hb.gb rfl) (loadG harg4 hb.gT rfl) (loadT 1 harg6 hb.T rfl) (loadS 1 harg5 hb.sp rfl) (loadZ arg11 _ _ _)
/-- Head 2's data, after the state gradient is set to zero. -/
def headA2 : HIn :=
  headIn 2#32 10#32 (View.readAt (Elt Ideal) arg1.view (Rect.unit (s := S64x2048) ![0, 256] S64x128.size inb_S64x2048_S64x128_0_256).toLoadRect (harg1.unread x0))
    (View.readAt (Elt Ideal) arg1.view (Rect.unit (s := S64x2048) ![0, 1280] S64x128.size inb_S64x2048_S64x128_0_1280).toLoadRect (harg1.unread x0))
    (View.readAt (Elt Ideal) arg2.view (Rect.unit (s := S64x1024) ![0, 256] S64x128.size inb_S64x1024_S64x128_0_256).toLoadRect (harg2.unread x1))
    (View.readAt (Elt Ideal) arg7.view (Rect.unit (s := S64x1024) ![0, 256] S64x128.size inb_S64x1024_S64x128_0_256).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 2, 0, 0] S1x1x64x64.size inb_S1x8x64x64_S1x1x64x64_0_2_0_0).toLoadRect (harg6.unread x5))
    (View.readAt (Elt Ideal) arg5.view (Rect.unit (s := S1x8x128x128) ![0, 2, 0, 0] S1x1x128x128.size inb_S1x8x128x128_S1x1x128x128_0_2_0_0).toLoadRect (harg5.unread x4))
    (View.readCov (Val := Elt Ideal) arg11.view [⟨Rect.unit (s := S8x128x128) ![0, 0, 0] S8x128x128.size inb_S8x128x128_S8x128x128_0_0_0, lit S8x128x128 0x00000000#32⟩] (Rect.unit (s := S8x128x128) ![2, 0, 0] S1x128x128.size inb_S8x128x128_S1x128x128_2_0_0).toLoadRect)
theorem headA2_rep {b : Blk} (hb : RepBlk b x0 x1 x2 x3 x4 x5 x6) :
    RepIn (headA2 arg1 harg1 arg2 harg2 arg3 harg3 arg4 harg4 arg5 harg5 arg6 harg6 arg7 harg7 arg11 x0 x1 x2 x3 x4 x5 x6) (b.head 2 (fun _ _ => 0)) := by
  exact headIn_rep b 2 (fun _ _ => 0) (loadQ 2 harg1 hb.qk rfl) (loadK 2 harg1 hb.qk rfl) (loadV 2 harg2 hb.v rfl) (loadV 2 harg7 hb.dO rfl)
    (loadB harg3 hb.gb rfl) (loadG harg4 hb.gT rfl) (loadT 2 harg6 hb.T rfl) (loadS 2 harg5 hb.sp rfl) (loadZ arg11 _ _ _)
/-- Head 3's data, after the state gradient is set to zero. -/
def headA3 : HIn :=
  headIn 3#32 11#32 (View.readAt (Elt Ideal) arg1.view (Rect.unit (s := S64x2048) ![0, 384] S64x128.size inb_S64x2048_S64x128_0_384).toLoadRect (harg1.unread x0))
    (View.readAt (Elt Ideal) arg1.view (Rect.unit (s := S64x2048) ![0, 1408] S64x128.size inb_S64x2048_S64x128_0_1408).toLoadRect (harg1.unread x0))
    (View.readAt (Elt Ideal) arg2.view (Rect.unit (s := S64x1024) ![0, 384] S64x128.size inb_S64x1024_S64x128_0_384).toLoadRect (harg2.unread x1))
    (View.readAt (Elt Ideal) arg7.view (Rect.unit (s := S64x1024) ![0, 384] S64x128.size inb_S64x1024_S64x128_0_384).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 3, 0, 0] S1x1x64x64.size inb_S1x8x64x64_S1x1x64x64_0_3_0_0).toLoadRect (harg6.unread x5))
    (View.readAt (Elt Ideal) arg5.view (Rect.unit (s := S1x8x128x128) ![0, 3, 0, 0] S1x1x128x128.size inb_S1x8x128x128_S1x1x128x128_0_3_0_0).toLoadRect (harg5.unread x4))
    (View.readCov (Val := Elt Ideal) arg11.view [⟨Rect.unit (s := S8x128x128) ![0, 0, 0] S8x128x128.size inb_S8x128x128_S8x128x128_0_0_0, lit S8x128x128 0x00000000#32⟩] (Rect.unit (s := S8x128x128) ![3, 0, 0] S1x128x128.size inb_S8x128x128_S1x128x128_3_0_0).toLoadRect)
theorem headA3_rep {b : Blk} (hb : RepBlk b x0 x1 x2 x3 x4 x5 x6) :
    RepIn (headA3 arg1 harg1 arg2 harg2 arg3 harg3 arg4 harg4 arg5 harg5 arg6 harg6 arg7 harg7 arg11 x0 x1 x2 x3 x4 x5 x6) (b.head 3 (fun _ _ => 0)) := by
  exact headIn_rep b 3 (fun _ _ => 0) (loadQ 3 harg1 hb.qk rfl) (loadK 3 harg1 hb.qk rfl) (loadV 3 harg2 hb.v rfl) (loadV 3 harg7 hb.dO rfl)
    (loadB harg3 hb.gb rfl) (loadG harg4 hb.gT rfl) (loadT 3 harg6 hb.T rfl) (loadS 3 harg5 hb.sp rfl) (loadZ arg11 _ _ _)
/-- Head 4's data, after the state gradient is set to zero. -/
def headA4 : HIn :=
  headIn 4#32 12#32 (View.readAt (Elt Ideal) arg1.view (Rect.unit (s := S64x2048) ![0, 512] S64x128.size inb_S64x2048_S64x128_0_512).toLoadRect (harg1.unread x0))
    (View.readAt (Elt Ideal) arg1.view (Rect.unit (s := S64x2048) ![0, 1536] S64x128.size inb_S64x2048_S64x128_0_1536).toLoadRect (harg1.unread x0))
    (View.readAt (Elt Ideal) arg2.view (Rect.unit (s := S64x1024) ![0, 512] S64x128.size inb_S64x1024_S64x128_0_512).toLoadRect (harg2.unread x1))
    (View.readAt (Elt Ideal) arg7.view (Rect.unit (s := S64x1024) ![0, 512] S64x128.size inb_S64x1024_S64x128_0_512).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 4, 0, 0] S1x1x64x64.size inb_S1x8x64x64_S1x1x64x64_0_4_0_0).toLoadRect (harg6.unread x5))
    (View.readAt (Elt Ideal) arg5.view (Rect.unit (s := S1x8x128x128) ![0, 4, 0, 0] S1x1x128x128.size inb_S1x8x128x128_S1x1x128x128_0_4_0_0).toLoadRect (harg5.unread x4))
    (View.readCov (Val := Elt Ideal) arg11.view [⟨Rect.unit (s := S8x128x128) ![0, 0, 0] S8x128x128.size inb_S8x128x128_S8x128x128_0_0_0, lit S8x128x128 0x00000000#32⟩] (Rect.unit (s := S8x128x128) ![4, 0, 0] S1x128x128.size inb_S8x128x128_S1x128x128_4_0_0).toLoadRect)
theorem headA4_rep {b : Blk} (hb : RepBlk b x0 x1 x2 x3 x4 x5 x6) :
    RepIn (headA4 arg1 harg1 arg2 harg2 arg3 harg3 arg4 harg4 arg5 harg5 arg6 harg6 arg7 harg7 arg11 x0 x1 x2 x3 x4 x5 x6) (b.head 4 (fun _ _ => 0)) := by
  exact headIn_rep b 4 (fun _ _ => 0) (loadQ 4 harg1 hb.qk rfl) (loadK 4 harg1 hb.qk rfl) (loadV 4 harg2 hb.v rfl) (loadV 4 harg7 hb.dO rfl)
    (loadB harg3 hb.gb rfl) (loadG harg4 hb.gT rfl) (loadT 4 harg6 hb.T rfl) (loadS 4 harg5 hb.sp rfl) (loadZ arg11 _ _ _)
/-- Head 5's data, after the state gradient is set to zero. -/
def headA5 : HIn :=
  headIn 5#32 13#32 (View.readAt (Elt Ideal) arg1.view (Rect.unit (s := S64x2048) ![0, 640] S64x128.size inb_S64x2048_S64x128_0_640).toLoadRect (harg1.unread x0))
    (View.readAt (Elt Ideal) arg1.view (Rect.unit (s := S64x2048) ![0, 1664] S64x128.size inb_S64x2048_S64x128_0_1664).toLoadRect (harg1.unread x0))
    (View.readAt (Elt Ideal) arg2.view (Rect.unit (s := S64x1024) ![0, 640] S64x128.size inb_S64x1024_S64x128_0_640).toLoadRect (harg2.unread x1))
    (View.readAt (Elt Ideal) arg7.view (Rect.unit (s := S64x1024) ![0, 640] S64x128.size inb_S64x1024_S64x128_0_640).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 5, 0, 0] S1x1x64x64.size inb_S1x8x64x64_S1x1x64x64_0_5_0_0).toLoadRect (harg6.unread x5))
    (View.readAt (Elt Ideal) arg5.view (Rect.unit (s := S1x8x128x128) ![0, 5, 0, 0] S1x1x128x128.size inb_S1x8x128x128_S1x1x128x128_0_5_0_0).toLoadRect (harg5.unread x4))
    (View.readCov (Val := Elt Ideal) arg11.view [⟨Rect.unit (s := S8x128x128) ![0, 0, 0] S8x128x128.size inb_S8x128x128_S8x128x128_0_0_0, lit S8x128x128 0x00000000#32⟩] (Rect.unit (s := S8x128x128) ![5, 0, 0] S1x128x128.size inb_S8x128x128_S1x128x128_5_0_0).toLoadRect)
theorem headA5_rep {b : Blk} (hb : RepBlk b x0 x1 x2 x3 x4 x5 x6) :
    RepIn (headA5 arg1 harg1 arg2 harg2 arg3 harg3 arg4 harg4 arg5 harg5 arg6 harg6 arg7 harg7 arg11 x0 x1 x2 x3 x4 x5 x6) (b.head 5 (fun _ _ => 0)) := by
  exact headIn_rep b 5 (fun _ _ => 0) (loadQ 5 harg1 hb.qk rfl) (loadK 5 harg1 hb.qk rfl) (loadV 5 harg2 hb.v rfl) (loadV 5 harg7 hb.dO rfl)
    (loadB harg3 hb.gb rfl) (loadG harg4 hb.gT rfl) (loadT 5 harg6 hb.T rfl) (loadS 5 harg5 hb.sp rfl) (loadZ arg11 _ _ _)
/-- Head 6's data, after the state gradient is set to zero. -/
def headA6 : HIn :=
  headIn 6#32 14#32 (View.readAt (Elt Ideal) arg1.view (Rect.unit (s := S64x2048) ![0, 768] S64x128.size inb_S64x2048_S64x128_0_768).toLoadRect (harg1.unread x0))
    (View.readAt (Elt Ideal) arg1.view (Rect.unit (s := S64x2048) ![0, 1792] S64x128.size inb_S64x2048_S64x128_0_1792).toLoadRect (harg1.unread x0))
    (View.readAt (Elt Ideal) arg2.view (Rect.unit (s := S64x1024) ![0, 768] S64x128.size inb_S64x1024_S64x128_0_768).toLoadRect (harg2.unread x1))
    (View.readAt (Elt Ideal) arg7.view (Rect.unit (s := S64x1024) ![0, 768] S64x128.size inb_S64x1024_S64x128_0_768).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 6, 0, 0] S1x1x64x64.size inb_S1x8x64x64_S1x1x64x64_0_6_0_0).toLoadRect (harg6.unread x5))
    (View.readAt (Elt Ideal) arg5.view (Rect.unit (s := S1x8x128x128) ![0, 6, 0, 0] S1x1x128x128.size inb_S1x8x128x128_S1x1x128x128_0_6_0_0).toLoadRect (harg5.unread x4))
    (View.readCov (Val := Elt Ideal) arg11.view [⟨Rect.unit (s := S8x128x128) ![0, 0, 0] S8x128x128.size inb_S8x128x128_S8x128x128_0_0_0, lit S8x128x128 0x00000000#32⟩] (Rect.unit (s := S8x128x128) ![6, 0, 0] S1x128x128.size inb_S8x128x128_S1x128x128_6_0_0).toLoadRect)
theorem headA6_rep {b : Blk} (hb : RepBlk b x0 x1 x2 x3 x4 x5 x6) :
    RepIn (headA6 arg1 harg1 arg2 harg2 arg3 harg3 arg4 harg4 arg5 harg5 arg6 harg6 arg7 harg7 arg11 x0 x1 x2 x3 x4 x5 x6) (b.head 6 (fun _ _ => 0)) := by
  exact headIn_rep b 6 (fun _ _ => 0) (loadQ 6 harg1 hb.qk rfl) (loadK 6 harg1 hb.qk rfl) (loadV 6 harg2 hb.v rfl) (loadV 6 harg7 hb.dO rfl)
    (loadB harg3 hb.gb rfl) (loadG harg4 hb.gT rfl) (loadT 6 harg6 hb.T rfl) (loadS 6 harg5 hb.sp rfl) (loadZ arg11 _ _ _)
/-- Head 7's data, after the state gradient is set to zero. -/
def headA7 : HIn :=
  headIn 7#32 15#32 (View.readAt (Elt Ideal) arg1.view (Rect.unit (s := S64x2048) ![0, 896] S64x128.size inb_S64x2048_S64x128_0_896).toLoadRect (harg1.unread x0))
    (View.readAt (Elt Ideal) arg1.view (Rect.unit (s := S64x2048) ![0, 1920] S64x128.size inb_S64x2048_S64x128_0_1920).toLoadRect (harg1.unread x0))
    (View.readAt (Elt Ideal) arg2.view (Rect.unit (s := S64x1024) ![0, 896] S64x128.size inb_S64x1024_S64x128_0_896).toLoadRect (harg2.unread x1))
    (View.readAt (Elt Ideal) arg7.view (Rect.unit (s := S64x1024) ![0, 896] S64x128.size inb_S64x1024_S64x128_0_896).toLoadRect (harg7.unread x6))
    (View.readAt (Elt Ideal) arg3.view (Rect.unit (s := S64x128) ![0, 0] S64x128.size inb_S64x128_S64x128_0_0).toLoadRect (harg3.unread x2))
    (View.readAt (Elt Ideal) arg4.view (Rect.unit (s := S1x8x64) ![0, 0, 0] S1x8x64.size inb_S1x8x64_S1x8x64_0_0_0).toLoadRect (harg4.unread x3))
    (View.readAt (Elt Ideal) arg6.view (Rect.unit (s := S1x8x64x64) ![0, 7, 0, 0] S1x1x64x64.size inb_S1x8x64x64_S1x1x64x64_0_7_0_0).toLoadRect (harg6.unread x5))
    (View.readAt (Elt Ideal) arg5.view (Rect.unit (s := S1x8x128x128) ![0, 7, 0, 0] S1x1x128x128.size inb_S1x8x128x128_S1x1x128x128_0_7_0_0).toLoadRect (harg5.unread x4))
    (View.readCov (Val := Elt Ideal) arg11.view [⟨Rect.unit (s := S8x128x128) ![0, 0, 0] S8x128x128.size inb_S8x128x128_S8x128x128_0_0_0, lit S8x128x128 0x00000000#32⟩] (Rect.unit (s := S8x128x128) ![7, 0, 0] S1x128x128.size inb_S8x128x128_S1x128x128_7_0_0).toLoadRect)
theorem headA7_rep {b : Blk} (hb : RepBlk b x0 x1 x2 x3 x4 x5 x6) :
    RepIn (headA7 arg1 harg1 arg2 harg2 arg3 harg3 arg4 harg4 arg5 harg5 arg6 harg6 arg7 harg7 arg11 x0 x1 x2 x3 x4 x5 x6) (b.head 7 (fun _ _ => 0)) := by
  exact headIn_rep b 7 (fun _ _ => 0) (loadQ 7 harg1 hb.qk rfl) (loadK 7 harg1 hb.qk rfl) (loadV 7 harg2 hb.v rfl) (loadV 7 harg7 hb.dO rfl)
    (loadB harg3 hb.gb rfl) (loadG harg4 hb.gT rfl) (loadT 7 harg6 hb.T rfl) (loadS 7 harg5 hb.sp rfl) (loadZ arg11 _ _ _)

/-- With the scratch carried: the pieces of output 7. -/
theorem piecesB7 (xs0 : Vec Ideal S8x128x128 .f32) :
    (kernelRun0_B c i arg1 harg1 arg2 harg2 arg3 harg3 arg4 harg4 arg5 harg5 arg6 harg6 arg7 harg7 arg8 harg8 arg9 harg9 arg10 harg10 arg11 harg11 hn0 x0 x1 x2 x3 x4 x5 x6 xs0).1 = [
      ⟨Rect.unit (s := S64x2048) ![0, 1920] S64x128.size inb_S64x2048_S64x128_0_1920, (headB7 arg1 harg1 arg2 harg2 arg3 harg3 arg4 harg4 arg5 harg5 arg6 harg6 arg7 harg7 arg11 harg11 x0 x1 x2 x3 x4 x5 x6 xs0).dk⟩,
      ⟨Rect.unit (s := S64x2048) ![0, 896] S64x128.size inb_S64x2048_S64x128_0_896, (headB7 arg1 harg1 arg2 harg2 arg3 harg3 arg4 harg4 arg5 harg5 arg6 harg6 arg7 harg7 arg11 harg11 x0 x1 x2 x3 x4 x5 x6 xs0).dq⟩,
      ⟨Rect.unit (s := S64x2048) ![0, 1792] S64x128.size inb_S64x2048_S64x128_0_1792, (headB6 arg1 harg1 arg2 harg2 arg3 harg3 arg4 harg4 arg5 harg5 arg6 harg6 arg7 harg7 arg11 harg11 x0 x1 x2 x3 x4 x5 x6 xs0).dk⟩,
      ⟨Rect.unit (s := S64x2048) ![0, 768] S64x128.size inb_S64x2048_S64x128_0_768, (headB6 arg1 harg1 arg2 harg2 arg3 harg3 arg4 harg4 arg5 harg5 arg6 harg6 arg7 harg7 arg11 harg11 x0 x1 x2 x3 x4 x5 x6 xs0).dq⟩,
      ⟨Rect.unit (s := S64x2048) ![0, 1664] S64x128.size inb_S64x2048_S64x128_0_1664, (headB5 arg1 harg1 arg2 harg2 arg3 harg3 arg4 harg4 arg5 harg5 arg6 harg6 arg7 harg7 arg11 harg11 x0 x1 x2 x3 x4 x5 x6 xs0).dk⟩,
      ⟨Rect.unit (s := S64x2048) ![0, 640] S64x128.size inb_S64x2048_S64x128_0_640, (headB5 arg1 harg1 arg2 harg2 arg3 harg3 arg4 harg4 arg5 harg5 arg6 harg6 arg7 harg7 arg11 harg11 x0 x1 x2 x3 x4 x5 x6 xs0).dq⟩,
      ⟨Rect.unit (s := S64x2048) ![0, 1536] S64x128.size inb_S64x2048_S64x128_0_1536, (headB4 arg1 harg1 arg2 harg2 arg3 harg3 arg4 harg4 arg5 harg5 arg6 harg6 arg7 harg7 arg11 harg11 x0 x1 x2 x3 x4 x5 x6 xs0).dk⟩,
      ⟨Rect.unit (s := S64x2048) ![0, 512] S64x128.size inb_S64x2048_S64x128_0_512, (headB4 arg1 harg1 arg2 harg2 arg3 harg3 arg4 harg4 arg5 harg5 arg6 harg6 arg7 harg7 arg11 harg11 x0 x1 x2 x3 x4 x5 x6 xs0).dq⟩,
      ⟨Rect.unit (s := S64x2048) ![0, 1408] S64x128.size inb_S64x2048_S64x128_0_1408, (headB3 arg1 harg1 arg2 harg2 arg3 harg3 arg4 harg4 arg5 harg5 arg6 harg6 arg7 harg7 arg11 harg11 x0 x1 x2 x3 x4 x5 x6 xs0).dk⟩,
      ⟨Rect.unit (s := S64x2048) ![0, 384] S64x128.size inb_S64x2048_S64x128_0_384, (headB3 arg1 harg1 arg2 harg2 arg3 harg3 arg4 harg4 arg5 harg5 arg6 harg6 arg7 harg7 arg11 harg11 x0 x1 x2 x3 x4 x5 x6 xs0).dq⟩,
      ⟨Rect.unit (s := S64x2048) ![0, 1280] S64x128.size inb_S64x2048_S64x128_0_1280, (headB2 arg1 harg1 arg2 harg2 arg3 harg3 arg4 harg4 arg5 harg5 arg6 harg6 arg7 harg7 arg11 harg11 x0 x1 x2 x3 x4 x5 x6 xs0).dk⟩,
      ⟨Rect.unit (s := S64x2048) ![0, 256] S64x128.size inb_S64x2048_S64x128_0_256, (headB2 arg1 harg1 arg2 harg2 arg3 harg3 arg4 harg4 arg5 harg5 arg6 harg6 arg7 harg7 arg11 harg11 x0 x1 x2 x3 x4 x5 x6 xs0).dq⟩,
      ⟨Rect.unit (s := S64x2048) ![0, 1152] S64x128.size inb_S64x2048_S64x128_0_1152, (headB1 arg1 harg1 arg2 harg2 arg3 harg3 arg4 harg4 arg5 harg5 arg6 harg6 arg7 harg7 arg11 harg11 x0 x1 x2 x3 x4 x5 x6 xs0).dk⟩,
      ⟨Rect.unit (s := S64x2048) ![0, 128] S64x128.size inb_S64x2048_S64x128_0_128, (headB1 arg1 harg1 arg2 harg2 arg3 harg3 arg4 harg4 arg5 harg5 arg6 harg6 arg7 harg7 arg11 harg11 x0 x1 x2 x3 x4 x5 x6 xs0).dq⟩,
      ⟨Rect.unit (s := S64x2048) ![0, 1024] S64x128.size inb_S64x2048_S64x128_0_1024, (headB0 arg1 harg1 arg2 harg2 arg3 harg3 arg4 harg4 arg5 harg5 arg6 harg6 arg7 harg7 arg11 harg11 x0 x1 x2 x3 x4 x5 x6 xs0).dk⟩,
      ⟨Rect.unit (s := S64x2048) ![0, 0] S64x128.size inb_S64x2048_S64x128_0_0, (headB0 arg1 harg1 arg2 harg2 arg3 harg3 arg4 harg4 arg5 harg5 arg6 harg6 arg7 harg7 arg11 harg11 x0 x1 x2 x3 x4 x5 x6 xs0).dq⟩] := by
  unfold kernelRun0_B
  dsimp only
  sl_kernel_rfl
/-- With the scratch carried: what output 7 holds. -/
theorem outB7q (xs0 : Vec Ideal S8x128x128 .f32) {b : Blk} (hb : RepBlk b x0 x1 x2 x3 x4 x5 x6) {S : Fin 8 → Fin 128 → Fin 128 → ℝ} (hS : Rep3 xs0 S) (h : Fin 8) (p : Fin 64) (d : Fin 128) :
    out0_B_7 c i arg1 harg1 arg2 harg2 arg3 harg3 arg4 harg4 arg5 harg5 arg6 harg6 arg7 harg7 arg8 harg8 arg9 harg9 arg10 harg10 arg11 harg11 hn0 x0 x1 x2 x3 x4 x5 x6 xs0 (ix2 p (laneQ h d)) = (((b.head h (S h)).dq p d : ℝ) : EReal) := by
  unfold out0_B_7
  rw [View.read_writes_junk_eq_canon, piecesB7]
  canon_tiles x e
  · exfalso; have e1 : 128 * h.val + d.val = 1920 + (x 1).val := e1; omega
  · exact tile2 7 (f := fun h => (b.head h (S h)).dq) (HIn.dq_rep (headB7_rep arg1 harg1 arg2 harg2 arg3 harg3 arg4 harg4 arg5 harg5 arg6 harg6 arg7 harg7 arg11 harg11 x0 x1 x2 x3 x4 x5 x6 xs0 hb hS)) x rfl e0 e1
  · exfalso; have e1 : 128 * h.val + d.val = 1792 + (x 1).val := e1; omega
  · exact tile2 6 (f := fun h => (b.head h (S h)).dq) (HIn.dq_rep (headB6_rep arg1 harg1 arg2 harg2 arg3 harg3 arg4 harg4 arg5 harg5 arg6 harg6 arg7 harg7 arg11 harg11 x0 x1 x2 x3 x4 x5 x6 xs0 hb hS)) x rfl e0 e1
  · exfalso; have e1 : 128 * h.val + d.val = 1664 + (x 1).val := e1; omega
  · exact tile2 5 (f := fun h => (b.head h (S h)).dq) (HIn.dq_rep (headB5_rep arg1 harg1 arg2 harg2 arg3 harg3 arg4 harg4 arg5 harg5 arg6 harg6 arg7 harg7 arg11 harg11 x0 x1 x2 x3 x4 x5 x6 xs0 hb hS)) x rfl e0 e1
  · exfalso; have e1 : 128 * h.val + d.val = 1536 + (x 1).val := e1; omega
  · exact tile2 4 (f := fun h => (b.head h (S h)).dq) (HIn.dq_rep (headB4_rep arg1 harg1 arg2 harg2 arg3 harg3 arg4 harg4 arg5 harg5 arg6 harg6 arg7 harg7 arg11 harg11 x0 x1 x2 x3 x4 x5 x6 xs0 hb hS)) x rfl e0 e1
  · exfalso; have e1 : 128 * h.val + d.val = 1408 + (x 1).val := e1; omega
  · exact tile2 3 (f := fun h => (b.head h (S h)).dq) (HIn.dq_rep (headB3_rep arg1 harg1 arg2 harg2 arg3 harg3 arg4 harg4 arg5 harg5 arg6 harg6 arg7 harg7 arg11 harg11 x0 x1 x2 x3 x4 x5 x6 xs0 hb hS)) x rfl e0 e1
  · exfalso; have e1 : 128 * h.val + d.val = 1280 + (x 1).val := e1; omega
  · exact tile2 2 (f := fun h => (b.head h (S h)).dq) (HIn.dq_rep (headB2_rep arg1 harg1 arg2 harg2 arg3 harg3 arg4 harg4 arg5 harg5 arg6 harg6 arg7 harg7 arg11 harg11 x0 x1 x2 x3 x4 x5 x6 xs0 hb hS)) x rfl e0 e1
  · exfalso; have e1 : 128 * h.val + d.val = 1152 + (x 1).val := e1; omega
  · exact tile2 1 (f := fun h => (b.head h (S h)).dq) (HIn.dq_rep (headB1_rep arg1 harg1 arg2 harg2 arg3 harg3 arg4 harg4 arg5 harg5 arg6 harg6 arg7 harg7 arg11 harg11 x0 x1 x2 x3 x4 x5 x6 xs0 hb hS)) x rfl e0 e1
  · exfalso; have e1 : 128 * h.val + d.val = 1024 + (x 1).val := e1; omega
  · exact tile2 0 (f := fun h => (b.head h (S h)).dq) (HIn.dq_rep (headB0_rep arg1 harg1 arg2 harg2 arg3 harg3 arg4 harg4 arg5 harg5 arg6 harg6 arg7 harg7 arg11 harg11 x0 x1 x2 x3 x4 x5 x6 xs0 hb hS)) x rfl e0 (e1.trans (Nat.zero_add _).symm)
/-- With the scratch carried: what output 7 holds. -/
theorem outB7k (xs0 : Vec Ideal S8x128x128 .f32) {b : Blk} (hb : RepBlk b x0 x1 x2 x3 x4 x5 x6) {S : Fin 8 → Fin 128 → Fin 128 → ℝ} (hS : Rep3 xs0 S) (h : Fin 8) (p : Fin 64) (d : Fin 128) :
    out0_B_7 c i arg1 harg1 arg2 harg2 arg3 harg3 arg4 harg4 arg5 harg5 arg6 harg6 arg7 harg7 arg8 harg8 arg9 harg9 arg10 harg10 arg11 harg11 hn0 x0 x1 x2 x3 x4 x5 x6 xs0 (ix2 p (laneK h d)) = (((b.head h (S h)).dk p d : ℝ) : EReal) := by
  unfold out0_B_7
  rw [View.read_writes_junk_eq_canon, piecesB7]
  canon_tiles x e
  · exact tile2 7 (f := fun h => (b.head h (S h)).dk) (HIn.dk_rep (headB7_rep arg1 harg1 arg2 harg2 arg3 harg3 arg4 harg4 arg5 harg5 arg6 harg6 arg7 harg7 arg11 harg11 x0 x1 x2 x3 x4 x5 x6 xs0 hb hS)) x (n := 896) rfl e0 (by have e1 : 1024 + 128 * h.val + d.val = 1920 + (x 1).val := e1; omega)
  · exfalso; have e1 : 1024 + 128 * h.val + d.val = 896 + (x 1).val := e1; omega
  · exact tile2 6 (f := fun h => (b.head h (S h)).dk) (HIn.dk_rep (headB6_rep arg1 harg1 arg2 harg2 arg3 harg3 arg4 harg4 arg5 harg5 arg6 harg6 arg7 harg7 arg11 harg11 x0 x1 x2 x3 x4 x5 x6 xs0 hb hS)) x (n := 768) rfl e0 (by have e1 : 1024 + 128 * h.val + d.val = 1792 + (x 1).val := e1; omega)
  · exfalso; have e1 : 1024 + 128 * h.val + d.val = 768 + (x 1).val := e1; omega
  · exact tile2 5 (f := fun h => (b.head h (S h)).dk) (HIn.dk_rep (headB5_rep arg1 harg1 arg2 harg2 arg3 harg3 arg4 harg4 arg5 harg5 arg6 harg6 arg7 harg7 arg11 harg11 x0 x1 x2 x3 x4 x5 x6 xs0 hb hS)) x (n := 640) rfl e0 (by have e1 : 1024 + 128 * h.val + d.val = 1664 + (x 1).val := e1; omega)
  · exfalso; have e1 : 1024 + 128 * h.val + d.val = 640 + (x 1).val := e1; omega
  · exact tile2 4 (f := fun h => (b.head h (S h)).dk) (HIn.dk_rep (headB4_rep arg1 harg1 arg2 harg2 arg3 harg3 arg4 harg4 arg5 harg5 arg6 harg6 arg7 harg7 arg11 harg11 x0 x1 x2 x3 x4 x5 x6 xs0 hb hS)) x (n := 512) rfl e0 (by have e1 : 1024 + 128 * h.val + d.val = 1536 + (x 1).val := e1; omega)
  · exfalso; have e1 : 1024 + 128 * h.val + d.val = 512 + (x 1).val := e1; omega
  · exact tile2 3 (f := fun h => (b.head h (S h)).dk) (HIn.dk_rep (headB3_rep arg1 harg1 arg2 harg2 arg3 harg3 arg4 harg4 arg5 harg5 arg6 harg6 arg7 harg7 arg11 harg11 x0 x1 x2 x3 x4 x5 x6 xs0 hb hS)) x (n := 384) rfl e0 (by have e1 : 1024 + 128 * h.val + d.val = 1408 + (x 1).val := e1; omega)
  · exfalso; have e1 : 1024 + 128 * h.val + d.val = 384 + (x 1).val := e1; omega
  · exact tile2 2 (f := fun h => (b.head h (S h)).dk) (HIn.dk_rep (headB2_rep arg1 harg1 arg2 harg2 arg3 harg3 arg4 harg4 arg5 harg5 arg6 harg6 arg7 harg7 arg11 harg11 x0 x1 x2 x3 x4 x5 x6 xs0 hb hS)) x (n := 256) rfl e0 (by have e1 : 1024 + 128 * h.val + d.val = 1280 + (x 1).val := e1; omega)
  · exfalso; have e1 : 1024 + 128 * h.val + d.val = 256 + (x 1).val := e1; omega
  · exact tile2 1 (f := fun h => (b.head h (S h)).dk) (HIn.dk_rep (headB1_rep arg1 harg1 arg2 harg2 arg3 harg3 arg4 harg4 arg5 harg5 arg6 harg6 arg7 harg7 arg11 harg11 x0 x1 x2 x3 x4 x5 x6 xs0 hb hS)) x (n := 128) rfl e0 (by have e1 : 1024 + 128 * h.val + d.val = 1152 + (x 1).val := e1; omega)
  · exfalso; have e1 : 1024 + 128 * h.val + d.val = 128 + (x 1).val := e1; omega
  · exact tile2 0 (f := fun h => (b.head h (S h)).dk) (HIn.dk_rep (headB0_rep arg1 harg1 arg2 harg2 arg3 harg3 arg4 harg4 arg5 harg5 arg6 harg6 arg7 harg7 arg11 harg11 x0 x1 x2 x3 x4 x5 x6 xs0 hb hS)) x (n := 0) rfl e0 (by have e1 : 1024 + 128 * h.val + d.val = 1024 + (x 1).val := e1; omega)
  · exfalso; have e1 : 1024 + 128 * h.val + d.val = (x 1).val := e1; omega
/-- With the scratch carried: the pieces of output 8. -/
theorem piecesB8 (xs0 : Vec Ideal S8x128x128 .f32) :
    (kernelRun0_B c i arg1 harg1 arg2 harg2 arg3 harg3 arg4 harg4 arg5 harg5 arg6 harg6 arg7 harg7 arg8 harg8 arg9 harg9 arg10 harg10 arg11 harg11 hn0 x0 x1 x2 x3 x4 x5 x6 xs0).2.1 = [
      ⟨Rect.unit (s := S64x1024) ![0, 896] S64x128.size inb_S64x1024_S64x128_0_896, (headB7 arg1 harg1 arg2 harg2 arg3 harg3 arg4 harg4 arg5 harg5 arg6 harg6 arg7 harg7 arg11 harg11 x0 x1 x2 x3 x4 x5 x6 xs0).dv⟩,
      ⟨Rect.unit (s := S64x1024) ![0, 768] S64x128.size inb_S64x1024_S64x128_0_768, (headB6 arg1 harg1 arg2 harg2 arg3 harg3 arg4 harg4 arg5 harg5 arg6 harg6 arg7 harg7 arg11 harg11 x0 x1 x2 x3 x4 x5 x6 xs0).dv⟩,
      ⟨Rect.unit (s := S64x1024) ![0, 640] S64x128.size inb_S64x1024_S64x128_0_640, (headB5 arg1 harg1 arg2 harg2 arg3 harg3 arg4 harg4 arg5 harg5 arg6 harg6 arg7 harg7 arg11 harg11 x0 x1 x2 x3 x4 x5 x6 xs0).dv⟩,
      ⟨Rect.unit (s := S64x1024) ![0, 512] S64x128.size inb_S64x1024_S64x128_0_512, (headB4 arg1 harg1 arg2 harg2 arg3 harg3 arg4 harg4 arg5 harg5 arg6 harg6 arg7 harg7 arg11 harg11 x0 x1 x2 x3 x4 x5 x6 xs0).dv⟩,
      ⟨Rect.unit (s := S64x1024) ![0, 384] S64x128.size inb_S64x1024_S64x128_0_384, (headB3 arg1 harg1 arg2 harg2 arg3 harg3 arg4 harg4 arg5 harg5 arg6 harg6 arg7 harg7 arg11 harg11 x0 x1 x2 x3 x4 x5 x6 xs0).dv⟩,
      ⟨Rect.unit (s := S64x1024) ![0, 256] S64x128.size inb_S64x1024_S64x128_0_256, (headB2 arg1 harg1 arg2 harg2 arg3 harg3 arg4 harg4 arg5 harg5 arg6 harg6 arg7 harg7 arg11 harg11 x0 x1 x2 x3 x4 x5 x6 xs0).dv⟩,
      ⟨Rect.unit (s := S64x1024) ![0, 128] S64x128.size inb_S64x1024_S64x128_0_128, (headB1 arg1 harg1 arg2 harg2 arg3 harg3 arg4 harg4 arg5 harg5 arg6 harg6 arg7 harg7 arg11 harg11 x0 x1 x2 x3 x4 x5 x6 xs0).dv⟩,
      ⟨Rect.unit (s := S64x1024) ![0, 0] S64x128.size inb_S64x1024_S64x128_0_0, (headB0 arg1 harg1 arg2 harg2 arg3 harg3 arg4 harg4 arg5 harg5 arg6 harg6 arg7 harg7 arg11 harg11 x0 x1 x2 x3 x4 x5 x6 xs0).dv⟩] := by
  unfold kernelRun0_B
  dsimp only
  sl_kernel_rfl
/-- With the scratch carried: what output 8 holds. -/
theorem outB8 (xs0 : Vec Ideal S8x128x128 .f32) {b : Blk} (hb : RepBlk b x0 x1 x2 x3 x4 x5 x6) {S : Fin 8 → Fin 128 → Fin 128 → ℝ} (hS : Rep3 xs0 S) (h : Fin 8) (p : Fin 64) (d : Fin 128) :
    out0_B_8 c i arg1 harg1 arg2 harg2 arg3 harg3 arg4 harg4 arg5 harg5 arg6 harg6 arg7 harg7 arg8 harg8 arg9 harg9 arg10 harg10 arg11 harg11 hn0 x0 x1 x2 x3 x4 x5 x6 xs0 (ix2 p (laneV h d)) = (((b.head h (S h)).dv p d : ℝ) : EReal) := by
  unfold out0_B_8
  rw [View.read_writes_junk_eq_canon, piecesB8]
  canon_tiles x e
  · exact tile2 7 (f := fun h => (b.head h (S h)).dv) (HIn.dv_rep (headB7_rep arg1 harg1 arg2 harg2 arg3 harg3 arg4 harg4 arg5 harg5 arg6 harg6 arg7 harg7 arg11 harg11 x0 x1 x2 x3 x4 x5 x6 xs0 hb hS)) x rfl e0 e1
  · exact tile2 6 (f := fun h => (b.head h (S h)).dv) (HIn.dv_rep (headB6_rep arg1 harg1 arg2 harg2 arg3 harg3 arg4 harg4 arg5 harg5 arg6 harg6 arg7 harg7 arg11 harg11 x0 x1 x2 x3 x4 x5 x6 xs0 hb hS)) x rfl e0 e1
  · exact tile2 5 (f := fun h => (b.head h (S h)).dv) (HIn.dv_rep (headB5_rep arg1 harg1 arg2 harg2 arg3 harg3 arg4 harg4 arg5 harg5 arg6 harg6 arg7 harg7 arg11 harg11 x0 x1 x2 x3 x4 x5 x6 xs0 hb hS)) x rfl e0 e1
  · exact tile2 4 (f := fun h => (b.head h (S h)).dv) (HIn.dv_rep (headB4_rep arg1 harg1 arg2 harg2 arg3 harg3 arg4 harg4 arg5 harg5 arg6 harg6 arg7 harg7 arg11 harg11 x0 x1 x2 x3 x4 x5 x6 xs0 hb hS)) x rfl e0 e1
  · exact tile2 3 (f := fun h => (b.head h (S h)).dv) (HIn.dv_rep (headB3_rep arg1 harg1 arg2 harg2 arg3 harg3 arg4 harg4 arg5 harg5 arg6 harg6 arg7 harg7 arg11 harg11 x0 x1 x2 x3 x4 x5 x6 xs0 hb hS)) x rfl e0 e1
  · exact tile2 2 (f := fun h => (b.head h (S h)).dv) (HIn.dv_rep (headB2_rep arg1 harg1 arg2 harg2 arg3 harg3 arg4 harg4 arg5 harg5 arg6 harg6 arg7 harg7 arg11 harg11 x0 x1 x2 x3 x4 x5 x6 xs0 hb hS)) x rfl e0 e1
  · exact tile2 1 (f := fun h => (b.head h (S h)).dv) (HIn.dv_rep (headB1_rep arg1 harg1 arg2 harg2 arg3 harg3 arg4 harg4 arg5 harg5 arg6 harg6 arg7 harg7 arg11 harg11 x0 x1 x2 x3 x4 x5 x6 xs0 hb hS)) x rfl e0 e1
  · exact tile2 0 (f := fun h => (b.head h (S h)).dv) (HIn.dv_rep (headB0_rep arg1 harg1 arg2 harg2 arg3 harg3 arg4 harg4 arg5 harg5 arg6 harg6 arg7 harg7 arg11 harg11 x0 x1 x2 x3 x4 x5 x6 xs0 hb hS)) x rfl e0 (e1.trans (Nat.zero_add _).symm)
/-- With the scratch carried: the pieces of output 9. -/
theorem piecesB9 (xs0 : Vec Ideal S8x128x128 .f32) :
    (kernelRun0_B c i arg1 harg1 arg2 harg2 arg3 harg3 arg4 harg4 arg5 harg5 arg6 harg6 arg7 harg7 arg8 harg8 arg9 harg9 arg10 harg10 arg11 harg11 hn0 x0 x1 x2 x3 x4 x5 x6 xs0).2.2.1 = [
      ⟨Rect.unit (s := S64x128) ![0, 0] S64x128.size inb_S64x128_S64x128_0_0, gatesOut (addLane 15#32 (headB7 arg1 harg1 arg2 harg2 arg3 harg3 arg4 harg4 arg5 harg5 arg6 harg6 arg7 harg7 arg11 harg11 x0 x1 x2 x3 x4 x5 x6 xs0).dgc (addLane 14#32 (headB6 arg1 harg1 arg2 harg2 arg3 harg3 arg4 harg4 arg5 harg5 arg6 harg6 arg7 harg7 arg11 harg11 x0 x1 x2 x3 x4 x5 x6 xs0).dgc (addLane 13#32 (headB5 arg1 harg1 arg2 harg2 arg3 harg3 arg4 harg4 arg5 harg5 arg6 harg6 arg7 harg7 arg11 harg11 x0 x1 x2 x3 x4 x5 x6 xs0).dgc (addLane 12#32 (headB4 arg1 harg1 arg2 harg2 arg3 harg3 arg4 harg4 arg5 harg5 arg6 harg6 arg7 harg7 arg11 harg11 x0 x1 x2 x3 x4 x5 x6 xs0).dgc (addLane 11#32 (headB3 arg1 harg1 arg2 harg2 arg3 harg3 arg4 harg4 arg5 harg5 arg6 harg6 arg7 harg7 arg11 harg11 x0 x1 x2 x3 x4 x5 x6 xs0).dgc (addLane 10#32 (headB2 arg1 harg1 arg2 harg2 arg3 harg3 arg4 harg4 arg5 harg5 arg6 harg6 arg7 harg7 arg11 harg11 x0 x1 x2 x3 x4 x5 x6 xs0).dgc (addLane 9#32 (headB1 arg1 harg1 arg2 harg2 arg3 harg3 arg4 harg4 arg5 harg5 arg6 harg6 arg7 harg7 arg11 harg11 x0 x1 x2 x3 x4 x5 x6 xs0).dgc (addLane 8#32 (headB0 arg1 harg1 arg2 harg2 arg3 harg3 arg4 harg4 arg5 harg5 arg6 harg6 arg7 harg7 arg11 harg11 x0 x1 x2 x3 x4 x5 x6 xs0).dgc (lit S64x128 0x00000000#32)))))))))
        (addLane 7#32 (headB7 arg1 harg1 arg2 harg2 arg3 harg3 arg4 harg4 arg5 harg5 arg6 harg6 arg7 harg7 arg11 harg11 x0 x1 x2 x3 x4 x5 x6 xs0).dbe (addLane 6#32 (headB6 arg1 harg1 arg2 harg2 arg3 harg3 arg4 harg4 arg5 harg5 arg6 harg6 arg7 harg7 arg11 harg11 x0 x1 x2 x3 x4 x5 x6 xs0).dbe (addLane 5#32 (headB5 arg1 harg1 arg2 harg2 arg3 harg3 arg4 harg4 arg5 harg5 arg6 harg6 arg7 harg7 arg11 harg11 x0 x1 x2 x3 x4 x5 x6 xs0).dbe (addLane 4#32 (headB4 arg1 harg1 arg2 harg2 arg3 harg3 arg4 harg4 arg5 harg5 arg6 harg6 arg7 harg7 arg11 harg11 x0 x1 x2 x3 x4 x5 x6 xs0).dbe (addLane 3#32 (headB3 arg1 harg1 arg2 harg2 arg3 harg3 arg4 harg4 arg5 harg5 arg6 harg6 arg7 harg7 arg11 harg11 x0 x1 x2 x3 x4 x5 x6 xs0).dbe (addLane 2#32 (headB2 arg1 harg1 arg2 harg2 arg3 harg3 arg4 harg4 arg5 harg5 arg6 harg6 arg7 harg7 arg11 harg11 x0 x1 x2 x3 x4 x5 x6 xs0).dbe (addLane 1#32 (headB1 arg1 harg1 arg2 harg2 arg3 harg3 arg4 harg4 arg5 harg5 arg6 harg6 arg7 harg7 arg11 harg11 x0 x1 x2 x3 x4 x5 x6 xs0).dbe (addLane 0#32 (headB0 arg1 harg1 arg2 harg2 arg3 harg3 arg4 harg4 arg5 harg5 arg6 harg6 arg7 harg7 arg11 harg11 x0 x1 x2 x3 x4 x5 x6 xs0).dbe (lit S64x128 0x00000000#32)))))))))⟩] := by
  unfold kernelRun0_B
  dsimp only
  sl_kernel_rfl
/-- With the scratch carried: what output 9 holds. -/
theorem outB9 (xs0 : Vec Ideal S8x128x128 .f32) {b : Blk} (hb : RepBlk b x0 x1 x2 x3 x4 x5 x6) {S : Fin 8 → Fin 128 → Fin 128 → ℝ} (hS : Rep3 xs0 S) (p : Fin 64) (l : Fin 128) :
    out0_B_9 c i arg1 harg1 arg2 harg2 arg3 harg3 arg4 harg4 arg5 harg5 arg6 harg6 arg7 harg7 arg8 harg8 arg9 harg9 arg10 harg10 arg11 harg11 hn0 x0 x1 x2 x3 x4 x5 x6 xs0 (ix2 p l) = ((gatesR (fun h => b.head h (S h)) p l : ℝ) : EReal) := by
  unfold out0_B_9
  rw [View.read_writes_junk_eq_canon, piecesB9]
  rw [View.canon_unit_zero (by funext a; fin_cases a <;> rfl)]
  refine (gatesOut_rep
    (lanes_rep laneG (c := ![(headB0 arg1 harg1 arg2 harg2 arg3 harg3 arg4 harg4 arg5 harg5 arg6 harg6 arg7 harg7 arg11 harg11 x0 x1 x2 x3 x4 x5 x6 xs0).dgc, (headB1 arg1 harg1 arg2 harg2 arg3 harg3 arg4 harg4 arg5 harg5 arg6 harg6 arg7 harg7 arg11 harg11 x0 x1 x2 x3 x4 x5 x6 xs0).dgc, (headB2 arg1 harg1 arg2 harg2 arg3 harg3 arg4 harg4 arg5 harg5 arg6 harg6 arg7 harg7 arg11 harg11 x0 x1 x2 x3 x4 x5 x6 xs0).dgc, (headB3 arg1 harg1 arg2 harg2 arg3 harg3 arg4 harg4 arg5 harg5 arg6 harg6 arg7 harg7 arg11 harg11 x0 x1 x2 x3 x4 x5 x6 xs0).dgc, (headB4 arg1 harg1 arg2 harg2 arg3 harg3 arg4 harg4 arg5 harg5 arg6 harg6 arg7 harg7 arg11 harg11 x0 x1 x2 x3 x4 x5 x6 xs0).dgc, (headB5 arg1 harg1 arg2 harg2 arg3 harg3 arg4 harg4 arg5 harg5 arg6 harg6 arg7 harg7 arg11 harg11 x0 x1 x2 x3 x4 x5 x6 xs0).dgc, (headB6 arg1 harg1 arg2 harg2 arg3 harg3 arg4 harg4 arg5 harg5 arg6 harg6 arg7 harg7 arg11 harg11 x0 x1 x2 x3 x4 x5 x6 xs0).dgc, (headB7 arg1 harg1 arg2 harg2 arg3 harg3 arg4 harg4 arg5 harg5 arg6 harg6 arg7 harg7 arg11 harg11 x0 x1 x2 x3 x4 x5 x6 xs0).dgc])
      (g := fun h => (b.head h (S h)).dgc) ?_)
    (lanes_rep laneB (c := ![(headB0 arg1 harg1 arg2 harg2 arg3 harg3 arg4 harg4 arg5 harg5 arg6 harg6 arg7 harg7 arg11 harg11 x0 x1 x2 x3 x4 x5 x6 xs0).dbe, (headB1 arg1 harg1 arg2 harg2 arg3 harg3 arg4 harg4 arg5 harg5 arg6 harg6 arg7 harg7 arg11 harg11 x0 x1 x2 x3 x4 x5 x6 xs0).dbe, (headB2 arg1 harg1 arg2 harg2 arg3 harg3 arg4 harg4 arg5 harg5 arg6 harg6 arg7 harg7 arg11 harg11 x0 x1 x2 x3 x4 x5 x6 xs0).dbe, (headB3 arg1 harg1 arg2 harg2 arg3 harg3 arg4 harg4 arg5 harg5 arg6 harg6 arg7 harg7 arg11 harg11 x0 x1 x2 x3 x4 x5 x6 xs0).dbe, (headB4 arg1 harg1 arg2 harg2 arg3 harg3 arg4 harg4 arg5 harg5 arg6 harg6 arg7 harg7 arg11 harg11 x0 x1 x2 x3 x4 x5 x6 xs0).dbe, (headB5 arg1 harg1 arg2 harg2 arg3 harg3 arg4 harg4 arg5 harg5 arg6 harg6 arg7 harg7 arg11 harg11 x0 x1 x2 x3 x4 x5 x6 xs0).dbe, (headB6 arg1 harg1 arg2 harg2 arg3 harg3 arg4 harg4 arg5 harg5 arg6 harg6 arg7 harg7 arg11 harg11 x0 x1 x2 x3 x4 x5 x6 xs0).dbe, (headB7 arg1 harg1 arg2 harg2 arg3 harg3 arg4 harg4 arg5 harg5 arg6 harg6 arg7 harg7 arg11 harg11 x0 x1 x2 x3 x4 x5 x6 xs0).dbe])
      (g := fun h => (b.head h (S h)).dbe) ?_) p l).trans (congrArg _ (gatesR_eq (fun h => b.head h (S h)) p l))
  · intro h; fin_cases h
    · exact HIn.dgc_rep (headB0_rep arg1 harg1 arg2 harg2 arg3 harg3 arg4 harg4 arg5 harg5 arg6 harg6 arg7 harg7 arg11 harg11 x0 x1 x2 x3 x4 x5 x6 xs0 hb hS)
    · exact HIn.dgc_rep (headB1_rep arg1 harg1 arg2 harg2 arg3 harg3 arg4 harg4 arg5 harg5 arg6 harg6 arg7 harg7 arg11 harg11 x0 x1 x2 x3 x4 x5 x6 xs0 hb hS)
    · exact HIn.dgc_rep (headB2_rep arg1 harg1 arg2 harg2 arg3 harg3 arg4 harg4 arg5 harg5 arg6 harg6 arg7 harg7 arg11 harg11 x0 x1 x2 x3 x4 x5 x6 xs0 hb hS)
    · exact HIn.dgc_rep (headB3_rep arg1 harg1 arg2 harg2 arg3 harg3 arg4 harg4 arg5 harg5 arg6 harg6 arg7 harg7 arg11 harg11 x0 x1 x2 x3 x4 x5 x6 xs0 hb hS)
    · exact HIn.dgc_rep (headB4_rep arg1 harg1 arg2 harg2 arg3 harg3 arg4 harg4 arg5 harg5 arg6 harg6 arg7 harg7 arg11 harg11 x0 x1 x2 x3 x4 x5 x6 xs0 hb hS)
    · exact HIn.dgc_rep (headB5_rep arg1 harg1 arg2 harg2 arg3 harg3 arg4 harg4 arg5 harg5 arg6 harg6 arg7 harg7 arg11 harg11 x0 x1 x2 x3 x4 x5 x6 xs0 hb hS)
    · exact HIn.dgc_rep (headB6_rep arg1 harg1 arg2 harg2 arg3 harg3 arg4 harg4 arg5 harg5 arg6 harg6 arg7 harg7 arg11 harg11 x0 x1 x2 x3 x4 x5 x6 xs0 hb hS)
    · exact HIn.dgc_rep (headB7_rep arg1 harg1 arg2 harg2 arg3 harg3 arg4 harg4 arg5 harg5 arg6 harg6 arg7 harg7 arg11 harg11 x0 x1 x2 x3 x4 x5 x6 xs0 hb hS)
  · intro h; fin_cases h
    · exact HIn.dbe_rep (headB0_rep arg1 harg1 arg2 harg2 arg3 harg3 arg4 harg4 arg5 harg5 arg6 harg6 arg7 harg7 arg11 harg11 x0 x1 x2 x3 x4 x5 x6 xs0 hb hS)
    · exact HIn.dbe_rep (headB1_rep arg1 harg1 arg2 harg2 arg3 harg3 arg4 harg4 arg5 harg5 arg6 harg6 arg7 harg7 arg11 harg11 x0 x1 x2 x3 x4 x5 x6 xs0 hb hS)
    · exact HIn.dbe_rep (headB2_rep arg1 harg1 arg2 harg2 arg3 harg3 arg4 harg4 arg5 harg5 arg6 harg6 arg7 harg7 arg11 harg11 x0 x1 x2 x3 x4 x5 x6 xs0 hb hS)
    · exact HIn.dbe_rep (headB3_rep arg1 harg1 arg2 harg2 arg3 harg3 arg4 harg4 arg5 harg5 arg6 harg6 arg7 harg7 arg11 harg11 x0 x1 x2 x3 x4 x5 x6 xs0 hb hS)
    · exact HIn.dbe_rep (headB4_rep arg1 harg1 arg2 harg2 arg3 harg3 arg4 harg4 arg5 harg5 arg6 harg6 arg7 harg7 arg11 harg11 x0 x1 x2 x3 x4 x5 x6 xs0 hb hS)
    · exact HIn.dbe_rep (headB5_rep arg1 harg1 arg2 harg2 arg3 harg3 arg4 harg4 arg5 harg5 arg6 harg6 arg7 harg7 arg11 harg11 x0 x1 x2 x3 x4 x5 x6 xs0 hb hS)
    · exact HIn.dbe_rep (headB6_rep arg1 harg1 arg2 harg2 arg3 harg3 arg4 harg4 arg5 harg5 arg6 harg6 arg7 harg7 arg11 harg11 x0 x1 x2 x3 x4 x5 x6 xs0 hb hS)
    · exact HIn.dbe_rep (headB7_rep arg1 harg1 arg2 harg2 arg3 harg3 arg4 harg4 arg5 harg5 arg6 harg6 arg7 harg7 arg11 harg11 x0 x1 x2 x3 x4 x5 x6 xs0 hb hS)
/-- With the scratch carried: the pieces of output s. -/
theorem piecesBs (xs0 : Vec Ideal S8x128x128 .f32) :
    (kernelRun0_B c i arg1 harg1 arg2 harg2 arg3 harg3 arg4 harg4 arg5 harg5 arg6 harg6 arg7 harg7 arg8 harg8 arg9 harg9 arg10 harg10 arg11 harg11 hn0 x0 x1 x2 x3 x4 x5 x6 xs0).2.2.2.1 = [
      ⟨Rect.unit (s := S8x128x128) ![7, 0, 0] S1x128x128.size inb_S8x128x128_S1x128x128_7_0_0, shapeCast S1x128x128 (headB7 arg1 harg1 arg2 harg2 arg3 harg3 arg4 harg4 arg5 harg5 arg6 harg6 arg7 harg7 arg11 harg11 x0 x1 x2 x3 x4 x5 x6 xs0).dSn shapeCasts_S128x128_S1x128x128⟩,
      ⟨Rect.unit (s := S8x128x128) ![6, 0, 0] S1x128x128.size inb_S8x128x128_S1x128x128_6_0_0, shapeCast S1x128x128 (headB6 arg1 harg1 arg2 harg2 arg3 harg3 arg4 harg4 arg5 harg5 arg6 harg6 arg7 harg7 arg11 harg11 x0 x1 x2 x3 x4 x5 x6 xs0).dSn shapeCasts_S128x128_S1x128x128⟩,
      ⟨Rect.unit (s := S8x128x128) ![5, 0, 0] S1x128x128.size inb_S8x128x128_S1x128x128_5_0_0, shapeCast S1x128x128 (headB5 arg1 harg1 arg2 harg2 arg3 harg3 arg4 harg4 arg5 harg5 arg6 harg6 arg7 harg7 arg11 harg11 x0 x1 x2 x3 x4 x5 x6 xs0).dSn shapeCasts_S128x128_S1x128x128⟩,
      ⟨Rect.unit (s := S8x128x128) ![4, 0, 0] S1x128x128.size inb_S8x128x128_S1x128x128_4_0_0, shapeCast S1x128x128 (headB4 arg1 harg1 arg2 harg2 arg3 harg3 arg4 harg4 arg5 harg5 arg6 harg6 arg7 harg7 arg11 harg11 x0 x1 x2 x3 x4 x5 x6 xs0).dSn shapeCasts_S128x128_S1x128x128⟩,
      ⟨Rect.unit (s := S8x128x128) ![3, 0, 0] S1x128x128.size inb_S8x128x128_S1x128x128_3_0_0, shapeCast S1x128x128 (headB3 arg1 harg1 arg2 harg2 arg3 harg3 arg4 harg4 arg5 harg5 arg6 harg6 arg7 harg7 arg11 harg11 x0 x1 x2 x3 x4 x5 x6 xs0).dSn shapeCasts_S128x128_S1x128x128⟩,
      ⟨Rect.unit (s := S8x128x128) ![2, 0, 0] S1x128x128.size inb_S8x128x128_S1x128x128_2_0_0, shapeCast S1x128x128 (headB2 arg1 harg1 arg2 harg2 arg3 harg3 arg4 harg4 arg5 harg5 arg6 harg6 arg7 harg7 arg11 harg11 x0 x1 x2 x3 x4 x5 x6 xs0).dSn shapeCasts_S128x128_S1x128x128⟩,
      ⟨Rect.unit (s := S8x128x128) ![1, 0, 0] S1x128x128.size inb_S8x128x128_S1x128x128_1_0_0, shapeCast S1x128x128 (headB1 arg1 harg1 arg2 harg2 arg3 harg3 arg4 harg4 arg5 harg5 arg6 harg6 arg7 harg7 arg11 harg11 x0 x1 x2 x3 x4 x5 x6 xs0).dSn shapeCasts_S128x128_S1x128x128⟩,
      ⟨Rect.unit (s := S8x128x128) ![0, 0, 0] S1x128x128.size inb_S8x128x128_S1x128x128_0_0_0, shapeCast S1x128x128 (headB0 arg1 harg1 arg2 harg2 arg3 harg3 arg4 harg4 arg5 harg5 arg6 harg6 arg7 harg7 arg11 harg11 x0 x1 x2 x3 x4 x5 x6 xs0).dSn shapeCasts_S128x128_S1x128x128⟩] := by
  unfold kernelRun0_B
  dsimp only
  sl_kernel_rfl
/-- With the scratch carried: what output s holds. -/
theorem soutB (xs0 : Vec Ideal S8x128x128 .f32) {b : Blk} (hb : RepBlk b x0 x1 x2 x3 x4 x5 x6) {S : Fin 8 → Fin 128 → Fin 128 → ℝ} (hS : Rep3 xs0 S) (h : Fin 8) (p d : Fin 128) :
    sout0_B_0 c i arg1 harg1 arg2 harg2 arg3 harg3 arg4 harg4 arg5 harg5 arg6 harg6 arg7 harg7 arg8 harg8 arg9 harg9 arg10 harg10 arg11 harg11 hn0 x0 x1 x2 x3 x4 x5 x6 xs0 (ix3 h p d) = (((b.head h (S h)).dSn p d : ℝ) : EReal) := by
  unfold sout0_B_0
  rw [View.read_writes_junk_eq_canon, piecesBs]
  canon_tiles x e
  · exact tile3 7 (f := fun h => (b.head h (S h)).dSn) (HIn.dSn_rep (headB7_rep arg1 harg1 arg2 harg2 arg3 harg3 arg4 harg4 arg5 harg5 arg6 harg6 arg7 harg7 arg11 harg11 x0 x1 x2 x3 x4 x5 x6 xs0 hb hS)) x rfl e0 e1 e2
  · exact tile3 6 (f := fun h => (b.head h (S h)).dSn) (HIn.dSn_rep (headB6_rep arg1 harg1 arg2 harg2 arg3 harg3 arg4 harg4 arg5 harg5 arg6 harg6 arg7 harg7 arg11 harg11 x0 x1 x2 x3 x4 x5 x6 xs0 hb hS)) x rfl e0 e1 e2
  · exact tile3 5 (f := fun h => (b.head h (S h)).dSn) (HIn.dSn_rep (headB5_rep arg1 harg1 arg2 harg2 arg3 harg3 arg4 harg4 arg5 harg5 arg6 harg6 arg7 harg7 arg11 harg11 x0 x1 x2 x3 x4 x5 x6 xs0 hb hS)) x rfl e0 e1 e2
  · exact tile3 4 (f := fun h => (b.head h (S h)).dSn) (HIn.dSn_rep (headB4_rep arg1 harg1 arg2 harg2 arg3 harg3 arg4 harg4 arg5 harg5 arg6 harg6 arg7 harg7 arg11 harg11 x0 x1 x2 x3 x4 x5 x6 xs0 hb hS)) x rfl e0 e1 e2
  · exact tile3 3 (f := fun h => (b.head h (S h)).dSn) (HIn.dSn_rep (headB3_rep arg1 harg1 arg2 harg2 arg3 harg3 arg4 harg4 arg5 harg5 arg6 harg6 arg7 harg7 arg11 harg11 x0 x1 x2 x3 x4 x5 x6 xs0 hb hS)) x rfl e0 e1 e2
  · exact tile3 2 (f := fun h => (b.head h (S h)).dSn) (HIn.dSn_rep (headB2_rep arg1 harg1 arg2 harg2 arg3 harg3 arg4 harg4 arg5 harg5 arg6 harg6 arg7 harg7 arg11 harg11 x0 x1 x2 x3 x4 x5 x6 xs0 hb hS)) x rfl e0 e1 e2
  · exact tile3 1 (f := fun h => (b.head h (S h)).dSn) (HIn.dSn_rep (headB1_rep arg1 harg1 arg2 harg2 arg3 harg3 arg4 harg4 arg5 harg5 arg6 harg6 arg7 harg7 arg11 harg11 x0 x1 x2 x3 x4 x5 x6 xs0 hb hS)) x rfl e0 e1 e2
  · exact tile3 0 (f := fun h => (b.head h (S h)).dSn) (HIn.dSn_rep (headB0_rep arg1 harg1 arg2 harg2 arg3 harg3 arg4 harg4 arg5 harg5 arg6 harg6 arg7 harg7 arg11 harg11 x0 x1 x2 x3 x4 x5 x6 xs0 hb hS)) x rfl (e0.trans (Nat.zero_add _).symm) e1 e2

/-- With the scratch set to zero: the pieces of output 7. -/
theorem piecesA7 :
    (kernelRun0_A c i arg1 harg1 arg2 harg2 arg3 harg3 arg4 harg4 arg5 harg5 arg6 harg6 arg7 harg7 arg8 harg8 arg9 harg9 arg10 harg10 arg11 harg11 hc0 x0 x1 x2 x3 x4 x5 x6).1 = [
      ⟨Rect.unit (s := S64x2048) ![0, 1920] S64x128.size inb_S64x2048_S64x128_0_1920, (headA7 arg1 harg1 arg2 harg2 arg3 harg3 arg4 harg4 arg5 harg5 arg6 harg6 arg7 harg7 arg11 x0 x1 x2 x3 x4 x5 x6).dk⟩,
      ⟨Rect.unit (s := S64x2048) ![0, 896] S64x128.size inb_S64x2048_S64x128_0_896, (headA7 arg1 harg1 arg2 harg2 arg3 harg3 arg4 harg4 arg5 harg5 arg6 harg6 arg7 harg7 arg11 x0 x1 x2 x3 x4 x5 x6).dq⟩,
      ⟨Rect.unit (s := S64x2048) ![0, 1792] S64x128.size inb_S64x2048_S64x128_0_1792, (headA6 arg1 harg1 arg2 harg2 arg3 harg3 arg4 harg4 arg5 harg5 arg6 harg6 arg7 harg7 arg11 x0 x1 x2 x3 x4 x5 x6).dk⟩,
      ⟨Rect.unit (s := S64x2048) ![0, 768] S64x128.size inb_S64x2048_S64x128_0_768, (headA6 arg1 harg1 arg2 harg2 arg3 harg3 arg4 harg4 arg5 harg5 arg6 harg6 arg7 harg7 arg11 x0 x1 x2 x3 x4 x5 x6).dq⟩,
      ⟨Rect.unit (s := S64x2048) ![0, 1664] S64x128.size inb_S64x2048_S64x128_0_1664, (headA5 arg1 harg1 arg2 harg2 arg3 harg3 arg4 harg4 arg5 harg5 arg6 harg6 arg7 harg7 arg11 x0 x1 x2 x3 x4 x5 x6).dk⟩,
      ⟨Rect.unit (s := S64x2048) ![0, 640] S64x128.size inb_S64x2048_S64x128_0_640, (headA5 arg1 harg1 arg2 harg2 arg3 harg3 arg4 harg4 arg5 harg5 arg6 harg6 arg7 harg7 arg11 x0 x1 x2 x3 x4 x5 x6).dq⟩,
      ⟨Rect.unit (s := S64x2048) ![0, 1536] S64x128.size inb_S64x2048_S64x128_0_1536, (headA4 arg1 harg1 arg2 harg2 arg3 harg3 arg4 harg4 arg5 harg5 arg6 harg6 arg7 harg7 arg11 x0 x1 x2 x3 x4 x5 x6).dk⟩,
      ⟨Rect.unit (s := S64x2048) ![0, 512] S64x128.size inb_S64x2048_S64x128_0_512, (headA4 arg1 harg1 arg2 harg2 arg3 harg3 arg4 harg4 arg5 harg5 arg6 harg6 arg7 harg7 arg11 x0 x1 x2 x3 x4 x5 x6).dq⟩,
      ⟨Rect.unit (s := S64x2048) ![0, 1408] S64x128.size inb_S64x2048_S64x128_0_1408, (headA3 arg1 harg1 arg2 harg2 arg3 harg3 arg4 harg4 arg5 harg5 arg6 harg6 arg7 harg7 arg11 x0 x1 x2 x3 x4 x5 x6).dk⟩,
      ⟨Rect.unit (s := S64x2048) ![0, 384] S64x128.size inb_S64x2048_S64x128_0_384, (headA3 arg1 harg1 arg2 harg2 arg3 harg3 arg4 harg4 arg5 harg5 arg6 harg6 arg7 harg7 arg11 x0 x1 x2 x3 x4 x5 x6).dq⟩,
      ⟨Rect.unit (s := S64x2048) ![0, 1280] S64x128.size inb_S64x2048_S64x128_0_1280, (headA2 arg1 harg1 arg2 harg2 arg3 harg3 arg4 harg4 arg5 harg5 arg6 harg6 arg7 harg7 arg11 x0 x1 x2 x3 x4 x5 x6).dk⟩,
      ⟨Rect.unit (s := S64x2048) ![0, 256] S64x128.size inb_S64x2048_S64x128_0_256, (headA2 arg1 harg1 arg2 harg2 arg3 harg3 arg4 harg4 arg5 harg5 arg6 harg6 arg7 harg7 arg11 x0 x1 x2 x3 x4 x5 x6).dq⟩,
      ⟨Rect.unit (s := S64x2048) ![0, 1152] S64x128.size inb_S64x2048_S64x128_0_1152, (headA1 arg1 harg1 arg2 harg2 arg3 harg3 arg4 harg4 arg5 harg5 arg6 harg6 arg7 harg7 arg11 x0 x1 x2 x3 x4 x5 x6).dk⟩,
      ⟨Rect.unit (s := S64x2048) ![0, 128] S64x128.size inb_S64x2048_S64x128_0_128, (headA1 arg1 harg1 arg2 harg2 arg3 harg3 arg4 harg4 arg5 harg5 arg6 harg6 arg7 harg7 arg11 x0 x1 x2 x3 x4 x5 x6).dq⟩,
      ⟨Rect.unit (s := S64x2048) ![0, 1024] S64x128.size inb_S64x2048_S64x128_0_1024, (headA0 arg1 harg1 arg2 harg2 arg3 harg3 arg4 harg4 arg5 harg5 arg6 harg6 arg7 harg7 arg11 x0 x1 x2 x3 x4 x5 x6).dk⟩,
      ⟨Rect.unit (s := S64x2048) ![0, 0] S64x128.size inb_S64x2048_S64x128_0_0, (headA0 arg1 harg1 arg2 harg2 arg3 harg3 arg4 harg4 arg5 harg5 arg6 harg6 arg7 harg7 arg11 x0 x1 x2 x3 x4 x5 x6).dq⟩] := by
  unfold kernelRun0_A
  dsimp only
  sl_kernel_rfl
/-- With the scratch set to zero: what output 7 holds. -/
theorem outA7q {b : Blk} (hb : RepBlk b x0 x1 x2 x3 x4 x5 x6) (h : Fin 8) (p : Fin 64) (d : Fin 128) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 (ix2 p (laneQ h d)) = (((b.head h (fun _ _ => 0)).dq p d : ℝ) : EReal) := by
  unfold out0_A_7
  rw [View.read_writes_junk_eq_canon, piecesA7]
  canon_tiles x e
  · exfalso; have e1 : 128 * h.val + d.val = 1920 + (x 1).val := e1; omega
  · exact tile2 7 (f := fun h => (b.head h (fun _ _ => 0)).dq) (HIn.dq_rep (headA7_rep arg1 harg1 arg2 harg2 arg3 harg3 arg4 harg4 arg5 harg5 arg6 harg6 arg7 harg7 arg11 x0 x1 x2 x3 x4 x5 x6 hb)) x rfl e0 e1
  · exfalso; have e1 : 128 * h.val + d.val = 1792 + (x 1).val := e1; omega
  · exact tile2 6 (f := fun h => (b.head h (fun _ _ => 0)).dq) (HIn.dq_rep (headA6_rep arg1 harg1 arg2 harg2 arg3 harg3 arg4 harg4 arg5 harg5 arg6 harg6 arg7 harg7 arg11 x0 x1 x2 x3 x4 x5 x6 hb)) x rfl e0 e1
  · exfalso; have e1 : 128 * h.val + d.val = 1664 + (x 1).val := e1; omega
  · exact tile2 5 (f := fun h => (b.head h (fun _ _ => 0)).dq) (HIn.dq_rep (headA5_rep arg1 harg1 arg2 harg2 arg3 harg3 arg4 harg4 arg5 harg5 arg6 harg6 arg7 harg7 arg11 x0 x1 x2 x3 x4 x5 x6 hb)) x rfl e0 e1
  · exfalso; have e1 : 128 * h.val + d.val = 1536 + (x 1).val := e1; omega
  · exact tile2 4 (f := fun h => (b.head h (fun _ _ => 0)).dq) (HIn.dq_rep (headA4_rep arg1 harg1 arg2 harg2 arg3 harg3 arg4 harg4 arg5 harg5 arg6 harg6 arg7 harg7 arg11 x0 x1 x2 x3 x4 x5 x6 hb)) x rfl e0 e1
  · exfalso; have e1 : 128 * h.val + d.val = 1408 + (x 1).val := e1; omega
  · exact tile2 3 (f := fun h => (b.head h (fun _ _ => 0)).dq) (HIn.dq_rep (headA3_rep arg1 harg1 arg2 harg2 arg3 harg3 arg4 harg4 arg5 harg5 arg6 harg6 arg7 harg7 arg11 x0 x1 x2 x3 x4 x5 x6 hb)) x rfl e0 e1
  · exfalso; have e1 : 128 * h.val + d.val = 1280 + (x 1).val := e1; omega
  · exact tile2 2 (f := fun h => (b.head h (fun _ _ => 0)).dq) (HIn.dq_rep (headA2_rep arg1 harg1 arg2 harg2 arg3 harg3 arg4 harg4 arg5 harg5 arg6 harg6 arg7 harg7 arg11 x0 x1 x2 x3 x4 x5 x6 hb)) x rfl e0 e1
  · exfalso; have e1 : 128 * h.val + d.val = 1152 + (x 1).val := e1; omega
  · exact tile2 1 (f := fun h => (b.head h (fun _ _ => 0)).dq) (HIn.dq_rep (headA1_rep arg1 harg1 arg2 harg2 arg3 harg3 arg4 harg4 arg5 harg5 arg6 harg6 arg7 harg7 arg11 x0 x1 x2 x3 x4 x5 x6 hb)) x rfl e0 e1
  · exfalso; have e1 : 128 * h.val + d.val = 1024 + (x 1).val := e1; omega
  · exact tile2 0 (f := fun h => (b.head h (fun _ _ => 0)).dq) (HIn.dq_rep (headA0_rep arg1 harg1 arg2 harg2 arg3 harg3 arg4 harg4 arg5 harg5 arg6 harg6 arg7 harg7 arg11 x0 x1 x2 x3 x4 x5 x6 hb)) x rfl e0 (e1.trans (Nat.zero_add _).symm)
/-- With the scratch set to zero: what output 7 holds. -/
theorem outA7k {b : Blk} (hb : RepBlk b x0 x1 x2 x3 x4 x5 x6) (h : Fin 8) (p : Fin 64) (d : Fin 128) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 (ix2 p (laneK h d)) = (((b.head h (fun _ _ => 0)).dk p d : ℝ) : EReal) := by
  unfold out0_A_7
  rw [View.read_writes_junk_eq_canon, piecesA7]
  canon_tiles x e
  · exact tile2 7 (f := fun h => (b.head h (fun _ _ => 0)).dk) (HIn.dk_rep (headA7_rep arg1 harg1 arg2 harg2 arg3 harg3 arg4 harg4 arg5 harg5 arg6 harg6 arg7 harg7 arg11 x0 x1 x2 x3 x4 x5 x6 hb)) x (n := 896) rfl e0 (by have e1 : 1024 + 128 * h.val + d.val = 1920 + (x 1).val := e1; omega)
  · exfalso; have e1 : 1024 + 128 * h.val + d.val = 896 + (x 1).val := e1; omega
  · exact tile2 6 (f := fun h => (b.head h (fun _ _ => 0)).dk) (HIn.dk_rep (headA6_rep arg1 harg1 arg2 harg2 arg3 harg3 arg4 harg4 arg5 harg5 arg6 harg6 arg7 harg7 arg11 x0 x1 x2 x3 x4 x5 x6 hb)) x (n := 768) rfl e0 (by have e1 : 1024 + 128 * h.val + d.val = 1792 + (x 1).val := e1; omega)
  · exfalso; have e1 : 1024 + 128 * h.val + d.val = 768 + (x 1).val := e1; omega
  · exact tile2 5 (f := fun h => (b.head h (fun _ _ => 0)).dk) (HIn.dk_rep (headA5_rep arg1 harg1 arg2 harg2 arg3 harg3 arg4 harg4 arg5 harg5 arg6 harg6 arg7 harg7 arg11 x0 x1 x2 x3 x4 x5 x6 hb)) x (n := 640) rfl e0 (by have e1 : 1024 + 128 * h.val + d.val = 1664 + (x 1).val := e1; omega)
  · exfalso; have e1 : 1024 + 128 * h.val + d.val = 640 + (x 1).val := e1; omega
  · exact tile2 4 (f := fun h => (b.head h (fun _ _ => 0)).dk) (HIn.dk_rep (headA4_rep arg1 harg1 arg2 harg2 arg3 harg3 arg4 harg4 arg5 harg5 arg6 harg6 arg7 harg7 arg11 x0 x1 x2 x3 x4 x5 x6 hb)) x (n := 512) rfl e0 (by have e1 : 1024 + 128 * h.val + d.val = 1536 + (x 1).val := e1; omega)
  · exfalso; have e1 : 1024 + 128 * h.val + d.val = 512 + (x 1).val := e1; omega
  · exact tile2 3 (f := fun h => (b.head h (fun _ _ => 0)).dk) (HIn.dk_rep (headA3_rep arg1 harg1 arg2 harg2 arg3 harg3 arg4 harg4 arg5 harg5 arg6 harg6 arg7 harg7 arg11 x0 x1 x2 x3 x4 x5 x6 hb)) x (n := 384) rfl e0 (by have e1 : 1024 + 128 * h.val + d.val = 1408 + (x 1).val := e1; omega)
  · exfalso; have e1 : 1024 + 128 * h.val + d.val = 384 + (x 1).val := e1; omega
  · exact tile2 2 (f := fun h => (b.head h (fun _ _ => 0)).dk) (HIn.dk_rep (headA2_rep arg1 harg1 arg2 harg2 arg3 harg3 arg4 harg4 arg5 harg5 arg6 harg6 arg7 harg7 arg11 x0 x1 x2 x3 x4 x5 x6 hb)) x (n := 256) rfl e0 (by have e1 : 1024 + 128 * h.val + d.val = 1280 + (x 1).val := e1; omega)
  · exfalso; have e1 : 1024 + 128 * h.val + d.val = 256 + (x 1).val := e1; omega
  · exact tile2 1 (f := fun h => (b.head h (fun _ _ => 0)).dk) (HIn.dk_rep (headA1_rep arg1 harg1 arg2 harg2 arg3 harg3 arg4 harg4 arg5 harg5 arg6 harg6 arg7 harg7 arg11 x0 x1 x2 x3 x4 x5 x6 hb)) x (n := 128) rfl e0 (by have e1 : 1024 + 128 * h.val + d.val = 1152 + (x 1).val := e1; omega)
  · exfalso; have e1 : 1024 + 128 * h.val + d.val = 128 + (x 1).val := e1; omega
  · exact tile2 0 (f := fun h => (b.head h (fun _ _ => 0)).dk) (HIn.dk_rep (headA0_rep arg1 harg1 arg2 harg2 arg3 harg3 arg4 harg4 arg5 harg5 arg6 harg6 arg7 harg7 arg11 x0 x1 x2 x3 x4 x5 x6 hb)) x (n := 0) rfl e0 (by have e1 : 1024 + 128 * h.val + d.val = 1024 + (x 1).val := e1; omega)
  · exfalso; have e1 : 1024 + 128 * h.val + d.val = (x 1).val := e1; omega
/-- With the scratch set to zero: the pieces of output 8. -/
theorem piecesA8 :
    (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.1 = [
      ⟨Rect.unit (s := S64x1024) ![0, 896] S64x128.size inb_S64x1024_S64x128_0_896, (headA7 arg1 harg1 arg2 harg2 arg3 harg3 arg4 harg4 arg5 harg5 arg6 harg6 arg7 harg7 arg11 x0 x1 x2 x3 x4 x5 x6).dv⟩,
      ⟨Rect.unit (s := S64x1024) ![0, 768] S64x128.size inb_S64x1024_S64x128_0_768, (headA6 arg1 harg1 arg2 harg2 arg3 harg3 arg4 harg4 arg5 harg5 arg6 harg6 arg7 harg7 arg11 x0 x1 x2 x3 x4 x5 x6).dv⟩,
      ⟨Rect.unit (s := S64x1024) ![0, 640] S64x128.size inb_S64x1024_S64x128_0_640, (headA5 arg1 harg1 arg2 harg2 arg3 harg3 arg4 harg4 arg5 harg5 arg6 harg6 arg7 harg7 arg11 x0 x1 x2 x3 x4 x5 x6).dv⟩,
      ⟨Rect.unit (s := S64x1024) ![0, 512] S64x128.size inb_S64x1024_S64x128_0_512, (headA4 arg1 harg1 arg2 harg2 arg3 harg3 arg4 harg4 arg5 harg5 arg6 harg6 arg7 harg7 arg11 x0 x1 x2 x3 x4 x5 x6).dv⟩,
      ⟨Rect.unit (s := S64x1024) ![0, 384] S64x128.size inb_S64x1024_S64x128_0_384, (headA3 arg1 harg1 arg2 harg2 arg3 harg3 arg4 harg4 arg5 harg5 arg6 harg6 arg7 harg7 arg11 x0 x1 x2 x3 x4 x5 x6).dv⟩,
      ⟨Rect.unit (s := S64x1024) ![0, 256] S64x128.size inb_S64x1024_S64x128_0_256, (headA2 arg1 harg1 arg2 harg2 arg3 harg3 arg4 harg4 arg5 harg5 arg6 harg6 arg7 harg7 arg11 x0 x1 x2 x3 x4 x5 x6).dv⟩,
      ⟨Rect.unit (s := S64x1024) ![0, 128] S64x128.size inb_S64x1024_S64x128_0_128, (headA1 arg1 harg1 arg2 harg2 arg3 harg3 arg4 harg4 arg5 harg5 arg6 harg6 arg7 harg7 arg11 x0 x1 x2 x3 x4 x5 x6).dv⟩,
      ⟨Rect.unit (s := S64x1024) ![0, 0] S64x128.size inb_S64x1024_S64x128_0_0, (headA0 arg1 harg1 arg2 harg2 arg3 harg3 arg4 harg4 arg5 harg5 arg6 harg6 arg7 harg7 arg11 x0 x1 x2 x3 x4 x5 x6).dv⟩] := by
  unfold kernelRun0_A
  dsimp only
  sl_kernel_rfl
/-- With the scratch set to zero: what output 8 holds. -/
theorem outA8 {b : Blk} (hb : RepBlk b x0 x1 x2 x3 x4 x5 x6) (h : Fin 8) (p : Fin 64) (d : Fin 128) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 (ix2 p (laneV h d)) = (((b.head h (fun _ _ => 0)).dv p d : ℝ) : EReal) := by
  unfold out0_A_8
  rw [View.read_writes_junk_eq_canon, piecesA8]
  canon_tiles x e
  · exact tile2 7 (f := fun h => (b.head h (fun _ _ => 0)).dv) (HIn.dv_rep (headA7_rep arg1 harg1 arg2 harg2 arg3 harg3 arg4 harg4 arg5 harg5 arg6 harg6 arg7 harg7 arg11 x0 x1 x2 x3 x4 x5 x6 hb)) x rfl e0 e1
  · exact tile2 6 (f := fun h => (b.head h (fun _ _ => 0)).dv) (HIn.dv_rep (headA6_rep arg1 harg1 arg2 harg2 arg3 harg3 arg4 harg4 arg5 harg5 arg6 harg6 arg7 harg7 arg11 x0 x1 x2 x3 x4 x5 x6 hb)) x rfl e0 e1
  · exact tile2 5 (f := fun h => (b.head h (fun _ _ => 0)).dv) (HIn.dv_rep (headA5_rep arg1 harg1 arg2 harg2 arg3 harg3 arg4 harg4 arg5 harg5 arg6 harg6 arg7 harg7 arg11 x0 x1 x2 x3 x4 x5 x6 hb)) x rfl e0 e1
  · exact tile2 4 (f := fun h => (b.head h (fun _ _ => 0)).dv) (HIn.dv_rep (headA4_rep arg1 harg1 arg2 harg2 arg3 harg3 arg4 harg4 arg5 harg5 arg6 harg6 arg7 harg7 arg11 x0 x1 x2 x3 x4 x5 x6 hb)) x rfl e0 e1
  · exact tile2 3 (f := fun h => (b.head h (fun _ _ => 0)).dv) (HIn.dv_rep (headA3_rep arg1 harg1 arg2 harg2 arg3 harg3 arg4 harg4 arg5 harg5 arg6 harg6 arg7 harg7 arg11 x0 x1 x2 x3 x4 x5 x6 hb)) x rfl e0 e1
  · exact tile2 2 (f := fun h => (b.head h (fun _ _ => 0)).dv) (HIn.dv_rep (headA2_rep arg1 harg1 arg2 harg2 arg3 harg3 arg4 harg4 arg5 harg5 arg6 harg6 arg7 harg7 arg11 x0 x1 x2 x3 x4 x5 x6 hb)) x rfl e0 e1
  · exact tile2 1 (f := fun h => (b.head h (fun _ _ => 0)).dv) (HIn.dv_rep (headA1_rep arg1 harg1 arg2 harg2 arg3 harg3 arg4 harg4 arg5 harg5 arg6 harg6 arg7 harg7 arg11 x0 x1 x2 x3 x4 x5 x6 hb)) x rfl e0 e1
  · exact tile2 0 (f := fun h => (b.head h (fun _ _ => 0)).dv) (HIn.dv_rep (headA0_rep arg1 harg1 arg2 harg2 arg3 harg3 arg4 harg4 arg5 harg5 arg6 harg6 arg7 harg7 arg11 x0 x1 x2 x3 x4 x5 x6 hb)) x rfl e0 (e1.trans (Nat.zero_add _).symm)
/-- With the scratch set to zero: the pieces of output 9. -/
theorem piecesA9 :
    (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.2.1 = [
      ⟨Rect.unit (s := S64x128) ![0, 0] S64x128.size inb_S64x128_S64x128_0_0, gatesOut (addLane 15#32 (headA7 arg1 harg1 arg2 harg2 arg3 harg3 arg4 harg4 arg5 harg5 arg6 harg6 arg7 harg7 arg11 x0 x1 x2 x3 x4 x5 x6).dgc (addLane 14#32 (headA6 arg1 harg1 arg2 harg2 arg3 harg3 arg4 harg4 arg5 harg5 arg6 harg6 arg7 harg7 arg11 x0 x1 x2 x3 x4 x5 x6).dgc (addLane 13#32 (headA5 arg1 harg1 arg2 harg2 arg3 harg3 arg4 harg4 arg5 harg5 arg6 harg6 arg7 harg7 arg11 x0 x1 x2 x3 x4 x5 x6).dgc (addLane 12#32 (headA4 arg1 harg1 arg2 harg2 arg3 harg3 arg4 harg4 arg5 harg5 arg6 harg6 arg7 harg7 arg11 x0 x1 x2 x3 x4 x5 x6).dgc (addLane 11#32 (headA3 arg1 harg1 arg2 harg2 arg3 harg3 arg4 harg4 arg5 harg5 arg6 harg6 arg7 harg7 arg11 x0 x1 x2 x3 x4 x5 x6).dgc (addLane 10#32 (headA2 arg1 harg1 arg2 harg2 arg3 harg3 arg4 harg4 arg5 harg5 arg6 harg6 arg7 harg7 arg11 x0 x1 x2 x3 x4 x5 x6).dgc (addLane 9#32 (headA1 arg1 harg1 arg2 harg2 arg3 harg3 arg4 harg4 arg5 harg5 arg6 harg6 arg7 harg7 arg11 x0 x1 x2 x3 x4 x5 x6).dgc (addLane 8#32 (headA0 arg1 harg1 arg2 harg2 arg3 harg3 arg4 harg4 arg5 harg5 arg6 harg6 arg7 harg7 arg11 x0 x1 x2 x3 x4 x5 x6).dgc (lit S64x128 0x00000000#32)))))))))
        (addLane 7#32 (headA7 arg1 harg1 arg2 harg2 arg3 harg3 arg4 harg4 arg5 harg5 arg6 harg6 arg7 harg7 arg11 x0 x1 x2 x3 x4 x5 x6).dbe (addLane 6#32 (headA6 arg1 harg1 arg2 harg2 arg3 harg3 arg4 harg4 arg5 harg5 arg6 harg6 arg7 harg7 arg11 x0 x1 x2 x3 x4 x5 x6).dbe (addLane 5#32 (headA5 arg1 harg1 arg2 harg2 arg3 harg3 arg4 harg4 arg5 harg5 arg6 harg6 arg7 harg7 arg11 x0 x1 x2 x3 x4 x5 x6).dbe (addLane 4#32 (headA4 arg1 harg1 arg2 harg2 arg3 harg3 arg4 harg4 arg5 harg5 arg6 harg6 arg7 harg7 arg11 x0 x1 x2 x3 x4 x5 x6).dbe (addLane 3#32 (headA3 arg1 harg1 arg2 harg2 arg3 harg3 arg4 harg4 arg5 harg5 arg6 harg6 arg7 harg7 arg11 x0 x1 x2 x3 x4 x5 x6).dbe (addLane 2#32 (headA2 arg1 harg1 arg2 harg2 arg3 harg3 arg4 harg4 arg5 harg5 arg6 harg6 arg7 harg7 arg11 x0 x1 x2 x3 x4 x5 x6).dbe (addLane 1#32 (headA1 arg1 harg1 arg2 harg2 arg3 harg3 arg4 harg4 arg5 harg5 arg6 harg6 arg7 harg7 arg11 x0 x1 x2 x3 x4 x5 x6).dbe (addLane 0#32 (headA0 arg1 harg1 arg2 harg2 arg3 harg3 arg4 harg4 arg5 harg5 arg6 harg6 arg7 harg7 arg11 x0 x1 x2 x3 x4 x5 x6).dbe (lit S64x128 0x00000000#32)))))))))⟩] := by
  unfold kernelRun0_A
  dsimp only
  sl_kernel_rfl
/-- With the scratch set to zero: what output 9 holds. -/
theorem outA9 {b : Blk} (hb : RepBlk b x0 x1 x2 x3 x4 x5 x6) (p : Fin 64) (l : Fin 128) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 (ix2 p l) = ((gatesR (fun h => b.head h (fun _ _ => 0)) p l : ℝ) : EReal) := by
  unfold out0_A_9
  rw [View.read_writes_junk_eq_canon, piecesA9]
  rw [View.canon_unit_zero (by funext a; fin_cases a <;> rfl)]
  refine (gatesOut_rep
    (lanes_rep laneG (c := ![(headA0 arg1 harg1 arg2 harg2 arg3 harg3 arg4 harg4 arg5 harg5 arg6 harg6 arg7 harg7 arg11 x0 x1 x2 x3 x4 x5 x6).dgc, (headA1 arg1 harg1 arg2 harg2 arg3 harg3 arg4 harg4 arg5 harg5 arg6 harg6 arg7 harg7 arg11 x0 x1 x2 x3 x4 x5 x6).dgc, (headA2 arg1 harg1 arg2 harg2 arg3 harg3 arg4 harg4 arg5 harg5 arg6 harg6 arg7 harg7 arg11 x0 x1 x2 x3 x4 x5 x6).dgc, (headA3 arg1 harg1 arg2 harg2 arg3 harg3 arg4 harg4 arg5 harg5 arg6 harg6 arg7 harg7 arg11 x0 x1 x2 x3 x4 x5 x6).dgc, (headA4 arg1 harg1 arg2 harg2 arg3 harg3 arg4 harg4 arg5 harg5 arg6 harg6 arg7 harg7 arg11 x0 x1 x2 x3 x4 x5 x6).dgc, (headA5 arg1 harg1 arg2 harg2 arg3 harg3 arg4 harg4 arg5 harg5 arg6 harg6 arg7 harg7 arg11 x0 x1 x2 x3 x4 x5 x6).dgc, (headA6 arg1 harg1 arg2 harg2 arg3 harg3 arg4 harg4 arg5 harg5 arg6 harg6 arg7 harg7 arg11 x0 x1 x2 x3 x4 x5 x6).dgc, (headA7 arg1 harg1 arg2 harg2 arg3 harg3 arg4 harg4 arg5 harg5 arg6 harg6 arg7 harg7 arg11 x0 x1 x2 x3 x4 x5 x6).dgc])
      (g := fun h => (b.head h (fun _ _ => 0)).dgc) ?_)
    (lanes_rep laneB (c := ![(headA0 arg1 harg1 arg2 harg2 arg3 harg3 arg4 harg4 arg5 harg5 arg6 harg6 arg7 harg7 arg11 x0 x1 x2 x3 x4 x5 x6).dbe, (headA1 arg1 harg1 arg2 harg2 arg3 harg3 arg4 harg4 arg5 harg5 arg6 harg6 arg7 harg7 arg11 x0 x1 x2 x3 x4 x5 x6).dbe, (headA2 arg1 harg1 arg2 harg2 arg3 harg3 arg4 harg4 arg5 harg5 arg6 harg6 arg7 harg7 arg11 x0 x1 x2 x3 x4 x5 x6).dbe, (headA3 arg1 harg1 arg2 harg2 arg3 harg3 arg4 harg4 arg5 harg5 arg6 harg6 arg7 harg7 arg11 x0 x1 x2 x3 x4 x5 x6).dbe, (headA4 arg1 harg1 arg2 harg2 arg3 harg3 arg4 harg4 arg5 harg5 arg6 harg6 arg7 harg7 arg11 x0 x1 x2 x3 x4 x5 x6).dbe, (headA5 arg1 harg1 arg2 harg2 arg3 harg3 arg4 harg4 arg5 harg5 arg6 harg6 arg7 harg7 arg11 x0 x1 x2 x3 x4 x5 x6).dbe, (headA6 arg1 harg1 arg2 harg2 arg3 harg3 arg4 harg4 arg5 harg5 arg6 harg6 arg7 harg7 arg11 x0 x1 x2 x3 x4 x5 x6).dbe, (headA7 arg1 harg1 arg2 harg2 arg3 harg3 arg4 harg4 arg5 harg5 arg6 harg6 arg7 harg7 arg11 x0 x1 x2 x3 x4 x5 x6).dbe])
      (g := fun h => (b.head h (fun _ _ => 0)).dbe) ?_) p l).trans (congrArg _ (gatesR_eq (fun h => b.head h (fun _ _ => 0)) p l))
  · intro h; fin_cases h
    · exact HIn.dgc_rep (headA0_rep arg1 harg1 arg2 harg2 arg3 harg3 arg4 harg4 arg5 harg5 arg6 harg6 arg7 harg7 arg11 x0 x1 x2 x3 x4 x5 x6 hb)
    · exact HIn.dgc_rep (headA1_rep arg1 harg1 arg2 harg2 arg3 harg3 arg4 harg4 arg5 harg5 arg6 harg6 arg7 harg7 arg11 x0 x1 x2 x3 x4 x5 x6 hb)
    · exact HIn.dgc_rep (headA2_rep arg1 harg1 arg2 harg2 arg3 harg3 arg4 harg4 arg5 harg5 arg6 harg6 arg7 harg7 arg11 x0 x1 x2 x3 x4 x5 x6 hb)
    · exact HIn.dgc_rep (headA3_rep arg1 harg1 arg2 harg2 arg3 harg3 arg4 harg4 arg5 harg5 arg6 harg6 arg7 harg7 arg11 x0 x1 x2 x3 x4 x5 x6 hb)
    · exact HIn.dgc_rep (headA4_rep arg1 harg1 arg2 harg2 arg3 harg3 arg4 harg4 arg5 harg5 arg6 harg6 arg7 harg7 arg11 x0 x1 x2 x3 x4 x5 x6 hb)
    · exact HIn.dgc_rep (headA5_rep arg1 harg1 arg2 harg2 arg3 harg3 arg4 harg4 arg5 harg5 arg6 harg6 arg7 harg7 arg11 x0 x1 x2 x3 x4 x5 x6 hb)
    · exact HIn.dgc_rep (headA6_rep arg1 harg1 arg2 harg2 arg3 harg3 arg4 harg4 arg5 harg5 arg6 harg6 arg7 harg7 arg11 x0 x1 x2 x3 x4 x5 x6 hb)
    · exact HIn.dgc_rep (headA7_rep arg1 harg1 arg2 harg2 arg3 harg3 arg4 harg4 arg5 harg5 arg6 harg6 arg7 harg7 arg11 x0 x1 x2 x3 x4 x5 x6 hb)
  · intro h; fin_cases h
    · exact HIn.dbe_rep (headA0_rep arg1 harg1 arg2 harg2 arg3 harg3 arg4 harg4 arg5 harg5 arg6 harg6 arg7 harg7 arg11 x0 x1 x2 x3 x4 x5 x6 hb)
    · exact HIn.dbe_rep (headA1_rep arg1 harg1 arg2 harg2 arg3 harg3 arg4 harg4 arg5 harg5 arg6 harg6 arg7 harg7 arg11 x0 x1 x2 x3 x4 x5 x6 hb)
    · exact HIn.dbe_rep (headA2_rep arg1 harg1 arg2 harg2 arg3 harg3 arg4 harg4 arg5 harg5 arg6 harg6 arg7 harg7 arg11 x0 x1 x2 x3 x4 x5 x6 hb)
    · exact HIn.dbe_rep (headA3_rep arg1 harg1 arg2 harg2 arg3 harg3 arg4 harg4 arg5 harg5 arg6 harg6 arg7 harg7 arg11 x0 x1 x2 x3 x4 x5 x6 hb)
    · exact HIn.dbe_rep (headA4_rep arg1 harg1 arg2 harg2 arg3 harg3 arg4 harg4 arg5 harg5 arg6 harg6 arg7 harg7 arg11 x0 x1 x2 x3 x4 x5 x6 hb)
    · exact HIn.dbe_rep (headA5_rep arg1 harg1 arg2 harg2 arg3 harg3 arg4 harg4 arg5 harg5 arg6 harg6 arg7 harg7 arg11 x0 x1 x2 x3 x4 x5 x6 hb)
    · exact HIn.dbe_rep (headA6_rep arg1 harg1 arg2 harg2 arg3 harg3 arg4 harg4 arg5 harg5 arg6 harg6 arg7 harg7 arg11 x0 x1 x2 x3 x4 x5 x6 hb)
    · exact HIn.dbe_rep (headA7_rep arg1 harg1 arg2 harg2 arg3 harg3 arg4 harg4 arg5 harg5 arg6 harg6 arg7 harg7 arg11 x0 x1 x2 x3 x4 x5 x6 hb)
/-- With the scratch set to zero: the pieces of output s. -/
theorem piecesAs :
    (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.2.2.1 = [
      ⟨Rect.unit (s := S8x128x128) ![7, 0, 0] S1x128x128.size inb_S8x128x128_S1x128x128_7_0_0, shapeCast S1x128x128 (headA7 arg1 harg1 arg2 harg2 arg3 harg3 arg4 harg4 arg5 harg5 arg6 harg6 arg7 harg7 arg11 x0 x1 x2 x3 x4 x5 x6).dSn shapeCasts_S128x128_S1x128x128⟩,
      ⟨Rect.unit (s := S8x128x128) ![6, 0, 0] S1x128x128.size inb_S8x128x128_S1x128x128_6_0_0, shapeCast S1x128x128 (headA6 arg1 harg1 arg2 harg2 arg3 harg3 arg4 harg4 arg5 harg5 arg6 harg6 arg7 harg7 arg11 x0 x1 x2 x3 x4 x5 x6).dSn shapeCasts_S128x128_S1x128x128⟩,
      ⟨Rect.unit (s := S8x128x128) ![5, 0, 0] S1x128x128.size inb_S8x128x128_S1x128x128_5_0_0, shapeCast S1x128x128 (headA5 arg1 harg1 arg2 harg2 arg3 harg3 arg4 harg4 arg5 harg5 arg6 harg6 arg7 harg7 arg11 x0 x1 x2 x3 x4 x5 x6).dSn shapeCasts_S128x128_S1x128x128⟩,
      ⟨Rect.unit (s := S8x128x128) ![4, 0, 0] S1x128x128.size inb_S8x128x128_S1x128x128_4_0_0, shapeCast S1x128x128 (headA4 arg1 harg1 arg2 harg2 arg3 harg3 arg4 harg4 arg5 harg5 arg6 harg6 arg7 harg7 arg11 x0 x1 x2 x3 x4 x5 x6).dSn shapeCasts_S128x128_S1x128x128⟩,
      ⟨Rect.unit (s := S8x128x128) ![3, 0, 0] S1x128x128.size inb_S8x128x128_S1x128x128_3_0_0, shapeCast S1x128x128 (headA3 arg1 harg1 arg2 harg2 arg3 harg3 arg4 harg4 arg5 harg5 arg6 harg6 arg7 harg7 arg11 x0 x1 x2 x3 x4 x5 x6).dSn shapeCasts_S128x128_S1x128x128⟩,
      ⟨Rect.unit (s := S8x128x128) ![2, 0, 0] S1x128x128.size inb_S8x128x128_S1x128x128_2_0_0, shapeCast S1x128x128 (headA2 arg1 harg1 arg2 harg2 arg3 harg3 arg4 harg4 arg5 harg5 arg6 harg6 arg7 harg7 arg11 x0 x1 x2 x3 x4 x5 x6).dSn shapeCasts_S128x128_S1x128x128⟩,
      ⟨Rect.unit (s := S8x128x128) ![1, 0, 0] S1x128x128.size inb_S8x128x128_S1x128x128_1_0_0, shapeCast S1x128x128 (headA1 arg1 harg1 arg2 harg2 arg3 harg3 arg4 harg4 arg5 harg5 arg6 harg6 arg7 harg7 arg11 x0 x1 x2 x3 x4 x5 x6).dSn shapeCasts_S128x128_S1x128x128⟩,
      ⟨Rect.unit (s := S8x128x128) ![0, 0, 0] S1x128x128.size inb_S8x128x128_S1x128x128_0_0_0, shapeCast S1x128x128 (headA0 arg1 harg1 arg2 harg2 arg3 harg3 arg4 harg4 arg5 harg5 arg6 harg6 arg7 harg7 arg11 x0 x1 x2 x3 x4 x5 x6).dSn shapeCasts_S128x128_S1x128x128⟩] ++ [⟨Rect.unit (s := S8x128x128) ![0, 0, 0] S8x128x128.size inb_S8x128x128_S8x128x128_0_0_0, lit S8x128x128 0x00000000#32⟩] := by
  unfold kernelRun0_A
  dsimp only
  sl_kernel_rfl
/-- With the scratch set to zero: what output s holds. -/
theorem soutA {b : Blk} (hb : RepBlk b x0 x1 x2 x3 x4 x5 x6) (h : Fin 8) (p d : Fin 128) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 (ix3 h p d) = (((b.head h (fun _ _ => 0)).dSn p d : ℝ) : EReal) := by
  unfold sout0_A_0
  rw [View.read_writes_junk_eq_canon, piecesAs]
  rw [canon_left _ _ (View.cover_of_tiled_head _ _ _ (by sl_kernel_rfl) _)]
  canon_tiles x e
  · exact tile3 7 (f := fun h => (b.head h (fun _ _ => 0)).dSn) (HIn.dSn_rep (headA7_rep arg1 harg1 arg2 harg2 arg3 harg3 arg4 harg4 arg5 harg5 arg6 harg6 arg7 harg7 arg11 x0 x1 x2 x3 x4 x5 x6 hb)) x rfl e0 e1 e2
  · exact tile3 6 (f := fun h => (b.head h (fun _ _ => 0)).dSn) (HIn.dSn_rep (headA6_rep arg1 harg1 arg2 harg2 arg3 harg3 arg4 harg4 arg5 harg5 arg6 harg6 arg7 harg7 arg11 x0 x1 x2 x3 x4 x5 x6 hb)) x rfl e0 e1 e2
  · exact tile3 5 (f := fun h => (b.head h (fun _ _ => 0)).dSn) (HIn.dSn_rep (headA5_rep arg1 harg1 arg2 harg2 arg3 harg3 arg4 harg4 arg5 harg5 arg6 harg6 arg7 harg7 arg11 x0 x1 x2 x3 x4 x5 x6 hb)) x rfl e0 e1 e2
  · exact tile3 4 (f := fun h => (b.head h (fun _ _ => 0)).dSn) (HIn.dSn_rep (headA4_rep arg1 harg1 arg2 harg2 arg3 harg3 arg4 harg4 arg5 harg5 arg6 harg6 arg7 harg7 arg11 x0 x1 x2 x3 x4 x5 x6 hb)) x rfl e0 e1 e2
  · exact tile3 3 (f := fun h => (b.head h (fun _ _ => 0)).dSn) (HIn.dSn_rep (headA3_rep arg1 harg1 arg2 harg2 arg3 harg3 arg4 harg4 arg5 harg5 arg6 harg6 arg7 harg7 arg11 x0 x1 x2 x3 x4 x5 x6 hb)) x rfl e0 e1 e2
  · exact tile3 2 (f := fun h => (b.head h (fun _ _ => 0)).dSn) (HIn.dSn_rep (headA2_rep arg1 harg1 arg2 harg2 arg3 harg3 arg4 harg4 arg5 harg5 arg6 harg6 arg7 harg7 arg11 x0 x1 x2 x3 x4 x5 x6 hb)) x rfl e0 e1 e2
  · exact tile3 1 (f := fun h => (b.head h (fun _ _ => 0)).dSn) (HIn.dSn_rep (headA1_rep arg1 harg1 arg2 harg2 arg3 harg3 arg4 harg4 arg5 harg5 arg6 harg6 arg7 harg7 arg11 x0 x1 x2 x3 x4 x5 x6 hb)) x rfl e0 e1 e2
  · exact tile3 0 (f := fun h => (b.head h (fun _ _ => 0)).dSn) (HIn.dSn_rep (headA0_rep arg1 harg1 arg2 harg2 arg3 harg3 arg4 harg4 arg5 harg5 arg6 harg6 arg7 harg7 arg11 x0 x1 x2 x3 x4 x5 x6 hb)) x rfl (e0.trans (Nat.zero_add _).symm) e1 e2

end

end Cert.Delta

end
-- ==== Proof.KernelValue.lean ====
/- The kernel's result arrays, chunk by chunk, as real functions of the arguments. -/
module

public import proofs.«01_k».proof.Proof.Args
public import proofs.«01_k».proof.Proof.Body

@[expose] public section

noncomputable section

namespace Cert.Delta

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

theorem widx0 : ∀ t : Fin cfg0.N, win0_0.index t (0 : Fin 2) = 127 - t.val ∧ win0_0.index t (1 : Fin 2) = 0 := (by decide +kernel : ∀ t : Fin grid0.N, _)
theorem widx1 : ∀ t : Fin cfg0.N, win0_1.index t (0 : Fin 2) = 127 - t.val ∧ win0_1.index t (1 : Fin 2) = 0 := (by decide +kernel : ∀ t : Fin grid0.N, _)
theorem widx2 : ∀ t : Fin cfg0.N, win0_2.index t (0 : Fin 2) = 127 - t.val ∧ win0_2.index t (1 : Fin 2) = 0 := (by decide +kernel : ∀ t : Fin grid0.N, _)
theorem widx3 : ∀ t : Fin cfg0.N, win0_3.index t (0 : Fin 3) = 127 - t.val ∧ win0_3.index t (1 : Fin 3) = 0 ∧ win0_3.index t (2 : Fin 3) = 0 := (by decide +kernel : ∀ t : Fin grid0.N, _)
theorem widx4 : ∀ t : Fin cfg0.N, win0_4.index t (0 : Fin 4) = 127 - t.val ∧ win0_4.index t (1 : Fin 4) = 0 ∧ win0_4.index t (2 : Fin 4) = 0 ∧ win0_4.index t (3 : Fin 4) = 0 := (by decide +kernel : ∀ t : Fin grid0.N, _)
theorem widx5 : ∀ t : Fin cfg0.N, win0_5.index t (0 : Fin 4) = 127 - t.val ∧ win0_5.index t (1 : Fin 4) = 0 ∧ win0_5.index t (2 : Fin 4) = 0 ∧ win0_5.index t (3 : Fin 4) = 0 := (by decide +kernel : ∀ t : Fin grid0.N, _)
theorem widx6 : ∀ t : Fin cfg0.N, win0_6.index t (0 : Fin 2) = 127 - t.val ∧ win0_6.index t (1 : Fin 2) = 0 := (by decide +kernel : ∀ t : Fin grid0.N, _)
theorem widx7 : ∀ t : Fin cfg0.N, win0_7.index t (0 : Fin 2) = 127 - t.val ∧ win0_7.index t (1 : Fin 2) = 0 := (by decide +kernel : ∀ t : Fin grid0.N, _)
theorem widx8 : ∀ t : Fin cfg0.N, win0_8.index t (0 : Fin 2) = 127 - t.val ∧ win0_8.index t (1 : Fin 2) = 0 := (by decide +kernel : ∀ t : Fin grid0.N, _)
theorem widx9 : ∀ t : Fin cfg0.N, win0_9.index t (0 : Fin 2) = 127 - t.val ∧ win0_9.index t (1 : Fin 2) = 0 := (by decide +kernel : ∀ t : Fin grid0.N, _)

theorem wemb0 (t : Fin cfg0.N) (p : Fin 64) (l : Fin 2048) : ((cfg0.win 0).blk t).view.emb (ix2 p l) = ix2 (rowAt (chunk t.val) p) l := by
  obtain ⟨e0, e1⟩ := widx0 t
  funext a; apply Fin.ext
  match a with
  | ⟨0, _⟩ => show win0_0.index t (0 : Fin 2) * 64 + 1 * p.val = (127 - t.val) * 64 + p.val; omega
  | ⟨1, _⟩ => show win0_0.index t (1 : Fin 2) * 2048 + 1 * l.val = l.val; omega
theorem wemb1 (t : Fin cfg0.N) (p : Fin 64) (l : Fin 1024) : ((cfg0.win 1).blk t).view.emb (ix2 p l) = ix2 (rowAt (chunk t.val) p) l := by
  obtain ⟨e0, e1⟩ := widx1 t
  funext a; apply Fin.ext
  match a with
  | ⟨0, _⟩ => show win0_1.index t (0 : Fin 2) * 64 + 1 * p.val = (127 - t.val) * 64 + p.val; omega
  | ⟨1, _⟩ => show win0_1.index t (1 : Fin 2) * 1024 + 1 * l.val = l.val; omega
theorem wemb2 (t : Fin cfg0.N) (p : Fin 64) (l : Fin 128) : ((cfg0.win 2).blk t).view.emb (ix2 p l) = ix2 (rowAt (chunk t.val) p) l := by
  obtain ⟨e0, e1⟩ := widx2 t
  funext a; apply Fin.ext
  match a with
  | ⟨0, _⟩ => show win0_2.index t (0 : Fin 2) * 64 + 1 * p.val = (127 - t.val) * 64 + p.val; omega
  | ⟨1, _⟩ => show win0_2.index t (1 : Fin 2) * 128 + 1 * l.val = l.val; omega
theorem wemb3 (t : Fin cfg0.N) (z : Fin 1) (h : Fin 8) (p : Fin 64) : ((cfg0.win 3).blk t).view.emb (ix3 z h p) = ix3 (chunk t.val) h p := by
  obtain ⟨e0, e1, e2⟩ := widx3 t
  funext a; apply Fin.ext
  match a with
  | ⟨0, _⟩ => show win0_3.index t (0 : Fin 3) * 1 + 1 * z.val = 127 - t.val; omega
  | ⟨1, _⟩ => show win0_3.index t (1 : Fin 3) * 8 + 1 * h.val = h.val; omega
  | ⟨2, _⟩ => show win0_3.index t (2 : Fin 3) * 64 + 1 * p.val = p.val; omega
theorem wemb4 (t : Fin cfg0.N) (z : Fin 1) (h : Fin 8) (p q : Fin 128) : ((cfg0.win 4).blk t).view.emb (ix4 z h p q) = ix4 (chunk t.val) h p q := by
  obtain ⟨e0, e1, e2, e3⟩ := widx4 t
  funext a; apply Fin.ext
  match a with
  | ⟨0, _⟩ => show win0_4.index t (0 : Fin 4) * 1 + 1 * z.val = 127 - t.val; omega
  | ⟨1, _⟩ => show win0_4.index t (1 : Fin 4) * 8 + 1 * h.val = h.val; omega
  | ⟨2, _⟩ => show win0_4.index t (2 : Fin 4) * 128 + 1 * p.val = p.val; omega
  | ⟨3, _⟩ => show win0_4.index t (3 : Fin 4) * 128 + 1 * q.val = q.val; omega
theorem wemb5 (t : Fin cfg0.N) (z : Fin 1) (h : Fin 8) (p q : Fin 64) : ((cfg0.win 5).blk t).view.emb (ix4 z h p q) = ix4 (chunk t.val) h p q := by
  obtain ⟨e0, e1, e2, e3⟩ := widx5 t
  funext a; apply Fin.ext
  match a with
  | ⟨0, _⟩ => show win0_5.index t (0 : Fin 4) * 1 + 1 * z.val = 127 - t.val; omega
  | ⟨1, _⟩ => show win0_5.index t (1 : Fin 4) * 8 + 1 * h.val = h.val; omega
  | ⟨2, _⟩ => show win0_5.index t (2 : Fin 4) * 64 + 1 * p.val = p.val; omega
  | ⟨3, _⟩ => show win0_5.index t (3 : Fin 4) * 64 + 1 * q.val = q.val; omega
theorem wemb6 (t : Fin cfg0.N) (p : Fin 64) (l : Fin 1024) : ((cfg0.win 6).blk t).view.emb (ix2 p l) = ix2 (rowAt (chunk t.val) p) l := by
  obtain ⟨e0, e1⟩ := widx6 t
  funext a; apply Fin.ext
  match a with
  | ⟨0, _⟩ => show win0_6.index t (0 : Fin 2) * 64 + 1 * p.val = (127 - t.val) * 64 + p.val; omega
  | ⟨1, _⟩ => show win0_6.index t (1 : Fin 2) * 1024 + 1 * l.val = l.val; omega
theorem wemb7 (t : Fin cfg0.N) (p : Fin 64) (l : Fin 2048) : ((cfg0.win 7).blk t).view.emb (ix2 p l) = ix2 (rowAt (chunk t.val) p) l := by
  obtain ⟨e0, e1⟩ := widx7 t
  funext a; apply Fin.ext
  match a with
  | ⟨0, _⟩ => show win0_7.index t (0 : Fin 2) * 64 + 1 * p.val = (127 - t.val) * 64 + p.val; omega
  | ⟨1, _⟩ => show win0_7.index t (1 : Fin 2) * 2048 + 1 * l.val = l.val; omega
theorem wemb8 (t : Fin cfg0.N) (p : Fin 64) (l : Fin 1024) : ((cfg0.win 8).blk t).view.emb (ix2 p l) = ix2 (rowAt (chunk t.val) p) l := by
  obtain ⟨e0, e1⟩ := widx8 t
  funext a; apply Fin.ext
  match a with
  | ⟨0, _⟩ => show win0_8.index t (0 : Fin 2) * 64 + 1 * p.val = (127 - t.val) * 64 + p.val; omega
  | ⟨1, _⟩ => show win0_8.index t (1 : Fin 2) * 1024 + 1 * l.val = l.val; omega
theorem wemb9 (t : Fin cfg0.N) (p : Fin 64) (l : Fin 128) : ((cfg0.win 9).blk t).view.emb (ix2 p l) = ix2 (rowAt (chunk t.val) p) l := by
  obtain ⟨e0, e1⟩ := widx9 t
  funext a; apply Fin.ext
  match a with
  | ⟨0, _⟩ => show win0_9.index t (0 : Fin 2) * 64 + 1 * p.val = (127 - t.val) * 64 + p.val; omega
  | ⟨1, _⟩ => show win0_9.index t (1 : Fin 2) * 128 + 1 * l.val = l.val; omega

theorem V_main_v2 : V m c main_v2 = transpose S128x8x64 [0, 2, 1]
    (shapeCast S128x64x8 (extractStridedSlice S8192x8 ![0, 8] (m ((c : Thread nD τ).loc main_arg2)) slices_S8192x128_S8192x8_0_8)
      shapeCasts_S8192x8_S128x64x8) transposes_S128x64x8_S128x8x64_0_2_1 := by
  show StableHlo.after hostOps0 _ (Proc.devRef .tc main_v2) = _
  after_results
  rfl

theorem V_main_v2_rep {f : Fin 8192 → Fin 128 → ℝ} (h : Rep2 (a := 8192) (b := 128) (m ((c : Thread nD τ).loc main_arg2)) f) :
    Rep3 (a := 128) (b := 8) (c := 64) (V m c main_v2) fun n h p => f (rowAt n p) (laneG h) := by
  intro n hh p
  rw [V_main_v2]
  pointwise
  exact h _ _

section
variable {m c} {a : Args}
  (ha : RepArgs a (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))
include ha

/-- At point `t` the seven input blocks hold the numbers of chunk `127 - t`. -/
theorem iblk_rep (t : Fin cfg0.N) : RepBlk (a.blk (chunk t.val)) (iblk m c 0 t) (iblk m c 1 t) (iblk m c 2 t) (iblk m c 3 t)
    (iblk m c 4 t) (iblk m c 5 t) (iblk m c 6 t) where
  qk p l := by
    show V m c main_arg0 (((cfg0.win 0).blk t).view.emb (ix2 p l)) = _
    rw [wemb0, V_main_arg0]; exact ha.qk _ _
  v p l := by
    show V m c main_arg1 (((cfg0.win 1).blk t).view.emb (ix2 p l)) = _
    rw [wemb1, V_main_arg1]; exact ha.v _ _
  gb p l := by
    show V m c main_arg2 (((cfg0.win 2).blk t).view.emb (ix2 p l)) = _
    rw [wemb2, V_main_arg2]; exact ha.gb _ _
  gT z h p := by
    show V m c main_v2 (((cfg0.win 3).blk t).view.emb (ix3 z h p)) = _
    rw [wemb3]; exact V_main_v2_rep m c ha.gb _ _ _
  sp z h p q := by
    show V m c main_arg3 (((cfg0.win 4).blk t).view.emb (ix4 z h p q)) = _
    rw [wemb4, V_main_arg3]; exact ha.sp _ _ _ _
  T z h p q := by
    show V m c main_arg4 (((cfg0.win 5).blk t).view.emb (ix4 z h p q)) = _
    rw [wemb5, V_main_arg4]; exact ha.T _ _ _ _
  dO p l := by
    show V m c main_arg5 (((cfg0.win 6).blk t).view.emb (ix2 p l)) = _
    rw [wemb6, V_main_arg5]; exact ha.dO _ _

/-- What a point leaves: its chunk's gradients in the three blocks, and in the scratch the gradient of the state it starts from. -/
structure AtPt (a : Args) (k : ℕ) (o : Vec Ideal S64x2048 .f32 × Vec Ideal S64x1024 .f32 × Vec Ideal S64x128 .f32 × Vec Ideal S8x128x128 .f32) : Prop where
  dq (h : Fin 8) (p : Fin 64) (d : Fin 128) : o.1 (ix2 p (laneQ h d)) = (((a.X (chunk k) h).dq p d : ℝ) : EReal)
  dk (h : Fin 8) (p : Fin 64) (d : Fin 128) : o.1 (ix2 p (laneK h d)) = (((a.X (chunk k) h).dk p d : ℝ) : EReal)
  dv (h : Fin 8) (p : Fin 64) (d : Fin 128) : o.2.1 (ix2 p (laneV h d)) = (((a.X (chunk k) h).dv p d : ℝ) : EReal)
  dg (p : Fin 64) (l : Fin 128) : o.2.2.1 (ix2 p l) = ((gatesR (fun h => a.X (chunk k) h) p l : ℝ) : EReal)
  dS : Rep3 o.2.2.2 (a.S (k + 1))

theorem outs_rep : ∀ (k : ℕ) (hk : k < cfg0.N), AtPt a k (outsAt0 m c k hk)
  | 0, hk => by
    have e : outsAt0 m c 0 hk = _ := outsAt0_A m c ⟨0, hk⟩ rfl
    have hb := iblk_rep ha ⟨0, hk⟩
    have hX : ∀ h, a.X (chunk 0) h = (a.blk (chunk 0)).head h (fun _ _ => 0) := fun h => a.X_chunk 0 (by omega) h
    refine ⟨fun h p d => ?_, fun h p d => ?_, fun h p d => ?_, fun p l => ?_, fun h p d => ?_⟩
    · rw [hX]; rw [e]; dsimp only; exact outA7q (hb := hb) ..
    · rw [hX]; rw [e]; dsimp only; exact outA7k (hb := hb) ..
    · rw [hX]; rw [e]; dsimp only; exact outA8 (hb := hb) ..
    · simp only [hX]; rw [e]; dsimp only; exact outA9 (hb := hb) ..
    · rw [a.S_succ 0 (by omega)]; show _ = (((a.X (chunk 0) h).dSn p d : ℝ) : EReal); rw [hX]; rw [e]; dsimp only; exact soutA (hb := hb) ..
  | k + 1, hk => by
    have hk' : k + 1 < 128 := Nat.lt_of_lt_of_eq hk N_0
    have e : outsAt0 m c (k + 1) hk = _ := outsAt0_B m c ⟨k + 1, hk⟩ (show ¬(k + 1) % 128 = 0 by omega)
    have hb := iblk_rep ha ⟨k + 1, hk⟩
    have hS := (outs_rep k (by omega)).dS
    have hX : ∀ h, a.X (chunk (k + 1)) h = (a.blk (chunk (k + 1))).head h (a.S (k + 1) h) := fun h => a.X_chunk (k + 1) hk' h
    refine ⟨fun h p d => ?_, fun h p d => ?_, fun h p d => ?_, fun p l => ?_, fun h p d => ?_⟩
    · rw [hX]; rw [e]; dsimp only; exact outB7q (hb := hb) (hS := hS) ..
    · rw [hX]; rw [e]; dsimp only; exact outB7k (hb := hb) (hS := hS) ..
    · rw [hX]; rw [e]; dsimp only; exact outB8 (hb := hb) (hS := hS) ..
    · simp only [hX]; rw [e]; dsimp only; exact outB9 (hb := hb) (hS := hS) ..
    · rw [a.S_succ (k + 1) hk']; show _ = (((a.X (chunk (k + 1)) h).dSn p d : ℝ) : EReal); rw [hX]; rw [e]; dsimp only; exact soutB (hb := hb) (hS := hS) ..

/-- The point that handles chunk `n`. -/
def ptOf (n : Fin 128) : Fin cfg0.N := ⟨127 - n.val, Nat.lt_of_lt_of_eq (show 127 - n.val < 128 by omega) N_0.symm⟩
omit ha in
theorem chunk_ptOf (n : Fin 128) : chunk (ptOf n).val = n := Fin.ext (show 127 - (127 - n.val) = n.val by omega)

omit ha in
theorem arr7 (n : Fin 128) (p : Fin 64) (l : Fin 2048) :
    (dats m 0 c).arrAt 7 cfg0.N (ix2 (rowAt n p) l) = (outsAt0 m c (ptOf n).val (ptOf n).isLt).1 (ix2 p l) := by
  have h := congrFun ((blocks7 m c (ptOf n) (flush0_7 _)).trans (flushed7 m c (ptOf n))) (ix2 p l)
  have h' : (dats m 0 c).arrAt 7 cfg0.N (((cfg0.win 7).blk (ptOf n)).view.emb (ix2 p l)) = (outsAt0 m c (ptOf n).val (ptOf n).isLt).1 (ix2 p l) := h
  rw [wemb7, chunk_ptOf] at h'; exact h'
omit ha in
theorem arr8 (n : Fin 128) (p : Fin 64) (l : Fin 1024) :
    (dats m 0 c).arrAt 8 cfg0.N (ix2 (rowAt n p) l) = (outsAt0 m c (ptOf n).val (ptOf n).isLt).2.1 (ix2 p l) := by
  have h := congrFun ((blocks8 m c (ptOf n) (flush0_8 _)).trans (flushed8 m c (ptOf n))) (ix2 p l)
  have h' : (dats m 0 c).arrAt 8 cfg0.N (((cfg0.win 8).blk (ptOf n)).view.emb (ix2 p l)) = (outsAt0 m c (ptOf n).val (ptOf n).isLt).2.1 (ix2 p l) := h
  rw [wemb8, chunk_ptOf] at h'; exact h'
omit ha in
theorem arr9 (n : Fin 128) (p : Fin 64) (l : Fin 128) :
    (dats m 0 c).arrAt 9 cfg0.N (ix2 (rowAt n p) l) = (outsAt0 m c (ptOf n).val (ptOf n).isLt).2.2.1 (ix2 p l) := by
  have h := congrFun ((blocks9 m c (ptOf n) (flush0_9 _)).trans (flushed9 m c (ptOf n))) (ix2 p l)
  have h' : (dats m 0 c).arrAt 9 cfg0.N (((cfg0.win 9).blk (ptOf n)).view.emb (ix2 p l)) = (outsAt0 m c (ptOf n).val (ptOf n).isLt).2.2.1 (ix2 p l) := h
  rw [wemb9, chunk_ptOf] at h'; exact h'

/-- After the run the gradients of `q`, `k`, `v` and of the gates hold each chunk's real numbers. -/
theorem kernel_dq (n : Fin 128) (h : Fin 8) (p : Fin 64) (d : Fin 128) :
    (dats m 0 c).arrAt 7 cfg0.N (ix2 (rowAt n p) (laneQ h d)) = (((a.X n h).dq p d : ℝ) : EReal) := by
  have := (outs_rep ha _ (ptOf n).isLt).dq h p d
  rw [chunk_ptOf] at this; exact (arr7 n p _).trans this
theorem kernel_dk (n : Fin 128) (h : Fin 8) (p : Fin 64) (d : Fin 128) :
    (dats m 0 c).arrAt 7 cfg0.N (ix2 (rowAt n p) (laneK h d)) = (((a.X n h).dk p d : ℝ) : EReal) := by
  have := (outs_rep ha _ (ptOf n).isLt).dk h p d
  rw [chunk_ptOf] at this; exact (arr7 n p _).trans this
theorem kernel_dv (n : Fin 128) (h : Fin 8) (p : Fin 64) (d : Fin 128) :
    (dats m 0 c).arrAt 8 cfg0.N (ix2 (rowAt n p) (laneV h d)) = (((a.X n h).dv p d : ℝ) : EReal) := by
  have := (outs_rep ha _ (ptOf n).isLt).dv h p d
  rw [chunk_ptOf] at this; exact (arr8 n p _).trans this
theorem kernel_dg (n : Fin 128) (p : Fin 64) (l : Fin 128) :
    (dats m 0 c).arrAt 9 cfg0.N (ix2 (rowAt n p) l) = ((gatesR (fun h => a.X n h) p l : ℝ) : EReal) := by
  have := (outs_rep ha _ (ptOf n).isLt).dg p l
  rw [chunk_ptOf] at this; exact (arr9 n p _).trans this

end

end Cert.Delta
-- ==== Proof.RefNodes.lean ====
/- The values of the reference's operations before and after its loop, each operation its own definition. -/
module

public import proofs.«01_k».proof.Proof.Args
public import proofs.«01_k».proof.Proof.Gen.ReferenceIdeal.Step

@[expose] public section

noncomputable section

namespace Cert.Delta.Ref

open Idealize.ShloMosaic Cert.ReferenceIdeal Cert.ReferenceIdeal.Gen
open Cert.ReferenceIdeal.Step

/-- The state the loop ends in, and the arguments. -/
structure In where
  s : State Ideal
  x0 : FVec Ideal S8192x2048 .f32
  x1 : FVec Ideal S8192x1024 .f32
  x2 : FVec Ideal S8192x128 .f32
  x4 : FVec Ideal S128x8x64x64 .f32
  x5 : FVec Ideal S8192x1024 .f32

def n0 (p : In) : FVec Ideal S8x128x64x128 .f32 := transpose S8x128x64x128 [1, 0, 2, 3] p.s.main_v97_10 transposes_S128x8x64x128_S8x128x64x128_1_0_2_3
def n1 (p : In) : FVec Ideal S8x128x64x64 .f32 := transpose S8x128x64x64 [1, 0, 2, 3] p.x4 transposes_S128x8x64x64_S8x128x64x64_1_0_2_3
def n2 (p : In) : IVec S64x64 32 := iotaInDim S64x64 32 0
def n3 (p : In) : IVec S_ 32 := constantI S_ 32 0#32
def n4 (p : In) : IVec S64x64 32 := broadcastInDim S64x64 ![] bcast_S_S64x64 (n3 p)
def n5 (p : In) : IVec S64x64 32 := addi (n2 p) (n4 p)
def n6 (p : In) : IVec S64x64 32 := iotaInDim S64x64 32 1
def n7 (p : In) : IVec S64x64 1 := cmpi .eq (n5 p) (n6 p)
def n8 (p : In) : FVec Ideal S64x64 .f32 := uitofp .f32 (n7 p)
def n9 (p : In) : FVec Ideal S8x128x64x64 .f32 := broadcastInDim S8x128x64x64 ![2, 3] bcast_S64x64_S8x128x64x64_2_3 (n8 p)
def n10 (p : In) : FVec Ideal S8x128x64x64 .f32 := Host.dotGeneral dot_S8x128x64x64_S8x128x64x64_S8x128x64x64_3_2_2_3_01_01 none (n1 p) (n9 p)
def n11 (p : In) : FVec Ideal S8x128x128x64 .f32 := Host.dotGeneral dot_S8x128x64x128_S8x128x64x64_S8x128x128x64_2_2_3_3_01_01 none (n0 p) (n10 p)
def n12 (p : In) : FVec Ideal S8x128x64x128 .f32 := transpose S8x128x64x128 [0, 1, 3, 2] (n11 p) transposes_S8x128x128x64_S8x128x64x128_0_1_3_2
def n13 (p : In) : FVec Ideal S8192x8 .f32 := extractStridedSlice S8192x8 ![0, 0] p.x2 slices_S8192x128_S8192x8_0_0
def n14 (p : In) : FVec Ideal S128x64x8 .f32 := shapeCast _ (n13 p) shapeCasts_S8192x8_S128x64x8
def n15 (p : In) : FVec Ideal S8x128x64 .f32 := transpose S8x128x64 [2, 0, 1] (n14 p) transposes_S128x64x8_S8x128x64_2_0_1
def n16 (p : In) : FVec Ideal S8x128x64x1 .f32 := broadcastInDim S8x128x64x1 ![0, 1, 2] bcast_S8x128x64_S8x128x64x1_0_1_2 (n15 p)
def n17 (p : In) : FVec Ideal S8x128x64x128 .f32 := broadcastInDim S8x128x64x128 ![0, 1, 2, 3] bcast_S8x128x64x1_S8x128x64x128_0_1_2_3 (n16 p)
def n18 (p : In) : FVec Ideal S8x128x64x128 .f32 := mulf (n12 p) (n17 p)
def n19 (p : In) : FVec Ideal S128x64x8x128 .f32 := transpose S128x64x8x128 [1, 2, 0, 3] (n18 p) transposes_S8x128x64x128_S128x64x8x128_1_2_0_3
def n20 (p : In) : FVec Ideal S8192x8x128 .f32 := shapeCast _ (n19 p) shapeCasts_S128x64x8x128_S8192x8x128
def n21 (p : In) : FVec Ideal S8192x1024 .f32 := shapeCast _ (n20 p) shapeCasts_S8192x8x128_S8192x1024
def n22 (p : In) : FVec Ideal S8192x1024 .f32 := extractStridedSlice S8192x1024 ![0, 1024] p.x0 slices_S8192x2048_S8192x1024_0_1024
def n23 (p : In) : FVec Ideal S8192x8x128 .f32 := shapeCast _ (n22 p) shapeCasts_S8192x1024_S8192x8x128
def n24 (p : In) : FVec Ideal S128x64x8x128 .f32 := shapeCast _ (n23 p) shapeCasts_S8192x8x128_S128x64x8x128
def n25 (p : In) : FVec Ideal S8x128x64x128 .f32 := transpose S8x128x64x128 [2, 0, 1, 3] (n24 p) transposes_S128x64x8x128_S8x128x64x128_2_0_1_3
def n26 (p : In) : FVec Ideal S8x128x64x128 .f32 := transpose S8x128x64x128 [1, 0, 2, 3] p.s.main_v97_14 transposes_S128x8x64x128_S8x128x64x128_1_0_2_3
def n27 (p : In) : FVec Ideal S8x128x64x128 .f32 := mulf (n25 p) (n26 p)
def n28 (p : In) : FVec Ideal S_ .f32 := constant S_ .f32 0x00000000#32
def n29 (p : In) : FVec Ideal S8x128x64 .f32 := Host.reduceAdd (n27 p) (n28 p) reducesTo_S8x128x64x128_S8x128x64_d3 h_S_
def n30 (p : In) : FVec Ideal S8x128x64x1 .f32 := shapeCast _ (n29 p) shapeCasts_S8x128x64_S8x128x64x1
def n31 (p : In) : FVec Ideal S8x128x64 .f32 := Host.reduceAdd (n30 p) (n28 p) reducesTo_S8x128x64x1_S8x128x64_d3 h_S_
def n32 (p : In) : FVec Ideal S8192x8 .f32 := extractStridedSlice S8192x8 ![0, 8] p.x2 slices_S8192x128_S8192x8_0_8
def n33 (p : In) : FVec Ideal S128x64x8 .f32 := shapeCast _ (n32 p) shapeCasts_S8192x8_S128x64x8
def n34 (p : In) : FVec Ideal S8x128x64 .f32 := transpose S8x128x64 [2, 0, 1] (n33 p) transposes_S128x64x8_S8x128x64_2_0_1
def n35 (p : In) : FVec Ideal S_ .f32 := broadcastInDim S_ ![] bcast_S_S_ (n28 p)
def n36 (p : In) : FVec Ideal S8x128x64 .f32 := Host.reduceWindowAdd ![1, 1, 64] ![1, 1, 1] ![0, 0, 63] ![0, 0, 0] (n34 p) (n35 p) reduceWindows_S8x128x64_S8x128x64_w1s1p0_0_w1s1p0_0_w64s1p63_0 h_S_
def n37 (p : In) : FVec Ideal S8x128x1 .f32 := extractStridedSlice S8x128x1 ![0, 0, 63] (n36 p) slices_S8x128x64_S8x128x1_0_0_63
def n38 (p : In) : FVec Ideal S8x128 .f32 := shapeCast _ (n37 p) shapeCasts_S8x128x1_S8x128
def n39 (p : In) : FVec Ideal S8x128x1 .f32 := broadcastInDim S8x128x1 ![0, 1] bcast_S8x128_S8x128x1_0_1 (n38 p)
def n40 (p : In) : FVec Ideal S8x128x64 .f32 := broadcastInDim S8x128x64 ![0, 1, 2] bcast_S8x128x1_S8x128x64_0_1_2 (n39 p)
def n41 (p : In) : FVec Ideal S8x128x64 .f32 := subf (n40 p) (n36 p)
def n42 (p : In) : FVec Ideal S8x128x64 .f32 := Host.exp (n41 p)
def n43 (p : In) : FVec Ideal S8x128x64 .f32 := mulf (n31 p) (n42 p)
def n44 (p : In) : FVec Ideal S8x128x64 .f32 := Host.negf (n43 p)
def n45 (p : In) : FVec Ideal S8x128 .f32 := transpose S8x128 [1, 0] p.s.main_v97_15 transposes_S128x8_S8x128_1_0
def n46 (p : In) : FVec Ideal S8x128 .f32 := Host.exp (n38 p)
def n47 (p : In) : FVec Ideal S8x128 .f32 := mulf (n45 p) (n46 p)
def n48 (p : In) : FVec Ideal S8x128 .f32 := Host.reduceAdd (n43 p) (n28 p) reducesTo_S8x128x64_S8x128_d2 h_S_
def n49 (p : In) : FVec Ideal S8x128x1 .f32 := shapeCast _ (n48 p) shapeCasts_S8x128_S8x128x1
def n50 (p : In) : FVec Ideal S8x128 .f32 := Host.reduceAdd (n49 p) (n28 p) reducesTo_S8x128x1_S8x128_d2 h_S_
def n51 (p : In) : FVec Ideal S8x128 .f32 := addf (n47 p) (n50 p)
def n52 (p : In) : FVec Ideal S8x128x1 .f32 := broadcastInDim S8x128x1 ![0, 1] bcast_S8x128_S8x128x1_0_1 (n51 p)
def n53 (p : In) : FVec Ideal S8x128x64 .f32 := pad S8x128x64 ![0, 0, 63] ![0, 0, 0] ![0, 0, 0] (n52 p) (n28 p) pads_S8x128x1_S8x128x64_000_000_6300 h_S_
def n54 (p : In) : FVec Ideal S8x128x64 .f32 := addf (n44 p) (n53 p)
def n55 (p : In) : FVec Ideal S8192x1024 .f32 := extractStridedSlice S8192x1024 ![0, 0] p.x0 slices_S8192x2048_S8192x1024_0_0
def n56 (p : In) : FVec Ideal S8192x8x128 .f32 := shapeCast _ (n55 p) shapeCasts_S8192x1024_S8192x8x128
def n57 (p : In) : FVec Ideal S_ .f32 := constant S_ .f32 0x3DB504F3#32
def n58 (p : In) : FVec Ideal S8192x8x128 .f32 := broadcastInDim S8192x8x128 ![] bcast_S_S8192x8x128 (n57 p)
def n59 (p : In) : FVec Ideal S8192x8x128 .f32 := mulf (n56 p) (n58 p)
def n60 (p : In) : FVec Ideal S128x64x8x128 .f32 := shapeCast _ (n59 p) shapeCasts_S8192x8x128_S128x64x8x128
def n61 (p : In) : FVec Ideal S8x128x64x128 .f32 := transpose S8x128x64x128 [2, 0, 1, 3] (n60 p) transposes_S128x64x8x128_S8x128x64x128_2_0_1_3
def n62 (p : In) : FVec Ideal S8x128x64x128 .f32 := transpose S8x128x64x128 [1, 0, 2, 3] p.s.main_v97_13 transposes_S128x8x64x128_S8x128x64x128_1_0_2_3
def n63 (p : In) : FVec Ideal S8x128x64x128 .f32 := mulf (n61 p) (n62 p)
def n64 (p : In) : FVec Ideal S8x128x64 .f32 := Host.reduceAdd (n63 p) (n28 p) reducesTo_S8x128x64x128_S8x128x64_d3 h_S_
def n65 (p : In) : FVec Ideal S8x128x64x1 .f32 := shapeCast _ (n64 p) shapeCasts_S8x128x64_S8x128x64x1
def n66 (p : In) : FVec Ideal S8x128x64 .f32 := Host.reduceAdd (n65 p) (n28 p) reducesTo_S8x128x64x1_S8x128x64_d3 h_S_
def n67 (p : In) : FVec Ideal S8x128x64 .f32 := Host.exp (n36 p)
def n68 (p : In) : FVec Ideal S8x128x64 .f32 := mulf (n66 p) (n67 p)
def n69 (p : In) : FVec Ideal S8x128x64 .f32 := addf (n54 p) (n68 p)
def n70 (p : In) : FVec Ideal S8x128x64x128 .f32 := mulf (n25 p) (n17 p)
def n71 (p : In) : FVec Ideal S8x128x64x128 .f32 := transpose S8x128x64x128 [1, 0, 2, 3] p.s.main_v97_11 transposes_S128x8x64x128_S8x128x64x128_1_0_2_3
def n72 (p : In) : FVec Ideal S8x128x128x64 .f32 := Host.dotGeneral dot_S8x128x64x128_S8x128x64x64_S8x128x128x64_2_2_3_3_01_01 none (n71 p) (n10 p)
def n73 (p : In) : FVec Ideal S8x128x64x128 .f32 := transpose S8x128x64x128 [0, 1, 3, 2] (n72 p) transposes_S8x128x128x64_S8x128x64x128_0_1_3_2
def n74 (p : In) : FVec Ideal S8x128x64x128 .f32 := mulf (n70 p) (n73 p)
def n75 (p : In) : FVec Ideal S8x128x64 .f32 := Host.reduceAdd (n74 p) (n28 p) reducesTo_S8x128x64x128_S8x128x64_d3 h_S_
def n76 (p : In) : FVec Ideal S8x128x64x1 .f32 := shapeCast _ (n75 p) shapeCasts_S8x128x64_S8x128x64x1
def n77 (p : In) : FVec Ideal S8x128x64 .f32 := Host.reduceAdd (n76 p) (n28 p) reducesTo_S8x128x64x1_S8x128x64_d3 h_S_
def n78 (p : In) : FVec Ideal S8x128x64 .f32 := mulf (n77 p) (n67 p)
def n79 (p : In) : FVec Ideal S8x128x64 .f32 := addf (n69 p) (n78 p)
def n80 (p : In) : IVec S64 32 := iotaInDim S64 32 0
def n81 (p : In) : IVec S64x1 32 := broadcastInDim S64x1 ![0] bcast_S64_S64x1_0 (n80 p)
def n82 (p : In) : IVec S64x64 32 := broadcastInDim S64x64 ![0, 1] bcast_S64x1_S64x64_0_1 (n81 p)
def n83 (p : In) : IVec S1x64 32 := broadcastInDim S1x64 ![1] bcast_S64_S1x64_1 (n80 p)
def n84 (p : In) : IVec S64x64 32 := broadcastInDim S64x64 ![0, 1] bcast_S1x64_S64x64_0_1 (n83 p)
def n85 (p : In) : IVec S64x64 1 := cmpi .sge (n82 p) (n84 p)
def n86 (p : In) : IVec S8x128x64x64 1 := broadcastInDim S8x128x64x64 ![2, 3] bcast_S64x64_S8x128x64x64_2_3 (n85 p)
def n87 (p : In) : FVec Ideal S8x128x64x64 .f32 := Host.dotGeneral dot_S8x128x64x128_S8x128x64x128_S8x128x64x64_3_3_2_2_01_01 none (n61 p) (n25 p)
def n88 (p : In) : FVec Ideal S8x128x64x64 .f32 := transpose S8x128x64x64 [1, 0, 2, 3] p.s.main_v97_12 transposes_S128x8x64x64_S8x128x64x64_1_0_2_3
def n89 (p : In) : FVec Ideal S8x128x64x64 .f32 := broadcastInDim S8x128x64x64 ![] bcast_S_S8x128x64x64 (n28 p)
def n90 (p : In) : FVec Ideal S8x128x64x64 .f32 := select (n86 p) (n88 p) (n89 p)
def n91 (p : In) : FVec Ideal S8x128x64x64 .f32 := mulf (n87 p) (n90 p)
def n92 (p : In) : FVec Ideal S8x128x64x64 .f32 := Host.dotGeneral dot_S8x128x64x128_S8x128x64x128_S8x128x64x64_3_3_2_2_01_01 none (n70 p) (n25 p)
def n93 (p : In) : IVec S64x64 1 := cmpi .sgt (n82 p) (n84 p)
def n94 (p : In) : IVec S8x128x64x64 1 := broadcastInDim S8x128x64x64 ![2, 3] bcast_S64x64_S8x128x64x64_2_3 (n93 p)
def n95 (p : In) : FVec Ideal S8x128x64x1 .f32 := broadcastInDim S8x128x64x1 ![0, 1, 2] bcast_S8x128x64_S8x128x64x1_0_1_2 (n67 p)
def n96 (p : In) : FVec Ideal S8x128x64x128 .f32 := broadcastInDim S8x128x64x128 ![0, 1, 2, 3] bcast_S8x128x64x1_S8x128x64x128_0_1_2_3 (n95 p)
def n97 (p : In) : FVec Ideal S8x128x64x128 .f32 := mulf (n70 p) (n96 p)
def n98 (p : In) : FVec Ideal S8x128x64x64 .f32 := Host.dotGeneral dot_S8x128x64x128_S8x128x64x128_S8x128x64x64_3_3_2_2_01_01 none (n71 p) (n97 p)
def n99 (p : In) : FVec Ideal S8192x8x128 .f32 := shapeCast _ p.x1 shapeCasts_S8192x1024_S8192x8x128
def n100 (p : In) : FVec Ideal S128x64x8x128 .f32 := shapeCast _ (n99 p) shapeCasts_S8192x8x128_S128x64x8x128
def n101 (p : In) : FVec Ideal S8x128x64x128 .f32 := transpose S8x128x64x128 [2, 0, 1, 3] (n100 p) transposes_S128x64x8x128_S8x128x64x128_2_0_1_3
def n102 (p : In) : FVec Ideal S8x128x64x128 .f32 := mulf (n101 p) (n17 p)
def n103 (p : In) : FVec Ideal S8x128x64x64 .f32 := Host.dotGeneral dot_S8x128x64x128_S8x128x64x128_S8x128x64x64_3_3_2_2_01_01 none (n0 p) (n102 p)
def n104 (p : In) : FVec Ideal S8x128x64x64 .f32 := addf (n98 p) (n103 p)
def n105 (p : In) : FVec Ideal S8x128x64x64 .f32 := Host.dotGeneral dot_S8x128x64x64_S8x128x64x64_S8x128x64x64_2_2_3_3_01_01 none (n1 p) (n104 p)
def n106 (p : In) : FVec Ideal S8x128x64x64 .f32 := Host.negf (n105 p)
def n107 (p : In) : FVec Ideal S8x128x64x64 .f32 := Host.dotGeneral dot_S8x128x64x64_S8x128x64x64_S8x128x64x64_3_3_2_2_01_01 none (n106 p) (n10 p)
def n108 (p : In) : FVec Ideal S8x128x64x64 .f32 := select (n94 p) (n107 p) (n89 p)
def n109 (p : In) : FVec Ideal S8x128x64x64 .f32 := mulf (n92 p) (n108 p)
def n110 (p : In) : FVec Ideal S8x128x64x64 .f32 := addf (n91 p) (n109 p)
def n111 (p : In) : FVec Ideal S8x128x64x1 .f32 := broadcastInDim S8x128x64x1 ![0, 1, 2] bcast_S8x128x64_S8x128x64x1_0_1_2 (n36 p)
def n112 (p : In) : FVec Ideal S8x128x64x64 .f32 := broadcastInDim S8x128x64x64 ![0, 1, 2, 3] bcast_S8x128x64x1_S8x128x64x64_0_1_2_3 (n111 p)
def n113 (p : In) : FVec Ideal S8x128x1x64 .f32 := broadcastInDim S8x128x1x64 ![0, 1, 3] bcast_S8x128x64_S8x128x1x64_0_1_3 (n36 p)
def n114 (p : In) : FVec Ideal S8x128x64x64 .f32 := broadcastInDim S8x128x64x64 ![0, 1, 2, 3] bcast_S8x128x1x64_S8x128x64x64_0_1_2_3 (n113 p)
def n115 (p : In) : FVec Ideal S8x128x64x64 .f32 := subf (n112 p) (n114 p)
def n116 (p : In) : FVec Ideal S_ .f32 := constant S_ .f32 0xFF800000#32
def n117 (p : In) : FVec Ideal S_ .f32 := id (n116 p)
def n118 (p : In) : FVec Ideal S8x128x64x64 .f32 := broadcastInDim S8x128x64x64 ![] bcast_S_S8x128x64x64 (n117 p)
def n119 (p : In) : FVec Ideal S8x128x64x64 .f32 := select (n86 p) (n115 p) (n118 p)
def n120 (p : In) : FVec Ideal S8x128x64x64 .f32 := Host.exp (n119 p)
def n121 (p : In) : FVec Ideal S8x128x64x64 .f32 := mulf (n110 p) (n120 p)
def n122 (p : In) : FVec Ideal S8x128x64x64 .f32 := select (n86 p) (n121 p) (n89 p)
def n123 (p : In) : FVec Ideal S8x128x64x64 .f32 := Host.negf (n122 p)
def n124 (p : In) : FVec Ideal S8x128x64 .f32 := Host.reduceAdd (n123 p) (n28 p) reducesTo_S8x128x64x64_S8x128x64_d2 h_S_
def n125 (p : In) : FVec Ideal S8x128x1x64 .f32 := shapeCast _ (n124 p) shapeCasts_S8x128x64_S8x128x1x64
def n126 (p : In) : FVec Ideal S8x128x64 .f32 := Host.reduceAdd (n125 p) (n28 p) reducesTo_S8x128x1x64_S8x128x64_d2 h_S_
def n127 (p : In) : FVec Ideal S8x128x64 .f32 := addf (n79 p) (n126 p)
def n128 (p : In) : FVec Ideal S8x128x64 .f32 := Host.reduceAdd (n122 p) (n28 p) reducesTo_S8x128x64x64_S8x128x64_d3 h_S_
def n129 (p : In) : FVec Ideal S8x128x64x1 .f32 := shapeCast _ (n128 p) shapeCasts_S8x128x64_S8x128x64x1
def n130 (p : In) : FVec Ideal S8x128x64 .f32 := Host.reduceAdd (n129 p) (n28 p) reducesTo_S8x128x64x1_S8x128x64_d3 h_S_
def n131 (p : In) : FVec Ideal S8x128x64 .f32 := addf (n127 p) (n130 p)
def n132 (p : In) : FVec Ideal S8x128x64 .f32 := Host.reduceWindowAdd ![1, 1, 64] ![1, 1, 1] ![0, 0, 0] ![0, 0, 63] (n131 p) (n35 p) reduceWindows_S8x128x64_S8x128x64_w1s1p0_0_w1s1p0_0_w64s1p0_63 h_S_
def n133 (p : In) : FVec Ideal S128x64x8 .f32 := transpose S128x64x8 [1, 2, 0] (n132 p) transposes_S8x128x64_S128x64x8_1_2_0
def n134 (p : In) : FVec Ideal S8192x8 .f32 := shapeCast _ (n133 p) shapeCasts_S128x64x8_S8192x8
def n135 (p : In) : FVec Ideal S8192x128 .f32 := pad S8192x128 ![0, 8] ![0, 112] ![0, 0] (n134 p) (n28 p) pads_S8192x8_S8192x128_000_81120 h_S_
def n136 (p : In) : FVec Ideal S8x128x64x128 .f32 := mulf (n101 p) (n12 p)
def n137 (p : In) : FVec Ideal S8x128x64 .f32 := Host.reduceAdd (n136 p) (n28 p) reducesTo_S8x128x64x128_S8x128x64_d3 h_S_
def n138 (p : In) : FVec Ideal S8x128x64x1 .f32 := shapeCast _ (n137 p) shapeCasts_S8x128x64_S8x128x64x1
def n139 (p : In) : FVec Ideal S8x128x64 .f32 := Host.reduceAdd (n138 p) (n28 p) reducesTo_S8x128x64x1_S8x128x64_d3 h_S_
def n140 (p : In) : FVec Ideal S8x128x64x128 .f32 := mulf (n73 p) (n96 p)
def n141 (p : In) : FVec Ideal S8x128x64x64 .f32 := mulf (n108 p) (n120 p)
def n142 (p : In) : FVec Ideal S8x128x64x128 .f32 := Host.dotGeneral dot_S8x128x64x64_S8x128x64x128_S8x128x64x128_3_2_2_3_01_01 none (n141 p) (n25 p)
def n143 (p : In) : FVec Ideal S8x128x64x128 .f32 := addf (n140 p) (n142 p)
def n144 (p : In) : FVec Ideal S8x128x64x128 .f32 := mulf (n25 p) (n143 p)
def n145 (p : In) : FVec Ideal S8x128x64 .f32 := Host.reduceAdd (n144 p) (n28 p) reducesTo_S8x128x64x128_S8x128x64_d3 h_S_
def n146 (p : In) : FVec Ideal S8x128x64x1 .f32 := shapeCast _ (n145 p) shapeCasts_S8x128x64_S8x128x64x1
def n147 (p : In) : FVec Ideal S8x128x64 .f32 := Host.reduceAdd (n146 p) (n28 p) reducesTo_S8x128x64x1_S8x128x64_d3 h_S_
def n148 (p : In) : FVec Ideal S8x128x64 .f32 := addf (n139 p) (n147 p)
def n149 (p : In) : FVec Ideal S128x64x8 .f32 := transpose S128x64x8 [1, 2, 0] (n148 p) transposes_S8x128x64_S128x64x8_1_2_0
def n150 (p : In) : FVec Ideal S8192x8 .f32 := shapeCast _ (n149 p) shapeCasts_S128x64x8_S8192x8
def n151 (p : In) : FVec Ideal S8192x128 .f32 := pad S8192x128 ![0, 0] ![0, 120] ![0, 0] (n150 p) (n28 p) pads_S8192x8_S8192x128_000_01200 h_S_
def n152 (p : In) : FVec Ideal S8192x128 .f32 := addf (n135 p) (n151 p)
def n153 (p : In) : FVec Ideal S8x128x64x1 .f32 := broadcastInDim S8x128x64x1 ![0, 1, 2] bcast_S8x128x64_S8x128x64x1_0_1_2 (n42 p)
def n154 (p : In) : FVec Ideal S8x128x64x128 .f32 := broadcastInDim S8x128x64x128 ![0, 1, 2, 3] bcast_S8x128x64x1_S8x128x64x128_0_1_2_3 (n153 p)
def n155 (p : In) : FVec Ideal S8x128x64x128 .f32 := mulf (n26 p) (n154 p)
def n156 (p : In) : FVec Ideal S8x128x64x64 .f32 := mulf (n90 p) (n120 p)
def n157 (p : In) : FVec Ideal S8x128x64x128 .f32 := Host.dotGeneral dot_S8x128x64x64_S8x128x64x128_S8x128x64x128_2_2_3_3_01_01 none (n156 p) (n61 p)
def n158 (p : In) : FVec Ideal S8x128x64x128 .f32 := addf (n155 p) (n157 p)
def n159 (p : In) : FVec Ideal S8x128x64x128 .f32 := Host.dotGeneral dot_S8x128x64x64_S8x128x64x128_S8x128x64x128_2_2_3_3_01_01 none (n141 p) (n70 p)
def n160 (p : In) : FVec Ideal S8x128x64x128 .f32 := addf (n158 p) (n159 p)
def n161 (p : In) : FVec Ideal S8x128x64x128 .f32 := mulf (n143 p) (n17 p)
def n162 (p : In) : FVec Ideal S8x128x64x128 .f32 := addf (n160 p) (n161 p)
def n163 (p : In) : FVec Ideal S128x64x8x128 .f32 := transpose S128x64x8x128 [1, 2, 0, 3] (n162 p) transposes_S8x128x64x128_S128x64x8x128_1_2_0_3
def n164 (p : In) : FVec Ideal S8192x8x128 .f32 := shapeCast _ (n163 p) shapeCasts_S128x64x8x128_S8192x8x128
def n165 (p : In) : FVec Ideal S8192x1024 .f32 := shapeCast _ (n164 p) shapeCasts_S8192x8x128_S8192x1024
def n166 (p : In) : FVec Ideal S8192x2048 .f32 := pad S8192x2048 ![0, 1024] ![0, 0] ![0, 0] (n165 p) (n28 p) pads_S8192x1024_S8192x2048_000_102400 h_S_
def n167 (p : In) : FVec Ideal S8x128x64x128 .f32 := mulf (n62 p) (n96 p)
def n168 (p : In) : FVec Ideal S8x128x64x128 .f32 := Host.dotGeneral dot_S8x128x64x64_S8x128x64x128_S8x128x64x128_3_2_2_3_01_01 none (n156 p) (n25 p)
def n169 (p : In) : FVec Ideal S8x128x64x128 .f32 := addf (n167 p) (n168 p)
def n170 (p : In) : FVec Ideal S128x64x8x128 .f32 := transpose S128x64x8x128 [1, 2, 0, 3] (n169 p) transposes_S8x128x64x128_S128x64x8x128_1_2_0_3
def n171 (p : In) : FVec Ideal S8192x8x128 .f32 := shapeCast _ (n170 p) shapeCasts_S128x64x8x128_S8192x8x128
def n172 (p : In) : FVec Ideal S8192x8x128 .f32 := mulf (n171 p) (n58 p)
def n173 (p : In) : FVec Ideal S8192x1024 .f32 := shapeCast _ (n172 p) shapeCasts_S8192x8x128_S8192x1024
def n174 (p : In) : FVec Ideal S8192x2048 .f32 := pad S8192x2048 ![0, 0] ![0, 1024] ![0, 0] (n173 p) (n28 p) pads_S8192x1024_S8192x2048_000_010240 h_S_
def n175 (p : In) : FVec Ideal S8192x2048 .f32 := addf (n166 p) (n174 p)
def n176 (p : In) : FVec Ideal S128x64x8x128 .f32 := shapeCast _ p.x5 shapeCasts_S8192x1024_S128x64x8x128
def n177 (p : In) : FVec Ideal S128x8x64x128 .f32 := transpose S128x8x64x128 [0, 2, 1, 3] (n176 p) transposes_S128x64x8x128_S128x8x64x128_0_2_1_3
def n178 (p : In) : FVec Ideal S8x128x64x128 .f32 := Host.dotGeneral dot_S8x128x64x64_S8x128x64x128_S8x128x64x128_3_2_2_3_01_01 none (n10 p) (n102 p)
def n179 (p : In) : FVec Ideal S128x8x64x128 .f32 := transpose S128x8x64x128 [1, 0, 2, 3] (n178 p) transposes_S8x128x64x128_S128x8x64x128_1_0_2_3
def n180 (p : In) : FVec Ideal S8x128x64x128 .f32 := Host.dotGeneral dot_S8x128x64x64_S8x128x64x128_S8x128x64x128_3_2_2_3_01_01 none (n10 p) (n97 p)
def n181 (p : In) : FVec Ideal S128x8x64x128 .f32 := transpose S128x8x64x128 [1, 0, 2, 3] (n180 p) transposes_S8x128x64x128_S128x8x64x128_1_0_2_3
def n182 (p : In) : FVec Ideal S8x128x64x64 .f32 := mulf (n87 p) (n120 p)
def n183 (p : In) : FVec Ideal S_ .f32 := id (n28 p)
def n184 (p : In) : FVec Ideal S8x128x64x64 .f32 := broadcastInDim S8x128x64x64 ![] bcast_S_S8x128x64x64 (n183 p)
def n185 (p : In) : FVec Ideal S8x128x64x64 .f32 := select (n86 p) (n182 p) (n184 p)
def n186 (p : In) : FVec Ideal S128x8x64x64 .f32 := transpose S128x8x64x64 [1, 0, 2, 3] (n185 p) transposes_S8x128x64x64_S128x8x64x64_1_0_2_3
def n187 (p : In) : FVec Ideal S8x128x64x128 .f32 := mulf (n61 p) (n96 p)
def n188 (p : In) : FVec Ideal S128x8x64x128 .f32 := transpose S128x8x64x128 [1, 0, 2, 3] (n187 p) transposes_S8x128x64x128_S128x8x64x128_1_0_2_3
def n189 (p : In) : FVec Ideal S8x128x64x128 .f32 := mulf (n25 p) (n154 p)
def n190 (p : In) : FVec Ideal S128x8x64x128 .f32 := transpose S128x8x64x128 [1, 0, 2, 3] (n189 p) transposes_S8x128x64x128_S128x8x64x128_1_0_2_3
def n191 (p : In) : FVec Ideal S128x8 .f32 := transpose S128x8 [1, 0] (n46 p) transposes_S8x128_S128x8_1_0

set_option maxRecDepth 8192 in
theorem R295 (p : In) : R_main_v295 (F := Ideal) p.s p.x2 p.x4 = n21 p := rfl
set_option maxRecDepth 8192 in
theorem R294 (p : In) : R_main_v294 (F := Ideal) p.s p.x0 p.x1 p.x2 p.x4 = n152 p := rfl
set_option maxRecDepth 8192 in
theorem R300 (p : In) : R_main_v300 (F := Ideal) p.s p.x0 p.x1 p.x2 p.x4 = n175 p := rfl
set_option maxRecDepth 8192 in
theorem A1 (p : In) : A_main_v1 (F := Ideal) p.x0 p.x1 p.x2 p.x4 p.x5 = n177 p := rfl
set_option maxRecDepth 8192 in
theorem A85 (p : In) : A_main_v85 (F := Ideal) p.x0 p.x1 p.x2 p.x4 p.x5 = n179 p := rfl
set_option maxRecDepth 8192 in
theorem A86 (p : In) : A_main_v86 (F := Ideal) p.x0 p.x1 p.x2 p.x4 p.x5 = n181 p := rfl
set_option maxRecDepth 8192 in
theorem A87 (p : In) : A_main_v87 (F := Ideal) p.x0 p.x1 p.x2 p.x4 p.x5 = n186 p := rfl
set_option maxRecDepth 8192 in
theorem A88 (p : In) : A_main_v88 (F := Ideal) p.x0 p.x1 p.x2 p.x4 p.x5 = n188 p := rfl
set_option maxRecDepth 8192 in
theorem A89 (p : In) : A_main_v89 (F := Ideal) p.x0 p.x1 p.x2 p.x4 p.x5 = n190 p := rfl
set_option maxRecDepth 8192 in
theorem A90 (p : In) : A_main_v90 (F := Ideal) p.x0 p.x1 p.x2 p.x4 p.x5 = n191 p := rfl

end Cert.Delta.Ref
-- ==== Proof.Slices.lean ====
/- Reading one chunk out of an array of chunks, and writing one chunk into it, at a chunk number held in an integer. -/
module

public import proofs.«01_k».proof.Proof.RefNodes

@[expose] public section

noncomputable section

namespace Cert.Delta.Ref

open Idealize.ShloMosaic Cert.ReferenceIdeal Cert.ReferenceIdeal.Gen Cert.ReferenceIdeal.Step

/-- The chunk number of trip `j`. -/
theorem b3_val {s : State Ideal} (j : ℕ) (hj : j < 128) (i : S_.Idx) : (b3 j s i).toInt = ((127 - j : ℕ) : Int) := by
  have e : ∀ j : Fin 128, ((128#32 - BitVec.ofNat 32 j.val) - 1#32).toInt = ((127 - j.val : ℕ) : Int) := by decide +kernel
  exact e ⟨j, hj⟩

section
variable {α : Type} {B C D : ℕ}

/-- One chunk read out of an array of 128 chunks of three axes. -/
theorem slice4 (x : (⟨4, ![128, B, C, D]⟩ : Shape).Idx → α) (start : Fin 4 → Int)
    (h : (⟨4, ![128, B, C, D]⟩ : Shape).Slices (fun _ => 0) ⟨4, ![1, B, C, D]⟩) (n : Fin 128)
    (h0 : start 0 = (n.val : ℕ)) (h1 : start 1 = (0 : ℕ)) (h2 : start 2 = (0 : ℕ)) (h3 : start 3 = (0 : ℕ))
    (o : Fin 1) (b : Fin B) (c : Fin C) (d : Fin D) :
    Host.dynamicSlice (s := ⟨4, ![128, B, C, D]⟩) ⟨4, ![1, B, C, D]⟩ x start h (ix4 o b c d) = x (ix4 n b c d) := by
  have k0 := Host.clampedStart_of_le (s := ⟨4, ![128, B, C, D]⟩) (t := ⟨4, ![1, B, C, D]⟩) rfl start 0 n.val h0 (by show n.val + 1 ≤ 128; omega)
  have k1 := Host.clampedStart_of_le (s := ⟨4, ![128, B, C, D]⟩) (t := ⟨4, ![1, B, C, D]⟩) rfl start 1 0 h1 (by show 0 + B ≤ B; omega)
  have k2 := Host.clampedStart_of_le (s := ⟨4, ![128, B, C, D]⟩) (t := ⟨4, ![1, B, C, D]⟩) rfl start 2 0 h2 (by show 0 + C ≤ C; omega)
  have k3 := Host.clampedStart_of_le (s := ⟨4, ![128, B, C, D]⟩) (t := ⟨4, ![1, B, C, D]⟩) rfl start 3 0 h3 (by show 0 + D ≤ D; omega)
  rw [Host.dynamicSlice_apply]
  refine congrArg x (funext fun a => Fin.ext ?_)
  fin_cases a
  · exact (congrArg (· + o.val) k0).trans (by have := o.isLt; show n.val + o.val = n.val; omega)
  · exact (congrArg (· + b.val) k1).trans (Nat.zero_add _)
  · exact (congrArg (· + c.val) k2).trans (Nat.zero_add _)
  · exact (congrArg (· + d.val) k3).trans (Nat.zero_add _)

/-- One chunk read out of a matrix with a row for each chunk. -/
theorem slice2 (x : (⟨2, ![128, B]⟩ : Shape).Idx → α) (start : Fin 2 → Int)
    (h : (⟨2, ![128, B]⟩ : Shape).Slices (fun _ => 0) ⟨2, ![1, B]⟩) (n : Fin 128)
    (h0 : start 0 = (n.val : ℕ)) (h1 : start 1 = (0 : ℕ)) (o : Fin 1) (b : Fin B) :
    Host.dynamicSlice (s := ⟨2, ![128, B]⟩) ⟨2, ![1, B]⟩ x start h (ix2 o b) = x (ix2 n b) := by
  have k0 := Host.clampedStart_of_le (s := ⟨2, ![128, B]⟩) (t := ⟨2, ![1, B]⟩) rfl start 0 n.val h0 (by show n.val + 1 ≤ 128; omega)
  have k1 := Host.clampedStart_of_le (s := ⟨2, ![128, B]⟩) (t := ⟨2, ![1, B]⟩) rfl start 1 0 h1 (by show 0 + B ≤ B; omega)
  rw [Host.dynamicSlice_apply]
  refine congrArg x (funext fun a => Fin.ext ?_)
  fin_cases a
  · exact (congrArg (· + o.val) k0).trans (by have := o.isLt; show n.val + o.val = n.val; omega)
  · exact (congrArg (· + b.val) k1).trans (Nat.zero_add _)

/-- One chunk written into an array of 128 chunks of three axes. -/
theorem update4 (x : (⟨4, ![128, B, C, D]⟩ : Shape).Idx → α) (u : (⟨4, ![1, B, C, D]⟩ : Shape).Idx → α) (start : Fin 4 → Int)
    (h : (⟨4, ![128, B, C, D]⟩ : Shape).Slices (fun _ => 0) ⟨4, ![1, B, C, D]⟩) (k : Fin 128)
    (h0 : start 0 = (k.val : ℕ)) (h1 : start 1 = (0 : ℕ)) (h2 : start 2 = (0 : ℕ)) (h3 : start 3 = (0 : ℕ))
    (n : Fin 128) (b : Fin B) (c : Fin C) (d : Fin D) :
    Host.dynamicUpdateSlice (s := ⟨4, ![128, B, C, D]⟩) x u start h (ix4 n b c d) = if n = k then u (ix4 0 b c d) else x (ix4 n b c d) := by
  have k0 := Host.clampedStart_of_le (s := ⟨4, ![128, B, C, D]⟩) (t := ⟨4, ![1, B, C, D]⟩) rfl start 0 k.val h0 (by show k.val + 1 ≤ 128; omega)
  have k1 := Host.clampedStart_of_le (s := ⟨4, ![128, B, C, D]⟩) (t := ⟨4, ![1, B, C, D]⟩) rfl start 1 0 h1 (by show 0 + B ≤ B; omega)
  have k2 := Host.clampedStart_of_le (s := ⟨4, ![128, B, C, D]⟩) (t := ⟨4, ![1, B, C, D]⟩) rfl start 2 0 h2 (by show 0 + C ≤ C; omega)
  have k3 := Host.clampedStart_of_le (s := ⟨4, ![128, B, C, D]⟩) (t := ⟨4, ![1, B, C, D]⟩) rfl start 3 0 h3 (by show 0 + D ≤ D; omega)
  rw [Host.dynamicUpdateSlice_apply]
  by_cases e : n = k
  · subst e
    rw [if_pos rfl, dif_pos]
    · refine congrArg u (funext fun a => Fin.ext ?_)
      fin_cases a
      · exact (congrArg (n.val - ·) k0).trans (Nat.sub_self _)
      · exact (congrArg (b.val - ·) k1).trans (Nat.sub_zero _)
      · exact (congrArg (c.val - ·) k2).trans (Nat.sub_zero _)
      · exact (congrArg (d.val - ·) k3).trans (Nat.sub_zero _)
    · intro a
      fin_cases a
      · exact ⟨k0.le, lt_of_lt_of_eq (Nat.lt_succ_self n.val) (congrArg (· + 1) k0).symm⟩
      · exact ⟨k1.le.trans (Nat.zero_le _), lt_of_lt_of_eq (b.isLt.trans_eq (Nat.zero_add B).symm) (congrArg (· + B) k1).symm⟩
      · exact ⟨k2.le.trans (Nat.zero_le _), lt_of_lt_of_eq (c.isLt.trans_eq (Nat.zero_add C).symm) (congrArg (· + C) k2).symm⟩
      · exact ⟨k3.le.trans (Nat.zero_le _), lt_of_lt_of_eq (d.isLt.trans_eq (Nat.zero_add D).symm) (congrArg (· + D) k3).symm⟩
  · rw [if_neg e, dif_neg]
    intro hh
    have h1 : k.val ≤ n.val := k0.symm.le.trans (hh 0).1
    have h2 : n.val < k.val + 1 := lt_of_lt_of_eq (hh 0).2 (congrArg (· + 1) k0)
    exact e (Fin.ext (by omega))

/-- One chunk written into a matrix with a row for each chunk. -/
theorem update2 (x : (⟨2, ![128, B]⟩ : Shape).Idx → α) (u : (⟨2, ![1, B]⟩ : Shape).Idx → α) (start : Fin 2 → Int)
    (h : (⟨2, ![128, B]⟩ : Shape).Slices (fun _ => 0) ⟨2, ![1, B]⟩) (k : Fin 128)
    (h0 : start 0 = (k.val : ℕ)) (h1 : start 1 = (0 : ℕ)) (n : Fin 128) (b : Fin B) :
    Host.dynamicUpdateSlice (s := ⟨2, ![128, B]⟩) x u start h (ix2 n b) = if n = k then u (ix2 0 b) else x (ix2 n b) := by
  have k0 := Host.clampedStart_of_le (s := ⟨2, ![128, B]⟩) (t := ⟨2, ![1, B]⟩) rfl start 0 k.val h0 (by show k.val + 1 ≤ 128; omega)
  have k1 := Host.clampedStart_of_le (s := ⟨2, ![128, B]⟩) (t := ⟨2, ![1, B]⟩) rfl start 1 0 h1 (by show 0 + B ≤ B; omega)
  rw [Host.dynamicUpdateSlice_apply]
  by_cases e : n = k
  · subst e
    rw [if_pos rfl, dif_pos]
    · refine congrArg u (funext fun a => Fin.ext ?_)
      fin_cases a
      · exact (congrArg (n.val - ·) k0).trans (Nat.sub_self _)
      · exact (congrArg (b.val - ·) k1).trans (Nat.sub_zero _)
    · intro a
      fin_cases a
      · exact ⟨k0.le, lt_of_lt_of_eq (Nat.lt_succ_self n.val) (congrArg (· + 1) k0).symm⟩
      · exact ⟨k1.le.trans (Nat.zero_le _), lt_of_lt_of_eq (b.isLt.trans_eq (Nat.zero_add B).symm) (congrArg (· + B) k1).symm⟩
  · rw [if_neg e, dif_neg]
    intro hh
    have h1 : k.val ≤ n.val := k0.symm.le.trans (hh 0).1
    have h2 : n.val < k.val + 1 := lt_of_lt_of_eq (hh 0).2 (congrArg (· + 1) k0)
    exact e (Fin.ext (by omega))
end

end Cert.Delta.Ref
-- ==== Proof.Cum.lean ====
/- Running sums, forward and backward, as the host's windowed sum makes them. -/
module

public import proofs.«01_k».proof.Proof.RefNodes

@[expose] public section

noncomputable section

namespace Cert.Delta.Ref

open Idealize.ShloMosaic Cert.ReferenceIdeal Cert.ReferenceIdeal.Gen

/-- A window of 64 that ends at `i` sums what is at or below `i`. -/
theorem sum_upto (F : ℕ → ℝ) (i : ℕ) (hi : i < 64) :
    (∑ k ∈ Finset.range 64, if 63 ≤ i + k then F (i + k - 63) else 0) = ∑ j ∈ Finset.range 64, if j ≤ i then F j else 0 := by
  rw [← Finset.sum_filter, ← Finset.sum_filter]
  refine Finset.sum_nbij' (fun k => i + k - 63) (fun j => j + 63 - i) ?_ ?_ ?_ ?_ ?_
  all_goals intro k hk; simp only [Finset.mem_filter, Finset.mem_range] at hk ⊢
  · omega
  · omega
  · omega
  · omega

/-- A window of 64 that starts at `i` sums what is at or above `i`. -/
theorem sum_from (F : ℕ → ℝ) (i : ℕ) (hi : i < 64) :
    (∑ k ∈ Finset.range 64, if i + k < 64 then F (i + k) else 0) = ∑ j ∈ Finset.range 64, if i ≤ j then F j else 0 := by
  rw [← Finset.sum_filter, ← Finset.sum_filter]
  refine Finset.sum_nbij' (fun k => i + k) (fun j => j - i) ?_ ?_ ?_ ?_ ?_
  all_goals intro k hk; simp only [Finset.mem_filter, Finset.mem_range] at hk ⊢
  · omega
  · omega
  · omega
  · omega

/-- A function on the 64 places, on all numbers. -/
def ext (f : Fin 64 → ℝ) (m : ℕ) : ℝ := if h : m < 64 then f ⟨m, h⟩ else 0
theorem ext_val (f : Fin 64 → ℝ) (j : Fin 64) : ext f j.val = f j := by unfold ext; rw [dif_pos j.isLt]

/-- The windowed sum from zero at an index: the sum over the window's places of what each covers, zero where that is padding. -/
theorem windowAdd_apply {s t : Shape} (window strides lo hi : Fin s.rank → ℕ) (h : s.ReduceWindows window strides lo hi t)
    (x : s.Idx → EReal) (j : t.Idx) :
    Ideal.hostReduceWindowAdd window strides lo hi h x 0 j = ∑ k : (⟨s.rank, window⟩ : Shape).Idx,
      if hin : ∀ a, lo a ≤ (j (a.cast h.1.symm)).val * strides a + (k a).val
          ∧ (j (a.cast h.1.symm)).val * strides a + (k a).val - lo a < s.size a
      then x (fun a => ⟨(j (a.cast h.1.symm)).val * strides a + (k a).val - lo a, (hin a).2⟩) else 0 := by
  unfold Ideal.hostReduceWindowAdd Host.reduceWindow
  rw [sum_idx_eq_foldl]
  dsimp only
  refine congrArg (fun F => List.foldl F 0 _) (funext fun r => funext fun n => congrArg (r + ·) ?_)
  congr!

variable {x : FVec Ideal S8x128x64 .f32} {z : FVec Ideal S_ .f32} {f : Fin 8 → Fin 128 → Fin 64 → ℝ}

/-- The windowed sum with 63 places of padding in front is the running sum from the front. -/
theorem cum_rep (hz : ∀ i, z i = 0) (hx : Rep3 x f) :
    Rep3 (Host.reduceWindowAdd ![1, 1, 64] ![1, 1, 1] ![0, 0, 63] ![0, 0, 0] x z
      reduceWindows_S8x128x64_S8x128x64_w1s1p0_0_w1s1p0_0_w64s1p63_0 h_S_)
      fun h n i => ∑ j, if j ≤ i then f h n j else 0 := by
  intro h n i
  have e : ∀ k : Fin 64, (if hin : ∀ a : Fin 3, ![0, 0, 63] a ≤ ((ix3 h n i : S8x128x64.Idx) a).val * ![1, 1, 1] a + ((ix3 0 0 k : (⟨3, ![1, 1, 64]⟩ : Shape).Idx) a).val
        ∧ ((ix3 h n i : S8x128x64.Idx) a).val * ![1, 1, 1] a + ((ix3 0 0 k : (⟨3, ![1, 1, 64]⟩ : Shape).Idx) a).val - ![0, 0, 63] a < S8x128x64.size a
      then x (fun a => ⟨((ix3 h n i : S8x128x64.Idx) a).val * ![1, 1, 1] a + ((ix3 0 0 k : (⟨3, ![1, 1, 64]⟩ : Shape).Idx) a).val - ![0, 0, 63] a, (hin a).2⟩)
      else (0 : EReal)) = (((if 63 ≤ i.val + k.val then ext (f h n) (i.val + k.val - 63) else 0 : ℝ)) : EReal) := by
    intro k
    by_cases hk : 63 ≤ i.val + k.val
    · have hlt : i.val + k.val - 63 < 64 := by omega
      rw [if_pos hk, dif_pos]
      · unfold ext; rw [dif_pos hlt]
        refine Eq.trans (congrArg x ?_) (hx h n ⟨i.val + k.val - 63, hlt⟩)
        funext a; apply Fin.ext
        match a with
        | ⟨0, _⟩ => show h.val * 1 + 0 - 0 = h.val; omega
        | ⟨1, _⟩ => show n.val * 1 + 0 - 0 = n.val; omega
        | ⟨2, _⟩ => show i.val * 1 + k.val - 63 = i.val + k.val - 63; omega
      · intro a
        match a with
        | ⟨0, _⟩ => show 0 ≤ h.val * 1 + 0 ∧ h.val * 1 + 0 - 0 < 8; omega
        | ⟨1, _⟩ => show 0 ≤ n.val * 1 + 0 ∧ n.val * 1 + 0 - 0 < 128; omega
        | ⟨2, _⟩ => show 63 ≤ i.val * 1 + k.val ∧ i.val * 1 + k.val - 63 < 64; omega
    · rw [if_neg hk, dif_neg]
      · rfl
      · intro hc; have := (hc 2).1
        have : 63 ≤ i.val * 1 + k.val := this
        omega
  have s : (∑ k : Fin 64, if 63 ≤ i.val + k.val then ext (f h n) (i.val + k.val - 63) else 0) = ∑ j, if j ≤ i then f h n j else 0 := by
    rw [← Finset.sum_range (fun k => if 63 ≤ i.val + k then ext (f h n) (i.val + k - 63) else 0), sum_upto _ _ i.isLt, Finset.sum_range]
    refine Finset.sum_congr rfl fun j _ => ?_
    rw [ext_val]; rfl
  unfold Host.reduceWindowAdd
  show Ideal.hostReduceWindowAdd _ _ _ _ _ _ (z _) _ = _
  rw [hz, windowAdd_apply]
  refine (sum_idx3 (n0 := 1) (n1 := 1) (n2 := 64) _).trans ?_
  rw [Fin.sum_univ_one, Fin.sum_univ_one]
  refine Eq.trans ?_ (congrArg _ s)
  rw [← coe_sum]
  exact Finset.sum_congr rfl fun k _ => e k

/-- The windowed sum with 63 places of padding behind is the running sum from the back. -/
theorem rcum_rep (hz : ∀ i, z i = 0) (hx : Rep3 x f) :
    Rep3 (Host.reduceWindowAdd ![1, 1, 64] ![1, 1, 1] ![0, 0, 0] ![0, 0, 63] x z
      reduceWindows_S8x128x64_S8x128x64_w1s1p0_0_w1s1p0_0_w64s1p0_63 h_S_)
      fun h n i => ∑ j, if i ≤ j then f h n j else 0 := by
  intro h n i
  have e : ∀ k : Fin 64, (if hin : ∀ a : Fin 3, ![0, 0, 0] a ≤ ((ix3 h n i : S8x128x64.Idx) a).val * ![1, 1, 1] a + ((ix3 0 0 k : (⟨3, ![1, 1, 64]⟩ : Shape).Idx) a).val
        ∧ ((ix3 h n i : S8x128x64.Idx) a).val * ![1, 1, 1] a + ((ix3 0 0 k : (⟨3, ![1, 1, 64]⟩ : Shape).Idx) a).val - ![0, 0, 0] a < S8x128x64.size a
      then x (fun a => ⟨((ix3 h n i : S8x128x64.Idx) a).val * ![1, 1, 1] a + ((ix3 0 0 k : (⟨3, ![1, 1, 64]⟩ : Shape).Idx) a).val - ![0, 0, 0] a, (hin a).2⟩)
      else (0 : EReal)) = (((if i.val + k.val < 64 then ext (f h n) (i.val + k.val) else 0 : ℝ)) : EReal) := by
    intro k
    by_cases hk : i.val + k.val < 64
    · rw [if_pos hk, dif_pos]
      · unfold ext; rw [dif_pos hk]
        refine Eq.trans (congrArg x ?_) (hx h n ⟨i.val + k.val, hk⟩)
        funext a; apply Fin.ext
        match a with
        | ⟨0, _⟩ => show h.val * 1 + 0 - 0 = h.val; omega
        | ⟨1, _⟩ => show n.val * 1 + 0 - 0 = n.val; omega
        | ⟨2, _⟩ => show i.val * 1 + k.val - 0 = i.val + k.val; omega
      · intro a
        match a with
        | ⟨0, _⟩ => show 0 ≤ h.val * 1 + 0 ∧ h.val * 1 + 0 - 0 < 8; omega
        | ⟨1, _⟩ => show 0 ≤ n.val * 1 + 0 ∧ n.val * 1 + 0 - 0 < 128; omega
        | ⟨2, _⟩ => show 0 ≤ i.val * 1 + k.val ∧ i.val * 1 + k.val - 0 < 64; omega
    · rw [if_neg hk, dif_neg]
      · rfl
      · intro hc; have := (hc 2).2
        have : i.val * 1 + k.val - 0 < 64 := this
        omega
  have s : (∑ k : Fin 64, if i.val + k.val < 64 then ext (f h n) (i.val + k.val) else 0) = ∑ j, if i ≤ j then f h n j else 0 := by
    rw [← Finset.sum_range (fun k => if i.val + k < 64 then ext (f h n) (i.val + k) else 0), sum_from _ _ i.isLt, Finset.sum_range]
    refine Finset.sum_congr rfl fun j _ => ?_
    rw [ext_val]; rfl
  unfold Host.reduceWindowAdd
  show Ideal.hostReduceWindowAdd _ _ _ _ _ _ (z _) _ = _
  rw [hz, windowAdd_apply]
  refine (sum_idx3 (n0 := 1) (n1 := 1) (n2 := 64) _).trans ?_
  rw [Fin.sum_univ_one, Fin.sum_univ_one]
  refine Eq.trans ?_ (congrArg _ s)
  rw [← coe_sum]
  exact Finset.sum_congr rfl fun k _ => e k

end Cert.Delta.Ref
-- ==== Proof.RefRep.lean ====
/- What the reference's operations before and after its loop hold, over arguments that hold real numbers. -/
module

public import proofs.«01_k».proof.Proof.Cum

@[expose] public section

noncomputable section

namespace Cert.Delta.Ref

open Idealize.ShloMosaic Cert.ReferenceIdeal Cert.ReferenceIdeal.Gen

theorem leBits : ∀ i j : Fin 64, IntOp.cmpi .sge (BitVec.ofNat 32 i.val) (BitVec.ofNat 32 j.val) = if j ≤ i then 1#1 else 0#1 := by
  decide +kernel
theorem ltBits : ∀ i j : Fin 64, IntOp.cmpi .sgt (BitVec.ofNat 32 i.val) (BitVec.ofNat 32 j.val) = if j < i then 1#1 else 0#1 := by
  decide +kernel
theorem eqBits : ∀ i j : Fin 64, IntOp.cmpi .eq (IntOp.addi (BitVec.ofNat 32 i.val) 0#32) (BitVec.ofNat 32 j.val) = if i = j then 1#1 else 0#1 := by
  decide +kernel
/-- The identity matrix's bits, as numbers. -/
theorem eyeBits (i j : Fin 64) : (FloatOps.uitofp .f32 (IntOp.cmpi .eq (IntOp.addi (BitVec.ofNat 32 i.val) 0#32) (BitVec.ofNat 32 j.val)) : Ideal .f32)
    = (((if i = j then 1 else 0 : ℝ)) : EReal) := by
  rw [eqBits]
  split
  · show ((((1#1 : BitVec 1).toNat : ℝ)) : EReal) = ((1 : ℝ) : EReal)
    norm_num
  · show ((((0#1 : BitVec 1).toNat : ℝ)) : EReal) = ((0 : ℝ) : EReal)
    norm_num
theorem select_bit {α : Type} (c : Prop) [Decidable c] (x y : α) : Scalar.select (if c then 1#1 else 0#1) x y = if c then x else y := by
  split <;> rfl
theorem ite_coe_zero (c : Prop) [Decidable c] (x : ℝ) : (if c then (x : EReal) else 0) = ((if c then x else 0 : ℝ) : EReal) := by
  split <;> rfl
theorem exp_coe (x : ℝ) : Ideal.exp (x : EReal) = ((Real.exp x : ℝ) : EReal) := rfl
theorem zeroC : id (constant (F := Ideal) S_ .f32 0x00000000#32) ix0 = 0 := by
  show Ideal.ofBits .f32 0x00000000#32 = 0
  simp [Ideal.ofBits, Ideal.ieee]
/-- The exponential of minus infinity is zero. -/
theorem exp_ninf : Ideal.exp (id (constant (F := Ideal) S_ .f32 0xFF800000#32) ix0) = ((0 : ℝ) : EReal) := by
  show Ideal.exp (Ideal.ofBits .f32 0xFF800000#32) = _
  have : Ideal.ofBits .f32 0xFF800000#32 = ⊥ := by simp [Ideal.ofBits, Ideal.ieee]
  rw [this]; rfl
/-- An entry of a matrix of real numbers, at a column given by its number. -/
theorem at2 {a b : ℕ} {v : (⟨2, ![a, b]⟩ : Shape).Idx → EReal} {f : Fin a → Fin b → ℝ} (h : Rep2 v f) {r : Fin a} {x : ℕ} {hx : x < b}
    (l : Fin b) (e : x = l.val) : v (ix2 r ⟨x, hx⟩) = ((f r l : ℝ) : EReal) := by
  subst e; exact h r l
/-- The gradient that flows into the decays of a pair. -/
theorem M_eq (x : RIn) (i j : Fin 64) :
    (if j ≤ i then (nt x.qs x.k i j * x.dattn i j + nt x.kb x.k i j * x.dA i j) * x.gam i j else 0) = x.M i j := by
  unfold RIn.M RIn.A RIn.attn RIn.dattn RIn.dA
  by_cases h : j ≤ i
  · by_cases h' : j < i
    · simp only [h, h', if_true]; ring
    · simp only [h, h', if_true, if_false]; ring
  · have h' : ¬ j < i := fun e => h e.le
    simp only [h, h', if_false]; ring

/-- The arguments hold the numbers `a`. -/
structure RepA (p : In) (a : Args) : Prop where
  qk : Rep2 p.x0 a.qk
  v : Rep2 p.x1 a.v
  gb : Rep2 p.x2 a.gb
  T : Rep4 p.x4 a.T
  dO : Rep2 p.x5 a.dO

/-- The loop's last state holds each chunk's gradients of what the loop was handed. -/
structure RepS (p : In) (a : Args) : Prop where
  du : Rep4 p.s.main_v97_10 fun n h => (a.X n h).dvn
  dw : Rep4 p.s.main_v97_11 fun n h => (a.X n h).dw
  dattn : Rep4 p.s.main_v97_12 fun n h => nt (a.X n h).dO (a.X n h).vn
  dqg : Rep4 p.s.main_v97_13 fun n h => (a.X n h).dqg
  dkd : Rep4 p.s.main_v97_14 fun n h => (a.X n h).dkd
  ddec : Rep2 p.s.main_v97_15 fun n h => (a.X n h).ddec

variable {p : In} {a : Args}

theorem zero35 (i : S_.Idx) : n35 p i = 0 := by
  show Ideal.ofBits .f32 0x00000000#32 = 0
  simp [Ideal.ofBits, Ideal.ieee]

theorem r0 (hA : RepA p a) (hS : RepS p a) : Rep4 (n0 p) fun h n i d => (a.X n h).dvn i d := by
  intro h n i d
  pointwise [n0]
  exact hS.du _ _ _ _
theorem r1 (hA : RepA p a) : Rep4 (n1 p) fun h n i j => (a.X n h).T i j := by
  intro h n i j
  pointwise [n1]
  exact hA.T _ _ _ _
theorem r8  : Rep2 (n8 p) fun i j => if i = j then 1 else 0 := by
  intro i j
  pointwise [n8, n7, n5, n2, n4, n3, n6]
  revert i j; exact eyeBits
theorem r10 (hA : RepA p a) : Rep4 (n10 p) fun h n i j => (a.X n h).T i j := by
  intro h n i j
  pointwise [n10, n9]
  simp only [r1 hA _ _ _ _, r8 (p := p) _ _, select_bit, zeroC, ← EReal.coe_mul, ← EReal.coe_add, ← EReal.coe_sub, ← EReal.coe_neg, coe_sum, exp_coe, Fin.sum_univ_one, ite_coe_zero]
  try (simp only [mul_ite, mul_one, mul_zero, Finset.sum_ite_eq, Finset.sum_ite_eq', Finset.mem_univ, if_true])
theorem r11 (hA : RepA p a) (hS : RepS p a) : Rep4 (n11 p) fun h n d j => (a.X n h).dvb j d := by
  intro h n d j
  pointwise [n11]
  simp only [r0 hA hS _ _ _ _, r10 hA _ _ _ _, select_bit, zeroC, ← EReal.coe_mul, ← EReal.coe_add, ← EReal.coe_sub, ← EReal.coe_neg, coe_sum, exp_coe, Fin.sum_univ_one, ite_coe_zero]
  try (refine congrArg _ (Finset.sum_congr rfl fun _ _ => mul_comm _ _))
theorem r12 (hA : RepA p a) (hS : RepS p a) : Rep4 (n12 p) fun h n i d => (a.X n h).dvb i d := by
  intro h n i d
  pointwise [n12]
  simp only [r11 hA hS _ _ _ _, select_bit, zeroC, ← EReal.coe_mul, ← EReal.coe_add, ← EReal.coe_sub, ← EReal.coe_neg, coe_sum, exp_coe, Fin.sum_univ_one, ite_coe_zero]
  try rfl
theorem r15 (hA : RepA p a) : Rep3 (n15 p) fun h n i => (a.X n h).be i := by
  intro h n i
  pointwise [n15, n14, n13]
  exact (hA.gb _ _).trans (by first | rfl | (congr 2; apply Fin.ext; simp [laneB, rowAt]))
theorem r17 (hA : RepA p a) : Rep4 (n17 p) fun h n i d => (a.X n h).be i := by
  intro h n i d
  pointwise [n17, n16]
  simp only [r15 hA _ _ _, select_bit, zeroC, ← EReal.coe_mul, ← EReal.coe_add, ← EReal.coe_sub, ← EReal.coe_neg, coe_sum, exp_coe, Fin.sum_univ_one, ite_coe_zero]
  try rfl
theorem r18 (hA : RepA p a) (hS : RepS p a) : Rep4 (n18 p) fun h n i d => (a.X n h).dv i d := by
  intro h n i d
  pointwise [n18]
  simp only [r12 hA hS _ _ _ _, r17 hA _ _ _ _, select_bit, zeroC, ← EReal.coe_mul, ← EReal.coe_add, ← EReal.coe_sub, ← EReal.coe_neg, coe_sum, exp_coe, Fin.sum_univ_one, ite_coe_zero]
  try rfl
theorem r25 (hA : RepA p a) : Rep4 (n25 p) fun h n i d => (a.X n h).k i d := by
  intro h n i d
  pointwise [n25, n24, n23, n22]
  exact at2 hA.qk (laneK h d) (by show _ = 1024 + 128 * h.val + d.val; omega)
theorem r26 (hA : RepA p a) (hS : RepS p a) : Rep4 (n26 p) fun h n i d => (a.X n h).dkd i d := by
  intro h n i d
  pointwise [n26]
  exact hS.dkd _ _ _ _
theorem r27 (hA : RepA p a) (hS : RepS p a) : Rep4 (n27 p) fun h n i d => (a.X n h).k i d * (a.X n h).dkd i d := by
  intro h n i d
  pointwise [n27]
  simp only [r25 hA _ _ _ _, r26 hA hS _ _ _ _, select_bit, zeroC, ← EReal.coe_mul, ← EReal.coe_add, ← EReal.coe_sub, ← EReal.coe_neg, coe_sum, exp_coe, Fin.sum_univ_one, ite_coe_zero]
  try rfl
theorem r29 (hA : RepA p a) (hS : RepS p a) : Rep3 (n29 p) fun h n i => ∑ d, (a.X n h).k i d * (a.X n h).dkd i d := by
  intro h n i
  pointwise [n29, n28]
  simp only [r27 hA hS _ _ _ _, select_bit, zeroC, ← EReal.coe_mul, ← EReal.coe_add, ← EReal.coe_sub, ← EReal.coe_neg, coe_sum, exp_coe, Fin.sum_univ_one, ite_coe_zero]
  try rfl
theorem r31 (hA : RepA p a) (hS : RepS p a) : Rep3 (n31 p) fun h n i => ∑ d, (a.X n h).k i d * (a.X n h).dkd i d := by
  intro h n i
  pointwise [n31, n30, n28]
  simp only [r29 hA hS _ _ _, select_bit, zeroC, ← EReal.coe_mul, ← EReal.coe_add, ← EReal.coe_sub, ← EReal.coe_neg, coe_sum, exp_coe, Fin.sum_univ_one, ite_coe_zero]
  try rfl
theorem r34 (hA : RepA p a) : Rep3 (n34 p) fun h n i => a.gb (rowAt n i) (laneG h) := by
  intro h n i
  pointwise [n34, n33, n32]
  exact at2 hA.gb (laneG h) (by show _ = 8 + h.val; omega)
theorem r36 (hA : RepA p a) : Rep3 (n36 p) fun h n i => (a.X n h).gc i :=
  cum_rep zero35 (r34 hA)
theorem r38 (hA : RepA p a) : Rep2 (n38 p) fun h n => (a.X n h).gl := by
  intro h n
  pointwise [n38, n37]
  exact r36 hA _ _ _
theorem r40 (hA : RepA p a) : Rep3 (n40 p) fun h n i => (a.X n h).gl := by
  intro h n i
  pointwise [n40, n39]
  simp only [r38 hA _ _, select_bit, zeroC, ← EReal.coe_mul, ← EReal.coe_add, ← EReal.coe_sub, ← EReal.coe_neg, coe_sum, exp_coe, Fin.sum_univ_one, ite_coe_zero]
  try rfl
theorem r41 (hA : RepA p a) : Rep3 (n41 p) fun h n i => (a.X n h).gl - (a.X n h).gc i := by
  intro h n i
  pointwise [n41]
  simp only [r40 hA _ _ _, r36 hA _ _ _, select_bit, zeroC, ← EReal.coe_mul, ← EReal.coe_add, ← EReal.coe_sub, ← EReal.coe_neg, coe_sum, exp_coe, Fin.sum_univ_one, ite_coe_zero]
  try rfl
theorem r42 (hA : RepA p a) : Rep3 (n42 p) fun h n i => (a.X n h).ek i := by
  intro h n i
  pointwise [n42]
  simp only [r41 hA _ _ _, select_bit, zeroC, ← EReal.coe_mul, ← EReal.coe_add, ← EReal.coe_sub, ← EReal.coe_neg, coe_sum, exp_coe, Fin.sum_univ_one, ite_coe_zero]
  try rfl
theorem r43 (hA : RepA p a) (hS : RepS p a) : Rep3 (n43 p) fun h n i => (a.X n h).rkd i := by
  intro h n i
  pointwise [n43]
  simp only [r31 hA hS _ _ _, r42 hA _ _ _, select_bit, zeroC, ← EReal.coe_mul, ← EReal.coe_add, ← EReal.coe_sub, ← EReal.coe_neg, coe_sum, exp_coe, Fin.sum_univ_one, ite_coe_zero]
  try (rw [Finset.sum_mul]; refine congrArg _ (Finset.sum_congr rfl fun d _ => ?_); unfold RIn.kd; ring)
theorem r44 (hA : RepA p a) (hS : RepS p a) : Rep3 (n44 p) fun h n i => -(a.X n h).rkd i := by
  intro h n i
  pointwise [n44]
  simp only [r43 hA hS _ _ _, select_bit, zeroC, ← EReal.coe_mul, ← EReal.coe_add, ← EReal.coe_sub, ← EReal.coe_neg, coe_sum, exp_coe, Fin.sum_univ_one, ite_coe_zero]
  try rfl
theorem r45 (hA : RepA p a) (hS : RepS p a) : Rep2 (n45 p) fun h n => (a.X n h).ddec := by
  intro h n
  pointwise [n45]
  exact hS.ddec _ _
theorem r46 (hA : RepA p a) : Rep2 (n46 p) fun h n => (a.X n h).dec := by
  intro h n
  pointwise [n46]
  simp only [r38 hA _ _, select_bit, zeroC, ← EReal.coe_mul, ← EReal.coe_add, ← EReal.coe_sub, ← EReal.coe_neg, coe_sum, exp_coe, Fin.sum_univ_one, ite_coe_zero]
  try rfl
theorem r47 (hA : RepA p a) (hS : RepS p a) : Rep2 (n47 p) fun h n => (a.X n h).ddec * (a.X n h).dec := by
  intro h n
  pointwise [n47]
  simp only [r45 hA hS _ _, r46 hA _ _, select_bit, zeroC, ← EReal.coe_mul, ← EReal.coe_add, ← EReal.coe_sub, ← EReal.coe_neg, coe_sum, exp_coe, Fin.sum_univ_one, ite_coe_zero]
  try rfl
theorem r48 (hA : RepA p a) (hS : RepS p a) : Rep2 (n48 p) fun h n => ∑ i, (a.X n h).rkd i := by
  intro h n
  pointwise [n48, n28]
  simp only [r43 hA hS _ _ _, select_bit, zeroC, ← EReal.coe_mul, ← EReal.coe_add, ← EReal.coe_sub, ← EReal.coe_neg, coe_sum, exp_coe, Fin.sum_univ_one, ite_coe_zero]
  try rfl
theorem r50 (hA : RepA p a) (hS : RepS p a) : Rep2 (n50 p) fun h n => ∑ i, (a.X n h).rkd i := by
  intro h n
  pointwise [n50, n49, n28]
  simp only [r48 hA hS _ _, select_bit, zeroC, ← EReal.coe_mul, ← EReal.coe_add, ← EReal.coe_sub, ← EReal.coe_neg, coe_sum, exp_coe, Fin.sum_univ_one, ite_coe_zero]
  try rfl
theorem r51 (hA : RepA p a) (hS : RepS p a) : Rep2 (n51 p) fun h n => (a.X n h).dgl := by
  intro h n
  pointwise [n51]
  simp only [r47 hA hS _ _, r50 hA hS _ _, select_bit, zeroC, ← EReal.coe_mul, ← EReal.coe_add, ← EReal.coe_sub, ← EReal.coe_neg, coe_sum, exp_coe, Fin.sum_univ_one, ite_coe_zero]
  try (exact congrArg _ (add_comm _ _))
theorem r53 (hA : RepA p a) (hS : RepS p a) : Rep3 (n53 p) fun h n i => if i = 63 then (a.X n h).dgl else 0 := by
  intro h n i
  pointwise [n53, n52, n28]
  by_cases hi : i = 63
  · subst hi; rw [dif_pos ⟨by decide, by decide⟩, if_pos rfl]; exact r51 hA hS _ _
  · have : i.val ≠ 63 := fun e => hi (Fin.ext e)
    rw [dif_neg (by omega), if_neg hi]; rfl
theorem r54 (hA : RepA p a) (hS : RepS p a) : Rep3 (n54 p) fun h n i => -(a.X n h).rkd i + if i = 63 then (a.X n h).dgl else 0 := by
  intro h n i
  pointwise [n54]
  simp only [r44 hA hS _ _ _, r53 hA hS _ _ _, select_bit, zeroC, ← EReal.coe_mul, ← EReal.coe_add, ← EReal.coe_sub, ← EReal.coe_neg, coe_sum, exp_coe, Fin.sum_univ_one, ite_coe_zero]
  try rfl
theorem r59 (hA : RepA p a) : Rep3 (n59 p) fun r h d => a.qk r (laneQ h d) * sg := by
  intro r h d
  pointwise [n59, n56, n55, n58, n57]
  rw [at2 hA.qk (laneQ h d) (by show _ = 128 * h.val + d.val; omega)]; simp only [sg_coe, ← EReal.coe_mul]
theorem r61 (hA : RepA p a) : Rep4 (n61 p) fun h n i d => (a.X n h).qs i d := by
  intro h n i d
  pointwise [n61, n60]
  exact r59 hA _ _ _
theorem r62 (hA : RepA p a) (hS : RepS p a) : Rep4 (n62 p) fun h n i d => (a.X n h).dqg i d := by
  intro h n i d
  pointwise [n62]
  exact hS.dqg _ _ _ _
theorem r63 (hA : RepA p a) (hS : RepS p a) : Rep4 (n63 p) fun h n i d => (a.X n h).qs i d * (a.X n h).dqg i d := by
  intro h n i d
  pointwise [n63]
  simp only [r61 hA _ _ _ _, r62 hA hS _ _ _ _, select_bit, zeroC, ← EReal.coe_mul, ← EReal.coe_add, ← EReal.coe_sub, ← EReal.coe_neg, coe_sum, exp_coe, Fin.sum_univ_one, ite_coe_zero]
  try rfl
theorem r64 (hA : RepA p a) (hS : RepS p a) : Rep3 (n64 p) fun h n i => ∑ d, (a.X n h).qs i d * (a.X n h).dqg i d := by
  intro h n i
  pointwise [n64, n28]
  simp only [r63 hA hS _ _ _ _, select_bit, zeroC, ← EReal.coe_mul, ← EReal.coe_add, ← EReal.coe_sub, ← EReal.coe_neg, coe_sum, exp_coe, Fin.sum_univ_one, ite_coe_zero]
  try rfl
theorem r66 (hA : RepA p a) (hS : RepS p a) : Rep3 (n66 p) fun h n i => ∑ d, (a.X n h).qs i d * (a.X n h).dqg i d := by
  intro h n i
  pointwise [n66, n65, n28]
  simp only [r64 hA hS _ _ _, select_bit, zeroC, ← EReal.coe_mul, ← EReal.coe_add, ← EReal.coe_sub, ← EReal.coe_neg, coe_sum, exp_coe, Fin.sum_univ_one, ite_coe_zero]
  try rfl
theorem r67 (hA : RepA p a) : Rep3 (n67 p) fun h n i => (a.X n h).eg i := by
  intro h n i
  pointwise [n67]
  simp only [r36 hA _ _ _, select_bit, zeroC, ← EReal.coe_mul, ← EReal.coe_add, ← EReal.coe_sub, ← EReal.coe_neg, coe_sum, exp_coe, Fin.sum_univ_one, ite_coe_zero]
  try rfl
theorem r68 (hA : RepA p a) (hS : RepS p a) : Rep3 (n68 p) fun h n i => ∑ d, (a.X n h).dqg i d * (a.X n h).qg i d := by
  intro h n i
  pointwise [n68]
  simp only [r66 hA hS _ _ _, r67 hA _ _ _, select_bit, zeroC, ← EReal.coe_mul, ← EReal.coe_add, ← EReal.coe_sub, ← EReal.coe_neg, coe_sum, exp_coe, Fin.sum_univ_one, ite_coe_zero]
  try (rw [Finset.sum_mul]; refine congrArg _ (Finset.sum_congr rfl fun d _ => ?_); unfold RIn.qg; ring)
theorem r69 (hA : RepA p a) (hS : RepS p a) : Rep3 (n69 p) fun h n i => -(a.X n h).rkd i + (if i = 63 then (a.X n h).dgl else 0) + ∑ d, (a.X n h).dqg i d * (a.X n h).qg i d := by
  intro h n i
  pointwise [n69]
  simp only [r54 hA hS _ _ _, r68 hA hS _ _ _, select_bit, zeroC, ← EReal.coe_mul, ← EReal.coe_add, ← EReal.coe_sub, ← EReal.coe_neg, coe_sum, exp_coe, Fin.sum_univ_one, ite_coe_zero]
  try rfl
theorem r70 (hA : RepA p a) : Rep4 (n70 p) fun h n i d => (a.X n h).kb i d := by
  intro h n i d
  pointwise [n70]
  simp only [r25 hA _ _ _ _, r17 hA _ _ _ _, select_bit, zeroC, ← EReal.coe_mul, ← EReal.coe_add, ← EReal.coe_sub, ← EReal.coe_neg, coe_sum, exp_coe, Fin.sum_univ_one, ite_coe_zero]
  try rfl
theorem r71 (hA : RepA p a) (hS : RepS p a) : Rep4 (n71 p) fun h n i d => (a.X n h).dw i d := by
  intro h n i d
  pointwise [n71]
  exact hS.dw _ _ _ _
theorem r72 (hA : RepA p a) (hS : RepS p a) : Rep4 (n72 p) fun h n d j => (a.X n h).dkbg j d := by
  intro h n d j
  pointwise [n72]
  simp only [r71 hA hS _ _ _ _, r10 hA _ _ _ _, select_bit, zeroC, ← EReal.coe_mul, ← EReal.coe_add, ← EReal.coe_sub, ← EReal.coe_neg, coe_sum, exp_coe, Fin.sum_univ_one, ite_coe_zero]
  try (refine congrArg _ (Finset.sum_congr rfl fun _ _ => mul_comm _ _))
theorem r73 (hA : RepA p a) (hS : RepS p a) : Rep4 (n73 p) fun h n i d => (a.X n h).dkbg i d := by
  intro h n i d
  pointwise [n73]
  simp only [r72 hA hS _ _ _ _, select_bit, zeroC, ← EReal.coe_mul, ← EReal.coe_add, ← EReal.coe_sub, ← EReal.coe_neg, coe_sum, exp_coe, Fin.sum_univ_one, ite_coe_zero]
  try rfl
theorem r74 (hA : RepA p a) (hS : RepS p a) : Rep4 (n74 p) fun h n i d => (a.X n h).kb i d * (a.X n h).dkbg i d := by
  intro h n i d
  pointwise [n74]
  simp only [r70 hA _ _ _ _, r73 hA hS _ _ _ _, select_bit, zeroC, ← EReal.coe_mul, ← EReal.coe_add, ← EReal.coe_sub, ← EReal.coe_neg, coe_sum, exp_coe, Fin.sum_univ_one, ite_coe_zero]
  try rfl
theorem r75 (hA : RepA p a) (hS : RepS p a) : Rep3 (n75 p) fun h n i => ∑ d, (a.X n h).kb i d * (a.X n h).dkbg i d := by
  intro h n i
  pointwise [n75, n28]
  simp only [r74 hA hS _ _ _ _, select_bit, zeroC, ← EReal.coe_mul, ← EReal.coe_add, ← EReal.coe_sub, ← EReal.coe_neg, coe_sum, exp_coe, Fin.sum_univ_one, ite_coe_zero]
  try rfl
theorem r77 (hA : RepA p a) (hS : RepS p a) : Rep3 (n77 p) fun h n i => ∑ d, (a.X n h).kb i d * (a.X n h).dkbg i d := by
  intro h n i
  pointwise [n77, n76, n28]
  simp only [r75 hA hS _ _ _, select_bit, zeroC, ← EReal.coe_mul, ← EReal.coe_add, ← EReal.coe_sub, ← EReal.coe_neg, coe_sum, exp_coe, Fin.sum_univ_one, ite_coe_zero]
  try rfl
theorem r78 (hA : RepA p a) (hS : RepS p a) : Rep3 (n78 p) fun h n i => ∑ d, (a.X n h).dkbg i d * (a.X n h).kbg i d := by
  intro h n i
  pointwise [n78]
  simp only [r77 hA hS _ _ _, r67 hA _ _ _, select_bit, zeroC, ← EReal.coe_mul, ← EReal.coe_add, ← EReal.coe_sub, ← EReal.coe_neg, coe_sum, exp_coe, Fin.sum_univ_one, ite_coe_zero]
  try (rw [Finset.sum_mul]; refine congrArg _ (Finset.sum_congr rfl fun d _ => ?_); unfold RIn.kbg; ring)
theorem r79 (hA : RepA p a) (hS : RepS p a) : Rep3 (n79 p) fun h n i => -(a.X n h).rkd i + (if i = 63 then (a.X n h).dgl else 0) + ∑ d, (a.X n h).dqg i d * (a.X n h).qg i d + ∑ d, (a.X n h).dkbg i d * (a.X n h).kbg i d := by
  intro h n i
  pointwise [n79]
  simp only [r69 hA hS _ _ _, r78 hA hS _ _ _, select_bit, zeroC, ← EReal.coe_mul, ← EReal.coe_add, ← EReal.coe_sub, ← EReal.coe_neg, coe_sum, exp_coe, Fin.sum_univ_one, ite_coe_zero]
  try rfl
theorem r85 (i j : Fin 64) : n85 p (ix2 i j) = if j ≤ i then 1#1 else 0#1 := by
  pointwise [n85, n82, n81, n80, n84, n83]
  revert i j; exact leBits
theorem r87 (hA : RepA p a) : Rep4 (n87 p) fun h n i j => nt (a.X n h).qs (a.X n h).k i j := by
  intro h n i j
  pointwise [n87]
  simp only [r61 hA _ _ _ _, r25 hA _ _ _ _, select_bit, zeroC, ← EReal.coe_mul, ← EReal.coe_add, ← EReal.coe_sub, ← EReal.coe_neg, coe_sum, exp_coe, Fin.sum_univ_one, ite_coe_zero]
  try rfl
theorem r88 (hA : RepA p a) (hS : RepS p a) : Rep4 (n88 p) fun h n i j => nt (a.X n h).dO (a.X n h).vn i j := by
  intro h n i j
  pointwise [n88]
  exact hS.dattn _ _ _ _
theorem r90 (hA : RepA p a) (hS : RepS p a) : Rep4 (n90 p) fun h n i j => (a.X n h).dattn i j := by
  intro h n i j
  pointwise [n90, n86, n89, n28]
  simp only [r85 (p := p) _ _, r88 hA hS _ _ _ _, select_bit, zeroC, ← EReal.coe_mul, ← EReal.coe_add, ← EReal.coe_sub, ← EReal.coe_neg, coe_sum, exp_coe, Fin.sum_univ_one, ite_coe_zero]
  try rfl
theorem r91 (hA : RepA p a) (hS : RepS p a) : Rep4 (n91 p) fun h n i j => nt (a.X n h).qs (a.X n h).k i j * (a.X n h).dattn i j := by
  intro h n i j
  pointwise [n91]
  simp only [r87 hA _ _ _ _, r90 hA hS _ _ _ _, select_bit, zeroC, ← EReal.coe_mul, ← EReal.coe_add, ← EReal.coe_sub, ← EReal.coe_neg, coe_sum, exp_coe, Fin.sum_univ_one, ite_coe_zero]
  try rfl
theorem r92 (hA : RepA p a) : Rep4 (n92 p) fun h n i j => nt (a.X n h).kb (a.X n h).k i j := by
  intro h n i j
  pointwise [n92]
  simp only [r70 hA _ _ _ _, r25 hA _ _ _ _, select_bit, zeroC, ← EReal.coe_mul, ← EReal.coe_add, ← EReal.coe_sub, ← EReal.coe_neg, coe_sum, exp_coe, Fin.sum_univ_one, ite_coe_zero]
  try rfl
theorem r93 (i j : Fin 64) : n93 p (ix2 i j) = if j < i then 1#1 else 0#1 := by
  pointwise [n93, n82, n81, n80, n84, n83]
  revert i j; exact ltBits
theorem r96 (hA : RepA p a) : Rep4 (n96 p) fun h n i d => (a.X n h).eg i := by
  intro h n i d
  pointwise [n96, n95]
  simp only [r67 hA _ _ _, select_bit, zeroC, ← EReal.coe_mul, ← EReal.coe_add, ← EReal.coe_sub, ← EReal.coe_neg, coe_sum, exp_coe, Fin.sum_univ_one, ite_coe_zero]
  try rfl
theorem r97 (hA : RepA p a) : Rep4 (n97 p) fun h n i d => (a.X n h).kbg i d := by
  intro h n i d
  pointwise [n97]
  simp only [r70 hA _ _ _ _, r96 hA _ _ _ _, select_bit, zeroC, ← EReal.coe_mul, ← EReal.coe_add, ← EReal.coe_sub, ← EReal.coe_neg, coe_sum, exp_coe, Fin.sum_univ_one, ite_coe_zero]
  try rfl
theorem r98 (hA : RepA p a) (hS : RepS p a) : Rep4 (n98 p) fun h n i j => nt (a.X n h).dw (a.X n h).kbg i j := by
  intro h n i j
  pointwise [n98]
  simp only [r71 hA hS _ _ _ _, r97 hA _ _ _ _, select_bit, zeroC, ← EReal.coe_mul, ← EReal.coe_add, ← EReal.coe_sub, ← EReal.coe_neg, coe_sum, exp_coe, Fin.sum_univ_one, ite_coe_zero]
  try rfl
theorem r101 (hA : RepA p a) : Rep4 (n101 p) fun h n i d => (a.X n h).v i d := by
  intro h n i d
  pointwise [n101, n100, n99]
  exact at2 hA.v (laneV h d) (by show _ = 128 * h.val + d.val; omega)
theorem r102 (hA : RepA p a) : Rep4 (n102 p) fun h n i d => (a.X n h).vb i d := by
  intro h n i d
  pointwise [n102]
  simp only [r101 hA _ _ _ _, r17 hA _ _ _ _, select_bit, zeroC, ← EReal.coe_mul, ← EReal.coe_add, ← EReal.coe_sub, ← EReal.coe_neg, coe_sum, exp_coe, Fin.sum_univ_one, ite_coe_zero]
  try rfl
theorem r103 (hA : RepA p a) (hS : RepS p a) : Rep4 (n103 p) fun h n i j => nt (a.X n h).dvn (a.X n h).vb i j := by
  intro h n i j
  pointwise [n103]
  simp only [r0 hA hS _ _ _ _, r102 hA _ _ _ _, select_bit, zeroC, ← EReal.coe_mul, ← EReal.coe_add, ← EReal.coe_sub, ← EReal.coe_neg, coe_sum, exp_coe, Fin.sum_univ_one, ite_coe_zero]
  try rfl
theorem r104 (hA : RepA p a) (hS : RepS p a) : Rep4 (n104 p) fun h n i j => (a.X n h).dT i j := by
  intro h n i j
  pointwise [n104]
  simp only [r98 hA hS _ _ _ _, r103 hA hS _ _ _ _, select_bit, zeroC, ← EReal.coe_mul, ← EReal.coe_add, ← EReal.coe_sub, ← EReal.coe_neg, coe_sum, exp_coe, Fin.sum_univ_one, ite_coe_zero]
  try (exact congrArg _ (add_comm _ _))
theorem r105 (hA : RepA p a) (hS : RepS p a) : Rep4 (n105 p) fun h n i j => (a.X n h).x1 i j := by
  intro h n i j
  pointwise [n105]
  simp only [r1 hA _ _ _ _, r104 hA hS _ _ _ _, select_bit, zeroC, ← EReal.coe_mul, ← EReal.coe_add, ← EReal.coe_sub, ← EReal.coe_neg, coe_sum, exp_coe, Fin.sum_univ_one, ite_coe_zero]
  try rfl
theorem r106 (hA : RepA p a) (hS : RepS p a) : Rep4 (n106 p) fun h n i j => -(a.X n h).x1 i j := by
  intro h n i j
  pointwise [n106]
  simp only [r105 hA hS _ _ _ _, select_bit, zeroC, ← EReal.coe_mul, ← EReal.coe_add, ← EReal.coe_sub, ← EReal.coe_neg, coe_sum, exp_coe, Fin.sum_univ_one, ite_coe_zero]
  try rfl
theorem r107 (hA : RepA p a) (hS : RepS p a) : Rep4 (n107 p) fun h n i j => 0 - nt (a.X n h).x1 (a.X n h).T i j := by
  intro h n i j
  pointwise [n107]
  simp only [r106 hA hS _ _ _ _, r10 hA _ _ _ _, select_bit, zeroC, ← EReal.coe_mul, ← EReal.coe_add, ← EReal.coe_sub, ← EReal.coe_neg, coe_sum, exp_coe, Fin.sum_univ_one, ite_coe_zero]
  try (simp only [neg_mul, Finset.sum_neg_distrib, zero_sub]; rfl)
theorem r108 (hA : RepA p a) (hS : RepS p a) : Rep4 (n108 p) fun h n i j => (a.X n h).dA i j := by
  intro h n i j
  pointwise [n108, n94, n89, n28]
  simp only [r93 (p := p) _ _, r107 hA hS _ _ _ _, select_bit, zeroC, ← EReal.coe_mul, ← EReal.coe_add, ← EReal.coe_sub, ← EReal.coe_neg, coe_sum, exp_coe, Fin.sum_univ_one, ite_coe_zero]
  try rfl
theorem r109 (hA : RepA p a) (hS : RepS p a) : Rep4 (n109 p) fun h n i j => nt (a.X n h).kb (a.X n h).k i j * (a.X n h).dA i j := by
  intro h n i j
  pointwise [n109]
  simp only [r92 hA _ _ _ _, r108 hA hS _ _ _ _, select_bit, zeroC, ← EReal.coe_mul, ← EReal.coe_add, ← EReal.coe_sub, ← EReal.coe_neg, coe_sum, exp_coe, Fin.sum_univ_one, ite_coe_zero]
  try rfl
theorem r110 (hA : RepA p a) (hS : RepS p a) : Rep4 (n110 p) fun h n i j => nt (a.X n h).qs (a.X n h).k i j * (a.X n h).dattn i j + nt (a.X n h).kb (a.X n h).k i j * (a.X n h).dA i j := by
  intro h n i j
  pointwise [n110]
  simp only [r91 hA hS _ _ _ _, r109 hA hS _ _ _ _, select_bit, zeroC, ← EReal.coe_mul, ← EReal.coe_add, ← EReal.coe_sub, ← EReal.coe_neg, coe_sum, exp_coe, Fin.sum_univ_one, ite_coe_zero]
  try rfl
theorem r120 (hA : RepA p a) : Rep4 (n120 p) fun h n i j => (a.X n h).gam i j := by
  intro h n i j
  pointwise [n120, n119, n86, n115, n112, n111, n114, n113, n118, n117, n116]
  simp only [r85 (p := p) _ _, r36 hA _ _ _, select_bit]
  unfold RIn.gam
  split
  · rw [← EReal.coe_sub]; rfl
  · exact exp_ninf
theorem r121 (hA : RepA p a) (hS : RepS p a) : Rep4 (n121 p) fun h n i j => (nt (a.X n h).qs (a.X n h).k i j * (a.X n h).dattn i j + nt (a.X n h).kb (a.X n h).k i j * (a.X n h).dA i j) * (a.X n h).gam i j := by
  intro h n i j
  pointwise [n121]
  simp only [r110 hA hS _ _ _ _, r120 hA _ _ _ _, select_bit, zeroC, ← EReal.coe_mul, ← EReal.coe_add, ← EReal.coe_sub, ← EReal.coe_neg, coe_sum, exp_coe, Fin.sum_univ_one, ite_coe_zero]
  try rfl
theorem r122 (hA : RepA p a) (hS : RepS p a) : Rep4 (n122 p) fun h n i j => (a.X n h).M i j := by
  intro h n i j
  pointwise [n122, n86, n89, n28]
  simp only [r85 (p := p) _ _, r121 hA hS _ _ _ _, select_bit, zeroC, ← EReal.coe_mul, ← EReal.coe_add, ← EReal.coe_sub, ← EReal.coe_neg, coe_sum, exp_coe, Fin.sum_univ_one, ite_coe_zero]
  try (exact congrArg _ (M_eq _ i j))
theorem r123 (hA : RepA p a) (hS : RepS p a) : Rep4 (n123 p) fun h n i j => -(a.X n h).M i j := by
  intro h n i j
  pointwise [n123]
  simp only [r122 hA hS _ _ _ _, select_bit, zeroC, ← EReal.coe_mul, ← EReal.coe_add, ← EReal.coe_sub, ← EReal.coe_neg, coe_sum, exp_coe, Fin.sum_univ_one, ite_coe_zero]
  try rfl
theorem r124 (hA : RepA p a) (hS : RepS p a) : Rep3 (n124 p) fun h n j => ∑ i, -(a.X n h).M i j := by
  intro h n j
  pointwise [n124, n28]
  simp only [r123 hA hS _ _ _ _, select_bit, zeroC, ← EReal.coe_mul, ← EReal.coe_add, ← EReal.coe_sub, ← EReal.coe_neg, coe_sum, exp_coe, Fin.sum_univ_one, ite_coe_zero]
  try rfl
theorem r126 (hA : RepA p a) (hS : RepS p a) : Rep3 (n126 p) fun h n j => ∑ i, -(a.X n h).M i j := by
  intro h n j
  pointwise [n126, n125, n28]
  simp only [r124 hA hS _ _ _, select_bit, zeroC, ← EReal.coe_mul, ← EReal.coe_add, ← EReal.coe_sub, ← EReal.coe_neg, coe_sum, exp_coe, Fin.sum_univ_one, ite_coe_zero]
  try rfl
theorem r127 (hA : RepA p a) (hS : RepS p a) : Rep3 (n127 p) fun h n i => -(a.X n h).rkd i + (if i = 63 then (a.X n h).dgl else 0) + ∑ d, (a.X n h).dqg i d * (a.X n h).qg i d + ∑ d, (a.X n h).dkbg i d * (a.X n h).kbg i d + ∑ j, -(a.X n h).M j i := by
  intro h n i
  pointwise [n127]
  simp only [r79 hA hS _ _ _, r126 hA hS _ _ _, select_bit, zeroC, ← EReal.coe_mul, ← EReal.coe_add, ← EReal.coe_sub, ← EReal.coe_neg, coe_sum, exp_coe, Fin.sum_univ_one, ite_coe_zero]
  try rfl
theorem r128 (hA : RepA p a) (hS : RepS p a) : Rep3 (n128 p) fun h n i => (a.X n h).msum i := by
  intro h n i
  pointwise [n128, n28]
  simp only [r122 hA hS _ _ _ _, select_bit, zeroC, ← EReal.coe_mul, ← EReal.coe_add, ← EReal.coe_sub, ← EReal.coe_neg, coe_sum, exp_coe, Fin.sum_univ_one, ite_coe_zero]
  try rfl
theorem r130 (hA : RepA p a) (hS : RepS p a) : Rep3 (n130 p) fun h n i => (a.X n h).msum i := by
  intro h n i
  pointwise [n130, n129, n28]
  simp only [r128 hA hS _ _ _, select_bit, zeroC, ← EReal.coe_mul, ← EReal.coe_add, ← EReal.coe_sub, ← EReal.coe_neg, coe_sum, exp_coe, Fin.sum_univ_one, ite_coe_zero]
  try rfl
theorem r131 (hA : RepA p a) (hS : RepS p a) : Rep3 (n131 p) fun h n i => (a.X n h).dgc i := by
  intro h n i
  pointwise [n131]
  simp only [r127 hA hS _ _ _, r130 hA hS _ _ _, select_bit, zeroC, ← EReal.coe_mul, ← EReal.coe_add, ← EReal.coe_sub, ← EReal.coe_neg, coe_sum, exp_coe, Fin.sum_univ_one, ite_coe_zero]
  try (refine congrArg _ ?_; rw [Finset.sum_neg_distrib]; unfold RIn.dgc RIn.mcol; ring)
theorem r132 (hA : RepA p a) (hS : RepS p a) : Rep3 (n132 p) fun h n i => (a.X n h).dg i :=
  rcum_rep zero35 (r131 hA hS)
theorem r136 (hA : RepA p a) (hS : RepS p a) : Rep4 (n136 p) fun h n i d => (a.X n h).v i d * (a.X n h).dvb i d := by
  intro h n i d
  pointwise [n136]
  simp only [r101 hA _ _ _ _, r12 hA hS _ _ _ _, select_bit, zeroC, ← EReal.coe_mul, ← EReal.coe_add, ← EReal.coe_sub, ← EReal.coe_neg, coe_sum, exp_coe, Fin.sum_univ_one, ite_coe_zero]
  try rfl
theorem r137 (hA : RepA p a) (hS : RepS p a) : Rep3 (n137 p) fun h n i => ∑ d, (a.X n h).v i d * (a.X n h).dvb i d := by
  intro h n i
  pointwise [n137, n28]
  simp only [r136 hA hS _ _ _ _, select_bit, zeroC, ← EReal.coe_mul, ← EReal.coe_add, ← EReal.coe_sub, ← EReal.coe_neg, coe_sum, exp_coe, Fin.sum_univ_one, ite_coe_zero]
  try rfl
theorem r139 (hA : RepA p a) (hS : RepS p a) : Rep3 (n139 p) fun h n i => ∑ d, (a.X n h).v i d * (a.X n h).dvb i d := by
  intro h n i
  pointwise [n139, n138, n28]
  simp only [r137 hA hS _ _ _, select_bit, zeroC, ← EReal.coe_mul, ← EReal.coe_add, ← EReal.coe_sub, ← EReal.coe_neg, coe_sum, exp_coe, Fin.sum_univ_one, ite_coe_zero]
  try rfl
theorem r140 (hA : RepA p a) (hS : RepS p a) : Rep4 (n140 p) fun h n i d => (a.X n h).dkbg i d * (a.X n h).eg i := by
  intro h n i d
  pointwise [n140]
  simp only [r73 hA hS _ _ _ _, r96 hA _ _ _ _, select_bit, zeroC, ← EReal.coe_mul, ← EReal.coe_add, ← EReal.coe_sub, ← EReal.coe_neg, coe_sum, exp_coe, Fin.sum_univ_one, ite_coe_zero]
  try rfl
theorem r141 (hA : RepA p a) (hS : RepS p a) : Rep4 (n141 p) fun h n i j => (a.X n h).dkk i j := by
  intro h n i j
  pointwise [n141]
  simp only [r108 hA hS _ _ _ _, r120 hA _ _ _ _, select_bit, zeroC, ← EReal.coe_mul, ← EReal.coe_add, ← EReal.coe_sub, ← EReal.coe_neg, coe_sum, exp_coe, Fin.sum_univ_one, ite_coe_zero]
  try rfl
theorem r142 (hA : RepA p a) (hS : RepS p a) : Rep4 (n142 p) fun h n i d => nn (a.X n h).dkk (a.X n h).k i d := by
  intro h n i d
  pointwise [n142]
  simp only [r141 hA hS _ _ _ _, r25 hA _ _ _ _, select_bit, zeroC, ← EReal.coe_mul, ← EReal.coe_add, ← EReal.coe_sub, ← EReal.coe_neg, coe_sum, exp_coe, Fin.sum_univ_one, ite_coe_zero]
  try rfl
theorem r143 (hA : RepA p a) (hS : RepS p a) : Rep4 (n143 p) fun h n i d => (a.X n h).dkb i d := by
  intro h n i d
  pointwise [n143]
  simp only [r140 hA hS _ _ _ _, r142 hA hS _ _ _ _, select_bit, zeroC, ← EReal.coe_mul, ← EReal.coe_add, ← EReal.coe_sub, ← EReal.coe_neg, coe_sum, exp_coe, Fin.sum_univ_one, ite_coe_zero]
  try (exact congrArg _ (add_comm _ _))
theorem r144 (hA : RepA p a) (hS : RepS p a) : Rep4 (n144 p) fun h n i d => (a.X n h).k i d * (a.X n h).dkb i d := by
  intro h n i d
  pointwise [n144]
  simp only [r25 hA _ _ _ _, r143 hA hS _ _ _ _, select_bit, zeroC, ← EReal.coe_mul, ← EReal.coe_add, ← EReal.coe_sub, ← EReal.coe_neg, coe_sum, exp_coe, Fin.sum_univ_one, ite_coe_zero]
  try rfl
theorem r145 (hA : RepA p a) (hS : RepS p a) : Rep3 (n145 p) fun h n i => ∑ d, (a.X n h).k i d * (a.X n h).dkb i d := by
  intro h n i
  pointwise [n145, n28]
  simp only [r144 hA hS _ _ _ _, select_bit, zeroC, ← EReal.coe_mul, ← EReal.coe_add, ← EReal.coe_sub, ← EReal.coe_neg, coe_sum, exp_coe, Fin.sum_univ_one, ite_coe_zero]
  try rfl
theorem r147 (hA : RepA p a) (hS : RepS p a) : Rep3 (n147 p) fun h n i => ∑ d, (a.X n h).k i d * (a.X n h).dkb i d := by
  intro h n i
  pointwise [n147, n146, n28]
  simp only [r145 hA hS _ _ _, select_bit, zeroC, ← EReal.coe_mul, ← EReal.coe_add, ← EReal.coe_sub, ← EReal.coe_neg, coe_sum, exp_coe, Fin.sum_univ_one, ite_coe_zero]
  try rfl
theorem r148 (hA : RepA p a) (hS : RepS p a) : Rep3 (n148 p) fun h n i => (a.X n h).dbe i := by
  intro h n i
  pointwise [n148]
  simp only [r139 hA hS _ _ _, r147 hA hS _ _ _, select_bit, zeroC, ← EReal.coe_mul, ← EReal.coe_add, ← EReal.coe_sub, ← EReal.coe_neg, coe_sum, exp_coe, Fin.sum_univ_one, ite_coe_zero]
  try (refine congrArg _ ((add_comm _ _).trans (congrArg₂ (· + ·) (Finset.sum_congr rfl fun _ _ => mul_comm _ _) (Finset.sum_congr rfl fun _ _ => mul_comm _ _))))
theorem r154 (hA : RepA p a) : Rep4 (n154 p) fun h n i d => (a.X n h).ek i := by
  intro h n i d
  pointwise [n154, n153]
  simp only [r42 hA _ _ _, select_bit, zeroC, ← EReal.coe_mul, ← EReal.coe_add, ← EReal.coe_sub, ← EReal.coe_neg, coe_sum, exp_coe, Fin.sum_univ_one, ite_coe_zero]
  try rfl
theorem r155 (hA : RepA p a) (hS : RepS p a) : Rep4 (n155 p) fun h n i d => (a.X n h).dkd i d * (a.X n h).ek i := by
  intro h n i d
  pointwise [n155]
  simp only [r26 hA hS _ _ _ _, r154 hA _ _ _ _, select_bit, zeroC, ← EReal.coe_mul, ← EReal.coe_add, ← EReal.coe_sub, ← EReal.coe_neg, coe_sum, exp_coe, Fin.sum_univ_one, ite_coe_zero]
  try rfl
theorem r156 (hA : RepA p a) (hS : RepS p a) : Rep4 (n156 p) fun h n i j => (a.X n h).dqm i j := by
  intro h n i j
  pointwise [n156]
  simp only [r90 hA hS _ _ _ _, r120 hA _ _ _ _, select_bit, zeroC, ← EReal.coe_mul, ← EReal.coe_add, ← EReal.coe_sub, ← EReal.coe_neg, coe_sum, exp_coe, Fin.sum_univ_one, ite_coe_zero]
  try rfl
theorem r157 (hA : RepA p a) (hS : RepS p a) : Rep4 (n157 p) fun h n i d => tn (a.X n h).dqm (a.X n h).qs i d := by
  intro h n i d
  pointwise [n157]
  simp only [r156 hA hS _ _ _ _, r61 hA _ _ _ _, select_bit, zeroC, ← EReal.coe_mul, ← EReal.coe_add, ← EReal.coe_sub, ← EReal.coe_neg, coe_sum, exp_coe, Fin.sum_univ_one, ite_coe_zero]
  try rfl
theorem r158 (hA : RepA p a) (hS : RepS p a) : Rep4 (n158 p) fun h n i d => (a.X n h).dkd i d * (a.X n h).ek i + tn (a.X n h).dqm (a.X n h).qs i d := by
  intro h n i d
  pointwise [n158]
  simp only [r155 hA hS _ _ _ _, r157 hA hS _ _ _ _, select_bit, zeroC, ← EReal.coe_mul, ← EReal.coe_add, ← EReal.coe_sub, ← EReal.coe_neg, coe_sum, exp_coe, Fin.sum_univ_one, ite_coe_zero]
  try rfl
theorem r159 (hA : RepA p a) (hS : RepS p a) : Rep4 (n159 p) fun h n i d => tn (a.X n h).dkk (a.X n h).kb i d := by
  intro h n i d
  pointwise [n159]
  simp only [r141 hA hS _ _ _ _, r70 hA _ _ _ _, select_bit, zeroC, ← EReal.coe_mul, ← EReal.coe_add, ← EReal.coe_sub, ← EReal.coe_neg, coe_sum, exp_coe, Fin.sum_univ_one, ite_coe_zero]
  try rfl
theorem r160 (hA : RepA p a) (hS : RepS p a) : Rep4 (n160 p) fun h n i d => (a.X n h).dkd i d * (a.X n h).ek i + tn (a.X n h).dqm (a.X n h).qs i d + tn (a.X n h).dkk (a.X n h).kb i d := by
  intro h n i d
  pointwise [n160]
  simp only [r158 hA hS _ _ _ _, r159 hA hS _ _ _ _, select_bit, zeroC, ← EReal.coe_mul, ← EReal.coe_add, ← EReal.coe_sub, ← EReal.coe_neg, coe_sum, exp_coe, Fin.sum_univ_one, ite_coe_zero]
  try rfl
theorem r161 (hA : RepA p a) (hS : RepS p a) : Rep4 (n161 p) fun h n i d => (a.X n h).dkb i d * (a.X n h).be i := by
  intro h n i d
  pointwise [n161]
  simp only [r143 hA hS _ _ _ _, r17 hA _ _ _ _, select_bit, zeroC, ← EReal.coe_mul, ← EReal.coe_add, ← EReal.coe_sub, ← EReal.coe_neg, coe_sum, exp_coe, Fin.sum_univ_one, ite_coe_zero]
  try rfl
theorem r162 (hA : RepA p a) (hS : RepS p a) : Rep4 (n162 p) fun h n i d => (a.X n h).dk i d := by
  intro h n i d
  pointwise [n162]
  simp only [r160 hA hS _ _ _ _, r161 hA hS _ _ _ _, select_bit, zeroC, ← EReal.coe_mul, ← EReal.coe_add, ← EReal.coe_sub, ← EReal.coe_neg, coe_sum, exp_coe, Fin.sum_univ_one, ite_coe_zero]
  try (refine congrArg _ ?_; unfold RIn.dk; ring)
theorem r167 (hA : RepA p a) (hS : RepS p a) : Rep4 (n167 p) fun h n i d => (a.X n h).dqg i d * (a.X n h).eg i := by
  intro h n i d
  pointwise [n167]
  simp only [r62 hA hS _ _ _ _, r96 hA _ _ _ _, select_bit, zeroC, ← EReal.coe_mul, ← EReal.coe_add, ← EReal.coe_sub, ← EReal.coe_neg, coe_sum, exp_coe, Fin.sum_univ_one, ite_coe_zero]
  try rfl
theorem r168 (hA : RepA p a) (hS : RepS p a) : Rep4 (n168 p) fun h n i d => nn (a.X n h).dqm (a.X n h).k i d := by
  intro h n i d
  pointwise [n168]
  simp only [r156 hA hS _ _ _ _, r25 hA _ _ _ _, select_bit, zeroC, ← EReal.coe_mul, ← EReal.coe_add, ← EReal.coe_sub, ← EReal.coe_neg, coe_sum, exp_coe, Fin.sum_univ_one, ite_coe_zero]
  try rfl
theorem r169 (hA : RepA p a) (hS : RepS p a) : Rep4 (n169 p) fun h n i d => (a.X n h).dqs i d := by
  intro h n i d
  pointwise [n169]
  simp only [r167 hA hS _ _ _ _, r168 hA hS _ _ _ _, select_bit, zeroC, ← EReal.coe_mul, ← EReal.coe_add, ← EReal.coe_sub, ← EReal.coe_neg, coe_sum, exp_coe, Fin.sum_univ_one, ite_coe_zero]
  try (exact congrArg _ (add_comm _ _))
theorem r177 (hA : RepA p a) : Rep4 (n177 p) fun n h i d => (a.X n h).dO i d := by
  intro n h i d
  pointwise [n177, n176]
  exact at2 hA.dO (laneV h d) (by show _ = 128 * h.val + d.val; omega)
theorem r178 (hA : RepA p a) : Rep4 (n178 p) fun h n i d => (a.X n h).u i d := by
  intro h n i d
  pointwise [n178]
  simp only [r10 hA _ _ _ _, r102 hA _ _ _ _, select_bit, zeroC, ← EReal.coe_mul, ← EReal.coe_add, ← EReal.coe_sub, ← EReal.coe_neg, coe_sum, exp_coe, Fin.sum_univ_one, ite_coe_zero]
  try rfl
theorem r179 (hA : RepA p a) : Rep4 (n179 p) fun n h i d => (a.X n h).u i d := by
  intro n h i d
  pointwise [n179]
  simp only [r178 hA _ _ _ _, select_bit, zeroC, ← EReal.coe_mul, ← EReal.coe_add, ← EReal.coe_sub, ← EReal.coe_neg, coe_sum, exp_coe, Fin.sum_univ_one, ite_coe_zero]
  try rfl
theorem r180 (hA : RepA p a) : Rep4 (n180 p) fun h n i d => (a.X n h).w i d := by
  intro h n i d
  pointwise [n180]
  simp only [r10 hA _ _ _ _, r97 hA _ _ _ _, select_bit, zeroC, ← EReal.coe_mul, ← EReal.coe_add, ← EReal.coe_sub, ← EReal.coe_neg, coe_sum, exp_coe, Fin.sum_univ_one, ite_coe_zero]
  try rfl
theorem r181 (hA : RepA p a) : Rep4 (n181 p) fun n h i d => (a.X n h).w i d := by
  intro n h i d
  pointwise [n181]
  simp only [r180 hA _ _ _ _, select_bit, zeroC, ← EReal.coe_mul, ← EReal.coe_add, ← EReal.coe_sub, ← EReal.coe_neg, coe_sum, exp_coe, Fin.sum_univ_one, ite_coe_zero]
  try rfl
theorem r182 (hA : RepA p a) : Rep4 (n182 p) fun h n i j => nt (a.X n h).qs (a.X n h).k i j * (a.X n h).gam i j := by
  intro h n i j
  pointwise [n182]
  simp only [r87 hA _ _ _ _, r120 hA _ _ _ _, select_bit, zeroC, ← EReal.coe_mul, ← EReal.coe_add, ← EReal.coe_sub, ← EReal.coe_neg, coe_sum, exp_coe, Fin.sum_univ_one, ite_coe_zero]
  try rfl
theorem r185 (hA : RepA p a) : Rep4 (n185 p) fun h n i j => (a.X n h).attn i j := by
  intro h n i j
  pointwise [n185, n86, n184, n183, n28]
  simp only [r85 (p := p) _ _, r182 hA _ _ _ _, select_bit, zeroC, ← EReal.coe_mul, ← EReal.coe_add, ← EReal.coe_sub, ← EReal.coe_neg, coe_sum, exp_coe, Fin.sum_univ_one, ite_coe_zero]
  try rfl
theorem r186 (hA : RepA p a) : Rep4 (n186 p) fun n h i j => (a.X n h).attn i j := by
  intro n h i j
  pointwise [n186]
  simp only [r185 hA _ _ _ _, select_bit, zeroC, ← EReal.coe_mul, ← EReal.coe_add, ← EReal.coe_sub, ← EReal.coe_neg, coe_sum, exp_coe, Fin.sum_univ_one, ite_coe_zero]
  try rfl
theorem r187 (hA : RepA p a) : Rep4 (n187 p) fun h n i d => (a.X n h).qg i d := by
  intro h n i d
  pointwise [n187]
  simp only [r61 hA _ _ _ _, r96 hA _ _ _ _, select_bit, zeroC, ← EReal.coe_mul, ← EReal.coe_add, ← EReal.coe_sub, ← EReal.coe_neg, coe_sum, exp_coe, Fin.sum_univ_one, ite_coe_zero]
  try rfl
theorem r188 (hA : RepA p a) : Rep4 (n188 p) fun n h i d => (a.X n h).qg i d := by
  intro n h i d
  pointwise [n188]
  simp only [r187 hA _ _ _ _, select_bit, zeroC, ← EReal.coe_mul, ← EReal.coe_add, ← EReal.coe_sub, ← EReal.coe_neg, coe_sum, exp_coe, Fin.sum_univ_one, ite_coe_zero]
  try rfl
theorem r189 (hA : RepA p a) : Rep4 (n189 p) fun h n i d => (a.X n h).kd i d := by
  intro h n i d
  pointwise [n189]
  simp only [r25 hA _ _ _ _, r154 hA _ _ _ _, select_bit, zeroC, ← EReal.coe_mul, ← EReal.coe_add, ← EReal.coe_sub, ← EReal.coe_neg, coe_sum, exp_coe, Fin.sum_univ_one, ite_coe_zero]
  try rfl
theorem r190 (hA : RepA p a) : Rep4 (n190 p) fun n h i d => (a.X n h).kd i d := by
  intro n h i d
  pointwise [n190]
  simp only [r189 hA _ _ _ _, select_bit, zeroC, ← EReal.coe_mul, ← EReal.coe_add, ← EReal.coe_sub, ← EReal.coe_neg, coe_sum, exp_coe, Fin.sum_univ_one, ite_coe_zero]
  try rfl
theorem r191 (hA : RepA p a) : Rep2 (n191 p) fun n h => (a.X n h).dec := by
  intro n h
  pointwise [n191]
  simp only [r46 hA _ _, select_bit, zeroC, ← EReal.coe_mul, ← EReal.coe_add, ← EReal.coe_sub, ← EReal.coe_neg, coe_sum, exp_coe, Fin.sum_univ_one, ite_coe_zero]
  try rfl

end Cert.Delta.Ref
-- ==== Proof.RefLoop.lean ====
/- The reference's loop: after `k` trips its state holds the gradients of the last `k` chunks. -/
module

public import proofs.«01_k».proof.Proof.Slices
public import proofs.«01_k».proof.Proof.RefRep

@[expose] public section

noncomputable section

namespace Cert.Delta.Ref

open Idealize.ShloMosaic Cert.ReferenceIdeal Cert.ReferenceIdeal.Gen Cert.ReferenceIdeal.Step

/-- The state after `k` trips: what the loop was handed, the gradient of the states the last `k` chunks leave, and the
    gradients of those chunks. -/
structure RepLoop (a : Args) (k : ℕ) (s : State Ideal) : Prop where
  c0 : Rep4 s.main_v97_0 fun n h => (a.X n h).u
  c1 : Rep4 s.main_v97_1 fun n h => (a.X n h).w
  c2 : Rep4 s.main_v97_2 fun n h => (a.X n h).attn
  c3 : Rep4 s.main_v97_3 fun n h => (a.X n h).qg
  c4 : Rep4 s.main_v97_4 fun n h => (a.X n h).kd
  c5 : Rep2 s.main_v97_5 fun n h => (a.X n h).dec
  c6 : Rep4 s.main_v97_6 a.sp
  c7 : Rep4 s.main_v97_7 fun n h => (a.X n h).dO
  d9 : Rep3 s.main_v97_9 (a.S k)
  o10 : ∀ n : Fin 128, 128 - k ≤ n.val → ∀ h i d, s.main_v97_10 (ix4 n h i d) = (((a.X n h).dvn i d : ℝ) : EReal)
  o11 : ∀ n : Fin 128, 128 - k ≤ n.val → ∀ h i d, s.main_v97_11 (ix4 n h i d) = (((a.X n h).dw i d : ℝ) : EReal)
  o12 : ∀ n : Fin 128, 128 - k ≤ n.val → ∀ h i d, s.main_v97_12 (ix4 n h i d) = ((nt (a.X n h).dO (a.X n h).vn i d : ℝ) : EReal)
  o13 : ∀ n : Fin 128, 128 - k ≤ n.val → ∀ h i d, s.main_v97_13 (ix4 n h i d) = (((a.X n h).dqg i d : ℝ) : EReal)
  o14 : ∀ n : Fin 128, 128 - k ≤ n.val → ∀ h i d, s.main_v97_14 (ix4 n h i d) = (((a.X n h).dkd i d : ℝ) : EReal)
  o15 : ∀ n : Fin 128, 128 - k ≤ n.val → ∀ h, s.main_v97_15 (ix2 n h) = (((a.X n h).ddec : ℝ) : EReal)

variable {s : State Ideal} {a : Args} {k : ℕ}

theorem rs9 (hs : RepLoop a k s) (hk : k < 128) : Rep3 (s.main_v97_9) fun h i d => (a.X (chunk k) h).dS i d := by
  intro h i d
  show _ = (((a.X (chunk k) h).dS i d : ℝ) : EReal)
  rw [a.X_chunk k hk h]; exact hs.d9 h i d
theorem rb8 (hs : RepLoop a k s) (hk : k < 128) : Rep3 (b8 k s) fun h i d => (a.X (chunk k) h).u i d := by
  intro h i d
  pointwise [b8]
  exact (slice4 _ _ _ (chunk k) (b3_val k hk _) rfl rfl rfl _ _ _ _).trans (hs.c0 _ _ _ _)
theorem rb13 (hs : RepLoop a k s) (hk : k < 128) : Rep3 (b13 k s) fun h i d => (a.X (chunk k) h).w i d := by
  intro h i d
  pointwise [b13]
  exact (slice4 _ _ _ (chunk k) (b3_val k hk _) rfl rfl rfl _ _ _ _).trans (hs.c1 _ _ _ _)
theorem rb18 (hs : RepLoop a k s) (hk : k < 128) : Rep3 (b18 k s) fun h i j => (a.X (chunk k) h).attn i j := by
  intro h i j
  pointwise [b18]
  exact (slice4 _ _ _ (chunk k) (b3_val k hk _) rfl rfl rfl _ _ _ _).trans (hs.c2 _ _ _ _)
theorem rb23 (hs : RepLoop a k s) (hk : k < 128) : Rep3 (b23 k s) fun h i d => (a.X (chunk k) h).qg i d := by
  intro h i d
  pointwise [b23]
  exact (slice4 _ _ _ (chunk k) (b3_val k hk _) rfl rfl rfl _ _ _ _).trans (hs.c3 _ _ _ _)
theorem rb28 (hs : RepLoop a k s) (hk : k < 128) : Rep3 (b28 k s) fun h i d => (a.X (chunk k) h).kd i d := by
  intro h i d
  pointwise [b28]
  exact (slice4 _ _ _ (chunk k) (b3_val k hk _) rfl rfl rfl _ _ _ _).trans (hs.c4 _ _ _ _)
theorem rb31 (hs : RepLoop a k s) (hk : k < 128) : Rep1 (b31 k s) fun h => (a.X (chunk k) h).dec := by
  intro h
  pointwise [b31]
  exact (slice2 _ _ _ (chunk k) (b3_val k hk _) rfl _ _).trans (hs.c5 _ _)
theorem rb36 (hs : RepLoop a k s) (hk : k < 128) : Rep3 (b36 k s) fun h i d => (a.X (chunk k) h).s0 i d := by
  intro h i d
  pointwise [b36]
  exact (slice4 _ _ _ (chunk k) (b3_val k hk _) rfl rfl rfl _ _ _ _).trans (hs.c6 _ _ _ _)
theorem rb41 (hs : RepLoop a k s) (hk : k < 128) : Rep3 (b41 k s) fun h i d => (a.X (chunk k) h).dO i d := by
  intro h i d
  pointwise [b41]
  exact (slice4 _ _ _ (chunk k) (b3_val k hk _) rfl rfl rfl _ _ _ _).trans (hs.c7 _ _ _ _)
theorem rb43 (hs : RepLoop a k s) (hk : k < 128) : Rep3 (b43 k s) fun h i d => (a.X (chunk k) h).vn i d := by
  intro h i d
  pointwise [b43, b42]
  simp only [rb8 hs hk _ _ _, rb13 hs hk _ _ _, rb36 hs hk _ _ _, ← EReal.coe_mul, ← EReal.coe_add, ← EReal.coe_sub, ← EReal.coe_neg, coe_sum, Fin.sum_univ_one]
  try rfl
theorem rb53 (hs : RepLoop a k s) (hk : k < 128) : Rep3 (b53 k s) fun h i d => nn (a.X (chunk k) h).kd (a.X (chunk k) h).dS i d := by
  intro h i d
  pointwise [b53, b52]
  simp only [rs9 hs hk _ _ _, rb28 hs hk _ _ _, ← EReal.coe_mul, ← EReal.coe_add, ← EReal.coe_sub, ← EReal.coe_neg, coe_sum, Fin.sum_univ_one]
  try (refine congrArg _ (Finset.sum_congr rfl fun _ _ => mul_comm _ _))
theorem rb55 (hs : RepLoop a k s) (hk : k < 128) : Rep3 (b55 k s) fun h i d => (a.X (chunk k) h).dkd i d := by
  intro h i d
  pointwise [b55, b54]
  simp only [rs9 hs hk _ _ _, rb43 hs hk _ _ _, ← EReal.coe_mul, ← EReal.coe_add, ← EReal.coe_sub, ← EReal.coe_neg, coe_sum, Fin.sum_univ_one]
  try (refine congrArg _ (Finset.sum_congr rfl fun _ _ => mul_comm _ _))
theorem rb56 (hs : RepLoop a k s) (hk : k < 128) : Rep3 (b56 k s) fun h i d => (a.X (chunk k) h).s0 i d * (a.X (chunk k) h).dS i d := by
  intro h i d
  pointwise [b56]
  simp only [rb36 hs hk _ _ _, rs9 hs hk _ _ _, ← EReal.coe_mul, ← EReal.coe_add, ← EReal.coe_sub, ← EReal.coe_neg, coe_sum, Fin.sum_univ_one]
  try rfl
theorem rb58 (hs : RepLoop a k s) (hk : k < 128) : Rep1 (b58 k s) fun h => (a.X (chunk k) h).ddec := by
  intro h
  pointwise [b58, b57]
  simp only [rb56 hs hk _ _ _, ← EReal.coe_mul, ← EReal.coe_add, ← EReal.coe_sub, ← EReal.coe_neg, coe_sum, Fin.sum_univ_one]
  try rfl
theorem rb61 (hs : RepLoop a k s) (hk : k < 128) : Rep3 (b61 k s) fun h i d => (a.X (chunk k) h).dS i d * (a.X (chunk k) h).dec := by
  intro h i d
  pointwise [b61, b60, b47]
  simp only [rs9 hs hk _ _ _, rb31 hs hk _, ← EReal.coe_mul, ← EReal.coe_add, ← EReal.coe_sub, ← EReal.coe_neg, coe_sum, Fin.sum_univ_one]
  try rfl
theorem rb63 (hs : RepLoop a k s) (hk : k < 128) : Rep1 (b63 k s) fun h => (a.X (chunk k) h).ddec := by
  intro h
  pointwise [b63, b59, b62]
  simp only [rb58 hs hk _, ← EReal.coe_mul, ← EReal.coe_add, ← EReal.coe_sub, ← EReal.coe_neg, coe_sum, Fin.sum_univ_one]
  try rfl
theorem rb65 (hs : RepLoop a k s) (hk : k < 128) : Rep3 (b65 k s) fun h i d => tn (a.X (chunk k) h).attn (a.X (chunk k) h).dO i d := by
  intro h i d
  pointwise [b65, b64]
  simp only [rb41 hs hk _ _ _, rb18 hs hk _ _ _, ← EReal.coe_mul, ← EReal.coe_add, ← EReal.coe_sub, ← EReal.coe_neg, coe_sum, Fin.sum_univ_one]
  try (refine congrArg _ (Finset.sum_congr rfl fun _ _ => mul_comm _ _))
theorem rb66 (hs : RepLoop a k s) (hk : k < 128) : Rep3 (b66 k s) fun h i d => (a.X (chunk k) h).dvn i d := by
  intro h i d
  pointwise [b66]
  simp only [rb53 hs hk _ _ _, rb65 hs hk _ _ _, ← EReal.coe_mul, ← EReal.coe_add, ← EReal.coe_sub, ← EReal.coe_neg, coe_sum, Fin.sum_univ_one]
  try (exact congrArg _ (add_comm _ _))
theorem rb67 (hs : RepLoop a k s) (hk : k < 128) : Rep3 (b67 k s) fun h i j => nt (a.X (chunk k) h).dO (a.X (chunk k) h).vn i j := by
  intro h i j
  pointwise [b67]
  simp only [rb41 hs hk _ _ _, rb43 hs hk _ _ _, ← EReal.coe_mul, ← EReal.coe_add, ← EReal.coe_sub, ← EReal.coe_neg, coe_sum, Fin.sum_univ_one]
  try rfl
theorem rb69 (hs : RepLoop a k s) (hk : k < 128) : Rep3 (b69 k s) fun h i d => tn (a.X (chunk k) h).qg (a.X (chunk k) h).dO i d := by
  intro h i d
  pointwise [b69, b68]
  simp only [rb41 hs hk _ _ _, rb23 hs hk _ _ _, ← EReal.coe_mul, ← EReal.coe_add, ← EReal.coe_sub, ← EReal.coe_neg, coe_sum, Fin.sum_univ_one]
  try (refine congrArg _ (Finset.sum_congr rfl fun _ _ => mul_comm _ _))
theorem rb70 (hs : RepLoop a k s) (hk : k < 128) : Rep3 (b70 k s) fun h i d => (a.X (chunk k) h).dS i d * (a.X (chunk k) h).dec + tn (a.X (chunk k) h).qg (a.X (chunk k) h).dO i d := by
  intro h i d
  pointwise [b70]
  simp only [rb61 hs hk _ _ _, rb69 hs hk _ _ _, ← EReal.coe_mul, ← EReal.coe_add, ← EReal.coe_sub, ← EReal.coe_neg, coe_sum, Fin.sum_univ_one]
  try rfl
theorem rb71 (hs : RepLoop a k s) (hk : k < 128) : Rep3 (b71 k s) fun h i d => (a.X (chunk k) h).dqg i d := by
  intro h i d
  pointwise [b71]
  simp only [rb41 hs hk _ _ _, rb36 hs hk _ _ _, ← EReal.coe_mul, ← EReal.coe_add, ← EReal.coe_sub, ← EReal.coe_neg, coe_sum, Fin.sum_univ_one]
  try rfl
theorem rb72 (hs : RepLoop a k s) (hk : k < 128) : Rep3 (b72 k s) fun h i d => -(a.X (chunk k) h).dvn i d := by
  intro h i d
  pointwise [b72]
  simp only [rb66 hs hk _ _ _, ← EReal.coe_mul, ← EReal.coe_add, ← EReal.coe_sub, ← EReal.coe_neg, coe_sum, Fin.sum_univ_one]
  try rfl
theorem rb74 (hs : RepLoop a k s) (hk : k < 128) : Rep3 (b74 k s) fun h i d => - tn (a.X (chunk k) h).w (a.X (chunk k) h).dvn i d := by
  intro h i d
  pointwise [b74, b73]
  simp only [rb72 hs hk _ _ _, rb13 hs hk _ _ _, ← EReal.coe_mul, ← EReal.coe_add, ← EReal.coe_sub, ← EReal.coe_neg, coe_sum, Fin.sum_univ_one]
  try (refine congrArg _ ?_; unfold tn; rw [← Finset.sum_neg_distrib]; exact Finset.sum_congr rfl fun _ _ => by ring)
theorem rb75 (hs : RepLoop a k s) (hk : k < 128) : Rep3 (b75 k s) fun h i d => (a.X (chunk k) h).dSn i d := by
  intro h i d
  pointwise [b75]
  simp only [rb70 hs hk _ _ _, rb74 hs hk _ _ _, ← EReal.coe_mul, ← EReal.coe_add, ← EReal.coe_sub, ← EReal.coe_neg, coe_sum, Fin.sum_univ_one]
  try (refine congrArg _ ?_; unfold RIn.dSn; ring)
theorem rb76 (hs : RepLoop a k s) (hk : k < 128) : Rep3 (b76 k s) fun h i d => (a.X (chunk k) h).dw i d := by
  intro h i d
  pointwise [b76]
  simp only [rb72 hs hk _ _ _, rb36 hs hk _ _ _, ← EReal.coe_mul, ← EReal.coe_add, ← EReal.coe_sub, ← EReal.coe_neg, coe_sum, Fin.sum_univ_one]
  try (refine congrArg _ ?_; unfold RIn.dw nt; rw [zero_sub, ← Finset.sum_neg_distrib]; exact Finset.sum_congr rfl fun _ _ => by ring)
theorem rb81 (hs : RepLoop a k s) (hk : k < 128) (n : Fin 128) (hn : 128 - (k + 1) ≤ n.val) (h : Fin 8) (i : Fin 64) (d : Fin 128) :
    b81 k s (ix4 n h i d) = (((a.X n h).dvn i d : ℝ) : EReal) := by
  refine (update4 _ _ _ _ (chunk k) (b3_val k hk _) rfl rfl rfl n h i d).trans ?_
  by_cases e : n = chunk k
  · subst e
    rw [if_pos rfl]
    pointwise [b77]
    exact rb66 hs hk _ _ _
  · rw [if_neg e]
    exact hs.o10 n (by have : n.val ≠ 127 - k := fun c => e (Fin.ext c); omega) h i d
theorem rb86 (hs : RepLoop a k s) (hk : k < 128) (n : Fin 128) (hn : 128 - (k + 1) ≤ n.val) (h : Fin 8) (i : Fin 64) (d : Fin 128) :
    b86 k s (ix4 n h i d) = (((a.X n h).dw i d : ℝ) : EReal) := by
  refine (update4 _ _ _ _ (chunk k) (b3_val k hk _) rfl rfl rfl n h i d).trans ?_
  by_cases e : n = chunk k
  · subst e
    rw [if_pos rfl]
    pointwise [b82]
    exact rb76 hs hk _ _ _
  · rw [if_neg e]
    exact hs.o11 n (by have : n.val ≠ 127 - k := fun c => e (Fin.ext c); omega) h i d
theorem rb91 (hs : RepLoop a k s) (hk : k < 128) (n : Fin 128) (hn : 128 - (k + 1) ≤ n.val) (h : Fin 8) (i : Fin 64) (d : Fin 64) :
    b91 k s (ix4 n h i d) = ((nt (a.X n h).dO (a.X n h).vn i d : ℝ) : EReal) := by
  refine (update4 _ _ _ _ (chunk k) (b3_val k hk _) rfl rfl rfl n h i d).trans ?_
  by_cases e : n = chunk k
  · subst e
    rw [if_pos rfl]
    pointwise [b87]
    exact rb67 hs hk _ _ _
  · rw [if_neg e]
    exact hs.o12 n (by have : n.val ≠ 127 - k := fun c => e (Fin.ext c); omega) h i d
theorem rb96 (hs : RepLoop a k s) (hk : k < 128) (n : Fin 128) (hn : 128 - (k + 1) ≤ n.val) (h : Fin 8) (i : Fin 64) (d : Fin 128) :
    b96 k s (ix4 n h i d) = (((a.X n h).dqg i d : ℝ) : EReal) := by
  refine (update4 _ _ _ _ (chunk k) (b3_val k hk _) rfl rfl rfl n h i d).trans ?_
  by_cases e : n = chunk k
  · subst e
    rw [if_pos rfl]
    pointwise [b92]
    exact rb71 hs hk _ _ _
  · rw [if_neg e]
    exact hs.o13 n (by have : n.val ≠ 127 - k := fun c => e (Fin.ext c); omega) h i d
theorem rb101 (hs : RepLoop a k s) (hk : k < 128) (n : Fin 128) (hn : 128 - (k + 1) ≤ n.val) (h : Fin 8) (i : Fin 64) (d : Fin 128) :
    b101 k s (ix4 n h i d) = (((a.X n h).dkd i d : ℝ) : EReal) := by
  refine (update4 _ _ _ _ (chunk k) (b3_val k hk _) rfl rfl rfl n h i d).trans ?_
  by_cases e : n = chunk k
  · subst e
    rw [if_pos rfl]
    pointwise [b97]
    exact rb55 hs hk _ _ _
  · rw [if_neg e]
    exact hs.o14 n (by have : n.val ≠ 127 - k := fun c => e (Fin.ext c); omega) h i d
theorem rb104 (hs : RepLoop a k s) (hk : k < 128) (n : Fin 128) (hn : 128 - (k + 1) ≤ n.val) (h : Fin 8) :
    b104 k s (ix2 n h) = (((a.X n h).ddec : ℝ) : EReal) := by
  refine (update2 _ _ _ _ (chunk k) (b3_val k hk _) rfl n h).trans ?_
  by_cases e : n = chunk k
  · subst e
    rw [if_pos rfl]
    pointwise [b102]
    exact rb63 hs hk _
  · rw [if_neg e]
    exact hs.o15 n (by have : n.val ≠ 127 - k := fun c => e (Fin.ext c); omega) h

/-- One trip takes one chunk more. -/
theorem loop_step (hs : RepLoop a k s) (hk : k < 128) : RepLoop a (k + 1) (step k s) where
  c0 := hs.c0
  c1 := hs.c1
  c2 := hs.c2
  c3 := hs.c3
  c4 := hs.c4
  c5 := hs.c5
  c6 := hs.c6
  c7 := hs.c7
  d9 := by rw [step_main_v97_9, a.S_succ k hk]; exact rb75 hs hk
  o10 := by rw [step_main_v97_10]; exact rb81 hs hk
  o11 := by rw [step_main_v97_11]; exact rb86 hs hk
  o12 := by rw [step_main_v97_12]; exact rb91 hs hk
  o13 := by rw [step_main_v97_13]; exact rb96 hs hk
  o14 := by rw [step_main_v97_14]; exact rb101 hs hk
  o15 := by rw [step_main_v97_15]; exact rb104 hs hk

/-- Every trip of the loop, from a state that holds no chunk yet. -/
theorem loop_all (it : ℕ → State Ideal) (h0 : RepLoop a 0 (it 0)) (hs : ∀ n, it (n + 1) = step n (it n)) :
    ∀ k, k ≤ 128 → RepLoop a k (it k)
  | 0, _ => h0
  | k + 1, h => by rw [hs k]; exact loop_step (loop_all it h0 hs k (by omega)) (by omega)

/-- The state the loop leaves holds every chunk's gradients. -/
theorem loop_end {p : In} (h : RepLoop a 128 p.s) : RepS p a where
  du n := h.o10 n (by omega)
  dw n := h.o11 n (by omega)
  dattn n := h.o12 n (by omega)
  dqg n := h.o13 n (by omega)
  dkd n := h.o14 n (by omega)
  ddec n := h.o15 n (by omega)

end Cert.Delta.Ref
-- ==== Proof.RefValue.lean ====
/- What the reference's three results hold, entry by entry, over arguments that hold real numbers. -/
module

public import proofs.«01_k».proof.Proof.RefLoop

@[expose] public section

noncomputable section

namespace Cert.Delta.Ref

open Idealize.ShloMosaic Cert.ReferenceIdeal Cert.ReferenceIdeal.Gen Cert.ReferenceIdeal.Step

variable {p : In} {a : Args}

theorem at3 {A B C : ℕ} {v : (⟨3, ![A, B, C]⟩ : Shape).Idx → EReal} {f : Fin A → Fin B → Fin C → ℝ} (h : Rep3 v f) {x y z : ℕ}
    {hx : x < A} {hy : y < B} {hz : z < C} (i : Fin A) (j : Fin B) (k : Fin C) (ex : x = i.val) (ey : y = j.val) (ez : z = k.val) :
    v (ix3 ⟨x, hx⟩ ⟨y, hy⟩ ⟨z, hz⟩) = ((f i j k : ℝ) : EReal) := by
  subst ex ey ez; exact h i j k
theorem at4 {A B C D : ℕ} {v : (⟨4, ![A, B, C, D]⟩ : Shape).Idx → EReal} {f : Fin A → Fin B → Fin C → Fin D → ℝ} (h : Rep4 v f)
    {x y z w : ℕ} {hx : x < A} {hy : y < B} {hz : z < C} {hw : w < D} (i : Fin A) (j : Fin B) (k : Fin C) (l : Fin D)
    (ex : x = i.val) (ey : y = j.val) (ez : z = k.val) (ew : w = l.val) :
    v (ix4 ⟨x, hx⟩ ⟨y, hy⟩ ⟨z, hz⟩ ⟨w, hw⟩) = ((f i j k l : ℝ) : EReal) := by
  subst ex ey ez ew; exact h i j k l

/-- The gradient of the values. -/
theorem ref_dv (hA : RepA p a) (hS : RepS p a) (n : Fin 128) (q : Fin 64) (h : Fin 8) (d : Fin 128) :
    n21 p (ix2 (rowAt n q) (laneV h d)) = (((a.X n h).dv q d : ℝ) : EReal) := by
  have hr : (rowAt n q).val = n.val * 64 + q.val := rfl
  have hl : (laneV h d).val = 128 * h.val + d.val := rfl
  pointwise [n21, n20, n19]
  exact at4 (r18 hA hS) h n q d (by omega) (by omega) (by omega) (by omega)

/-- The queries' part of the first result. -/
theorem r173 (hA : RepA p a) (hS : RepS p a) (n : Fin 128) (q : Fin 64) (l : Fin 1024) (h : Fin 8) (d : Fin 128)
    (hl : l.val = 128 * h.val + d.val) : n173 p (ix2 (rowAt n q) l) = (((a.X n h).dq q d : ℝ) : EReal) := by
  have hr : (rowAt n q).val = n.val * 64 + q.val := rfl
  pointwise [n173, n172, n171, n170, n58, n57]
  rw [at4 (r169 hA hS) h n q d (by show l.val / 128 = _; omega) (by show (rowAt n q).val / 64 = _; omega) (by show (rowAt n q).val % 64 = _; omega) (by show l.val % 128 = _; omega), sg_coe,
    ← EReal.coe_mul]
  rfl

/-- The keys' part of the first result. -/
theorem r165 (hA : RepA p a) (hS : RepS p a) (n : Fin 128) (q : Fin 64) (l : Fin 1024) (h : Fin 8) (d : Fin 128)
    (hl : l.val = 128 * h.val + d.val) : n165 p (ix2 (rowAt n q) l) = (((a.X n h).dk q d : ℝ) : EReal) := by
  have hr : (rowAt n q).val = n.val * 64 + q.val := rfl
  pointwise [n165, n164, n163]
  exact at4 (r162 hA hS) h n q d (by show l.val / 128 = _; omega) (by show (rowAt n q).val / 64 = _; omega) (by show (rowAt n q).val % 64 = _; omega) (by show l.val % 128 = _; omega)

/-- The gradient of the queries. -/
theorem ref_dq (hA : RepA p a) (hS : RepS p a) (n : Fin 128) (q : Fin 64) (h : Fin 8) (d : Fin 128) :
    n175 p (ix2 (rowAt n q) (laneQ h d)) = (((a.X n h).dq q d : ℝ) : EReal) := by
  have hl : (laneQ h d).val = 128 * h.val + d.val := rfl
  pointwise [n175, n166, n174, n28]
  rw [dif_neg (by omega), dif_pos (by omega), r173 hA hS n q _ h d hl]
  exact zero_add _

/-- The gradient of the keys. -/
theorem ref_dk (hA : RepA p a) (hS : RepS p a) (n : Fin 128) (q : Fin 64) (h : Fin 8) (d : Fin 128) :
    n175 p (ix2 (rowAt n q) (laneK h d)) = (((a.X n h).dk q d : ℝ) : EReal) := by
  have hl : (laneK h d).val = 1024 + 128 * h.val + d.val := rfl
  pointwise [n175, n166, n174, n28]
  rw [dif_pos (by omega), dif_neg (by omega), r165 hA hS n q _ h d (by show _ - _ = _; omega)]
  exact add_zero _

/-- The decays' lanes of the last result. -/
theorem r134 (hA : RepA p a) (hS : RepS p a) (n : Fin 128) (q : Fin 64) (h : Fin 8) :
    n134 p (ix2 (rowAt n q) h) = (((a.X n h).dg q : ℝ) : EReal) := by
  have hr : (rowAt n q).val = n.val * 64 + q.val := rfl
  pointwise [n134, n133]
  exact at3 (r132 hA hS) h n q rfl (by show (rowAt n q).val / 64 = _; omega) (by show (rowAt n q).val % 64 = _; omega)

/-- The gates' lanes of the last result. -/
theorem r150 (hA : RepA p a) (hS : RepS p a) (n : Fin 128) (q : Fin 64) (h : Fin 8) :
    n150 p (ix2 (rowAt n q) h) = (((a.X n h).dbe q : ℝ) : EReal) := by
  have hr : (rowAt n q).val = n.val * 64 + q.val := rfl
  pointwise [n150, n149]
  exact at3 (r148 hA hS) h n q rfl (by show (rowAt n q).val / 64 = _; omega) (by show (rowAt n q).val % 64 = _; omega)

/-- The gradients of the gates and of the decays. -/
theorem ref_dg (hA : RepA p a) (hS : RepS p a) (n : Fin 128) (q : Fin 64) (l : Fin 128) :
    n152 p (ix2 (rowAt n q) l) = gatesR (fun h => a.X n h) q l := by
  unfold gatesR
  pointwise [n152, n135, n151, n28]
  by_cases h0 : l.val < 8
  · rw [dif_neg (by omega), dif_pos h0, dif_pos h0, r150 hA hS n q _]
    exact zero_add _
  · by_cases h1 : l.val < 16
    · rw [dif_pos (by omega), dif_neg h0, dif_neg h0, dif_pos h1, r134 hA hS n q _]
      exact add_zero _
    · rw [dif_neg (by omega), dif_neg h0, dif_neg h0, dif_neg h1]
      exact add_zero _

theorem K2 (i : S8x128x128.Idx) : K_main_v2 (F := Ideal) i = ((0 : ℝ) : EReal) := by
  show Ideal.ofBits .f32 0x00000000#32 = _
  simp [Ideal.ofBits, Ideal.ieee]

/-- The arguments beside a state of the loop. -/
abbrev inOf (s : State Ideal) (x0 : FVec Ideal S8192x2048 .f32) (x1 : FVec Ideal S8192x1024 .f32) (x2 : FVec Ideal S8192x128 .f32)
    (x4 : FVec Ideal S128x8x64x64 .f32) (x5 : FVec Ideal S8192x1024 .f32) : In := ⟨s, x0, x1, x2, x4, x5⟩

section
variable {x0 : FVec Ideal S8192x2048 .f32} {x1 : FVec Ideal S8192x1024 .f32} {x2 : FVec Ideal S8192x128 .f32}
  {x3 : FVec Ideal S128x8x128x128 .f32} {x4 : FVec Ideal S128x8x64x64 .f32} {x5 : FVec Ideal S8192x1024 .f32}

theorem repA_of (s : State Ideal) (ha : RepArgs a x0 x1 x2 x3 x4 x5) : RepA (inOf s x0 x1 x2 x4 x5) a :=
  ⟨ha.qk, ha.v, ha.gb, ha.T, ha.dO⟩

theorem init_0 (s : State Ideal) : (init (F := Ideal) x3 x0 x1 x2 x4 x5).main_v97_0 = n179 (inOf s x0 x1 x2 x4 x5) := by
  unfold init
  exact A85 (inOf s x0 x1 x2 x4 x5)
theorem init_1 (s : State Ideal) : (init (F := Ideal) x3 x0 x1 x2 x4 x5).main_v97_1 = n181 (inOf s x0 x1 x2 x4 x5) := by
  unfold init
  exact A86 (inOf s x0 x1 x2 x4 x5)
theorem init_2 (s : State Ideal) : (init (F := Ideal) x3 x0 x1 x2 x4 x5).main_v97_2 = n186 (inOf s x0 x1 x2 x4 x5) := by
  unfold init
  exact A87 (inOf s x0 x1 x2 x4 x5)
theorem init_3 (s : State Ideal) : (init (F := Ideal) x3 x0 x1 x2 x4 x5).main_v97_3 = n188 (inOf s x0 x1 x2 x4 x5) := by
  unfold init
  exact A88 (inOf s x0 x1 x2 x4 x5)
theorem init_4 (s : State Ideal) : (init (F := Ideal) x3 x0 x1 x2 x4 x5).main_v97_4 = n190 (inOf s x0 x1 x2 x4 x5) := by
  unfold init
  exact A89 (inOf s x0 x1 x2 x4 x5)
theorem init_5 (s : State Ideal) : (init (F := Ideal) x3 x0 x1 x2 x4 x5).main_v97_5 = n191 (inOf s x0 x1 x2 x4 x5) := by
  unfold init
  exact A90 (inOf s x0 x1 x2 x4 x5)
theorem init_7 (s : State Ideal) : (init (F := Ideal) x3 x0 x1 x2 x4 x5).main_v97_7 = n177 (inOf s x0 x1 x2 x4 x5) := by
  unfold init
  exact A1 (inOf s x0 x1 x2 x4 x5)
theorem init_6 : (init (F := Ideal) x3 x0 x1 x2 x4 x5).main_v97_6 = x3 := by unfold init; rfl
theorem init_9 : (init (F := Ideal) x3 x0 x1 x2 x4 x5).main_v97_9 = K_main_v2 (F := Ideal) := by unfold init; rfl

/-- What the operations before the loop hand it. -/
theorem loop_start (ha : RepArgs a x0 x1 x2 x3 x4 x5) : RepLoop a 0 (init (F := Ideal) x3 x0 x1 x2 x4 x5) where
  c0 := by rw [init_0 (init (F := Ideal) x3 x0 x1 x2 x4 x5)]; exact r179 (repA_of _ ha)
  c1 := by rw [init_1 (init (F := Ideal) x3 x0 x1 x2 x4 x5)]; exact r181 (repA_of _ ha)
  c2 := by rw [init_2 (init (F := Ideal) x3 x0 x1 x2 x4 x5)]; exact r186 (repA_of _ ha)
  c3 := by rw [init_3 (init (F := Ideal) x3 x0 x1 x2 x4 x5)]; exact r188 (repA_of _ ha)
  c4 := by rw [init_4 (init (F := Ideal) x3 x0 x1 x2 x4 x5)]; exact r190 (repA_of _ ha)
  c5 := by rw [init_5 (init (F := Ideal) x3 x0 x1 x2 x4 x5)]; exact r191 (repA_of _ ha)
  c7 := by rw [init_7 (init (F := Ideal) x3 x0 x1 x2 x4 x5)]; exact r177 (repA_of _ ha)
  c6 := by rw [init_6]; exact ha.sp
  d9 := by rw [init_9]; exact fun _ _ _ => K2 _
  o10 n hn := absurd n.isLt (by omega)
  o11 n hn := absurd n.isLt (by omega)
  o12 n hn := absurd n.isLt (by omega)
  o13 n hn := absurd n.isLt (by omega)
  o14 n hn := absurd n.isLt (by omega)
  o15 n hn := absurd n.isLt (by omega)

end

end Cert.Delta.Ref
-- ==== Proof.Finite.lean ====
/- The precondition: where it holds, every entry of every argument is a real number. -/
module

public import proofs.«01_k».proof.Pre_finite
public import proofs.«01_k».proof.Proof.Args
public import Idealize.ShloMosaic.Lib.ReduceAll

@[expose] public section

noncomputable section

namespace Cert.Delta

open Idealize.ShloMosaic

/-- The predicate's side conditions. -/
theorem preFacts : Cert.Pre_finite.Facts where
  bcast_S_S8192x2048 := by decide
  reducesTo_S8192x2048_S_d0_1 := by decide
  h_S_ := by decide
  bcast_S_S8192x1024 := by decide
  reducesTo_S8192x1024_S_d0_1 := by decide
  bcast_S_S8192x128 := by decide
  reducesTo_S8192x128_S_d0_1 := by decide
  bcast_S_S128x8x128x128 := by decide
  reducesTo_S128x8x128x128_S_d0_1_2_3 := by decide
  bcast_S_S128x8x64x64 := by decide
  reducesTo_S128x8x64x64_S_d0_1_2_3 := by decide

/-- What is less than infinity in absolute value is a real number. -/
theorem real_of_abs_lt {x : EReal} (h : max x (-x) < ⊤) : ∃ r : ℝ, x = (r : EReal) := by
  induction x using EReal.rec with
  | bot => exact absurd h (by simp)
  | top => exact absurd h (by simp)
  | coe r => exact ⟨r, rfl⟩

/-- An array all of whose entries are less than infinity in absolute value holds real numbers. -/
theorem real_of_all {s : Shape} {axes : List (Fin s.rank)} (x : FVec Ideal s .f32) (y : FVec Ideal s .f32) (hy : ∀ i, y i = ⊤)
    (v : IVec ⟨0, ![]⟩ 1) (h : s.ReducesTo axes ⟨0, ![]⟩) (hu : 0 < (⟨0, ![]⟩ : Shape).numel)
    (e : Host.reduce IntOp.andi (cmpf .olt (Host.absf x) y) v h hu ix0 = 1#1) : ∃ f : s.Idx → ℝ, ∀ i, x i = ((f i : ℝ) : EReal) := by
  have hx : ∀ i, ∃ r : ℝ, x i = (r : EReal) := by
    intro i
    have hi := Host.reduce_andi_all _ _ h hu ix0 e i
    have hi : Ideal.cmp .olt (max (x i) (-(x i))) (y i) = 1#1 := hi
    rw [hy i] at hi
    refine real_of_abs_lt ?_
    by_contra hn
    rw [Ideal.cmp] at hi
    simp [hn] at hi
  exact ⟨fun i => (hx i).choose, fun i => (hx i).choose_spec⟩

theorem top_bits : Ideal.ofBits .f32 0x7F800000#32 = (⊤ : EReal) := by simp [Ideal.ofBits, Ideal.ieee]

/-- Under the precondition the arguments hold real numbers. -/
theorem args_of_finite {x0 : FVec Ideal Cert.KernelIdeal.S8192x2048 .f32} {x1 : FVec Ideal Cert.KernelIdeal.S8192x1024 .f32}
    {x2 : FVec Ideal Cert.KernelIdeal.S8192x128 .f32} {x3 : FVec Ideal Cert.KernelIdeal.S128x8x128x128 .f32}
    {x4 : FVec Ideal Cert.KernelIdeal.S128x8x64x64 .f32} {x5 : FVec Ideal Cert.KernelIdeal.S8192x1024 .f32}
    (h : @Cert.Pre_finite.fn preFacts Ideal _ x0 x1 x2 x3 x4 x5 = fun _ => 1#1) : ∃ a : Args, RepArgs a x0 x1 x2 x3 x4 x5 := by
  have e := congrFun h ix0
  unfold Cert.Pre_finite.fn Cert.Pre_finite.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e, e0⟩ := IntOp.andi_eq_one.1 e
  obtain ⟨f0, h0⟩ := real_of_all _ _ (fun _ => top_bits) _ _ _ e0
  obtain ⟨f1, h1⟩ := real_of_all _ _ (fun _ => top_bits) _ _ _ e1
  obtain ⟨f2, h2⟩ := real_of_all _ _ (fun _ => top_bits) _ _ _ e2
  obtain ⟨f3, h3⟩ := real_of_all _ _ (fun _ => top_bits) _ _ _ e3
  obtain ⟨f4, h4⟩ := real_of_all _ _ (fun _ => top_bits) _ _ _ e4
  obtain ⟨f5, h5⟩ := real_of_all _ _ (fun _ => top_bits) _ _ _ e5
  exact ⟨⟨fun i j => f0 (ix2 i j), fun i j => f1 (ix2 i j), fun i j => f2 (ix2 i j), fun i j k l => f3 (ix4 i j k l),
    fun i j k l => f4 (ix4 i j k l), fun i j => f5 (ix2 i j)⟩,
    ⟨fun _ _ => h0 _, fun _ _ => h1 _, fun _ _ => h2 _, fun _ _ _ _ => h3 _, fun _ _ _ _ => h4 _, fun _ _ => h5 _⟩⟩

end Cert.Delta
-- ==== Proof.Final.lean ====
/- The kernel's three results and the reference's are the same arrays, over arguments that hold real numbers. -/
module

public import proofs.«01_k».proof.Proof.KernelValue
public import proofs.«01_k».proof.Proof.RefValue
public import proofs.«01_k».proof.Proof.RefRun
public import proofs.«01_k».proof.Proof.Finite

@[expose] public section

noncomputable section

namespace Cert.Delta

open Idealize.ShloMosaic Idealize.ShloMosaic.TcCoe Idealize.SL.Sem

theorem row_split (r : Fin 8192) : ∃ n p, r = rowAt n p :=
  ⟨⟨r.val / 64, by omega⟩, ⟨r.val % 64, by omega⟩, Fin.ext (by show r.val = r.val / 64 * 64 + r.val % 64; omega)⟩
theorem lane_split (l : Fin 2048) : (∃ h d, l = laneQ h d) ∨ ∃ h d, l = laneK h d := by
  by_cases e : l.val < 1024
  · exact Or.inl ⟨⟨l.val / 128, by omega⟩, ⟨l.val % 128, by omega⟩, Fin.ext (by show l.val = 128 * (l.val / 128) + l.val % 128; omega)⟩
  · exact Or.inr ⟨⟨(l.val - 1024) / 128, by omega⟩, ⟨(l.val - 1024) % 128, by omega⟩,
      Fin.ext (by show l.val = 1024 + 128 * ((l.val - 1024) / 128) + (l.val - 1024) % 128; omega)⟩
theorem laneV_split (l : Fin 1024) : ∃ h d, l = laneV h d :=
  ⟨⟨l.val / 128, by omega⟩, ⟨l.val % 128, by omega⟩, Fin.ext (by show l.val = 128 * (l.val / 128) + l.val % 128; omega)⟩

/-- Two matrices that agree entry by entry. -/
theorem ext2 {α : Type} {A B : ℕ} {x y : (⟨2, ![A, B]⟩ : Shape).Idx → α} (h : ∀ i j, x (ix2 i j) = y (ix2 i j)) : x = y := by
  funext i
  have e : i = ix2 (i 0) (i 1) := funext fun a => by fin_cases a <;> rfl
  rw [e]; exact h _ _

section
variable {a : Args} {s : Cert.ReferenceIdeal.Step.State Ideal} {m : (ℓ : Loc Cert.KernelIdeal.nD Cert.KernelIdeal.τ Cert.KernelIdeal.sig) → Buf (Elt Ideal) ℓ}
  {c : Dev Cert.KernelIdeal.nD}
  {x0 : FVec Ideal Cert.ReferenceIdeal.S8192x2048 .f32} {x1 : FVec Ideal Cert.ReferenceIdeal.S8192x1024 .f32}
  {x2 : FVec Ideal Cert.ReferenceIdeal.S8192x128 .f32} {x3 : FVec Ideal Cert.ReferenceIdeal.S128x8x128x128 .f32}
  {x4 : FVec Ideal Cert.ReferenceIdeal.S128x8x64x64 .f32} {x5 : FVec Ideal Cert.ReferenceIdeal.S8192x1024 .f32}

/-- The state the reference's loop leaves holds every chunk's gradients. -/
theorem loop_ends (ha : RepArgs a x0 x1 x2 x3 x4 x5) (it : ℕ → Cert.ReferenceIdeal.Step.State Ideal)
    (h0 : it 0 = Cert.ReferenceIdeal.Step.init (F := Ideal) x3 x0 x1 x2 x4 x5) (hs : ∀ n, it (n + 1) = Cert.ReferenceIdeal.Step.step n (it n)) :
    Ref.RepS (Ref.inOf (it 128) x0 x1 x2 x4 x5) a :=
  Ref.loop_end (Ref.loop_all it (by rw [h0]; exact Ref.loop_start ha) hs 128 le_rfl)

variable (hk : RepArgs a (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)))
  (ha : RepArgs a x0 x1 x2 x3 x4 x5) (hS : Ref.RepS (Ref.inOf s x0 x1 x2 x4 x5) a)
include hk ha hS

/-- The gradients of the queries and of the keys. -/
theorem eq_qk : Cert.ReferenceIdeal.Step.R_main_v300 (F := Ideal) s x0 x1 x2 x4 = (Cert.KernelIdeal.Gen.dats m 0 c).arrAt 7 Cert.KernelIdeal.cfg0.N := by
  refine (Ref.R300 (Ref.inOf s x0 x1 x2 x4 x5)).trans (ext2 fun r l => ?_)
  obtain ⟨n, p, rfl⟩ := row_split r
  rcases lane_split l with ⟨h, d, rfl⟩ | ⟨h, d, rfl⟩
  · exact (Ref.ref_dq (Ref.repA_of s ha) hS n p h d).trans (kernel_dq hk n h p d).symm
  · exact (Ref.ref_dk (Ref.repA_of s ha) hS n p h d).trans (kernel_dk hk n h p d).symm

/-- The gradient of the values. -/
theorem eq_v : Cert.ReferenceIdeal.Step.R_main_v295 (F := Ideal) s x2 x4 = (Cert.KernelIdeal.Gen.dats m 0 c).arrAt 8 Cert.KernelIdeal.cfg0.N := by
  refine (Ref.R295 (Ref.inOf s x0 x1 x2 x4 x5)).trans (ext2 fun r l => ?_)
  obtain ⟨n, p, rfl⟩ := row_split r
  obtain ⟨h, d, rfl⟩ := laneV_split l
  exact (Ref.ref_dv (Ref.repA_of s ha) hS n p h d).trans (kernel_dv hk n h p d).symm

/-- The gradients of the gates and of the decays. -/
theorem eq_g : Cert.ReferenceIdeal.Step.R_main_v294 (F := Ideal) s x0 x1 x2 x4 = (Cert.KernelIdeal.Gen.dats m 0 c).arrAt 9 Cert.KernelIdeal.cfg0.N := by
  refine (Ref.R294 (Ref.inOf s x0 x1 x2 x4 x5)).trans (ext2 fun r l => ?_)
  obtain ⟨n, p, rfl⟩ := row_split r
  exact (Ref.ref_dg (Ref.repA_of s ha) hS n p l).trans (kernel_dg hk n p l).symm
end

end Cert.Delta
-- ==== Proof.Mm.lean ====
/- What the tiled products share: whole loads, indices of matrices, and a sum cut in two. -/
module

public import proofs.«01_k».proof.Defs
public import Idealize.ShloMosaic.Lib.Pointwise
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ReadBack

@[expose] public section

noncomputable section

namespace Cert.Mm

open Idealize.ShloMosaic Idealize.SL.Sem

/-- An index of a matrix is its row and its column. -/
theorem ex2 {a b : ℕ} (y : (⟨2, ![a, b]⟩ : Shape).Idx) : ∃ (p : Fin a) (q : Fin b), y = ix2 p q :=
  ⟨y 0, y 1, by funext k; fin_cases k <;> rfl⟩

/-- A sum over an even number of places is the sum over the first half and the sum over the second. -/
theorem sum_two {n N : ℕ} (h : N = 2 * n) (f : Fin N → EReal) :
    ∑ k, f k = (∑ k : Fin n, f ⟨k.val, by omega⟩) + ∑ k : Fin n, f ⟨n + k.val, by omega⟩ := by
  have h' : N = n + n := by omega
  subst h'
  exact Fin.sum_univ_add f

/-- A sum over four times as many places is the sum of the sums over the four quarters. -/
theorem sum_four {n N : ℕ} (h : N = 4 * n) (f : Fin N → EReal) :
    ∑ k, f k = (∑ k : Fin n, f ⟨k.val, by omega⟩) + (∑ k : Fin n, f ⟨n + k.val, by omega⟩) + (∑ k : Fin n, f ⟨2 * n + k.val, by omega⟩)
      + ∑ k : Fin n, f ⟨3 * n + k.val, by omega⟩ := by
  rw [sum_two (n := 2 * n) (by omega) f, sum_two (n := n) rfl, sum_two (n := n) rfl, ← add_assoc]
  refine congrArg₂ (· + ·) (congrArg₂ (· + ·) rfl ?_) ?_
  · rfl
  · exact Finset.sum_congr rfl fun k _ => congrArg f (Fin.ext (by simp only []; omega))

/-- The literal two. -/
theorem two_bits : Ideal.ofBits .f32 0x40000000#32 = (2 : EReal) := by
  simp [Ideal.ofBits, Ideal.ieee]
  rw [← EReal.coe_mul]
  norm_num
  rfl

/-- The square root of the square of what is left of a number above zero. -/
theorem sqrt_sq (u : EReal) : Ideal.sqrt (max u 0 * max u 0) = max u 0 := by
  induction u with
  | bot =>
    have h : Ideal.sqrt 0 = 0 := by
      show Ideal.sqrt ((0 : ℝ) : EReal) = _
      rw [Ideal.sqrt_coe]; simp
    simpa using h
  | top => simp
  | coe r =>
    have h : (max (r : EReal) 0) = ((max r 0 : ℝ) : EReal) := by
      rcases le_total r 0 with h | h
      · rw [max_eq_right h, max_eq_right (by exact_mod_cast h)]; rfl
      · rw [max_eq_left h, max_eq_left (by exact_mod_cast h)]
    rw [h, ← EReal.coe_mul, Ideal.sqrt_coe, if_neg (not_lt.mpr (mul_self_nonneg _)), Real.sqrt_mul_self (le_max_right _ _)]

/-- The gradient of a squared relu, from the square it left and from its argument. -/
theorem relu2_bwd (d u : EReal) : (if 0 < u then d * (2 * max u 0) else 0) = d * (2 * Ideal.sqrt (max u 0 * max u 0)) := by
  rw [sqrt_sq]
  split_ifs with h
  · rfl
  · rw [max_eq_right (not_lt.mp h), mul_zero, mul_zero]

/-- Equal sums of products. -/
theorem sum_mul_congr {n : ℕ} {f f' g g' : Fin n → EReal} (hf : ∀ k, f k = f' k) (hg : ∀ k, g k = g' k) :
    ∑ k, f k * g k = ∑ k, f' k * g' k :=
  Finset.sum_congr rfl fun k _ => by rw [hf, hg]

/-- A run that ends as `P` says, of a program without semaphores, ends with no semaphore counter raised. -/
theorem quiet {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {P Q : PUnit × MemSt nD τ sig Val → Dev nD → Prop}
    (hs : sig.nSem + sig.nDmaSem = 0) (h : θ_run defs p s fun r => ∀ c, P r c) (k : ∀ r c, P r c → Q r c) :
    θ_run defs p s fun r => (∀ c, Q r c) ∧ r.2.sem = fun _ => 0 :=
  (θ_run _ _ _).mono (fun r h => ⟨fun c => k r c (h c), sem_eq_zero_of_no_sems hs r.2⟩) h

end Cert.Mm

end
-- ==== Proof.Mm2.lean ====
/- The gradient of the MLP's hidden layer before its squared relu: the tiled product is the whole product. -/
module

public import proofs.«01_k».proof.Proof.Mm
public import proofs.«01_k».proof.Proof.Gen.Kernel2.Frame
public import proofs.«01_k».proof.Proof.Gen.Kernel2Ideal.Value
public import proofs.«01_k».proof.Proof.Gen.Reference2Ideal.Run

@[expose] public section

noncomputable section

namespace Cert.Mm2

open Idealize.ShloMosaic Idealize.ShloMosaic.TcCoe Idealize.SL.Sem Kernel2Ideal Kernel2Ideal.Gen Kernel2Ideal.Value Mm

variable (m : (ℓ : Loc nD τ sig) → Buf (Elt Ideal) ℓ) (c : Dev nD)

theorem tlt (t : Fin cfg0.N) : t.val < 64 := lt_of_lt_of_eq t.isLt (show cfg0.N = 64 from N_0)

theorem widx0 : ∀ t : Fin cfg0.N, win0_0.index t = ![t.val / 8, 0] := (by decide +kernel : ∀ t : Fin grid0.N, _)
theorem widx1 : ∀ t : Fin cfg0.N, win0_1.index t = ![t.val % 8, 0] := (by decide +kernel : ∀ t : Fin grid0.N, _)
theorem widx2 : ∀ t : Fin cfg0.N, win0_2.index t = ![t.val / 8, t.val % 8] := (by decide +kernel : ∀ t : Fin grid0.N, _)
theorem widx3 : ∀ t : Fin cfg0.N, win0_3.index t = ![t.val / 8, t.val % 8] := (by decide +kernel : ∀ t : Fin grid0.N, _)
theorem wemb3 (t : Fin cfg0.N) (p : Fin 1024) (l : Fin 1024) : ((cfg0.win 3).blk t).view.emb (ix2 p l) =
    ix2 (⟨t.val / 8 * 1024 + p.val, by have := tlt t; omega⟩ : Fin 8192) (⟨t.val % 8 * 1024 + l.val, by omega⟩ : Fin 8192) := by
  blk_ext [widx3 t]

/-- The first factor. -/
def A : FVec Ideal S8192x2048 .f32 := m ((c : Thread nD τ).loc main_arg3)
/-- The second factor. -/
def B : FVec Ideal S8192x2048 .f32 := m ((c : Thread nD τ).loc main_arg2)
/-- The squared relu that the forward pass left. -/
def X : FVec Ideal S8192x8192 .f32 := (mulf (maximumf (Host.dotGeneral dot_S8192x2048_S2048x8192_S8192x8192_1_0_0_1_n_n none (φ₁ := .f32) (φ₂ := .f32) (m ((c : Thread nD τ).loc main_arg0) : FVec Ideal S8192x2048 .f32) (m ((c : Thread nD τ).loc main_arg1) : FVec Ideal S2048x8192 .f32)) (broadcastInDim S8192x8192 ![] bcast_S_S8192x8192 (constant S_ .f32 0x00000000#32))) (maximumf (Host.dotGeneral dot_S8192x2048_S2048x8192_S8192x8192_1_0_0_1_n_n none (φ₁ := .f32) (φ₂ := .f32) (m ((c : Thread nD τ).loc main_arg0) : FVec Ideal S8192x2048 .f32) (m ((c : Thread nD τ).loc main_arg1) : FVec Ideal S2048x8192 .f32)) (broadcastInDim S8192x8192 ![] bcast_S_S8192x8192 (constant S_ .f32 0x00000000#32))))
/-- What the MLP is applied to, and its first weights. -/
def H : FVec Ideal S8192x2048 .f32 := m ((c : Thread nD τ).loc main_arg0)
def W : FVec Ideal S2048x8192 .f32 := m ((c : Thread nD τ).loc main_arg1)
theorem X_apply (p q : Fin 8192) : X m c (ix2 p q) =
    max (∑ k : Fin 2048, (H m c (ix2 p k) : EReal) * W m c (ix2 k q)) 0 * max (∑ k : Fin 2048, (H m c (ix2 p k) : EReal) * W m c (ix2 k q)) 0 := by
  unfold X
  pointwise
  rfl

theorem V_main_v3 : V m c main_v3 = truncf .bf16 (A m c) bitsLt_bf16_f32 := by
  show StableHlo.after (List.flatten [hostOps0 (F := Ideal), hostOps0_1, hostOps0_2]) _ (Proc.devRef .tc main_v3) = _
  simp only [List.flatten_cons, List.flatten_nil, List.append_nil, List.cons_append, List.nil_append]
  after_results <;> rfl
theorem V_main_v4 : V m c main_v4 = truncf .bf16 (B m c) bitsLt_bf16_f32 := by
  show StableHlo.after (List.flatten [hostOps0 (F := Ideal), hostOps0_1, hostOps0_2]) _ (Proc.devRef .tc main_v4) = _
  simp only [List.flatten_cons, List.flatten_nil, List.append_nil, List.cons_append, List.nil_append]
  after_results <;> rfl
theorem V_main_v5 : V m c main_v5 = truncf .bf16 (X m c) bitsLt_bf16_f32 := by
  show StableHlo.after (List.flatten [hostOps0 (F := Ideal), hostOps0_1, hostOps0_2]) _ (Proc.devRef .tc main_v5) = _
  simp only [List.flatten_cons, List.flatten_nil, List.append_nil, List.cons_append, List.nil_append]
  after_results <;> rfl
theorem iblk0 (t : Fin cfg0.N) (p : Fin 1024) (l : Fin 2048) : iblk m c 0 t (ix2 p l) =
    A m c (ix2 (⟨t.val / 8 * 1024 + p.val, by have := tlt t; omega⟩ : Fin 8192) (⟨l.val, by omega⟩ : Fin 2048)) := by
  show V m c main_v3 _ = _
  rw [V_main_v3]; exact congrArg (A m c) (by blk_ext [widx0 t])
theorem iblk1 (t : Fin cfg0.N) (p : Fin 1024) (l : Fin 2048) : iblk m c 1 t (ix2 p l) =
    B m c (ix2 (⟨t.val % 8 * 1024 + p.val, by omega⟩ : Fin 8192) (⟨l.val, by omega⟩ : Fin 2048)) := by
  show V m c main_v4 _ = _
  rw [V_main_v4]; exact congrArg (B m c) (by blk_ext [widx1 t])
theorem iblk2 (t : Fin cfg0.N) (p : Fin 1024) (l : Fin 1024) : iblk m c 2 t (ix2 p l) =
    X m c (ix2 (⟨t.val / 8 * 1024 + p.val, by have := tlt t; omega⟩ : Fin 8192) (⟨t.val % 8 * 1024 + l.val, by omega⟩ : Fin 8192)) := by
  show V m c main_v5 _ = _
  rw [V_main_v5]; exact congrArg (X m c) (by blk_ext [widx2 t])

theorem pay1_apply (x0 : Vec Ideal S1024x2048 .bf16) (x1 : Vec Ideal S1024x2048 .bf16) (x2 : Vec Ideal S1024x1024 .bf16) (p : Fin 1024) (q : Fin 1024) :
    k0_pay1 x0 x1 x2 (ix2 p q) = (∑ k : Fin 2048, (x0 (ix2 p k) : EReal) * x1 (ix2 q k)) * (2 * Ideal.sqrt (x2 (ix2 p q))) := by
  pointwise [k0_pay1]
  rw [two_bits]

/-- The result's entries. -/
def G : FVec Ideal S8192x8192 .bf16 := fun i => (∑ k : Fin 2048, (A m c (ix2 (i 0 : Fin 8192) k) : EReal) * B m c (ix2 (i 1 : Fin 8192) k)) * (2 * Ideal.sqrt (X m c i))

/-- After the run the result holds the product. -/
theorem final : (dats m 0 c).arrAt 3 cfg0.N = G m c := by
  refine (dats m 0 c).arrAt_eq_of_covers 3 _ (by decide +kernel) fun t hf y => ?_
  obtain ⟨p, q, rfl⟩ := ex2 (a := 1024) (b := 1024) y
  show (dats m 0 c).after 3 t (ix2 p q) = G m c (((cfg0.win 3).blk t).view.emb (ix2 p q))
  rw [wemb3, after0_3]
  frame_out
  rw [pay1_apply]
  have e := sum_mul_congr (fun k => iblk0 m c t p k) fun k => iblk1 m c t q k
  rw [iblk2]
  exact congrArg (fun z : EReal => (z) * (2 * Ideal.sqrt (X m c (ix2 (⟨t.val / 8 * 1024 + p.val, by have := tlt t; omega⟩ : Fin 8192) (⟨t.val % 8 * 1024 + q.val, by have := tlt t; omega⟩ : Fin 8192))))) e

/-- The reference runs, leaves its arguments as they were and no semaphore counter raised. -/
theorem frame_r : @quiescent_Reference2Ideal Reference2Ideal.Gen.facts := fun m g _ =>
  quiet (by decide) (Reference2Ideal.Value.run m g) fun _ _ h => h.2

/-- From the same arguments the kernel and the reference end with the same array. -/
theorem algebraic : @algebraic_Kernel2Ideal_Reference2Ideal Kernel2Ideal.Gen.facts Reference2Ideal.Gen.facts := by
  intro m g m' g' hpre hagree
  refine ⟨_, run_blocks m g, ?_⟩
  refine (θ_run _ _ _).mono (fun r h c => ⟨(h c).1.trans ?_, (h c).2⟩) (Reference2Ideal.Value.run m' g')
  obtain ⟨e0, e1, e2, e3⟩ := hagree c
  rw [e0, e1, e2, e3]
  refine Eq.trans ?_ (final m c).symm
  funext i
  obtain ⟨p, q, rfl⟩ := ex2 (a := 8192) (b := 8192) i
  pointwise [G]
  rw [X_apply, two_bits]
  exact relu2_bwd _ _

end Cert.Mm2

end
-- ==== Proof.Mm3.lean ====
/- The gradient of w_down: the tiled product is the whole product. -/
module

public import proofs.«01_k».proof.Proof.Mm
public import proofs.«01_k».proof.Proof.Gen.Kernel3.Frame
public import proofs.«01_k».proof.Proof.Gen.Kernel3Ideal.Value
public import proofs.«01_k».proof.Proof.Gen.Reference3Ideal.Run

@[expose] public section

noncomputable section

namespace Cert.Mm3

open Idealize.ShloMosaic Idealize.ShloMosaic.TcCoe Idealize.SL.Sem Kernel3Ideal Kernel3Ideal.Gen Kernel3Ideal.Value Mm

variable (m : (ℓ : Loc nD τ sig) → Buf (Elt Ideal) ℓ) (c : Dev nD)

theorem tlt (t : Fin cfg0.N) : t.val < 32 := lt_of_lt_of_eq t.isLt (show cfg0.N = 32 from N_0)

theorem widx0 : ∀ t : Fin cfg0.N, win0_0.index t = ![t.val % 2, t.val / 4] := (by decide +kernel : ∀ t : Fin grid0.N, _)
theorem widx1 : ∀ t : Fin cfg0.N, win0_1.index t = ![t.val % 2, t.val / 2 % 2] := (by decide +kernel : ∀ t : Fin grid0.N, _)
theorem widx2 : ∀ t : Fin cfg0.N, win0_2.index t = ![t.val / 4, t.val / 2 % 2] := (by decide +kernel : ∀ t : Fin grid0.N, _)
theorem wemb2 (t : Fin cfg0.N) (p : Fin 1024) (l : Fin 1024) : ((cfg0.win 2).blk t).view.emb (ix2 p l) =
    ix2 (⟨t.val / 4 * 1024 + p.val, by have := tlt t; omega⟩ : Fin 8192) (⟨t.val / 2 % 2 * 1024 + l.val, by omega⟩ : Fin 2048) := by
  blk_ext [widx2 t]

/-- The first factor. -/
def A : FVec Ideal S8192x8192 .f32 := (mulf (maximumf (Host.dotGeneral dot_S8192x2048_S2048x8192_S8192x8192_1_0_0_1_n_n none (φ₁ := .f32) (φ₂ := .f32) (m ((c : Thread nD τ).loc main_arg0) : FVec Ideal S8192x2048 .f32) (m ((c : Thread nD τ).loc main_arg1) : FVec Ideal S2048x8192 .f32)) (broadcastInDim S8192x8192 ![] bcast_S_S8192x8192 (constant S_ .f32 0x00000000#32))) (maximumf (Host.dotGeneral dot_S8192x2048_S2048x8192_S8192x8192_1_0_0_1_n_n none (φ₁ := .f32) (φ₂ := .f32) (m ((c : Thread nD τ).loc main_arg0) : FVec Ideal S8192x2048 .f32) (m ((c : Thread nD τ).loc main_arg1) : FVec Ideal S2048x8192 .f32)) (broadcastInDim S8192x8192 ![] bcast_S_S8192x8192 (constant S_ .f32 0x00000000#32))))
/-- The second factor. -/
def B : FVec Ideal S8192x2048 .f32 := m ((c : Thread nD τ).loc main_arg3)
/-- What the MLP is applied to, and its first weights. -/
def H : FVec Ideal S8192x2048 .f32 := m ((c : Thread nD τ).loc main_arg0)
def W : FVec Ideal S2048x8192 .f32 := m ((c : Thread nD τ).loc main_arg1)
theorem A_apply (p q : Fin 8192) : A m c (ix2 p q) =
    max (∑ k : Fin 2048, (H m c (ix2 p k) : EReal) * W m c (ix2 k q)) 0 * max (∑ k : Fin 2048, (H m c (ix2 p k) : EReal) * W m c (ix2 k q)) 0 := by
  unfold A
  pointwise
  rfl

theorem V_main_v3 : V m c main_v3 = truncf .bf16 (A m c) bitsLt_bf16_f32 := by
  show StableHlo.after (List.flatten [hostOps0 (F := Ideal), hostOps0_1, hostOps0_2]) _ (Proc.devRef .tc main_v3) = _
  simp only [List.flatten_cons, List.flatten_nil, List.append_nil, List.cons_append, List.nil_append]
  after_results <;> rfl
theorem V_main_v4 : V m c main_v4 = truncf .bf16 (B m c) bitsLt_bf16_f32 := by
  show StableHlo.after (List.flatten [hostOps0 (F := Ideal), hostOps0_1, hostOps0_2]) _ (Proc.devRef .tc main_v4) = _
  simp only [List.flatten_cons, List.flatten_nil, List.append_nil, List.cons_append, List.nil_append]
  after_results <;> rfl
theorem iblk0 (t : Fin cfg0.N) (p : Fin 4096) (l : Fin 1024) : iblk m c 0 t (ix2 p l) =
    A m c (ix2 (⟨t.val % 2 * 4096 + p.val, by omega⟩ : Fin 8192) (⟨t.val / 4 * 1024 + l.val, by have := tlt t; omega⟩ : Fin 8192)) := by
  show V m c main_v3 _ = _
  rw [V_main_v3]; exact congrArg (A m c) (by blk_ext [widx0 t])
theorem iblk1 (t : Fin cfg0.N) (p : Fin 4096) (l : Fin 1024) : iblk m c 1 t (ix2 p l) =
    B m c (ix2 (⟨t.val % 2 * 4096 + p.val, by omega⟩ : Fin 8192) (⟨t.val / 2 % 2 * 1024 + l.val, by omega⟩ : Fin 2048)) := by
  show V m c main_v4 _ = _
  rw [V_main_v4]; exact congrArg (B m c) (by blk_ext [widx1 t])

theorem pay1_apply (x0 : Vec Ideal S4096x1024 .bf16) (x1 : Vec Ideal S4096x1024 .bf16) (p : Fin 1024) (q : Fin 1024) :
    k0_pay1 x0 x1 (ix2 p q) = ∑ k : Fin 4096, (x0 (ix2 k p) : EReal) * x1 (ix2 k q) := by
  pointwise [k0_pay1]
theorem pay2_apply (x0 : Vec Ideal S4096x1024 .bf16) (x1 : Vec Ideal S4096x1024 .bf16) (p : Fin 1024) (q : Fin 1024) :
    k0_pay2 x0 x1 (ix2 p q) = ∑ k : Fin 4096, (x0 (ix2 k p) : EReal) * x1 (ix2 k q) := by
  rw [← pay1_apply]; pointwise [k0_pay2]
theorem pay3_apply (x0 : Vec Ideal S4096x1024 .bf16) (x1 : Vec Ideal S4096x1024 .bf16) (xs : Vec Ideal S1024x1024 .f32) (p : Fin 1024) (q : Fin 1024) :
    k0_pay3 x0 x1 xs (ix2 p q) = (xs (ix2 p q) : EReal) + ∑ k : Fin 4096, (x0 (ix2 k p) : EReal) * x1 (ix2 k q) := by
  rw [← pay1_apply]; pointwise [k0_pay3]
theorem pay4_apply (xs : Vec Ideal S1024x1024 .f32) (p : Fin 1024) (q : Fin 1024) : k0_pay4 xs (ix2 p q) = xs (ix2 p q) := by
  pointwise [k0_pay4]

/-- The result's entries. -/
def G : FVec Ideal S8192x2048 .bf16 := fun i => ∑ k : Fin 8192, (A m c (ix2 k (i 0 : Fin 8192)) : EReal) * B m c (ix2 k (i 1 : Fin 2048))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  have h1 : t.val % 2 = 1 := (flush0_2 t).mp hf
  have ht := tlt t
  rw [wemb2, after0_2, outsAt0_B m c t (show ¬t.val % 2 = 0 by omega) (show t.val % 2 = 1 by omega) (show t.val % 2 = 1 by omega)]
  frame_out
  rw [read_unread_whole]
  have hs1 : t.val - 1 < cfg0.N := lt_of_le_of_lt (Nat.sub_le _ _) t.isLt
  have hA1 : (outsAt0 m c (t.val - 1) hs1).2 = k0_pay2 (iblk m c 0 ⟨t.val - 1, hs1⟩) (iblk m c 1 ⟨t.val - 1, hs1⟩) :=
    (congrArg Prod.snd (outsAt0_A m c ⟨t.val - 1, hs1⟩ (show (t.val - 1) % 2 = 0 by omega) (show ¬(t.val - 1) % 2 = 1 by omega) (show ¬(t.val - 1) % 2 = 1 by omega))).trans (by frame_out)
  rw [hA1]
  rw [pay4_apply, pay3_apply, pay2_apply]
  show _ = ∑ k : Fin 8192, (A m c (ix2 k (⟨t.val / 4 * 1024 + p.val, _⟩ : Fin 8192)) : EReal) * B m c (ix2 k (⟨t.val / 2 % 2 * 1024 + q.val, _⟩ : Fin 2048))
  rw [sum_two (n := 4096) rfl]
  refine congrArg₂ (· + ·) (sum_mul_congr (fun k => ?_) fun k => ?_) (sum_mul_congr (fun k => ?_) fun k => ?_)
  all_goals (first | rw [iblk0] | rw [iblk1]); congr 2 <;> apply Fin.ext <;> simp only [] <;> omega

/-- The reference runs, leaves its arguments as they were and no semaphore counter raised. -/
theorem frame_r : @quiescent_Reference3Ideal Reference3Ideal.Gen.facts := fun m g _ =>
  quiet (by decide) (Reference3Ideal.Value.run m g) fun _ _ h => h.2

/-- From the same arguments the kernel and the reference end with the same array. -/
theorem algebraic : @algebraic_Kernel3Ideal_Reference3Ideal Kernel3Ideal.Gen.facts Reference3Ideal.Gen.facts := by
  intro m g m' g' hpre hagree
  refine ⟨_, run_blocks m g, ?_⟩
  refine (θ_run _ _ _).mono (fun r h c => ⟨(h c).1.trans ?_, (h c).2⟩) (Reference3Ideal.Value.run m' g')
  obtain ⟨e0, e1, e2, e3⟩ := hagree c
  rw [e0, e1, e3]
  refine Eq.trans ?_ (final m c).symm
  funext i
  obtain ⟨p, q, rfl⟩ := ex2 (a := 8192) (b := 2048) i
  pointwise [G]
  exact Finset.sum_congr rfl fun k _ => by rw [A_apply]; exact mul_comm _ _

end Cert.Mm3

end
-- ==== Proof.Mm4.lean ====
/- The gradient of the MLP's input: the tiled product is the whole product. -/
module

public import proofs.«01_k».proof.Proof.Mm
public import proofs.«01_k».proof.Proof.Gen.Kernel4.Frame
public import proofs.«01_k».proof.Proof.Gen.Kernel4Ideal.Value
public import proofs.«01_k».proof.Proof.Gen.Reference4Ideal.Run

@[expose] public section

noncomputable section

namespace Cert.Mm4

open Idealize.ShloMosaic Idealize.ShloMosaic.TcCoe Idealize.SL.Sem Kernel4Ideal Kernel4Ideal.Gen Kernel4Ideal.Value Mm

variable (m : (ℓ : Loc nD τ sig) → Buf (Elt Ideal) ℓ) (c : Dev nD)

theorem tlt (t : Fin cfg0.N) : t.val < 32 := lt_of_lt_of_eq t.isLt (show cfg0.N = 32 from N_0)

theorem widx0 : ∀ t : Fin cfg0.N, win0_0.index t = ![t.val / 4, t.val % 2] := (by decide +kernel : ∀ t : Fin grid0.N, _)
theorem widx1 : ∀ t : Fin cfg0.N, win0_1.index t = ![t.val / 2 % 2, t.val % 2] := (by decide +kernel : ∀ t : Fin grid0.N, _)
theorem widx2 : ∀ t : Fin cfg0.N, win0_2.index t = ![t.val / 4, t.val / 2 % 2] := (by decide +kernel : ∀ t : Fin grid0.N, _)
theorem wemb2 (t : Fin cfg0.N) (p : Fin 1024) (l : Fin 1024) : ((cfg0.win 2).blk t).view.emb (ix2 p l) =
    ix2 (⟨t.val / 4 * 1024 + p.val, by have := tlt t; omega⟩ : Fin 8192) (⟨t.val / 2 % 2 * 1024 + l.val, by omega⟩ : Fin 2048) := by
  blk_ext [widx2 t]

/-- The first factor. -/
def A : FVec Ideal S8192x8192 .f32 := m ((c : Thread nD τ).loc main_arg2)
/-- The second factor. -/
def B : FVec Ideal S2048x8192 .f32 := m ((c : Thread nD τ).loc main_arg1)

theorem V_main_v0 : V m c main_v0 = truncf .bf16 (A m c) bitsLt_bf16_f32 := by
  show StableHlo.after hostOps0 _ (Proc.devRef .tc main_v0) = _
  after_results <;> rfl
theorem V_main_v1 : V m c main_v1 = truncf .bf16 (B m c) bitsLt_bf16_f32 := by
  show StableHlo.after hostOps0 _ (Proc.devRef .tc main_v1) = _
  after_results <;> rfl
theorem iblk0 (t : Fin cfg0.N) (p : Fin 1024) (l : Fin 4096) : iblk m c 0 t (ix2 p l) =
    A m c (ix2 (⟨t.val / 4 * 1024 + p.val, by have := tlt t; omega⟩ : Fin 8192) (⟨t.val % 2 * 4096 + l.val, by omega⟩ : Fin 8192)) := by
  show V m c main_v0 _ = _
  rw [V_main_v0]; exact congrArg (A m c) (by blk_ext [widx0 t])
theorem iblk1 (t : Fin cfg0.N) (p : Fin 1024) (l : Fin 4096) : iblk m c 1 t (ix2 p l) =
    B m c (ix2 (⟨t.val / 2 % 2 * 1024 + p.val, by omega⟩ : Fin 2048) (⟨t.val % 2 * 4096 + l.val, by omega⟩ : Fin 8192)) := by
  show V m c main_v1 _ = _
  rw [V_main_v1]; exact congrArg (B m c) (by blk_ext [widx1 t])

theorem pay1_apply (x0 : Vec Ideal S1024x4096 .bf16) (x1 : Vec Ideal S1024x4096 .bf16) (p : Fin 1024) (q : Fin 1024) :
    k0_pay1 x0 x1 (ix2 p q) = ∑ k : Fin 4096, (x0 (ix2 p k) : EReal) * x1 (ix2 q k) := by
  pointwise [k0_pay1]
theorem pay2_apply (x0 : Vec Ideal S1024x4096 .bf16) (x1 : Vec Ideal S1024x4096 .bf16) (xo : Vec Ideal S1024x1024 .f32) (p : Fin 1024) (q : Fin 1024) :
    k0_pay2 x0 x1 xo (ix2 p q) = (xo (ix2 p q) : EReal) + ∑ k : Fin 4096, (x0 (ix2 p k) : EReal) * x1 (ix2 q k) := by
  rw [← pay1_apply]; pointwise [k0_pay2]

/-- The result's entries. -/
def G : FVec Ideal S8192x2048 .f32 := fun i => ∑ k : Fin 8192, (A m c (ix2 (i 0 : Fin 8192) k) : EReal) * B m c (ix2 (i 1 : Fin 2048) k)

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  have h1 : t.val % 2 = 1 := (flush0_2 t).mp hf
  have ht := tlt t
  rw [wemb2, after0_2, outsAt0_B m c t (show ¬t.val % 2 = 0 by omega) (show t.val % 2 = 1 by omega)]
  frame_out
  have hs1 : t.val - 1 < cfg0.N := lt_of_le_of_lt (Nat.sub_le _ _) t.isLt
  have hA1 : outsAt0 m c (t.val - 1) hs1 = k0_pay1 (iblk m c 0 ⟨t.val - 1, hs1⟩) (iblk m c 1 ⟨t.val - 1, hs1⟩) :=
    (outsAt0_A m c ⟨t.val - 1, hs1⟩ (show (t.val - 1) % 2 = 0 by omega) (show ¬(t.val - 1) % 2 = 1 by omega)).trans (by frame_out)
  rw [hA1]
  rw [pay2_apply, pay1_apply]
  show _ = ∑ k : Fin 8192, (A m c (ix2 (⟨t.val / 4 * 1024 + p.val, _⟩ : Fin 8192) k) : EReal) * B m c (ix2 (⟨t.val / 2 % 2 * 1024 + q.val, _⟩ : Fin 2048) k)
  rw [sum_two (n := 4096) rfl]
  refine congrArg₂ (· + ·) (sum_mul_congr (fun k => ?_) fun k => ?_) (sum_mul_congr (fun k => ?_) fun k => ?_)
  all_goals (first | rw [iblk0] | rw [iblk1]); congr 2 <;> apply Fin.ext <;> simp only [] <;> omega

/-- The reference runs, leaves its arguments as they were and no semaphore counter raised. -/
theorem frame_r : @quiescent_Reference4Ideal Reference4Ideal.Gen.facts := fun m g _ =>
  quiet (by decide) (Reference4Ideal.Value.run m g) fun _ _ h => h.2

/-- From the same arguments the kernel and the reference end with the same array. -/
theorem algebraic : @algebraic_Kernel4Ideal_Reference4Ideal Kernel4Ideal.Gen.facts Reference4Ideal.Gen.facts := by
  intro m g m' g' hpre hagree
  refine ⟨_, run_blocks m g, ?_⟩
  refine (θ_run _ _ _).mono (fun r h c => ⟨(h c).1.trans ?_, (h c).2⟩) (Reference4Ideal.Value.run m' g')
  obtain ⟨e0, e1, e2⟩ := hagree c
  rw [e1, e2]
  refine Eq.trans ?_ (final m c).symm
  funext i
  obtain ⟨p, q, rfl⟩ := ex2 (a := 8192) (b := 2048) i
  pointwise [G]
  rfl

end Cert.Mm4

end
-- ==== Proof.Mm5.lean ====
/- The gradient of w_up: the tiled product is the whole product. -/
module

public import proofs.«01_k».proof.Proof.Mm
public import proofs.«01_k».proof.Proof.Gen.Kernel5.Frame
public import proofs.«01_k».proof.Proof.Gen.Kernel5Ideal.Value
public import proofs.«01_k».proof.Proof.Gen.Reference5Ideal.Run

@[expose] public section

noncomputable section

namespace Cert.Mm5

open Idealize.ShloMosaic Idealize.ShloMosaic.TcCoe Idealize.SL.Sem Kernel5Ideal Kernel5Ideal.Gen Kernel5Ideal.Value Mm

variable (m : (ℓ : Loc nD τ sig) → Buf (Elt Ideal) ℓ) (c : Dev nD)

theorem tlt (t : Fin cfg0.N) : t.val < 32 := lt_of_lt_of_eq t.isLt (show cfg0.N = 32 from N_0)

theorem widx0 : ∀ t : Fin cfg0.N, win0_0.index t = ![t.val % 2, t.val / 16] := (by decide +kernel : ∀ t : Fin grid0.N, _)
theorem widx1 : ∀ t : Fin cfg0.N, win0_1.index t = ![t.val % 2, t.val / 2 % 8] := (by decide +kernel : ∀ t : Fin grid0.N, _)
theorem widx2 : ∀ t : Fin cfg0.N, win0_2.index t = ![t.val / 16, t.val / 2 % 8] := (by decide +kernel : ∀ t : Fin grid0.N, _)
theorem wemb2 (t : Fin cfg0.N) (p : Fin 1024) (l : Fin 1024) : ((cfg0.win 2).blk t).view.emb (ix2 p l) =
    ix2 (⟨t.val / 16 * 1024 + p.val, by have := tlt t; omega⟩ : Fin 2048) (⟨t.val / 2 % 8 * 1024 + l.val, by omega⟩ : Fin 8192) := by
  blk_ext [widx2 t]

/-- The first factor. -/
def A : FVec Ideal S8192x2048 .f32 := m ((c : Thread nD τ).loc main_arg0)
/-- The second factor. -/
def B : FVec Ideal S8192x8192 .f32 := m ((c : Thread nD τ).loc main_arg2)

theorem V_main_v0 : V m c main_v0 = truncf .bf16 (A m c) bitsLt_bf16_f32 := by
  show StableHlo.after (hostOps0 (F := Ideal)) _ (Proc.devRef .tc main_v0) = _
  after_results <;> rfl
theorem V_main_v1 : V m c main_v1 = truncf .bf16 (B m c) bitsLt_bf16_f32 := by
  show StableHlo.after (hostOps0 (F := Ideal)) _ (Proc.devRef .tc main_v1) = _
  after_results <;> rfl
theorem iblk0 (t : Fin cfg0.N) (p : Fin 4096) (l : Fin 1024) : iblk m c 0 t (ix2 p l) =
    A m c (ix2 (⟨t.val % 2 * 4096 + p.val, by omega⟩ : Fin 8192) (⟨t.val / 16 * 1024 + l.val, by have := tlt t; omega⟩ : Fin 2048)) := by
  show V m c main_v0 _ = _
  rw [V_main_v0]; exact congrArg (A m c) (by blk_ext [widx0 t])
theorem iblk1 (t : Fin cfg0.N) (p : Fin 4096) (l : Fin 1024) : iblk m c 1 t (ix2 p l) =
    B m c (ix2 (⟨t.val % 2 * 4096 + p.val, by omega⟩ : Fin 8192) (⟨t.val / 2 % 8 * 1024 + l.val, by omega⟩ : Fin 8192)) := by
  show V m c main_v1 _ = _
  rw [V_main_v1]; exact congrArg (B m c) (by blk_ext [widx1 t])

theorem pay1_apply (x0 : Vec Ideal S4096x1024 .bf16) (x1 : Vec Ideal S4096x1024 .bf16) (p : Fin 1024) (q : Fin 1024) :
    k0_pay1 x0 x1 (ix2 p q) = ∑ k : Fin 4096, (x0 (ix2 k p) : EReal) * x1 (ix2 k q) := by
  pointwise [k0_pay1]
theorem pay2_apply (x0 : Vec Ideal S4096x1024 .bf16) (x1 : Vec Ideal S4096x1024 .bf16) (p : Fin 1024) (q : Fin 1024) :
    k0_pay2 x0 x1 (ix2 p q) = ∑ k : Fin 4096, (x0 (ix2 k p) : EReal) * x1 (ix2 k q) := by
  rw [← pay1_apply]; pointwise [k0_pay2]
theorem pay3_apply (x0 : Vec Ideal S4096x1024 .bf16) (x1 : Vec Ideal S4096x1024 .bf16) (xs : Vec Ideal S1024x1024 .f32) (p : Fin 1024) (q : Fin 1024) :
    k0_pay3 x0 x1 xs (ix2 p q) = (xs (ix2 p q) : EReal) + ∑ k : Fin 4096, (x0 (ix2 k p) : EReal) * x1 (ix2 k q) := by
  rw [← pay1_apply]; pointwise [k0_pay3]
theorem pay4_apply (xs : Vec Ideal S1024x1024 .f32) (p : Fin 1024) (q : Fin 1024) : k0_pay4 xs (ix2 p q) = xs (ix2 p q) := by
  pointwise [k0_pay4]

/-- The result's entries. -/
def G : FVec Ideal S2048x8192 .bf16 := fun i => ∑ k : Fin 8192, (A m c (ix2 k (i 0 : Fin 2048)) : EReal) * B m c (ix2 k (i 1 : Fin 8192))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  have h1 : t.val % 2 = 1 := (flush0_2 t).mp hf
  have ht := tlt t
  rw [wemb2, after0_2, outsAt0_B m c t (show ¬t.val % 2 = 0 by omega) (show t.val % 2 = 1 by omega) (show t.val % 2 = 1 by omega)]
  frame_out
  rw [read_unread_whole]
  have hs1 : t.val - 1 < cfg0.N := lt_of_le_of_lt (Nat.sub_le _ _) t.isLt
  have hA1 : (outsAt0 m c (t.val - 1) hs1).2 = k0_pay2 (iblk m c 0 ⟨t.val - 1, hs1⟩) (iblk m c 1 ⟨t.val - 1, hs1⟩) :=
    (congrArg Prod.snd (outsAt0_A m c ⟨t.val - 1, hs1⟩ (show (t.val - 1) % 2 = 0 by omega) (show ¬(t.val - 1) % 2 = 1 by omega) (show ¬(t.val - 1) % 2 = 1 by omega))).trans (by frame_out)
  rw [hA1]
  rw [pay4_apply, pay3_apply, pay2_apply]
  show _ = ∑ k : Fin 8192, (A m c (ix2 k (⟨t.val / 16 * 1024 + p.val, _⟩ : Fin 2048)) : EReal) * B m c (ix2 k (⟨t.val / 2 % 8 * 1024 + q.val, _⟩ : Fin 8192))
  rw [sum_two (n := 4096) rfl]
  refine congrArg₂ (· + ·) (sum_mul_congr (fun k => ?_) fun k => ?_) (sum_mul_congr (fun k => ?_) fun k => ?_)
  all_goals (first | rw [iblk0] | rw [iblk1]); congr 2 <;> apply Fin.ext <;> simp only [] <;> omega

/-- The reference runs, leaves its arguments as they were and no semaphore counter raised. -/
theorem frame_r : @quiescent_Reference5Ideal Reference5Ideal.Gen.facts := fun m g _ =>
  quiet (by decide) (Reference5Ideal.Value.run m g) fun _ _ h => h.2

/-- From the same arguments the kernel and the reference end with the same array. -/
theorem algebraic : @algebraic_Kernel5Ideal_Reference5Ideal Kernel5Ideal.Gen.facts Reference5Ideal.Gen.facts := by
  intro m g m' g' hpre hagree
  refine ⟨_, run_blocks m g, ?_⟩
  refine (θ_run _ _ _).mono (fun r h c => ⟨(h c).1.trans ?_, (h c).2⟩) (Reference5Ideal.Value.run m' g')
  obtain ⟨e0, e1, e2⟩ := hagree c
  rw [e0, e2]
  refine Eq.trans ?_ (final m c).symm
  funext i
  obtain ⟨p, q, rfl⟩ := ex2 (a := 2048) (b := 8192) i
  pointwise [G]
  exact Finset.sum_congr rfl fun k _ => mul_comm _ _

end Cert.Mm5

end
-- ==== Proof.Mm6.lean ====
/- The MLP's hidden layer: the tiled product is the whole product. -/
module

public import proofs.«01_k».proof.Proof.Mm
public import proofs.«01_k».proof.Proof.Gen.Kernel6.Frame
public import proofs.«01_k».proof.Proof.Gen.Kernel6Ideal.Value
public import proofs.«01_k».proof.Proof.Gen.Reference6Ideal.Run

@[expose] public section

noncomputable section

namespace Cert.Mm6

open Idealize.ShloMosaic Idealize.ShloMosaic.TcCoe Idealize.SL.Sem Kernel6Ideal Kernel6Ideal.Gen Kernel6Ideal.Value Mm

variable (m : (ℓ : Loc nD τ sig) → Buf (Elt Ideal) ℓ) (c : Dev nD)

theorem tlt (t : Fin cfg0.N) : t.val < 64 := lt_of_lt_of_eq t.isLt (show cfg0.N = 64 from N_0)

theorem widx0 : ∀ t : Fin cfg0.N, win0_0.index t = ![t.val / 8, 0] := (by decide +kernel : ∀ t : Fin grid0.N, _)
theorem widx1 : ∀ t : Fin cfg0.N, win0_1.index t = ![0, t.val % 8] := (by decide +kernel : ∀ t : Fin grid0.N, _)
theorem widx2 : ∀ t : Fin cfg0.N, win0_2.index t = ![t.val / 8, t.val % 8] := (by decide +kernel : ∀ t : Fin grid0.N, _)
theorem wemb2 (t : Fin cfg0.N) (p : Fin 1024) (l : Fin 1024) : ((cfg0.win 2).blk t).view.emb (ix2 p l) =
    ix2 (⟨t.val / 8 * 1024 + p.val, by have := tlt t; omega⟩ : Fin 8192) (⟨t.val % 8 * 1024 + l.val, by omega⟩ : Fin 8192) := by
  blk_ext [widx2 t]

/-- The first factor. -/
def A : FVec Ideal S8192x2048 .f32 := m ((c : Thread nD τ).loc main_arg0)
/-- The second factor. -/
def B : FVec Ideal S2048x8192 .f32 := m ((c : Thread nD τ).loc main_arg1)

theorem V_main_v0 : V m c main_v0 = truncf .bf16 (A m c) bitsLt_bf16_f32 := by
  show StableHlo.after hostOps0 _ (Proc.devRef .tc main_v0) = _
  after_results <;> rfl
theorem V_main_v1 : V m c main_v1 = truncf .bf16 (B m c) bitsLt_bf16_f32 := by
  show StableHlo.after hostOps0 _ (Proc.devRef .tc main_v1) = _
  after_results <;> rfl
theorem iblk0 (t : Fin cfg0.N) (p : Fin 1024) (l : Fin 2048) : iblk m c 0 t (ix2 p l) =
    A m c (ix2 (⟨t.val / 8 * 1024 + p.val, by have := tlt t; omega⟩ : Fin 8192) (⟨l.val, by omega⟩ : Fin 2048)) := by
  show V m c main_v0 _ = _
  rw [V_main_v0]; exact congrArg (A m c) (by blk_ext [widx0 t])
theorem iblk1 (t : Fin cfg0.N) (p : Fin 2048) (l : Fin 1024) : iblk m c 1 t (ix2 p l) =
    B m c (ix2 (⟨p.val, by omega⟩ : Fin 2048) (⟨t.val % 8 * 1024 + l.val, by omega⟩ : Fin 8192)) := by
  show V m c main_v1 _ = _
  rw [V_main_v1]; exact congrArg (B m c) (by blk_ext [widx1 t])

theorem pay1_apply (x0 : Vec Ideal S1024x2048 .bf16) (x1 : Vec Ideal S2048x1024 .bf16) (p : Fin 1024) (q : Fin 1024) :
    k0_pay1 x0 x1 (ix2 p q) = max (∑ k : Fin 2048, (x0 (ix2 p k) : EReal) * x1 (ix2 k q)) 0 * max (∑ k : Fin 2048, (x0 (ix2 p k) : EReal) * x1 (ix2 k q)) 0 := by
  pointwise [k0_pay1]

/-- The result's entries. -/
def G : FVec Ideal S8192x8192 .bf16 := fun i => max (∑ k : Fin 2048, (A m c (ix2 (i 0 : Fin 8192) k) : EReal) * B m c (ix2 k (i 1 : Fin 8192))) 0 * max (∑ k : Fin 2048, (A m c (ix2 (i 0 : Fin 8192) k) : EReal) * B m c (ix2 k (i 1 : Fin 8192))) 0

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  rw [wemb2, after0_2]
  frame_out
  rw [pay1_apply]
  have e := sum_mul_congr (fun k => iblk0 m c t p k) fun k => iblk1 m c t k q
  exact congrArg (fun z : EReal => max (z) 0 * max (z) 0) e

/-- The reference runs, leaves its arguments as they were and no semaphore counter raised. -/
theorem frame_r : @quiescent_Reference6Ideal Reference6Ideal.Gen.facts := fun m g _ =>
  quiet (by decide) (Reference6Ideal.Value.run m g) fun _ _ h => h.2

/-- From the same arguments the kernel and the reference end with the same array. -/
theorem algebraic : @algebraic_Kernel6Ideal_Reference6Ideal Kernel6Ideal.Gen.facts Reference6Ideal.Gen.facts := by
  intro m g m' g' hpre hagree
  refine ⟨_, run_blocks m g, ?_⟩
  refine (θ_run _ _ _).mono (fun r h c => ⟨(h c).1.trans ?_, (h c).2⟩) (Reference6Ideal.Value.run m' g')
  obtain ⟨e0, e1⟩ := hagree c
  rw [e0, e1]
  refine Eq.trans ?_ (final m c).symm
  funext i
  obtain ⟨p, q, rfl⟩ := ex2 (a := 8192) (b := 8192) i
  pointwise [G]
  rfl

end Cert.Mm6

end
-- ==== Proof.Mm7.lean ====
/- The MLP's second product: the tiled product is the whole product. -/
module

public import proofs.«01_k».proof.Proof.Mm
public import proofs.«01_k».proof.Proof.Gen.Kernel7.Frame
public import proofs.«01_k».proof.Proof.Gen.Kernel7Ideal.Value
public import proofs.«01_k».proof.Proof.Gen.Reference7Ideal.Run

@[expose] public section

noncomputable section

namespace Cert.Mm7

open Idealize.ShloMosaic Idealize.ShloMosaic.TcCoe Idealize.SL.Sem Kernel7Ideal Kernel7Ideal.Gen Kernel7Ideal.Value Mm

variable (m : (ℓ : Loc nD τ sig) → Buf (Elt Ideal) ℓ) (c : Dev nD)

theorem tlt (t : Fin cfg0.N) : t.val < 32 := lt_of_lt_of_eq t.isLt (show cfg0.N = 32 from N_0)

theorem widx0 : ∀ t : Fin cfg0.N, win0_0.index t = ![t.val / 4, t.val % 2] := (by decide +kernel : ∀ t : Fin grid0.N, _)
theorem widx1 : ∀ t : Fin cfg0.N, win0_1.index t = ![t.val % 2, t.val / 2 % 2] := (by decide +kernel : ∀ t : Fin grid0.N, _)
theorem widx2 : ∀ t : Fin cfg0.N, win0_2.index t = ![t.val / 4, t.val / 2 % 2] := (by decide +kernel : ∀ t : Fin grid0.N, _)
theorem wemb2 (t : Fin cfg0.N) (p : Fin 1024) (l : Fin 1024) : ((cfg0.win 2).blk t).view.emb (ix2 p l) =
    ix2 (⟨t.val / 4 * 1024 + p.val, by have := tlt t; omega⟩ : Fin 8192) (⟨t.val / 2 % 2 * 1024 + l.val, by omega⟩ : Fin 2048) := by
  blk_ext [widx2 t]

/-- The first factor. -/
def A : FVec Ideal S8192x8192 .f32 := (mulf (maximumf (Host.dotGeneral dot_S8192x2048_S2048x8192_S8192x8192_1_0_0_1_n_n none (φ₁ := .f32) (φ₂ := .f32) (m ((c : Thread nD τ).loc main_arg0) : FVec Ideal S8192x2048 .f32) (m ((c : Thread nD τ).loc main_arg1) : FVec Ideal S2048x8192 .f32)) (broadcastInDim S8192x8192 ![] bcast_S_S8192x8192 (constant S_ .f32 0x00000000#32))) (maximumf (Host.dotGeneral dot_S8192x2048_S2048x8192_S8192x8192_1_0_0_1_n_n none (φ₁ := .f32) (φ₂ := .f32) (m ((c : Thread nD τ).loc main_arg0) : FVec Ideal S8192x2048 .f32) (m ((c : Thread nD τ).loc main_arg1) : FVec Ideal S2048x8192 .f32)) (broadcastInDim S8192x8192 ![] bcast_S_S8192x8192 (constant S_ .f32 0x00000000#32))))
/-- The second factor. -/
def B : FVec Ideal S8192x2048 .f32 := m ((c : Thread nD τ).loc main_arg2)
/-- What the MLP is applied to, and its first weights. -/
def H : FVec Ideal S8192x2048 .f32 := m ((c : Thread nD τ).loc main_arg0)
def W : FVec Ideal S2048x8192 .f32 := m ((c : Thread nD τ).loc main_arg1)
theorem A_apply (p q : Fin 8192) : A m c (ix2 p q) =
    max (∑ k : Fin 2048, (H m c (ix2 p k) : EReal) * W m c (ix2 k q)) 0 * max (∑ k : Fin 2048, (H m c (ix2 p k) : EReal) * W m c (ix2 k q)) 0 := by
  unfold A
  pointwise
  rfl

theorem V_main_v3 : V m c main_v3 = truncf .bf16 (A m c) bitsLt_bf16_f32 := by
  show StableHlo.after (List.flatten [hostOps0 (F := Ideal), hostOps0_1, hostOps0_2]) _ (Proc.devRef .tc main_v3) = _
  simp only [List.flatten_cons, List.flatten_nil, List.append_nil, List.cons_append, List.nil_append]
  after_results <;> rfl
theorem V_main_v4 : V m c main_v4 = truncf .bf16 (B m c) bitsLt_bf16_f32 := by
  show StableHlo.after (List.flatten [hostOps0 (F := Ideal), hostOps0_1, hostOps0_2]) _ (Proc.devRef .tc main_v4) = _
  simp only [List.flatten_cons, List.flatten_nil, List.append_nil, List.cons_append, List.nil_append]
  after_results <;> rfl
theorem iblk0 (t : Fin cfg0.N) (p : Fin 1024) (l : Fin 4096) : iblk m c 0 t (ix2 p l) =
    A m c (ix2 (⟨t.val / 4 * 1024 + p.val, by have := tlt t; omega⟩ : Fin 8192) (⟨t.val % 2 * 4096 + l.val, by omega⟩ : Fin 8192)) := by
  show V m c main_v3 _ = _
  rw [V_main_v3]; exact congrArg (A m c) (by blk_ext [widx0 t])
theorem iblk1 (t : Fin cfg0.N) (p : Fin 4096) (l : Fin 1024) : iblk m c 1 t (ix2 p l) =
    B m c (ix2 (⟨t.val % 2 * 4096 + p.val, by omega⟩ : Fin 8192) (⟨t.val / 2 % 2 * 1024 + l.val, by omega⟩ : Fin 2048)) := by
  show V m c main_v4 _ = _
  rw [V_main_v4]; exact congrArg (B m c) (by blk_ext [widx1 t])

theorem pay1_apply (x0 : Vec Ideal S1024x4096 .bf16) (x1 : Vec Ideal S4096x1024 .bf16) (p : Fin 1024) (q : Fin 1024) :
    k0_pay1 x0 x1 (ix2 p q) = ∑ k : Fin 4096, (x0 (ix2 p k) : EReal) * x1 (ix2 k q) := by
  pointwise [k0_pay1]
theorem pay2_apply (x0 : Vec Ideal S1024x4096 .bf16) (x1 : Vec Ideal S4096x1024 .bf16) (xo : Vec Ideal S1024x1024 .f32) (p : Fin 1024) (q : Fin 1024) :
    k0_pay2 x0 x1 xo (ix2 p q) = (xo (ix2 p q) : EReal) + ∑ k : Fin 4096, (x0 (ix2 p k) : EReal) * x1 (ix2 k q) := by
  rw [← pay1_apply]; pointwise [k0_pay2]

/-- The result's entries. -/
def G : FVec Ideal S8192x2048 .f32 := fun i => ∑ k : Fin 8192, (A m c (ix2 (i 0 : Fin 8192) k) : EReal) * B m c (ix2 k (i 1 : Fin 2048))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  have h1 : t.val % 2 = 1 := (flush0_2 t).mp hf
  have ht := tlt t
  rw [wemb2, after0_2, outsAt0_B m c t (show ¬t.val % 2 = 0 by omega) (show t.val % 2 = 1 by omega)]
  frame_out
  have hs1 : t.val - 1 < cfg0.N := lt_of_le_of_lt (Nat.sub_le _ _) t.isLt
  have hA1 : outsAt0 m c (t.val - 1) hs1 = k0_pay1 (iblk m c 0 ⟨t.val - 1, hs1⟩) (iblk m c 1 ⟨t.val - 1, hs1⟩) :=
    (outsAt0_A m c ⟨t.val - 1, hs1⟩ (show (t.val - 1) % 2 = 0 by omega) (show ¬(t.val - 1) % 2 = 1 by omega)).trans (by frame_out)
  rw [hA1]
  rw [pay2_apply, pay1_apply]
  show _ = ∑ k : Fin 8192, (A m c (ix2 (⟨t.val / 4 * 1024 + p.val, _⟩ : Fin 8192) k) : EReal) * B m c (ix2 k (⟨t.val / 2 % 2 * 1024 + q.val, _⟩ : Fin 2048))
  rw [sum_two (n := 4096) rfl]
  refine congrArg₂ (· + ·) (sum_mul_congr (fun k => ?_) fun k => ?_) (sum_mul_congr (fun k => ?_) fun k => ?_)
  all_goals (first | rw [iblk0] | rw [iblk1]); congr 2 <;> apply Fin.ext <;> simp only [] <;> omega

/-- The reference runs, leaves its arguments as they were and no semaphore counter raised. -/
theorem frame_r : @quiescent_Reference7Ideal Reference7Ideal.Gen.facts := fun m g _ =>
  quiet (by decide) (Reference7Ideal.Value.run m g) fun _ _ h => h.2

/-- From the same arguments the kernel and the reference end with the same array. -/
theorem algebraic : @algebraic_Kernel7Ideal_Reference7Ideal Kernel7Ideal.Gen.facts Reference7Ideal.Gen.facts := by
  intro m g m' g' hpre hagree
  refine ⟨_, run_blocks m g, ?_⟩
  refine (θ_run _ _ _).mono (fun r h c => ⟨(h c).1.trans ?_, (h c).2⟩) (Reference7Ideal.Value.run m' g')
  obtain ⟨e0, e1, e2⟩ := hagree c
  rw [e0, e1, e2]
  refine Eq.trans ?_ (final m c).symm
  funext i
  obtain ⟨p, q, rfl⟩ := ex2 (a := 8192) (b := 2048) i
  pointwise [G]
  exact Finset.sum_congr rfl fun k _ => by rw [A_apply]; rfl

end Cert.Mm7

end
-- ==== Proof.Mm8.lean ====
/- The gradient of what a mixer multiplies by w_out: the tiled product is the whole product. -/
module

public import proofs.«01_k».proof.Proof.Mm
public import proofs.«01_k».proof.Proof.Gen.Kernel8.Frame
public import proofs.«01_k».proof.Proof.Gen.Kernel8Ideal.Value
public import proofs.«01_k».proof.Proof.Gen.Reference8Ideal.Run

@[expose] public section

noncomputable section

namespace Cert.Mm8

open Idealize.ShloMosaic Idealize.ShloMosaic.TcCoe Idealize.SL.Sem Kernel8Ideal Kernel8Ideal.Gen Kernel8Ideal.Value Mm

variable (m : (ℓ : Loc nD τ sig) → Buf (Elt Ideal) ℓ) (c : Dev nD)

theorem tlt (t : Fin cfg0.N) : t.val < 16 := lt_of_lt_of_eq t.isLt N_0

theorem widx0 : ∀ t : Fin cfg0.N, win0_0.index t = ![t.val / 2, 0] := (by decide +kernel : ∀ t : Fin grid0.N, _)
theorem widx1 : ∀ t : Fin cfg0.N, win0_1.index t = ![t.val % 2, 0] := (by decide +kernel : ∀ t : Fin grid0.N, _)
theorem widx2 : ∀ t : Fin cfg0.N, win0_2.index t = ![t.val / 2, t.val % 2] := (by decide +kernel : ∀ t : Fin grid0.N, _)
theorem wemb2 (t : Fin cfg0.N) (p : Fin 1024) (l : Fin 1024) : ((cfg0.win 2).blk t).view.emb (ix2 p l) =
    ix2 (⟨t.val / 2 * 1024 + p.val, by have := tlt t; omega⟩ : Fin 8192) (⟨t.val % 2 * 1024 + l.val, by omega⟩ : Fin 2048) := by
  blk_ext [widx2 t]

/-- The first factor. -/
def A : FVec Ideal S8192x2048 .f32 := m ((c : Thread nD τ).loc main_arg2)
/-- The second factor. -/
def B : FVec Ideal S2048x2048 .f32 := m ((c : Thread nD τ).loc main_arg1)

theorem V_main_v0 : V m c main_v0 = truncf .bf16 (A m c) bitsLt_bf16_f32 := by
  show StableHlo.after hostOps0 _ (Proc.devRef .tc main_v0) = _
  after_results <;> rfl
theorem V_main_v1 : V m c main_v1 = truncf .bf16 (B m c) bitsLt_bf16_f32 := by
  show StableHlo.after hostOps0 _ (Proc.devRef .tc main_v1) = _
  after_results <;> rfl
theorem iblk0 (t : Fin cfg0.N) (p : Fin 1024) (l : Fin 2048) : iblk m c 0 t (ix2 p l) =
    A m c (ix2 (⟨t.val / 2 * 1024 + p.val, by have := tlt t; omega⟩ : Fin 8192) (⟨l.val, by omega⟩ : Fin 2048)) := by
  show V m c main_v0 _ = _
  rw [V_main_v0]; exact congrArg (A m c) (by blk_ext [widx0 t])
theorem iblk1 (t : Fin cfg0.N) (p : Fin 1024) (l : Fin 2048) : iblk m c 1 t (ix2 p l) =
    B m c (ix2 (⟨t.val % 2 * 1024 + p.val, by omega⟩ : Fin 2048) (⟨l.val, by omega⟩ : Fin 2048)) := by
  show V m c main_v1 _ = _
  rw [V_main_v1]; exact congrArg (B m c) (by blk_ext [widx1 t])

theorem pay1_apply (x0 : Vec Ideal S1024x2048 .bf16) (x1 : Vec Ideal S1024x2048 .bf16) (p : Fin 1024) (q : Fin 1024) :
    k0_pay1 x0 x1 (ix2 p q) = ∑ k : Fin 2048, (x0 (ix2 p k) : EReal) * x1 (ix2 q k) := by
  pointwise [k0_pay1]

/-- The result's entries. -/
def G : FVec Ideal S8192x2048 .f32 := fun i => ∑ k : Fin 2048, (A m c (ix2 (i 0 : Fin 8192) k) : EReal) * B m c (ix2 (i 1 : Fin 2048) k)

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  rw [wemb2, after0_2]
  frame_out
  rw [pay1_apply]
  have e := sum_mul_congr (fun k => iblk0 m c t p k) fun k => iblk1 m c t q k
  exact e

/-- The reference runs, leaves its arguments as they were and no semaphore counter raised. -/
theorem frame_r : @quiescent_Reference8Ideal Reference8Ideal.Gen.facts := fun m g _ =>
  quiet (by decide) (Reference8Ideal.Value.run m g) fun _ _ h => h.2

/-- From the same arguments the kernel and the reference end with the same array. -/
theorem algebraic : @algebraic_Kernel8Ideal_Reference8Ideal Kernel8Ideal.Gen.facts Reference8Ideal.Gen.facts := by
  intro m g m' g' hpre hagree
  refine ⟨_, run_blocks m g, ?_⟩
  refine (θ_run _ _ _).mono (fun r h c => ⟨(h c).1.trans ?_, (h c).2⟩) (Reference8Ideal.Value.run m' g')
  obtain ⟨e0, e1, e2⟩ := hagree c
  rw [e1, e2]
  refine Eq.trans ?_ (final m c).symm
  funext i
  obtain ⟨p, q, rfl⟩ := ex2 (a := 8192) (b := 2048) i
  pointwise [G]
  rfl

end Cert.Mm8

end
-- ==== Proof.Mm9.lean ====
/- The gradient of a mixer's w_out: the tiled product is the whole product. -/
module

public import proofs.«01_k».proof.Proof.Mm
public import proofs.«01_k».proof.Proof.Gen.Kernel9.Frame
public import proofs.«01_k».proof.Proof.Gen.Kernel9Ideal.Value
public import proofs.«01_k».proof.Proof.Gen.Reference9Ideal.Run

@[expose] public section

noncomputable section

namespace Cert.Mm9

open Idealize.ShloMosaic Idealize.ShloMosaic.TcCoe Idealize.SL.Sem Kernel9Ideal Kernel9Ideal.Gen Kernel9Ideal.Value Mm

variable (m : (ℓ : Loc nD τ sig) → Buf (Elt Ideal) ℓ) (c : Dev nD)

theorem tlt (t : Fin cfg0.N) : t.val < 16 := lt_of_lt_of_eq t.isLt N_0

theorem widx0 : ∀ t : Fin cfg0.N, win0_0.index t = ![t.val % 4, t.val / 8] := (by decide +kernel : ∀ t : Fin grid0.N, _)
theorem widx1 : ∀ t : Fin cfg0.N, win0_1.index t = ![t.val % 4, t.val / 4 % 2] := (by decide +kernel : ∀ t : Fin grid0.N, _)
theorem widx2 : ∀ t : Fin cfg0.N, win0_2.index t = ![t.val / 8, t.val / 4 % 2] := (by decide +kernel : ∀ t : Fin grid0.N, _)
theorem wemb2 (t : Fin cfg0.N) (p : Fin 1024) (l : Fin 1024) : ((cfg0.win 2).blk t).view.emb (ix2 p l) =
    ix2 (⟨t.val / 8 * 1024 + p.val, by have := tlt t; omega⟩ : Fin 2048) (⟨t.val / 4 % 2 * 1024 + l.val, by omega⟩ : Fin 2048) := by
  blk_ext [widx2 t]

/-- The first factor. -/
def A : FVec Ideal S8192x2048 .f32 := m ((c : Thread nD τ).loc main_arg0)
/-- The second factor. -/
def B : FVec Ideal S8192x2048 .f32 := m ((c : Thread nD τ).loc main_arg2)

theorem V_main_v0 : V m c main_v0 = truncf .bf16 (A m c) bitsLt_bf16_f32 := by
  show StableHlo.after (hostOps0 (F := Ideal)) _ (Proc.devRef .tc main_v0) = _
  after_results <;> rfl
theorem V_main_v1 : V m c main_v1 = truncf .bf16 (B m c) bitsLt_bf16_f32 := by
  show StableHlo.after (hostOps0 (F := Ideal)) _ (Proc.devRef .tc main_v1) = _
  after_results <;> rfl
theorem iblk0 (t : Fin cfg0.N) (p : Fin 2048) (l : Fin 1024) : iblk m c 0 t (ix2 p l) =
    A m c (ix2 (⟨t.val % 4 * 2048 + p.val, by omega⟩ : Fin 8192) (⟨t.val / 8 * 1024 + l.val, by have := tlt t; omega⟩ : Fin 2048)) := by
  show V m c main_v0 _ = _
  rw [V_main_v0]; exact congrArg (A m c) (by blk_ext [widx0 t])
theorem iblk1 (t : Fin cfg0.N) (p : Fin 2048) (l : Fin 1024) : iblk m c 1 t (ix2 p l) =
    B m c (ix2 (⟨t.val % 4 * 2048 + p.val, by omega⟩ : Fin 8192) (⟨t.val / 4 % 2 * 1024 + l.val, by omega⟩ : Fin 2048)) := by
  show V m c main_v1 _ = _
  rw [V_main_v1]; exact congrArg (B m c) (by blk_ext [widx1 t])

theorem pay1_apply (x0 : Vec Ideal S2048x1024 .bf16) (x1 : Vec Ideal S2048x1024 .bf16) (p : Fin 1024) (q : Fin 1024) :
    k0_pay1 x0 x1 (ix2 p q) = ∑ k : Fin 2048, (x0 (ix2 k p) : EReal) * x1 (ix2 k q) := by
  pointwise [k0_pay1]
theorem pay2_apply (x0 : Vec Ideal S2048x1024 .bf16) (x1 : Vec Ideal S2048x1024 .bf16) (p : Fin 1024) (q : Fin 1024) :
    k0_pay2 x0 x1 (ix2 p q) = ∑ k : Fin 2048, (x0 (ix2 k p) : EReal) * x1 (ix2 k q) := by
  rw [← pay1_apply]; pointwise [k0_pay2]
theorem pay3_apply (x0 : Vec Ideal S2048x1024 .bf16) (x1 : Vec Ideal S2048x1024 .bf16) (xs : Vec Ideal S1024x1024 .f32) (p : Fin 1024) (q : Fin 1024) :
    k0_pay3 x0 x1 xs (ix2 p q) = (xs (ix2 p q) : EReal) + ∑ k : Fin 2048, (x0 (ix2 k p) : EReal) * x1 (ix2 k q) := by
  rw [← pay1_apply]; pointwise [k0_pay3]
theorem pay4_apply (xs : Vec Ideal S1024x1024 .f32) (p : Fin 1024) (q : Fin 1024) : k0_pay4 xs (ix2 p q) = xs (ix2 p q) := by
  pointwise [k0_pay4]

/-- The result's entries. -/
def G : FVec Ideal S2048x2048 .bf16 := fun i => ∑ k : Fin 8192, (A m c (ix2 k (i 0 : Fin 2048)) : EReal) * B m c (ix2 k (i 1 : Fin 2048))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  have h1 : t.val % 4 = 3 := (flush0_2 t).mp hf
  have ht := tlt t
  rw [wemb2, after0_2, outsAt0_C m c t (show ¬t.val % 4 = 0 by omega) (show 1 ≤ t.val % 4 by omega) (show t.val % 4 = 3 by omega)]
  frame_out
  rw [read_unread_whole]
  have hs1 : t.val - 1 < cfg0.N := lt_of_le_of_lt (Nat.sub_le _ _) t.isLt
  have hA1 : (outsAt0 m c (t.val - 1) hs1).2 = k0_pay3 (iblk m c 0 ⟨t.val - 1, hs1⟩) (iblk m c 1 ⟨t.val - 1, hs1⟩) (outsAt0 m c (t.val - 1 - 1) (Nat.lt_of_le_of_lt (Nat.sub_le _ _) hs1)).2 :=
    (congrArg Prod.snd (outsAt0_B m c ⟨t.val - 1, hs1⟩ (show ¬(t.val - 1) % 4 = 0 by omega) (show 1 ≤ (t.val - 1) % 4 by omega) (show ¬(t.val - 1) % 4 = 3 by omega))).trans (by frame_out; rw [read_unread_whole])
  rw [hA1]
  have hs2 : t.val - 1 - 1 < cfg0.N := lt_of_le_of_lt (Nat.sub_le _ _) hs1
  have hA2 : (outsAt0 m c (t.val - 1 - 1) hs2).2 = k0_pay3 (iblk m c 0 ⟨t.val - 1 - 1, hs2⟩) (iblk m c 1 ⟨t.val - 1 - 1, hs2⟩) (outsAt0 m c (t.val - 1 - 1 - 1) (Nat.lt_of_le_of_lt (Nat.sub_le _ _) hs2)).2 :=
    (congrArg Prod.snd (outsAt0_B m c ⟨t.val - 1 - 1, hs2⟩ (show ¬(t.val - 1 - 1) % 4 = 0 by omega) (show 1 ≤ (t.val - 1 - 1) % 4 by omega) (show ¬(t.val - 1 - 1) % 4 = 3 by omega))).trans (by frame_out; rw [read_unread_whole])
  rw [hA2]
  have hs3 : t.val - 1 - 1 - 1 < cfg0.N := lt_of_le_of_lt (Nat.sub_le _ _) hs2
  have hA3 : (outsAt0 m c (t.val - 1 - 1 - 1) hs3).2 = k0_pay2 (iblk m c 0 ⟨t.val - 1 - 1 - 1, hs3⟩) (iblk m c 1 ⟨t.val - 1 - 1 - 1, hs3⟩) :=
    (congrArg Prod.snd (outsAt0_A m c ⟨t.val - 1 - 1 - 1, hs3⟩ (show (t.val - 1 - 1 - 1) % 4 = 0 by omega) (show ¬1 ≤ (t.val - 1 - 1 - 1) % 4 by omega) (show ¬(t.val - 1 - 1 - 1) % 4 = 3 by omega))).trans (by frame_out)
  rw [hA3]
  rw [pay4_apply, pay3_apply, pay3_apply, pay3_apply, pay2_apply]
  show _ = ∑ k : Fin 8192, (A m c (ix2 k (⟨t.val / 8 * 1024 + p.val, _⟩ : Fin 2048)) : EReal) * B m c (ix2 k (⟨t.val / 4 % 2 * 1024 + q.val, _⟩ : Fin 2048))
  rw [sum_four (n := 2048) rfl]
  refine congrArg₂ (· + ·) (congrArg₂ (· + ·) (congrArg₂ (· + ·) (sum_mul_congr (fun k => ?_) fun k => ?_) (sum_mul_congr (fun k => ?_) fun k => ?_)) (sum_mul_congr (fun k => ?_) fun k => ?_)) (sum_mul_congr (fun k => ?_) fun k => ?_)
  all_goals (first | rw [iblk0] | rw [iblk1]); congr 2 <;> apply Fin.ext <;> simp only [] <;> omega

/-- The reference runs, leaves its arguments as they were and no semaphore counter raised. -/
theorem frame_r : @quiescent_Reference9Ideal Reference9Ideal.Gen.facts := fun m g _ =>
  quiet (by decide) (Reference9Ideal.Value.run m g) fun _ _ h => h.2

/-- From the same arguments the kernel and the reference end with the same array. -/
theorem algebraic : @algebraic_Kernel9Ideal_Reference9Ideal Kernel9Ideal.Gen.facts Reference9Ideal.Gen.facts := by
  intro m g m' g' hpre hagree
  refine ⟨_, run_blocks m g, ?_⟩
  refine (θ_run _ _ _).mono (fun r h c => ⟨(h c).1.trans ?_, (h c).2⟩) (Reference9Ideal.Value.run m' g')
  obtain ⟨e0, e1, e2⟩ := hagree c
  rw [e0, e2]
  refine Eq.trans ?_ (final m c).symm
  funext i
  obtain ⟨p, q, rfl⟩ := ex2 (a := 2048) (b := 2048) i
  pointwise [G]
  exact Finset.sum_congr rfl fun k _ => mul_comm _ _

end Cert.Mm9

end
-- ==== Proof.Mm10.lean ====
/- A mixer's last product: the tiled product is the whole product. -/
module

public import proofs.«01_k».proof.Proof.Mm
public import proofs.«01_k».proof.Proof.Gen.Kernel10.Frame
public import proofs.«01_k».proof.Proof.Gen.Kernel10Ideal.Value
public import proofs.«01_k».proof.Proof.Gen.Reference10Ideal.Run

@[expose] public section

noncomputable section

namespace Cert.Mm10

open Idealize.ShloMosaic Idealize.ShloMosaic.TcCoe Idealize.SL.Sem Kernel10Ideal Kernel10Ideal.Gen Kernel10Ideal.Value Mm

variable (m : (ℓ : Loc nD τ sig) → Buf (Elt Ideal) ℓ) (c : Dev nD)

theorem tlt (t : Fin cfg0.N) : t.val < 16 := lt_of_lt_of_eq t.isLt N_0

theorem widx0 : ∀ t : Fin cfg0.N, win0_0.index t = ![t.val / 2, 0] := (by decide +kernel : ∀ t : Fin grid0.N, _)
theorem widx1 : ∀ t : Fin cfg0.N, win0_1.index t = ![0, t.val % 2] := (by decide +kernel : ∀ t : Fin grid0.N, _)
theorem widx2 : ∀ t : Fin cfg0.N, win0_2.index t = ![t.val / 2, t.val % 2] := (by decide +kernel : ∀ t : Fin grid0.N, _)
theorem wemb2 (t : Fin cfg0.N) (p : Fin 1024) (l : Fin 1024) : ((cfg0.win 2).blk t).view.emb (ix2 p l) =
    ix2 (⟨t.val / 2 * 1024 + p.val, by have := tlt t; omega⟩ : Fin 8192) (⟨t.val % 2 * 1024 + l.val, by omega⟩ : Fin 2048) := by
  blk_ext [widx2 t]

/-- The first factor. -/
def A : FVec Ideal S8192x2048 .f32 := m ((c : Thread nD τ).loc main_arg0)
/-- The second factor. -/
def B : FVec Ideal S2048x2048 .f32 := m ((c : Thread nD τ).loc main_arg1)

theorem V_main_v0 : V m c main_v0 = truncf .bf16 (A m c) bitsLt_bf16_f32 := by
  show StableHlo.after (hostOps0 (F := Ideal)) _ (Proc.devRef .tc main_v0) = _
  after_results <;> rfl
theorem V_main_v1 : V m c main_v1 = truncf .bf16 (B m c) bitsLt_bf16_f32 := by
  show StableHlo.after (hostOps0 (F := Ideal)) _ (Proc.devRef .tc main_v1) = _
  after_results <;> rfl
theorem iblk0 (t : Fin cfg0.N) (p : Fin 1024) (l : Fin 2048) : iblk m c 0 t (ix2 p l) =
    A m c (ix2 (⟨t.val / 2 * 1024 + p.val, by have := tlt t; omega⟩ : Fin 8192) (⟨l.val, by omega⟩ : Fin 2048)) := by
  show V m c main_v0 _ = _
  rw [V_main_v0]; exact congrArg (A m c) (by blk_ext [widx0 t])
theorem iblk1 (t : Fin cfg0.N) (p : Fin 2048) (l : Fin 1024) : iblk m c 1 t (ix2 p l) =
    B m c (ix2 (⟨p.val, by omega⟩ : Fin 2048) (⟨t.val % 2 * 1024 + l.val, by omega⟩ : Fin 2048)) := by
  show V m c main_v1 _ = _
  rw [V_main_v1]; exact congrArg (B m c) (by blk_ext [widx1 t])

theorem pay1_apply (x0 : Vec Ideal S1024x2048 .bf16) (x1 : Vec Ideal S2048x1024 .bf16) (p : Fin 1024) (q : Fin 1024) :
    k0_pay1 x0 x1 (ix2 p q) = ∑ k : Fin 2048, (x0 (ix2 p k) : EReal) * x1 (ix2 k q) := by
  pointwise [k0_pay1]

/-- The result's entries. -/
def G : FVec Ideal S8192x2048 .f32 := fun i => ∑ k : Fin 2048, (A m c (ix2 (i 0 : Fin 8192) k) : EReal) * B m c (ix2 k (i 1 : Fin 2048))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  rw [wemb2, after0_2]
  frame_out
  rw [pay1_apply]
  have e := sum_mul_congr (fun k => iblk0 m c t p k) fun k => iblk1 m c t k q
  exact e

/-- The reference runs, leaves its arguments as they were and no semaphore counter raised. -/
theorem frame_r : @quiescent_Reference10Ideal Reference10Ideal.Gen.facts := fun m g _ =>
  quiet (by decide) (Reference10Ideal.Value.run m g) fun _ _ h => h.2

/-- From the same arguments the kernel and the reference end with the same array. -/
theorem algebraic : @algebraic_Kernel10Ideal_Reference10Ideal Kernel10Ideal.Gen.facts Reference10Ideal.Gen.facts := by
  intro m g m' g' hpre hagree
  refine ⟨_, run_blocks m g, ?_⟩
  refine (θ_run _ _ _).mono (fun r h c => ⟨(h c).1.trans ?_, (h c).2⟩) (Reference10Ideal.Value.run m' g')
  obtain ⟨e0, e1⟩ := hagree c
  rw [e0, e1]
  refine Eq.trans ?_ (final m c).symm
  funext i
  obtain ⟨p, q, rfl⟩ := ex2 (a := 8192) (b := 2048) i
  pointwise [G]
  rfl

end Cert.Mm10

end
-- ==== Proof.Mm11.lean ====
/- The gradient of the odd mixer's input: the tiled product is the whole product. -/
module

public import proofs.«01_k».proof.Proof.Mm
public import proofs.«01_k».proof.Proof.Gen.Kernel11.Frame
public import proofs.«01_k».proof.Proof.Gen.Kernel11Ideal.Value
public import proofs.«01_k».proof.Proof.Gen.Reference11Ideal.Run

@[expose] public section

noncomputable section

namespace Cert.Mm11

open Idealize.ShloMosaic Idealize.ShloMosaic.TcCoe Idealize.SL.Sem Kernel11Ideal Kernel11Ideal.Gen Kernel11Ideal.Value Mm

variable (m : (ℓ : Loc nD τ sig) → Buf (Elt Ideal) ℓ) (c : Dev nD)

theorem tlt (t : Fin cfg0.N) : t.val < 16 := lt_of_lt_of_eq t.isLt N_0

theorem widx0 : ∀ t : Fin cfg0.N, win0_0.index t = ![t.val / 2, 0] := (by decide +kernel : ∀ t : Fin grid0.N, _)
theorem widx1 : ∀ t : Fin cfg0.N, win0_1.index t = ![t.val % 2, 0] := (by decide +kernel : ∀ t : Fin grid0.N, _)
theorem widx2 : ∀ t : Fin cfg0.N, win0_2.index t = ![t.val / 2, t.val % 2] := (by decide +kernel : ∀ t : Fin grid0.N, _)
theorem wemb2 (t : Fin cfg0.N) (p : Fin 1024) (l : Fin 1024) : ((cfg0.win 2).blk t).view.emb (ix2 p l) =
    ix2 (⟨t.val / 2 * 1024 + p.val, by have := tlt t; omega⟩ : Fin 8192) (⟨t.val % 2 * 1024 + l.val, by omega⟩ : Fin 2048) := by
  blk_ext [widx2 t]

/-- The first factor. -/
def A : FVec Ideal S8192x4096 .f32 := m ((c : Thread nD τ).loc main_arg2)
/-- The second factor. -/
def B : FVec Ideal S2048x4096 .f32 := m ((c : Thread nD τ).loc main_arg1)

theorem V_main_v0 : V m c main_v0 = truncf .bf16 (A m c) bitsLt_bf16_f32 := by
  show StableHlo.after (hostOps0 (F := Ideal)) _ (Proc.devRef .tc main_v0) = _
  after_results <;> rfl
theorem V_main_v1 : V m c main_v1 = truncf .bf16 (B m c) bitsLt_bf16_f32 := by
  show StableHlo.after (hostOps0 (F := Ideal)) _ (Proc.devRef .tc main_v1) = _
  after_results <;> rfl
theorem iblk0 (t : Fin cfg0.N) (p : Fin 1024) (l : Fin 4096) : iblk m c 0 t (ix2 p l) =
    A m c (ix2 (⟨t.val / 2 * 1024 + p.val, by have := tlt t; omega⟩ : Fin 8192) (⟨l.val, by omega⟩ : Fin 4096)) := by
  show V m c main_v0 _ = _
  rw [V_main_v0]; exact congrArg (A m c) (by blk_ext [widx0 t])
theorem iblk1 (t : Fin cfg0.N) (p : Fin 1024) (l : Fin 4096) : iblk m c 1 t (ix2 p l) =
    B m c (ix2 (⟨t.val % 2 * 1024 + p.val, by omega⟩ : Fin 2048) (⟨l.val, by omega⟩ : Fin 4096)) := by
  show V m c main_v1 _ = _
  rw [V_main_v1]; exact congrArg (B m c) (by blk_ext [widx1 t])

theorem pay1_apply (x0 : Vec Ideal S1024x4096 .bf16) (x1 : Vec Ideal S1024x4096 .bf16) (p : Fin 1024) (q : Fin 1024) :
    k0_pay1 x0 x1 (ix2 p q) = ∑ k : Fin 4096, (x0 (ix2 p k) : EReal) * x1 (ix2 q k) := by
  pointwise [k0_pay1]

/-- The result's entries. -/
def G : FVec Ideal S8192x2048 .f32 := fun i => ∑ k : Fin 4096, (A m c (ix2 (i 0 : Fin 8192) k) : EReal) * B m c (ix2 (i 1 : Fin 2048) k)

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  rw [wemb2, after0_2]
  frame_out
  rw [pay1_apply]
  have e := sum_mul_congr (fun k => iblk0 m c t p k) fun k => iblk1 m c t q k
  exact e

/-- The reference runs, leaves its arguments as they were and no semaphore counter raised. -/
theorem frame_r : @quiescent_Reference11Ideal Reference11Ideal.Gen.facts := fun m g _ =>
  quiet (by decide) (Reference11Ideal.Value.run m g) fun _ _ h => h.2

/-- From the same arguments the kernel and the reference end with the same array. -/
theorem algebraic : @algebraic_Kernel11Ideal_Reference11Ideal Kernel11Ideal.Gen.facts Reference11Ideal.Gen.facts := by
  intro m g m' g' hpre hagree
  refine ⟨_, run_blocks m g, ?_⟩
  refine (θ_run _ _ _).mono (fun r h c => ⟨(h c).1.trans ?_, (h c).2⟩) (Reference11Ideal.Value.run m' g')
  obtain ⟨e0, e1, e2⟩ := hagree c
  rw [e1, e2]
  refine Eq.trans ?_ (final m c).symm
  funext i
  obtain ⟨p, q, rfl⟩ := ex2 (a := 8192) (b := 2048) i
  pointwise [G]
  rfl

end Cert.Mm11

end
-- ==== Proof.Mm12.lean ====
/- The gradient of the odd mixer's w_in: the tiled product is the whole product. -/
module

public import proofs.«01_k».proof.Proof.Mm
public import proofs.«01_k».proof.Proof.Gen.Kernel12.Frame
public import proofs.«01_k».proof.Proof.Gen.Kernel12Ideal.Value
public import proofs.«01_k».proof.Proof.Gen.Reference12Ideal.Run

@[expose] public section

noncomputable section

namespace Cert.Mm12

open Idealize.ShloMosaic Idealize.ShloMosaic.TcCoe Idealize.SL.Sem Kernel12Ideal Kernel12Ideal.Gen Kernel12Ideal.Value Mm

variable (m : (ℓ : Loc nD τ sig) → Buf (Elt Ideal) ℓ) (c : Dev nD)

theorem tlt (t : Fin cfg0.N) : t.val < 16 := lt_of_lt_of_eq t.isLt N_0

theorem widx0 : ∀ t : Fin cfg0.N, win0_0.index t = ![t.val % 2, t.val / 8] := (by decide +kernel : ∀ t : Fin grid0.N, _)
theorem widx1 : ∀ t : Fin cfg0.N, win0_1.index t = ![t.val % 2, t.val / 2 % 4] := (by decide +kernel : ∀ t : Fin grid0.N, _)
theorem widx2 : ∀ t : Fin cfg0.N, win0_2.index t = ![t.val / 8, t.val / 2 % 4] := (by decide +kernel : ∀ t : Fin grid0.N, _)
theorem wemb2 (t : Fin cfg0.N) (p : Fin 1024) (l : Fin 1024) : ((cfg0.win 2).blk t).view.emb (ix2 p l) =
    ix2 (⟨t.val / 8 * 1024 + p.val, by have := tlt t; omega⟩ : Fin 2048) (⟨t.val / 2 % 4 * 1024 + l.val, by omega⟩ : Fin 4096) := by
  blk_ext [widx2 t]

/-- The first factor. -/
def A : FVec Ideal S8192x2048 .f32 := m ((c : Thread nD τ).loc main_arg0)
/-- The second factor. -/
def B : FVec Ideal S8192x4096 .f32 := m ((c : Thread nD τ).loc main_arg2)

theorem V_main_v0 : V m c main_v0 = truncf .bf16 (A m c) bitsLt_bf16_f32 := by
  show StableHlo.after (hostOps0 (F := Ideal)) _ (Proc.devRef .tc main_v0) = _
  after_results <;> rfl
theorem V_main_v1 : V m c main_v1 = truncf .bf16 (B m c) bitsLt_bf16_f32 := by
  show StableHlo.after (hostOps0 (F := Ideal)) _ (Proc.devRef .tc main_v1) = _
  after_results <;> rfl
theorem iblk0 (t : Fin cfg0.N) (p : Fin 4096) (l : Fin 1024) : iblk m c 0 t (ix2 p l) =
    A m c (ix2 (⟨t.val % 2 * 4096 + p.val, by omega⟩ : Fin 8192) (⟨t.val / 8 * 1024 + l.val, by have := tlt t; omega⟩ : Fin 2048)) := by
  show V m c main_v0 _ = _
  rw [V_main_v0]; exact congrArg (A m c) (by blk_ext [widx0 t])
theorem iblk1 (t : Fin cfg0.N) (p : Fin 4096) (l : Fin 1024) : iblk m c 1 t (ix2 p l) =
    B m c (ix2 (⟨t.val % 2 * 4096 + p.val, by omega⟩ : Fin 8192) (⟨t.val / 2 % 4 * 1024 + l.val, by omega⟩ : Fin 4096)) := by
  show V m c main_v1 _ = _
  rw [V_main_v1]; exact congrArg (B m c) (by blk_ext [widx1 t])

theorem pay1_apply (x0 : Vec Ideal S4096x1024 .bf16) (x1 : Vec Ideal S4096x1024 .bf16) (p : Fin 1024) (q : Fin 1024) :
    k0_pay1 x0 x1 (ix2 p q) = ∑ k : Fin 4096, (x0 (ix2 k p) : EReal) * x1 (ix2 k q) := by
  pointwise [k0_pay1]
theorem pay2_apply (x0 : Vec Ideal S4096x1024 .bf16) (x1 : Vec Ideal S4096x1024 .bf16) (p : Fin 1024) (q : Fin 1024) :
    k0_pay2 x0 x1 (ix2 p q) = ∑ k : Fin 4096, (x0 (ix2 k p) : EReal) * x1 (ix2 k q) := by
  rw [← pay1_apply]; pointwise [k0_pay2]
theorem pay3_apply (x0 : Vec Ideal S4096x1024 .bf16) (x1 : Vec Ideal S4096x1024 .bf16) (xs : Vec Ideal S1024x1024 .f32) (p : Fin 1024) (q : Fin 1024) :
    k0_pay3 x0 x1 xs (ix2 p q) = (xs (ix2 p q) : EReal) + ∑ k : Fin 4096, (x0 (ix2 k p) : EReal) * x1 (ix2 k q) := by
  rw [← pay1_apply]; pointwise [k0_pay3]
theorem pay4_apply (xs : Vec Ideal S1024x1024 .f32) (p : Fin 1024) (q : Fin 1024) : k0_pay4 xs (ix2 p q) = xs (ix2 p q) := by
  pointwise [k0_pay4]

/-- The result's entries. -/
def G : FVec Ideal S2048x4096 .bf16 := fun i => ∑ k : Fin 8192, (A m c (ix2 k (i 0 : Fin 2048)) : EReal) * B m c (ix2 k (i 1 : Fin 4096))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  have h1 : t.val % 2 = 1 := (flush0_2 t).mp hf
  have ht := tlt t
  rw [wemb2, after0_2, outsAt0_B m c t (show ¬t.val % 2 = 0 by omega) (show t.val % 2 = 1 by omega) (show t.val % 2 = 1 by omega)]
  frame_out
  rw [read_unread_whole]
  have hs1 : t.val - 1 < cfg0.N := lt_of_le_of_lt (Nat.sub_le _ _) t.isLt
  have hA1 : (outsAt0 m c (t.val - 1) hs1).2 = k0_pay2 (iblk m c 0 ⟨t.val - 1, hs1⟩) (iblk m c 1 ⟨t.val - 1, hs1⟩) :=
    (congrArg Prod.snd (outsAt0_A m c ⟨t.val - 1, hs1⟩ (show (t.val - 1) % 2 = 0 by omega) (show ¬(t.val - 1) % 2 = 1 by omega) (show ¬(t.val - 1) % 2 = 1 by omega))).trans (by frame_out)
  rw [hA1]
  rw [pay4_apply, pay3_apply, pay2_apply]
  show _ = ∑ k : Fin 8192, (A m c (ix2 k (⟨t.val / 8 * 1024 + p.val, _⟩ : Fin 2048)) : EReal) * B m c (ix2 k (⟨t.val / 2 % 4 * 1024 + q.val, _⟩ : Fin 4096))
  rw [sum_two (n := 4096) rfl]
  refine congrArg₂ (· + ·) (sum_mul_congr (fun k => ?_) fun k => ?_) (sum_mul_congr (fun k => ?_) fun k => ?_)
  all_goals (first | rw [iblk0] | rw [iblk1]); congr 2 <;> apply Fin.ext <;> simp only [] <;> omega

/-- The reference runs, leaves its arguments as they were and no semaphore counter raised. -/
theorem frame_r : @quiescent_Reference12Ideal Reference12Ideal.Gen.facts := fun m g _ =>
  quiet (by decide) (Reference12Ideal.Value.run m g) fun _ _ h => h.2

/-- From the same arguments the kernel and the reference end with the same array. -/
theorem algebraic : @algebraic_Kernel12Ideal_Reference12Ideal Kernel12Ideal.Gen.facts Reference12Ideal.Gen.facts := by
  intro m g m' g' hpre hagree
  refine ⟨_, run_blocks m g, ?_⟩
  refine (θ_run _ _ _).mono (fun r h c => ⟨(h c).1.trans ?_, (h c).2⟩) (Reference12Ideal.Value.run m' g')
  obtain ⟨e0, e1, e2⟩ := hagree c
  rw [e0, e2]
  refine Eq.trans ?_ (final m c).symm
  funext i
  obtain ⟨p, q, rfl⟩ := ex2 (a := 2048) (b := 4096) i
  pointwise [G]
  exact Finset.sum_congr rfl fun k _ => mul_comm _ _

end Cert.Mm12

end
-- ==== Proof.Mm13.lean ====
/- The odd mixer's first product: the tiled product is the whole product. -/
module

public import proofs.«01_k».proof.Proof.Mm
public import proofs.«01_k».proof.Proof.Gen.Kernel13.Frame
public import proofs.«01_k».proof.Proof.Gen.Kernel13Ideal.Value
public import proofs.«01_k».proof.Proof.Gen.Reference13Ideal.Run

@[expose] public section

noncomputable section

namespace Cert.Mm13

open Idealize.ShloMosaic Idealize.ShloMosaic.TcCoe Idealize.SL.Sem Kernel13Ideal Kernel13Ideal.Gen Kernel13Ideal.Value Mm

variable (m : (ℓ : Loc nD τ sig) → Buf (Elt Ideal) ℓ) (c : Dev nD)

theorem tlt (t : Fin cfg0.N) : t.val < 32 := lt_of_lt_of_eq t.isLt (show cfg0.N = 32 from N_0)

theorem widx0 : ∀ t : Fin cfg0.N, win0_0.index t = ![t.val / 4, 0] := (by decide +kernel : ∀ t : Fin grid0.N, _)
theorem widx1 : ∀ t : Fin cfg0.N, win0_1.index t = ![0, t.val % 4] := (by decide +kernel : ∀ t : Fin grid0.N, _)
theorem widx2 : ∀ t : Fin cfg0.N, win0_2.index t = ![t.val / 4, t.val % 4] := (by decide +kernel : ∀ t : Fin grid0.N, _)
theorem wemb2 (t : Fin cfg0.N) (p : Fin 1024) (l : Fin 1024) : ((cfg0.win 2).blk t).view.emb (ix2 p l) =
    ix2 (⟨t.val / 4 * 1024 + p.val, by have := tlt t; omega⟩ : Fin 8192) (⟨t.val % 4 * 1024 + l.val, by omega⟩ : Fin 4096) := by
  blk_ext [widx2 t]

/-- The first factor. -/
def A : FVec Ideal S8192x2048 .f32 := m ((c : Thread nD τ).loc main_arg0)
/-- The second factor. -/
def B : FVec Ideal S2048x4096 .f32 := m ((c : Thread nD τ).loc main_arg1)

theorem V_main_v0 : V m c main_v0 = truncf .bf16 (A m c) bitsLt_bf16_f32 := by
  show StableHlo.after (hostOps0 (F := Ideal)) _ (Proc.devRef .tc main_v0) = _
  after_results <;> rfl
theorem V_main_v1 : V m c main_v1 = truncf .bf16 (B m c) bitsLt_bf16_f32 := by
  show StableHlo.after (hostOps0 (F := Ideal)) _ (Proc.devRef .tc main_v1) = _
  after_results <;> rfl
theorem iblk0 (t : Fin cfg0.N) (p : Fin 1024) (l : Fin 2048) : iblk m c 0 t (ix2 p l) =
    A m c (ix2 (⟨t.val / 4 * 1024 + p.val, by have := tlt t; omega⟩ : Fin 8192) (⟨l.val, by omega⟩ : Fin 2048)) := by
  show V m c main_v0 _ = _
  rw [V_main_v0]; exact congrArg (A m c) (by blk_ext [widx0 t])
theorem iblk1 (t : Fin cfg0.N) (p : Fin 2048) (l : Fin 1024) : iblk m c 1 t (ix2 p l) =
    B m c (ix2 (⟨p.val, by omega⟩ : Fin 2048) (⟨t.val % 4 * 1024 + l.val, by omega⟩ : Fin 4096)) := by
  show V m c main_v1 _ = _
  rw [V_main_v1]; exact congrArg (B m c) (by blk_ext [widx1 t])

theorem pay1_apply (x0 : Vec Ideal S1024x2048 .bf16) (x1 : Vec Ideal S2048x1024 .bf16) (p : Fin 1024) (q : Fin 1024) :
    k0_pay1 x0 x1 (ix2 p q) = ∑ k : Fin 2048, (x0 (ix2 p k) : EReal) * x1 (ix2 k q) := by
  pointwise [k0_pay1]

/-- The result's entries. -/
def G : FVec Ideal S8192x4096 .f32 := fun i => ∑ k : Fin 2048, (A m c (ix2 (i 0 : Fin 8192) k) : EReal) * B m c (ix2 k (i 1 : Fin 4096))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  rw [wemb2, after0_2]
  frame_out
  rw [pay1_apply]
  have e := sum_mul_congr (fun k => iblk0 m c t p k) fun k => iblk1 m c t k q
  exact e

/-- The reference runs, leaves its arguments as they were and no semaphore counter raised. -/
theorem frame_r : @quiescent_Reference13Ideal Reference13Ideal.Gen.facts := fun m g _ =>
  quiet (by decide) (Reference13Ideal.Value.run m g) fun _ _ h => h.2

/-- From the same arguments the kernel and the reference end with the same array. -/
theorem algebraic : @algebraic_Kernel13Ideal_Reference13Ideal Kernel13Ideal.Gen.facts Reference13Ideal.Gen.facts := by
  intro m g m' g' hpre hagree
  refine ⟨_, run_blocks m g, ?_⟩
  refine (θ_run _ _ _).mono (fun r h c => ⟨(h c).1.trans ?_, (h c).2⟩) (Reference13Ideal.Value.run m' g')
  obtain ⟨e0, e1⟩ := hagree c
  rw [e0, e1]
  refine Eq.trans ?_ (final m c).symm
  funext i
  obtain ⟨p, q, rfl⟩ := ex2 (a := 8192) (b := 4096) i
  pointwise [G]
  rfl

end Cert.Mm13

end
-- ==== Proof.Lay.lean ====
/- The columns of the even mixer's first product, in the order the kernel has them. -/
module

public import Idealize.ShloMosaic.Lib.Pointwise

@[expose] public section

noncomputable section

namespace Cert.Lay

open Idealize.ShloMosaic

/-- A row of 5136 entries as the kernel lays it out: the first 4096, the last 1024, the 16 between them, and zeros. -/
def lay (f : Fin 5136 → EReal) (q : Fin 5376) : EReal :=
  if h : q.val < 4096 then f ⟨q.val, by omega⟩
  else if h' : q.val < 5120 then f ⟨q.val + 16, by omega⟩
  else if h'' : q.val < 5136 then f ⟨q.val - 1024, by omega⟩
  else 0

/-- The same, by the pieces it is put together from. -/
theorem lay_eq (f : Fin 5136 → EReal) (q : Fin 5376) :
    (if h : q.val < 4096 then f ⟨q.val, by omega⟩
      else if h' : q.val - 4096 < 1024 then f ⟨4112 + (q.val - 4096), by omega⟩
      else if h'' : q.val - 4096 - 1024 < 16 then f ⟨4096 + (q.val - 4096 - 1024), by omega⟩
      else 0) = lay f q := by
  unfold lay
  have := q.isLt
  split_ifs <;> first | (exfalso; omega) | exact congrArg f (Fin.ext (by simp only []; omega)) | with_reducible rfl

/-- A product with rows laid out is the product with the rows, laid out. -/
theorem sum_lay {n : ℕ} (a : Fin n → EReal) (f : Fin n → Fin 5136 → EReal) (q : Fin 5376) :
    ∑ k, a k * lay (f k) q = lay (fun j => ∑ k, a k * f k j) q := by
  unfold lay
  split_ifs <;> simp

/-- A sum over places cut in two. -/
theorem sum_cut {N a b : ℕ} (h : N = a + b) (f : Fin N → EReal) :
    ∑ k, f k = (∑ k : Fin a, f ⟨k.val, by omega⟩) + ∑ k : Fin b, f ⟨a + k.val, by omega⟩ := by
  subst h
  exact Fin.sum_univ_add f

/-- The product of two rows does not depend on the order of the columns, nor on zeros after them. -/
theorem sum_lay_lay (f g : Fin 5136 → EReal) : ∑ k, lay f k * lay g k = ∑ k, f k * g k := by
  rw [sum_cut (a := 4096) (b := 1280) rfl, sum_cut (a := 1024) (b := 256) rfl (fun k : Fin 1280 => _),
    sum_cut (a := 16) (b := 240) rfl (fun k : Fin 256 => _),
    sum_cut (N := 5136) (a := 4096) (b := 1040) rfl, sum_cut (a := 16) (b := 1024) rfl (fun k : Fin 1040 => _)]
  have e0 : ∀ k : Fin 4096, ∀ f, lay f ⟨k.val, by omega⟩ = f ⟨k.val, by omega⟩ := fun k f => by
    unfold lay; rw [dif_pos k.isLt]
  have e1 : ∀ k : Fin 1024, ∀ f, lay f ⟨4096 + k.val, by omega⟩ = f ⟨4096 + (16 + k.val), by omega⟩ := fun k f => by
    unfold lay; rw [dif_neg (by simp), dif_pos (by simp only []; omega)]; exact congrArg f (Fin.ext (by simp only []; omega))
  have e2 : ∀ k : Fin 16, ∀ f, lay f ⟨4096 + (1024 + k.val), by omega⟩ = f ⟨4096 + k.val, by omega⟩ := fun k f => by
    unfold lay; rw [dif_neg (by simp), dif_neg (by simp only []; omega), dif_pos (by simp only []; omega)]; exact congrArg f (Fin.ext (by simp only []; omega))
  have e3 : ∀ k : Fin 240, ∀ f, lay f ⟨4096 + (1024 + (16 + k.val)), by omega⟩ = 0 := fun k f => by
    unfold lay; rw [dif_neg (by simp), dif_neg (by simp only []; omega), dif_neg (by simp only []; omega)]
  simp only [e0, e1, e2, e3, mul_zero, Finset.sum_const_zero, add_zero]
  rw [add_comm (∑ k : Fin 1024, _)]

end Cert.Lay

end
-- ==== Proof.Mm14.lean ====
/- The gradient of the even mixer's input: the tiled product is the whole product. -/
module

public import proofs.«01_k».proof.Proof.Mm
public import proofs.«01_k».proof.Proof.Lay
public import proofs.«01_k».proof.Proof.Gen.Kernel14.Frame
public import proofs.«01_k».proof.Proof.Gen.Kernel14Ideal.Value
public import proofs.«01_k».proof.Proof.Gen.Reference14Ideal.Run

@[expose] public section

noncomputable section

namespace Cert.Mm14

open Idealize.ShloMosaic Idealize.ShloMosaic.TcCoe Idealize.SL.Sem Kernel14Ideal Kernel14Ideal.Gen Kernel14Ideal.Value Mm Lay

variable (m : (ℓ : Loc nD τ sig) → Buf (Elt Ideal) ℓ) (c : Dev nD)

theorem tlt (t : Fin cfg0.N) : t.val < 32 := lt_of_lt_of_eq t.isLt (show cfg0.N = 32 from N_0)

theorem widx0 : ∀ t : Fin cfg0.N, win0_0.index t = ![t.val / 4, t.val % 2] := (by decide +kernel : ∀ t : Fin grid0.N, _)
theorem widx1 : ∀ t : Fin cfg0.N, win0_1.index t = ![t.val / 2 % 2, t.val % 2] := (by decide +kernel : ∀ t : Fin grid0.N, _)
theorem widx2 : ∀ t : Fin cfg0.N, win0_2.index t = ![t.val / 4, t.val / 2 % 2] := (by decide +kernel : ∀ t : Fin grid0.N, _)
theorem wemb0 (t : Fin cfg0.N) (p : Fin 1024) (l : Fin 2688) : ((cfg0.win 0).blk t).view.emb (ix2 p l) =
    ix2 (⟨t.val / 4 * 1024 + p.val, by have := tlt t; omega⟩ : Fin 8192) (⟨t.val % 2 * 2688 + l.val, by omega⟩ : Fin 5376) := by
  blk_ext [widx0 t]
theorem wemb1 (t : Fin cfg0.N) (p : Fin 1024) (l : Fin 2688) : ((cfg0.win 1).blk t).view.emb (ix2 p l) =
    ix2 (⟨t.val / 2 % 2 * 1024 + p.val, by omega⟩ : Fin 2048) (⟨t.val % 2 * 2688 + l.val, by omega⟩ : Fin 5376) := by
  blk_ext [widx1 t]
theorem wemb2 (t : Fin cfg0.N) (p : Fin 1024) (l : Fin 1024) : ((cfg0.win 2).blk t).view.emb (ix2 p l) =
    ix2 (⟨t.val / 4 * 1024 + p.val, by have := tlt t; omega⟩ : Fin 8192) (⟨t.val / 2 % 2 * 1024 + l.val, by omega⟩ : Fin 2048) := by
  blk_ext [widx2 t]

/-- The first factor. -/
def A : FVec Ideal S8192x5376 .f32 := fun i => lay (fun k => ((m ((c : Thread nD τ).loc main_arg2)) : FVec Ideal S8192x5136 .f32) (ix2 (i 0) k)) (i 1)
/-- The second factor. -/
def B : FVec Ideal S2048x5376 .f32 := fun i => lay (fun k => ((m ((c : Thread nD τ).loc main_arg1)) : FVec Ideal S2048x5136 .f32) (ix2 (i 0) k)) (i 1)

theorem V_main_v5 : V m c main_v5 = concatenate S8192x5376 1
    [⟨S8192x4096, extractStridedSlice S8192x4096 ![0, 0] (truncf .bf16 ((m ((c : Thread nD τ).loc main_arg2)) : FVec Ideal S8192x5136 .f32) bitsLt_bf16_f32 : FVec Ideal S8192x5136 .bf16) slices_S8192x5136_S8192x4096_0_0⟩,
     ⟨S8192x1024, extractStridedSlice S8192x1024 ![0, 4112] (truncf .bf16 ((m ((c : Thread nD τ).loc main_arg2)) : FVec Ideal S8192x5136 .f32) bitsLt_bf16_f32 : FVec Ideal S8192x5136 .bf16) slices_S8192x5136_S8192x1024_0_4112⟩,
     ⟨S8192x16, extractStridedSlice S8192x16 ![0, 4096] (truncf .bf16 ((m ((c : Thread nD τ).loc main_arg2)) : FVec Ideal S8192x5136 .f32) bitsLt_bf16_f32 : FVec Ideal S8192x5136 .bf16) slices_S8192x5136_S8192x16_0_4096⟩,
     ⟨S8192x240, broadcastInDim S8192x240 ![] bcast_S_S8192x240 (constant (F := Ideal) S_ .bf16 0x0000#16)⟩]
    concatenates_S8192x4096_S8192x1024_S8192x16_S8192x240_S8192x5376_d1 := by
  show StableHlo.after hostOps0 _ (Proc.devRef .tc main_v5) = _
  after_results <;> rfl
theorem V_main_v5_apply (p : Fin 8192) (q : Fin 5376) : V m c main_v5 (ix2 p q) =
    lay (fun k => ((m ((c : Thread nD τ).loc main_arg2)) : FVec Ideal S8192x5136 .f32) (ix2 p k)) q := by
  rw [V_main_v5, ← lay_eq]
  pointwise
theorem V_main_v11 : V m c main_v11 = concatenate S2048x5376 1
    [⟨S2048x4096, extractStridedSlice S2048x4096 ![0, 0] (truncf .bf16 ((m ((c : Thread nD τ).loc main_arg1)) : FVec Ideal S2048x5136 .f32) bitsLt_bf16_f32 : FVec Ideal S2048x5136 .bf16) slices_S2048x5136_S2048x4096_0_0⟩,
     ⟨S2048x1024, extractStridedSlice S2048x1024 ![0, 4112] (truncf .bf16 ((m ((c : Thread nD τ).loc main_arg1)) : FVec Ideal S2048x5136 .f32) bitsLt_bf16_f32 : FVec Ideal S2048x5136 .bf16) slices_S2048x5136_S2048x1024_0_4112⟩,
     ⟨S2048x16, extractStridedSlice S2048x16 ![0, 4096] (truncf .bf16 ((m ((c : Thread nD τ).loc main_arg1)) : FVec Ideal S2048x5136 .f32) bitsLt_bf16_f32 : FVec Ideal S2048x5136 .bf16) slices_S2048x5136_S2048x16_0_4096⟩,
     ⟨S2048x240, broadcastInDim S2048x240 ![] bcast_S_S2048x240 (constant (F := Ideal) S_ .bf16 0x0000#16)⟩]
    concatenates_S2048x4096_S2048x1024_S2048x16_S2048x240_S2048x5376_d1 := by
  show StableHlo.after hostOps0 _ (Proc.devRef .tc main_v11) = _
  after_results <;> rfl
theorem V_main_v11_apply (p : Fin 2048) (q : Fin 5376) : V m c main_v11 (ix2 p q) =
    lay (fun k => ((m ((c : Thread nD τ).loc main_arg1)) : FVec Ideal S2048x5136 .f32) (ix2 p k)) q := by
  rw [V_main_v11, ← lay_eq]
  pointwise
theorem iblk0 (t : Fin cfg0.N) (p : Fin 1024) (l : Fin 2688) : iblk m c 0 t (ix2 p l) =
    A m c (ix2 (⟨t.val / 4 * 1024 + p.val, by have := tlt t; omega⟩ : Fin 8192) (⟨t.val % 2 * 2688 + l.val, by omega⟩ : Fin 5376)) := by
  show V m c main_v5 (((cfg0.win 0).blk t).view.emb (ix2 p l)) = _
  rw [wemb0, V_main_v5_apply]; rfl
theorem iblk1 (t : Fin cfg0.N) (p : Fin 1024) (l : Fin 2688) : iblk m c 1 t (ix2 p l) =
    B m c (ix2 (⟨t.val / 2 % 2 * 1024 + p.val, by omega⟩ : Fin 2048) (⟨t.val % 2 * 2688 + l.val, by omega⟩ : Fin 5376)) := by
  show V m c main_v11 (((cfg0.win 1).blk t).view.emb (ix2 p l)) = _
  rw [wemb1, V_main_v11_apply]; rfl

theorem pay1_apply (x0 : Vec Ideal S1024x2688 .bf16) (x1 : Vec Ideal S1024x2688 .bf16) (p : Fin 1024) (q : Fin 1024) :
    k0_pay1 x0 x1 (ix2 p q) = ∑ k : Fin 2688, (x0 (ix2 p k) : EReal) * x1 (ix2 q k) := by
  pointwise [k0_pay1]
theorem pay2_apply (x0 : Vec Ideal S1024x2688 .bf16) (x1 : Vec Ideal S1024x2688 .bf16) (xo : Vec Ideal S1024x1024 .f32) (p : Fin 1024) (q : Fin 1024) :
    k0_pay2 x0 x1 xo (ix2 p q) = (xo (ix2 p q) : EReal) + ∑ k : Fin 2688, (x0 (ix2 p k) : EReal) * x1 (ix2 q k) := by
  rw [← pay1_apply]; pointwise [k0_pay2]

/-- The result's entries. -/
def G : FVec Ideal S8192x2048 .f32 := fun i => ∑ k : Fin 5376, (A m c (ix2 (i 0 : Fin 8192) k) : EReal) * B m c (ix2 (i 1 : Fin 2048) k)

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  have h1 : t.val % 2 = 1 := (flush0_2 t).mp hf
  have ht := tlt t
  rw [wemb2, after0_2, outsAt0_B m c t (show ¬t.val % 2 = 0 by omega) (show t.val % 2 = 1 by omega)]
  frame_out
  have hs1 : t.val - 1 < cfg0.N := lt_of_le_of_lt (Nat.sub_le _ _) t.isLt
  have hA1 : outsAt0 m c (t.val - 1) hs1 = k0_pay1 (iblk m c 0 ⟨t.val - 1, hs1⟩) (iblk m c 1 ⟨t.val - 1, hs1⟩) :=
    (outsAt0_A m c ⟨t.val - 1, hs1⟩ (show (t.val - 1) % 2 = 0 by omega) (show ¬(t.val - 1) % 2 = 1 by omega)).trans (by frame_out)
  rw [hA1]
  rw [pay2_apply, pay1_apply]
  show _ = ∑ k : Fin 5376, (A m c (ix2 (⟨t.val / 4 * 1024 + p.val, _⟩ : Fin 8192) k) : EReal) * B m c (ix2 (⟨t.val / 2 % 2 * 1024 + q.val, _⟩ : Fin 2048) k)
  rw [sum_two (n := 2688) rfl]
  refine congrArg₂ (· + ·) (sum_mul_congr (fun k => ?_) fun k => ?_) (sum_mul_congr (fun k => ?_) fun k => ?_)
  all_goals (first | rw [iblk0] | rw [iblk1]); congr 2 <;> apply Fin.ext <;> simp only [] <;> omega

/-- The reference runs, leaves its arguments as they were and no semaphore counter raised. -/
theorem frame_r : @quiescent_Reference14Ideal Reference14Ideal.Gen.facts := fun m g _ =>
  quiet (by decide) (Reference14Ideal.Value.run m g) fun _ _ h => h.2

/-- From the same arguments the kernel and the reference end with the same array. -/
theorem algebraic : @algebraic_Kernel14Ideal_Reference14Ideal Kernel14Ideal.Gen.facts Reference14Ideal.Gen.facts := by
  intro m g m' g' hpre hagree
  refine ⟨_, run_blocks m g, ?_⟩
  refine (θ_run _ _ _).mono (fun r h c => ⟨(h c).1.trans ?_, (h c).2⟩) (Reference14Ideal.Value.run m' g')
  obtain ⟨e0, e1, e2⟩ := hagree c
  rw [e1, e2]
  refine Eq.trans ?_ (final m c).symm
  funext i
  obtain ⟨p, q, rfl⟩ := ex2 (a := 8192) (b := 2048) i
  pointwise [G]
  exact (sum_lay_lay _ _).symm

end Cert.Mm14

end
-- ==== Proof.Mm15.lean ====
/- The gradient of the even mixer's w_in: the tiled product is the whole product. -/
module

public import proofs.«01_k».proof.Proof.Mm
public import proofs.«01_k».proof.Proof.Lay
public import proofs.«01_k».proof.Proof.Gen.Kernel15.Frame
public import proofs.«01_k».proof.Proof.Gen.Kernel15Ideal.Value
public import proofs.«01_k».proof.Proof.Gen.Reference15Ideal.Run

@[expose] public section

noncomputable section

namespace Cert.Mm15

open Idealize.ShloMosaic Idealize.ShloMosaic.TcCoe Idealize.SL.Sem Kernel15Ideal Kernel15Ideal.Gen Kernel15Ideal.Value Mm Lay

variable (m : (ℓ : Loc nD τ sig) → Buf (Elt Ideal) ℓ) (c : Dev nD)

theorem tlt (t : Fin cfg0.N) : t.val < 28 := lt_of_lt_of_eq t.isLt (show cfg0.N = 28 from N_0)

theorem widx0 : ∀ t : Fin cfg0.N, win0_0.index t = ![t.val % 2, t.val / 14] := (by decide +kernel : ∀ t : Fin grid0.N, _)
theorem widx1 : ∀ t : Fin cfg0.N, win0_1.index t = ![t.val % 2, t.val / 2 % 7] := (by decide +kernel : ∀ t : Fin grid0.N, _)
theorem widx2 : ∀ t : Fin cfg0.N, win0_2.index t = ![t.val / 14, t.val / 2 % 7] := (by decide +kernel : ∀ t : Fin grid0.N, _)
theorem wemb1 (t : Fin cfg0.N) (p : Fin 4096) (l : Fin 768) : ((cfg0.win 1).blk t).view.emb (ix2 p l) =
    ix2 (⟨t.val % 2 * 4096 + p.val, by omega⟩ : Fin 8192) (⟨t.val / 2 % 7 * 768 + l.val, by omega⟩ : Fin 5376) := by
  blk_ext [widx1 t]
theorem wemb2 (t : Fin cfg0.N) (p : Fin 1024) (l : Fin 768) : ((cfg0.win 2).blk t).view.emb (ix2 p l) =
    ix2 (⟨t.val / 14 * 1024 + p.val, by have := tlt t; omega⟩ : Fin 2048) (⟨t.val / 2 % 7 * 768 + l.val, by omega⟩ : Fin 5376) := by
  blk_ext [widx2 t]

/-- The first factor. -/
def A : FVec Ideal S8192x2048 .f32 := m ((c : Thread nD τ).loc main_arg0)
/-- The second factor. -/
def B : FVec Ideal S8192x5376 .f32 := fun i => lay (fun k => ((m ((c : Thread nD τ).loc main_arg2)) : FVec Ideal S8192x5136 .f32) (ix2 (i 0) k)) (i 1)

theorem V_main_v6 : V m c main_v6 = truncf .bf16 (A m c) bitsLt_bf16_f32 := by
  show StableHlo.after (hostOps0 (F := Ideal)) _ (Proc.devRef .tc main_v6) = _
  after_results <;> rfl
theorem V_main_v5 : V m c main_v5 = concatenate S8192x5376 1
    [⟨S8192x4096, extractStridedSlice S8192x4096 ![0, 0] (truncf .bf16 ((m ((c : Thread nD τ).loc main_arg2)) : FVec Ideal S8192x5136 .f32) bitsLt_bf16_f32 : FVec Ideal S8192x5136 .bf16) slices_S8192x5136_S8192x4096_0_0⟩,
     ⟨S8192x1024, extractStridedSlice S8192x1024 ![0, 4112] (truncf .bf16 ((m ((c : Thread nD τ).loc main_arg2)) : FVec Ideal S8192x5136 .f32) bitsLt_bf16_f32 : FVec Ideal S8192x5136 .bf16) slices_S8192x5136_S8192x1024_0_4112⟩,
     ⟨S8192x16, extractStridedSlice S8192x16 ![0, 4096] (truncf .bf16 ((m ((c : Thread nD τ).loc main_arg2)) : FVec Ideal S8192x5136 .f32) bitsLt_bf16_f32 : FVec Ideal S8192x5136 .bf16) slices_S8192x5136_S8192x16_0_4096⟩,
     ⟨S8192x240, broadcastInDim S8192x240 ![] bcast_S_S8192x240 (constant (F := Ideal) S_ .bf16 0x0000#16)⟩]
    concatenates_S8192x4096_S8192x1024_S8192x16_S8192x240_S8192x5376_d1 := by
  show StableHlo.after hostOps0 _ (Proc.devRef .tc main_v5) = _
  after_results <;> rfl
theorem V_main_v5_apply (p : Fin 8192) (q : Fin 5376) : V m c main_v5 (ix2 p q) =
    lay (fun k => ((m ((c : Thread nD τ).loc main_arg2)) : FVec Ideal S8192x5136 .f32) (ix2 p k)) q := by
  rw [V_main_v5, ← lay_eq]
  pointwise
theorem iblk0 (t : Fin cfg0.N) (p : Fin 4096) (l : Fin 1024) : iblk m c 0 t (ix2 p l) =
    A m c (ix2 (⟨t.val % 2 * 4096 + p.val, by omega⟩ : Fin 8192) (⟨t.val / 14 * 1024 + l.val, by have := tlt t; omega⟩ : Fin 2048)) := by
  show V m c main_v6 _ = _
  rw [V_main_v6]; exact congrArg (A m c) (by blk_ext [widx0 t])
theorem iblk1 (t : Fin cfg0.N) (p : Fin 4096) (l : Fin 768) : iblk m c 1 t (ix2 p l) =
    B m c (ix2 (⟨t.val % 2 * 4096 + p.val, by omega⟩ : Fin 8192) (⟨t.val / 2 % 7 * 768 + l.val, by omega⟩ : Fin 5376)) := by
  show V m c main_v5 (((cfg0.win 1).blk t).view.emb (ix2 p l)) = _
  rw [wemb1, V_main_v5_apply]; rfl

theorem pay1_apply (x0 : Vec Ideal S4096x1024 .bf16) (x1 : Vec Ideal S4096x768 .bf16) (p : Fin 1024) (q : Fin 768) :
    k0_pay1 x0 x1 (ix2 p q) = ∑ k : Fin 4096, (x0 (ix2 k p) : EReal) * x1 (ix2 k q) := by
  pointwise [k0_pay1]
theorem pay2_apply (x0 : Vec Ideal S4096x1024 .bf16) (x1 : Vec Ideal S4096x768 .bf16) (p : Fin 1024) (q : Fin 768) :
    k0_pay2 x0 x1 (ix2 p q) = ∑ k : Fin 4096, (x0 (ix2 k p) : EReal) * x1 (ix2 k q) := by
  rw [← pay1_apply]; pointwise [k0_pay2]
theorem pay3_apply (x0 : Vec Ideal S4096x1024 .bf16) (x1 : Vec Ideal S4096x768 .bf16) (xs : Vec Ideal S1024x768 .f32) (p : Fin 1024) (q : Fin 768) :
    k0_pay3 x0 x1 xs (ix2 p q) = (xs (ix2 p q) : EReal) + ∑ k : Fin 4096, (x0 (ix2 k p) : EReal) * x1 (ix2 k q) := by
  rw [← pay1_apply]; pointwise [k0_pay3]
theorem pay4_apply (xs : Vec Ideal S1024x768 .f32) (p : Fin 1024) (q : Fin 768) : k0_pay4 xs (ix2 p q) = xs (ix2 p q) := by
  pointwise [k0_pay4]

/-- The result's entries. -/
def G : FVec Ideal S2048x5376 .bf16 := fun i => ∑ k : Fin 8192, (A m c (ix2 k (i 0 : Fin 2048)) : EReal) * B m c (ix2 k (i 1 : Fin 5376))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 768) y
  show (dats m 0 c).after 2 t (ix2 p q) = G m c (((cfg0.win 2).blk t).view.emb (ix2 p q))
  have h1 : t.val % 2 = 1 := (flush0_2 t).mp hf
  have ht := tlt t
  rw [wemb2, after0_2, outsAt0_B m c t (show ¬t.val % 2 = 0 by omega) (show t.val % 2 = 1 by omega) (show t.val % 2 = 1 by omega)]
  frame_out
  rw [read_unread_whole]
  have hs1 : t.val - 1 < cfg0.N := lt_of_le_of_lt (Nat.sub_le _ _) t.isLt
  have hA1 : (outsAt0 m c (t.val - 1) hs1).2 = k0_pay2 (iblk m c 0 ⟨t.val - 1, hs1⟩) (iblk m c 1 ⟨t.val - 1, hs1⟩) :=
    (congrArg Prod.snd (outsAt0_A m c ⟨t.val - 1, hs1⟩ (show (t.val - 1) % 2 = 0 by omega) (show ¬(t.val - 1) % 2 = 1 by omega) (show ¬(t.val - 1) % 2 = 1 by omega))).trans (by frame_out)
  rw [hA1]
  rw [pay4_apply, pay3_apply, pay2_apply]
  show _ = ∑ k : Fin 8192, (A m c (ix2 k (⟨t.val / 14 * 1024 + p.val, _⟩ : Fin 2048)) : EReal) * B m c (ix2 k (⟨t.val / 2 % 7 * 768 + q.val, _⟩ : Fin 5376))
  rw [sum_two (n := 4096) rfl]
  refine congrArg₂ (· + ·) (sum_mul_congr (fun k => ?_) fun k => ?_) (sum_mul_congr (fun k => ?_) fun k => ?_)
  all_goals (first | rw [iblk0] | rw [iblk1]); congr 2 <;> apply Fin.ext <;> simp only [] <;> omega

/-- The reference runs, leaves its arguments as they were and no semaphore counter raised. -/
theorem frame_r : @quiescent_Reference15Ideal Reference15Ideal.Gen.facts := fun m g _ =>
  quiet (by decide) (Reference15Ideal.Value.run m g) fun _ _ h => h.2

/-- From the same arguments the kernel and the reference end with the same array. -/
theorem algebraic : @algebraic_Kernel15Ideal_Reference15Ideal Kernel15Ideal.Gen.facts Reference15Ideal.Gen.facts := by
  intro m g m' g' hpre hagree
  refine ⟨_, run_blocks m g, ?_⟩
  refine (θ_run _ _ _).mono (fun r h c => ⟨(h c).1.trans ?_, (h c).2⟩) (Reference15Ideal.Value.run m' g')
  obtain ⟨e0, e1, e2⟩ := hagree c
  rw [e0, e2]
  refine Eq.trans ?_ (final m c).symm
  funext i
  obtain ⟨p, q, rfl⟩ := ex2 (a := 2048) (b := 5376) i
  pointwise [G]
  refine Eq.trans ?_ (sum_lay (fun k => A m c (ix2 k p)) (fun k j => (m ((c : Thread nD τ).loc main_arg2) : FVec Ideal S8192x5136 .f32) (ix2 k j)) q).symm
  rw [← lay_eq]
  simp only [mul_comm (A m c _)]
  rfl

end Cert.Mm15

end
-- ==== Proof.Mm16.lean ====
/- The even mixer's first product: the tiled product is the whole product. -/
module

public import proofs.«01_k».proof.Proof.Mm
public import proofs.«01_k».proof.Proof.Lay
public import proofs.«01_k».proof.Proof.Gen.Kernel16.Frame
public import proofs.«01_k».proof.Proof.Gen.Kernel16Ideal.Value
public import proofs.«01_k».proof.Proof.Gen.Reference16Ideal.Run

@[expose] public section

noncomputable section

namespace Cert.Mm16

open Idealize.ShloMosaic Idealize.ShloMosaic.TcCoe Idealize.SL.Sem Kernel16Ideal Kernel16Ideal.Gen Kernel16Ideal.Value Mm Lay

variable (m : (ℓ : Loc nD τ sig) → Buf (Elt Ideal) ℓ) (c : Dev nD)

theorem tlt (t : Fin cfg0.N) : t.val < 56 := lt_of_lt_of_eq t.isLt (show cfg0.N = 56 from N_0)

theorem widx0 : ∀ t : Fin cfg0.N, win0_0.index t = ![t.val / 7, 0] := (by decide +kernel : ∀ t : Fin grid0.N, _)
theorem widx1 : ∀ t : Fin cfg0.N, win0_1.index t = ![0, t.val % 7] := (by decide +kernel : ∀ t : Fin grid0.N, _)
theorem widx2 : ∀ t : Fin cfg0.N, win0_2.index t = ![t.val / 7, t.val % 7] := (by decide +kernel : ∀ t : Fin grid0.N, _)
theorem wemb1 (t : Fin cfg0.N) (p : Fin 2048) (l : Fin 768) : ((cfg0.win 1).blk t).view.emb (ix2 p l) =
    ix2 (⟨p.val, by omega⟩ : Fin 2048) (⟨t.val % 7 * 768 + l.val, by omega⟩ : Fin 5376) := by
  blk_ext [widx1 t]
theorem wemb2 (t : Fin cfg0.N) (p : Fin 1024) (l : Fin 768) : ((cfg0.win 2).blk t).view.emb (ix2 p l) =
    ix2 (⟨t.val / 7 * 1024 + p.val, by have := tlt t; omega⟩ : Fin 8192) (⟨t.val % 7 * 768 + l.val, by omega⟩ : Fin 5376) := by
  blk_ext [widx2 t]

/-- The first factor. -/
def A : FVec Ideal S8192x2048 .f32 := m ((c : Thread nD τ).loc main_arg0)
/-- The second factor. -/
def B : FVec Ideal S2048x5376 .f32 := fun i => lay (fun k => ((m ((c : Thread nD τ).loc main_arg1)) : FVec Ideal S2048x5136 .f32) (ix2 (i 0) k)) (i 1)

theorem V_main_v0 : V m c main_v0 = truncf .bf16 (A m c) bitsLt_bf16_f32 := by
  show StableHlo.after (hostOps0 (F := Ideal)) _ (Proc.devRef .tc main_v0) = _
  after_results <;> rfl
theorem V_main_v6 : V m c main_v6 = concatenate S2048x5376 1
    [⟨S2048x4096, extractStridedSlice S2048x4096 ![0, 0] (truncf .bf16 ((m ((c : Thread nD τ).loc main_arg1)) : FVec Ideal S2048x5136 .f32) bitsLt_bf16_f32 : FVec Ideal S2048x5136 .bf16) slices_S2048x5136_S2048x4096_0_0⟩,
     ⟨S2048x1024, extractStridedSlice S2048x1024 ![0, 4112] (truncf .bf16 ((m ((c : Thread nD τ).loc main_arg1)) : FVec Ideal S2048x5136 .f32) bitsLt_bf16_f32 : FVec Ideal S2048x5136 .bf16) slices_S2048x5136_S2048x1024_0_4112⟩,
     ⟨S2048x16, extractStridedSlice S2048x16 ![0, 4096] (truncf .bf16 ((m ((c : Thread nD τ).loc main_arg1)) : FVec Ideal S2048x5136 .f32) bitsLt_bf16_f32 : FVec Ideal S2048x5136 .bf16) slices_S2048x5136_S2048x16_0_4096⟩,
     ⟨S2048x240, broadcastInDim S2048x240 ![] bcast_S_S2048x240 (constant (F := Ideal) S_ .bf16 0x0000#16)⟩]
    concatenates_S2048x4096_S2048x1024_S2048x16_S2048x240_S2048x5376_d1 := by
  show StableHlo.after hostOps0 _ (Proc.devRef .tc main_v6) = _
  after_results <;> rfl
theorem V_main_v6_apply (p : Fin 2048) (q : Fin 5376) : V m c main_v6 (ix2 p q) =
    lay (fun k => ((m ((c : Thread nD τ).loc main_arg1)) : FVec Ideal S2048x5136 .f32) (ix2 p k)) q := by
  rw [V_main_v6, ← lay_eq]
  pointwise
theorem iblk0 (t : Fin cfg0.N) (p : Fin 1024) (l : Fin 2048) : iblk m c 0 t (ix2 p l) =
    A m c (ix2 (⟨t.val / 7 * 1024 + p.val, by have := tlt t; omega⟩ : Fin 8192) (⟨l.val, by omega⟩ : Fin 2048)) := by
  show V m c main_v0 _ = _
  rw [V_main_v0]; exact congrArg (A m c) (by blk_ext [widx0 t])
theorem iblk1 (t : Fin cfg0.N) (p : Fin 2048) (l : Fin 768) : iblk m c 1 t (ix2 p l) =
    B m c (ix2 (⟨p.val, by omega⟩ : Fin 2048) (⟨t.val % 7 * 768 + l.val, by omega⟩ : Fin 5376)) := by
  show V m c main_v6 (((cfg0.win 1).blk t).view.emb (ix2 p l)) = _
  rw [wemb1, V_main_v6_apply]; rfl

theorem pay1_apply (x0 : Vec Ideal S1024x2048 .bf16) (x1 : Vec Ideal S2048x768 .bf16) (p : Fin 1024) (q : Fin 768) :
    k0_pay1 x0 x1 (ix2 p q) = ∑ k : Fin 2048, (x0 (ix2 p k) : EReal) * x1 (ix2 k q) := by
  pointwise [k0_pay1]

/-- The result's entries. -/
def G : FVec Ideal S8192x5376 .f32 := fun i => ∑ k : Fin 2048, (A m c (ix2 (i 0 : Fin 8192) k) : EReal) * B m c (ix2 k (i 1 : Fin 5376))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 768) y
  show (dats m 0 c).after 2 t (ix2 p q) = G m c (((cfg0.win 2).blk t).view.emb (ix2 p q))
  rw [wemb2, after0_2]
  frame_out
  rw [pay1_apply]
  have e := sum_mul_congr (fun k => iblk0 m c t p k) fun k => iblk1 m c t k q
  exact e

/-- The reference runs, leaves its arguments as they were and no semaphore counter raised. -/
theorem frame_r : @quiescent_Reference16Ideal Reference16Ideal.Gen.facts := fun m g _ =>
  quiet (by decide) (Reference16Ideal.Value.run m g) fun _ _ h => h.2

/-- From the same arguments the kernel and the reference end with the same array. -/
theorem algebraic : @algebraic_Kernel16Ideal_Reference16Ideal Kernel16Ideal.Gen.facts Reference16Ideal.Gen.facts := by
  intro m g m' g' hpre hagree
  refine ⟨_, run_blocks m g, ?_⟩
  refine (θ_run _ _ _).mono (fun r h c => ⟨(h c).1.trans ?_, (h c).2⟩) (Reference16Ideal.Value.run m' g')
  obtain ⟨e0, e1⟩ := hagree c
  rw [e0, e1]
  refine Eq.trans ?_ (final m c).symm
  funext i
  obtain ⟨p, q, rfl⟩ := ex2 (a := 8192) (b := 5376) i
  pointwise [G]
  refine Eq.trans ?_ (sum_lay (fun k => A m c (ix2 p k)) (fun k j => (m ((c : Thread nD τ).loc main_arg1) : FVec Ideal S2048x5136 .f32) (ix2 k j)) q).symm
  rw [← lay_eq]
  rfl

end Cert.Mm16

end
-- ==== Proof.Row.lean ====
/- The gradients of the norms and gates, row by row: what one row of the result is, whatever tile the row lies in. -/
module

public import proofs.«01_k».proof.Proof.Mm

@[expose] public section

noncomputable section

namespace Cert.Row

open Idealize.ShloMosaic

/-- The mean square of a row of `N` numbers, with the norm's small constant added. -/
def ms (N : EReal) {n : ℕ} (y : Fin n → EReal) : EReal := Ideal.div (∑ k, y k * y k) N + Ideal.ofBits FTy.f32 897988541#32

/-- What reaches each number of a row through the mean square, from the gradient `d` of the normalised row. -/
def viaMean (N : EReal) {n : ℕ} (y d : Fin n → EReal) : EReal :=
  ∑ _u : Fin 1, Ideal.div ((∑ k, y k * d k) * (Ideal.ofBits FTy.f32 3204448256#32 * Ideal.div (Ideal.rsqrt (ms N y)) (ms N y))) N

/-- The gradient of a normalised row by the row, at place `q`. -/
def dnorm (N : EReal) {n : ℕ} (y d : Fin n → EReal) (q : Fin n) : EReal :=
  d q * Ideal.rsqrt (ms N y) + y q * viaMean N y d + viaMean N y d * y q

theorem past (e a b c : EReal) : e + a + b + c = a + b + c + e := by abel

end Cert.Row

end
-- ==== Proof.Mm17.lean ====
/- The gradient of the first norm: row by row it is the gradient of the whole norm, and the scale's gradient adds up over the tiles. -/
module

public import proofs.«01_k».proof.Proof.Row
public import proofs.«01_k».proof.Proof.Gen.Kernel17.Frame
public import proofs.«01_k».proof.Proof.Gen.Kernel17Ideal.Value
public import proofs.«01_k».proof.Proof.Gen.Reference17Ideal.Run

@[expose] public section

noncomputable section

namespace Cert.Mm17

open Idealize.ShloMosaic Idealize.ShloMosaic.TcCoe Idealize.SL.Sem Kernel17Ideal Kernel17Ideal.Gen Kernel17Ideal.Value Mm Row

variable (m : (ℓ : Loc nD τ sig) → Buf (Elt Ideal) ℓ) (c : Dev nD)

/-- What the norm is applied to, its scale, the gradient of its result, and the gradient that goes past it. -/
def Y : FVec Ideal S8192x2048 .f32 := m ((c : Thread nD τ).loc main_arg0)
def Sc : FVec Ideal S1x2048 .f32 := m ((c : Thread nD τ).loc main_arg1)
def D : FVec Ideal S8192x2048 .f32 := m ((c : Thread nD τ).loc main_arg2)
def E : FVec Ideal S8192x2048 .f32 := m ((c : Thread nD τ).loc main_arg3)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- Row `p` of tile `t`. -/
def row (t : Fin cfg0.N) (p : Fin 128) : Fin 8192 :=
  ⟨t.val * 128 + p.val, by have h : t.val < 64 := lt_of_lt_of_eq t.isLt N_0; omega⟩

theorem blk0 (t : Fin cfg0.N) (p : Fin 128) (q : Fin 2048) : iblk m c 0 t (ix2 p q) = Y m c (ix2 (row t p) q) := by
  blk_simp [iblk]; rw [V_main_arg0]; exact congrArg (Y m c) (by blk_ext [idx0 t, row])
theorem blk1 (t : Fin cfg0.N) (q : Fin 2048) : iblk m c 1 t (ix2 0 q) = Sc m c (ix2 0 q) := by
  blk_simp [iblk]; rw [V_main_arg1]; exact congrArg (Sc m c) (by blk_ext [idx1 t])
theorem blk2 (t : Fin cfg0.N) (p : Fin 128) (q : Fin 2048) : iblk m c 2 t (ix2 p q) = D m c (ix2 (row t p) q) := by
  blk_simp [iblk]; rw [V_main_arg2]; exact congrArg (D m c) (by blk_ext [idx2 t, row])
theorem blk3 (t : Fin cfg0.N) (p : Fin 128) (q : Fin 2048) : iblk m c 3 t (ix2 p q) = E m c (ix2 (row t p) q) := by
  blk_simp [iblk]; rw [V_main_arg3]; exact congrArg (E m c) (by blk_ext [idx3 t, row])

theorem emb4 (t : Fin cfg0.N) (p : Fin 128) (q : Fin 2048) : ((cfg0.win 4).blk t).view.emb (ix2 p q) = ix2 (row t p) q := by
  blk_ext [idx4 t, row]
theorem emb5 (t : Fin cfg0.N) (q : Fin 2048) : ((cfg0.win 5).blk t).view.emb (ix2 (0 : Fin 1) q) = ix2 0 q := by
  blk_ext [idx5 t]

theorem pay6 (x0 x2 x3 : Vec Ideal S128x2048 .f32) (x1 : Vec Ideal S1x2048 .f32) (p : Fin 128) (q : Fin 2048) :
    k0_pay6 x0 x1 x2 x3 (ix2 p q) = dnorm (Ideal.ofBits FTy.f32 1157627904#32) (fun k => x0 (ix2 p k)) (fun k => (x2 (ix2 p k) * x1 (ix2 0 k) : EReal)) q + x3 (ix2 p q) := by
  pointwise [k0_pay6, k0_pay3, k0_pay4]
  rfl
theorem pay5 (x0 x2 : Vec Ideal S128x2048 .f32) (q : Fin 2048) :
    k0_pay5 x0 x2 (ix2 0 q) = ∑ p : Fin 128, (x0 (ix2 p q) * Ideal.rsqrt (ms (Ideal.ofBits FTy.f32 1157627904#32) fun k => x0 (ix2 p k)) * x2 (ix2 p q) : EReal) := by
  pointwise [k0_pay5, k0_pay3, k0_pay4]
  rfl

/-- The gradient of the rows, and of the scale. -/
def G4 : FVec Ideal S8192x2048 .f32 := fun i => dnorm (Ideal.ofBits FTy.f32 1157627904#32) (fun k => Y m c (ix2 (i 0 : Fin 8192) k)) (fun k => (D m c (ix2 (i 0 : Fin 8192) k) * Sc m c (ix2 0 k) : EReal)) (i 1 : Fin 2048) + E m c i
def T5 (r : Fin 8192) (q : Fin 2048) : EReal := Y m c (ix2 r q) * Ideal.rsqrt (ms (Ideal.ofBits FTy.f32 1157627904#32) fun k => Y m c (ix2 r k)) * D m c (ix2 r q)
def G5 : FVec Ideal S1x2048 .f32 := fun i => ∑ r, T5 m c r (i 1 : Fin 2048)

theorem final4 : (dats m 0 c).arrAt 4 cfg0.N = G4 m c := by
  refine (dats m 0 c).arrAt_eq_of_covers 4 _ (by decide +kernel) fun t hf y => ?_
  have e : (dats m 0 c).after 4 t = k0_pay6 (iblk m c 0 t) (iblk m c 1 t) (iblk m c 2 t) (iblk m c 3 t) := by
    rw [after0_4]
    by_cases h : t.val % 64 = 0
    · rw [outsAt0_A m c t h]; frame_out
    · rw [outsAt0_B m c t h]; frame_out
  obtain ⟨p, q, rfl⟩ := ex2 (a := 128) (b := 2048) y
  show (dats m 0 c).after 4 t (ix2 p q) = G4 m c (((cfg0.win 4).blk t).view.emb (ix2 p q))
  rw [emb4, e, pay6]
  simp only [blk0, blk1, blk2, blk3]
  rfl

theorem acc (t : Fin cfg0.N) (i : S1x2048.Idx) (ht : t.val + 1 = cfg0.N) :
    (outsAt0 m c t.val t.isLt).2 i = ∑ p : Fin cfg0.N, (k0_pay5 (iblk m c 0 p) (iblk m c 2 p) i : EReal) := by
  rw [Pipeline.eq_sum_fin_of_reset_step_apply_last (fun n h => (outsAt0 m c n h).2) 64 (fun _ => (0 : EReal)) (fun p => (k0_pay5 (iblk m c 0 p) (iblk m c 2 p)))
    (fun t h j => by rw [outsAt0_A m c t h]; frame_out; pointwise [k0_pay1, k0_pay2])
    (fun t h j => by rw [outsAt0_B m c t h]; frame_out; pointwise [k0_pay2]) (le_of_eq N_0) t ht i]
  exact zero_add _

theorem final5 : (dats m 0 c).arrAt 5 cfg0.N = G5 m c := by
  refine (dats m 0 c).arrAt_eq_of_covers 5 _ (by decide +kernel) fun t hf y => ?_
  have h : t.val % 64 = 63 := (flush0_5 t).mp hf
  have ht : t.val < 64 := lt_of_lt_of_eq t.isLt N_0
  obtain ⟨p, q, rfl⟩ := ex2 (a := 1) (b := 2048) y
  obtain rfl : p = 0 := Subsingleton.elim _ _
  show (dats m 0 c).after 5 t (ix2 0 q) = G5 m c (((cfg0.win 5).blk t).view.emb (ix2 0 q))
  rw [emb5, after0_5, acc m c t _ (show t.val + 1 = 64 by omega)]
  show _ = ∑ r : Fin 8192, T5 m c r q
  rw [← Fin.sum_mul_add_fin (L := 8192) 64 128]
  refine Finset.sum_congr rfl fun s _ => (pay5 _ _ q).trans (Finset.sum_congr rfl fun p _ => ?_)
  simp only [blk0, blk2]
  rfl

/-- The reference runs, leaves its arguments as they were and no semaphore counter raised. -/
theorem frame_r : @quiescent_Reference17Ideal Reference17Ideal.Gen.facts := fun m g _ =>
  quiet (by decide) (Reference17Ideal.Value.run m g) fun _ _ h => h.2.2

/-- From the same arguments the kernel and the reference end with the same arrays. -/
theorem algebraic : @algebraic_Kernel17Ideal_Reference17Ideal Kernel17Ideal.Gen.facts Reference17Ideal.Gen.facts := by
  intro m g m' g' hpre hagree
  refine ⟨fun c => (dats m 0 c).arrAt 4 cfg0.N, fun c => (dats m 0 c).arrAt 5 cfg0.N, run_blocks m g, ?_⟩
  refine (θ_run _ _ _).mono (fun r h c => ⟨(h c).1.trans ?_, (h c).2.1.trans ?_, (h c).2.2⟩) (Reference17Ideal.Value.run m' g')
  · obtain ⟨e0, e1, e2, e3⟩ := hagree c
    rw [e0, e1, e2, e3]
    refine Eq.trans ?_ (final4 m c).symm
    funext i
    obtain ⟨p, q, rfl⟩ := ex2 (a := 8192) (b := 2048) i
    pointwise [G4, dnorm, viaMean, ms]
    exact past _ _ _ _
  · obtain ⟨e0, e1, e2, e3⟩ := hagree c
    rw [e0, e2]
    refine Eq.trans ?_ (final5 m c).symm
    funext i
    obtain ⟨p, q, rfl⟩ := ex2 (a := 1) (b := 2048) i
    pointwise [G5, T5, ms]
    rfl

end Cert.Mm17

end
-- ==== Proof.Adam.lean ====
/- One step of AdamW for one number of a weight: its moments and what is added to the weight. -/
module

public import proofs.«01_k».proof.Proof.Mm

@[expose] public section

noncomputable section

namespace Cert.Adam

open Idealize.ShloMosaic

/-- The moments of the gradient `g` and of its square. -/
def moment1 (m g : EReal) : EReal := Ideal.ofBits FTy.f32 1063675494#32 * m + Ideal.ofBits FTy.f32 1036831949#32 * g
def moment2 (v g : EReal) : EReal := Ideal.ofBits FTy.f32 1065336439#32 * v + Ideal.ofBits FTy.f32 981668463#32 * (g * g)

/-- What is added to the weight `w`: the moments are divided by what is left of them after ten steps. -/
def delta (w m v g : EReal) : EReal :=
  Ideal.ofBits FTy.f32 3129152111#32 * (Ideal.div (Ideal.div (moment1 m g) (Ideal.ofBits FTy.f32 1059503362#32))
    (Ideal.sqrt (Ideal.div (moment2 v g) (Ideal.ofBits FTy.f32 1008933580#32)) + Ideal.ofBits FTy.f32 841731191#32) + Ideal.ofBits FTy.f32 1008981770#32 * w)

/-- The two divisors are real numbers, so that to divide by them is to multiply by their inverses. -/
theorem left1 : Ideal.ofBits FTy.f32 1059503362#32 = ((5463681 / 8388608 : ℝ) : EReal) := by
  simp [Ideal.ofBits, Ideal.ieee]
  rw [← EReal.coe_mul]
  norm_num
theorem left2 : Ideal.ofBits FTy.f32 1008933580#32 = ((2672307 / 268435456 : ℝ) : EReal) := by
  simp [Ideal.ofBits, Ideal.ieee]
  rw [← EReal.coe_mul]
  norm_num
theorem div_left1 (x : EReal) : x * (((5463681 / 8388608)⁻¹ : ℝ) : EReal) = Ideal.div x (Ideal.ofBits FTy.f32 1059503362#32) := by
  rw [left1, Ideal.div_coe (by norm_num), one_div]
theorem div_left2 (x : EReal) : x * (((2672307 / 268435456)⁻¹ : ℝ) : EReal) = Ideal.div x (Ideal.ofBits FTy.f32 1008933580#32) := by
  rw [left2, Ideal.div_coe (by norm_num), one_div]

section
variable {s : Shape} (h : (⟨0, ![]⟩ : Shape).BroadcastsInDim s ![]) (w m v g : FVec Ideal s .f32)

/-- One number in every place. -/
abbrev all (b : BitVec 32) : FVec Ideal s .f32 := broadcastInDim s ![] h (constant ⟨0, ![]⟩ .f32 b)
theorem host1 : addf (mulf (all h 0x3F666666#32) m) (mulf (all h 0x3DCCCCCD#32) g) = fun i => moment1 (m i) (g i) := rfl
theorem host2 : addf (mulf (all h 0x3F7FBE77#32) v) (mulf (all h 0x3A83126F#32) (mulf g g)) = fun i => moment2 (v i) (g i) := rfl
theorem hostD : mulf (all h 0xBA83126F#32) (addf (Host.divf (Host.divf (addf (mulf (all h 0x3F666666#32) m) (mulf (all h 0x3DCCCCCD#32) g)) (all h 0x3F26BD02#32))
    (addf (Host.sqrt (Host.divf (addf (mulf (all h 0x3F7FBE77#32) v) (mulf (all h 0x3A83126F#32) (mulf g g))) (all h 0x3C231ACC#32))) (all h 0x322BCC77#32)))
    (mulf (all h 0x3C23D70A#32) w)) = fun i => delta (w i) (m i) (v i) (g i) := rfl
end

end Cert.Adam

end
-- ==== Proof.Mm18.lean ====
/- The AdamW step of a weight of 2 × 512 × 2048 numbers, in rows of 2048: place by place it is the step of the whole weight. -/
module

public import proofs.«01_k».proof.Proof.Adam
public import proofs.«01_k».proof.Proof.Gen.Kernel18.Frame
public import proofs.«01_k».proof.Proof.Gen.Kernel18Ideal.Value
public import proofs.«01_k».proof.Proof.Gen.Reference18Ideal.Run

@[expose] public section

noncomputable section

namespace Cert.Mm18

open Idealize.ShloMosaic Idealize.ShloMosaic.TcCoe Idealize.SL.Sem Kernel18Ideal Kernel18Ideal.Gen Kernel18Ideal.Value Mm Adam

theorem preserves : preserves_Kernel18_Kernel18Ideal :=
  ⟨IdealRules.named_const.statement κ "inv_left1" .f32 _ _ rfl, IdealRules.named_const.statement κ "inv_left2" .f32 _ _ rfl⟩

/-- The kernel's two factors are the inverses of the reference's two divisors. -/
theorem inv1 : Named.named (F := Ideal) κ "inv_left1" (φ := .f32) 0x3FC48605#32 = (((5463681 / 8388608)⁻¹ : ℝ) : EReal) :=
  IdealRules.named_const.ideal_named_scalar _ _ _ _ rfl
theorem inv2 : Named.named (F := Ideal) κ "inv_left2" (φ := .f32) 0x42C8E6D3#32 = (((2672307 / 268435456)⁻¹ : ℝ) : EReal) :=
  IdealRules.named_const.ideal_named_scalar _ _ _ _ rfl

section
variable (x0 x1 x2 x3 : Vec Ideal S128x2048 .f32) (i : S128x2048.Idx)
theorem pay4 : k0_pay2 x3 i = x3 i := by
  obtain ⟨p, q, rfl⟩ := ex2 (a := 128) (b := 2048) i
  pointwise [k0_pay2]
theorem pay5 : k0_pay1 (k0_pay5 x3 x0 x1 x2) (Scalar.ofBits .f32 0xBA83126F#32) i = delta (x0 i) (x1 i) (x2 i) (x3 i) := by
  obtain ⟨p, q, rfl⟩ := ex2 (a := 128) (b := 2048) i
  pointwise [k0_pay1, k0_pay2, k0_pay3, k0_pay4, k0_pay5]
  rw [inv1, inv2, div_left1, div_left2]
  rfl
theorem pay6 : k0_pay3 x3 x1 i = moment1 (x1 i) (x3 i) := by
  obtain ⟨p, q, rfl⟩ := ex2 (a := 128) (b := 2048) i
  pointwise [k0_pay2, k0_pay3]; rfl
theorem pay7 : k0_pay4 x3 x2 i = moment2 (x2 i) (x3 i) := by
  obtain ⟨p, q, rfl⟩ := ex2 (a := 128) (b := 2048) i
  pointwise [k0_pay2, k0_pay4]; rfl
end

variable (m : (ℓ : Loc nD τ sig) → Buf (Elt Ideal) ℓ) (c : Dev nD)

/-- A weight in rows. -/
def rows (x : FVec Ideal S2x512x2048 .f32) : FVec Ideal S1024x2048 .f32 :=
  shapeCast _ x Reference18Ideal.Gen.shapeCasts_S2x512x2048_S1024x2048

theorem given : V m c main_v1 = rows (m ((c : Thread nD τ).loc main_arg0)) ∧ V m c main_v3 = rows (m ((c : Thread nD τ).loc main_arg1)) ∧
    V m c main_v5 = rows (m ((c : Thread nD τ).loc main_arg2)) ∧ V m c main_v7 = rows (m ((c : Thread nD τ).loc main_arg3)) := by
  dsimp only [V, List.flatten_cons, List.flatten_nil, List.append_nil, List.cons_append, List.nil_append]
  refine ⟨?_, ?_, ?_, ?_⟩ <;> after_results <;> exact shapeCast_comp _ _ _

theorem final4 : (dats m 0 c).arrAt 4 cfg0.N = V m c main_v7 := by
  refine (dats m 0 c).arrAt_eq_of_covers 4 _ (by decide +kernel) fun t _ y => ?_
  show (dats m 0 c).after 4 t y = _
  rw [after0_4]
  frame_out
  exact pay4 (iblk m c 3 t) y
theorem final5 : (dats m 0 c).arrAt 5 cfg0.N = fun i => delta (V m c main_v1 i) (V m c main_v3 i) (V m c main_v5 i) (V m c main_v7 i) := by
  refine (dats m 0 c).arrAt_eq_of_covers 5 _ (by decide +kernel) fun t _ y => ?_
  show (dats m 0 c).after 5 t y = _
  rw [after0_5]
  frame_out
  exact pay5 (iblk m c 0 t) (iblk m c 1 t) (iblk m c 2 t) (iblk m c 3 t) y
theorem final6 : (dats m 0 c).arrAt 6 cfg0.N = fun i => moment1 (V m c main_v3 i) (V m c main_v7 i) := by
  refine (dats m 0 c).arrAt_eq_of_covers 6 _ (by decide +kernel) fun t _ y => ?_
  show (dats m 0 c).after 6 t y = _
  rw [after0_6]
  frame_out
  exact pay6 (iblk m c 1 t) (iblk m c 3 t) y
theorem final7 : (dats m 0 c).arrAt 7 cfg0.N = fun i => moment2 (V m c main_v5 i) (V m c main_v7 i) := by
  refine (dats m 0 c).arrAt_eq_of_covers 7 _ (by decide +kernel) fun t _ y => ?_
  show (dats m 0 c).after 7 t y = _
  rw [after0_7]
  frame_out
  exact pay7 (iblk m c 2 t) (iblk m c 3 t) y

/-- The reference runs, leaves its arguments as they were and no semaphore counter raised. -/
theorem frame_r : @quiescent_Reference18Ideal Reference18Ideal.Gen.facts := fun m g _ =>
  quiet (by decide) (Reference18Ideal.Value.run m g) fun _ _ h => h.2.2.2.2

/-- From the same arguments the kernel and the reference end with the same arrays. -/
theorem algebraic : @algebraic_Kernel18Ideal_Reference18Ideal Kernel18Ideal.Gen.facts Reference18Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference18Ideal.Value.run m' g')
    <;> obtain ⟨e0, e1, e2, e3⟩ := hagree c <;> obtain ⟨v0, v1, v2, v3⟩ := given m c <;> clear h
  · rw [e3, final4, v3]
    exact rfl
  · rw [e0, e1, e2, e3, final5, v0, v1, v2, v3]
    exact congrArg rows (hostD Reference18Ideal.Gen.bcast_S_S2x512x2048 _ _ _ _)
  · rw [e1, e3, final6, v1, v3]
    exact congrArg rows (host1 Reference18Ideal.Gen.bcast_S_S2x512x2048 _ _)
  · rw [e2, e3, final7, v2, v3]
    exact congrArg rows (host2 Reference18Ideal.Gen.bcast_S_S2x512x2048 _ _)

end Cert.Mm18

end
-- ==== Proof.Mm21.lean ====
/- The gradient of the last norm: row by row it is the gradient of the whole norm, and the scale's gradient adds up over the tiles. -/
module

public import proofs.«01_k».proof.Proof.Row
public import proofs.«01_k».proof.Proof.Gen.Kernel21.Frame
public import proofs.«01_k».proof.Proof.Gen.Kernel21Ideal.Value
public import proofs.«01_k».proof.Proof.Gen.Reference21Ideal.Run

@[expose] public section

noncomputable section

namespace Cert.Mm21

open Idealize.ShloMosaic Idealize.ShloMosaic.TcCoe Idealize.SL.Sem Kernel21Ideal Kernel21Ideal.Gen Kernel21Ideal.Value Mm Row

variable (m : (ℓ : Loc nD τ sig) → Buf (Elt Ideal) ℓ) (c : Dev nD)

/-- What the norm is applied to, its scale, the gradient of its result, and the gradient that goes past it. -/
def Y : FVec Ideal S8192x2048 .f32 := m ((c : Thread nD τ).loc main_arg0)
def Sc : FVec Ideal S1x2048 .f32 := m ((c : Thread nD τ).loc main_arg1)
def D : FVec Ideal S8192x2048 .f32 := m ((c : Thread nD τ).loc main_arg2)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- Row `p` of tile `t`. -/
def row (t : Fin cfg0.N) (p : Fin 128) : Fin 8192 :=
  ⟨t.val * 128 + p.val, by have h : t.val < 64 := lt_of_lt_of_eq t.isLt N_0; omega⟩

theorem blk0 (t : Fin cfg0.N) (p : Fin 128) (q : Fin 2048) : iblk m c 0 t (ix2 p q) = Y m c (ix2 (row t p) q) := by
  blk_simp [iblk]; rw [V_main_arg0]; exact congrArg (Y m c) (by blk_ext [idx0 t, row])
theorem blk1 (t : Fin cfg0.N) (q : Fin 2048) : iblk m c 1 t (ix2 0 q) = Sc m c (ix2 0 q) := by
  blk_simp [iblk]; rw [V_main_arg1]; exact congrArg (Sc m c) (by blk_ext [idx1 t])
theorem blk2 (t : Fin cfg0.N) (p : Fin 128) (q : Fin 2048) : iblk m c 2 t (ix2 p q) = D m c (ix2 (row t p) q) := by
  blk_simp [iblk]; rw [V_main_arg2]; exact congrArg (D m c) (by blk_ext [idx2 t, row])

theorem emb3 (t : Fin cfg0.N) (p : Fin 128) (q : Fin 2048) : ((cfg0.win 3).blk t).view.emb (ix2 p q) = ix2 (row t p) q := by
  blk_ext [idx3 t, row]
theorem emb4 (t : Fin cfg0.N) (q : Fin 2048) : ((cfg0.win 4).blk t).view.emb (ix2 (0 : Fin 1) q) = ix2 0 q := by
  blk_ext [idx4 t]

theorem pay6 (x0 x2 : Vec Ideal S128x2048 .f32) (x1 : Vec Ideal S1x2048 .f32) (p : Fin 128) (q : Fin 2048) :
    k0_pay6 x0 x1 x2 (ix2 p q) = dnorm (Ideal.ofBits FTy.f32 1157627904#32) (fun k => x0 (ix2 p k)) (fun k => (x2 (ix2 p k) * x1 (ix2 0 k) : EReal)) q := by
  pointwise [k0_pay6, k0_pay3, k0_pay4]
  rfl
theorem pay5 (x0 x2 : Vec Ideal S128x2048 .f32) (q : Fin 2048) :
    k0_pay5 x0 x2 (ix2 0 q) = ∑ p : Fin 128, (x0 (ix2 p q) * Ideal.rsqrt (ms (Ideal.ofBits FTy.f32 1157627904#32) fun k => x0 (ix2 p k)) * x2 (ix2 p q) : EReal) := by
  pointwise [k0_pay5, k0_pay3, k0_pay4]
  rfl

/-- The gradient of the rows, and of the scale. -/
def G3 : FVec Ideal S8192x2048 .bf16 := fun i => dnorm (Ideal.ofBits FTy.f32 1157627904#32) (fun k => Y m c (ix2 (i 0 : Fin 8192) k)) (fun k => (D m c (ix2 (i 0 : Fin 8192) k) * Sc m c (ix2 0 k) : EReal)) (i 1 : Fin 2048)
def T4 (r : Fin 8192) (q : Fin 2048) : EReal := Y m c (ix2 r q) * Ideal.rsqrt (ms (Ideal.ofBits FTy.f32 1157627904#32) fun k => Y m c (ix2 r k)) * D m c (ix2 r q)
def G4 : FVec Ideal S1x2048 .f32 := fun i => ∑ r, T4 m c r (i 1 : Fin 2048)

theorem final3 : (dats m 0 c).arrAt 3 cfg0.N = G3 m c := by
  refine (dats m 0 c).arrAt_eq_of_covers 3 _ (by decide +kernel) fun t hf y => ?_
  have e : (dats m 0 c).after 3 t = k0_pay6 (iblk m c 0 t) (iblk m c 1 t) (iblk m c 2 t) := by
    rw [after0_3]
    by_cases h : t.val % 64 = 0
    · rw [outsAt0_A m c t h]; frame_out
    · rw [outsAt0_B m c t h]; frame_out
  obtain ⟨p, q, rfl⟩ := ex2 (a := 128) (b := 2048) y
  show (dats m 0 c).after 3 t (ix2 p q) = G3 m c (((cfg0.win 3).blk t).view.emb (ix2 p q))
  rw [emb3, e, pay6]
  simp only [blk0, blk1, blk2]
  rfl

theorem acc (t : Fin cfg0.N) (i : S1x2048.Idx) (ht : t.val + 1 = cfg0.N) :
    (outsAt0 m c t.val t.isLt).2 i = ∑ p : Fin cfg0.N, (k0_pay5 (iblk m c 0 p) (iblk m c 2 p) i : EReal) := by
  rw [Pipeline.eq_sum_fin_of_reset_step_apply_last (fun n h => (outsAt0 m c n h).2) 64 (fun _ => (0 : EReal)) (fun p => (k0_pay5 (iblk m c 0 p) (iblk m c 2 p)))
    (fun t h j => by rw [outsAt0_A m c t h]; frame_out; pointwise [k0_pay1, k0_pay2])
    (fun t h j => by rw [outsAt0_B m c t h]; frame_out; pointwise [k0_pay2]) (le_of_eq N_0) t ht i]
  exact zero_add _

theorem final4 : (dats m 0 c).arrAt 4 cfg0.N = G4 m c := by
  refine (dats m 0 c).arrAt_eq_of_covers 4 _ (by decide +kernel) fun t hf y => ?_
  have h : t.val % 64 = 63 := (flush0_4 t).mp hf
  have ht : t.val < 64 := lt_of_lt_of_eq t.isLt N_0
  obtain ⟨p, q, rfl⟩ := ex2 (a := 1) (b := 2048) y
  obtain rfl : p = 0 := Subsingleton.elim _ _
  show (dats m 0 c).after 4 t (ix2 0 q) = G4 m c (((cfg0.win 4).blk t).view.emb (ix2 0 q))
  rw [emb4, after0_4, acc m c t _ (show t.val + 1 = 64 by omega)]
  show _ = ∑ r : Fin 8192, T4 m c r q
  rw [← Fin.sum_mul_add_fin (L := 8192) 64 128]
  refine Finset.sum_congr rfl fun s _ => (pay5 _ _ q).trans (Finset.sum_congr rfl fun p _ => ?_)
  simp only [blk0, blk2]
  rfl

/-- The reference runs, leaves its arguments as they were and no semaphore counter raised. -/
theorem frame_r : @quiescent_Reference21Ideal Reference21Ideal.Gen.facts := fun m g _ =>
  quiet (by decide) (Reference21Ideal.Value.run m g) fun _ _ h => h.2.2

/-- From the same arguments the kernel and the reference end with the same arrays. -/
theorem algebraic : @algebraic_Kernel21Ideal_Reference21Ideal Kernel21Ideal.Gen.facts Reference21Ideal.Gen.facts := by
  intro m g m' g' hpre hagree
  refine ⟨fun c => (dats m 0 c).arrAt 3 cfg0.N, fun c => (dats m 0 c).arrAt 4 cfg0.N, run_blocks m g, ?_⟩
  refine (θ_run _ _ _).mono (fun r h c => ⟨(h c).1.trans ?_, (h c).2.1.trans ?_, (h c).2.2⟩) (Reference21Ideal.Value.run m' g')
  · obtain ⟨e0, e1, e2⟩ := hagree c
    rw [e0, e1, e2]
    refine Eq.trans ?_ (final3 m c).symm
    funext i
    obtain ⟨p, q, rfl⟩ := ex2 (a := 8192) (b := 2048) i
    pointwise [G3, dnorm, viaMean, ms]
    rfl
  · obtain ⟨e0, e1, e2⟩ := hagree c
    rw [e0, e2]
    refine Eq.trans ?_ (final4 m c).symm
    funext i
    obtain ⟨p, q, rfl⟩ := ex2 (a := 1) (b := 2048) i
    pointwise [G4, T4, ms]
    rfl

end Cert.Mm21

end
-- ==== Proof.Mm22.lean ====
/- The gradient of the middle of a block: of the sum that goes on, and of the two norms around it. -/
module

public import proofs.«01_k».proof.Proof.Row
public import proofs.«01_k».proof.Proof.Gen.Kernel22.Frame
public import proofs.«01_k».proof.Proof.Gen.Kernel22Ideal.Value
public import proofs.«01_k».proof.Proof.Gen.Reference22Ideal.Run

@[expose] public section

noncomputable section

namespace Cert.Mm22

open Idealize.ShloMosaic Idealize.ShloMosaic.TcCoe Idealize.SL.Sem Kernel22Ideal Kernel22Ideal.Gen Kernel22Ideal.Value Mm Row

variable (m : (ℓ : Loc nD τ sig) → Buf (Elt Ideal) ℓ) (c : Dev nD)

/-- What goes past the layer, the layer's result, the scales of the two norms, and the gradients of the two results. -/
def A0 : FVec Ideal S8192x2048 .f32 := m ((c : Thread nD τ).loc main_arg0)
def A1 : FVec Ideal S8192x2048 .f32 := m ((c : Thread nD τ).loc main_arg1)
def A2 : FVec Ideal S1x2048 .f32 := m ((c : Thread nD τ).loc main_arg2)
def A3 : FVec Ideal S1x2048 .f32 := m ((c : Thread nD τ).loc main_arg3)
def A4 : FVec Ideal S8192x2048 .f32 := m ((c : Thread nD τ).loc main_arg4)
def A5 : FVec Ideal S8192x2048 .f32 := m ((c : Thread nD τ).loc main_arg5)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- Row `p` of tile `t`. -/
def row (t : Fin cfg0.N) (p : Fin 128) : Fin 8192 :=
  ⟨t.val * 128 + p.val, by have h : t.val < 64 := lt_of_lt_of_eq t.isLt N_0; omega⟩

theorem blk0 (t : Fin cfg0.N) (p : Fin 128) (q : Fin 2048) : iblk m c 0 t (ix2 p q) = A0 m c (ix2 (row t p) q) := by
  blk_simp [iblk]; rw [V_main_arg0]; exact congrArg (A0 m c) (by blk_ext [idx0 t, row])
theorem blk1 (t : Fin cfg0.N) (p : Fin 128) (q : Fin 2048) : iblk m c 1 t (ix2 p q) = A1 m c (ix2 (row t p) q) := by
  blk_simp [iblk]; rw [V_main_arg1]; exact congrArg (A1 m c) (by blk_ext [idx1 t, row])
theorem blk2 (t : Fin cfg0.N) (q : Fin 2048) : iblk m c 2 t (ix2 0 q) = A2 m c (ix2 0 q) := by
  blk_simp [iblk]; rw [V_main_arg2]; exact congrArg (A2 m c) (by blk_ext [idx2 t])
theorem blk3 (t : Fin cfg0.N) (q : Fin 2048) : iblk m c 3 t (ix2 0 q) = A3 m c (ix2 0 q) := by
  blk_simp [iblk]; rw [V_main_arg3]; exact congrArg (A3 m c) (by blk_ext [idx3 t])
theorem blk4 (t : Fin cfg0.N) (p : Fin 128) (q : Fin 2048) : iblk m c 4 t (ix2 p q) = A4 m c (ix2 (row t p) q) := by
  blk_simp [iblk]; rw [V_main_arg4]; exact congrArg (A4 m c) (by blk_ext [idx4 t, row])
theorem blk5 (t : Fin cfg0.N) (p : Fin 128) (q : Fin 2048) : iblk m c 5 t (ix2 p q) = A5 m c (ix2 (row t p) q) := by
  blk_simp [iblk]; rw [V_main_arg5]; exact congrArg (A5 m c) (by blk_ext [idx5 t, row])

theorem emb6 (t : Fin cfg0.N) (p : Fin 128) (q : Fin 2048) : ((cfg0.win 6).blk t).view.emb (ix2 p q) = ix2 (row t p) q := by
  blk_ext [idx6 t, row]
theorem emb7 (t : Fin cfg0.N) (p : Fin 128) (q : Fin 2048) : ((cfg0.win 7).blk t).view.emb (ix2 p q) = ix2 (row t p) q := by
  blk_ext [idx7 t, row]
theorem emb8 (t : Fin cfg0.N) (q : Fin 2048) : ((cfg0.win 8).blk t).view.emb (ix2 (0 : Fin 1) q) = ix2 0 q := by
  blk_ext [idx8 t]
theorem emb9 (t : Fin cfg0.N) (q : Fin 2048) : ((cfg0.win 9).blk t).view.emb (ix2 (0 : Fin 1) q) = ix2 0 q := by
  blk_ext [idx9 t]

abbrev n : EReal := Ideal.ofBits FTy.f32 1157627904#32

/-- A row after the norm, and the row that goes on. -/
def rn {n' : ℕ} (y : Fin n' → EReal) (q : Fin n') : EReal := y q * Ideal.rsqrt (ms n y)
def on {n' : ℕ} (x y g : Fin n' → EReal) (q : Fin n') : EReal := x q + rn y q * g q
/-- The gradient of the row that goes on. -/
def don {n' : ℕ} (x y g g' e d : Fin n' → EReal) (q : Fin n') : EReal :=
  e q + d q * g' q * Ideal.rsqrt (ms n (on x y g)) + on x y g q * viaMean n (on x y g) (fun k => d k * g' k) + viaMean n (on x y g) (fun k => d k * g' k) * on x y g q

theorem pay8 (x1 : Vec Ideal S128x2048 .f32) (p : Fin 128) (q : Fin 2048) : k0_pay8 x1 (ix2 p q) = rn (fun k => x1 (ix2 p k)) q := by
  pointwise [k0_pay8, k0_pay6, k0_pay5]; rfl
theorem pay9 (x0 x1 : Vec Ideal S128x2048 .f32) (x2 : Vec Ideal S1x2048 .f32) (p : Fin 128) (q : Fin 2048) :
    k0_pay9 x0 x1 x2 (ix2 p q) = on (fun k => x0 (ix2 p k)) (fun k => x1 (ix2 p k)) (fun k => x2 (ix2 0 k)) q := by
  pointwise [k0_pay9, k0_pay8, k0_pay6, k0_pay5]; rfl
theorem pay15 (x0 x1 x4 x5 : Vec Ideal S128x2048 .f32) (x2 x3 : Vec Ideal S1x2048 .f32) (p : Fin 128) (q : Fin 2048) :
    k0_pay15 x3 x4 x5 (k0_pay9 x0 x1 x2) (k0_pay11 x0 x1 x2) (k0_pay12 x0 x1 x2) (ix2 p q)
      = don (fun k => x0 (ix2 p k)) (fun k => x1 (ix2 p k)) (fun k => x2 (ix2 0 k)) (fun k => x3 (ix2 0 k)) (fun k => x4 (ix2 p k)) (fun k => x5 (ix2 p k)) q := by
  pointwise [k0_pay15, k0_pay12, k0_pay11, k0_pay10]
  simp only [pay9]
  rfl
theorem pay18 (x0 x1 x4 x5 : Vec Ideal S128x2048 .f32) (x2 x3 : Vec Ideal S1x2048 .f32) (p : Fin 128) (q : Fin 2048) :
    k0_pay18 x1 x2 x3 x4 x5 (k0_pay6 x1) (k0_pay7 x1) (k0_pay9 x0 x1 x2) (k0_pay11 x0 x1 x2) (k0_pay12 x0 x1 x2) (ix2 p q)
      = dnorm n (fun k => x1 (ix2 p k)) (fun j => don (fun k => x0 (ix2 p k)) (fun k => x1 (ix2 p k)) (fun k => x2 (ix2 0 k)) (fun k => x3 (ix2 0 k)) (fun k => x4 (ix2 p k)) (fun k => x5 (ix2 p k)) j * x2 (ix2 0 j)) q := by
  pointwise [k0_pay18, k0_pay16, k0_pay7, k0_pay6, k0_pay5]
  simp only [pay15]
  rfl
theorem pay17 (x0 x1 x4 x5 : Vec Ideal S128x2048 .f32) (x2 x3 : Vec Ideal S1x2048 .f32) (q : Fin 2048) :
    k0_pay17 x3 x4 x5 (k0_pay8 x1) (k0_pay9 x0 x1 x2) (k0_pay11 x0 x1 x2) (k0_pay12 x0 x1 x2) (ix2 0 q)
      = ∑ p : Fin 128, (rn (fun k => x1 (ix2 p k)) q * don (fun k => x0 (ix2 p k)) (fun k => x1 (ix2 p k)) (fun k => x2 (ix2 0 k)) (fun k => x3 (ix2 0 k)) (fun k => x4 (ix2 p k)) (fun k => x5 (ix2 p k)) q : EReal) := by
  pointwise [k0_pay17, k0_pay16]
  simp only [pay15, pay8]
theorem pay14 (x0 x1 x5 : Vec Ideal S128x2048 .f32) (x2 : Vec Ideal S1x2048 .f32) (q : Fin 2048) :
    k0_pay14 (k0_pay13 x0 x1 x2 x5) (ix2 0 q)
      = ∑ p : Fin 128, (rn (on (fun k => x0 (ix2 p k)) (fun k => x1 (ix2 p k)) (fun k => x2 (ix2 0 k))) q * x5 (ix2 p q) : EReal) := by
  pointwise [k0_pay14, k0_pay13, k0_pay11, k0_pay10]
  simp only [pay9]
  rfl

/-- Row `r` of what goes on, of its gradient, and the gradients of the two results and of the two scales. -/
def On (r : Fin 8192) : Fin 2048 → EReal := on (fun k => A0 m c (ix2 r k)) (fun k => A1 m c (ix2 r k)) (fun k => A2 m c (ix2 0 k))
def Don (r : Fin 8192) : Fin 2048 → EReal :=
  don (fun k => A0 m c (ix2 r k)) (fun k => A1 m c (ix2 r k)) (fun k => A2 m c (ix2 0 k)) (fun k => A3 m c (ix2 0 k)) (fun k => A4 m c (ix2 r k)) (fun k => A5 m c (ix2 r k))
def G6 : FVec Ideal S8192x2048 .f32 := fun i => Don m c (i 0 : Fin 8192) (i 1 : Fin 2048)
def G7 : FVec Ideal S8192x2048 .bf16 := fun i =>
  dnorm n (fun k => A1 m c (ix2 (i 0 : Fin 8192) k)) (fun k => (Don m c (i 0 : Fin 8192) k * A2 m c (ix2 0 k) : EReal)) (i 1 : Fin 2048)
def T8 (r : Fin 8192) (q : Fin 2048) : EReal := rn (fun k => A1 m c (ix2 r k)) q * Don m c r q
def G8 : FVec Ideal S1x2048 .f32 := fun i => ∑ r, T8 m c r (i 1 : Fin 2048)
def T9 (r : Fin 8192) (q : Fin 2048) : EReal := rn (On m c r) q * A5 m c (ix2 r q)
def G9 : FVec Ideal S1x2048 .f32 := fun i => ∑ r, T9 m c r (i 1 : Fin 2048)

theorem final6 : (dats m 0 c).arrAt 6 cfg0.N = G6 m c := by
  refine (dats m 0 c).arrAt_eq_of_covers 6 _ (by decide +kernel) fun t hf y => ?_
  have e : (dats m 0 c).after 6 t = k0_pay15 (iblk m c 3 t) (iblk m c 4 t) (iblk m c 5 t) (k0_pay9 (iblk m c 0 t) (iblk m c 1 t) (iblk m c 2 t)) (k0_pay11 (iblk m c 0 t) (iblk m c 1 t) (iblk m c 2 t)) (k0_pay12 (iblk m c 0 t) (iblk m c 1 t) (iblk m c 2 t)) := by
    rw [after0_6]
    by_cases h : t.val % 64 = 0
    · rw [outsAt0_A m c t h h]; frame_out
    · rw [outsAt0_B m c t h h]; frame_out
  obtain ⟨p, q, rfl⟩ := ex2 (a := 128) (b := 2048) y
  show (dats m 0 c).after 6 t (ix2 p q) = G6 m c (((cfg0.win 6).blk t).view.emb (ix2 p q))
  rw [emb6, e, pay15]
  simp only [blk0, blk1, blk2, blk3, blk4, blk5]
  rfl

theorem final7 : (dats m 0 c).arrAt 7 cfg0.N = G7 m c := by
  refine (dats m 0 c).arrAt_eq_of_covers 7 _ (by decide +kernel) fun t hf y => ?_
  have e : (dats m 0 c).after 7 t = k0_pay18 (iblk m c 1 t) (iblk m c 2 t) (iblk m c 3 t) (iblk m c 4 t) (iblk m c 5 t) (k0_pay6 (iblk m c 1 t)) (k0_pay7 (iblk m c 1 t)) (k0_pay9 (iblk m c 0 t) (iblk m c 1 t) (iblk m c 2 t)) (k0_pay11 (iblk m c 0 t) (iblk m c 1 t) (iblk m c 2 t)) (k0_pay12 (iblk m c 0 t) (iblk m c 1 t) (iblk m c 2 t)) := by
    rw [after0_7]
    by_cases h : t.val % 64 = 0
    · rw [outsAt0_A m c t h h]; frame_out
    · rw [outsAt0_B m c t h h]; frame_out
  obtain ⟨p, q, rfl⟩ := ex2 (a := 128) (b := 2048) y
  show (dats m 0 c).after 7 t (ix2 p q) = G7 m c (((cfg0.win 7).blk t).view.emb (ix2 p q))
  rw [emb7, e, pay18]
  simp only [blk0, blk1, blk2, blk3, blk4, blk5]
  rfl

/-- What tile `t` adds to the gradients of the two scales. -/
def add8 (t : Fin cfg0.N) : FVec Ideal S1x2048 .f32 := k0_pay17 (iblk m c 3 t) (iblk m c 4 t) (iblk m c 5 t) (k0_pay8 (iblk m c 1 t)) (k0_pay9 (iblk m c 0 t) (iblk m c 1 t) (iblk m c 2 t)) (k0_pay11 (iblk m c 0 t) (iblk m c 1 t) (iblk m c 2 t)) (k0_pay12 (iblk m c 0 t) (iblk m c 1 t) (iblk m c 2 t))
def add9 (t : Fin cfg0.N) : FVec Ideal S1x2048 .f32 := k0_pay14 (k0_pay13 (iblk m c 0 t) (iblk m c 1 t) (iblk m c 2 t) (iblk m c 5 t))

theorem acc8 (t : Fin cfg0.N) (i : S1x2048.Idx) (ht : t.val + 1 = cfg0.N) :
    (outsAt0 m c t.val t.isLt).2.2.1 i = ∑ p : Fin cfg0.N, (add8 m c p i : EReal) := by
  rw [Pipeline.eq_sum_fin_of_reset_step_apply_last (fun n h => (outsAt0 m c n h).2.2.1) 64 (fun _ => (0 : EReal)) (add8 m c)
    (fun t h j => by rw [outsAt0_A m c t h h]; frame_out; pointwise [k0_pay1, k0_pay2, add8])
    (fun t h j => by rw [outsAt0_B m c t h h]; frame_out; pointwise [k0_pay2, add8]) (le_of_eq N_0) t ht i]
  exact zero_add _

theorem final8 : (dats m 0 c).arrAt 8 cfg0.N = G8 m c := by
  refine (dats m 0 c).arrAt_eq_of_covers 8 _ (by decide +kernel) fun t hf y => ?_
  have h : t.val % 64 = 63 := (flush0_8 t).mp hf
  have ht : t.val < 64 := lt_of_lt_of_eq t.isLt N_0
  obtain ⟨p, q, rfl⟩ := ex2 (a := 1) (b := 2048) y
  obtain rfl : p = 0 := Subsingleton.elim _ _
  show (dats m 0 c).after 8 t (ix2 0 q) = G8 m c (((cfg0.win 8).blk t).view.emb (ix2 0 q))
  rw [emb8, after0_8, acc8 m c t _ (show t.val + 1 = 64 by omega)]
  show _ = ∑ r : Fin 8192, T8 m c r q
  rw [← Fin.sum_mul_add_fin (L := 8192) 64 128]
  refine Finset.sum_congr rfl fun s _ => (pay17 _ _ _ _ _ _ q).trans (Finset.sum_congr rfl fun p _ => ?_)
  simp only [blk0, blk1, blk2, blk3, blk4, blk5]
  rfl

theorem acc9 (t : Fin cfg0.N) (i : S1x2048.Idx) (ht : t.val + 1 = cfg0.N) :
    (outsAt0 m c t.val t.isLt).2.2.2 i = ∑ p : Fin cfg0.N, (add9 m c p i : EReal) := by
  rw [Pipeline.eq_sum_fin_of_reset_step_apply_last (fun n h => (outsAt0 m c n h).2.2.2) 64 (fun _ => (0 : EReal)) (add9 m c)
    (fun t h j => by rw [outsAt0_A m c t h h]; frame_out; pointwise [k0_pay3, k0_pay4, add9])
    (fun t h j => by rw [outsAt0_B m c t h h]; frame_out; pointwise [k0_pay4, add9]) (le_of_eq N_0) t ht i]
  exact zero_add _

theorem final9 : (dats m 0 c).arrAt 9 cfg0.N = G9 m c := by
  refine (dats m 0 c).arrAt_eq_of_covers 9 _ (by decide +kernel) fun t hf y => ?_
  have h : t.val % 64 = 63 := (flush0_9 t).mp hf
  have ht : t.val < 64 := lt_of_lt_of_eq t.isLt N_0
  obtain ⟨p, q, rfl⟩ := ex2 (a := 1) (b := 2048) y
  obtain rfl : p = 0 := Subsingleton.elim _ _
  show (dats m 0 c).after 9 t (ix2 0 q) = G9 m c (((cfg0.win 9).blk t).view.emb (ix2 0 q))
  rw [emb9, after0_9, acc9 m c t _ (show t.val + 1 = 64 by omega)]
  show _ = ∑ r : Fin 8192, T9 m c r q
  rw [← Fin.sum_mul_add_fin (L := 8192) 64 128]
  refine Finset.sum_congr rfl fun s _ => (pay14 _ _ _ _ q).trans (Finset.sum_congr rfl fun p _ => ?_)
  simp only [blk0, blk1, blk2, blk5]
  rfl

/-- The reference runs, leaves its arguments as they were and no semaphore counter raised. -/
theorem frame_r : @quiescent_Reference22Ideal Reference22Ideal.Gen.facts := fun m g _ =>
  quiet (by decide) (Reference22Ideal.Value.run m g) fun _ _ h => h.2.2.2.2

/-- From the same arguments the kernel and the reference end with the same arrays. -/
theorem algebraic : @algebraic_Kernel22Ideal_Reference22Ideal Kernel22Ideal.Gen.facts Reference22Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference22Ideal.Value.run m' g')
    <;> obtain ⟨e0, e1, e2, e3, e4, e5⟩ := hagree c <;> clear h
  · refine Eq.trans ?_ (final6 m c).symm
    funext i
    obtain ⟨p, q, rfl⟩ := ex2 (a := 8192) (b := 2048) i
    pointwise [Reference22Ideal.Value.res_main_v50, e0, e1, e2, e3, e4, e5]
    rfl
  · refine Eq.trans ?_ (final7 m c).symm
    funext i
    obtain ⟨p, q, rfl⟩ := ex2 (a := 8192) (b := 2048) i
    pointwise [Reference22Ideal.Value.res_main_v71, e0, e1, e2, e3, e4, e5]
    rfl
  · refine Eq.trans ?_ (final8 m c).symm
    funext i
    obtain ⟨p, q, rfl⟩ := ex2 (a := 1) (b := 2048) i
    pointwise [Reference22Ideal.Value.res_main_v54, e0, e1, e2, e3, e4, e5]
    rfl
  · refine Eq.trans ?_ (final9 m c).symm
    funext i
    obtain ⟨p, q, rfl⟩ := ex2 (a := 1) (b := 2048) i
    pointwise [e0, e1, e2, e3, e4, e5]
    rfl

end Cert.Mm22

end
-- ==== Proof.Gate.lean ====
/- The gates of the layer and their gradients, number by number: what they are at every number, the infinite ones too. -/
module

public import proofs.«01_k».proof.Proof.Row

@[expose] public section

noncomputable section

namespace Cert.Gate

open Idealize.ShloMosaic

theorem one_bits : Ideal.ofBits FTy.f32 1065353216#32 = (1 : EReal) := by
  simp [Ideal.ofBits, Ideal.ieee]
  rw [← EReal.coe_mul]
  norm_num

theorem one_top : (1 + ⊤ : EReal) = ⊤ := EReal.coe_add_top 1
theorem one_sub_one : (1 - 1 : EReal) = 0 := by
  rw [← EReal.coe_one, ← EReal.coe_sub, sub_self, EReal.coe_zero]

/-- The gate. -/
def sg (x : EReal) : EReal := Ideal.div 1 (1 + Ideal.exp (-x))

/-- The gate's slope: by the quotient rule it is what `sg (1 - sg)` is, whatever it is multiplied by. -/
theorem slope (c x : EReal) : c * Ideal.div 1 ((1 + Ideal.exp (-x)) * (1 + Ideal.exp (-x))) * Ideal.exp (-x) = c * (sg x * (1 - sg x)) := by
  rw [mul_assoc]
  congr 1
  unfold sg
  induction x with
  | bot => simp [Ideal.div, one_top]
  | top => simp [Ideal.div, one_sub_one]
  | coe r =>
    have h : (1 + Real.exp (-r)) ≠ 0 := by positivity
    rw [← EReal.coe_neg, Ideal.exp_coe, ← EReal.coe_one, ← EReal.coe_add, ← EReal.coe_mul, Ideal.div_coe h, Ideal.div_coe (mul_ne_zero h h)]
    norm_cast
    field_simp
    ring

/-- The slope as the kernel writes it. -/
theorem slope' (c x : EReal) : 0 - (0 - c * Ideal.div 1 ((1 + Ideal.exp (0 - x)) * (1 + Ideal.exp (0 - x)))) * Ideal.exp (0 - x) = c * (sg x * (1 - sg x)) := by
  rw [zero_sub, zero_sub, zero_sub, EReal.neg_mul, neg_neg]
  exact slope c x

/-- The gradient of `x` times its gate, from the gradient `d` of that; and as the kernel writes it. -/
def dsilu (x d : EReal) : EReal := d * sg x + x * d * (sg x * (1 - sg x))
theorem dsilu_eq (x d : EReal) :
    d * Ideal.div 1 (1 + Ideal.exp (0 - x)) + (0 - (0 - x * d * Ideal.div 1 ((1 + Ideal.exp (0 - x)) * (1 + Ideal.exp (0 - x)))) * Ideal.exp (0 - x)) = dsilu x d := by
  rw [slope', zero_sub]
  rfl

/-- A sum over the first two of three axes. -/
theorem sum01 {n0 n1 n2 : ℕ} (h : (⟨3, ![n0, n1, n2]⟩ : Shape).ReducesTo [0, 1] ⟨1, ![n2]⟩) (v : (⟨3, ![n0, n1, n2]⟩ : Shape).Idx → EReal) (init : EReal) (q : Fin n2) :
    Ideal.hostReduceAdd h v init (ix1 q) = init + ∑ p : Fin n0, ∑ k : Fin n1, v (ix3 p k q) := by
  rw [← Fintype.sum_prod_type' (f := fun (p : Fin n0) (k : Fin n1) => v (ix3 p k q))]
  refine congrArg (init + ·) (Finset.sum_filter_eq_sum_of_fiber _ (fun k : Fin n0 × Fin n1 => ix3 k.1 k.2 q) (fun a b e => Prod.ext (congrFun e 0) (congrFun e 1)) (fun i => ?_) v)
  constructor
  · intro e
    refine ⟨(i 0, i 1), ?_⟩
    funext a; apply Fin.ext
    match a with
    | ⟨0, _⟩ => rfl
    | ⟨1, _⟩ => rfl
    | ⟨2, _⟩ => exact (congrArg Fin.val (congrFun e (0 : Fin 1))).symm
  · rintro ⟨k, rfl⟩
    funext b
    obtain rfl : b = 0 := Subsingleton.elim _ _
    rfl

end Cert.Gate

end
-- ==== Proof.Mm23.lean ====
/- The gradient of the gated unit: place by place, for what is gated and for its gate. -/
module

public import proofs.«01_k».proof.Proof.Gate
public import proofs.«01_k».proof.Proof.Gen.Kernel23.Frame
public import proofs.«01_k».proof.Proof.Gen.Kernel23Ideal.Value
public import proofs.«01_k».proof.Proof.Gen.Reference23Ideal.Run

@[expose] public section

noncomputable section

namespace Cert.Mm23

open Idealize.ShloMosaic Idealize.ShloMosaic.TcCoe Idealize.SL.Sem Kernel23Ideal Kernel23Ideal.Gen Kernel23Ideal.Value Mm Gate

/-- Where the kernel reads what is gated and the gate. -/
theorem in3 (p : Fin 8192) (q : Fin 2048) : inIdx3_0 (ix2 p q) = ix2 p ⟨2048 + q.val, by omega⟩ := by
  funext a; fin_cases a <;> exact Fin.ext (by simp [inIdx3_0, add_comm])
theorem in4 (p : Fin 8192) (q : Fin 2048) : inIdx4_0 (ix2 p q) = ix2 p ⟨q.val, by omega⟩ := by
  funext a; fin_cases a <;> exact Fin.ext (by simp [inIdx4_0])
theorem in4' (p : Fin 8192) (q : Fin 2048) : inIdx4_1 (ix2 p q) = ix2 p ⟨2048 + q.val, by omega⟩ := by
  funext a; fin_cases a <;> exact Fin.ext (by simp [inIdx4_1, add_comm])

/-- The reference runs, leaves its arguments as they were and no semaphore counter raised. -/
theorem frame_r : @quiescent_Reference23Ideal Reference23Ideal.Gen.facts := fun m g _ =>
  quiet (by decide) (Reference23Ideal.Value.run m g) fun _ _ h => h.2.2

/-- From the same arguments the kernel and the reference end with the same arrays. -/
theorem algebraic : @algebraic_Kernel23Ideal_Reference23Ideal Kernel23Ideal.Gen.facts Reference23Ideal.Gen.facts := by
  intro m g m' g' hpre hagree
  refine ⟨_, _, run m g, ?_⟩
  refine (θ_run _ _ _).mono (fun r h c => ⟨(h c).1.trans ?_, (h c).2.1.trans ?_, (h c).2.2⟩) (Reference23Ideal.Value.run m' g')
    <;> obtain ⟨e0, e1⟩ := hagree c <;> clear h
  · rw [e0, e1]
    funext i
    obtain ⟨p, q, rfl⟩ := ex2 (a := 8192) (b := 2048) i
    pointwise [G3]
    rw [in3, zero_sub]
  · rw [e0, e1]
    funext i
    obtain ⟨p, q, rfl⟩ := ex2 (a := 8192) (b := 2048) i
    pointwise [G4]
    rw [in4, in4', slope']
    rfl

end Cert.Mm23

end
-- ==== Proof.Mm24.lean ====
/- The gradient of the pooled product's scale: place by place for the product, and added up over the tiles for the scale. -/
module

public import proofs.«01_k».proof.Proof.Row
public import proofs.«01_k».proof.Proof.Gen.Kernel24.Frame
public import proofs.«01_k».proof.Proof.Gen.Kernel24Ideal.Value
public import proofs.«01_k».proof.Proof.Gen.Reference24Ideal.Run

@[expose] public section

noncomputable section

namespace Cert.Mm24

open Idealize.ShloMosaic Idealize.ShloMosaic.TcCoe Idealize.SL.Sem Kernel24Ideal Kernel24Ideal.Gen Kernel24Ideal.Value Mm Row

variable (m : (ℓ : Loc nD τ sig) → Buf (Elt Ideal) ℓ) (c : Dev nD)

/-- What is scaled, the scale, and the gradient, whose right half is that of the scaled product. -/
def Y : FVec Ideal S8192x1024 .f32 := m ((c : Thread nD τ).loc main_arg0)
def Sc : FVec Ideal S1x1024 .f32 := m ((c : Thread nD τ).loc main_arg1)
def D : FVec Ideal S8192x2048 .f32 := m ((c : Thread nD τ).loc main_arg2)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 1] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- Row `p` of tile `t`. -/
def row (t : Fin cfg0.N) (p : Fin 128) : Fin 8192 :=
  ⟨t.val * 128 + p.val, by have h : t.val < 64 := lt_of_lt_of_eq t.isLt N_0; omega⟩

/-- Column `q` of the right half. -/
def right (q : Fin 1024) : Fin 2048 := ⟨1024 + q.val, by omega⟩

theorem blk0 (t : Fin cfg0.N) (p : Fin 128) (q : Fin 1024) : iblk m c 0 t (ix2 p q) = Y m c (ix2 (row t p) q) := by
  blk_simp [iblk]; rw [V_main_arg0]; exact congrArg (Y m c) (by blk_ext [idx0 t, row])
theorem blk1 (t : Fin cfg0.N) (q : Fin 1024) : iblk m c 1 t (ix2 0 q) = Sc m c (ix2 0 q) := by
  blk_simp [iblk]; rw [V_main_arg1]; exact congrArg (Sc m c) (by blk_ext [idx1 t])
theorem blk2 (t : Fin cfg0.N) (p : Fin 128) (q : Fin 1024) : iblk m c 2 t (ix2 p q) = D m c (ix2 (row t p) (right q)) := by
  blk_simp [iblk]; rw [V_main_arg2]; exact congrArg (D m c) (by blk_ext [idx2 t, row, right])

theorem emb3 (t : Fin cfg0.N) (p : Fin 128) (q : Fin 1024) : ((cfg0.win 3).blk t).view.emb (ix2 p q) = ix2 (row t p) q := by
  blk_ext [idx3 t, row]
theorem emb4 (t : Fin cfg0.N) (q : Fin 1024) : ((cfg0.win 4).blk t).view.emb (ix2 (0 : Fin 1) q) = ix2 0 q := by
  blk_ext [idx4 t]

theorem pay1 (x1 : Vec Ideal S1x1024 .f32) (x2 : Vec Ideal S128x1024 .f32) (p : Fin 128) (q : Fin 1024) :
    k0_pay1 x1 x2 (ix2 p q) = (x2 (ix2 p q) * x1 (ix2 0 q) : EReal) := by
  pointwise [k0_pay1]

/-- What one tile adds to the gradient of the scale. -/
def colsum (x0 x2 : Vec Ideal S128x1024 .f32) : S1x1024.Idx → EReal := fun i => ∑ k, (x0 (ix2 k (i 1 : Fin 1024)) * x2 (ix2 k (i 1 : Fin 1024)) : EReal)

/-- The gradient of the rows, and of the scale. -/
def G3 : FVec Ideal S8192x1024 .bf16 := fun i => (D m c (ix2 (i 0 : Fin 8192) (right (i 1 : Fin 1024))) * Sc m c (ix2 0 (i 1 : Fin 1024)) : EReal)
def T4 (r : Fin 8192) (q : Fin 1024) : EReal := Y m c (ix2 r q) * D m c (ix2 r (right q))
def G4 : FVec Ideal S1x1024 .f32 := fun i => ∑ r, T4 m c r (i 1 : Fin 1024)

theorem final3 : (dats m 0 c).arrAt 3 cfg0.N = G3 m c := by
  refine (dats m 0 c).arrAt_eq_of_covers 3 _ (by decide +kernel) fun t hf y => ?_
  have e : (dats m 0 c).after 3 t = k0_pay1 (iblk m c 1 t) (iblk m c 2 t) := by
    rw [after0_3]
    by_cases h : t.val % 64 = 0
    · rw [outsAt0_A m c t h]; frame_out
    · rw [outsAt0_B m c t h]; frame_out
  obtain ⟨p, q, rfl⟩ := ex2 (a := 128) (b := 1024) y
  show (dats m 0 c).after 3 t (ix2 p q) = G3 m c (((cfg0.win 3).blk t).view.emb (ix2 p q))
  rw [emb3, e, pay1]
  simp only [blk1, blk2]
  rfl

theorem acc (t : Fin cfg0.N) (i : S1x1024.Idx) (ht : t.val + 1 = cfg0.N) :
    (outsAt0 m c t.val t.isLt).2 i = ∑ p : Fin cfg0.N, colsum (iblk m c 0 p) (iblk m c 2 p) i := by
  rw [Pipeline.eq_sum_fin_of_reset_step_apply_last (fun n h => (outsAt0 m c n h).2) 64 (fun _ => (0 : EReal)) (fun p => colsum (iblk m c 0 p) (iblk m c 2 p))
    (fun t h j => by rw [outsAt0_A m c t h]; frame_out; obtain ⟨p, q, rfl⟩ := ex2 (a := 1) (b := 1024) j; obtain rfl : p = 0 := Subsingleton.elim _ _; pointwise [k0_pay2, k0_pay3]; rfl)
    (fun t h j => by rw [outsAt0_B m c t h]; frame_out; obtain ⟨p, q, rfl⟩ := ex2 (a := 1) (b := 1024) j; obtain rfl : p = 0 := Subsingleton.elim _ _; pointwise [k0_pay3]; rfl) (le_of_eq N_0) t ht i]
  exact zero_add _

theorem final4 : (dats m 0 c).arrAt 4 cfg0.N = G4 m c := by
  refine (dats m 0 c).arrAt_eq_of_covers 4 _ (by decide +kernel) fun t hf y => ?_
  have h : t.val % 64 = 63 := (flush0_4 t).mp hf
  have ht : t.val < 64 := lt_of_lt_of_eq t.isLt N_0
  obtain ⟨p, q, rfl⟩ := ex2 (a := 1) (b := 1024) y
  obtain rfl : p = 0 := Subsingleton.elim _ _
  show (dats m 0 c).after 4 t (ix2 0 q) = G4 m c (((cfg0.win 4).blk t).view.emb (ix2 0 q))
  rw [emb4, after0_4, acc m c t _ (show t.val + 1 = 64 by omega)]
  show _ = ∑ r : Fin 8192, T4 m c r q
  rw [← Fin.sum_mul_add_fin (L := 8192) 64 128]
  refine Finset.sum_congr rfl fun s _ => Finset.sum_congr rfl fun p _ => ?_
  exact congrArg₂ (fun a b : EReal => a * b) (blk0 m c s p q) (blk2 m c s p q)

/-- The reference runs, leaves its arguments as they were and no semaphore counter raised. -/
theorem frame_r : @quiescent_Reference24Ideal Reference24Ideal.Gen.facts := fun m g _ =>
  quiet (by decide) (Reference24Ideal.Value.run m g) fun _ _ h => h.2.2

/-- From the same arguments the kernel and the reference end with the same arrays. -/
theorem algebraic : @algebraic_Kernel24Ideal_Reference24Ideal Kernel24Ideal.Gen.facts Reference24Ideal.Gen.facts := by
  intro m g m' g' hpre hagree
  refine ⟨fun c => (dats m 0 c).arrAt 3 cfg0.N, fun c => (dats m 0 c).arrAt 4 cfg0.N, run_blocks m g, ?_⟩
  refine (θ_run _ _ _).mono (fun r h c => ⟨(h c).1.trans ?_, (h c).2.1.trans ?_, (h c).2.2⟩) (Reference24Ideal.Value.run m' g')
  · obtain ⟨e0, e1, e2⟩ := hagree c
    rw [e1, e2]
    refine Eq.trans ?_ (final3 m c).symm
    funext i
    obtain ⟨p, q, rfl⟩ := ex2 (a := 8192) (b := 1024) i
    pointwise [G3]
    rfl
  · obtain ⟨e0, e1, e2⟩ := hagree c
    rw [e0, e2]
    refine Eq.trans ?_ (final4 m c).symm
    funext i
    obtain ⟨p, q, rfl⟩ := ex2 (a := 1) (b := 1024) i
    pointwise [G4, T4]
    rfl

end Cert.Mm24

end
-- ==== Proof.Mm25.lean ====
/- The gradient of the gated layer norm: row by row, and added up over the tiles for the scale and the shift. -/
module

public import proofs.«01_k».proof.Proof.Gate
public import proofs.«01_k».proof.Proof.Gen.Kernel25.Frame
public import proofs.«01_k».proof.Proof.Gen.Kernel25Ideal.Value
public import proofs.«01_k».proof.Proof.Gen.Reference25Ideal.Run

@[expose] public section

noncomputable section

namespace Cert.Mm25

open Idealize.ShloMosaic Idealize.ShloMosaic.TcCoe Idealize.SL.Sem Kernel25Ideal Kernel25Ideal.Gen Kernel25Ideal.Value Mm Row Gate

variable (m : (ℓ : Loc nD τ sig) → Buf (Elt Ideal) ℓ) (c : Dev nD)

/-- What the norm is applied to, its scale and shift, and the gradient of the gated result. -/
def A0 : FVec Ideal S8192x2048 .f32 := m ((c : Thread nD τ).loc main_arg0)
def A1 : FVec Ideal S1x2048 .f32 := m ((c : Thread nD τ).loc main_arg1)
def A2 : FVec Ideal S1x2048 .f32 := m ((c : Thread nD τ).loc main_arg2)
def A3 : FVec Ideal S8192x2048 .f32 := m ((c : Thread nD τ).loc main_arg3)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

/-- Row `p` of tile `t`. -/
def row (t : Fin cfg0.N) (p : Fin 128) : Fin 8192 :=
  ⟨t.val * 128 + p.val, by have h : t.val < 64 := lt_of_lt_of_eq t.isLt N_0; omega⟩

theorem blk0 (t : Fin cfg0.N) (p : Fin 128) (q : Fin 2048) : iblk m c 0 t (ix2 p q) = A0 m c (ix2 (row t p) q) := by
  blk_simp [iblk]; rw [V_main_arg0]; exact congrArg (A0 m c) (by blk_ext [idx0 t, row])
theorem blk1 (t : Fin cfg0.N) (q : Fin 2048) : iblk m c 1 t (ix2 0 q) = A1 m c (ix2 0 q) := by
  blk_simp [iblk]; rw [V_main_arg1]; exact congrArg (A1 m c) (by blk_ext [idx1 t])
theorem blk2 (t : Fin cfg0.N) (q : Fin 2048) : iblk m c 2 t (ix2 0 q) = A2 m c (ix2 0 q) := by
  blk_simp [iblk]; rw [V_main_arg2]; exact congrArg (A2 m c) (by blk_ext [idx2 t])
theorem blk3 (t : Fin cfg0.N) (p : Fin 128) (q : Fin 2048) : iblk m c 3 t (ix2 p q) = A3 m c (ix2 (row t p) q) := by
  blk_simp [iblk]; rw [V_main_arg3]; exact congrArg (A3 m c) (by blk_ext [idx3 t, row])

theorem emb4 (t : Fin cfg0.N) (p : Fin 128) (q : Fin 2048) : ((cfg0.win 4).blk t).view.emb (ix2 p q) = ix2 (row t p) q := by
  blk_ext [idx4 t, row]
theorem emb5 (t : Fin cfg0.N) (q : Fin 2048) : ((cfg0.win 5).blk t).view.emb (ix2 (0 : Fin 1) q) = ix2 0 q := by
  blk_ext [idx5 t]
theorem emb6 (t : Fin cfg0.N) (q : Fin 2048) : ((cfg0.win 6).blk t).view.emb (ix2 (0 : Fin 1) q) = ix2 0 q := by
  blk_ext [idx6 t]
abbrev n : EReal := Ideal.ofBits FTy.f32 1157627904#32

/-- A row less its mean, the row after the norm, and the gradient of that. -/
def cen {n' : ℕ} (y : Fin n' → EReal) (q : Fin n') : EReal := y q - Ideal.div (∑ k, y k) n
def nrm {n' : ℕ} (y : Fin n' → EReal) (q : Fin n') : EReal := cen y q * Ideal.rsqrt (ms n (cen y))
def ln {n' : ℕ} (y g b : Fin n' → EReal) (q : Fin n') : EReal := nrm y q * g q + b q
def dln {n' : ℕ} (y g b d : Fin n' → EReal) (q : Fin n') : EReal := dsilu (ln y g b q) (d q)
/-- The gradient of the row: that of the centred row, and what reaches it through the mean. -/
def dcen {n' : ℕ} (y g b d : Fin n' → EReal) (q : Fin n') : EReal := dnorm n (cen y) (fun k => dln y g b d k * g k) q
def dall {n' : ℕ} (y g b d : Fin n' → EReal) (q : Fin n') : EReal := dcen y g b d q + ∑ _u : Fin 1, Ideal.div (∑ k, -dcen y g b d k) n

theorem pay5 (x0 : Vec Ideal S128x2048 .f32) (p : Fin 128) (q : Fin 2048) : k0_pay5 x0 (ix2 p q) = cen (fun k => x0 (ix2 p k)) q := by
  pointwise [k0_pay5]; rfl
theorem pay9 (x0 : Vec Ideal S128x2048 .f32) (p : Fin 128) (q : Fin 2048) : k0_pay9 x0 (ix2 p q) = nrm (fun k => x0 (ix2 p k)) q := by
  pointwise [k0_pay9, k0_pay7, k0_pay6]; simp only [pay5]; rfl
theorem pay10 (x0 : Vec Ideal S128x2048 .f32) (x1 x2 : Vec Ideal S1x2048 .f32) (p : Fin 128) (q : Fin 2048) :
    k0_pay10 x0 x1 x2 (ix2 p q) = ln (fun k => x0 (ix2 p k)) (fun k => x1 (ix2 0 k)) (fun k => x2 (ix2 0 k)) q := by
  pointwise [k0_pay10]; simp only [pay9]; rfl
theorem pay15 (x0 x3 : Vec Ideal S128x2048 .f32) (x1 x2 : Vec Ideal S1x2048 .f32) (p : Fin 128) (q : Fin 2048) :
    k0_pay15 (k0_pay11 x0 x1 x2) (k0_pay13 x0 x1 x2 x3) (k0_pay14 x0 x1 x2 x3) (ix2 p q)
      = dln (fun k => x0 (ix2 p k)) (fun k => x1 (ix2 0 k)) (fun k => x2 (ix2 0 k)) (fun k => x3 (ix2 p k)) q := by
  pointwise [k0_pay15, k0_pay14, k0_pay13, k0_pay12, k0_pay11]
  rw [dsilu_eq, pay10]
  rfl
theorem pay16 (x0 x3 : Vec Ideal S128x2048 .f32) (x1 x2 : Vec Ideal S1x2048 .f32) (q : Fin 2048) :
    k0_pay16 (k0_pay11 x0 x1 x2) (k0_pay13 x0 x1 x2 x3) (k0_pay14 x0 x1 x2 x3) (ix2 0 q)
      = ∑ p : Fin 128, dln (fun k => x0 (ix2 p k)) (fun k => x1 (ix2 0 k)) (fun k => x2 (ix2 0 k)) (fun k => x3 (ix2 p k)) q := by
  pointwise [k0_pay16]
  simp only [pay15]
theorem pay17 (x0 x3 : Vec Ideal S128x2048 .f32) (x1 x2 : Vec Ideal S1x2048 .f32) (q : Fin 2048) :
    k0_pay17 (k0_pay9 x0) (k0_pay11 x0 x1 x2) (k0_pay13 x0 x1 x2 x3) (k0_pay14 x0 x1 x2 x3) (ix2 0 q)
      = ∑ p : Fin 128, (nrm (fun k => x0 (ix2 p k)) q * dln (fun k => x0 (ix2 p k)) (fun k => x1 (ix2 0 k)) (fun k => x2 (ix2 0 k)) (fun k => x3 (ix2 p k)) q : EReal) := by
  pointwise [k0_pay17]
  simp only [pay15, pay9]
theorem pay18 (x0 x3 : Vec Ideal S128x2048 .f32) (x1 x2 : Vec Ideal S1x2048 .f32) (p : Fin 128) (q : Fin 2048) :
    k0_pay18 x1 (k0_pay5 x0) (k0_pay7 x0) (k0_pay8 x0) (k0_pay11 x0 x1 x2) (k0_pay13 x0 x1 x2 x3) (k0_pay14 x0 x1 x2 x3) (ix2 p q)
      = dall (fun k => x0 (ix2 p k)) (fun k => x1 (ix2 0 k)) (fun k => x2 (ix2 0 k)) (fun k => x3 (ix2 p k)) q := by
  pointwise [k0_pay18, k0_pay8, k0_pay7, k0_pay6]
  simp only [pay15, pay5, zero_sub]
  rfl

/-- The gradients of the rows, of the scale and of the shift. -/
def G4 : FVec Ideal S8192x2048 .f32 := fun i =>
  dall (fun k => A0 m c (ix2 (i 0 : Fin 8192) k)) (fun k => A1 m c (ix2 0 k)) (fun k => A2 m c (ix2 0 k)) (fun k => A3 m c (ix2 (i 0 : Fin 8192) k)) (i 1 : Fin 2048)
def T6 (r : Fin 8192) (q : Fin 2048) : EReal := dln (fun k => A0 m c (ix2 r k)) (fun k => A1 m c (ix2 0 k)) (fun k => A2 m c (ix2 0 k)) (fun k => A3 m c (ix2 r k)) q
def T5 (r : Fin 8192) (q : Fin 2048) : EReal := nrm (fun k => A0 m c (ix2 r k)) q * T6 m c r q
def G5 : FVec Ideal S1x2048 .f32 := fun i => ∑ r, T5 m c r (i 1 : Fin 2048)
def G6 : FVec Ideal S1x2048 .f32 := fun i => ∑ r, T6 m c r (i 1 : Fin 2048)

theorem final4 : (dats m 0 c).arrAt 4 cfg0.N = G4 m c := by
  refine (dats m 0 c).arrAt_eq_of_covers 4 _ (by decide +kernel) fun t hf y => ?_
  have e : (dats m 0 c).after 4 t = k0_pay18 (iblk m c 1 t) (k0_pay5 (iblk m c 0 t)) (k0_pay7 (iblk m c 0 t)) (k0_pay8 (iblk m c 0 t)) (k0_pay11 (iblk m c 0 t) (iblk m c 1 t) (iblk m c 2 t)) (k0_pay13 (iblk m c 0 t) (iblk m c 1 t) (iblk m c 2 t) (iblk m c 3 t)) (k0_pay14 (iblk m c 0 t) (iblk m c 1 t) (iblk m c 2 t) (iblk m c 3 t)) := by
    rw [after0_4]
    by_cases h : t.val % 64 = 0
    · rw [outsAt0_A m c t h h]; frame_out
    · rw [outsAt0_B m c t h h]; frame_out
  obtain ⟨p, q, rfl⟩ := ex2 (a := 128) (b := 2048) y
  show (dats m 0 c).after 4 t (ix2 p q) = G4 m c (((cfg0.win 4).blk t).view.emb (ix2 p q))
  rw [emb4, e, pay18]
  simp only [blk0, blk1, blk2, blk3]
  rfl

/-- What tile `t` adds to the gradients of the scale and of the shift. -/
def add5 (t : Fin cfg0.N) : FVec Ideal S1x2048 .f32 := k0_pay17 (k0_pay9 (iblk m c 0 t)) (k0_pay11 (iblk m c 0 t) (iblk m c 1 t) (iblk m c 2 t)) (k0_pay13 (iblk m c 0 t) (iblk m c 1 t) (iblk m c 2 t) (iblk m c 3 t)) (k0_pay14 (iblk m c 0 t) (iblk m c 1 t) (iblk m c 2 t) (iblk m c 3 t))
def add6 (t : Fin cfg0.N) : FVec Ideal S1x2048 .f32 := k0_pay16 (k0_pay11 (iblk m c 0 t) (iblk m c 1 t) (iblk m c 2 t)) (k0_pay13 (iblk m c 0 t) (iblk m c 1 t) (iblk m c 2 t) (iblk m c 3 t)) (k0_pay14 (iblk m c 0 t) (iblk m c 1 t) (iblk m c 2 t) (iblk m c 3 t))

theorem acc5 (t : Fin cfg0.N) (i : S1x2048.Idx) (ht : t.val + 1 = cfg0.N) :
    (outsAt0 m c t.val t.isLt).2.1 i = ∑ p : Fin cfg0.N, (add5 m c p i : EReal) := by
  rw [Pipeline.eq_sum_fin_of_reset_step_apply_last (fun n h => (outsAt0 m c n h).2.1) 64 (fun _ => (0 : EReal)) (add5 m c)
    (fun t h j => by rw [outsAt0_A m c t h h]; frame_out; pointwise [k0_pay1, k0_pay2, add5])
    (fun t h j => by rw [outsAt0_B m c t h h]; frame_out; pointwise [k0_pay2, add5]) (le_of_eq N_0) t ht i]
  exact zero_add _

theorem final5 : (dats m 0 c).arrAt 5 cfg0.N = G5 m c := by
  refine (dats m 0 c).arrAt_eq_of_covers 5 _ (by decide +kernel) fun t hf y => ?_
  have h : t.val % 64 = 63 := (flush0_5 t).mp hf
  have ht : t.val < 64 := lt_of_lt_of_eq t.isLt N_0
  obtain ⟨p, q, rfl⟩ := ex2 (a := 1) (b := 2048) y
  obtain rfl : p = 0 := Subsingleton.elim _ _
  show (dats m 0 c).after 5 t (ix2 0 q) = G5 m c (((cfg0.win 5).blk t).view.emb (ix2 0 q))
  rw [emb5, after0_5, acc5 m c t _ (show t.val + 1 = 64 by omega)]
  show _ = ∑ r : Fin 8192, T5 m c r q
  rw [← Fin.sum_mul_add_fin (L := 8192) 64 128]
  refine Finset.sum_congr rfl fun s _ => (pay17 _ _ _ _ q).trans (Finset.sum_congr rfl fun p _ => ?_)
  simp only [blk0, blk1, blk2, blk3]
  rfl

theorem acc6 (t : Fin cfg0.N) (i : S1x2048.Idx) (ht : t.val + 1 = cfg0.N) :
    (outsAt0 m c t.val t.isLt).2.2 i = ∑ p : Fin cfg0.N, (add6 m c p i : EReal) := by
  rw [Pipeline.eq_sum_fin_of_reset_step_apply_last (fun n h => (outsAt0 m c n h).2.2) 64 (fun _ => (0 : EReal)) (add6 m c)
    (fun t h j => by rw [outsAt0_A m c t h h]; frame_out; pointwise [k0_pay3, k0_pay4, add6])
    (fun t h j => by rw [outsAt0_B m c t h h]; frame_out; pointwise [k0_pay4, add6]) (le_of_eq N_0) t ht i]
  exact zero_add _

theorem final6 : (dats m 0 c).arrAt 6 cfg0.N = G6 m c := by
  refine (dats m 0 c).arrAt_eq_of_covers 6 _ (by decide +kernel) fun t hf y => ?_
  have h : t.val % 64 = 63 := (flush0_6 t).mp hf
  have ht : t.val < 64 := lt_of_lt_of_eq t.isLt N_0
  obtain ⟨p, q, rfl⟩ := ex2 (a := 1) (b := 2048) y
  obtain rfl : p = 0 := Subsingleton.elim _ _
  show (dats m 0 c).after 6 t (ix2 0 q) = G6 m c (((cfg0.win 6).blk t).view.emb (ix2 0 q))
  rw [emb6, after0_6, acc6 m c t _ (show t.val + 1 = 64 by omega)]
  show _ = ∑ r : Fin 8192, T6 m c r q
  rw [← Fin.sum_mul_add_fin (L := 8192) 64 128]
  refine Finset.sum_congr rfl fun s _ => (pay16 _ _ _ _ q).trans (Finset.sum_congr rfl fun p _ => ?_)
  simp only [blk0, blk1, blk2, blk3]
  rfl

/-- The reference runs, leaves its arguments as they were and no semaphore counter raised. -/
theorem frame_r : @quiescent_Reference25Ideal Reference25Ideal.Gen.facts := fun m g _ =>
  quiet (by decide) (Reference25Ideal.Value.run m g) fun _ _ h => h.2.2.2

/-- From the same arguments the kernel and the reference end with the same arrays. -/
theorem algebraic : @algebraic_Kernel25Ideal_Reference25Ideal Kernel25Ideal.Gen.facts Reference25Ideal.Gen.facts := by
  intro m g m' g' hpre hagree
  refine ⟨_, _, _, run_blocks m g, ?_⟩
  refine (θ_run _ _ _).mono (fun r h c => ⟨(h c).1.trans ?_, (h c).2.1.trans ?_, (h c).2.2.1.trans ?_, (h c).2.2.2⟩) (Reference25Ideal.Value.run m' g')
    <;> obtain ⟨e0, e1, e2, e3⟩ := hagree c <;> clear h
  · refine Eq.trans ?_ (final4 m c).symm
    funext i
    obtain ⟨p, q, rfl⟩ := ex2 (a := 8192) (b := 2048) i
    pointwise [Reference25Ideal.Value.res_main_v53, e0, e1, e2, e3]
    rfl
  · refine Eq.trans ?_ (final5 m c).symm
    funext i
    obtain ⟨p, q, rfl⟩ := ex2 (a := 1) (b := 2048) i
    pointwise [Reference25Ideal.Value.res_main_v29, e0, e1, e2, e3]
    rfl
  · refine Eq.trans ?_ (final6 m c).symm
    funext i
    obtain ⟨p, q, rfl⟩ := ex2 (a := 1) (b := 2048) i
    pointwise [Reference25Ideal.Value.res_main_v26, e0, e1, e2, e3]
    rfl

end Cert.Mm25

end
-- ==== Proof.Mm26.lean ====
/- The gradient of the gated norm of the heads: head by head, and added up over rows and heads for the scale. -/
module

public import proofs.«01_k».proof.Proof.Gate
public import proofs.«01_k».proof.Proof.Gen.Kernel26.Frame
public import proofs.«01_k».proof.Proof.Gen.Kernel26Ideal.Value
public import proofs.«01_k».proof.Proof.Gen.Reference26Ideal.Run

@[expose] public section

noncomputable section

namespace Cert.Mm26

open Idealize.ShloMosaic Idealize.ShloMosaic.TcCoe Idealize.SL.Sem Kernel26Ideal Kernel26Ideal.Gen Kernel26Ideal.Value Mm Row Gate

variable (m : (ℓ : Loc nD τ sig) → Buf (Elt Ideal) ℓ) (c : Dev nD)

/-- What the norm is applied to, what its gate is taken of, the scale, and the gradient of the gated result. -/
def A0 : FVec Ideal S8192x1024 .f32 := m ((c : Thread nD τ).loc main_arg0)
def A1 : FVec Ideal S8192x5376 .f32 := m ((c : Thread nD τ).loc main_arg1)
def A2 : FVec Ideal S1x128 .f32 := m ((c : Thread nD τ).loc main_arg2)
def A3 : FVec Ideal S8192x2048 .f32 := m ((c : Thread nD τ).loc main_arg3)

theorem idx0 : ∀ t : Fin cfg0.N, win0_0.index t = ![t.val % 8, t.val / 8] := (by decide +kernel : ∀ t : Fin grid0.N, _)
theorem idx1 : ∀ t : Fin cfg0.N, win0_1.index t = ![t.val % 8, 24 + t.val / 8] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 8, t.val / 8] := (by decide +kernel : ∀ t : Fin grid0.N, _)
theorem idx4 : ∀ t : Fin cfg0.N, win0_4.index t = ![t.val % 8, t.val / 8] := (by decide +kernel : ∀ t : Fin grid0.N, _)
theorem idx5 : ∀ t : Fin cfg0.N, win0_5.index t = ![t.val % 8, t.val / 8] := (by decide +kernel : ∀ t : Fin grid0.N, _)
theorem idx6 : ∀ t : Fin cfg0.N, win0_6.index t = ![0, 0] := (by decide +kernel : ∀ t : Fin grid0.N, _)

/-- Row `p` of tile `t`, and its head. -/
def row (t : Fin cfg0.N) (p : Fin 1024) : Fin 8192 := ⟨t.val % 8 * 1024 + p.val, by omega⟩
def head (t : Fin cfg0.N) : Fin 8 := ⟨t.val / 8, by have h : t.val < 64 := lt_of_lt_of_eq t.isLt N_0; omega⟩
/-- Place `q` of head `j` in a row, and in the row that the gate lies in. -/
def at' {L : ℕ} (h : 1024 ≤ L) (j : Fin 8) (q : Fin 128) : Fin L := ⟨j.val * 128 + q.val, by omega⟩
def gateAt (j : Fin 8) (q : Fin 128) : Fin 5376 := ⟨3072 + (j.val * 128 + q.val), by omega⟩

theorem blk0 (t : Fin cfg0.N) (p : Fin 1024) (q : Fin 128) : iblk m c 0 t (ix2 p q) = A0 m c (ix2 (row t p) (at' (by decide) (head t) q)) := by
  blk_simp [iblk]; rw [V_main_arg0]; exact congrArg (A0 m c) (by blk_ext [idx0 t, row, head, at'])
theorem blk1 (t : Fin cfg0.N) (p : Fin 1024) (q : Fin 128) : iblk m c 1 t (ix2 p q) = A1 m c (ix2 (row t p) (gateAt (head t) q)) := by
  blk_simp [iblk]; rw [V_main_arg1]; exact congrArg (A1 m c) (by blk_ext [idx1 t, row, head, gateAt])
theorem blk2 (t : Fin cfg0.N) (q : Fin 128) : iblk m c 2 t (ix2 0 q) = A2 m c (ix2 0 q) := by
  blk_simp [iblk]; rw [V_main_arg2]; exact congrArg (A2 m c) (by blk_ext [idx2 t])
theorem blk3 (t : Fin cfg0.N) (p : Fin 1024) (q : Fin 128) : iblk m c 3 t (ix2 p q) = A3 m c (ix2 (row t p) (at' (by decide) (head t) q)) := by
  blk_simp [iblk]; rw [V_main_arg3]; exact congrArg (A3 m c) (by blk_ext [idx3 t, row, head, at'])

theorem emb4 (t : Fin cfg0.N) (p : Fin 1024) (q : Fin 128) : ((cfg0.win 4).blk t).view.emb (ix2 p q) = ix2 (row t p) (at' (by decide) (head t) q) := by
  blk_ext [idx4 t, row, head, at']
theorem emb5 (t : Fin cfg0.N) (p : Fin 1024) (q : Fin 128) : ((cfg0.win 5).blk t).view.emb (ix2 p q) = ix2 (row t p) (at' (by decide) (head t) q) := by
  blk_ext [idx5 t, row, head, at']
theorem emb6 (t : Fin cfg0.N) (q : Fin 128) : ((cfg0.win 6).blk t).view.emb (ix2 (0 : Fin 1) q) = ix2 0 q := by
  blk_ext [idx6 t]

abbrev n : EReal := Ideal.ofBits FTy.f32 1124073472#32

/-- A head's row after the norm; the gated gradient; the gradients of the row and of what the gate is taken of. -/
def rn {n' : ℕ} (y : Fin n' → EReal) (q : Fin n') : EReal := y q * Ideal.rsqrt (ms n y)
def gd (z d : EReal) : EReal := d * (z * sg z)

theorem pay8 (x0 : Vec Ideal S1024x128 .f32) (p : Fin 1024) (q : Fin 128) : k0_pay8 x0 (ix2 p q) = rn (fun k => x0 (ix2 p k)) q := by
  pointwise [k0_pay8, k0_pay6, k0_pay5]; rfl
theorem pay13 (x1 x3 : Vec Ideal S1024x128 .f32) (p : Fin 1024) (q : Fin 128) : k0_pay13 x1 x3 (ix2 p q) = gd (x1 (ix2 p q)) (x3 (ix2 p q)) := by
  pointwise [k0_pay13, k0_pay11, k0_pay10, k0_pay9]; rw [zero_sub]; rfl
theorem pay2 (x0 x1 x3 : Vec Ideal S1024x128 .f32) (x2 : Vec Ideal S1x128 .f32) (p : Fin 1024) (q : Fin 128) :
    k0_pay2 x0 x2 (k0_pay6 x0) (k0_pay7 x0) (k0_pay13 x1 x3) (ix2 p q)
      = dnorm n (fun k => x0 (ix2 p k)) (fun k => gd (x1 (ix2 p k)) (x3 (ix2 p k)) * x2 (ix2 0 k)) q := by
  pointwise [k0_pay2, k0_pay7, k0_pay6, k0_pay5]; simp only [pay13]; rfl
theorem pay1 (x0 x1 x3 : Vec Ideal S1024x128 .f32) (x2 : Vec Ideal S1x128 .f32) (p : Fin 1024) (q : Fin 128) :
    k0_pay1 (k0_pay14 x0 x1 x2 x3) (k0_pay15 x0 x1 x2 x3) (ix2 p q)
      = dsilu (x1 (ix2 p q)) (rn (fun k => x0 (ix2 p k)) q * x2 (ix2 0 q) * x3 (ix2 p q)) := by
  pointwise [k0_pay1, k0_pay15, k0_pay14, k0_pay12, k0_pay11, k0_pay10, k0_pay9]
  rw [dsilu_eq, pay8]
/-- What one tile adds to the gradient of the scale. -/
def colsum (x0 x1 x3 : Vec Ideal S1024x128 .f32) : S1x128.Idx → EReal := fun i =>
  ∑ p, rn (fun k => x0 (ix2 p k)) (i 1 : Fin 128) * gd (x1 (ix2 p (i 1 : Fin 128))) (x3 (ix2 p (i 1 : Fin 128)))
theorem pay4 (x0 x1 x3 : Vec Ideal S1024x128 .f32) (y : Vec Ideal S1x128 .f32) (i : S1x128.Idx) :
    k0_pay4 (k0_pay8 x0) (k0_pay13 x1 x3) y i = (y i + colsum x0 x1 x3 i : EReal) := by
  obtain ⟨p, q, rfl⟩ := ex2 (a := 1) (b := 128) i
  obtain rfl : p = 0 := Subsingleton.elim _ _
  pointwise [k0_pay4]; simp only [pay8, pay13]; rfl

/-- Row `r` of head `j` of what the norm is applied to and of the gated gradient, and the gradients. -/
def Y (r : Fin 8192) (j : Fin 8) (k : Fin 128) : EReal := A0 m c (ix2 r (at' (by decide) j k))
def Z (r : Fin 8192) (j : Fin 8) (k : Fin 128) : EReal := A1 m c (ix2 r (gateAt j k))
def D (r : Fin 8192) (j : Fin 8) (k : Fin 128) : EReal := A3 m c (ix2 r (at' (by decide) j k))
def T4 (r : Fin 8192) (j : Fin 8) (q : Fin 128) : EReal := dnorm n (Y m c r j) (fun k => gd (Z m c r j k) (D m c r j k) * A2 m c (ix2 0 k)) q
def T5 (r : Fin 8192) (j : Fin 8) (q : Fin 128) : EReal := dsilu (Z m c r j q) (rn (Y m c r j) q * A2 m c (ix2 0 q) * D m c r j q)
def T6 (r : Fin 8192) (j : Fin 8) (q : Fin 128) : EReal := rn (Y m c r j) q * gd (Z m c r j q) (D m c r j q)
def hd (x : Fin 1024) : Fin 8 := ⟨x.val / 128, by omega⟩
def pl (x : Fin 1024) : Fin 128 := ⟨x.val % 128, by omega⟩
theorem hd_at (j : Fin 8) (q : Fin 128) : hd (at' (by decide) j q) = j := Fin.ext (by simp only [hd, at']; omega)
theorem pl_at (j : Fin 8) (q : Fin 128) : pl (at' (by decide) j q) = q := Fin.ext (by simp only [pl, at']; omega)
theorem at_hd (q : Fin 1024) : (at' (by decide) (hd q) (pl q) : Fin 1024) = q := Fin.ext (by simp only [hd, pl, at']; omega)
theorem at_hd' (q : Fin 1024) : (at' (by decide) (hd q) (pl q) : Fin 2048) = ⟨q.val, by omega⟩ := Fin.ext (by simp only [hd, pl, at']; omega)
theorem gateAt_hd (q : Fin 1024) : gateAt (hd q) (pl q) = ⟨3072 + q.val, by omega⟩ := Fin.ext (by simp only [hd, pl, gateAt]; omega)
def G4 : FVec Ideal S8192x1024 .f32 := fun i => T4 m c (i 0 : Fin 8192) (hd (i 1 : Fin 1024)) (pl (i 1 : Fin 1024))
def G5 : FVec Ideal S8192x1024 .f32 := fun i => T5 m c (i 0 : Fin 8192) (hd (i 1 : Fin 1024)) (pl (i 1 : Fin 1024))
def G6 : FVec Ideal S1x128 .f32 := fun i => ∑ j, ∑ r, T6 m c r j (i 1 : Fin 128)

theorem final4 : (dats m 0 c).arrAt 4 cfg0.N = G4 m c := by
  refine (dats m 0 c).arrAt_eq_of_covers 4 _ (by decide +kernel) fun t hf y => ?_
  have e : (dats m 0 c).after 4 t = k0_pay2 (iblk m c 0 t) (iblk m c 2 t) (k0_pay6 (iblk m c 0 t)) (k0_pay7 (iblk m c 0 t)) (k0_pay13 (iblk m c 1 t) (iblk m c 3 t)) := by
    rw [after0_4]
    by_cases h : t.val % 64 = 0
    · rw [outsAt0_A m c t h]; frame_out
    · rw [outsAt0_B m c t h]; frame_out
  obtain ⟨p, q, rfl⟩ := ex2 (a := 1024) (b := 128) y
  show (dats m 0 c).after 4 t (ix2 p q) = G4 m c (((cfg0.win 4).blk t).view.emb (ix2 p q))
  rw [emb4, e, pay2]
  simp only [blk0, blk1, blk2, blk3]
  show _ = T4 m c (row t p) (hd (at' (by decide) (head t) q)) (pl (at' (by decide) (head t) q))
  rw [hd_at, pl_at]
  rfl

theorem final5 : (dats m 0 c).arrAt 5 cfg0.N = G5 m c := by
  refine (dats m 0 c).arrAt_eq_of_covers 5 _ (by decide +kernel) fun t hf y => ?_
  have e : (dats m 0 c).after 5 t = k0_pay1 (k0_pay14 (iblk m c 0 t) (iblk m c 1 t) (iblk m c 2 t) (iblk m c 3 t)) (k0_pay15 (iblk m c 0 t) (iblk m c 1 t) (iblk m c 2 t) (iblk m c 3 t)) := by
    rw [after0_5]
    by_cases h : t.val % 64 = 0
    · rw [outsAt0_A m c t h]; frame_out
    · rw [outsAt0_B m c t h]; frame_out
  obtain ⟨p, q, rfl⟩ := ex2 (a := 1024) (b := 128) y
  show (dats m 0 c).after 5 t (ix2 p q) = G5 m c (((cfg0.win 5).blk t).view.emb (ix2 p q))
  rw [emb5, e, pay1]
  simp only [blk0, blk1, blk2, blk3]
  show _ = T5 m c (row t p) (hd (at' (by decide) (head t) q)) (pl (at' (by decide) (head t) q))
  rw [hd_at, pl_at]
  rfl

theorem acc (t : Fin cfg0.N) (i : S1x128.Idx) (ht : t.val + 1 = cfg0.N) :
    (outsAt0 m c t.val t.isLt).2.2 i = ∑ p : Fin cfg0.N, colsum (iblk m c 0 p) (iblk m c 1 p) (iblk m c 3 p) i := by
  rw [Pipeline.eq_sum_fin_of_reset_step_apply_last (fun n h => (outsAt0 m c n h).2.2) 64 (fun _ => (0 : EReal)) (fun p => colsum (iblk m c 0 p) (iblk m c 1 p) (iblk m c 3 p))
    (fun t h j => by rw [outsAt0_A m c t h]; frame_out; rw [pay4]; pointwise [k0_pay3])
    (fun t h j => by rw [outsAt0_B m c t h]; frame_out; exact pay4 _ _ _ _ _) (le_of_eq N_0) t ht i]
  exact zero_add _

/-- The grid point of head `j` and row block `i`. -/
def pt (j i : Fin 8) : Fin cfg0.N := ⟨j.val * 8 + i.val, lt_of_lt_of_eq (show j.val * 8 + i.val < 64 by omega) N_0.symm⟩

theorem final6 : (dats m 0 c).arrAt 6 cfg0.N = G6 m c := by
  refine (dats m 0 c).arrAt_eq_of_covers 6 _ (by decide +kernel) fun t hf y => ?_
  have h : t.val % 64 = 63 := (flush0_6 t).mp hf
  have ht : t.val < 64 := lt_of_lt_of_eq t.isLt N_0
  obtain ⟨p, q, rfl⟩ := ex2 (a := 1) (b := 128) y
  obtain rfl : p = 0 := Subsingleton.elim _ _
  show (dats m 0 c).after 6 t (ix2 0 q) = G6 m c (((cfg0.win 6).blk t).view.emb (ix2 0 q))
  rw [emb6, after0_6, acc m c t _ (show t.val + 1 = 64 by omega)]
  show (∑ p : Fin 64, colsum (iblk m c 0 p) (iblk m c 1 p) (iblk m c 3 p) (ix2 0 q)) = ∑ j : Fin 8, ∑ r : Fin 8192, T6 m c r j q
  rw [← Fin.sum_mul_add_fin (L := 64) 8 8]
  refine Finset.sum_congr rfl fun j _ => ?_
  rw [← Fin.sum_mul_add_fin (L := 8192) 8 1024]
  refine Finset.sum_congr rfl fun i _ => Finset.sum_congr rfl fun p _ => ?_
  have er : row (pt j i) p = ⟨i.val * 1024 + p.val, by omega⟩ := Fin.ext (by simp only [row, pt]; omega)
  have eh : head (pt j i) = j := Fin.ext (by simp only [head, pt]; omega)
  refine (congrArg₂ (fun y b : EReal => y * b) (congrArg (fun v => rn v q) (funext fun k => blk0 m c (pt j i) p k))
    (congrArg₂ gd (blk1 m c (pt j i) p q) (blk3 m c (pt j i) p q))).trans ?_
  rw [er, eh]
  rfl

/-- The reference runs, leaves its arguments as they were and no semaphore counter raised. -/
theorem frame_r : @quiescent_Reference26Ideal Reference26Ideal.Gen.facts := fun m g _ =>
  quiet (by decide) (Reference26Ideal.Value.run m g) fun _ _ h => h.2.2.2

/-- From the same arguments the kernel and the reference end with the same arrays. -/
theorem algebraic : @algebraic_Kernel26Ideal_Reference26Ideal Kernel26Ideal.Gen.facts Reference26Ideal.Gen.facts := by
  intro m g m' g' hpre hagree
  refine ⟨_, _, _, run_blocks m g, ?_⟩
  refine (θ_run _ _ _).mono (fun r h c => ⟨(h c).1.trans ?_, (h c).2.1.trans ?_, (h c).2.2.1.trans ?_, (h c).2.2.2⟩) (Reference26Ideal.Value.run m' g')
    <;> obtain ⟨e0, e1, e2, e3⟩ := hagree c <;> clear h
  · refine Eq.trans ?_ (final4 m c).symm
    funext i
    obtain ⟨p, q, rfl⟩ := ex2 (a := 8192) (b := 1024) i
    pointwise [Reference26Ideal.Value.res_main_v47, e0, e1, e2, e3]
    show _ = T4 m c p (hd q) (pl q)
    simp only [T4, dnorm, D, Y, Z, at_hd, at_hd', gateAt_hd]
    rfl
  · refine Eq.trans ?_ (final5 m c).symm
    funext i
    obtain ⟨p, q, rfl⟩ := ex2 (a := 8192) (b := 1024) i
    pointwise [e0, e1, e2, e3]
    show _ = T5 m c p (hd q) (pl q)
    simp only [T5, rn, D, Y, Z, at_hd, at_hd', gateAt_hd]
    rfl
  · refine Eq.trans ?_ (final6 m c).symm
    funext i
    obtain ⟨p, q, rfl⟩ := ex2 (a := 1) (b := 128) i
    pointwise [sum01, e0, e1, e2, e3]
    simp only [Fin.sum_univ_one]
    rw [Finset.sum_comm]
    rfl

end Cert.Mm26

end
-- ==== Proof.Mm27.lean ====
/- The gradient of the gate of the values: place by place. -/
module

public import proofs.«01_k».proof.Proof.Gate
public import proofs.«01_k».proof.Proof.Gen.Kernel27.Frame
public import proofs.«01_k».proof.Proof.Gen.Kernel27Ideal.Value
public import proofs.«01_k».proof.Proof.Gen.Reference27Ideal.Run

@[expose] public section

noncomputable section

namespace Cert.Mm27

open Idealize.ShloMosaic Idealize.ShloMosaic.TcCoe Idealize.SL.Sem Kernel27Ideal Kernel27Ideal.Gen Kernel27Ideal.Value Mm Gate

/-- Where the kernel reads what the gate is taken of. -/
theorem in2 (p : Fin 8192) (q : Fin 1024) : inIdx2_0 (ix2 p q) = ix2 p ⟨2048 + q.val, by omega⟩ := by
  funext a; fin_cases a <;> exact Fin.ext (by simp [inIdx2_0, add_comm])

/-- The reference runs, leaves its arguments as they were and no semaphore counter raised. -/
theorem frame_r : @quiescent_Reference27Ideal Reference27Ideal.Gen.facts := fun m g _ =>
  quiet (by decide) (Reference27Ideal.Value.run m g) fun _ _ h => h.2

/-- From the same arguments the kernel and the reference end with the same arrays. -/
theorem algebraic : @algebraic_Kernel27Ideal_Reference27Ideal Kernel27Ideal.Gen.facts Reference27Ideal.Gen.facts := by
  intro m g m' g' hpre hagree
  refine ⟨_, run m g, ?_⟩
  refine (θ_run _ _ _).mono (fun r h c => ⟨(h c).1.trans ?_, (h c).2⟩) (Reference27Ideal.Value.run m' g')
  obtain ⟨e0, e1⟩ := hagree c
  clear h
  rw [e0, e1]
  funext i
  obtain ⟨p, q, rfl⟩ := ex2 (a := 8192) (b := 1024) i
  pointwise [G2]
  rw [in2, dsilu_eq]
  rfl

end Cert.Mm27

end
-- ==== Proof.Mm37.lean ====
/- The loss, added up over the tiles, and the gradient of what it is taken of. -/
module

public import proofs.«01_k».proof.Proof.Row
public import proofs.«01_k».proof.Proof.Gen.Kernel37.Frame
public import proofs.«01_k».proof.Proof.Gen.Kernel37Ideal.Value
public import proofs.«01_k».proof.Proof.Gen.Reference37Ideal.Run

@[expose] public section

noncomputable section

namespace Cert.Mm37

open Idealize.ShloMosaic Idealize.ShloMosaic.TcCoe Idealize.SL.Sem Kernel37Ideal Kernel37Ideal.Gen Kernel37Ideal.Value Mm Row

/-- The literals a half and one 2048th. -/
theorem half_bits : Ideal.ofBits FTy.f32 1056964608#32 = ((1 / 2 : ℝ) : EReal) := by
  simp [Ideal.ofBits, Ideal.ieee]; rw [← EReal.coe_mul]; norm_num
theorem n_bits : Ideal.ofBits FTy.f32 1157627904#32 = ((2048 : ℝ) : EReal) := by
  simp [Ideal.ofBits, Ideal.ieee]; rw [← EReal.coe_mul]; norm_num
theorem part_bits : Ideal.ofBits FTy.f32 973078528#32 = ((1 / 2048 : ℝ) : EReal) := by
  simp [Ideal.ofBits, Ideal.ieee]; rw [← EReal.coe_mul]; norm_num

/-- Half of a sum is the sum of the halves. -/
theorem half_sum {ι : Type*} (s : Finset ι) (f : ι → EReal) :
    Ideal.ofBits FTy.f32 1056964608#32 * ∑ i ∈ s, f i = ∑ i ∈ s, Ideal.ofBits FTy.f32 1056964608#32 * f i := by
  classical
  rw [half_bits]
  induction s using Finset.induction_on with
  | empty => simp
  | insert a s h ih => rw [Finset.sum_insert h, Finset.sum_insert h, EReal.left_distrib_of_nonneg_of_ne_top (EReal.coe_nonneg.mpr (by norm_num)) (EReal.coe_ne_top _), ih]

/-- The gradient as the kernel writes it. -/
theorem slope (e : EReal) : e * Ideal.ofBits FTy.f32 973078528#32
    = Ideal.div (Ideal.ofBits FTy.f32 1056964608#32) (Ideal.ofBits FTy.f32 1157627904#32) * (2 * e) := by
  rw [part_bits, half_bits, n_bits, Ideal.div_coe (by norm_num), ← mul_assoc, mul_comm e]
  congr 1
  rw [show (2 : EReal) = ((2 : ℝ) : EReal) from rfl, ← EReal.coe_mul]
  exact congrArg _ (by norm_num)

variable (m : (ℓ : Loc nD τ sig) → Buf (Elt Ideal) ℓ) (c : Dev nD)

/-- The result of the last layer and the target. -/
def A0 : FVec Ideal S8192x2048 .f32 := m ((c : Thread nD τ).loc main_arg0)
def A1 : FVec Ideal S8192x2048 .f32 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)

/-- Row `p` of tile `t`. -/
def row (t : Fin cfg0.N) (p : Fin 128) : Fin 8192 :=
  ⟨t.val * 128 + p.val, by have h : t.val < 64 := lt_of_lt_of_eq t.isLt N_0; omega⟩

theorem blk0 (t : Fin cfg0.N) (p : Fin 128) (q : Fin 2048) : iblk m c 0 t (ix2 p q) = A0 m c (ix2 (row t p) q) := by
  blk_simp [iblk]; rw [V_main_arg0]; exact congrArg (A0 m c) (by blk_ext [idx0 t, row])
theorem blk1 (t : Fin cfg0.N) (p : Fin 128) (q : Fin 2048) : iblk m c 1 t (ix2 p q) = A1 m c (ix2 (row t p) q) := by
  blk_simp [iblk]; rw [V_main_arg1]; exact congrArg (A1 m c) (by blk_ext [idx1 t, row])

/-- Half the mean square of a row, and what one tile adds to the loss. -/
def lossOf (y t : Fin 2048 → EReal) : EReal :=
  Ideal.ofBits FTy.f32 1056964608#32 * Ideal.div (∑ k, (y k - t k) * (y k - t k)) (Ideal.ofBits FTy.f32 1157627904#32)
def tile (x0 x1 : Vec Ideal S128x2048 .f32) : EReal := ∑ p : Fin 128, lossOf (fun k => x0 (ix2 p k)) (fun k => x1 (ix2 p k))
theorem pay4 (x0 x1 : Vec Ideal S128x2048 .f32) (y : Vec Ideal S1x128 .f32) (i : S1x128.Idx) :
    k0_pay4 x0 x1 y i = (y i + tile x0 x1 : EReal) := by
  obtain ⟨p, q, rfl⟩ := ex2 (a := 1) (b := 128) i
  obtain rfl : p = 0 := Subsingleton.elim _ _
  pointwise [k0_pay4, k0_pay1]
  rw [half_sum]
  rfl

def G2 : FVec Ideal S8192x2048 .f32 := fun i => ((A0 m c i - A1 m c i) * Ideal.ofBits FTy.f32 973078528#32 : EReal)
def G3 : FVec Ideal S1x128 .f32 := fun _ => (∑ r : Fin 8192, lossOf (fun k => A0 m c (ix2 r k)) (fun k => A1 m c (ix2 r k)) : EReal)

theorem final2 : (dats m 0 c).arrAt 2 cfg0.N = G2 m c := by
  refine (dats m 0 c).arrAt_eq_of_covers 2 _ (by decide +kernel) fun t hf y => ?_
  have e : (dats m 0 c).after 2 t = k0_pay2 (iblk m c 0 t) (iblk m c 1 t) := by
    rw [after0_2]
    by_cases h : t.val % 64 = 0
    · rw [outsAt0_A m c t h]; frame_out
    · rw [outsAt0_B m c t h]; frame_out
  obtain ⟨p, q, rfl⟩ := ex2 (a := 128) (b := 2048) y
  show (dats m 0 c).after 2 t (ix2 p q) = G2 m c (((cfg0.win 2).blk t).view.emb (ix2 p q))
  rw [show ((cfg0.win 2).blk t).view.emb (ix2 p q) = ix2 (row t p) q by blk_ext [idx2 t, row], e]
  pointwise [k0_pay2, k0_pay1]
  rw [blk0, blk1]
  rfl

theorem acc (t : Fin cfg0.N) (i : S1x128.Idx) (ht : t.val + 1 = cfg0.N) :
    (outsAt0 m c t.val t.isLt).2 i = ∑ p : Fin cfg0.N, tile (iblk m c 0 p) (iblk m c 1 p) := by
  rw [Pipeline.eq_sum_fin_of_reset_step_apply_last (fun n h => (outsAt0 m c n h).2) 64 (fun _ => (0 : EReal)) (fun p _ => tile (iblk m c 0 p) (iblk m c 1 p))
    (fun t h j => by rw [outsAt0_A m c t h]; frame_out; rw [pay4]; pointwise [k0_pay3])
    (fun t h j => by rw [outsAt0_B m c t h]; frame_out; exact pay4 _ _ _ _) (le_of_eq N_0) t ht i]
  exact zero_add _

theorem final3 : (dats m 0 c).arrAt 3 cfg0.N = G3 m c := by
  refine (dats m 0 c).arrAt_eq_of_covers 3 _ (by decide +kernel) fun t hf y => ?_
  have h : t.val % 64 = 63 := (flush0_3 t).mp hf
  have ht : t.val < 64 := lt_of_lt_of_eq t.isLt N_0
  show (dats m 0 c).after 3 t y = _
  rw [after0_3, acc m c t _ (show t.val + 1 = 64 by omega)]
  show _ = ∑ r : Fin 8192, lossOf (fun k => A0 m c (ix2 r k)) (fun k => A1 m c (ix2 r k))
  rw [← Fin.sum_mul_add_fin (L := 8192) 64 128]
  refine Finset.sum_congr rfl fun s _ => Finset.sum_congr rfl fun p _ => ?_
  exact congrArg₂ lossOf (funext fun k => blk0 m c s p k) (funext fun k => blk1 m c s p k)

/-- The reference runs, leaves its arguments as they were and no semaphore counter raised. -/
theorem frame_r : @quiescent_Reference37Ideal Reference37Ideal.Gen.facts := fun m g _ =>
  quiet (by decide) (Reference37Ideal.Value.run m g) fun _ _ h => h.2.2

/-- From the same arguments the kernel and the reference end with the same arrays. -/
theorem algebraic : @algebraic_Kernel37Ideal_Reference37Ideal Kernel37Ideal.Gen.facts Reference37Ideal.Gen.facts := by
  intro m g m' g' hpre hagree
  refine ⟨_, _, run_blocks m g, ?_⟩
  refine (θ_run _ _ _).mono (fun r h c => ⟨(h c).1.trans ?_, (h c).2.1.trans ?_, (h c).2.2⟩) (Reference37Ideal.Value.run m' g')
    <;> obtain ⟨e0, e1⟩ := hagree c
  · rw [e0, e1, final2]
    funext i
    obtain ⟨p, q, rfl⟩ := ex2 (a := 8192) (b := 2048) i
    pointwise [G2, two_bits]
    exact (slope _).symm
  · rw [e0, e1, final3]
    funext i
    obtain ⟨p, q, rfl⟩ := ex2 (a := 1) (b := 128) i
    pointwise [G3]
    rw [half_sum]
    rfl

end Cert.Mm37

end
-- ==== Proof.Mm38.lean ====
/- The gate of the values. -/
module

public import proofs.«01_k».proof.Proof.Gate
public import proofs.«01_k».proof.Proof.Gen.Kernel38.Frame
public import proofs.«01_k».proof.Proof.Gen.Kernel38Ideal.Value
public import proofs.«01_k».proof.Proof.Gen.Reference38Ideal.Run

@[expose] public section

noncomputable section

namespace Cert.Mm38

open Idealize.ShloMosaic Idealize.ShloMosaic.TcCoe Idealize.SL.Sem Kernel38Ideal Kernel38Ideal.Gen Kernel38Ideal.Value Mm Gate

/-- Where the kernel reads what the gate is taken of. -/
theorem in1 (p : Fin 8192) (q : Fin 1024) : inIdx1_0 (ix2 p q) = ix2 p ⟨2048 + q.val, by omega⟩ := by
  funext a; fin_cases a <;> exact Fin.ext (by simp [inIdx1_0, add_comm])

/-- The reference runs, leaves its arguments as they were and no semaphore counter raised. -/
theorem frame_r : @quiescent_Reference38Ideal Reference38Ideal.Gen.facts := fun m g _ =>
  quiet (by decide) (Reference38Ideal.Value.run m g) fun _ _ h => h.2

/-- From the same arguments the kernel and the reference end with the same arrays. -/
theorem algebraic : @algebraic_Kernel38Ideal_Reference38Ideal Kernel38Ideal.Gen.facts Reference38Ideal.Gen.facts := by
  intro m g m' g' hpre hagree
  refine ⟨_, run m g, ?_⟩
  refine (θ_run _ _ _).mono (fun r h c => ⟨(h c).1.trans ?_, (h c).2⟩) (Reference38Ideal.Value.run m' g')
  have e0 := hagree c
  rw [e0]
  funext i
  obtain ⟨p, q, rfl⟩ := ex2 (a := 8192) (b := 1024) i
  pointwise [G1]
  rw [in1, zero_sub]

end Cert.Mm38

end
-- ==== Proof.Mm39.lean ====
/- The gated unit of the Conformer module. -/
module

public import proofs.«01_k».proof.Proof.Gate
public import proofs.«01_k».proof.Proof.Gen.Kernel39.Frame
public import proofs.«01_k».proof.Proof.Gen.Kernel39Ideal.Value
public import proofs.«01_k».proof.Proof.Gen.Reference39Ideal.Run

@[expose] public section

noncomputable section

namespace Cert.Mm39

open Idealize.ShloMosaic Idealize.ShloMosaic.TcCoe Idealize.SL.Sem Kernel39Ideal Kernel39Ideal.Gen Kernel39Ideal.Value Mm Gate

/-- Where the kernel reads what is gated and the gate. -/
theorem in2 (p : Fin 8192) (q : Fin 2048) : inIdx2_0 (ix2 p q) = ix2 p ⟨q.val, by omega⟩ := by
  funext a; fin_cases a <;> exact Fin.ext (by simp [inIdx2_0])
theorem in2' (p : Fin 8192) (q : Fin 2048) : inIdx2_1 (ix2 p q) = ix2 p ⟨2048 + q.val, by omega⟩ := by
  funext a; fin_cases a <;> exact Fin.ext (by simp [inIdx2_1, add_comm])

/-- The reference runs, leaves its arguments as they were and no semaphore counter raised. -/
theorem frame_r : @quiescent_Reference39Ideal Reference39Ideal.Gen.facts := fun m g _ =>
  quiet (by decide) (Reference39Ideal.Value.run m g) fun _ _ h => h.2

/-- From the same arguments the kernel and the reference end with the same arrays. -/
theorem algebraic : @algebraic_Kernel39Ideal_Reference39Ideal Kernel39Ideal.Gen.facts Reference39Ideal.Gen.facts := by
  intro m g m' g' hpre hagree
  refine ⟨_, run m g, ?_⟩
  refine (θ_run _ _ _).mono (fun r h c => ⟨(h c).1.trans ?_, (h c).2⟩) (Reference39Ideal.Value.run m' g')
  have e0 := hagree c
  rw [e0]
  funext i
  obtain ⟨p, q, rfl⟩ := ex2 (a := 8192) (b := 2048) i
  pointwise [G2]
  rw [in2, in2', zero_sub]

end Cert.Mm39

end
-- ==== Proof.Mm40.lean ====
/- The pooled product, scaled. -/
module

public import proofs.«01_k».proof.Proof.Row
public import proofs.«01_k».proof.Proof.Gen.Kernel40.Frame
public import proofs.«01_k».proof.Proof.Gen.Kernel40Ideal.Value
public import proofs.«01_k».proof.Proof.Gen.Reference40Ideal.Run

@[expose] public section

noncomputable section

namespace Cert.Mm40

open Idealize.ShloMosaic Idealize.ShloMosaic.TcCoe Idealize.SL.Sem Kernel40Ideal Kernel40Ideal.Gen Kernel40Ideal.Value Mm Row

variable (m : (ℓ : Loc nD τ sig) → Buf (Elt Ideal) ℓ) (c : Dev nD)

/-- The arguments. -/
def A0 : FVec Ideal S8192x1024 .f32 := m ((c : Thread nD τ).loc main_arg0)
def A1 : FVec Ideal S1x1024 .f32 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Row `p` of tile `t`. -/
def row (t : Fin cfg0.N) (p : Fin 256) : Fin 8192 :=
  ⟨t.val * 256 + p.val, by have h : t.val < 32 := lt_of_lt_of_eq t.isLt N_0; omega⟩

theorem blk0 (t : Fin cfg0.N) (p : Fin 256) (q : Fin 1024) : iblk m c 0 t (ix2 p q) = A0 m c (ix2 (row t p) q) := by
  blk_simp [iblk]; rw [V_main_arg0]; exact congrArg (A0 m c) (by blk_ext [idx0 t, row])
theorem blk1 (t : Fin cfg0.N) (q : Fin 1024) : iblk m c 1 t (ix2 0 q) = A1 m c (ix2 0 q) := by
  blk_simp [iblk]; rw [V_main_arg1]; exact congrArg (A1 m c) (by blk_ext [idx1 t])

def G2 : FVec Ideal S8192x1024 .bf16 := fun i => (A0 m c i * A1 m c (ix2 0 (i 1 : Fin 1024)) : EReal)
theorem final2 : (dats m 0 c).arrAt 2 cfg0.N = G2 m c := by
  refine (dats m 0 c).arrAt_eq_of_covers 2 _ (by decide +kernel) fun t hf y => ?_
  obtain ⟨p, q, rfl⟩ := ex2 (a := 256) (b := 1024) y
  show (dats m 0 c).after 2 t (ix2 p q) = G2 m c (((cfg0.win 2).blk t).view.emb (ix2 p q))
  rw [show ((cfg0.win 2).blk t).view.emb (ix2 p q) = ix2 (row t p) q by blk_ext [idx2 t, row], after0_2]
  frame_out
  pointwise [k0_pay1]
  simp only [blk0, blk1]
  rfl

/-- The reference runs, leaves its arguments as they were and no semaphore counter raised. -/
theorem frame_r : @quiescent_Reference40Ideal Reference40Ideal.Gen.facts := fun m g _ =>
  quiet (by decide) (Reference40Ideal.Value.run m g) fun _ _ h => h.2

/-- From the same arguments the kernel and the reference end with the same arrays. -/
theorem algebraic : @algebraic_Kernel40Ideal_Reference40Ideal Kernel40Ideal.Gen.facts Reference40Ideal.Gen.facts := by
  intro m g m' g' hpre hagree
  refine ⟨_, run_blocks m g, ?_⟩
  refine (θ_run _ _ _).mono (fun r h c => ⟨(h c).1.trans ?_, (h c).2⟩) (Reference40Ideal.Value.run m' g')
  obtain ⟨e0, e1⟩ := hagree c
  rw [e0, e1, final2]
  funext i
  obtain ⟨p, q, rfl⟩ := ex2 (a := 8192) (b := 1024) i
  pointwise [G2, ms]
  rfl

end Cert.Mm40

end
-- ==== Proof.Mm41.lean ====
/- The first norm. -/
module

public import proofs.«01_k».proof.Proof.Row
public import proofs.«01_k».proof.Proof.Gen.Kernel41.Frame
public import proofs.«01_k».proof.Proof.Gen.Kernel41Ideal.Value
public import proofs.«01_k».proof.Proof.Gen.Reference41Ideal.Run

@[expose] public section

noncomputable section

namespace Cert.Mm41

open Idealize.ShloMosaic Idealize.ShloMosaic.TcCoe Idealize.SL.Sem Kernel41Ideal Kernel41Ideal.Gen Kernel41Ideal.Value Mm Row

variable (m : (ℓ : Loc nD τ sig) → Buf (Elt Ideal) ℓ) (c : Dev nD)

/-- The arguments. -/
def A0 : FVec Ideal S8192x2048 .f32 := m ((c : Thread nD τ).loc main_arg0)
def A1 : FVec Ideal S1x2048 .f32 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Row `p` of tile `t`. -/
def row (t : Fin cfg0.N) (p : Fin 256) : Fin 8192 :=
  ⟨t.val * 256 + p.val, by have h : t.val < 32 := lt_of_lt_of_eq t.isLt N_0; omega⟩

theorem blk0 (t : Fin cfg0.N) (p : Fin 256) (q : Fin 2048) : iblk m c 0 t (ix2 p q) = A0 m c (ix2 (row t p) q) := by
  blk_simp [iblk]; rw [V_main_arg0]; exact congrArg (A0 m c) (by blk_ext [idx0 t, row])
theorem blk1 (t : Fin cfg0.N) (q : Fin 2048) : iblk m c 1 t (ix2 0 q) = A1 m c (ix2 0 q) := by
  blk_simp [iblk]; rw [V_main_arg1]; exact congrArg (A1 m c) (by blk_ext [idx1 t])

def G2 : FVec Ideal S8192x2048 .bf16 := fun i => (A0 m c (ix2 (i 0 : Fin 8192) (i 1 : Fin 2048)) * Ideal.rsqrt (ms (Ideal.ofBits FTy.f32 1157627904#32) fun k => A0 m c (ix2 (i 0 : Fin 8192) k)) * A1 m c (ix2 0 (i 1 : Fin 2048)) : EReal)
theorem final2 : (dats m 0 c).arrAt 2 cfg0.N = G2 m c := by
  refine (dats m 0 c).arrAt_eq_of_covers 2 _ (by decide +kernel) fun t hf y => ?_
  obtain ⟨p, q, rfl⟩ := ex2 (a := 256) (b := 2048) y
  show (dats m 0 c).after 2 t (ix2 p q) = G2 m c (((cfg0.win 2).blk t).view.emb (ix2 p q))
  rw [show ((cfg0.win 2).blk t).view.emb (ix2 p q) = ix2 (row t p) q by blk_ext [idx2 t, row], after0_2]
  frame_out
  pointwise [k0_pay1]
  simp only [blk0, blk1]
  rfl

/-- The reference runs, leaves its arguments as they were and no semaphore counter raised. -/
theorem frame_r : @quiescent_Reference41Ideal Reference41Ideal.Gen.facts := fun m g _ =>
  quiet (by decide) (Reference41Ideal.Value.run m g) fun _ _ h => h.2

/-- From the same arguments the kernel and the reference end with the same arrays. -/
theorem algebraic : @algebraic_Kernel41Ideal_Reference41Ideal Kernel41Ideal.Gen.facts Reference41Ideal.Gen.facts := by
  intro m g m' g' hpre hagree
  refine ⟨_, run_blocks m g, ?_⟩
  refine (θ_run _ _ _).mono (fun r h c => ⟨(h c).1.trans ?_, (h c).2⟩) (Reference41Ideal.Value.run m' g')
  obtain ⟨e0, e1⟩ := hagree c
  rw [e0, e1, final2]
  funext i
  obtain ⟨p, q, rfl⟩ := ex2 (a := 8192) (b := 2048) i
  pointwise [G2, ms]
  rfl

end Cert.Mm41

end
-- ==== Proof.Mm42.lean ====
/- The residual sum of the last layer. -/
module

public import proofs.«01_k».proof.Proof.Row
public import proofs.«01_k».proof.Proof.Gen.Kernel42.Frame
public import proofs.«01_k».proof.Proof.Gen.Kernel42Ideal.Value
public import proofs.«01_k».proof.Proof.Gen.Reference42Ideal.Run

@[expose] public section

noncomputable section

namespace Cert.Mm42

open Idealize.ShloMosaic Idealize.ShloMosaic.TcCoe Idealize.SL.Sem Kernel42Ideal Kernel42Ideal.Gen Kernel42Ideal.Value Mm Row

variable (m : (ℓ : Loc nD τ sig) → Buf (Elt Ideal) ℓ) (c : Dev nD)

/-- The arguments. -/
def A0 : FVec Ideal S8192x2048 .f32 := m ((c : Thread nD τ).loc main_arg0)
def A1 : FVec Ideal S8192x2048 .f32 := m ((c : Thread nD τ).loc main_arg1)
def A2 : FVec Ideal S1x2048 .f32 := m ((c : Thread nD τ).loc main_arg2)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- Row `p` of tile `t`. -/
def row (t : Fin cfg0.N) (p : Fin 256) : Fin 8192 :=
  ⟨t.val * 256 + p.val, by have h : t.val < 32 := lt_of_lt_of_eq t.isLt N_0; omega⟩

theorem blk0 (t : Fin cfg0.N) (p : Fin 256) (q : Fin 2048) : iblk m c 0 t (ix2 p q) = A0 m c (ix2 (row t p) q) := by
  blk_simp [iblk]; rw [V_main_arg0]; exact congrArg (A0 m c) (by blk_ext [idx0 t, row])
theorem blk1 (t : Fin cfg0.N) (p : Fin 256) (q : Fin 2048) : iblk m c 1 t (ix2 p q) = A1 m c (ix2 (row t p) q) := by
  blk_simp [iblk]; rw [V_main_arg1]; exact congrArg (A1 m c) (by blk_ext [idx1 t, row])
theorem blk2 (t : Fin cfg0.N) (q : Fin 2048) : iblk m c 2 t (ix2 0 q) = A2 m c (ix2 0 q) := by
  blk_simp [iblk]; rw [V_main_arg2]; exact congrArg (A2 m c) (by blk_ext [idx2 t])

def G3 : FVec Ideal S8192x2048 .f32 := fun i => (A0 m c i + A1 m c (ix2 (i 0 : Fin 8192) (i 1 : Fin 2048)) * Ideal.rsqrt (ms (Ideal.ofBits FTy.f32 1157627904#32) fun k => A1 m c (ix2 (i 0 : Fin 8192) k)) * A2 m c (ix2 0 (i 1 : Fin 2048)) : EReal)
theorem final3 : (dats m 0 c).arrAt 3 cfg0.N = G3 m c := by
  refine (dats m 0 c).arrAt_eq_of_covers 3 _ (by decide +kernel) fun t hf y => ?_
  obtain ⟨p, q, rfl⟩ := ex2 (a := 256) (b := 2048) y
  show (dats m 0 c).after 3 t (ix2 p q) = G3 m c (((cfg0.win 3).blk t).view.emb (ix2 p q))
  rw [show ((cfg0.win 3).blk t).view.emb (ix2 p q) = ix2 (row t p) q by blk_ext [idx3 t, row], after0_3]
  frame_out
  pointwise [k0_pay1]
  simp only [blk0, blk1, blk2]
  rfl

/-- The reference runs, leaves its arguments as they were and no semaphore counter raised. -/
theorem frame_r : @quiescent_Reference42Ideal Reference42Ideal.Gen.facts := fun m g _ =>
  quiet (by decide) (Reference42Ideal.Value.run m g) fun _ _ h => h.2

/-- From the same arguments the kernel and the reference end with the same arrays. -/
theorem algebraic : @algebraic_Kernel42Ideal_Reference42Ideal Kernel42Ideal.Gen.facts Reference42Ideal.Gen.facts := by
  intro m g m' g' hpre hagree
  refine ⟨_, run_blocks m g, ?_⟩
  refine (θ_run _ _ _).mono (fun r h c => ⟨(h c).1.trans ?_, (h c).2⟩) (Reference42Ideal.Value.run m' g')
  obtain ⟨e0, e1, e2⟩ := hagree c
  rw [e0, e1, e2, final3]
  funext i
  obtain ⟨p, q, rfl⟩ := ex2 (a := 8192) (b := 2048) i
  pointwise [G3, ms]
  rfl

end Cert.Mm42

end
-- ==== Proof.Mm43.lean ====
/- The two norms around a residual sum. -/
module

public import proofs.«01_k».proof.Proof.Row
public import proofs.«01_k».proof.Proof.Gen.Kernel43.Frame
public import proofs.«01_k».proof.Proof.Gen.Kernel43Ideal.Value
public import proofs.«01_k».proof.Proof.Gen.Reference43Ideal.Run

@[expose] public section

noncomputable section

namespace Cert.Mm43

open Idealize.ShloMosaic Idealize.ShloMosaic.TcCoe Idealize.SL.Sem Kernel43Ideal Kernel43Ideal.Gen Kernel43Ideal.Value Mm Row

variable (m : (ℓ : Loc nD τ sig) → Buf (Elt Ideal) ℓ) (c : Dev nD)

/-- The arguments. -/
def A0 : FVec Ideal S8192x2048 .f32 := m ((c : Thread nD τ).loc main_arg0)
def A1 : FVec Ideal S8192x2048 .f32 := m ((c : Thread nD τ).loc main_arg1)
def A2 : FVec Ideal S1x2048 .f32 := m ((c : Thread nD τ).loc main_arg2)
def A3 : FVec Ideal S1x2048 .f32 := m ((c : Thread nD τ).loc main_arg3)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- Row `p` of tile `t`. -/
def row (t : Fin cfg0.N) (p : Fin 256) : Fin 8192 :=
  ⟨t.val * 256 + p.val, by have h : t.val < 32 := lt_of_lt_of_eq t.isLt N_0; omega⟩

theorem blk0 (t : Fin cfg0.N) (p : Fin 256) (q : Fin 2048) : iblk m c 0 t (ix2 p q) = A0 m c (ix2 (row t p) q) := by
  blk_simp [iblk]; rw [V_main_arg0]; exact congrArg (A0 m c) (by blk_ext [idx0 t, row])
theorem blk1 (t : Fin cfg0.N) (p : Fin 256) (q : Fin 2048) : iblk m c 1 t (ix2 p q) = A1 m c (ix2 (row t p) q) := by
  blk_simp [iblk]; rw [V_main_arg1]; exact congrArg (A1 m c) (by blk_ext [idx1 t, row])
theorem blk2 (t : Fin cfg0.N) (q : Fin 2048) : iblk m c 2 t (ix2 0 q) = A2 m c (ix2 0 q) := by
  blk_simp [iblk]; rw [V_main_arg2]; exact congrArg (A2 m c) (by blk_ext [idx2 t])
theorem blk3 (t : Fin cfg0.N) (q : Fin 2048) : iblk m c 3 t (ix2 0 q) = A3 m c (ix2 0 q) := by
  blk_simp [iblk]; rw [V_main_arg3]; exact congrArg (A3 m c) (by blk_ext [idx3 t])

/-- The row after the residual sum. -/
def T (r : Fin 8192) (q : Fin 2048) : EReal := A0 m c (ix2 r q) + A1 m c (ix2 r q) * Ideal.rsqrt (ms (Ideal.ofBits FTy.f32 1157627904#32) fun k => A1 m c (ix2 r k)) * A2 m c (ix2 0 q)
def G4 : FVec Ideal S8192x2048 .f32 := fun i => T m c (i 0 : Fin 8192) (i 1 : Fin 2048)
theorem final4 : (dats m 0 c).arrAt 4 cfg0.N = G4 m c := by
  refine (dats m 0 c).arrAt_eq_of_covers 4 _ (by decide +kernel) fun t hf y => ?_
  obtain ⟨p, q, rfl⟩ := ex2 (a := 256) (b := 2048) y
  show (dats m 0 c).after 4 t (ix2 p q) = G4 m c (((cfg0.win 4).blk t).view.emb (ix2 p q))
  rw [show ((cfg0.win 4).blk t).view.emb (ix2 p q) = ix2 (row t p) q by blk_ext [idx4 t, row], after0_4]
  frame_out
  pointwise [k0_pay1]
  simp only [blk0, blk1, blk2, blk3]
  rfl

def G5 : FVec Ideal S8192x2048 .bf16 := fun i => (T m c (i 0 : Fin 8192) (i 1 : Fin 2048) * Ideal.rsqrt (ms (Ideal.ofBits FTy.f32 1157627904#32) (T m c (i 0 : Fin 8192))) * A3 m c (ix2 0 (i 1 : Fin 2048)) : EReal)
theorem final5 : (dats m 0 c).arrAt 5 cfg0.N = G5 m c := by
  refine (dats m 0 c).arrAt_eq_of_covers 5 _ (by decide +kernel) fun t hf y => ?_
  obtain ⟨p, q, rfl⟩ := ex2 (a := 256) (b := 2048) y
  show (dats m 0 c).after 5 t (ix2 p q) = G5 m c (((cfg0.win 5).blk t).view.emb (ix2 p q))
  rw [show ((cfg0.win 5).blk t).view.emb (ix2 p q) = ix2 (row t p) q by blk_ext [idx5 t, row], after0_5]
  frame_out
  pointwise [k0_pay1, k0_pay2]
  simp only [blk0, blk1, blk2, blk3]
  rfl

/-- The reference runs, leaves its arguments as they were and no semaphore counter raised. -/
theorem frame_r : @quiescent_Reference43Ideal Reference43Ideal.Gen.facts := fun m g _ =>
  quiet (by decide) (Reference43Ideal.Value.run m g) fun _ _ h => h.2.2

/-- From the same arguments the kernel and the reference end with the same arrays. -/
theorem algebraic : @algebraic_Kernel43Ideal_Reference43Ideal Kernel43Ideal.Gen.facts Reference43Ideal.Gen.facts := by
  intro m g m' g' hpre hagree
  refine ⟨_, _, run_blocks m g, ?_⟩
  refine (θ_run _ _ _).mono (fun r h c => ⟨(h c).1.trans ?_, (h c).2.1.trans ?_, (h c).2.2⟩) (Reference43Ideal.Value.run m' g')
    <;> obtain ⟨e0, e1, e2, e3⟩ := hagree c
  · rw [e0, e1, e2, final4]
    funext i
    obtain ⟨p, q, rfl⟩ := ex2 (a := 8192) (b := 2048) i
    pointwise [G4, ms]
    rfl
  · rw [e0, e1, e2, e3, final5]
    funext i
    obtain ⟨p, q, rfl⟩ := ex2 (a := 8192) (b := 2048) i
    pointwise [G5, ms]
    rfl

end Cert.Mm43

end
-- ==== Proof.Mm44.lean ====
/- The norm over a head and its gate. -/
module

public import proofs.«01_k».proof.Proof.Mm26
public import proofs.«01_k».proof.Proof.Gen.Kernel44.Frame
public import proofs.«01_k».proof.Proof.Gen.Kernel44Ideal.Value
public import proofs.«01_k».proof.Proof.Gen.Reference44Ideal.Run

@[expose] public section

noncomputable section

namespace Cert.Mm44

open Idealize.ShloMosaic Idealize.ShloMosaic.TcCoe Idealize.SL.Sem Kernel44Ideal Kernel44Ideal.Gen Kernel44Ideal.Value Mm Row Gate
open Mm26 (at' gateAt hd pl hd_at pl_at at_hd gateAt_hd n rn)

variable (m : (ℓ : Loc nD τ sig) → Buf (Elt Ideal) ℓ) (c : Dev nD)

/-- What the norm is applied to, what its gate is taken of, and the scale. -/
def A0 : FVec Ideal S8192x1024 .f32 := m ((c : Thread nD τ).loc main_arg0)
def A1 : FVec Ideal S8192x5376 .f32 := m ((c : Thread nD τ).loc main_arg1)
def A2 : FVec Ideal S1x128 .f32 := m ((c : Thread nD τ).loc main_arg2)

theorem idx0 : ∀ t : Fin cfg0.N, win0_0.index t = ![t.val % 8, t.val / 8] := (by decide +kernel : ∀ t : Fin grid0.N, _)
theorem idx1 : ∀ t : Fin cfg0.N, win0_1.index t = ![t.val % 8, 24 + t.val / 8] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 8, t.val / 8] := (by decide +kernel : ∀ t : Fin grid0.N, _)

/-- Row `p` of tile `t`, and its head. -/
def row (t : Fin cfg0.N) (p : Fin 1024) : Fin 8192 := ⟨t.val % 8 * 1024 + p.val, by omega⟩
def head (t : Fin cfg0.N) : Fin 8 := ⟨t.val / 8, by have h : t.val < 64 := lt_of_lt_of_eq t.isLt N_0; omega⟩

theorem blk0 (t : Fin cfg0.N) (p : Fin 1024) (q : Fin 128) : iblk m c 0 t (ix2 p q) = A0 m c (ix2 (row t p) (at' (by decide) (head t) q)) := by
  blk_simp [iblk]; rw [V_main_arg0]; exact congrArg (A0 m c) (by blk_ext [idx0 t, row, head, at'])
theorem blk1 (t : Fin cfg0.N) (p : Fin 1024) (q : Fin 128) : iblk m c 1 t (ix2 p q) = A1 m c (ix2 (row t p) (gateAt (head t) q)) := by
  blk_simp [iblk]; rw [V_main_arg1]; exact congrArg (A1 m c) (by blk_ext [idx1 t, row, head, gateAt])
theorem blk2 (t : Fin cfg0.N) (q : Fin 128) : iblk m c 2 t (ix2 0 q) = A2 m c (ix2 0 q) := by
  blk_simp [iblk]; rw [V_main_arg2]; exact congrArg (A2 m c) (by blk_ext [idx2 t])

/-- The gated norm at place `q` of head `j` of row `r`. -/
def T (r : Fin 8192) (j : Fin 8) (q : Fin 128) : EReal :=
  rn (fun k => A0 m c (ix2 r (at' (by decide) j k))) q * A2 m c (ix2 0 q) * (A1 m c (ix2 r (gateAt j q)) * sg (A1 m c (ix2 r (gateAt j q))))
def G3 : FVec Ideal S8192x1024 .bf16 := fun i => T m c (i 0 : Fin 8192) (hd (i 1 : Fin 1024)) (pl (i 1 : Fin 1024))

theorem final3 : (dats m 0 c).arrAt 3 cfg0.N = G3 m c := by
  refine (dats m 0 c).arrAt_eq_of_covers 3 _ (by decide +kernel) fun t hf y => ?_
  obtain ⟨p, q, rfl⟩ := ex2 (a := 1024) (b := 128) y
  show (dats m 0 c).after 3 t (ix2 p q) = G3 m c (((cfg0.win 3).blk t).view.emb (ix2 p q))
  rw [show ((cfg0.win 3).blk t).view.emb (ix2 p q) = ix2 (row t p) (at' (by decide) (head t) q) by blk_ext [idx3 t, row, head, at'], after0_3]
  frame_out
  pointwise [k0_pay1]
  rw [zero_sub]
  simp only [blk0, blk1, blk2]
  show _ = T m c (row t p) (hd (at' (by decide) (head t) q)) (pl (at' (by decide) (head t) q))
  rw [hd_at, pl_at]
  rfl

/-- The reference runs, leaves its arguments as they were and no semaphore counter raised. -/
theorem frame_r : @quiescent_Reference44Ideal Reference44Ideal.Gen.facts := fun m g _ =>
  quiet (by decide) (Reference44Ideal.Value.run m g) fun _ _ h => h.2

/-- From the same arguments the kernel and the reference end with the same arrays. -/
theorem algebraic : @algebraic_Kernel44Ideal_Reference44Ideal Kernel44Ideal.Gen.facts Reference44Ideal.Gen.facts := by
  intro m g m' g' hpre hagree
  refine ⟨_, run_blocks m g, ?_⟩
  refine (θ_run _ _ _).mono (fun r h c => ⟨(h c).1.trans ?_, (h c).2⟩) (Reference44Ideal.Value.run m' g')
  obtain ⟨e0, e1, e2⟩ := hagree c
  refine Eq.trans ?_ (final3 m c).symm
  funext i
  obtain ⟨p, q, rfl⟩ := ex2 (a := 8192) (b := 1024) i
  pointwise [e0, e1, e2]
  show _ = T m c p (hd q) (pl q)
  simp only [T, rn, at_hd, gateAt_hd]
  rfl

end Cert.Mm44

end
-- ==== Proof.Mm45.lean ====
/- The layer norm and silu of the Conformer module. -/
module

public import proofs.«01_k».proof.Proof.Gate
public import proofs.«01_k».proof.Proof.Gen.Kernel45.Frame
public import proofs.«01_k».proof.Proof.Gen.Kernel45Ideal.Value
public import proofs.«01_k».proof.Proof.Gen.Reference45Ideal.Run

@[expose] public section

noncomputable section

namespace Cert.Mm45

open Idealize.ShloMosaic Idealize.ShloMosaic.TcCoe Idealize.SL.Sem Kernel45Ideal Kernel45Ideal.Gen Kernel45Ideal.Value Mm Row Gate

variable (m : (ℓ : Loc nD τ sig) → Buf (Elt Ideal) ℓ) (c : Dev nD)

/-- The arguments. -/
def A0 : FVec Ideal S8192x2048 .f32 := m ((c : Thread nD τ).loc main_arg0)
def A1 : FVec Ideal S1x2048 .f32 := m ((c : Thread nD τ).loc main_arg1)
def A2 : FVec Ideal S1x2048 .f32 := m ((c : Thread nD τ).loc main_arg2)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- Row `p` of tile `t`. -/
def row (t : Fin cfg0.N) (p : Fin 128) : Fin 8192 :=
  ⟨t.val * 128 + p.val, by have h : t.val < 64 := lt_of_lt_of_eq t.isLt N_0; omega⟩

theorem blk0 (t : Fin cfg0.N) (p : Fin 128) (q : Fin 2048) : iblk m c 0 t (ix2 p q) = A0 m c (ix2 (row t p) q) := by
  blk_simp [iblk]; rw [V_main_arg0]; exact congrArg (A0 m c) (by blk_ext [idx0 t, row])
theorem blk1 (t : Fin cfg0.N) (q : Fin 2048) : iblk m c 1 t (ix2 0 q) = A1 m c (ix2 0 q) := by
  blk_simp [iblk]; rw [V_main_arg1]; exact congrArg (A1 m c) (by blk_ext [idx1 t])
theorem blk2 (t : Fin cfg0.N) (q : Fin 2048) : iblk m c 2 t (ix2 0 q) = A2 m c (ix2 0 q) := by
  blk_simp [iblk]; rw [V_main_arg2]; exact congrArg (A2 m c) (by blk_ext [idx2 t])

/-- A row without its mean, and the layer norm of it. -/
def U (r : Fin 8192) (q : Fin 2048) : EReal := A0 m c (ix2 r q) - Ideal.div (∑ k, A0 m c (ix2 r k)) (Ideal.ofBits FTy.f32 1157627904#32)
def T (r : Fin 8192) (q : Fin 2048) : EReal := U m c r q * Ideal.rsqrt (ms (Ideal.ofBits FTy.f32 1157627904#32) (U m c r)) * A1 m c (ix2 0 q) + A2 m c (ix2 0 q)
def G3 : FVec Ideal S8192x2048 .bf16 := fun i => (T m c (i 0 : Fin 8192) (i 1 : Fin 2048) * sg (T m c (i 0 : Fin 8192) (i 1 : Fin 2048)) : EReal)
theorem final3 : (dats m 0 c).arrAt 3 cfg0.N = G3 m c := by
  refine (dats m 0 c).arrAt_eq_of_covers 3 _ (by decide +kernel) fun t hf y => ?_
  obtain ⟨p, q, rfl⟩ := ex2 (a := 128) (b := 2048) y
  show (dats m 0 c).after 3 t (ix2 p q) = G3 m c (((cfg0.win 3).blk t).view.emb (ix2 p q))
  rw [show ((cfg0.win 3).blk t).view.emb (ix2 p q) = ix2 (row t p) q by blk_ext [idx3 t, row], after0_3]
  frame_out
  pointwise [k0_pay1]
  simp only [blk0, blk1, blk2]
  rw [zero_sub]
  rfl

/-- The reference runs, leaves its arguments as they were and no semaphore counter raised. -/
theorem frame_r : @quiescent_Reference45Ideal Reference45Ideal.Gen.facts := fun m g _ =>
  quiet (by decide) (Reference45Ideal.Value.run m g) fun _ _ h => h.2

/-- From the same arguments the kernel and the reference end with the same arrays. -/
theorem algebraic : @algebraic_Kernel45Ideal_Reference45Ideal Kernel45Ideal.Gen.facts Reference45Ideal.Gen.facts := by
  intro m g m' g' hpre hagree
  refine ⟨_, run_blocks m g, ?_⟩
  refine (θ_run _ _ _).mono (fun r h c => ⟨(h c).1.trans ?_, (h c).2⟩) (Reference45Ideal.Value.run m' g')
  obtain ⟨e0, e1, e2⟩ := hagree c
  rw [e0, e1, e2, final3]
  funext i
  obtain ⟨p, q, rfl⟩ := ex2 (a := 8192) (b := 2048) i
  pointwise [G3, ms]
  rfl

end Cert.Mm45

end
-- ==== Proof.Mm46.lean ====
/- The normalised silu that makes q and k. -/
module

public import proofs.«01_k».proof.Proof.Gate
public import proofs.«01_k».proof.Proof.Gen.Kernel46.Frame
public import proofs.«01_k».proof.Proof.Gen.Kernel46Ideal.Value
public import proofs.«01_k».proof.Proof.Gen.Reference46Ideal.Run

@[expose] public section

noncomputable section

namespace Cert.Mm46

open Idealize.ShloMosaic Idealize.ShloMosaic.TcCoe Idealize.SL.Sem Kernel46Ideal Kernel46Ideal.Gen Kernel46Ideal.Value Mm Row Gate

/-- Place `q` of head `j` in a row of 16 heads, and the head and the place of a column. -/
def col {L : ℕ} (h : 2048 ≤ L) (j : Fin 16) (q : Fin 128) : Fin L := ⟨j.val * 128 + q.val, by omega⟩
def hd (x : Fin 2048) : Fin 16 := ⟨x.val / 128, by omega⟩
def pl (x : Fin 2048) : Fin 128 := ⟨x.val % 128, by omega⟩
theorem hd_col (j : Fin 16) (q : Fin 128) : hd (col (by decide) j q) = j := Fin.ext (by simp only [hd, col]; omega)
theorem pl_col (j : Fin 16) (q : Fin 128) : pl (col (by decide) j q) = q := Fin.ext (by simp only [pl, col]; omega)
theorem col_hd {L : ℕ} (h : 2048 ≤ L) (q : Fin 2048) : (col h (hd q) (pl q) : Fin L) = ⟨q.val, by omega⟩ := Fin.ext (by simp only [hd, pl, col]; omega)

/-- A head's row after the silu, its sum of squares with the small constant added, and the row divided by the root of that. -/
def act {n : ℕ} (y : Fin n → EReal) (q : Fin n) : EReal := y q * sg (y q)
def ss {n : ℕ} (y : Fin n → EReal) : EReal := (∑ k, y k * y k) + Ideal.ofBits FTy.f32 897988541#32
def l2 {n : ℕ} (y : Fin n → EReal) (q : Fin n) : EReal := y q * Ideal.rsqrt (ss y)

variable (m : (ℓ : Loc nD τ sig) → Buf (Elt Ideal) ℓ) (c : Dev nD)

/-- What the gate is taken of. -/
def A0 : FVec Ideal S8192x3072 .f32 := m ((c : Thread nD τ).loc main_arg0)

theorem idx0 : ∀ t : Fin cfg0.N, win0_0.index t = ![t.val % 8, t.val / 8] := (by decide +kernel : ∀ t : Fin grid0.N, _)
theorem idx1 : ∀ t : Fin cfg0.N, win0_1.index t = ![t.val % 8, t.val / 8] := (by decide +kernel : ∀ t : Fin grid0.N, _)

/-- Row `p` of tile `t`, and its head. -/
def row (t : Fin cfg0.N) (p : Fin 1024) : Fin 8192 := ⟨t.val % 8 * 1024 + p.val, by omega⟩
def head (t : Fin cfg0.N) : Fin 16 := ⟨t.val / 8, by have h : t.val < 128 := lt_of_lt_of_eq t.isLt N_0; omega⟩

theorem blk0 (t : Fin cfg0.N) (p : Fin 1024) (q : Fin 128) : iblk m c 0 t (ix2 p q) = A0 m c (ix2 (row t p) (col (by decide) (head t) q)) := by
  blk_simp [iblk]; rw [V_main_arg0]; exact congrArg (A0 m c) (by blk_ext [idx0 t, row, head, col])

/-- The result at place `q` of head `j` of row `r`. -/
def T (r : Fin 8192) (j : Fin 16) (q : Fin 128) : EReal := l2 (act fun k => A0 m c (ix2 r (col (by decide) j k))) q
def G1 : FVec Ideal S8192x2048 .f32 := fun i => T m c (i 0 : Fin 8192) (hd (i 1 : Fin 2048)) (pl (i 1 : Fin 2048))

theorem final1 : (dats m 0 c).arrAt 1 cfg0.N = G1 m c := by
  refine (dats m 0 c).arrAt_eq_of_covers 1 _ (by decide +kernel) fun t hf y => ?_
  obtain ⟨p, q, rfl⟩ := ex2 (a := 1024) (b := 128) y
  show (dats m 0 c).after 1 t (ix2 p q) = G1 m c (((cfg0.win 1).blk t).view.emb (ix2 p q))
  rw [show ((cfg0.win 1).blk t).view.emb (ix2 p q) = ix2 (row t p) (col (by decide) (head t) q) by blk_ext [idx1 t, row, head, col], after0_1]
  frame_out
  pointwise [k0_pay1]
  simp only [zero_sub, blk0]
  show _ = T m c (row t p) (hd (col (by decide) (head t) q)) (pl (col (by decide) (head t) q))
  rw [hd_col, pl_col]
  rfl

/-- The reference runs, leaves its arguments as they were and no semaphore counter raised. -/
theorem frame_r : @quiescent_Reference46Ideal Reference46Ideal.Gen.facts := fun m g _ =>
  quiet (by decide) (Reference46Ideal.Value.run m g) fun _ _ h => h.2

/-- From the same arguments the kernel and the reference end with the same arrays. -/
theorem algebraic : @algebraic_Kernel46Ideal_Reference46Ideal Kernel46Ideal.Gen.facts Reference46Ideal.Gen.facts := by
  intro m g m' g' hpre hagree
  refine ⟨_, run_blocks m g, ?_⟩
  refine (θ_run _ _ _).mono (fun r h c => ⟨(h c).1.trans ?_, (h c).2⟩) (Reference46Ideal.Value.run m' g')
  have e0 := hagree c
  refine Eq.trans ?_ (final1 m c).symm
  funext i
  obtain ⟨p, q, rfl⟩ := ex2 (a := 8192) (b := 2048) i
  pointwise [e0]
  show _ = T m c p (hd q) (pl q)
  simp only [T, l2, act, col_hd]
  rfl

end Cert.Mm46

end
-- ==== Proof.Mm47.lean ====
/- The gradient of the normalised silu that makes q and k. -/
module

public import proofs.«01_k».proof.Proof.Mm46
public import proofs.«01_k».proof.Proof.Gen.Kernel47.Frame
public import proofs.«01_k».proof.Proof.Gen.Kernel47Ideal.Value
public import proofs.«01_k».proof.Proof.Gen.Reference47Ideal.Run

@[expose] public section

noncomputable section

namespace Cert.Mm47

open Idealize.ShloMosaic Idealize.ShloMosaic.TcCoe Idealize.SL.Sem Kernel47Ideal Kernel47Ideal.Gen Kernel47Ideal.Value Mm Row Gate
open Mm46 (col hd pl hd_col pl_col col_hd act ss)

/-- What reaches each number of a row through the sum of squares, and the gradient of the normalised row by the row. -/
def via {n : ℕ} (y d : Fin n → EReal) : EReal :=
  ∑ _u : Fin 1, (∑ k, y k * d k) * (Ideal.ofBits FTy.f32 3204448256#32 * Ideal.div (Ideal.rsqrt (ss y)) (ss y))
def dl2 {n : ℕ} (y d : Fin n → EReal) (q : Fin n) : EReal := d q * Ideal.rsqrt (ss y) + y q * via y d + via y d * y q

theorem pay5 (x0 x1 : Vec Ideal S1024x128 .f32) (p : Fin 1024) (q : Fin 128) :
    k0_pay5 x0 x1 (ix2 p q) = dl2 (act fun k => x0 (ix2 p k)) (fun k => x1 (ix2 p k)) q := by
  pointwise [k0_pay5, k0_pay4, k0_pay3, k0_pay2]; simp only [zero_sub]; rfl

variable (m : (ℓ : Loc nD τ sig) → Buf (Elt Ideal) ℓ) (c : Dev nD)

/-- What the gate is taken of, and the gradient of the result. -/
def A0 : FVec Ideal S8192x3072 .f32 := m ((c : Thread nD τ).loc main_arg0)
def A1 : FVec Ideal S8192x2048 .f32 := m ((c : Thread nD τ).loc main_arg1)

theorem idx0 : ∀ t : Fin cfg0.N, win0_0.index t = ![t.val % 8, t.val / 8] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![t.val % 8, t.val / 8] := (by decide +kernel : ∀ t : Fin grid0.N, _)

/-- Row `p` of tile `t`, and its head. -/
def row (t : Fin cfg0.N) (p : Fin 1024) : Fin 8192 := ⟨t.val % 8 * 1024 + p.val, by omega⟩
def head (t : Fin cfg0.N) : Fin 16 := ⟨t.val / 8, by have h : t.val < 128 := lt_of_lt_of_eq t.isLt N_0; omega⟩

theorem blk0 (t : Fin cfg0.N) (p : Fin 1024) (q : Fin 128) : iblk m c 0 t (ix2 p q) = A0 m c (ix2 (row t p) (col (by decide) (head t) q)) := by
  blk_simp [iblk]; rw [V_main_arg0]; exact congrArg (A0 m c) (by blk_ext [idx0 t, row, head, col])
theorem blk1 (t : Fin cfg0.N) (p : Fin 1024) (q : Fin 128) : iblk m c 1 t (ix2 p q) = A1 m c (ix2 (row t p) (col (by decide) (head t) q)) := by
  blk_simp [iblk]; rw [V_main_arg1]; exact congrArg (A1 m c) (by blk_ext [idx1 t, row, head, col])

/-- The gradient at place `q` of head `j` of row `r`. -/
def C (r : Fin 8192) (j : Fin 16) (k : Fin 128) : EReal := A0 m c (ix2 r (col (by decide) j k))
def D (r : Fin 8192) (j : Fin 16) (k : Fin 128) : EReal := A1 m c (ix2 r (col (by decide) j k))
def T (r : Fin 8192) (j : Fin 16) (q : Fin 128) : EReal := dsilu (C m c r j q) (dl2 (act (C m c r j)) (D m c r j) q)
def G2 : FVec Ideal S8192x2048 .f32 := fun i => T m c (i 0 : Fin 8192) (hd (i 1 : Fin 2048)) (pl (i 1 : Fin 2048))

theorem final2 : (dats m 0 c).arrAt 2 cfg0.N = G2 m c := by
  refine (dats m 0 c).arrAt_eq_of_covers 2 _ (by decide +kernel) fun t hf y => ?_
  obtain ⟨p, q, rfl⟩ := ex2 (a := 1024) (b := 128) y
  show (dats m 0 c).after 2 t (ix2 p q) = G2 m c (((cfg0.win 2).blk t).view.emb (ix2 p q))
  rw [show ((cfg0.win 2).blk t).view.emb (ix2 p q) = ix2 (row t p) (col (by decide) (head t) q) by blk_ext [idx2 t, row, head, col], after0_2]
  frame_out
  pointwise [k0_pay1, k0_pay6, k0_pay7, k0_pay4, k0_pay3, k0_pay2]
  rw [dsilu_eq, pay5]
  simp only [blk0, blk1]
  show _ = T m c (row t p) (hd (col (by decide) (head t) q)) (pl (col (by decide) (head t) q))
  rw [hd_col, pl_col]
  rfl

/-- The reference runs, leaves its arguments as they were and no semaphore counter raised. -/
theorem frame_r : @quiescent_Reference47Ideal Reference47Ideal.Gen.facts := fun m g _ =>
  quiet (by decide) (Reference47Ideal.Value.run m g) fun _ _ h => h.2

/-- From the same arguments the kernel and the reference end with the same arrays. -/
theorem algebraic : @algebraic_Kernel47Ideal_Reference47Ideal Kernel47Ideal.Gen.facts Reference47Ideal.Gen.facts := by
  intro m g m' g' hpre hagree
  refine ⟨_, run_blocks m g, ?_⟩
  refine (θ_run _ _ _).mono (fun r h c => ⟨(h c).1.trans ?_, (h c).2⟩) (Reference47Ideal.Value.run m' g')
  obtain ⟨e0, e1⟩ := hagree c
  refine Eq.trans ?_ (final2 m c).symm
  funext i
  obtain ⟨p, q, rfl⟩ := ex2 (a := 8192) (b := 2048) i
  pointwise [Reference47Ideal.Value.res_main_v28, e0, e1]
  show _ = T m c p (hd q) (pl q)
  simp only [T, dl2, via, C, D, act, col_hd]
  rfl

end Cert.Mm47

end
-- ==== Proof.Mm48.lean ====
/- The decays and the gates of the delta rule. -/
module

public import proofs.«01_k».proof.Proof.Gate
public import proofs.«01_k».proof.Proof.Gen.Kernel48.Frame
public import proofs.«01_k».proof.Proof.Gen.Kernel48Ideal.Value
public import proofs.«01_k».proof.Proof.Gen.Reference48Ideal.Run

@[expose] public section
noncomputable section

namespace Cert.Mm48

open Idealize.ShloMosaic Idealize.ShloMosaic.TcCoe Idealize.SL.Sem Kernel48Ideal Kernel48Ideal.Gen Kernel48Ideal.Value Mm Row Gate

variable (m : (ℓ : Loc nD τ sig) → Buf (Elt Ideal) ℓ) (c : Dev nD)

theorem idx0 : ∀ t : Fin cfg0.N, win0_0.index t = ![t.val, 40] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The arguments. -/
def A0 : FVec Ideal S8192x5376 .f32 := m ((c : Thread nD τ).loc main_arg0)
def A1 : FVec Ideal S8 .f32 := m ((c : Thread nD τ).loc main_arg1)
def A2 : FVec Ideal S8 .f32 := m ((c : Thread nD τ).loc main_arg2)

/-- Row `p` of tile `t`. -/
def row (t : Fin cfg0.N) (p : Fin 1024) : Fin 8192 :=
  ⟨t.val * 1024 + p.val, by have h : t.val < 8 := lt_of_lt_of_eq t.isLt N_0; omega⟩

theorem V1 (q : Fin 128) (h : 8 ≤ q.val) (h' : q.val - 8 < 8) : (V m c main_v1 : FVec Ideal S1x128 .f32) (ix2 0 q) = A1 m c (ix1 ⟨q.val - 8, h'⟩) := by
  have e : (V m c main_v1 : FVec Ideal S1x128 .f32) = pad S1x128 ![0, 8] ![0, 112] ![0, 0] (broadcastInDim S1x8 ![1] bcast_S8_S1x8_1 (A1 m c))
      (sitofp FTy.f32 (constantI S_ 32 0#32)) pads_S1x8_S1x128_000_81120 h_S_ := by
    show StableHlo.after (List.flatten [hostOps0 (F := Ideal), hostOps0_1, hostOps0_2, hostOps0_3]) _ (Proc.devRef .tc main_v1) = _
    simp only [List.flatten_cons, List.flatten_nil, List.append_nil, List.cons_append, List.nil_append]
    after_results <;> rfl
  rw [e]
  pointwise
  exact dif_pos ⟨h, h'⟩
theorem V3 (q : Fin 128) (h : 8 ≤ q.val) (h' : q.val - 8 < 8) : (V m c main_v3 : FVec Ideal S1x128 .f32) (ix2 0 q) = A2 m c (ix1 ⟨q.val - 8, h'⟩) := by
  have e : (V m c main_v3 : FVec Ideal S1x128 .f32) = pad S1x128 ![0, 8] ![0, 112] ![0, 0] (broadcastInDim S1x8 ![1] bcast_S8_S1x8_1 (A2 m c))
      (sitofp FTy.f32 (constantI S_ 32 0#32)) pads_S1x8_S1x128_000_81120 h_S_ := by
    show StableHlo.after (List.flatten [hostOps0 (F := Ideal), hostOps0_1, hostOps0_2, hostOps0_3]) _ (Proc.devRef .tc main_v3) = _
    simp only [List.flatten_cons, List.flatten_nil, List.append_nil, List.cons_append, List.nil_append]
    after_results <;> rfl
  rw [e]
  pointwise
  exact dif_pos ⟨h, h'⟩

theorem blk0 (t : Fin cfg0.N) (p : Fin 1024) (q : Fin 128) : iblk m c 0 t (ix2 p q) = A0 m c (ix2 (row t p) ⟨5120 + q.val, by omega⟩) := by
  blk_simp [iblk]; rw [V_main_arg0]; exact congrArg (A0 m c) (by blk_ext [idx0 t, row])
theorem blk1 (t : Fin cfg0.N) (q : Fin 128) (h : 8 ≤ q.val) (h' : q.val - 8 < 8) : iblk m c 1 t (ix2 0 q) = A1 m c (ix1 ⟨q.val - 8, h'⟩) := by
  refine Eq.trans ?_ (V1 m c q h h')
  blk_simp [iblk]; exact congrArg (V m c main_v1) (by blk_ext [idx1 t])
theorem blk2 (t : Fin cfg0.N) (q : Fin 128) (h : 8 ≤ q.val) (h' : q.val - 8 < 8) : iblk m c 2 t (ix2 0 q) = A2 m c (ix1 ⟨q.val - 8, h'⟩) := by
  refine Eq.trans ?_ (V3 m c q h h')
  blk_simp [iblk]; exact congrArg (V m c main_v3) (by blk_ext [idx2 t])

theorem lt_bit : ∀ q : Fin 128, IntOp.cmpi .slt (BitVec.ofNat 32 q.val) 8#32 = BitVec.ofBool (decide (q.val < 8)) ∧
    IntOp.cmpi .slt (BitVec.ofNat 32 q.val) 16#32 = BitVec.ofBool (decide (q.val < 16)) := by decide

/-- A row of the result: eight sigmoids, eight decays, and zeros. -/
def Z (r : Fin 8192) (j : Fin 8) : EReal := A0 m c (ix2 r ⟨5128 + j.val, by omega⟩) + A2 m c (ix1 j)
def R (r : Fin 8192) (q : Fin 128) : EReal :=
  if q.val < 8 then sg (A0 m c (ix2 r ⟨5120 + q.val, by omega⟩))
  else if h : q.val - 8 < 8 then
    -Ideal.exp (A1 m c (ix1 ⟨q.val - 8, h⟩)) * (max (Z m c r ⟨q.val - 8, h⟩) 0 + Ideal.log1p (Ideal.exp (-FloatOps.absf (F := Ideal) (φ := .f32) (Z m c r ⟨q.val - 8, h⟩))))
  else 0
def G3 : FVec Ideal S8192x128 .f32 := fun i => R m c (i 0 : Fin 8192) (i 1 : Fin 128)
theorem final3 : (dats m 0 c).arrAt 3 cfg0.N = G3 m c := by
  refine (dats m 0 c).arrAt_eq_of_covers 3 _ (by decide +kernel) fun t hf y => ?_
  obtain ⟨p, q, rfl⟩ := ex2 (a := 1024) (b := 128) y
  show (dats m 0 c).after 3 t (ix2 p q) = G3 m c (((cfg0.win 3).blk t).view.emb (ix2 p q))
  rw [show ((cfg0.win 3).blk t).view.emb (ix2 p q) = ix2 (row t p) q by blk_ext [idx3 t, row], after0_3]
  frame_out
  pointwise [k0_pay1]
  show _ = R m c (row t p) q
  unfold R
  rw [(lt_bit q).1, (lt_bit q).2, blk0]
  by_cases h : q.val < 8
  · simp only [h, decide_true, if_true, zero_sub]; rfl
  · by_cases h' : q.val - 8 < 8
    · rw [blk1 m c t q (by omega) h', blk2 m c t q (by omega) h', if_neg h, dif_pos h', decide_eq_false h, decide_eq_true (by omega : q.val < 16)]
      simp only [zero_sub]
      rw [show (⟨5120 + q.val, by omega⟩ : Fin 5376) = ⟨5128 + (q.val - 8), by omega⟩ from Fin.ext (by simp only []; omega)]
      rfl
    · rw [if_neg h, dif_neg h', decide_eq_false h, decide_eq_false (by omega : ¬ q.val < 16)]; rfl

/-- The reference runs, leaves its arguments as they were and no semaphore counter raised. -/
theorem frame_r : @quiescent_Reference48Ideal Reference48Ideal.Gen.facts := fun m g _ =>
  quiet (by decide) (Reference48Ideal.Value.run m g) fun _ _ h => h.2

/-- From the same arguments the kernel and the reference end with the same array. -/
theorem algebraic : @algebraic_Kernel48Ideal_Reference48Ideal Kernel48Ideal.Gen.facts Reference48Ideal.Gen.facts := by
  intro m g m' g' hpre hagree
  refine ⟨_, run_blocks m g, ?_⟩
  refine (θ_run _ _ _).mono (fun r h c => ⟨(h c).1.trans ?_, (h c).2⟩) (Reference48Ideal.Value.run m' g')
  obtain ⟨e0, e1, e2⟩ := hagree c
  rw [e0, e1, e2, final3]
  clear h
  funext i
  obtain ⟨p, q, rfl⟩ := ex2 (a := 8192) (b := 128) i
  pointwise [G3, R, Z]
  simp only [ne_eq, not_true_eq_false, if_false, A0, A1, A2]
  rfl

end Cert.Mm48

end
-- ==== Proof.Mm49.lean ====
/- The pooling mixer's product: the product with the four groups' weights along the diagonal. -/
module

public import proofs.«01_k».proof.Proof.Mm
public import proofs.«01_k».proof.Proof.Gen.Kernel49.Frame
public import proofs.«01_k».proof.Proof.Gen.Kernel49Ideal.Value
public import proofs.«01_k».proof.Proof.Gen.Reference49Ideal.Run

@[expose] public section

noncomputable section

namespace Cert.Mm49

open Idealize.ShloMosaic Idealize.ShloMosaic.TcCoe Idealize.SL.Sem Kernel49Ideal Kernel49Ideal.Gen Kernel49Ideal.Value Mm

/-- Four square blocks along the diagonal, zeros elsewhere. -/
def bd (W : FVec Ideal S4x256x256 .f32) (p q : Fin 1024) : EReal :=
  if p.val / 256 = q.val / 256 then W (ix3 ⟨p.val / 256, by omega⟩ ⟨p.val % 256, by omega⟩ ⟨q.val % 256, by omega⟩) else 0

theorem ix3e {n0 n1 n2 : ℕ} {a a' : Fin n0} {b b' : Fin n1} {d d' : Fin n2} (ha : a.val = a'.val) (hb : b.val = b'.val) (hd : d.val = d'.val) : ix3 a b d = ix3 a' b' d' := by
  rw [Fin.ext ha, Fin.ext hb, Fin.ext hd]
/-- The same, by the pieces it is put together from. -/
theorem bd_eq (W : FVec Ideal S4x256x256 .f32) (z : EReal) (hz : z = 0) (p q : Fin 1024) :
    (if h : p.val < 256 then if h' : p.val < 256 ∧ q.val < 256 then W (ix3 0 ⟨p.val, h⟩ ⟨q.val, h'.2⟩) else z
    else if h : p.val - 256 < 256 then if h' : p.val - 256 < 256 ∧ 256 ≤ q.val ∧ q.val - 256 < 256 then W (ix3 1 ⟨p.val - 256, h⟩ ⟨q.val - 256, h'.2.2⟩) else z
    else if h : p.val - 256 - 256 < 256 then
      if h' : p.val - 256 - 256 < 256 ∧ 512 ≤ q.val ∧ q.val - 512 < 256 then W (ix3 2 ⟨p.val - 256 - 256, h⟩ ⟨q.val - 512, h'.2.2⟩) else z
    else if h' : p.val - 256 - 256 - 256 < 256 ∧ 768 ≤ q.val ∧ q.val - 768 < 256 then W (ix3 3 ⟨p.val - 256 - 256 - 256, h'.1⟩ ⟨q.val - 768, h'.2.2⟩) else z) = bd W p q := by
  subst hz
  have := p.isLt
  have := q.isLt
  unfold bd
  split_ifs <;> first | (exfalso; omega) | rfl | exact congrArg W (ix3e (by simp; omega) (by simp; try omega) (by simp; try omega))
theorem bd_row (W : FVec Ideal S4x256x256 .f32) (q : Fin 1024) (x : Fin 256) :
    bd W ⟨q.val / 256 * 256 + x.val, by omega⟩ q = W (ix3 ⟨q.val / 256, by omega⟩ x ⟨q.val % 256, by omega⟩) := by
  unfold bd
  rw [if_pos (by simp only []; omega)]
  exact congrArg W (ix3e (by simp only []; omega) (by simp only []; omega) rfl)
theorem bd_col (W : FVec Ideal S4x256x256 .f32) (q : Fin 1024) (x : Fin 256) :
    bd W q ⟨q.val / 256 * 256 + x.val, by omega⟩ = W (ix3 ⟨q.val / 256, by omega⟩ ⟨q.val % 256, by omega⟩ x) := by
  unfold bd
  rw [if_pos (by simp only []; omega)]
  exact congrArg W (ix3e rfl rfl (by simp only []; omega))

/-- A sum that is zero outside of one group is the sum over the group. -/
theorem sum_group (g : ℕ) (hg : g < 4) (f : Fin 1024 → EReal) (h : ∀ k, k.val / 256 ≠ g → f k = 0) :
    ∑ k, f k = ∑ x : Fin 256, f ⟨g * 256 + x.val, by omega⟩ :=
  (Fintype.sum_of_injective (fun x : Fin 256 => (⟨g * 256 + x.val, by omega⟩ : Fin 1024)) (fun x y e => Fin.ext (by have := congrArg Fin.val e; simp only [] at this; omega))
    _ f (fun k hk => h k fun e => hk ⟨⟨k.val % 256, by omega⟩, Fin.ext (by simp only []; omega)⟩) fun _ => rfl).symm

variable (m : (ℓ : Loc nD τ sig) → Buf (Elt Ideal) ℓ) (c : Dev nD)

theorem tlt (t : Fin cfg0.N) : t.val < 8 := lt_of_lt_of_eq t.isLt (show cfg0.N = 8 from N_0)
theorem widx0 : ∀ t : Fin cfg0.N, win0_0.index t = ![t.val, 0] := (by decide +kernel : ∀ t : Fin grid0.N, _)
theorem widx1 : ∀ t : Fin cfg0.N, win0_1.index t = ![0, 0] := (by decide +kernel : ∀ t : Fin grid0.N, _)
theorem widx2 : ∀ t : Fin cfg0.N, win0_2.index t = ![t.val, 0] := (by decide +kernel : ∀ t : Fin grid0.N, _)
theorem wemb2 (t : Fin cfg0.N) (p l : Fin 1024) : ((cfg0.win 2).blk t).view.emb (ix2 p l) =
    ix2 (⟨t.val * 1024 + p.val, by have := tlt t; omega⟩ : Fin 8192) l := by
  blk_ext [widx2 t]

/-- The first factor, and the groups' weights. -/
def A : FVec Ideal S8192x1024 .f32 := m ((c : Thread nD τ).loc main_arg0)
def W : FVec Ideal S4x256x256 .f32 := m ((c : Thread nD τ).loc main_arg1)

theorem V_main_v0 : V m c main_v0 = truncf .bf16 (A m c) bitsLt_bf16_f32 := by
  show StableHlo.after (List.flatten [hostOps0 (F := Ideal), hostOps0_1, hostOps0_2, hostOps0_3, hostOps0_4, hostOps0_5, hostOps0_6, hostOps0_7, hostOps0_8]) _ (Proc.devRef .tc main_v0) = _
  simp only [List.flatten_cons, List.flatten_nil, List.append_nil, List.cons_append, List.nil_append]
  after_results <;> rfl
theorem V_main_v14 : V m c main_v14 = concatenate S1024x1024 0
    [⟨S256x1024, pad S256x1024 ![0, 0] ![0, 768] ![0, 0] (shapeCast S256x256 (extractStridedSlice S1x256x256 ![0, 0, 0] (truncf .bf16 (W m c) bitsLt_bf16_f32) slices_S4x256x256_S1x256x256_0_0_0) shapeCasts_S1x256x256_S256x256)
      (sitofp .bf16 (constantI S_ 32 0#32)) pads_S256x256_S256x1024_000_07680 h_S_⟩,
     ⟨S256x1024, pad S256x1024 ![0, 256] ![0, 512] ![0, 0] (shapeCast S256x256 (extractStridedSlice S1x256x256 ![1, 0, 0] (truncf .bf16 (W m c) bitsLt_bf16_f32) slices_S4x256x256_S1x256x256_1_0_0) shapeCasts_S1x256x256_S256x256)
      (sitofp .bf16 (constantI S_ 32 0#32)) pads_S256x256_S256x1024_000_2565120 h_S_⟩,
     ⟨S256x1024, pad S256x1024 ![0, 512] ![0, 256] ![0, 0] (shapeCast S256x256 (extractStridedSlice S1x256x256 ![2, 0, 0] (truncf .bf16 (W m c) bitsLt_bf16_f32) slices_S4x256x256_S1x256x256_2_0_0) shapeCasts_S1x256x256_S256x256)
      (sitofp .bf16 (constantI S_ 32 0#32)) pads_S256x256_S256x1024_000_5122560 h_S_⟩,
     ⟨S256x1024, pad S256x1024 ![0, 768] ![0, 0] ![0, 0] (shapeCast S256x256 (extractStridedSlice S1x256x256 ![3, 0, 0] (truncf .bf16 (W m c) bitsLt_bf16_f32) slices_S4x256x256_S1x256x256_3_0_0) shapeCasts_S1x256x256_S256x256)
      (sitofp .bf16 (constantI S_ 32 0#32)) pads_S256x256_S256x1024_000_76800 h_S_⟩]
    concatenates_S256x1024_S256x1024_S256x1024_S256x1024_S1024x1024_d0 := by
  show StableHlo.after (List.flatten [hostOps0 (F := Ideal), hostOps0_1, hostOps0_2, hostOps0_3, hostOps0_4, hostOps0_5, hostOps0_6, hostOps0_7, hostOps0_8]) _ (Proc.devRef .tc main_v14) = _
  simp only [List.flatten_cons, List.flatten_nil, List.append_nil, List.cons_append, List.nil_append]
  after_results <;> rfl
theorem V_main_v14_apply (p q : Fin 1024) : (V m c main_v14 : FVec Ideal S1024x1024 .bf16) (ix2 p q) = bd (W m c) p q := by
  rw [V_main_v14]
  have z : FloatOps.sitofp (F := Ideal) FTy.bf16 0#32 = (0 : EReal) := by
    show (((0#32).toInt : ℝ) : EReal) = 0
    simp
  pointwise
  exact bd_eq (W m c) _ z p q
theorem iblk0 (t : Fin cfg0.N) (p l : Fin 1024) : iblk m c 0 t (ix2 p l) =
    A m c (ix2 (⟨t.val * 1024 + p.val, by have := tlt t; omega⟩ : Fin 8192) l) := by
  show V m c main_v0 _ = _
  rw [V_main_v0]; exact congrArg (A m c) (by blk_ext [widx0 t])
theorem iblk1 (t : Fin cfg0.N) (p l : Fin 1024) : iblk m c 1 t (ix2 p l) = bd (W m c) p l := by
  refine Eq.trans ?_ (V_main_v14_apply m c p l)
  exact congrArg (V m c main_v14) (by blk_ext [widx1 t])

theorem pay1_apply (x0 x1 : Vec Ideal S1024x1024 .bf16) (p q : Fin 1024) :
    k0_pay1 x0 x1 (ix2 p q) = ∑ k : Fin 1024, (x0 (ix2 p k) : EReal) * x1 (ix2 k q) := by
  pointwise [k0_pay1]

/-- The result's entries. -/
def G : FVec Ideal S8192x1024 .f32 := fun i => ∑ k : Fin 1024, (A m c (ix2 (i 0 : Fin 8192) k) : EReal) * bd (W m c) k (i 1 : Fin 1024)

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  rw [wemb2, after0_2]
  frame_out
  rw [pay1_apply]
  have e := sum_mul_congr (fun k => iblk0 m c t p k) fun k => iblk1 m c t k q
  exact e

/-- The reference runs, leaves its arguments as they were and no semaphore counter raised. -/
theorem frame_r : @quiescent_Reference49Ideal Reference49Ideal.Gen.facts := fun m g _ =>
  quiet (by decide) (Reference49Ideal.Value.run m g) fun _ _ h => h.2

/-- From the same arguments the kernel and the reference end with the same array. -/
theorem algebraic : @algebraic_Kernel49Ideal_Reference49Ideal Kernel49Ideal.Gen.facts Reference49Ideal.Gen.facts := by
  intro m g m' g' hpre hagree
  refine ⟨_, run_blocks m g, ?_⟩
  refine (θ_run _ _ _).mono (fun r h c => ⟨(h c).1.trans ?_, (h c).2⟩) (Reference49Ideal.Value.run m' g')
  obtain ⟨e0, e1⟩ := hagree c
  rw [e0, e1, final]
  clear h
  funext i
  obtain ⟨p, q, rfl⟩ := ex2 (a := 8192) (b := 1024) i
  pointwise
  refine Eq.trans ?_ (sum_group (q.val / 256) (by omega) (fun k => A m c (ix2 p k) * bd (W m c) k q) fun k hk => ?_).symm
  · refine Finset.sum_congr rfl fun x _ => ?_
    rw [bd_row, mul_comm]
    rfl
  · simp only [bd, if_neg hk, mul_zero]

end Cert.Mm49

end
-- ==== Proof.Mm50.lean ====
/- The pooling mixer's product, backward: the product with the four groups' weights along the diagonal. -/
module

public import proofs.«01_k».proof.Proof.Mm49
public import proofs.«01_k».proof.Proof.Gen.Kernel50.Frame
public import proofs.«01_k».proof.Proof.Gen.Kernel50Ideal.Value
public import proofs.«01_k».proof.Proof.Gen.Reference50Ideal.Run

@[expose] public section

noncomputable section

namespace Cert.Mm50

open Idealize.ShloMosaic Idealize.ShloMosaic.TcCoe Idealize.SL.Sem Kernel50Ideal Kernel50Ideal.Gen Kernel50Ideal.Value Mm
open Mm49 (bd bd_eq bd_col sum_group)

variable (m : (ℓ : Loc nD τ sig) → Buf (Elt Ideal) ℓ) (c : Dev nD)

theorem tlt (t : Fin cfg0.N) : t.val < 8 := lt_of_lt_of_eq t.isLt (show cfg0.N = 8 from N_0)
theorem widx0 : ∀ t : Fin cfg0.N, win0_0.index t = ![t.val, 0] := (by decide +kernel : ∀ t : Fin grid0.N, _)
theorem widx1 : ∀ t : Fin cfg0.N, win0_1.index t = ![0, 0] := (by decide +kernel : ∀ t : Fin grid0.N, _)
theorem widx2 : ∀ t : Fin cfg0.N, win0_2.index t = ![t.val, 0] := (by decide +kernel : ∀ t : Fin grid0.N, _)
theorem wemb2 (t : Fin cfg0.N) (p l : Fin 1024) : ((cfg0.win 2).blk t).view.emb (ix2 p l) =
    ix2 (⟨t.val * 1024 + p.val, by have := tlt t; omega⟩ : Fin 8192) l := by
  blk_ext [widx2 t]

/-- The first factor, and the groups' weights. -/
def A : FVec Ideal S8192x1024 .f32 := m ((c : Thread nD τ).loc main_arg2)
def W : FVec Ideal S4x256x256 .f32 := m ((c : Thread nD τ).loc main_arg1)

theorem V_main_v0 : V m c main_v0 = truncf .bf16 (A m c) bitsLt_bf16_f32 := by
  show StableHlo.after (List.flatten [hostOps0 (F := Ideal), hostOps0_1, hostOps0_2, hostOps0_3, hostOps0_4, hostOps0_5, hostOps0_6, hostOps0_7, hostOps0_8]) _ (Proc.devRef .tc main_v0) = _
  simp only [List.flatten_cons, List.flatten_nil, List.append_nil, List.cons_append, List.nil_append]
  after_results <;> rfl
theorem V_main_v14 : V m c main_v14 = concatenate S1024x1024 0
    [⟨S256x1024, pad S256x1024 ![0, 0] ![0, 768] ![0, 0] (shapeCast S256x256 (extractStridedSlice S1x256x256 ![0, 0, 0] (truncf .bf16 (W m c) bitsLt_bf16_f32) slices_S4x256x256_S1x256x256_0_0_0) shapeCasts_S1x256x256_S256x256)
      (sitofp .bf16 (constantI S_ 32 0#32)) pads_S256x256_S256x1024_000_07680 h_S_⟩,
     ⟨S256x1024, pad S256x1024 ![0, 256] ![0, 512] ![0, 0] (shapeCast S256x256 (extractStridedSlice S1x256x256 ![1, 0, 0] (truncf .bf16 (W m c) bitsLt_bf16_f32) slices_S4x256x256_S1x256x256_1_0_0) shapeCasts_S1x256x256_S256x256)
      (sitofp .bf16 (constantI S_ 32 0#32)) pads_S256x256_S256x1024_000_2565120 h_S_⟩,
     ⟨S256x1024, pad S256x1024 ![0, 512] ![0, 256] ![0, 0] (shapeCast S256x256 (extractStridedSlice S1x256x256 ![2, 0, 0] (truncf .bf16 (W m c) bitsLt_bf16_f32) slices_S4x256x256_S1x256x256_2_0_0) shapeCasts_S1x256x256_S256x256)
      (sitofp .bf16 (constantI S_ 32 0#32)) pads_S256x256_S256x1024_000_5122560 h_S_⟩,
     ⟨S256x1024, pad S256x1024 ![0, 768] ![0, 0] ![0, 0] (shapeCast S256x256 (extractStridedSlice S1x256x256 ![3, 0, 0] (truncf .bf16 (W m c) bitsLt_bf16_f32) slices_S4x256x256_S1x256x256_3_0_0) shapeCasts_S1x256x256_S256x256)
      (sitofp .bf16 (constantI S_ 32 0#32)) pads_S256x256_S256x1024_000_76800 h_S_⟩]
    concatenates_S256x1024_S256x1024_S256x1024_S256x1024_S1024x1024_d0 := by
  show StableHlo.after (List.flatten [hostOps0 (F := Ideal), hostOps0_1, hostOps0_2, hostOps0_3, hostOps0_4, hostOps0_5, hostOps0_6, hostOps0_7, hostOps0_8]) _ (Proc.devRef .tc main_v14) = _
  simp only [List.flatten_cons, List.flatten_nil, List.append_nil, List.cons_append, List.nil_append]
  after_results <;> rfl
theorem V_main_v14_apply (p q : Fin 1024) : (V m c main_v14 : FVec Ideal S1024x1024 .bf16) (ix2 p q) = bd (W m c) p q := by
  rw [V_main_v14]
  have z : FloatOps.sitofp (F := Ideal) FTy.bf16 0#32 = (0 : EReal) := by
    show (((0#32).toInt : ℝ) : EReal) = 0
    simp
  pointwise
  exact bd_eq (W m c) _ z p q
theorem iblk0 (t : Fin cfg0.N) (p l : Fin 1024) : iblk m c 0 t (ix2 p l) =
    A m c (ix2 (⟨t.val * 1024 + p.val, by have := tlt t; omega⟩ : Fin 8192) l) := by
  show V m c main_v0 _ = _
  rw [V_main_v0]; exact congrArg (A m c) (by blk_ext [widx0 t])
theorem iblk1 (t : Fin cfg0.N) (p l : Fin 1024) : iblk m c 1 t (ix2 p l) = bd (W m c) p l := by
  refine Eq.trans ?_ (V_main_v14_apply m c p l)
  exact congrArg (V m c main_v14) (by blk_ext [widx1 t])

theorem pay1_apply (x0 x1 : Vec Ideal S1024x1024 .bf16) (p q : Fin 1024) :
    k0_pay1 x0 x1 (ix2 p q) = ∑ k : Fin 1024, (x0 (ix2 p k) : EReal) * x1 (ix2 q k) := by
  pointwise [k0_pay1]

/-- The result's entries. -/
def G : FVec Ideal S8192x1024 .f32 := fun i => ∑ k : Fin 1024, (A m c (ix2 (i 0 : Fin 8192) k) : EReal) * bd (W m c) (i 1 : Fin 1024) k

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  rw [wemb2, after0_2]
  frame_out
  rw [pay1_apply]
  have e := sum_mul_congr (fun k => iblk0 m c t p k) fun k => iblk1 m c t q k
  exact e

/-- The reference runs, leaves its arguments as they were and no semaphore counter raised. -/
theorem frame_r : @quiescent_Reference50Ideal Reference50Ideal.Gen.facts := fun m g _ =>
  quiet (by decide) (Reference50Ideal.Value.run m g) fun _ _ h => h.2

/-- From the same arguments the kernel and the reference end with the same array. -/
theorem algebraic : @algebraic_Kernel50Ideal_Reference50Ideal Kernel50Ideal.Gen.facts Reference50Ideal.Gen.facts := by
  intro m g m' g' hpre hagree
  refine ⟨_, run_blocks m g, ?_⟩
  refine (θ_run _ _ _).mono (fun r h c => ⟨(h c).1.trans ?_, (h c).2⟩) (Reference50Ideal.Value.run m' g')
  obtain ⟨e0, e1, e2⟩ := hagree c
  rw [e1, e2, final]
  clear h
  funext i
  obtain ⟨p, q, rfl⟩ := ex2 (a := 8192) (b := 1024) i
  pointwise
  refine Eq.trans ?_ (sum_group (q.val / 256) (by omega) (fun k => A m c (ix2 p k) * bd (W m c) q k) fun k hk => ?_).symm
  · refine Finset.sum_congr rfl fun x _ => ?_
    rw [bd_col]
    rfl
  · simp only [bd, if_neg (Ne.symm hk), mul_zero]

end Cert.Mm50

end
-- ==== Proof.Mm51.lean ====
/- The gradient of the pooling mixer's weights: the tiled product is the whole product. -/
module

public import proofs.«01_k».proof.Proof.Mm
public import proofs.«01_k».proof.Proof.Gen.Kernel51.Frame
public import proofs.«01_k».proof.Proof.Gen.Kernel51Ideal.Value
public import proofs.«01_k».proof.Proof.Gen.Reference51Ideal.Run

@[expose] public section

noncomputable section

namespace Cert.Mm51

open Idealize.ShloMosaic Idealize.ShloMosaic.TcCoe Idealize.SL.Sem Kernel51Ideal Kernel51Ideal.Gen Kernel51Ideal.Value Mm

variable (m : (ℓ : Loc nD τ sig) → Buf (Elt Ideal) ℓ) (c : Dev nD)

theorem tlt (t : Fin cfg0.N) : t.val < 4 := lt_of_lt_of_eq t.isLt (show cfg0.N = 4 from N_0)
/-- The step with number `n`. -/
def T (n : ℕ) (h : n < 4) : Fin cfg0.N := ⟨n, lt_of_lt_of_eq h (show cfg0.N = 4 from N_0).symm⟩
theorem widx0 : ∀ t : Fin cfg0.N, win0_0.index t = ![t.val, 0] := (by decide +kernel : ∀ t : Fin grid0.N, _)
theorem widx1 : ∀ t : Fin cfg0.N, win0_1.index t = ![t.val, 0] := (by decide +kernel : ∀ t : Fin grid0.N, _)
theorem widx2 : ∀ t : Fin cfg0.N, win0_2.index t = ![0, 0] := (by decide +kernel : ∀ t : Fin grid0.N, _)

/-- The two factors. -/
def A : FVec Ideal S8192x1024 .f32 := m ((c : Thread nD τ).loc main_arg0)
def B : FVec Ideal S8192x1024 .f32 := m ((c : Thread nD τ).loc main_arg1)

theorem V_main_v0 : V m c main_v0 = truncf .bf16 (A m c) bitsLt_bf16_f32 := by
  show StableHlo.after (hostOps0 (F := Ideal)) _ (Proc.devRef .tc main_v0) = _
  after_results <;> rfl
theorem V_main_v1 : V m c main_v1 = truncf .bf16 (B m c) bitsLt_bf16_f32 := by
  show StableHlo.after (hostOps0 (F := Ideal)) _ (Proc.devRef .tc main_v1) = _
  after_results <;> rfl
theorem iblk0 (t : Fin cfg0.N) (p : Fin 2048) (l : Fin 1024) : iblk m c 0 t (ix2 p l) =
    A m c (ix2 (⟨t.val * 2048 + p.val, by have := tlt t; omega⟩ : Fin 8192) l) := by
  show V m c main_v0 _ = _
  rw [V_main_v0]; exact congrArg (A m c) (by blk_ext [widx0 t])
theorem iblk1 (t : Fin cfg0.N) (p : Fin 2048) (l : Fin 1024) : iblk m c 1 t (ix2 p l) =
    B m c (ix2 (⟨t.val * 2048 + p.val, by have := tlt t; omega⟩ : Fin 8192) l) := by
  show V m c main_v1 _ = _
  rw [V_main_v1]; exact congrArg (B m c) (by blk_ext [widx1 t])

theorem pay1_apply (x0 x1 : Vec Ideal S2048x1024 .bf16) (p q : Fin 1024) :
    k0_pay1 x0 x1 (ix2 p q) = ∑ k : Fin 2048, (x0 (ix2 k p) : EReal) * x1 (ix2 k q) := by
  pointwise [k0_pay1]
theorem pay2_apply (x0 x1 : Vec Ideal S2048x1024 .bf16) (xo : Vec Ideal S1024x1024 .f32) (p q : Fin 1024) :
    k0_pay2 x0 x1 xo (ix2 p q) = (xo (ix2 p q) : EReal) + ∑ k : Fin 2048, (x0 (ix2 k p) : EReal) * x1 (ix2 k q) := by
  rw [← pay1_apply]; pointwise [k0_pay2]

/-- What step `t` adds, and the sum after it. -/
def s (p q : Fin 1024) (t : ℕ) (h : t < 4) : EReal :=
  ∑ k : Fin 2048, (A m c (ix2 (⟨t * 2048 + k.val, by omega⟩ : Fin 8192) p) : EReal) * B m c (ix2 (⟨t * 2048 + k.val, by omega⟩ : Fin 8192) q)
theorem out0 (t : Fin cfg0.N) (h : t.val = 0) (p q : Fin 1024) : outsAt0 m c t.val t.isLt (ix2 p q) = s m c p q t.val (tlt t) := by
  rw [outsAt0_A m c t (by omega) (by omega)]
  frame_out
  rw [pay1_apply]
  exact sum_mul_congr (fun k => iblk0 m c t k p) fun k => iblk1 m c t k q
theorem outS (t : Fin cfg0.N) (h : 1 ≤ t.val) (p q : Fin 1024) : outsAt0 m c t.val t.isLt (ix2 p q) =
    (outsAt0 m c (t.val - 1) (lt_of_le_of_lt (Nat.sub_le _ _) t.isLt) (ix2 p q) : EReal) + s m c p q t.val (tlt t) := by
  have := tlt t
  rw [outsAt0_B m c t (by omega) h]
  frame_out
  rw [pay2_apply]
  exact congrArg₂ (· + ·) rfl (sum_mul_congr (fun k => iblk0 m c t k p) fun k => iblk1 m c t k q)

/-- The result's entries. -/
def G : FVec Ideal S1024x1024 .f32 := fun i => ∑ k : Fin 8192, (A m c (ix2 k (i 0 : Fin 1024)) : EReal) * B m c (ix2 k (i 1 : Fin 1024))

/-- After the run the result holds the product. -/
theorem final : (dats m 0 c).arrAt 2 cfg0.N = G m c := by
  refine (dats m 0 c).arrAt_eq_of_covers 2 _ (by decide +kernel) fun t hf y => ?_
  obtain ⟨p, q, rfl⟩ := ex2 (a := 1024) (b := 1024) y
  show (dats m 0 c).after 2 t (ix2 p q) = G m c (((cfg0.win 2).blk t).view.emb (ix2 p q))
  have h3 : t.val % 4 = 3 := (flush0_2 t).mp hf
  have ht := tlt t
  rw [show ((cfg0.win 2).blk t).view.emb (ix2 p q) = ix2 p q by blk_ext [widx2 t], after0_2]
  obtain rfl : t = T 3 (by decide) := Fin.ext (show t.val = 3 by omega)
  refine (outS m c _ (by decide) p q).trans ?_
  refine (congrArg (· + _) ((outS m c (T 2 (by decide)) (by decide) p q).trans (congrArg (· + _) ((outS m c (T 1 (by decide)) (by decide) p q).trans
    (congrArg (· + _) (out0 m c (T 0 (by decide)) rfl p q)))))).trans ?_
  show _ = ∑ k : Fin 8192, (A m c (ix2 k p) : EReal) * B m c (ix2 k q)
  rw [sum_four (n := 2048) rfl]
  simp only [s, T, Nat.zero_mul, Nat.zero_add, Nat.one_mul]

/-- The reference runs, leaves its arguments as they were and no semaphore counter raised. -/
theorem frame_r : @quiescent_Reference51Ideal Reference51Ideal.Gen.facts := fun m g _ =>
  quiet (by decide) (Reference51Ideal.Value.run m g) fun _ _ h => h.2

/-- From the same arguments the kernel and the reference end with the same array. -/
theorem algebraic : @algebraic_Kernel51Ideal_Reference51Ideal Kernel51Ideal.Gen.facts Reference51Ideal.Gen.facts := by
  intro m g m' g' hpre hagree
  refine ⟨_, run_blocks m g, ?_⟩
  refine (θ_run _ _ _).mono (fun r h c => ⟨(h c).1.trans ?_, (h c).2⟩) (Reference51Ideal.Value.run m' g')
  obtain ⟨e0, e1⟩ := hagree c
  rw [e0, e1, final]
  funext i
  obtain ⟨p, q, rfl⟩ := ex2 (a := 1024) (b := 1024) i
  pointwise [G]
  exact Finset.sum_congr rfl fun x _ => mul_comm _ _

end Cert.Mm51

end
-- ==== Proof.Steps.lean ====
/- The AdamW step of the other weights, a smaller one filled up with ones: place by place it is the step of the whole
weight. Of each: the constants, the results, `frame_r` (the reference runs and leaves its arguments as they were and no
semaphore counter raised) and `algebraic` (from the same arguments the kernel and the reference end with the same arrays). -/
module

public import proofs.«01_k».proof.Proof.Mm18
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Value
public import proofs.«01_k».proof.Proof.Gen.Reference36Ideal.Run

@[expose] public section

noncomputable section

open Idealize.ShloMosaic Idealize.ShloMosaic.TcCoe Idealize.SL.Sem Cert.Mm Cert.Adam

namespace Cert.Mm19

open Kernel19Ideal Kernel19Ideal.Gen Kernel19Ideal.Value

theorem preserves : preserves_Kernel19_Kernel19Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 2 × 2048 × 1024 numbers, in rows. -/
def rows (x : FVec Ideal S2x2048x1024 .f32) : FVec Ideal S2048x2048 .f32 :=
  shapeCast _ x Reference19Ideal.Gen.shapeCasts_S2x2048x1024_S2048x2048

theorem given : V m c main_v1 = rows (m ((c : Thread nD τ).loc main_arg0)) ∧ V m c main_v3 = rows (m ((c : Thread nD τ).loc main_arg1)) ∧
    V m c main_v5 = rows (m ((c : Thread nD τ).loc main_arg2)) ∧ V m c main_v7 = rows (m ((c : Thread nD τ).loc main_arg3)) := by
  dsimp only [V, List.flatten_cons, List.flatten_nil, List.append_nil, List.cons_append, List.nil_append]
  refine ⟨?_, ?_, ?_, ?_⟩ <;> after_results <;> exact shapeCast_comp _ _ _

/-- The whole weight: in rows, every output has the blocks of the inputs. -/
theorem finals : (dats m 0 c).arrAt 4 cfg0.N = V m c main_v7 ∧
    ((dats m 0 c).arrAt 5 cfg0.N = fun i => delta (V m c main_v1 i) (V m c main_v3 i) (V m c main_v5 i) (V m c main_v7 i)) ∧
    ((dats m 0 c).arrAt 6 cfg0.N = fun i => moment1 (V m c main_v3 i) (V m c main_v7 i)) ∧
    ((dats m 0 c).arrAt 7 cfg0.N = fun i => moment2 (V m c main_v5 i) (V m c main_v7 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference19Ideal Reference19Ideal.Gen.facts := fun m g _ =>
  quiet (by decide) (Reference19Ideal.Value.run m g) fun _ _ h => h.2.2.2.2

theorem algebraic : @algebraic_Kernel19Ideal_Reference19Ideal Kernel19Ideal.Gen.facts Reference19Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference19Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact congrArg rows (hostD ..)
  · rw [e1, e3, f6, v1, v3]
    exact congrArg rows (host1 ..)
  · rw [e2, e3, f7, v2, v3]
    exact congrArg rows (host2 ..)

end Cert.Mm19

namespace Cert.Mm20

open Kernel20Ideal Kernel20Ideal.Gen Kernel20Ideal.Value

theorem preserves : preserves_Kernel20_Kernel20Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 4 × 2048 × 2048 numbers, in rows. -/
def rows (x : FVec Ideal S4x2048x2048 .f32) : FVec Ideal S8192x2048 .f32 :=
  shapeCast _ x Reference20Ideal.Gen.shapeCasts_S4x2048x2048_S8192x2048

theorem given : V m c main_v1 = rows (m ((c : Thread nD τ).loc main_arg0)) ∧ V m c main_v3 = rows (m ((c : Thread nD τ).loc main_arg1)) ∧
    V m c main_v5 = rows (m ((c : Thread nD τ).loc main_arg2)) ∧ V m c main_v7 = rows (m ((c : Thread nD τ).loc main_arg3)) := by
  dsimp only [V, List.flatten_cons, List.flatten_nil, List.append_nil, List.cons_append, List.nil_append]
  refine ⟨?_, ?_, ?_, ?_⟩ <;> after_results <;> exact shapeCast_comp _ _ _

/-- The whole weight: in rows, every output has the blocks of the inputs. -/
theorem finals : (dats m 0 c).arrAt 4 cfg0.N = V m c main_v7 ∧
    ((dats m 0 c).arrAt 5 cfg0.N = fun i => delta (V m c main_v1 i) (V m c main_v3 i) (V m c main_v5 i) (V m c main_v7 i)) ∧
    ((dats m 0 c).arrAt 6 cfg0.N = fun i => moment1 (V m c main_v3 i) (V m c main_v7 i)) ∧
    ((dats m 0 c).arrAt 7 cfg0.N = fun i => moment2 (V m c main_v5 i) (V m c main_v7 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference20Ideal Reference20Ideal.Gen.facts := fun m g _ =>
  quiet (by decide) (Reference20Ideal.Value.run m g) fun _ _ h => h.2.2.2.2

theorem algebraic : @algebraic_Kernel20Ideal_Reference20Ideal Kernel20Ideal.Gen.facts Reference20Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference20Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact congrArg rows (hostD ..)
  · rw [e1, e3, f6, v1, v3]
    exact congrArg rows (host1 ..)
  · rw [e2, e3, f7, v2, v3]
    exact congrArg rows (host2 ..)

end Cert.Mm20

namespace Cert.Mm28

open Kernel28Ideal Kernel28Ideal.Gen Kernel28Ideal.Value

theorem preserves : preserves_Kernel28_Kernel28Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 4 × 2048 numbers, in rows. -/
def rows (x : FVec Ideal S4x2048 .f32) : FVec Ideal S128x2048 .f32 :=
  shapeCast _ (pad S262144 ![0] ![253952] ![0] (shapeCast _ x Reference28Ideal.Gen.shapeCasts_S4x2048_S8192) (id (constant S_ .f32 0x3F800000#32)) Reference28Ideal.Gen.pads_S8192_S262144_02539520 Reference28Ideal.Gen.h_S_) Reference28Ideal.Gen.shapeCasts_S262144_S128x2048

theorem given : V m c main_v2 = rows (m ((c : Thread nD τ).loc main_arg0)) ∧ V m c main_v5 = rows (m ((c : Thread nD τ).loc main_arg1)) ∧
    V m c main_v8 = rows (m ((c : Thread nD τ).loc main_arg2)) ∧ V m c main_v11 = rows (m ((c : Thread nD τ).loc main_arg3)) := by
  dsimp only [V, List.flatten_cons, List.flatten_nil, List.append_nil, List.cons_append, List.nil_append]
  refine ⟨?_, ?_, ?_, ?_⟩ <;> after_results <;> rfl

/-- The whole weight: in rows, every output has the blocks of the inputs. -/
theorem finals : (dats m 0 c).arrAt 4 cfg0.N = V m c main_v11 ∧
    ((dats m 0 c).arrAt 5 cfg0.N = fun i => delta (V m c main_v2 i) (V m c main_v5 i) (V m c main_v8 i) (V m c main_v11 i)) ∧
    ((dats m 0 c).arrAt 6 cfg0.N = fun i => moment1 (V m c main_v5 i) (V m c main_v11 i)) ∧
    ((dats m 0 c).arrAt 7 cfg0.N = fun i => moment2 (V m c main_v8 i) (V m c main_v11 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference28Ideal Reference28Ideal.Gen.facts := fun m g _ =>
  quiet (by decide) (Reference28Ideal.Value.run m g) fun _ _ h => h.2.2.2.2

theorem algebraic : @algebraic_Kernel28Ideal_Reference28Ideal Kernel28Ideal.Gen.facts Reference28Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference28Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact hostD ..
  · rw [e1, e3, f6, v1, v3]
    exact host1 ..
  · rw [e2, e3, f7, v2, v3]
    exact host2 ..

end Cert.Mm28

namespace Cert.Mm29

open Kernel29Ideal Kernel29Ideal.Gen Kernel29Ideal.Value

theorem preserves : preserves_Kernel29_Kernel29Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 2 × 4 × 768 numbers, in rows. -/
def rows (x : FVec Ideal S2x4x768 .f32) : FVec Ideal S128x2048 .f32 :=
  shapeCast _ (pad S262144 ![0] ![256000] ![0] (shapeCast _ x Reference29Ideal.Gen.shapeCasts_S2x4x768_S6144) (id (constant S_ .f32 0x3F800000#32)) Reference29Ideal.Gen.pads_S6144_S262144_02560000 Reference29Ideal.Gen.h_S_) Reference29Ideal.Gen.shapeCasts_S262144_S128x2048

theorem given : V m c main_v2 = rows (m ((c : Thread nD τ).loc main_arg0)) ∧ V m c main_v5 = rows (m ((c : Thread nD τ).loc main_arg1)) ∧
    V m c main_v8 = rows (m ((c : Thread nD τ).loc main_arg2)) ∧ V m c main_v11 = rows (m ((c : Thread nD τ).loc main_arg3)) := by
  dsimp only [V, List.flatten_cons, List.flatten_nil, List.append_nil, List.cons_append, List.nil_append]
  refine ⟨?_, ?_, ?_, ?_⟩ <;> after_results <;> rfl

/-- The whole weight: in rows, every output has the blocks of the inputs. -/
theorem finals : (dats m 0 c).arrAt 4 cfg0.N = V m c main_v11 ∧
    ((dats m 0 c).arrAt 5 cfg0.N = fun i => delta (V m c main_v2 i) (V m c main_v5 i) (V m c main_v8 i) (V m c main_v11 i)) ∧
    ((dats m 0 c).arrAt 6 cfg0.N = fun i => moment1 (V m c main_v5 i) (V m c main_v11 i)) ∧
    ((dats m 0 c).arrAt 7 cfg0.N = fun i => moment2 (V m c main_v8 i) (V m c main_v11 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference29Ideal Reference29Ideal.Gen.facts := fun m g _ =>
  quiet (by decide) (Reference29Ideal.Value.run m g) fun _ _ h => h.2.2.2.2

theorem algebraic : @algebraic_Kernel29Ideal_Reference29Ideal Kernel29Ideal.Gen.facts Reference29Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference29Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact hostD ..
  · rw [e1, e3, f6, v1, v3]
    exact host1 ..
  · rw [e2, e3, f7, v2, v3]
    exact host2 ..

end Cert.Mm29

namespace Cert.Mm30

open Kernel30Ideal Kernel30Ideal.Gen Kernel30Ideal.Value

theorem preserves : preserves_Kernel30_Kernel30Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 2 × 8 numbers, in rows. -/
def rows (x : FVec Ideal S2x8 .f32) : FVec Ideal S128x2048 .f32 :=
  shapeCast _ (pad S262144 ![0] ![262128] ![0] (shapeCast _ x Reference30Ideal.Gen.shapeCasts_S2x8_S16) (id (constant S_ .f32 0x3F800000#32)) Reference30Ideal.Gen.pads_S16_S262144_02621280 Reference30Ideal.Gen.h_S_) Reference30Ideal.Gen.shapeCasts_S262144_S128x2048

theorem given : V m c main_v2 = rows (m ((c : Thread nD τ).loc main_arg0)) ∧ V m c main_v5 = rows (m ((c : Thread nD τ).loc main_arg1)) ∧
    V m c main_v8 = rows (m ((c : Thread nD τ).loc main_arg2)) ∧ V m c main_v11 = rows (m ((c : Thread nD τ).loc main_arg3)) := by
  dsimp only [V, List.flatten_cons, List.flatten_nil, List.append_nil, List.cons_append, List.nil_append]
  refine ⟨?_, ?_, ?_, ?_⟩ <;> after_results <;> rfl

/-- The whole weight: in rows, every output has the blocks of the inputs. -/
theorem finals : (dats m 0 c).arrAt 4 cfg0.N = V m c main_v11 ∧
    ((dats m 0 c).arrAt 5 cfg0.N = fun i => delta (V m c main_v2 i) (V m c main_v5 i) (V m c main_v8 i) (V m c main_v11 i)) ∧
    ((dats m 0 c).arrAt 6 cfg0.N = fun i => moment1 (V m c main_v5 i) (V m c main_v11 i)) ∧
    ((dats m 0 c).arrAt 7 cfg0.N = fun i => moment2 (V m c main_v8 i) (V m c main_v11 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference30Ideal Reference30Ideal.Gen.facts := fun m g _ =>
  quiet (by decide) (Reference30Ideal.Value.run m g) fun _ _ h => h.2.2.2.2

theorem algebraic : @algebraic_Kernel30Ideal_Reference30Ideal Kernel30Ideal.Gen.facts Reference30Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference30Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact hostD ..
  · rw [e1, e3, f6, v1, v3]
    exact host1 ..
  · rw [e2, e3, f7, v2, v3]
    exact host2 ..

end Cert.Mm30

namespace Cert.Mm31

open Kernel31Ideal Kernel31Ideal.Gen Kernel31Ideal.Value

theorem preserves : preserves_Kernel31_Kernel31Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 2 × 128 numbers, in rows. -/
def rows (x : FVec Ideal S2x128 .f32) : FVec Ideal S128x2048 .f32 :=
  shapeCast _ (pad S262144 ![0] ![261888] ![0] (shapeCast _ x Reference31Ideal.Gen.shapeCasts_S2x128_S256) (id (constant S_ .f32 0x3F800000#32)) Reference31Ideal.Gen.pads_S256_S262144_02618880 Reference31Ideal.Gen.h_S_) Reference31Ideal.Gen.shapeCasts_S262144_S128x2048

theorem given : V m c main_v2 = rows (m ((c : Thread nD τ).loc main_arg0)) ∧ V m c main_v5 = rows (m ((c : Thread nD τ).loc main_arg1)) ∧
    V m c main_v8 = rows (m ((c : Thread nD τ).loc main_arg2)) ∧ V m c main_v11 = rows (m ((c : Thread nD τ).loc main_arg3)) := by
  dsimp only [V, List.flatten_cons, List.flatten_nil, List.append_nil, List.cons_append, List.nil_append]
  refine ⟨?_, ?_, ?_, ?_⟩ <;> after_results <;> rfl

/-- The whole weight: in rows, every output has the blocks of the inputs. -/
theorem finals : (dats m 0 c).arrAt 4 cfg0.N = V m c main_v11 ∧
    ((dats m 0 c).arrAt 5 cfg0.N = fun i => delta (V m c main_v2 i) (V m c main_v5 i) (V m c main_v8 i) (V m c main_v11 i)) ∧
    ((dats m 0 c).arrAt 6 cfg0.N = fun i => moment1 (V m c main_v5 i) (V m c main_v11 i)) ∧
    ((dats m 0 c).arrAt 7 cfg0.N = fun i => moment2 (V m c main_v8 i) (V m c main_v11 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference31Ideal Reference31Ideal.Gen.facts := fun m g _ =>
  quiet (by decide) (Reference31Ideal.Value.run m g) fun _ _ h => h.2.2.2.2

theorem algebraic : @algebraic_Kernel31Ideal_Reference31Ideal Kernel31Ideal.Gen.facts Reference31Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference31Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact hostD ..
  · rw [e1, e3, f6, v1, v3]
    exact host1 ..
  · rw [e2, e3, f7, v2, v3]
    exact host2 ..

end Cert.Mm31

namespace Cert.Mm32

open Kernel32Ideal Kernel32Ideal.Gen Kernel32Ideal.Value

theorem preserves : preserves_Kernel32_Kernel32Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 2 × 4 × 64 × 256 numbers, in rows. -/
def rows (x : FVec Ideal S2x4x64x256 .f32) : FVec Ideal S128x2048 .f32 :=
  shapeCast _ (pad S262144 ![0] ![131072] ![0] (shapeCast _ x Reference32Ideal.Gen.shapeCasts_S2x4x64x256_S131072) (id (constant S_ .f32 0x3F800000#32)) Reference32Ideal.Gen.pads_S131072_S262144_01310720 Reference32Ideal.Gen.h_S_) Reference32Ideal.Gen.shapeCasts_S262144_S128x2048

theorem given : V m c main_v2 = rows (m ((c : Thread nD τ).loc main_arg0)) ∧ V m c main_v5 = rows (m ((c : Thread nD τ).loc main_arg1)) ∧
    V m c main_v8 = rows (m ((c : Thread nD τ).loc main_arg2)) ∧ V m c main_v11 = rows (m ((c : Thread nD τ).loc main_arg3)) := by
  dsimp only [V, List.flatten_cons, List.flatten_nil, List.append_nil, List.cons_append, List.nil_append]
  refine ⟨?_, ?_, ?_, ?_⟩ <;> after_results <;> rfl

/-- The whole weight: in rows, every output has the blocks of the inputs. -/
theorem finals : (dats m 0 c).arrAt 4 cfg0.N = V m c main_v11 ∧
    ((dats m 0 c).arrAt 5 cfg0.N = fun i => delta (V m c main_v2 i) (V m c main_v5 i) (V m c main_v8 i) (V m c main_v11 i)) ∧
    ((dats m 0 c).arrAt 6 cfg0.N = fun i => moment1 (V m c main_v5 i) (V m c main_v11 i)) ∧
    ((dats m 0 c).arrAt 7 cfg0.N = fun i => moment2 (V m c main_v8 i) (V m c main_v11 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference32Ideal Reference32Ideal.Gen.facts := fun m g _ =>
  quiet (by decide) (Reference32Ideal.Value.run m g) fun _ _ h => h.2.2.2.2

theorem algebraic : @algebraic_Kernel32Ideal_Reference32Ideal Kernel32Ideal.Gen.facts Reference32Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference32Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact hostD ..
  · rw [e1, e3, f6, v1, v3]
    exact host1 ..
  · rw [e2, e3, f7, v2, v3]
    exact host2 ..

end Cert.Mm32

namespace Cert.Mm33

open Kernel33Ideal Kernel33Ideal.Gen Kernel33Ideal.Value

theorem preserves : preserves_Kernel33_Kernel33Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 2 × 1024 numbers, in rows. -/
def rows (x : FVec Ideal S2x1024 .f32) : FVec Ideal S128x2048 .f32 :=
  shapeCast _ (pad S262144 ![0] ![260096] ![0] (shapeCast _ x Reference33Ideal.Gen.shapeCasts_S2x1024_S2048) (id (constant S_ .f32 0x3F800000#32)) Reference33Ideal.Gen.pads_S2048_S262144_02600960 Reference33Ideal.Gen.h_S_) Reference33Ideal.Gen.shapeCasts_S262144_S128x2048

theorem given : V m c main_v2 = rows (m ((c : Thread nD τ).loc main_arg0)) ∧ V m c main_v5 = rows (m ((c : Thread nD τ).loc main_arg1)) ∧
    V m c main_v8 = rows (m ((c : Thread nD τ).loc main_arg2)) ∧ V m c main_v11 = rows (m ((c : Thread nD τ).loc main_arg3)) := by
  dsimp only [V, List.flatten_cons, List.flatten_nil, List.append_nil, List.cons_append, List.nil_append]
  refine ⟨?_, ?_, ?_, ?_⟩ <;> after_results <;> rfl

/-- The whole weight: in rows, every output has the blocks of the inputs. -/
theorem finals : (dats m 0 c).arrAt 4 cfg0.N = V m c main_v11 ∧
    ((dats m 0 c).arrAt 5 cfg0.N = fun i => delta (V m c main_v2 i) (V m c main_v5 i) (V m c main_v8 i) (V m c main_v11 i)) ∧
    ((dats m 0 c).arrAt 6 cfg0.N = fun i => moment1 (V m c main_v5 i) (V m c main_v11 i)) ∧
    ((dats m 0 c).arrAt 7 cfg0.N = fun i => moment2 (V m c main_v8 i) (V m c main_v11 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference33Ideal Reference33Ideal.Gen.facts := fun m g _ =>
  quiet (by decide) (Reference33Ideal.Value.run m g) fun _ _ h => h.2.2.2.2

theorem algebraic : @algebraic_Kernel33Ideal_Reference33Ideal Kernel33Ideal.Gen.facts Reference33Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference33Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact hostD ..
  · rw [e1, e3, f6, v1, v3]
    exact host1 ..
  · rw [e2, e3, f7, v2, v3]
    exact host2 ..

end Cert.Mm33

namespace Cert.Mm34

open Kernel34Ideal Kernel34Ideal.Gen Kernel34Ideal.Value

theorem preserves : preserves_Kernel34_Kernel34Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 2 × 31 × 512 numbers, in rows. -/
def rows (x : FVec Ideal S2x31x512 .f32) : FVec Ideal S128x2048 .f32 :=
  shapeCast _ (pad S262144 ![0] ![230400] ![0] (shapeCast _ x Reference34Ideal.Gen.shapeCasts_S2x31x512_S31744) (id (constant S_ .f32 0x3F800000#32)) Reference34Ideal.Gen.pads_S31744_S262144_02304000 Reference34Ideal.Gen.h_S_) Reference34Ideal.Gen.shapeCasts_S262144_S128x2048

theorem given : V m c main_v2 = rows (m ((c : Thread nD τ).loc main_arg0)) ∧ V m c main_v5 = rows (m ((c : Thread nD τ).loc main_arg1)) ∧
    V m c main_v8 = rows (m ((c : Thread nD τ).loc main_arg2)) ∧ V m c main_v11 = rows (m ((c : Thread nD τ).loc main_arg3)) := by
  dsimp only [V, List.flatten_cons, List.flatten_nil, List.append_nil, List.cons_append, List.nil_append]
  refine ⟨?_, ?_, ?_, ?_⟩ <;> after_results <;> rfl

/-- The whole weight: in rows, every output has the blocks of the inputs. -/
theorem finals : (dats m 0 c).arrAt 4 cfg0.N = V m c main_v11 ∧
    ((dats m 0 c).arrAt 5 cfg0.N = fun i => delta (V m c main_v2 i) (V m c main_v5 i) (V m c main_v8 i) (V m c main_v11 i)) ∧
    ((dats m 0 c).arrAt 6 cfg0.N = fun i => moment1 (V m c main_v5 i) (V m c main_v11 i)) ∧
    ((dats m 0 c).arrAt 7 cfg0.N = fun i => moment2 (V m c main_v8 i) (V m c main_v11 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference34Ideal Reference34Ideal.Gen.facts := fun m g _ =>
  quiet (by decide) (Reference34Ideal.Value.run m g) fun _ _ h => h.2.2.2.2

theorem algebraic : @algebraic_Kernel34Ideal_Reference34Ideal Kernel34Ideal.Gen.facts Reference34Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference34Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact hostD ..
  · rw [e1, e3, f6, v1, v3]
    exact host1 ..
  · rw [e2, e3, f7, v2, v3]
    exact host2 ..

end Cert.Mm34

namespace Cert.Mm35

open Kernel35Ideal Kernel35Ideal.Gen Kernel35Ideal.Value

theorem preserves : preserves_Kernel35_Kernel35Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 2 × 512 numbers, in rows. -/
def rows (x : FVec Ideal S2x512 .f32) : FVec Ideal S128x2048 .f32 :=
  shapeCast _ (pad S262144 ![0] ![261120] ![0] (shapeCast _ x Reference35Ideal.Gen.shapeCasts_S2x512_S1024) (id (constant S_ .f32 0x3F800000#32)) Reference35Ideal.Gen.pads_S1024_S262144_02611200 Reference35Ideal.Gen.h_S_) Reference35Ideal.Gen.shapeCasts_S262144_S128x2048

theorem given : V m c main_v2 = rows (m ((c : Thread nD τ).loc main_arg0)) ∧ V m c main_v5 = rows (m ((c : Thread nD τ).loc main_arg1)) ∧
    V m c main_v8 = rows (m ((c : Thread nD τ).loc main_arg2)) ∧ V m c main_v11 = rows (m ((c : Thread nD τ).loc main_arg3)) := by
  dsimp only [V, List.flatten_cons, List.flatten_nil, List.append_nil, List.cons_append, List.nil_append]
  refine ⟨?_, ?_, ?_, ?_⟩ <;> after_results <;> rfl

/-- The whole weight: in rows, every output has the blocks of the inputs. -/
theorem finals : (dats m 0 c).arrAt 4 cfg0.N = V m c main_v11 ∧
    ((dats m 0 c).arrAt 5 cfg0.N = fun i => delta (V m c main_v2 i) (V m c main_v5 i) (V m c main_v8 i) (V m c main_v11 i)) ∧
    ((dats m 0 c).arrAt 6 cfg0.N = fun i => moment1 (V m c main_v5 i) (V m c main_v11 i)) ∧
    ((dats m 0 c).arrAt 7 cfg0.N = fun i => moment2 (V m c main_v8 i) (V m c main_v11 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference35Ideal Reference35Ideal.Gen.facts := fun m g _ =>
  quiet (by decide) (Reference35Ideal.Value.run m g) fun _ _ h => h.2.2.2.2

theorem algebraic : @algebraic_Kernel35Ideal_Reference35Ideal Kernel35Ideal.Gen.facts Reference35Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference35Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact hostD ..
  · rw [e1, e3, f6, v1, v3]
    exact host1 ..
  · rw [e2, e3, f7, v2, v3]
    exact host2 ..

end Cert.Mm35

namespace Cert.Mm36

open Kernel36Ideal Kernel36Ideal.Gen Kernel36Ideal.Value

theorem preserves : preserves_Kernel36_Kernel36Ideal :=
  ⟨IdealRules.named_const.statement κ "inv_left1" .f32 _ _ rfl, IdealRules.named_const.statement κ "inv_left2" .f32 _ _ rfl⟩

variable (m : (ℓ : Loc nD τ sig) → Buf (Elt Ideal) ℓ) (c : Dev nD)

/-- A weight of 2 × 2048 × 1284 numbers, in rows. -/
def rows (x : FVec Ideal S2x2048x1284 .f32) : FVec Ideal S2688x2048 .f32 :=
  shapeCast _ (pad S5505024 ![0] ![245760] ![0] (shapeCast _ x Reference36Ideal.Gen.shapeCasts_S2x2048x1284_S5259264) (id (constant S_ .f32 0x3F800000#32)) Reference36Ideal.Gen.pads_S5259264_S5505024_02457600 Reference36Ideal.Gen.h_S_) Reference36Ideal.Gen.shapeCasts_S5505024_S2688x2048

theorem given : V m c main_v2 = rows (m ((c : Thread nD τ).loc main_arg0)) ∧ V m c main_v5 = rows (m ((c : Thread nD τ).loc main_arg1)) ∧
    V m c main_v8 = rows (m ((c : Thread nD τ).loc main_arg2)) ∧ V m c main_v11 = rows (m ((c : Thread nD τ).loc main_arg3)) := by
  dsimp only [V, List.flatten_cons, List.flatten_nil, List.append_nil, List.cons_append, List.nil_append]
  refine ⟨?_, ?_, ?_, ?_⟩ <;> after_results <;> rfl

/-- The whole weight: in rows, every output has the blocks of the inputs. -/
theorem finals : (dats m 0 c).arrAt 4 cfg0.N = V m c main_v11 ∧
    ((dats m 0 c).arrAt 5 cfg0.N = fun i => delta (V m c main_v2 i) (V m c main_v5 i) (V m c main_v8 i) (V m c main_v11 i)) ∧
    ((dats m 0 c).arrAt 6 cfg0.N = fun i => moment1 (V m c main_v5 i) (V m c main_v11 i)) ∧
    ((dats m 0 c).arrAt 7 cfg0.N = fun i => moment2 (V m c main_v8 i) (V m c main_v11 i)) := by
  refine ⟨?_, ?_, ?_, ?_⟩ <;> refine (dats m 0 c).arrAt_eq_of_covers _ _ (by decide +kernel) fun t _ y => ?_
  · exact (congrFun (after0_4 m c t) y).trans (by frame_out; exact Mm18.pay4 (iblk m c 3 t) y)
  · exact (congrFun (after0_5 m c t) y).trans (by frame_out; exact Mm18.pay5 (iblk m c 0 t) (iblk m c 1 t) (iblk m c 2 t) (iblk m c 3 t) y)
  · exact (congrFun (after0_6 m c t) y).trans (by frame_out; exact Mm18.pay6 (iblk m c 1 t) (iblk m c 3 t) y)
  · exact (congrFun (after0_7 m c t) y).trans (by frame_out; exact Mm18.pay7 (iblk m c 2 t) (iblk m c 3 t) y)

theorem frame_r : @quiescent_Reference36Ideal Reference36Ideal.Gen.facts := fun m g _ =>
  quiet (by decide) (Reference36Ideal.Value.run m g) fun _ _ h => h.2.2.2.2

theorem algebraic : @algebraic_Kernel36Ideal_Reference36Ideal Kernel36Ideal.Gen.facts Reference36Ideal.Gen.facts := by
  intro m g m' g' hpre hagree
  refine ⟨_, _, _, _, run_blocks m g, ?_⟩
  refine (θ_run _ _ _).mono (fun r h c => ⟨(h c).1.trans ?_, (h c).2.1.trans ?_, (h c).2.2.1.trans ?_, (h c).2.2.2.1.trans ?_, (h c).2.2.2.2⟩) (Reference36Ideal.Value.run m' g')
    <;> obtain ⟨e0, e1, e2, e3⟩ := hagree c <;> obtain ⟨v0, v1, v2, v3⟩ := given m c <;> obtain ⟨f4, f5, f6, f7⟩ := finals m c <;> clear h
  · rw [e3, f4, v3]
    exact rfl
  · rw [e0, e1, e2, e3, f5, v0, v1, v2, v3]
    exact hostD ..
  · rw [e1, e3, f6, v1, v3]
    exact host1 ..
  · rw [e2, e3, f7, v2, v3]
    exact host2 ..

end Cert.Mm36

end
-- ==== Proof.lean ====
/- The proof of all the claims, put together from the modules of the single calls. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.RefRun
public import proofs.«01_k».proof.Proof.Final
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Mm17
public import proofs.«01_k».proof.Proof.Mm18
public import proofs.«01_k».proof.Proof.Mm21
public import proofs.«01_k».proof.Proof.Mm22
public import proofs.«01_k».proof.Proof.Mm23
public import proofs.«01_k».proof.Proof.Mm24
public import proofs.«01_k».proof.Proof.Mm25
public import proofs.«01_k».proof.Proof.Mm26
public import proofs.«01_k».proof.Proof.Mm27
public import proofs.«01_k».proof.Proof.Mm37
public import proofs.«01_k».proof.Proof.Mm38
public import proofs.«01_k».proof.Proof.Mm39
public import proofs.«01_k».proof.Proof.Mm40
public import proofs.«01_k».proof.Proof.Mm41
public import proofs.«01_k».proof.Proof.Mm42
public import proofs.«01_k».proof.Proof.Mm43
public import proofs.«01_k».proof.Proof.Mm44
public import proofs.«01_k».proof.Proof.Mm45
public import proofs.«01_k».proof.Proof.Mm46
public import proofs.«01_k».proof.Proof.Mm47
public import proofs.«01_k».proof.Proof.Mm48
public import proofs.«01_k».proof.Proof.Mm49
public import proofs.«01_k».proof.Proof.Mm50
public import proofs.«01_k».proof.Proof.Mm51
public import proofs.«01_k».proof.Proof.Steps
public import Idealize.ShloMosaic.Adequacy
public import Idealize.ShloMosaic.Init

@[expose] public section

noncomputable section

namespace Cert.Proof

open Idealize.ShloMosaic Idealize.SL.Sem

/-- The states of the reference's loop, on one device. -/
def states (m : (ℓ : Loc ReferenceIdeal.nD ReferenceIdeal.τ ReferenceIdeal.sig) → Buf (Elt Ideal) ℓ) (c : Dev ReferenceIdeal.nD) :
    ℕ → ReferenceIdeal.Step.State Ideal
  | 0 => ReferenceIdeal.StepRun.initState m c
  | n + 1 => ReferenceIdeal.Step.step n (states m c n)

/-- The reference runs, leaves its arguments as they were and no semaphore counter raised. -/
theorem frame_r : @quiescent_ReferenceIdeal ReferenceIdeal.Gen.facts := fun m g _ =>
  (θ_run ReferenceIdeal.defs _ _).mono
    (fun r h => ⟨fun c => (h c).2.2.2, sem_eq_zero_of_no_sems (by decide) r.2⟩)
    (ReferenceIdeal.Value.run (F := Ideal) m g)

/-- From the same finite arguments the kernel and the reference end with the same three arrays. -/
theorem algebraic : @algebraic_KernelIdeal_ReferenceIdeal_pre_finite KernelIdeal.Gen.facts ReferenceIdeal.Gen.facts Delta.preFacts := by
  intro m g m' g' hpre hagree
  refine ⟨fun c => (KernelIdeal.Gen.dats m 0 c).arrAt 7 KernelIdeal.cfg0.N, fun c => (KernelIdeal.Gen.dats m 0 c).arrAt 8 KernelIdeal.cfg0.N,
    fun c => (KernelIdeal.Gen.dats m 0 c).arrAt 9 KernelIdeal.cfg0.N, KernelIdeal.Value.run_blocks m g, ?_⟩
  refine (θ_run ReferenceIdeal.defs _ _).mono (fun r h c => ?_)
    (ReferenceIdeal.StepRun.run_iter (F := Ideal) m' g' (states m') (fun _ => rfl) (fun _ _ => rfl))
  obtain ⟨a, hk⟩ := Delta.args_of_finite (hpre c)
  obtain ⟨e0, e1, e2, e3, e4, e5⟩ := hagree c
  have ha := hk
  rw [← e0, ← e1, ← e2, ← e3, ← e4, ← e5] at ha
  have hS := Delta.loop_ends ha (states m' c) rfl (fun _ => rfl)
  exact ⟨(h c).1.trans (Delta.eq_qk hk ha hS), (h c).2.1.trans (Delta.eq_v hk ha hS), (h c).2.2.1.trans (Delta.eq_g hk ha hS), (h c).2.2.2⟩

/-- Everything the certificate claims. -/
theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Kernel29.Gen.facts, Kernel29Ideal.Gen.facts, Reference29Ideal.Gen.facts,
    Kernel30.Gen.facts, Kernel30Ideal.Gen.facts, Reference30Ideal.Gen.facts,
    Kernel31.Gen.facts, Kernel31Ideal.Gen.facts, Reference31Ideal.Gen.facts,
    Kernel32.Gen.facts, Kernel32Ideal.Gen.facts, Reference32Ideal.Gen.facts,
    Kernel33.Gen.facts, Kernel33Ideal.Gen.facts, Reference33Ideal.Gen.facts,
    Kernel34.Gen.facts, Kernel34Ideal.Gen.facts, Reference34Ideal.Gen.facts,
    Kernel35.Gen.facts, Kernel35Ideal.Gen.facts, Reference35Ideal.Gen.facts,
    Kernel36.Gen.facts, Kernel36Ideal.Gen.facts, Reference36Ideal.Gen.facts,
    Kernel37.Gen.facts, Kernel37Ideal.Gen.facts, Reference37Ideal.Gen.facts,
    Kernel38.Gen.facts, Kernel38Ideal.Gen.facts, Reference38Ideal.Gen.facts,
    Kernel39.Gen.facts, Kernel39Ideal.Gen.facts, Reference39Ideal.Gen.facts,
    Kernel40.Gen.facts, Kernel40Ideal.Gen.facts, Reference40Ideal.Gen.facts,
    Kernel41.Gen.facts, Kernel41Ideal.Gen.facts, Reference41Ideal.Gen.facts,
    Kernel42.Gen.facts, Kernel42Ideal.Gen.facts, Reference42Ideal.Gen.facts,
    Kernel43.Gen.facts, Kernel43Ideal.Gen.facts, Reference43Ideal.Gen.facts,
    Kernel44.Gen.facts, Kernel44Ideal.Gen.facts, Reference44Ideal.Gen.facts,
    Kernel45.Gen.facts, Kernel45Ideal.Gen.facts, Reference45Ideal.Gen.facts,
    Kernel46.Gen.facts, Kernel46Ideal.Gen.facts, Reference46Ideal.Gen.facts,
    Kernel47.Gen.facts, Kernel47Ideal.Gen.facts, Reference47Ideal.Gen.facts,
    Kernel48.Gen.facts, Kernel48Ideal.Gen.facts, Reference48Ideal.Gen.facts,
    Kernel49.Gen.facts, Kernel49Ideal.Gen.facts, Reference49Ideal.Gen.facts,
    Kernel50.Gen.facts, Kernel50Ideal.Gen.facts, Reference50Ideal.Gen.facts,
    Kernel51.Gen.facts, Kernel51Ideal.Gen.facts, Reference51Ideal.Gen.facts,
    Delta.preFacts,
    fun m g _ => Kernel.Gen.frame m g, fun m g _ => KernelIdeal.Gen.frame m g, fun m g _ => KernelIdeal.Gen.frame m g,
    frame_r, fun m g _ => frame_r m g trivial,
    fun m g _ => Kernel2.Gen.frame m g, fun m g _ => Kernel2Ideal.Gen.frame m g, Mm2.frame_r,
    fun m g _ => Kernel3.Gen.frame m g, fun m g _ => Kernel3Ideal.Gen.frame m g, Mm3.frame_r,
    fun m g _ => Kernel4.Gen.frame m g, fun m g _ => Kernel4Ideal.Gen.frame m g, Mm4.frame_r,
    fun m g _ => Kernel5.Gen.frame m g, fun m g _ => Kernel5Ideal.Gen.frame m g, Mm5.frame_r,
    fun m g _ => Kernel6.Gen.frame m g, fun m g _ => Kernel6Ideal.Gen.frame m g, Mm6.frame_r,
    fun m g _ => Kernel7.Gen.frame m g, fun m g _ => Kernel7Ideal.Gen.frame m g, Mm7.frame_r,
    fun m g _ => Kernel8.Gen.frame m g, fun m g _ => Kernel8Ideal.Gen.frame m g, Mm8.frame_r,
    fun m g _ => Kernel9.Gen.frame m g, fun m g _ => Kernel9Ideal.Gen.frame m g, Mm9.frame_r,
    fun m g _ => Kernel10.Gen.frame m g, fun m g _ => Kernel10Ideal.Gen.frame m g, Mm10.frame_r,
    fun m g _ => Kernel11.Gen.frame m g, fun m g _ => Kernel11Ideal.Gen.frame m g, Mm11.frame_r,
    fun m g _ => Kernel12.Gen.frame m g, fun m g _ => Kernel12Ideal.Gen.frame m g, Mm12.frame_r,
    fun m g _ => Kernel13.Gen.frame m g, fun m g _ => Kernel13Ideal.Gen.frame m g, Mm13.frame_r,
    fun m g _ => Kernel14.Gen.frame m g, fun m g _ => Kernel14Ideal.Gen.frame m g, Mm14.frame_r,
    fun m g _ => Kernel15.Gen.frame m g, fun m g _ => Kernel15Ideal.Gen.frame m g, Mm15.frame_r,
    fun m g _ => Kernel16.Gen.frame m g, fun m g _ => Kernel16Ideal.Gen.frame m g, Mm16.frame_r,
    fun m g _ => Kernel17.Gen.frame m g, fun m g _ => Kernel17Ideal.Gen.frame m g, Mm17.frame_r,
    fun m g _ => Kernel18.Gen.frame m g, fun m g _ => Kernel18Ideal.Gen.frame m g, Mm18.frame_r,
    fun m g _ => Kernel19.Gen.frame m g, fun m g _ => Kernel19Ideal.Gen.frame m g, Mm19.frame_r,
    fun m g _ => Kernel20.Gen.frame m g, fun m g _ => Kernel20Ideal.Gen.frame m g, Mm20.frame_r,
    fun m g _ => Kernel21.Gen.frame m g, fun m g _ => Kernel21Ideal.Gen.frame m g, Mm21.frame_r,
    fun m g _ => Kernel22.Gen.frame m g, fun m g _ => Kernel22Ideal.Gen.frame m g, Mm22.frame_r,
    fun m g _ => Kernel23.Gen.frame m g, fun m g _ => Kernel23Ideal.Gen.frame m g, Mm23.frame_r,
    fun m g _ => Kernel24.Gen.frame m g, fun m g _ => Kernel24Ideal.Gen.frame m g, Mm24.frame_r,
    fun m g _ => Kernel25.Gen.frame m g, fun m g _ => Kernel25Ideal.Gen.frame m g, Mm25.frame_r,
    fun m g _ => Kernel26.Gen.frame m g, fun m g _ => Kernel26Ideal.Gen.frame m g, Mm26.frame_r,
    fun m g _ => Kernel27.Gen.frame m g, fun m g _ => Kernel27Ideal.Gen.frame m g, Mm27.frame_r,
    fun m g _ => Kernel28.Gen.frame m g, fun m g _ => Kernel28Ideal.Gen.frame m g, Mm28.frame_r,
    fun m g _ => Kernel29.Gen.frame m g, fun m g _ => Kernel29Ideal.Gen.frame m g, Mm29.frame_r,
    fun m g _ => Kernel30.Gen.frame m g, fun m g _ => Kernel30Ideal.Gen.frame m g, Mm30.frame_r,
    fun m g _ => Kernel31.Gen.frame m g, fun m g _ => Kernel31Ideal.Gen.frame m g, Mm31.frame_r,
    fun m g _ => Kernel32.Gen.frame m g, fun m g _ => Kernel32Ideal.Gen.frame m g, Mm32.frame_r,
    fun m g _ => Kernel33.Gen.frame m g, fun m g _ => Kernel33Ideal.Gen.frame m g, Mm33.frame_r,
    fun m g _ => Kernel34.Gen.frame m g, fun m g _ => Kernel34Ideal.Gen.frame m g, Mm34.frame_r,
    fun m g _ => Kernel35.Gen.frame m g, fun m g _ => Kernel35Ideal.Gen.frame m g, Mm35.frame_r,
    fun m g _ => Kernel36.Gen.frame m g, fun m g _ => Kernel36Ideal.Gen.frame m g, Mm36.frame_r,
    fun m g _ => Kernel37.Gen.frame m g, fun m g _ => Kernel37Ideal.Gen.frame m g, Mm37.frame_r,
    fun m g _ => Kernel38.Gen.frame m g, fun m g _ => Kernel38Ideal.Gen.frame m g, Mm38.frame_r,
    fun m g _ => Kernel39.Gen.frame m g, fun m g _ => Kernel39Ideal.Gen.frame m g, Mm39.frame_r,
    fun m g _ => Kernel40.Gen.frame m g, fun m g _ => Kernel40Ideal.Gen.frame m g, Mm40.frame_r,
    fun m g _ => Kernel41.Gen.frame m g, fun m g _ => Kernel41Ideal.Gen.frame m g, Mm41.frame_r,
    fun m g _ => Kernel42.Gen.frame m g, fun m g _ => Kernel42Ideal.Gen.frame m g, Mm42.frame_r,
    fun m g _ => Kernel43.Gen.frame m g, fun m g _ => Kernel43Ideal.Gen.frame m g, Mm43.frame_r,
    fun m g _ => Kernel44.Gen.frame m g, fun m g _ => Kernel44Ideal.Gen.frame m g, Mm44.frame_r,
    fun m g _ => Kernel45.Gen.frame m g, fun m g _ => Kernel45Ideal.Gen.frame m g, Mm45.frame_r,
    fun m g _ => Kernel46.Gen.frame m g, fun m g _ => Kernel46Ideal.Gen.frame m g, Mm46.frame_r,
    fun m g _ => Kernel47.Gen.frame m g, fun m g _ => Kernel47Ideal.Gen.frame m g, Mm47.frame_r,
    fun m g _ => Kernel48.Gen.frame m g, fun m g _ => Kernel48Ideal.Gen.frame m g, Mm48.frame_r,
    fun m g _ => Kernel49.Gen.frame m g, fun m g _ => Kernel49Ideal.Gen.frame m g, Mm49.frame_r,
    fun m g _ => Kernel50.Gen.frame m g, fun m g _ => Kernel50Ideal.Gen.frame m g, Mm50.frame_r,
    fun m g _ => Kernel51.Gen.frame m g, fun m g _ => Kernel51Ideal.Gen.frame m g, Mm51.frame_r,
    trivial, algebraic,
    trivial, Mm2.algebraic,
    trivial, Mm3.algebraic,
    trivial, Mm4.algebraic,
    trivial, Mm5.algebraic,
    trivial, Mm6.algebraic,
    trivial, Mm7.algebraic,
    trivial, Mm8.algebraic,
    trivial, Mm9.algebraic,
    trivial, Mm10.algebraic,
    trivial, Mm11.algebraic,
    trivial, Mm12.algebraic,
    trivial, Mm13.algebraic,
    trivial, Mm14.algebraic,
    trivial, Mm15.algebraic,
    trivial, Mm16.algebraic,
    trivial, Mm17.algebraic,
    Mm18.preserves, Mm18.algebraic,
    Mm19.preserves, Mm19.algebraic,
    Mm20.preserves, Mm20.algebraic,
    trivial, Mm21.algebraic,
    trivial, Mm22.algebraic,
    trivial, Mm23.algebraic,
    trivial, Mm24.algebraic,
    trivial, Mm25.algebraic,
    trivial, Mm26.algebraic,
    trivial, Mm27.algebraic,
    Mm28.preserves, Mm28.algebraic,
    Mm29.preserves, Mm29.algebraic,
    Mm30.preserves, Mm30.algebraic,
    Mm31.preserves, Mm31.algebraic,
    Mm32.preserves, Mm32.algebraic,
    Mm33.preserves, Mm33.algebraic,
    Mm34.preserves, Mm34.algebraic,
    Mm35.preserves, Mm35.algebraic,
    Mm36.preserves, Mm36.algebraic,
    trivial, Mm37.algebraic,
    trivial, Mm38.algebraic,
    trivial, Mm39.algebraic,
    trivial, Mm40.algebraic,
    trivial, Mm41.algebraic,
    trivial, Mm42.algebraic,
    trivial, Mm43.algebraic,
    trivial, Mm44.algebraic,
    trivial, Mm45.algebraic,
    trivial, Mm46.algebraic,
    trivial, Mm47.algebraic,
    trivial, Mm48.algebraic,
    trivial, Mm49.algebraic,
    trivial, Mm50.algebraic,
    trivial, Mm51.algebraic⟩

end Cert.Proof

end
